-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_keys_and_gain [hPre_finite_keys_and_gain : Cert.Pre_finite_keys_and_gain.Facts] (m : (ℓ : Loc Cert.KernelIdeal.nD Cert.KernelIdeal.τ Cert.KernelIdeal.sig) → Buf (Elt Ideal) ℓ) : Prop :=
  ∀ c : Dev Cert.KernelIdeal.nD,
    (Cert.Pre_finite_keys_and_gain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_keys_and_gain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_keys_and_gain [hPre_finite_keys_and_gain : Cert.Pre_finite_keys_and_gain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_keys_and_gain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_keys_and_gain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_keys_and_gain [hKernelIdeal : Cert.KernelIdeal.Facts] [hPre_finite_keys_and_gain : Cert.Pre_finite_keys_and_gain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_keys_and_gain m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_keys_and_gain [hReferenceIdeal : Cert.ReferenceIdeal.Facts] [hPre_finite_keys_and_gain : Cert.Pre_finite_keys_and_gain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_keys_and_gain m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  True

def algebraic_KernelIdeal_ReferenceIdeal_pre_finite_keys_and_gain [hKernelIdeal : Cert.KernelIdeal.Facts] [hReferenceIdeal : Cert.ReferenceIdeal.Facts] [hPre_finite_keys_and_gain : Cert.Pre_finite_keys_and_gain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_keys_and_gain m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v19)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v19) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v77) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v148) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v99) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v42) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v41_0)) (v1 : (c : Dev Cert.Kernel6Ideal.nD) → Buf (Elt Ideal) ((c.tc : Thread Cert.Kernel6Ideal.nD Cert.Kernel6Ideal.τ).loc Cert.Kernel6Ideal.main_v41_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v41_0) = v0 c
          ∧ r.2.mem ((c.tc : Thread Cert.Kernel6Ideal.nD Cert.Kernel6Ideal.τ).loc Cert.Kernel6Ideal.main_v41_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v96) = v0 c
          ∧ r.2.mem ((c.tc : Thread Cert.Reference6Ideal.nD Cert.Reference6Ideal.τ).loc Cert.Reference6Ideal.main_v97) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v9)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v9) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v58) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_keys_and_gain : Cert.Pre_finite_keys_and_gain.Facts),
    quiescent_Kernel (hKernel := hKernel)
    ∧ quiescent_KernelIdeal (hKernelIdeal := hKernelIdeal)
    ∧ quiescent_KernelIdeal_pre_finite_keys_and_gain (hKernelIdeal := hKernelIdeal) (hPre_finite_keys_and_gain := hPre_finite_keys_and_gain)
    ∧ quiescent_ReferenceIdeal (hReferenceIdeal := hReferenceIdeal)
    ∧ quiescent_ReferenceIdeal_pre_finite_keys_and_gain (hReferenceIdeal := hReferenceIdeal) (hPre_finite_keys_and_gain := hPre_finite_keys_and_gain)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite_keys_and_gain (hKernelIdeal := hKernelIdeal) (hReferenceIdeal := hReferenceIdeal) (hPre_finite_keys_and_gain := hPre_finite_keys_and_gain)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite_keys_and_gain.lean ====
abbrev S2x8448x9984 : Shape := ⟨3, ![2, 8448, 9984]⟩
abbrev S2x2x8448x128 : Shape := ⟨4, ![2, 2, 8448, 128]⟩
abbrev S128 : Shape := ⟨1, ![128]⟩
abbrev S_ : Shape := ⟨0, ![]⟩

class Facts : Prop where
  bitsLt_bf16_f32 : FTy.bits .bf16 < FTy.bits .f32
  bcast_S_S2x2x8448x128 : S_.BroadcastsInDim S2x2x8448x128 (![] : Fin 0 → Fin S2x2x8448x128.rank)
  bcast_S_S128 : S_.BroadcastsInDim S128 (![] : Fin 0 → Fin S128.rank)

variable [Facts]

def fn {F : FTy → Type} [FloatOps F] (main_arg0 : FVec F S2x8448x9984 .bf16) (main_arg1 : FVec F S2x2x8448x128 .bf16) (main_arg2 : FVec F S2x2x8448x128 .bf16) (main_arg3 : FVec F S128 .f32) : IVec S2x2x8448x128 1 × IVec S128 1 :=
  let main_v0 : FVec F S2x2x8448x128 .f32 := (extf .f32 · bitsLt_bf16_f32) main_arg1
  let main_v1 : FVec F S2x2x8448x128 .f32 := Host.absf main_v0
  let main_cst : FVec F S_ .f32 := constant S_ .f32 0x7F800000#32
  let main_v2 : FVec F S2x2x8448x128 .f32 := broadcastInDim S2x2x8448x128 ![] bcast_S_S2x2x8448x128 main_cst
  let main_v3 : IVec S2x2x8448x128 1 := cmpf .olt main_v1 main_v2
  let main_v4 : FVec F S128 .f32 := Host.absf main_arg3
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  (main_v3, main_v6)
-- ==== Kernel.lean ====
abbrev S2x8448x9984 : Shape := ⟨3, ![2, 8448, 9984]⟩
abbrev S2x2x8448x128 : Shape := ⟨4, ![2, 2, 8448, 128]⟩
abbrev S128 : Shape := ⟨1, ![128]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x128 : Shape := ⟨2, ![8192, 128]⟩
abbrev S256x128 : Shape := ⟨2, ![256, 128]⟩
abbrev S8448x128 : Shape := ⟨2, ![8448, 128]⟩
abbrev S1x128 : Shape := ⟨2, ![1, 128]⟩
abbrev S2x8448x1024 : Shape := ⟨3, ![2, 8448, 1024]⟩
abbrev S1x256x512 : Shape := ⟨3, ![1, 256, 512]⟩
abbrev S1x1x8448x128 : Shape := ⟨4, ![1, 1, 8448, 128]⟩
abbrev S1024x128 : Shape := ⟨2, ![1024, 128]⟩
abbrev S256x512 : Shape := ⟨2, ![256, 512]⟩
abbrev S256 : Shape := ⟨1, ![256]⟩
abbrev S256x1 : Shape := ⟨2, ![256, 1]⟩
abbrev S1x1x256x128 : Shape := ⟨4, ![1, 1, 256, 128]⟩
abbrev S1024x256 : Shape := ⟨2, ![1024, 256]⟩
abbrev S1024 : Shape := ⟨1, ![1024]⟩
abbrev S1024x1 : Shape := ⟨2, ![1024, 1]⟩
abbrev S1x256x128 : Shape := ⟨3, ![1, 256, 128]⟩
abbrev S1x1x768x128 : Shape := ⟨4, ![1, 1, 768, 128]⟩
abbrev S768x128 : Shape := ⟨2, ![768, 128]⟩
abbrev S1024x768 : Shape := ⟨2, ![1024, 768]⟩

abbrev nBuf : Space → Nat
  | .hbm => 91
  | .vmem => 16
  | .smem => 0
  | _ => 0

abbrev bufTy : (tb : Table) → Fin (tcTables nBuf tb) → BufTy
  | .hbm, ⟨0, _⟩ => ⟨S2x8448x9984, .bf16⟩
  | .hbm, ⟨1, _⟩ => ⟨S2x2x8448x128, .bf16⟩
  | .hbm, ⟨2, _⟩ => ⟨S2x2x8448x128, .bf16⟩
  | .hbm, ⟨3, _⟩ => ⟨S128, .f32⟩
  | .hbm, ⟨4, _⟩ => ⟨S8192, .i32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .i32⟩
  | .hbm, ⟨22, _⟩ => ⟨S_, .i32⟩
  | .hbm, ⟨23, _⟩ => ⟨S8192, .i32⟩
  | .hbm, ⟨24, _⟩ => ⟨S8192, .i32⟩
  | .hbm, ⟨25, _⟩ => ⟨S8192, .i32⟩
  | .hbm, ⟨26, _⟩ => ⟨S_, .i32⟩
  | .hbm, ⟨27, _⟩ => ⟨S8192, .i32⟩
  | .hbm, ⟨28, _⟩ => ⟨S8192, .i1⟩
  | .hbm, ⟨29, _⟩ => ⟨S8192, .i32⟩
  | .hbm, ⟨30, _⟩ => ⟨S8192, .i32⟩
  | .hbm, ⟨31, _⟩ => ⟨S_, .i32⟩
  | .hbm, ⟨32, _⟩ => ⟨S8192, .i32⟩
  | .hbm, ⟨33, _⟩ => ⟨S8192, .i1⟩
  | .hbm, ⟨34, _⟩ => ⟨S8192, .i1⟩
  | .hbm, ⟨35, _⟩ => ⟨S_, .i32⟩
  | .hbm, ⟨36, _⟩ => ⟨S8192, .i32⟩
  | .hbm, ⟨37, _⟩ => ⟨S8192, .i32⟩
  | .hbm, ⟨38, _⟩ => ⟨S8192, .i32⟩
  | .hbm, ⟨39, _⟩ => ⟨S8192, .f32⟩
  | .hbm, ⟨40, _⟩ => ⟨S8192x1, .f32⟩
  | .hbm, ⟨41, _⟩ => ⟨S1x32, .f32⟩
  | .hbm, ⟨42, _⟩ => ⟨S8192x32, .f32⟩
  | .hbm, ⟨43, _⟩ => ⟨S8192x32, .f32⟩
  | .hbm, ⟨44, _⟩ => ⟨S8192x32, .f32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i1⟩
  | .hbm, ⟨49, _⟩ => ⟨S_, .i32⟩
  | .hbm, ⟨50, _⟩ => ⟨S_, .i32⟩
  | .hbm, ⟨51, _⟩ => ⟨S8192, .i32⟩
  | .hbm, ⟨52, _⟩ => ⟨S8192, .i32⟩
  | .hbm, ⟨53, _⟩ => ⟨S_, .i32⟩
  | .hbm, ⟨54, _⟩ => ⟨S8192, .i32⟩
  | .hbm, ⟨55, _⟩ => ⟨S8192, .i1⟩
  | .hbm, ⟨56, _⟩ => ⟨S_, .i32⟩
  | .hbm, ⟨57, _⟩ => ⟨S8192, .i32⟩
  | .hbm, ⟨58, _⟩ => ⟨S8192, .i1⟩
  | .hbm, ⟨59, _⟩ => ⟨S_, .i32⟩
  | .hbm, ⟨60, _⟩ => ⟨S_, .i1⟩
  | .hbm, ⟨61, _⟩ => ⟨S8192, .i1⟩
  | .hbm, ⟨62, _⟩ => ⟨S8192, .i1⟩
  | .hbm, ⟨63, _⟩ => ⟨S8192, .i1⟩
  | .hbm, ⟨64, _⟩ => ⟨S8192, .i32⟩
  | .hbm, ⟨65, _⟩ => ⟨S8192, .i32⟩
  | .hbm, ⟨66, _⟩ => ⟨S8192, .i32⟩
  | .hbm, ⟨67, _⟩ => ⟨S8192, .f32⟩
  | .hbm, ⟨68, _⟩ => ⟨S8192x1, .f32⟩
  | .hbm, ⟨69, _⟩ => ⟨S1x32, .f32⟩
  | .hbm, ⟨70, _⟩ => ⟨S8192x32, .f32⟩
  | .hbm, ⟨71, _⟩ => ⟨S8192x32, .f32⟩
  | .hbm, ⟨72, _⟩ => ⟨S8192x32, .f32⟩
  | .hbm, ⟨73, _⟩ => ⟨S8192x32, .f32⟩
  | .hbm, ⟨74, _⟩ => ⟨S8192x32, .f32⟩
  | .hbm, ⟨75, _⟩ => ⟨S8192x128, .f32⟩
  | .hbm, ⟨76, _⟩ => ⟨S8192x32, .f32⟩
  | .hbm, ⟨77, _⟩ => ⟨S8192x32, .f32⟩
  | .hbm, ⟨78, _⟩ => ⟨S8192x32, .f32⟩
  | .hbm, ⟨79, _⟩ => ⟨S8192x32, .f32⟩
  | .hbm, ⟨80, _⟩ => ⟨S8192x32, .f32⟩
  | .hbm, ⟨81, _⟩ => ⟨S8192x32, .f32⟩
  | .hbm, ⟨82, _⟩ => ⟨S8192x128, .f32⟩
  | .hbm, ⟨83, _⟩ => ⟨S_, .f32⟩
  | .hbm, ⟨84, _⟩ => ⟨S256x128, .f32⟩
  | .hbm, ⟨85, _⟩ => ⟨S8448x128, .f32⟩
  | .hbm, ⟨86, _⟩ => ⟨S_, .f32⟩
  | .hbm, ⟨87, _⟩ => ⟨S256x128, .f32⟩
  | .hbm, ⟨88, _⟩ => ⟨S8448x128, .f32⟩
  | .hbm, ⟨89, _⟩ => ⟨S1x128, .f32⟩
  | .hbm, ⟨90, _⟩ => ⟨S2x8448x1024, .bf16⟩
  | .local _ .vmem, ⟨0, _⟩ => ⟨S1x256x512, .bf16⟩
  | .local _ .vmem, ⟨1, _⟩ => ⟨S1x256x512, .bf16⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x128, .f32⟩
  | .local _ .vmem, ⟨7, _⟩ => ⟨S1x1x8448x128, .bf16⟩
  | .local _ .vmem, ⟨8, _⟩ => ⟨S1x1x8448x128, .bf16⟩
  | .local _ .vmem, ⟨9, _⟩ => ⟨S1x1x8448x128, .bf16⟩
  | .local _ .vmem, ⟨10, _⟩ => ⟨S1x1x8448x128, .bf16⟩
  | .local _ .vmem, ⟨11, _⟩ => ⟨S1x256x512, .bf16⟩
  | .local _ .vmem, ⟨12, _⟩ => ⟨S1x256x512, .bf16⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | _, _ => ⟨S2x8448x9984, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_c : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_0 : Ref sig .tc := ⟨.hbm, 35, rfl⟩
abbrev main_call0_v12 : Ref sig .tc := ⟨.hbm, 36, rfl⟩
abbrev main_call0_v13 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_c_4 : Ref sig .tc := ⟨.hbm, 45, rfl⟩
abbrev main_call1_v0 : Ref sig .tc := ⟨.hbm, 46, rfl⟩
abbrev main_call1_c : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_c_1 : Ref sig .tc := ⟨.hbm, 53, rfl⟩
abbrev main_call1_v5 : Ref sig .tc := ⟨.hbm, 54, rfl⟩
abbrev main_call1_v6 : Ref sig .tc := ⟨.hbm, 55, rfl⟩
abbrev main_call1_c_2 : Ref sig .tc := ⟨.hbm, 56, rfl⟩
abbrev main_call1_v7 : Ref sig .tc := ⟨.hbm, 57, rfl⟩
abbrev main_call1_v8 : Ref sig .tc := ⟨.hbm, 58, rfl⟩
abbrev main_call1_c_3 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_cst_5 : Ref sig .tc := ⟨.hbm, 83, rfl⟩
abbrev main_v36 : Ref sig .tc := ⟨.hbm, 84, rfl⟩
abbrev main_v37 : Ref sig .tc := ⟨.hbm, 85, rfl⟩
abbrev main_cst_6 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![2, 2, 33], ![false, false, false]⟩

def k0_cond2 (i : grid0.Coords) : BitVec 1 :=
  let arg2 : BitVec 32 := BitVec.ofNat 32 (i 2).val
  let c0_i32 : BitVec 32 := 0#32
  let v0 : BitVec 32 := Scalar.addi arg2 c0_i32
  let c0_i32_56 : BitVec 32 := 0#32
  let v140 : BitVec 1 := Scalar.cmpi .ne v0 c0_i32_56
  let v141 : BitVec 32 := Scalar.extui v140
  let c0_i32_57 : BitVec 32 := 0#32
  let v142 : BitVec 1 := Scalar.cmpi .ne v141 c0_i32_57
  v142

@[reducible] def k0_t1_loop : Scf.Loop 32 :=
  let c0_i32_67 : BitVec 32 := 0#32
  let c11_i32 : BitVec 32 := 11#32
  let v155 : BitVec 32 := Scalar.addi c0_i32_67 c11_i32
  let c1_i32 : BitVec 32 := 1#32
  ⟨c0_i32_67, v155, c1_i32⟩
def k0_mult1 (k0_t1 : Fin k0_t1_loop.trips) : BitVec 32 :=
  let c0_i32_67 : BitVec 32 := 0#32
  let c1_i32 : BitVec 32 := 1#32
  let arg13 : BitVec 32 := Scf.iv c0_i32_67 c1_i32 k0_t1
  let c768_i32 : BitVec 32 := 768#32
  let v179 : BitVec 32 := Scalar.muli arg13 c768_i32
  v179
def k0_off1 (k0_t1 : Fin k0_t1_loop.trips) : Fin 4 → Nat :=
  let c0_82 : Index := 0#32
  let c0_83 : Index := 0#32
  let c0_i32_67 : BitVec 32 := 0#32
  let c1_i32 : BitVec 32 := 1#32
  let arg13 : BitVec 32 := Scf.iv c0_i32_67 c1_i32 k0_t1
  let c768_i32 : BitVec 32 := 768#32
  let v179 : BitVec 32 := Scalar.muli arg13 c768_i32
  let v180 : BitVec 32 := v179
  let v181 : Index := Scalar.indexCast v180
  let c0_84 : Index := 0#32
  ![0, 0, v181.toNat, 0]
def k0_cond1 (i : grid0.Coords) : BitVec 1 :=
  let arg2 : BitVec 32 := BitVec.ofNat 32 (i 2).val
  let c0_i32 : BitVec 32 := 0#32
  let v0 : BitVec 32 := Scalar.addi arg2 c0_i32
  let c0_i32_54 : BitVec 32 := 0#32
  let v137 : BitVec 1 := Scalar.cmpi .eq v0 c0_i32_54
  let v138 : BitVec 32 := Scalar.extui v137
  let c0_i32_55 : BitVec 32 := 0#32
  let v139 : BitVec 1 := Scalar.cmpi .ne v138 c0_i32_55
  v139

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c12_i32 : BitVec 32 := 12#32
  let v1 : BitVec 32 := Scalar.addi c12_i32 arg1
  let c0_i32_0 : BitVec 32 := 0#32
  ![arg0.toNat, v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x1x8448x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x8448x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceIdeal.lean ====
abbrev S2x8448x9984 : Shape := ⟨3, ![2, 8448, 9984]⟩
abbrev S2x2x8448x128 : Shape := ⟨4, ![2, 2, 8448, 128]⟩
abbrev S128 : Shape := ⟨1, ![128]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S32 : Shape := ⟨1, ![32]⟩
abbrev S_ : Shape := ⟨0, ![]⟩
abbrev S8192x1 : Shape := ⟨2, ![8192, 1]⟩
abbrev S8192x2 : Shape := ⟨2, ![8192, 2]⟩
abbrev S8192x2x1 : Shape := ⟨3, ![8192, 2, 1]⟩
abbrev S1x1x32 : Shape := ⟨3, ![1, 1, 32]⟩
abbrev S8192x2x32 : Shape := ⟨3, ![8192, 2, 32]⟩
abbrev S2x8448x1024 : Shape := ⟨3, ![2, 8448, 1024]⟩
abbrev S2x8448x8x128 : Shape := ⟨4, ![2, 8448, 8, 128]⟩
abbrev S2x8x8448x128 : Shape := ⟨4, ![2, 8, 8448, 128]⟩
abbrev S2x8x8448 : Shape := ⟨3, ![2, 8, 8448]⟩
abbrev S2x8x8448x1 : Shape := ⟨4, ![2, 8, 8448, 1]⟩
abbrev S1x1x1x128 : Shape := ⟨4, ![1, 1, 1, 128]⟩
abbrev S2x8x256x128 : Shape := ⟨4, ![2, 8, 256, 128]⟩
abbrev S2x8x8192x128 : Shape := ⟨4, ![2, 8, 8192, 128]⟩
abbrev S2x8x8192x2x2x32 : Shape := ⟨6, ![2, 8, 8192, 2, 2, 32]⟩
abbrev S2x8x8192x2x1x32 : Shape := ⟨6, ![2, 8, 8192, 2, 1, 32]⟩
abbrev S2x8x8192x2x32 : Shape := ⟨5, ![2, 8, 8192, 2, 32]⟩
abbrev S1x1x8192x2x32 : Shape := ⟨5, ![1, 1, 8192, 2, 32]⟩
abbrev S2x2x4x8192x128 : Shape := ⟨5, ![2, 2, 4, 8192, 128]⟩
abbrev S2x2x4x8192x8448 : Shape := ⟨5, ![2, 2, 4, 8192, 8448]⟩
abbrev S2x2x4x8192 : Shape := ⟨4, ![2, 2, 4, 8192]⟩
abbrev S2x2x4x8192x1 : Shape := ⟨5, ![2, 2, 4, 8192, 1]⟩
abbrev S2x2x4x256x128 : Shape := ⟨5, ![2, 2, 4, 256, 128]⟩
abbrev S2x2x256x128 : Shape := ⟨4, ![2, 2, 256, 128]⟩
abbrev S2x2x4x256x256 : Shape := ⟨5, ![2, 2, 4, 256, 256]⟩
abbrev S2x2x4x256 : Shape := ⟨4, ![2, 2, 4, 256]⟩
abbrev S2x2x4x256x1 : Shape := ⟨5, ![2, 2, 4, 256, 1]⟩
abbrev S2x8192x8x128 : Shape := ⟨4, ![2, 8192, 8, 128]⟩
abbrev S2x8192x1024 : Shape := ⟨3, ![2, 8192, 1024]⟩
abbrev S2x256x8x128 : Shape := ⟨4, ![2, 256, 8, 128]⟩
abbrev S2x256x1024 : Shape := ⟨3, ![2, 256, 1024]⟩

abbrev nBuf : Space → Nat
  | .hbm => 135
  | .vmem => 0
  | .smem => 0
  | _ => 0

abbrev hbmTy0_0 (i : Nat) : BufTy := match i % 128 with
  | 0 => ⟨S2x8448x9984, .bf16⟩
  | 1 => ⟨S2x2x8448x128, .bf16⟩
  | 2 => ⟨S2x2x8448x128, .bf16⟩
  | 3 => ⟨S128, .f32⟩
  | 4 => ⟨S128, .i32⟩
  | 5 => ⟨S128x64, .i32⟩
  | 6 => ⟨S8192, .i32⟩
  | 7 => ⟨S64, .i32⟩
  | 8 => ⟨S1x64, .i32⟩
  | 9 => ⟨S128x64, .i32⟩
  | 10 => ⟨S8192, .i32⟩
  | 11 => ⟨S32, .f32⟩
  | 12 => ⟨S_, .f32⟩
  | 13 => ⟨S32, .f32⟩
  | 14 => ⟨S32, .f32⟩
  | 15 => ⟨S_, .f32⟩
  | 16 => ⟨S32, .f32⟩
  | 17 => ⟨S32, .f32⟩
  | 18 => ⟨S_, .f32⟩
  | 19 => ⟨S32, .f32⟩
  | 20 => ⟨S32, .f32⟩
  | 21 => ⟨S_, .f32⟩
  | 22 => ⟨S32, .f32⟩
  | 23 => ⟨S32, .f32⟩
  | 24 => ⟨S_, .f32⟩
  | 25 => ⟨S32, .f32⟩
  | 26 => ⟨S32, .f32⟩
  | 27 => ⟨S8192x1, .i32⟩
  | 28 => ⟨S8192x1, .i32⟩
  | 29 => ⟨S8192x2, .i32⟩
  | 30 => ⟨S8192x2, .f32⟩
  | 31 => ⟨S8192x2x1, .f32⟩
  | 32 => ⟨S1x1x32, .f32⟩
  | 33 => ⟨S8192x2x32, .f32⟩
  | 34 => ⟨S8192x2x32, .f32⟩
  | 35 => ⟨S8192x2x32, .f32⟩
  | 36 => ⟨S8192x2x32, .f32⟩
  | 37 => ⟨S8192x2x32, .f32⟩
  | 38 => ⟨S2x2x8448x128, .f32⟩
  | 39 => ⟨S2x2x8448x128, .f32⟩
  | 40 => ⟨S2x8448x1024, .bf16⟩
  | 41 => ⟨S2x8448x1024, .f32⟩
  | 42 => ⟨S2x8448x8x128, .f32⟩
  | 43 => ⟨S2x8x8448x128, .f32⟩
  | 44 => ⟨S2x8x8448x128, .f32⟩
  | 45 => ⟨S_, .f32⟩
  | 46 => ⟨S2x8x8448, .f32⟩
  | 47 => ⟨S2x8x8448x1, .f32⟩
  | 48 => ⟨S_, .f32⟩
  | 49 => ⟨S2x8x8448x1, .f32⟩
  | 50 => ⟨S2x8x8448x1, .f32⟩
  | 51 => ⟨S_, .f32⟩
  | 52 => ⟨S2x8x8448x1, .f32⟩
  | 53 => ⟨S2x8x8448x1, .f32⟩
  | 54 => ⟨S2x8x8448x1, .f32⟩
  | 55 => ⟨S2x8x8448x128, .f32⟩
  | 56 => ⟨S2x8x8448x128, .f32⟩
  | 57 => ⟨S1x1x1x128, .f32⟩
  | 58 => ⟨S2x8x8448x128, .f32⟩
  | 59 => ⟨S2x8x8448x128, .f32⟩
  | 60 => ⟨S2x8x256x128, .f32⟩
  | 61 => ⟨S2x8x8192x128, .f32⟩
  | 62 => ⟨S2x8x8192x2x2x32, .f32⟩
  | 63 => ⟨S2x8x8192x2x1x32, .f32⟩
  | 64 => ⟨S2x8x8192x2x32, .f32⟩
  | 65 => ⟨S2x8x8192x2x1x32, .f32⟩
  | 66 => ⟨S2x8x8192x2x32, .f32⟩
  | 67 => ⟨S1x1x8192x2x32, .f32⟩
  | 68 => ⟨S2x8x8192x2x32, .f32⟩
  | 69 => ⟨S2x8x8192x2x32, .f32⟩
  | 70 => ⟨S1x1x8192x2x32, .f32⟩
  | 71 => ⟨S2x8x8192x2x32, .f32⟩
  | 72 => ⟨S2x8x8192x2x32, .f32⟩
  | 73 => ⟨S2x8x8192x2x32, .f32⟩
  | 74 => ⟨S1x1x8192x2x32, .f32⟩
  | 75 => ⟨S2x8x8192x2x32, .f32⟩
  | 76 => ⟨S2x8x8192x2x32, .f32⟩
  | 77 => ⟨S1x1x8192x2x32, .f32⟩
  | 78 => ⟨S2x8x8192x2x32, .f32⟩
  | 79 => ⟨S2x8x8192x2x32, .f32⟩
  | 80 => ⟨S2x8x8192x2x32, .f32⟩
  | 81 => ⟨S2x8x8192x2x1x32, .f32⟩
  | 82 => ⟨S2x8x8192x2x1x32, .f32⟩
  | 83 => ⟨S2x8x8192x2x2x32, .f32⟩
  | 84 => ⟨S2x8x8192x128, .f32⟩
  | 85 => ⟨S2x2x4x8192x128, .f32⟩
  | 86 => ⟨S2x2x4x8192x8448, .f32⟩
  | 87 => ⟨S_, .f32⟩
  | 88 => ⟨S2x2x4x8192x8448, .f32⟩
  | 89 => ⟨S2x2x4x8192x8448, .f32⟩
  | 90 => ⟨S_, .f32⟩
  | 91 => ⟨S2x2x4x8192, .f32⟩
  | 92 => ⟨S_, .f32⟩
  | 93 => ⟨S2x2x4x8192, .f32⟩
  | 94 => ⟨S2x2x4x8192, .f32⟩
  | 95 => ⟨S2x2x4x8192x1, .f32⟩
  | 96 => ⟨S2x2x4x8192x8448, .f32⟩
  | 97 => ⟨S2x2x4x8192x8448, .f32⟩
  | 98 => ⟨S2x2x4x8192x8448, .f32⟩
  | 99 => ⟨S_, .f32⟩
  | 100 => ⟨S2x2x4x8192, .f32⟩
  | 101 => ⟨S2x2x4x8192x1, .f32⟩
  | 102 => ⟨S2x2x4x8192x8448, .f32⟩
  | 103 => ⟨S2x2x4x8192x8448, .f32⟩
  | 104 => ⟨S2x2x4x8192x128, .f32⟩
  | 105 => ⟨S2x2x4x256x128, .f32⟩
  | 106 => ⟨S2x2x256x128, .f32⟩
  | 107 => ⟨S2x2x256x128, .f32⟩
  | 108 => ⟨S2x2x4x256x256, .f32⟩
  | 109 => ⟨S_, .f32⟩
  | 110 => ⟨S2x2x4x256x256, .f32⟩
  | 111 => ⟨S2x2x4x256x256, .f32⟩
  | 112 => ⟨S_, .f32⟩
  | 113 => ⟨S2x2x4x256, .f32⟩
  | 114 => ⟨S_, .f32⟩
  | 115 => ⟨S2x2x4x256, .f32⟩
  | 116 => ⟨S2x2x4x256, .f32⟩
  | 117 => ⟨S2x2x4x256x1, .f32⟩
  | 118 => ⟨S2x2x4x256x256, .f32⟩
  | 119 => ⟨S2x2x4x256x256, .f32⟩
  | 120 => ⟨S2x2x4x256x256, .f32⟩
  | 121 => ⟨S_, .f32⟩
  | 122 => ⟨S2x2x4x256, .f32⟩
  | 123 => ⟨S2x2x4x256x1, .f32⟩
  | 124 => ⟨S2x2x4x256x256, .f32⟩
  | 125 => ⟨S2x2x4x256x256, .f32⟩
  | 126 => ⟨S2x2x4x256x128, .f32⟩
  | 127 => ⟨S2x8x8192x128, .f32⟩
  | _ => ⟨S2x8448x9984, .bf16⟩

abbrev hbmTy0_1 (i : Nat) : BufTy := match i % 128 with
  | 0 => ⟨S2x8192x8x128, .f32⟩
  | 1 => ⟨S2x8192x1024, .f32⟩
  | 2 => ⟨S2x8x256x128, .f32⟩
  | 3 => ⟨S2x256x8x128, .f32⟩
  | 4 => ⟨S2x256x1024, .f32⟩
  | 5 => ⟨S2x8448x1024, .f32⟩
  | 6 => ⟨S2x8448x1024, .bf16⟩
  | _ => ⟨S2x8448x9984, .bf16⟩

abbrev hbmTy (i : Nat) : BufTy := match i / 128 with
  | 0 => hbmTy0_0 i
  | 1 => hbmTy0_1 i
  | _ => ⟨S2x8448x9984, .bf16⟩

abbrev bufTy : (tb : Table) → Fin (tcTables nBuf tb) → BufTy
  | .hbm, ⟨i, _⟩ => hbmTy i
  | _, _ => ⟨S2x8448x9984, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_cst_5 : Ref sig .tc := ⟨.hbm, 48, rfl⟩
abbrev main_v38 : Ref sig .tc := ⟨.hbm, 49, rfl⟩
abbrev main_v39 : Ref sig .tc := ⟨.hbm, 50, rfl⟩
abbrev main_cst_6 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_cst_7 : Ref sig .tc := ⟨.hbm, 87, rfl⟩
abbrev main_v75 : Ref sig .tc := ⟨.hbm, 88, rfl⟩
abbrev main_v76 : Ref sig .tc := ⟨.hbm, 89, rfl⟩
abbrev main_cst_8 : Ref sig .tc := ⟨.hbm, 90, rfl⟩
abbrev main_v77 : Ref sig .tc := ⟨.hbm, 91, rfl⟩
abbrev main_cst_9 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_cst_10 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_cst_11 : Ref sig .tc := ⟨.hbm, 109, rfl⟩
abbrev main_v93 : Ref sig .tc := ⟨.hbm, 110, rfl⟩
abbrev main_v94 : Ref sig .tc := ⟨.hbm, 111, rfl⟩
abbrev main_cst_12 : Ref sig .tc := ⟨.hbm, 112, rfl⟩
abbrev main_v95 : Ref sig .tc := ⟨.hbm, 113, rfl⟩
abbrev main_cst_13 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_cst_14 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩

abbrev nD : Nat := 1
abbrev τ : Topo := Topo.v7x

variable {F : FTy → Type} [FloatOps F]
-- ==== Kernel2.lean ====
abbrev S2x8192x1024 : Shape := ⟨3, ![2, 8192, 1024]⟩
abbrev S2x256x1024 : Shape := ⟨3, ![2, 256, 1024]⟩
abbrev S1024 : Shape := ⟨1, ![1024]⟩
abbrev S8x6x1024 : Shape := ⟨3, ![8, 6, 1024]⟩
abbrev S1024x9760 : Shape := ⟨2, ![1024, 9760]⟩
abbrev S2x8448x1024 : Shape := ⟨3, ![2, 8448, 1024]⟩
abbrev S1024x512 : Shape := ⟨2, ![1024, 512]⟩
abbrev S1024x1024 : Shape := ⟨2, ![1024, 1024]⟩
abbrev S1024x16 : Shape := ⟨2, ![1024, 16]⟩
abbrev S1024x256 : Shape := ⟨2, ![1024, 256]⟩
abbrev S1024x3072 : Shape := ⟨2, ![1024, 3072]⟩
abbrev S_ : Shape := ⟨0, ![]⟩
abbrev S1024x224 : Shape := ⟨2, ![1024, 224]⟩
abbrev S1024x9984 : Shape := ⟨2, ![1024, 9984]⟩
abbrev S1024x13x768 : Shape := ⟨3, ![1024, 13, 768]⟩
abbrev S13x1024x768 : Shape := ⟨3, ![13, 1024, 768]⟩
abbrev S1x1024 : Shape := ⟨2, ![1, 1024]⟩
abbrev S2x8448x9984 : Shape := ⟨3, ![2, 8448, 9984]⟩
abbrev S1x256x1024 : Shape := ⟨3, ![1, 256, 1024]⟩
abbrev S1x6x1024 : Shape := ⟨3, ![1, 6, 1024]⟩
abbrev S1x256x9984 : Shape := ⟨3, ![1, 256, 9984]⟩
abbrev S256x1024 : Shape := ⟨2, ![256, 1024]⟩
abbrev S256 : Shape := ⟨1, ![256]⟩
abbrev S256x1 : Shape := ⟨2, ![256, 1]⟩
abbrev S1x1x1024 : Shape := ⟨3, ![1, 1, 1024]⟩
abbrev S1x1024x768 : Shape := ⟨3, ![1, 1024, 768]⟩
abbrev S1024x768 : Shape := ⟨2, ![1024, 768]⟩
abbrev S256x768 : Shape := ⟨2, ![256, 768]⟩
abbrev S1x256x768 : Shape := ⟨3, ![1, 256, 768]⟩

abbrev nBuf : Space → Nat
  | .hbm => 26
  | .vmem => 8
  | .smem => 0
  | _ => 0

abbrev bufTy : (tb : Table) → Fin (tcTables nBuf tb) → BufTy
  | .hbm, ⟨0, _⟩ => ⟨S2x8192x1024, .f32⟩
  | .hbm, ⟨1, _⟩ => ⟨S2x256x1024, .f32⟩
  | .hbm, ⟨2, _⟩ => ⟨S1024, .f32⟩
  | .hbm, ⟨3, _⟩ => ⟨S8x6x1024, .f32⟩
  | .hbm, ⟨4, _⟩ => ⟨S1024x9760, .f32⟩
  | .hbm, ⟨5, _⟩ => ⟨S2x8448x1024, .f32⟩
  | .hbm, ⟨6, _⟩ => ⟨S1024x512, .f32⟩
  | .hbm, ⟨7, _⟩ => ⟨S1024x512, .f32⟩
  | .hbm, ⟨8, _⟩ => ⟨S1024x1024, .f32⟩
  | .hbm, ⟨9, _⟩ => ⟨S1024x1024, .f32⟩
  | .hbm, ⟨10, _⟩ => ⟨S1024x16, .f32⟩
  | .hbm, ⟨11, _⟩ => ⟨S1024x16, .f32⟩
  | .hbm, ⟨12, _⟩ => ⟨S1024x1024, .f32⟩
  | .hbm, ⟨13, _⟩ => ⟨S1024x256, .f32⟩
  | .hbm, ⟨14, _⟩ => ⟨S1024x256, .f32⟩
  | .hbm, ⟨15, _⟩ => ⟨S1024x1024, .f32⟩
  | .hbm, ⟨16, _⟩ => ⟨S1024x1024, .f32⟩
  | .hbm, ⟨17, _⟩ => ⟨S1024x3072, .f32⟩
  | .hbm, ⟨18, _⟩ => ⟨S_, .f32⟩
  | .hbm, ⟨19, _⟩ => ⟨S1024x224, .f32⟩
  | .hbm, ⟨20, _⟩ => ⟨S1024x9984, .f32⟩
  | .hbm, ⟨21, _⟩ => ⟨S1024x9984, .bf16⟩
  | .hbm, ⟨22, _⟩ => ⟨S1024x13x768, .bf16⟩
  | .hbm, ⟨23, _⟩ => ⟨S13x1024x768, .bf16⟩
  | .hbm, ⟨24, _⟩ => ⟨S1x1024, .f32⟩
  | .hbm, ⟨25, _⟩ => ⟨S2x8448x9984, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x6x1024, .f32⟩
  | .local _ .vmem, ⟨4, _⟩ => ⟨S1x6x1024, .f32⟩
  | .local _ .vmem, ⟨5, _⟩ => ⟨S13x1024x768, .bf16⟩
  | .local _ .vmem, ⟨6, _⟩ => ⟨S1x256x9984, .bf16⟩
  | .local _ .vmem, ⟨7, _⟩ => ⟨S1x256x9984, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c2_i32 : BitVec 32 := 2#32
  let v1 : BitVec 32 := Scalar.select v0 c2_i32 arg0
  let c0_i32_0 : BitVec 32 := 0#32
  let c0_i32_1 : BitVec 32 := 0#32
  let c0_i32_2 : BitVec 32 := 0#32
  ![v1.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S13x1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x9984 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S2x8192x1024 : Shape := ⟨3, ![2, 8192, 1024]⟩
abbrev S2x256x1024 : Shape := ⟨3, ![2, 256, 1024]⟩
abbrev S1024 : Shape := ⟨1, ![1024]⟩
abbrev S8x6x1024 : Shape := ⟨3, ![8, 6, 1024]⟩
abbrev S1024x9760 : Shape := ⟨2, ![1024, 9760]⟩
abbrev S2x1x1024 : Shape := ⟨3, ![2, 1, 1024]⟩
abbrev S1x1x1024 : Shape := ⟨3, ![1, 1, 1024]⟩
abbrev S_ : Shape := ⟨0, ![]⟩
abbrev S2x256 : Shape := ⟨2, ![2, 256]⟩
abbrev S2x256x1 : Shape := ⟨3, ![2, 256, 1]⟩
abbrev S2x256x9760 : Shape := ⟨3, ![2, 256, 9760]⟩
abbrev S2x256x512 : Shape := ⟨3, ![2, 256, 512]⟩
abbrev S2x256x16 : Shape := ⟨3, ![2, 256, 16]⟩
abbrev S2x256x256 : Shape := ⟨3, ![2, 256, 256]⟩
abbrev S2x256x3072 : Shape := ⟨3, ![2, 256, 3072]⟩
abbrev S2x256x224 : Shape := ⟨3, ![2, 256, 224]⟩
abbrev S2x256x9984 : Shape := ⟨3, ![2, 256, 9984]⟩
abbrev S2x8192 : Shape := ⟨2, ![2, 8192]⟩
abbrev S2x8192x1 : Shape := ⟨3, ![2, 8192, 1]⟩
abbrev S2x8192x9760 : Shape := ⟨3, ![2, 8192, 9760]⟩
abbrev S2x8192x512 : Shape := ⟨3, ![2, 8192, 512]⟩
abbrev S2x8192x16 : Shape := ⟨3, ![2, 8192, 16]⟩
abbrev S2x8192x256 : Shape := ⟨3, ![2, 8192, 256]⟩
abbrev S2x8192x3072 : Shape := ⟨3, ![2, 8192, 3072]⟩
abbrev S2x8192x224 : Shape := ⟨3, ![2, 8192, 224]⟩
abbrev S2x8192x9984 : Shape := ⟨3, ![2, 8192, 9984]⟩
abbrev S2x8448x9984 : Shape := ⟨3, ![2, 8448, 9984]⟩

abbrev nBuf : Space → Nat
  | .hbm => 93
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x256x1024, .f32⟩
  | .hbm, ⟨2, _⟩ => ⟨S1024, .f32⟩
  | .hbm, ⟨3, _⟩ => ⟨S8x6x1024, .f32⟩
  | .hbm, ⟨4, _⟩ => ⟨S1024x9760, .f32⟩
  | .hbm, ⟨5, _⟩ => ⟨S2x1x1024, .f32⟩
  | .hbm, ⟨6, _⟩ => ⟨S1x1x1024, .f32⟩
  | .hbm, ⟨7, _⟩ => ⟨S1024, .f32⟩
  | .hbm, ⟨8, _⟩ => ⟨S2x1x1024, .f32⟩
  | .hbm, ⟨9, _⟩ => ⟨S1x1x1024, .f32⟩
  | .hbm, ⟨10, _⟩ => ⟨S1024, .f32⟩
  | .hbm, ⟨11, _⟩ => ⟨S2x256x1024, .f32⟩
  | .hbm, ⟨12, _⟩ => ⟨S_, .f32⟩
  | .hbm, ⟨13, _⟩ => ⟨S2x256, .f32⟩
  | .hbm, ⟨14, _⟩ => ⟨S2x256x1, .f32⟩
  | .hbm, ⟨15, _⟩ => ⟨S_, .f32⟩
  | .hbm, ⟨16, _⟩ => ⟨S2x256x1, .f32⟩
  | .hbm, ⟨17, _⟩ => ⟨S2x256x1, .f32⟩
  | .hbm, ⟨18, _⟩ => ⟨S_, .f32⟩
  | .hbm, ⟨19, _⟩ => ⟨S2x256x1, .f32⟩
  | .hbm, ⟨20, _⟩ => ⟨S2x256x1, .f32⟩
  | .hbm, ⟨21, _⟩ => ⟨S2x256x1, .f32⟩
  | .hbm, ⟨22, _⟩ => ⟨S2x256x1024, .f32⟩
  | .hbm, ⟨23, _⟩ => ⟨S2x256x1024, .f32⟩
  | .hbm, ⟨24, _⟩ => ⟨S1x1x1024, .f32⟩
  | .hbm, ⟨25, _⟩ => ⟨S2x256x1024, .f32⟩
  | .hbm, ⟨26, _⟩ => ⟨S2x256x1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S1x1x1024, .f32⟩
  | .hbm, ⟨31, _⟩ => ⟨S2x256x1024, .f32⟩
  | .hbm, ⟨32, _⟩ => ⟨S2x256x1024, .f32⟩
  | .hbm, ⟨33, _⟩ => ⟨S1x1x1024, .f32⟩
  | .hbm, ⟨34, _⟩ => ⟨S2x256x1024, .f32⟩
  | .hbm, ⟨35, _⟩ => ⟨S2x256x1024, .f32⟩
  | .hbm, ⟨36, _⟩ => ⟨S2x256x9760, .f32⟩
  | .hbm, ⟨37, _⟩ => ⟨S2x256x512, .f32⟩
  | .hbm, ⟨38, _⟩ => ⟨S2x256x512, .f32⟩
  | .hbm, ⟨39, _⟩ => ⟨S2x256x1024, .f32⟩
  | .hbm, ⟨40, _⟩ => ⟨S2x256x1024, .f32⟩
  | .hbm, ⟨41, _⟩ => ⟨S2x256x16, .f32⟩
  | .hbm, ⟨42, _⟩ => ⟨S2x256x16, .f32⟩
  | .hbm, ⟨43, _⟩ => ⟨S2x256x1024, .f32⟩
  | .hbm, ⟨44, _⟩ => ⟨S2x256x256, .f32⟩
  | .hbm, ⟨45, _⟩ => ⟨S2x256x256, .f32⟩
  | .hbm, ⟨46, _⟩ => ⟨S2x256x1024, .f32⟩
  | .hbm, ⟨47, _⟩ => ⟨S2x256x1024, .f32⟩
  | .hbm, ⟨48, _⟩ => ⟨S2x256x3072, .f32⟩
  | .hbm, ⟨49, _⟩ => ⟨S_, .f32⟩
  | .hbm, ⟨50, _⟩ => ⟨S2x256x224, .f32⟩
  | .hbm, ⟨51, _⟩ => ⟨S2x256x9984, .f32⟩
  | .hbm, ⟨52, _⟩ => ⟨S2x8192x1024, .f32⟩
  | .hbm, ⟨53, _⟩ => ⟨S_, .f32⟩
  | .hbm, ⟨54, _⟩ => ⟨S2x8192, .f32⟩
  | .hbm, ⟨55, _⟩ => ⟨S2x8192x1, .f32⟩
  | .hbm, ⟨56, _⟩ => ⟨S_, .f32⟩
  | .hbm, ⟨57, _⟩ => ⟨S2x8192x1, .f32⟩
  | .hbm, ⟨58, _⟩ => ⟨S2x8192x1, .f32⟩
  | .hbm, ⟨59, _⟩ => ⟨S_, .f32⟩
  | .hbm, ⟨60, _⟩ => ⟨S2x8192x1, .f32⟩
  | .hbm, ⟨61, _⟩ => ⟨S2x8192x1, .f32⟩
  | .hbm, ⟨62, _⟩ => ⟨S2x8192x1, .f32⟩
  | .hbm, ⟨63, _⟩ => ⟨S2x8192x1024, .f32⟩
  | .hbm, ⟨64, _⟩ => ⟨S2x8192x1024, .f32⟩
  | .hbm, ⟨65, _⟩ => ⟨S1x1x1024, .f32⟩
  | .hbm, ⟨66, _⟩ => ⟨S2x8192x1024, .f32⟩
  | .hbm, ⟨67, _⟩ => ⟨S2x8192x1024, .f32⟩
  | .hbm, ⟨68, _⟩ => ⟨S_, .f32⟩
  | .hbm, ⟨69, _⟩ => ⟨S2x1x1024, .f32⟩
  | .hbm, ⟨70, _⟩ => ⟨S2x1x1024, .f32⟩
  | .hbm, ⟨71, _⟩ => ⟨S2x8192x1024, .f32⟩
  | .hbm, ⟨72, _⟩ => ⟨S2x8192x1024, .f32⟩
  | .hbm, ⟨73, _⟩ => ⟨S2x8192x1024, .f32⟩
  | .hbm, ⟨74, _⟩ => ⟨S2x8192x1024, .f32⟩
  | .hbm, ⟨75, _⟩ => ⟨S2x8192x9760, .f32⟩
  | .hbm, ⟨76, _⟩ => ⟨S2x8192x512, .f32⟩
  | .hbm, ⟨77, _⟩ => ⟨S2x8192x512, .f32⟩
  | .hbm, ⟨78, _⟩ => ⟨S2x8192x1024, .f32⟩
  | .hbm, ⟨79, _⟩ => ⟨S2x8192x1024, .f32⟩
  | .hbm, ⟨80, _⟩ => ⟨S2x8192x16, .f32⟩
  | .hbm, ⟨81, _⟩ => ⟨S2x8192x16, .f32⟩
  | .hbm, ⟨82, _⟩ => ⟨S2x8192x1024, .f32⟩
  | .hbm, ⟨83, _⟩ => ⟨S2x8192x256, .f32⟩
  | .hbm, ⟨84, _⟩ => ⟨S2x8192x256, .f32⟩
  | .hbm, ⟨85, _⟩ => ⟨S2x8192x1024, .f32⟩
  | .hbm, ⟨86, _⟩ => ⟨S2x8192x1024, .f32⟩
  | .hbm, ⟨87, _⟩ => ⟨S2x8192x3072, .f32⟩
  | .hbm, ⟨88, _⟩ => ⟨S_, .f32⟩
  | .hbm, ⟨89, _⟩ => ⟨S2x8192x224, .f32⟩
  | .hbm, ⟨90, _⟩ => ⟨S2x8192x9984, .f32⟩
  | .hbm, ⟨91, _⟩ => ⟨S2x8448x9984, .f32⟩
  | .hbm, ⟨92, _⟩ => ⟨S2x8448x9984, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_3 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_4 : Ref sig .tc := ⟨.hbm, 53, rfl⟩
abbrev main_v43 : Ref sig .tc := ⟨.hbm, 54, rfl⟩
abbrev main_v44 : Ref sig .tc := ⟨.hbm, 55, rfl⟩
abbrev main_cst_5 : Ref sig .tc := ⟨.hbm, 56, rfl⟩
abbrev main_v45 : Ref sig .tc := ⟨.hbm, 57, rfl⟩
abbrev main_v46 : Ref sig .tc := ⟨.hbm, 58, rfl⟩
abbrev main_cst_6 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_7 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_cst_8 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩

abbrev nD : Nat := 1
abbrev τ : Topo := Topo.v7x

variable {F : FTy → Type} [FloatOps F]
-- ==== Kernel3.lean ====
abbrev S2x8448x1024 : Shape := ⟨3, ![2, 8448, 1024]⟩
abbrev S8x6x1024 : Shape := ⟨3, ![8, 6, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024x22x256 : Shape := ⟨3, ![1024, 22, 256]⟩
abbrev S22x1024x256 : Shape := ⟨3, ![22, 1024, 256]⟩
abbrev S3x22x256 : Shape := ⟨3, ![3, 22, 256]⟩
abbrev S22x3x256 : Shape := ⟨3, ![22, 3, 256]⟩
abbrev S1x5632 : Shape := ⟨2, ![1, 5632]⟩
abbrev S1x22x256 : Shape := ⟨3, ![1, 22, 256]⟩
abbrev S22x1x256 : Shape := ⟨3, ![22, 1, 256]⟩
abbrev S1x1024 : Shape := ⟨2, ![1, 1024]⟩
abbrev S1x256x1024 : Shape := ⟨3, ![1, 256, 1024]⟩
abbrev S1x8x1024 : Shape := ⟨3, ![1, 8, 1024]⟩
abbrev S1x6x1024 : Shape := ⟨3, ![1, 6, 1024]⟩
abbrev S256x2816 : Shape := ⟨2, ![256, 2816]⟩
abbrev S1x1x1024 : Shape := ⟨3, ![1, 1, 1024]⟩
abbrev S8x1024 : Shape := ⟨2, ![8, 1024]⟩
abbrev S8 : Shape := ⟨1, ![8]⟩
abbrev S8x1 : Shape := ⟨2, ![8, 1]⟩
abbrev S256x1024 : Shape := ⟨2, ![256, 1024]⟩
abbrev S256 : Shape := ⟨1, ![256]⟩
abbrev S256x1 : Shape := ⟨2, ![256, 1]⟩
abbrev S272x1024 : Shape := ⟨2, ![272, 1024]⟩
abbrev S1x1024x256 : Shape := ⟨3, ![1, 1024, 256]⟩
abbrev S1024x256 : Shape := ⟨2, ![1024, 256]⟩
abbrev S272x256 : Shape := ⟨2, ![272, 256]⟩
abbrev S1x1x256 : Shape := ⟨3, ![1, 1, 256]⟩
abbrev S1x256 : Shape := ⟨2, ![1, 256]⟩
abbrev S256x256 : Shape := ⟨2, ![256, 256]⟩

abbrev nBuf : Space → Nat
  | .hbm => 20
  | .vmem => 17
  | .smem => 0
  | _ => 0

abbrev bufTy : (tb : Table) → Fin (tcTables nBuf tb) → BufTy
  | .hbm, ⟨0, _⟩ => ⟨S2x8448x1024, .f32⟩
  | .hbm, ⟨1, _⟩ => ⟨S8x6x1024, .f32⟩
  | .hbm, ⟨2, _⟩ => ⟨S1024, .f32⟩
  | .hbm, ⟨3, _⟩ => ⟨S1024, .f32⟩
  | .hbm, ⟨4, _⟩ => ⟨S1024x5632, .f32⟩
  | .hbm, ⟨5, _⟩ => ⟨S3x5632, .f32⟩
  | .hbm, ⟨6, _⟩ => ⟨S5632, .f32⟩
  | .hbm, ⟨7, _⟩ => ⟨S2816x1024, .f32⟩
  | .hbm, ⟨8, _⟩ => ⟨S1024x5632, .bf16⟩
  | .hbm, ⟨9, _⟩ => ⟨S1024x22x256, .bf16⟩
  | .hbm, ⟨10, _⟩ => ⟨S22x1024x256, .bf16⟩
  | .hbm, ⟨11, _⟩ => ⟨S3x22x256, .f32⟩
  | .hbm, ⟨12, _⟩ => ⟨S22x3x256, .f32⟩
  | .hbm, ⟨13, _⟩ => ⟨S1x5632, .f32⟩
  | .hbm, ⟨14, _⟩ => ⟨S1x22x256, .f32⟩
  | .hbm, ⟨15, _⟩ => ⟨S22x1x256, .f32⟩
  | .hbm, ⟨16, _⟩ => ⟨S2816x1024, .bf16⟩
  | .hbm, ⟨17, _⟩ => ⟨S1x1024, .f32⟩
  | .hbm, ⟨18, _⟩ => ⟨S1x1024, .f32⟩
  | .hbm, ⟨19, _⟩ => ⟨S2x8448x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x6x1024, .f32⟩
  | .local _ .vmem, ⟨7, _⟩ => ⟨S1x6x1024, .f32⟩
  | .local _ .vmem, ⟨8, _⟩ => ⟨S1x1024, .f32⟩
  | .local _ .vmem, ⟨9, _⟩ => ⟨S1x1024, .f32⟩
  | .local _ .vmem, ⟨10, _⟩ => ⟨S22x1024x256, .bf16⟩
  | .local _ .vmem, ⟨11, _⟩ => ⟨S22x3x256, .f32⟩
  | .local _ .vmem, ⟨12, _⟩ => ⟨S22x1x256, .f32⟩
  | .local _ .vmem, ⟨13, _⟩ => ⟨S2816x1024, .bf16⟩
  | .local _ .vmem, ⟨14, _⟩ => ⟨S1x256x1024, .f32⟩
  | .local _ .vmem, ⟨15, _⟩ => ⟨S1x256x1024, .f32⟩
  | .local _ .vmem, ⟨16, _⟩ => ⟨S256x2816, .bf16⟩
  | _, _ => ⟨S2x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![2, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1055_i32 : BitVec 32 := 1055#32
  let v2 : BitVec 32 := Scalar.minsi v1 c1055_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c2_i32 : BitVec 32 := 2#32
  let v1 : BitVec 32 := Scalar.select v0 c2_i32 arg0
  let c0_i32_0 : BitVec 32 := 0#32
  let c0_i32_1 : BitVec 32 := 0#32
  let c0_i32_2 : BitVec 32 := 0#32
  ![v1.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S22x1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S22x3x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S22x1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference3Ideal.lean ====
abbrev S2x8448x1024 : Shape := ⟨3, ![2, 8448, 1024]⟩
abbrev S8x6x1024 : Shape := ⟨3, ![8, 6, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S2x1x1024 : Shape := ⟨3, ![2, 1, 1024]⟩
abbrev S1x1x1024 : Shape := ⟨3, ![1, 1, 1024]⟩
abbrev S2x256x1024 : Shape := ⟨3, ![2, 256, 1024]⟩
abbrev S2x8192x1024 : Shape := ⟨3, ![2, 8192, 1024]⟩
abbrev S_ : Shape := ⟨0, ![]⟩
abbrev S2x8192 : Shape := ⟨2, ![2, 8192]⟩
abbrev S2x8192x1 : Shape := ⟨3, ![2, 8192, 1]⟩
abbrev S2x8192x5632 : Shape := ⟨3, ![2, 8192, 5632]⟩
abbrev S2x8194x5632 : Shape := ⟨3, ![2, 8194, 5632]⟩
abbrev S1x5632 : Shape := ⟨2, ![1, 5632]⟩
abbrev S1x1x5632 : Shape := ⟨3, ![1, 1, 5632]⟩
abbrev S2x8192x2816 : Shape := ⟨3, ![2, 8192, 2816]⟩
abbrev S2x256 : Shape := ⟨2, ![2, 256]⟩
abbrev S2x256x1 : Shape := ⟨3, ![2, 256, 1]⟩
abbrev S2x256x5632 : Shape := ⟨3, ![2, 256, 5632]⟩
abbrev S2x258x5632 : Shape := ⟨3, ![2, 258, 5632]⟩
abbrev S2x256x2816 : Shape := ⟨3, ![2, 256, 2816]⟩

abbrev nBuf : Space → Nat
  | .hbm => 193
  | .vmem => 0
  | .smem => 0
  | _ => 0

abbrev hbmTy0_0 (i : Nat) : BufTy := match i % 128 with
  | 0 => ⟨S2x8448x1024, .f32⟩
  | 1 => ⟨S8x6x1024, .f32⟩
  | 2 => ⟨S1024, .f32⟩
  | 3 => ⟨S1024, .f32⟩
  | 4 => ⟨S1024x5632, .f32⟩
  | 5 => ⟨S3x5632, .f32⟩
  | 6 => ⟨S5632, .f32⟩
  | 7 => ⟨S2816x1024, .f32⟩
  | 8 => ⟨S2x1x1024, .f32⟩
  | 9 => ⟨S1x1x1024, .f32⟩
  | 10 => ⟨S1024, .f32⟩
  | 11 => ⟨S2x1x1024, .f32⟩
  | 12 => ⟨S1x1x1024, .f32⟩
  | 13 => ⟨S1024, .f32⟩
  | 14 => ⟨S2x1x1024, .f32⟩
  | 15 => ⟨S1x1x1024, .f32⟩
  | 16 => ⟨S1024, .f32⟩
  | 17 => ⟨S2x256x1024, .f32⟩
  | 18 => ⟨S2x8192x1024, .f32⟩
  | 19 => ⟨S2x8192x1024, .f32⟩
  | 20 => ⟨S_, .f32⟩
  | 21 => ⟨S2x8192, .f32⟩
  | 22 => ⟨S2x8192x1, .f32⟩
  | 23 => ⟨S_, .f32⟩
  | 24 => ⟨S2x8192x1, .f32⟩
  | 25 => ⟨S2x8192x1, .f32⟩
  | 26 => ⟨S_, .f32⟩
  | 27 => ⟨S2x8192x1, .f32⟩
  | 28 => ⟨S2x8192x1, .f32⟩
  | 29 => ⟨S2x8192x1, .f32⟩
  | 30 => ⟨S2x8192x1024, .f32⟩
  | 31 => ⟨S2x8192x1024, .f32⟩
  | 32 => ⟨S1x1x1024, .f32⟩
  | 33 => ⟨S2x8192x1024, .f32⟩
  | 34 => ⟨S2x8192x1024, .f32⟩
  | 35 => ⟨S_, .f32⟩
  | 36 => ⟨S2x1x1024, .f32⟩
  | 37 => ⟨S2x1x1024, .f32⟩
  | 38 => ⟨S2x8192x1024, .f32⟩
  | 39 => ⟨S2x8192x1024, .f32⟩
  | 40 => ⟨S2x8192x1024, .f32⟩
  | 41 => ⟨S2x8192x1024, .f32⟩
  | 42 => ⟨S2x8192x5632, .f32⟩
  | 43 => ⟨S_, .i32⟩
  | 44 => ⟨S_, .f32⟩
  | 45 => ⟨S2x8194x5632, .f32⟩
  | 46 => ⟨S2x8192x5632, .f32⟩
  | 47 => ⟨S1x5632, .f32⟩
  | 48 => ⟨S5632, .f32⟩
  | 49 => ⟨S1x1x5632, .f32⟩
  | 50 => ⟨S2x8192x5632, .f32⟩
  | 51 => ⟨S2x8192x5632, .f32⟩
  | 52 => ⟨S_, .f32⟩
  | 53 => ⟨S2x8192x5632, .f32⟩
  | 54 => ⟨S2x8192x5632, .f32⟩
  | 55 => ⟨S2x8192x5632, .f32⟩
  | 56 => ⟨S1x5632, .f32⟩
  | 57 => ⟨S5632, .f32⟩
  | 58 => ⟨S1x1x5632, .f32⟩
  | 59 => ⟨S2x8192x5632, .f32⟩
  | 60 => ⟨S2x8192x5632, .f32⟩
  | 61 => ⟨S2x8192x5632, .f32⟩
  | 62 => ⟨S2x8192x5632, .f32⟩
  | 63 => ⟨S1x5632, .f32⟩
  | 64 => ⟨S5632, .f32⟩
  | 65 => ⟨S1x1x5632, .f32⟩
  | 66 => ⟨S2x8192x5632, .f32⟩
  | 67 => ⟨S2x8192x5632, .f32⟩
  | 68 => ⟨S2x8192x5632, .f32⟩
  | 69 => ⟨S1x1x5632, .f32⟩
  | 70 => ⟨S2x8192x5632, .f32⟩
  | 71 => ⟨S2x8192x5632, .f32⟩
  | 72 => ⟨S2x8192x2816, .f32⟩
  | 73 => ⟨S2x8192x2816, .f32⟩
  | 74 => ⟨S2x8192x2816, .f32⟩
  | 75 => ⟨S2x8192x2816, .f32⟩
  | 76 => ⟨S_, .f32⟩
  | 77 => ⟨S2x8192x2816, .f32⟩
  | 78 => ⟨S2x8192x2816, .f32⟩
  | 79 => ⟨S_, .f32⟩
  | 80 => ⟨S2x8192x2816, .f32⟩
  | 81 => ⟨S2x8192x2816, .f32⟩
  | 82 => ⟨S2x8192x2816, .f32⟩
  | 83 => ⟨S2x8192x2816, .f32⟩
  | 84 => ⟨S2x8192x1024, .f32⟩
  | 85 => ⟨S2x8192x1024, .f32⟩
  | 86 => ⟨S_, .f32⟩
  | 87 => ⟨S2x8192, .f32⟩
  | 88 => ⟨S2x8192x1, .f32⟩
  | 89 => ⟨S_, .f32⟩
  | 90 => ⟨S2x8192x1, .f32⟩
  | 91 => ⟨S2x8192x1, .f32⟩
  | 92 => ⟨S_, .f32⟩
  | 93 => ⟨S2x8192x1, .f32⟩
  | 94 => ⟨S2x8192x1, .f32⟩
  | 95 => ⟨S2x8192x1, .f32⟩
  | 96 => ⟨S2x8192x1024, .f32⟩
  | 97 => ⟨S2x8192x1024, .f32⟩
  | 98 => ⟨S1x1x1024, .f32⟩
  | 99 => ⟨S2x8192x1024, .f32⟩
  | 100 => ⟨S2x8192x1024, .f32⟩
  | 101 => ⟨S2x8192x1024, .f32⟩
  | 102 => ⟨S2x8192x1024, .f32⟩
  | 103 => ⟨S2x8192x1024, .f32⟩
  | 104 => ⟨S2x256x1024, .f32⟩
  | 105 => ⟨S_, .f32⟩
  | 106 => ⟨S2x256, .f32⟩
  | 107 => ⟨S2x256x1, .f32⟩
  | 108 => ⟨S_, .f32⟩
  | 109 => ⟨S2x256x1, .f32⟩
  | 110 => ⟨S2x256x1, .f32⟩
  | 111 => ⟨S_, .f32⟩
  | 112 => ⟨S2x256x1, .f32⟩
  | 113 => ⟨S2x256x1, .f32⟩
  | 114 => ⟨S2x256x1, .f32⟩
  | 115 => ⟨S2x256x1024, .f32⟩
  | 116 => ⟨S2x256x1024, .f32⟩
  | 117 => ⟨S1x1x1024, .f32⟩
  | 118 => ⟨S2x256x1024, .f32⟩
  | 119 => ⟨S2x256x1024, .f32⟩
  | 120 => ⟨S_, .f32⟩
  | 121 => ⟨S1024, .f32⟩
  | 122 => ⟨S1024, .f32⟩
  | 123 => ⟨S1x1x1024, .f32⟩
  | 124 => ⟨S2x256x1024, .f32⟩
  | 125 => ⟨S2x256x1024, .f32⟩
  | 126 => ⟨S1x1x1024, .f32⟩
  | 127 => ⟨S2x256x1024, .f32⟩
  | _ => ⟨S2x8448x1024, .f32⟩

abbrev hbmTy0_1 (i : Nat) : BufTy := match i % 128 with
  | 0 => ⟨S2x256x1024, .f32⟩
  | 1 => ⟨S2x256x5632, .f32⟩
  | 2 => ⟨S_, .i32⟩
  | 3 => ⟨S_, .f32⟩
  | 4 => ⟨S2x258x5632, .f32⟩
  | 5 => ⟨S2x256x5632, .f32⟩
  | 6 => ⟨S1x5632, .f32⟩
  | 7 => ⟨S5632, .f32⟩
  | 8 => ⟨S1x1x5632, .f32⟩
  | 9 => ⟨S2x256x5632, .f32⟩
  | 10 => ⟨S2x256x5632, .f32⟩
  | 11 => ⟨S_, .f32⟩
  | 12 => ⟨S2x256x5632, .f32⟩
  | 13 => ⟨S2x256x5632, .f32⟩
  | 14 => ⟨S2x256x5632, .f32⟩
  | 15 => ⟨S1x5632, .f32⟩
  | 16 => ⟨S5632, .f32⟩
  | 17 => ⟨S1x1x5632, .f32⟩
  | 18 => ⟨S2x256x5632, .f32⟩
  | 19 => ⟨S2x256x5632, .f32⟩
  | 20 => ⟨S2x256x5632, .f32⟩
  | 21 => ⟨S2x256x5632, .f32⟩
  | 22 => ⟨S1x5632, .f32⟩
  | 23 => ⟨S5632, .f32⟩
  | 24 => ⟨S1x1x5632, .f32⟩
  | 25 => ⟨S2x256x5632, .f32⟩
  | 26 => ⟨S2x256x5632, .f32⟩
  | 27 => ⟨S2x256x5632, .f32⟩
  | 28 => ⟨S1x1x5632, .f32⟩
  | 29 => ⟨S2x256x5632, .f32⟩
  | 30 => ⟨S2x256x5632, .f32⟩
  | 31 => ⟨S2x256x2816, .f32⟩
  | 32 => ⟨S2x256x2816, .f32⟩
  | 33 => ⟨S2x256x2816, .f32⟩
  | 34 => ⟨S2x256x2816, .f32⟩
  | 35 => ⟨S_, .f32⟩
  | 36 => ⟨S2x256x2816, .f32⟩
  | 37 => ⟨S2x256x2816, .f32⟩
  | 38 => ⟨S_, .f32⟩
  | 39 => ⟨S2x256x2816, .f32⟩
  | 40 => ⟨S2x256x2816, .f32⟩
  | 41 => ⟨S2x256x2816, .f32⟩
  | 42 => ⟨S2x256x2816, .f32⟩
  | 43 => ⟨S2x256x1024, .f32⟩
  | 44 => ⟨S2x256x1024, .f32⟩
  | 45 => ⟨S_, .f32⟩
  | 46 => ⟨S2x256, .f32⟩
  | 47 => ⟨S2x256x1, .f32⟩
  | 48 => ⟨S_, .f32⟩
  | 49 => ⟨S2x256x1, .f32⟩
  | 50 => ⟨S2x256x1, .f32⟩
  | 51 => ⟨S_, .f32⟩
  | 52 => ⟨S2x256x1, .f32⟩
  | 53 => ⟨S2x256x1, .f32⟩
  | 54 => ⟨S2x256x1, .f32⟩
  | 55 => ⟨S2x256x1024, .f32⟩
  | 56 => ⟨S2x256x1024, .f32⟩
  | 57 => ⟨S1x1x1024, .f32⟩
  | 58 => ⟨S2x256x1024, .f32⟩
  | 59 => ⟨S2x256x1024, .f32⟩
  | 60 => ⟨S1x1x1024, .f32⟩
  | 61 => ⟨S2x256x1024, .f32⟩
  | 62 => ⟨S2x256x1024, .f32⟩
  | 63 => ⟨S2x256x1024, .f32⟩
  | 64 => ⟨S2x8448x1024, .f32⟩
  | _ => ⟨S2x8448x1024, .f32⟩

abbrev hbmTy (i : Nat) : BufTy := match i / 128 with
  | 0 => hbmTy0_0 i
  | 1 => hbmTy0_1 i
  | _ => ⟨S2x8448x1024, .f32⟩

abbrev bufTy : (tb : Table) → Fin (tcTables nBuf tb) → BufTy
  | .hbm, ⟨i, _⟩ => hbmTy i
  | _, _ => ⟨S2x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c : Ref sig .tc := ⟨.hbm, 43, rfl⟩
abbrev main_call0_v0 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_3 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_call1_v0 : Ref sig .tc := ⟨.hbm, 74, rfl⟩
abbrev main_call1_v1 : Ref sig .tc := ⟨.hbm, 75, rfl⟩
abbrev main_call1_cst : Ref sig .tc := ⟨.hbm, 76, rfl⟩
abbrev main_call1_v2 : Ref sig .tc := ⟨.hbm, 77, rfl⟩
abbrev main_call1_v3 : Ref sig .tc := ⟨.hbm, 78, rfl⟩
abbrev main_call1_cst_0 : Ref sig .tc := ⟨.hbm, 79, rfl⟩
abbrev main_call1_v4 : Ref sig .tc := ⟨.hbm, 80, rfl⟩
abbrev main_call1_v5 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_4 : Ref sig .tc := ⟨.hbm, 86, rfl⟩
abbrev main_v63 : Ref sig .tc := ⟨.hbm, 87, rfl⟩
abbrev main_v64 : Ref sig .tc := ⟨.hbm, 88, rfl⟩
abbrev main_cst_5 : Ref sig .tc := ⟨.hbm, 89, rfl⟩
abbrev main_v65 : Ref sig .tc := ⟨.hbm, 90, rfl⟩
abbrev main_v66 : Ref sig .tc := ⟨.hbm, 91, rfl⟩
abbrev main_cst_6 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_7 : Ref sig .tc := ⟨.hbm, 105, rfl⟩
abbrev main_v79 : Ref sig .tc := ⟨.hbm, 106, rfl⟩
abbrev main_v80 : Ref sig .tc := ⟨.hbm, 107, rfl⟩
abbrev main_cst_8 : Ref sig .tc := ⟨.hbm, 108, rfl⟩
abbrev main_v81 : Ref sig .tc := ⟨.hbm, 109, rfl⟩
abbrev main_v82 : Ref sig .tc := ⟨.hbm, 110, rfl⟩
abbrev main_cst_9 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_cst_10 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_c_11 : Ref sig .tc := ⟨.hbm, 130, rfl⟩
abbrev main_call2_v0 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_cst_12 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_call3_v0 : Ref sig .tc := ⟨.hbm, 161, rfl⟩
abbrev main_call3_v1 : Ref sig .tc := ⟨.hbm, 162, rfl⟩
abbrev main_call3_cst : Ref sig .tc := ⟨.hbm, 163, rfl⟩
abbrev main_call3_v2 : Ref sig .tc := ⟨.hbm, 164, rfl⟩
abbrev main_call3_v3 : Ref sig .tc := ⟨.hbm, 165, rfl⟩
abbrev main_call3_cst_0 : Ref sig .tc := ⟨.hbm, 166, rfl⟩
abbrev main_call3_v4 : Ref sig .tc := ⟨.hbm, 167, rfl⟩
abbrev main_call3_v5 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_cst_13 : Ref sig .tc := ⟨.hbm, 173, rfl⟩
abbrev main_v132 : Ref sig .tc := ⟨.hbm, 174, rfl⟩
abbrev main_v133 : Ref sig .tc := ⟨.hbm, 175, rfl⟩
abbrev main_cst_14 : Ref sig .tc := ⟨.hbm, 176, rfl⟩
abbrev main_v134 : Ref sig .tc := ⟨.hbm, 177, rfl⟩
abbrev main_v135 : Ref sig .tc := ⟨.hbm, 178, rfl⟩
abbrev main_cst_15 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩

abbrev nD : Nat := 1
abbrev τ : Topo := Topo.v7x

variable {F : FTy → Type} [FloatOps F]
-- ==== Kernel4.lean ====
abbrev S2x8448x1024 : Shape := ⟨3, ![2, 8448, 1024]⟩
abbrev S2x8448x9984 : Shape := ⟨3, ![2, 8448, 9984]⟩
abbrev S8x6x1024 : Shape := ⟨3, ![8, 6, 1024]⟩
abbrev S1024 : Shape := ⟨1, ![1024]⟩
abbrev S3x1024x1024 : Shape := ⟨3, ![3, 1024, 1024]⟩
abbrev S1024x1024 : Shape := ⟨2, ![1024, 1024]⟩
abbrev S1x1024 : Shape := ⟨2, ![1, 1024]⟩
abbrev S1x256x1024 : Shape := ⟨3, ![1, 256, 1024]⟩
abbrev S1x256x3072 : Shape := ⟨3, ![1, 256, 3072]⟩
abbrev S1x6x1024 : Shape := ⟨3, ![1, 6, 1024]⟩
abbrev S256x1024 : Shape := ⟨2, ![256, 1024]⟩
abbrev S1x1024x1024 : Shape := ⟨3, ![1, 1024, 1024]⟩
abbrev S1x1x1024 : Shape := ⟨3, ![1, 1, 1024]⟩
abbrev S256 : Shape := ⟨1, ![256]⟩
abbrev S256x1 : Shape := ⟨2, ![256, 1]⟩

abbrev nBuf : Space → Nat
  | .hbm => 13
  | .vmem => 17
  | .smem => 0
  | _ => 0

abbrev bufTy : (tb : Table) → Fin (tcTables nBuf tb) → BufTy
  | .hbm, ⟨0, _⟩ => ⟨S2x8448x1024, .bf16⟩
  | .hbm, ⟨1, _⟩ => ⟨S2x8448x1024, .bf16⟩
  | .hbm, ⟨2, _⟩ => ⟨S2x8448x1024, .bf16⟩
  | .hbm, ⟨3, _⟩ => ⟨S2x8448x9984, .bf16⟩
  | .hbm, ⟨4, _⟩ => ⟨S2x8448x1024, .f32⟩
  | .hbm, ⟨5, _⟩ => ⟨S8x6x1024, .f32⟩
  | .hbm, ⟨6, _⟩ => ⟨S1024, .f32⟩
  | .hbm, ⟨7, _⟩ => ⟨S3x1024x1024, .f32⟩
  | .hbm, ⟨8, _⟩ => ⟨S1024x1024, .f32⟩
  | .hbm, ⟨9, _⟩ => ⟨S3x1024x1024, .bf16⟩
  | .hbm, ⟨10, _⟩ => ⟨S1024x1024, .bf16⟩
  | .hbm, ⟨11, _⟩ => ⟨S1x1024, .f32⟩
  | .hbm, ⟨12, _⟩ => ⟨S2x8448x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x3072, .bf16⟩
  | .local _ .vmem, ⟨7, _⟩ => ⟨S1x256x3072, .bf16⟩
  | .local _ .vmem, ⟨8, _⟩ => ⟨S1x256x1024, .f32⟩
  | .local _ .vmem, ⟨9, _⟩ => ⟨S1x256x1024, .f32⟩
  | .local _ .vmem, ⟨10, _⟩ => ⟨S1x6x1024, .f32⟩
  | .local _ .vmem, ⟨11, _⟩ => ⟨S1x6x1024, .f32⟩
  | .local _ .vmem, ⟨12, _⟩ => ⟨S1x1024, .f32⟩
  | .local _ .vmem, ⟨13, _⟩ => ⟨S3x1024x1024, .bf16⟩
  | .local _ .vmem, ⟨14, _⟩ => ⟨S1024x1024, .bf16⟩
  | .local _ .vmem, ⟨15, _⟩ => ⟨S1x256x1024, .f32⟩
  | .local _ .vmem, ⟨16, _⟩ => ⟨S1x256x1024, .f32⟩
  | _, _ => ⟨S2x8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![2, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 1 := Scalar.cmpi .eq v0 c0_i32_0
  let c2_i32 : BitVec 32 := 2#32
  let v2 : BitVec 32 := Scalar.select v1 c2_i32 arg0
  let c0_i32_1 : BitVec 32 := 0#32
  let c0_i32_2 : BitVec 32 := 0#32
  let c0_i32_3 : BitVec 32 := 0#32
  ![v2.toNat, c0_i32_1.toNat, c0_i32_2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference4Ideal.lean ====
abbrev S2x8448x1024 : Shape := ⟨3, ![2, 8448, 1024]⟩
abbrev S2x8448x9984 : Shape := ⟨3, ![2, 8448, 9984]⟩
abbrev S8x6x1024 : Shape := ⟨3, ![8, 6, 1024]⟩
abbrev S1024 : Shape := ⟨1, ![1024]⟩
abbrev S3x1024x1024 : Shape := ⟨3, ![3, 1024, 1024]⟩
abbrev S1024x1024 : Shape := ⟨2, ![1024, 1024]⟩
abbrev S2x1x1024 : Shape := ⟨3, ![2, 1, 1024]⟩
abbrev S1x1x1024 : Shape := ⟨3, ![1, 1, 1024]⟩
abbrev S2x8448x3072 : Shape := ⟨3, ![2, 8448, 3072]⟩
abbrev S2x256x1024 : Shape := ⟨3, ![2, 256, 1024]⟩
abbrev S2x8192x1024 : Shape := ⟨3, ![2, 8192, 1024]⟩
abbrev S2x8192x3072 : Shape := ⟨3, ![2, 8192, 3072]⟩
abbrev S_ : Shape := ⟨0, ![]⟩
abbrev S1x1024x1024 : Shape := ⟨3, ![1, 1024, 1024]⟩
abbrev S2x8192 : Shape := ⟨2, ![2, 8192]⟩
abbrev S2x8192x1 : Shape := ⟨3, ![2, 8192, 1]⟩
abbrev S2x256x3072 : Shape := ⟨3, ![2, 256, 3072]⟩
abbrev S2x256 : Shape := ⟨2, ![2, 256]⟩
abbrev S2x256x1 : Shape := ⟨3, ![2, 256, 1]⟩

abbrev nBuf : Space → Nat
  | .hbm => 119
  | .vmem => 0
  | .smem => 0
  | _ => 0

abbrev bufTy : (tb : Table) → Fin (tcTables nBuf tb) → BufTy
  | .hbm, ⟨0, _⟩ => ⟨S2x8448x1024, .bf16⟩
  | .hbm, ⟨1, _⟩ => ⟨S2x8448x1024, .bf16⟩
  | .hbm, ⟨2, _⟩ => ⟨S2x8448x1024, .bf16⟩
  | .hbm, ⟨3, _⟩ => ⟨S2x8448x9984, .bf16⟩
  | .hbm, ⟨4, _⟩ => ⟨S2x8448x1024, .f32⟩
  | .hbm, ⟨5, _⟩ => ⟨S8x6x1024, .f32⟩
  | .hbm, ⟨6, _⟩ => ⟨S1024, .f32⟩
  | .hbm, ⟨7, _⟩ => ⟨S3x1024x1024, .f32⟩
  | .hbm, ⟨8, _⟩ => ⟨S1024x1024, .f32⟩
  | .hbm, ⟨9, _⟩ => ⟨S2x1x1024, .f32⟩
  | .hbm, ⟨10, _⟩ => ⟨S1x1x1024, .f32⟩
  | .hbm, ⟨11, _⟩ => ⟨S1024, .f32⟩
  | .hbm, ⟨12, _⟩ => ⟨S2x8448x3072, .bf16⟩
  | .hbm, ⟨13, _⟩ => ⟨S2x8448x1024, .f32⟩
  | .hbm, ⟨14, _⟩ => ⟨S2x8448x1024, .f32⟩
  | .hbm, ⟨15, _⟩ => ⟨S2x8448x1024, .f32⟩
  | .hbm, ⟨16, _⟩ => ⟨S2x8448x3072, .f32⟩
  | .hbm, ⟨17, _⟩ => ⟨S2x256x1024, .f32⟩
  | .hbm, ⟨18, _⟩ => ⟨S2x8192x1024, .f32⟩
  | .hbm, ⟨19, _⟩ => ⟨S2x8192x1024, .f32⟩
  | .hbm, ⟨20, _⟩ => ⟨S2x8192x1024, .f32⟩
  | .hbm, ⟨21, _⟩ => ⟨S2x8192x1024, .f32⟩
  | .hbm, ⟨22, _⟩ => ⟨S2x8192x3072, .f32⟩
  | .hbm, ⟨23, _⟩ => ⟨S2x8192x3072, .f32⟩
  | .hbm, ⟨24, _⟩ => ⟨S2x8192x3072, .f32⟩
  | .hbm, ⟨25, _⟩ => ⟨S_, .f32⟩
  | .hbm, ⟨26, _⟩ => ⟨S2x8192x3072, .f32⟩
  | .hbm, ⟨27, _⟩ => ⟨S2x8192x3072, .f32⟩
  | .hbm, ⟨28, _⟩ => ⟨S_, .f32⟩
  | .hbm, ⟨29, _⟩ => ⟨S2x8192x3072, .f32⟩
  | .hbm, ⟨30, _⟩ => ⟨S2x8192x3072, .f32⟩
  | .hbm, ⟨31, _⟩ => ⟨S2x8192x1024, .f32⟩
  | .hbm, ⟨32, _⟩ => ⟨S2x8192x1024, .f32⟩
  | .hbm, ⟨33, _⟩ => ⟨S2x8192x1024, .f32⟩
  | .hbm, ⟨34, _⟩ => ⟨S1x1024x1024, .f32⟩
  | .hbm, ⟨35, _⟩ => ⟨S1024x1024, .f32⟩
  | .hbm, ⟨36, _⟩ => ⟨S2x8192x1024, .f32⟩
  | .hbm, ⟨37, _⟩ => ⟨S2x8192x1024, .f32⟩
  | .hbm, ⟨38, _⟩ => ⟨S1x1024x1024, .f32⟩
  | .hbm, ⟨39, _⟩ => ⟨S1024x1024, .f32⟩
  | .hbm, ⟨40, _⟩ => ⟨S2x8192x1024, .f32⟩
  | .hbm, ⟨41, _⟩ => ⟨S2x8192x1024, .f32⟩
  | .hbm, ⟨42, _⟩ => ⟨S2x8192x1024, .f32⟩
  | .hbm, ⟨43, _⟩ => ⟨S1x1024x1024, .f32⟩
  | .hbm, ⟨44, _⟩ => ⟨S1024x1024, .f32⟩
  | .hbm, ⟨45, _⟩ => ⟨S2x8192x1024, .f32⟩
  | .hbm, ⟨46, _⟩ => ⟨S2x8192x1024, .f32⟩
  | .hbm, ⟨47, _⟩ => ⟨S2x8192x1024, .f32⟩
  | .hbm, ⟨48, _⟩ => ⟨S2x8192x1024, .f32⟩
  | .hbm, ⟨49, _⟩ => ⟨S2x8192x1024, .f32⟩
  | .hbm, ⟨50, _⟩ => ⟨S_, .f32⟩
  | .hbm, ⟨51, _⟩ => ⟨S2x8192, .f32⟩
  | .hbm, ⟨52, _⟩ => ⟨S2x8192x1, .f32⟩
  | .hbm, ⟨53, _⟩ => ⟨S_, .f32⟩
  | .hbm, ⟨54, _⟩ => ⟨S2x8192x1, .f32⟩
  | .hbm, ⟨55, _⟩ => ⟨S2x8192x1, .f32⟩
  | .hbm, ⟨56, _⟩ => ⟨S_, .f32⟩
  | .hbm, ⟨57, _⟩ => ⟨S2x8192x1, .f32⟩
  | .hbm, ⟨58, _⟩ => ⟨S2x8192x1, .f32⟩
  | .hbm, ⟨59, _⟩ => ⟨S2x8192x1, .f32⟩
  | .hbm, ⟨60, _⟩ => ⟨S2x8192x1024, .f32⟩
  | .hbm, ⟨61, _⟩ => ⟨S2x8192x1024, .f32⟩
  | .hbm, ⟨62, _⟩ => ⟨S1x1x1024, .f32⟩
  | .hbm, ⟨63, _⟩ => ⟨S2x8192x1024, .f32⟩
  | .hbm, ⟨64, _⟩ => ⟨S2x8192x1024, .f32⟩
  | .hbm, ⟨65, _⟩ => ⟨S2x8192x1024, .f32⟩
  | .hbm, ⟨66, _⟩ => ⟨S2x8192x1024, .f32⟩
  | .hbm, ⟨67, _⟩ => ⟨S2x8192x1024, .f32⟩
  | .hbm, ⟨68, _⟩ => ⟨S2x256x1024, .f32⟩
  | .hbm, ⟨69, _⟩ => ⟨S2x256x1024, .f32⟩
  | .hbm, ⟨70, _⟩ => ⟨S2x256x1024, .f32⟩
  | .hbm, ⟨71, _⟩ => ⟨S2x256x3072, .f32⟩
  | .hbm, ⟨72, _⟩ => ⟨S2x256x3072, .f32⟩
  | .hbm, ⟨73, _⟩ => ⟨S2x256x3072, .f32⟩
  | .hbm, ⟨74, _⟩ => ⟨S_, .f32⟩
  | .hbm, ⟨75, _⟩ => ⟨S2x256x3072, .f32⟩
  | .hbm, ⟨76, _⟩ => ⟨S2x256x3072, .f32⟩
  | .hbm, ⟨77, _⟩ => ⟨S_, .f32⟩
  | .hbm, ⟨78, _⟩ => ⟨S2x256x3072, .f32⟩
  | .hbm, ⟨79, _⟩ => ⟨S2x256x3072, .f32⟩
  | .hbm, ⟨80, _⟩ => ⟨S2x256x1024, .f32⟩
  | .hbm, ⟨81, _⟩ => ⟨S2x256x1024, .f32⟩
  | .hbm, ⟨82, _⟩ => ⟨S2x256x1024, .f32⟩
  | .hbm, ⟨83, _⟩ => ⟨S1x1024x1024, .f32⟩
  | .hbm, ⟨84, _⟩ => ⟨S1024x1024, .f32⟩
  | .hbm, ⟨85, _⟩ => ⟨S2x256x1024, .f32⟩
  | .hbm, ⟨86, _⟩ => ⟨S2x256x1024, .f32⟩
  | .hbm, ⟨87, _⟩ => ⟨S1x1024x1024, .f32⟩
  | .hbm, ⟨88, _⟩ => ⟨S1024x1024, .f32⟩
  | .hbm, ⟨89, _⟩ => ⟨S2x256x1024, .f32⟩
  | .hbm, ⟨90, _⟩ => ⟨S2x256x1024, .f32⟩
  | .hbm, ⟨91, _⟩ => ⟨S2x256x1024, .f32⟩
  | .hbm, ⟨92, _⟩ => ⟨S1x1024x1024, .f32⟩
  | .hbm, ⟨93, _⟩ => ⟨S1024x1024, .f32⟩
  | .hbm, ⟨94, _⟩ => ⟨S2x256x1024, .f32⟩
  | .hbm, ⟨95, _⟩ => ⟨S2x256x1024, .f32⟩
  | .hbm, ⟨96, _⟩ => ⟨S2x256x1024, .f32⟩
  | .hbm, ⟨97, _⟩ => ⟨S2x256x1024, .f32⟩
  | .hbm, ⟨98, _⟩ => ⟨S2x256x1024, .f32⟩
  | .hbm, ⟨99, _⟩ => ⟨S_, .f32⟩
  | .hbm, ⟨100, _⟩ => ⟨S2x256, .f32⟩
  | .hbm, ⟨101, _⟩ => ⟨S2x256x1, .f32⟩
  | .hbm, ⟨102, _⟩ => ⟨S_, .f32⟩
  | .hbm, ⟨103, _⟩ => ⟨S2x256x1, .f32⟩
  | .hbm, ⟨104, _⟩ => ⟨S2x256x1, .f32⟩
  | .hbm, ⟨105, _⟩ => ⟨S_, .f32⟩
  | .hbm, ⟨106, _⟩ => ⟨S2x256x1, .f32⟩
  | .hbm, ⟨107, _⟩ => ⟨S2x256x1, .f32⟩
  | .hbm, ⟨108, _⟩ => ⟨S2x256x1, .f32⟩
  | .hbm, ⟨109, _⟩ => ⟨S2x256x1024, .f32⟩
  | .hbm, ⟨110, _⟩ => ⟨S2x256x1024, .f32⟩
  | .hbm, ⟨111, _⟩ => ⟨S1x1x1024, .f32⟩
  | .hbm, ⟨112, _⟩ => ⟨S2x256x1024, .f32⟩
  | .hbm, ⟨113, _⟩ => ⟨S2x256x1024, .f32⟩
  | .hbm, ⟨114, _⟩ => ⟨S1x1x1024, .f32⟩
  | .hbm, ⟨115, _⟩ => ⟨S2x256x1024, .f32⟩
  | .hbm, ⟨116, _⟩ => ⟨S2x256x1024, .f32⟩
  | .hbm, ⟨117, _⟩ => ⟨S2x256x1024, .f32⟩
  | .hbm, ⟨118, _⟩ => ⟨S2x8448x1024, .f32⟩
  | _, _ => ⟨S2x8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_1 : Ref sig .tc := ⟨.hbm, 50, rfl⟩
abbrev main_v39 : Ref sig .tc := ⟨.hbm, 51, rfl⟩
abbrev main_v40 : Ref sig .tc := ⟨.hbm, 52, rfl⟩
abbrev main_cst_2 : Ref sig .tc := ⟨.hbm, 53, rfl⟩
abbrev main_v41 : Ref sig .tc := ⟨.hbm, 54, rfl⟩
abbrev main_v42 : Ref sig .tc := ⟨.hbm, 55, rfl⟩
abbrev main_cst_3 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_4 : Ref sig .tc := ⟨.hbm, 74, rfl⟩
abbrev main_v60 : Ref sig .tc := ⟨.hbm, 75, rfl⟩
abbrev main_v61 : Ref sig .tc := ⟨.hbm, 76, rfl⟩
abbrev main_cst_5 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_cst_6 : Ref sig .tc := ⟨.hbm, 99, rfl⟩
abbrev main_v83 : Ref sig .tc := ⟨.hbm, 100, rfl⟩
abbrev main_v84 : Ref sig .tc := ⟨.hbm, 101, rfl⟩
abbrev main_cst_7 : Ref sig .tc := ⟨.hbm, 102, rfl⟩
abbrev main_v85 : Ref sig .tc := ⟨.hbm, 103, rfl⟩
abbrev main_v86 : Ref sig .tc := ⟨.hbm, 104, rfl⟩
abbrev main_cst_8 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩

abbrev nD : Nat := 1
abbrev τ : Topo := Topo.v7x

variable {F : FTy → Type} [FloatOps F]
-- ==== Kernel5.lean ====
abbrev S2x1024 : Shape := ⟨2, ![2, 1024]⟩
abbrev S1024 : Shape := ⟨1, ![1024]⟩
abbrev S2x1024x6144 : Shape := ⟨3, ![2, 1024, 6144]⟩
abbrev S2x6144 : Shape := ⟨2, ![2, 6144]⟩
abbrev S_ : Shape := ⟨0, ![]⟩
abbrev S8x1024 : Shape := ⟨2, ![8, 1024]⟩
abbrev S1 : Shape := ⟨1, ![1]⟩
abbrev S2x1x6144 : Shape := ⟨3, ![2, 1, 6144]⟩
abbrev S2x8x6144 : Shape := ⟨3, ![2, 8, 6144]⟩
abbrev S1x1024x2048 : Shape := ⟨3, ![1, 1024, 2048]⟩
abbrev S1x1x2048 : Shape := ⟨3, ![1, 1, 2048]⟩
abbrev S1x8x2048 : Shape := ⟨3, ![1, 8, 2048]⟩
abbrev S1024x2048 : Shape := ⟨2, ![1024, 2048]⟩
abbrev S8x2048 : Shape := ⟨2, ![8, 2048]⟩
abbrev S1x2048 : Shape := ⟨2, ![1, 2048]⟩

abbrev nBuf : Space → Nat
  | .hbm => 14
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S_, .f32⟩
  | .hbm, ⟨5, _⟩ => ⟨S8x1024, .f32⟩
  | .hbm, ⟨6, _⟩ => ⟨S_, .i32⟩
  | .hbm, ⟨7, _⟩ => ⟨S1, .i32⟩
  | .hbm, ⟨8, _⟩ => ⟨S8x1024, .f32⟩
  | .hbm, ⟨9, _⟩ => ⟨S_, .i32⟩
  | .hbm, ⟨10, _⟩ => ⟨S1, .i32⟩
  | .hbm, ⟨11, _⟩ => ⟨S8x1024, .f32⟩
  | .hbm, ⟨12, _⟩ => ⟨S2x1x6144, .f32⟩
  | .hbm, ⟨13, _⟩ => ⟨S2x8x6144, .f32⟩
  | .local _ .vmem, ⟨0, _⟩ => ⟨S8x1024, .f32⟩
  | .local _ .vmem, ⟨1, _⟩ => ⟨S1x1024x2048, .f32⟩
  | .local _ .vmem, ⟨2, _⟩ => ⟨S1x1024x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x8x2048, .f32⟩
  | .local _ .vmem, ⟨6, _⟩ => ⟨S1x8x2048, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S2x1024 : Shape := ⟨2, ![2, 1024]⟩
abbrev S1024 : Shape := ⟨1, ![1024]⟩
abbrev S2x1024x6144 : Shape := ⟨3, ![2, 1024, 6144]⟩
abbrev S2x6144 : Shape := ⟨2, ![2, 6144]⟩
abbrev S1x1024x6144 : Shape := ⟨3, ![1, 1024, 6144]⟩
abbrev S1024x6144 : Shape := ⟨2, ![1024, 6144]⟩
abbrev S1x6144 : Shape := ⟨2, ![1, 6144]⟩
abbrev S6144 : Shape := ⟨1, ![6144]⟩
abbrev S_ : Shape := ⟨0, ![]⟩
abbrev S5x1024 : Shape := ⟨2, ![5, 1024]⟩
abbrev S5x6144 : Shape := ⟨2, ![5, 6144]⟩
abbrev S8x6144 : Shape := ⟨2, ![8, 6144]⟩
abbrev S1x8x6144 : Shape := ⟨3, ![1, 8, 6144]⟩
abbrev S2x8x6144 : Shape := ⟨3, ![2, 8, 6144]⟩

abbrev nBuf : Space → Nat
  | .hbm => 97
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024x6144, .f32⟩
  | .hbm, ⟨5, _⟩ => ⟨S1024x6144, .f32⟩
  | .hbm, ⟨6, _⟩ => ⟨S1x6144, .f32⟩
  | .hbm, ⟨7, _⟩ => ⟨S6144, .f32⟩
  | .hbm, ⟨8, _⟩ => ⟨S2x1024, .f32⟩
  | .hbm, ⟨9, _⟩ => ⟨S2x1024, .f32⟩
  | .hbm, ⟨10, _⟩ => ⟨S_, .f32⟩
  | .hbm, ⟨11, _⟩ => ⟨S2x1024, .f32⟩
  | .hbm, ⟨12, _⟩ => ⟨S2x1024, .f32⟩
  | .hbm, ⟨13, _⟩ => ⟨S_, .f32⟩
  | .hbm, ⟨14, _⟩ => ⟨S2x1024, .f32⟩
  | .hbm, ⟨15, _⟩ => ⟨S2x1024, .f32⟩
  | .hbm, ⟨16, _⟩ => ⟨S2x1024, .f32⟩
  | .hbm, ⟨17, _⟩ => ⟨S2x6144, .f32⟩
  | .hbm, ⟨18, _⟩ => ⟨S1x6144, .f32⟩
  | .hbm, ⟨19, _⟩ => ⟨S2x6144, .f32⟩
  | .hbm, ⟨20, _⟩ => ⟨S2x6144, .f32⟩
  | .hbm, ⟨21, _⟩ => ⟨S1024, .f32⟩
  | .hbm, ⟨22, _⟩ => ⟨S1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1024, .f32⟩
  | .hbm, ⟨30, _⟩ => ⟨S6144, .f32⟩
  | .hbm, ⟨31, _⟩ => ⟨S6144, .f32⟩
  | .hbm, ⟨32, _⟩ => ⟨S_, .f32⟩
  | .hbm, ⟨33, _⟩ => ⟨S5x1024, .f32⟩
  | .hbm, ⟨34, _⟩ => ⟨S5x1024, .f32⟩
  | .hbm, ⟨35, _⟩ => ⟨S5x1024, .f32⟩
  | .hbm, ⟨36, _⟩ => ⟨S_, .f32⟩
  | .hbm, ⟨37, _⟩ => ⟨S5x1024, .f32⟩
  | .hbm, ⟨38, _⟩ => ⟨S5x1024, .f32⟩
  | .hbm, ⟨39, _⟩ => ⟨S_, .f32⟩
  | .hbm, ⟨40, _⟩ => ⟨S5x1024, .f32⟩
  | .hbm, ⟨41, _⟩ => ⟨S5x1024, .f32⟩
  | .hbm, ⟨42, _⟩ => ⟨S5x1024, .f32⟩
  | .hbm, ⟨43, _⟩ => ⟨S5x6144, .f32⟩
  | .hbm, ⟨44, _⟩ => ⟨S1x6144, .f32⟩
  | .hbm, ⟨45, _⟩ => ⟨S5x6144, .f32⟩
  | .hbm, ⟨46, _⟩ => ⟨S5x6144, .f32⟩
  | .hbm, ⟨47, _⟩ => ⟨S1x6144, .f32⟩
  | .hbm, ⟨48, _⟩ => ⟨S8x6144, .f32⟩
  | .hbm, ⟨49, _⟩ => ⟨S1x1024x6144, .f32⟩
  | .hbm, ⟨50, _⟩ => ⟨S1024x6144, .f32⟩
  | .hbm, ⟨51, _⟩ => ⟨S1x6144, .f32⟩
  | .hbm, ⟨52, _⟩ => ⟨S6144, .f32⟩
  | .hbm, ⟨53, _⟩ => ⟨S2x1024, .f32⟩
  | .hbm, ⟨54, _⟩ => ⟨S2x1024, .f32⟩
  | .hbm, ⟨55, _⟩ => ⟨S_, .f32⟩
  | .hbm, ⟨56, _⟩ => ⟨S2x1024, .f32⟩
  | .hbm, ⟨57, _⟩ => ⟨S2x1024, .f32⟩
  | .hbm, ⟨58, _⟩ => ⟨S_, .f32⟩
  | .hbm, ⟨59, _⟩ => ⟨S2x1024, .f32⟩
  | .hbm, ⟨60, _⟩ => ⟨S2x1024, .f32⟩
  | .hbm, ⟨61, _⟩ => ⟨S2x1024, .f32⟩
  | .hbm, ⟨62, _⟩ => ⟨S2x6144, .f32⟩
  | .hbm, ⟨63, _⟩ => ⟨S1x6144, .f32⟩
  | .hbm, ⟨64, _⟩ => ⟨S2x6144, .f32⟩
  | .hbm, ⟨65, _⟩ => ⟨S2x6144, .f32⟩
  | .hbm, ⟨66, _⟩ => ⟨S1024, .f32⟩
  | .hbm, ⟨67, _⟩ => ⟨S1024, .f32⟩
  | .hbm, ⟨68, _⟩ => ⟨S_, .f32⟩
  | .hbm, ⟨69, _⟩ => ⟨S1024, .f32⟩
  | .hbm, ⟨70, _⟩ => ⟨S1024, .f32⟩
  | .hbm, ⟨71, _⟩ => ⟨S_, .f32⟩
  | .hbm, ⟨72, _⟩ => ⟨S1024, .f32⟩
  | .hbm, ⟨73, _⟩ => ⟨S1024, .f32⟩
  | .hbm, ⟨74, _⟩ => ⟨S1024, .f32⟩
  | .hbm, ⟨75, _⟩ => ⟨S6144, .f32⟩
  | .hbm, ⟨76, _⟩ => ⟨S6144, .f32⟩
  | .hbm, ⟨77, _⟩ => ⟨S_, .f32⟩
  | .hbm, ⟨78, _⟩ => ⟨S5x1024, .f32⟩
  | .hbm, ⟨79, _⟩ => ⟨S5x1024, .f32⟩
  | .hbm, ⟨80, _⟩ => ⟨S5x1024, .f32⟩
  | .hbm, ⟨81, _⟩ => ⟨S_, .f32⟩
  | .hbm, ⟨82, _⟩ => ⟨S5x1024, .f32⟩
  | .hbm, ⟨83, _⟩ => ⟨S5x1024, .f32⟩
  | .hbm, ⟨84, _⟩ => ⟨S_, .f32⟩
  | .hbm, ⟨85, _⟩ => ⟨S5x1024, .f32⟩
  | .hbm, ⟨86, _⟩ => ⟨S5x1024, .f32⟩
  | .hbm, ⟨87, _⟩ => ⟨S5x1024, .f32⟩
  | .hbm, ⟨88, _⟩ => ⟨S5x6144, .f32⟩
  | .hbm, ⟨89, _⟩ => ⟨S1x6144, .f32⟩
  | .hbm, ⟨90, _⟩ => ⟨S5x6144, .f32⟩
  | .hbm, ⟨91, _⟩ => ⟨S5x6144, .f32⟩
  | .hbm, ⟨92, _⟩ => ⟨S1x6144, .f32⟩
  | .hbm, ⟨93, _⟩ => ⟨S8x6144, .f32⟩
  | .hbm, ⟨94, _⟩ => ⟨S1x8x6144, .f32⟩
  | .hbm, ⟨95, _⟩ => ⟨S1x8x6144, .f32⟩
  | .hbm, ⟨96, _⟩ => ⟨S2x8x6144, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_v0 : Ref sig .tc := ⟨.hbm, 21, rfl⟩
abbrev main_call1_v1 : Ref sig .tc := ⟨.hbm, 22, rfl⟩
abbrev main_call1_cst : Ref sig .tc := ⟨.hbm, 23, rfl⟩
abbrev main_call1_v2 : Ref sig .tc := ⟨.hbm, 24, rfl⟩
abbrev main_call1_v3 : Ref sig .tc := ⟨.hbm, 25, rfl⟩
abbrev main_call1_cst_0 : Ref sig .tc := ⟨.hbm, 26, rfl⟩
abbrev main_call1_v4 : Ref sig .tc := ⟨.hbm, 27, rfl⟩
abbrev main_call1_v5 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst : Ref sig .tc := ⟨.hbm, 32, rfl⟩
abbrev main_v12 : Ref sig .tc := ⟨.hbm, 33, rfl⟩
abbrev main_call2_v0 : Ref sig .tc := ⟨.hbm, 34, rfl⟩
abbrev main_call2_v1 : Ref sig .tc := ⟨.hbm, 35, rfl⟩
abbrev main_call2_cst : Ref sig .tc := ⟨.hbm, 36, rfl⟩
abbrev main_call2_v2 : Ref sig .tc := ⟨.hbm, 37, rfl⟩
abbrev main_call2_v3 : Ref sig .tc := ⟨.hbm, 38, rfl⟩
abbrev main_call2_cst_0 : Ref sig .tc := ⟨.hbm, 39, rfl⟩
abbrev main_call2_v4 : Ref sig .tc := ⟨.hbm, 40, rfl⟩
abbrev main_call2_v5 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_call3_v0 : Ref sig .tc := ⟨.hbm, 53, rfl⟩
abbrev main_call3_v1 : Ref sig .tc := ⟨.hbm, 54, rfl⟩
abbrev main_call3_cst : Ref sig .tc := ⟨.hbm, 55, rfl⟩
abbrev main_call3_v2 : Ref sig .tc := ⟨.hbm, 56, rfl⟩
abbrev main_call3_v3 : Ref sig .tc := ⟨.hbm, 57, rfl⟩
abbrev main_call3_cst_0 : Ref sig .tc := ⟨.hbm, 58, rfl⟩
abbrev main_call3_v4 : Ref sig .tc := ⟨.hbm, 59, rfl⟩
abbrev main_call3_v5 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_call4_v0 : Ref sig .tc := ⟨.hbm, 66, rfl⟩
abbrev main_call4_v1 : Ref sig .tc := ⟨.hbm, 67, rfl⟩
abbrev main_call4_cst : Ref sig .tc := ⟨.hbm, 68, rfl⟩
abbrev main_call4_v2 : Ref sig .tc := ⟨.hbm, 69, rfl⟩
abbrev main_call4_v3 : Ref sig .tc := ⟨.hbm, 70, rfl⟩
abbrev main_call4_cst_0 : Ref sig .tc := ⟨.hbm, 71, rfl⟩
abbrev main_call4_v4 : Ref sig .tc := ⟨.hbm, 72, rfl⟩
abbrev main_call4_v5 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_cst_0 : Ref sig .tc := ⟨.hbm, 77, rfl⟩
abbrev main_v32 : Ref sig .tc := ⟨.hbm, 78, rfl⟩
abbrev main_call5_v0 : Ref sig .tc := ⟨.hbm, 79, rfl⟩
abbrev main_call5_v1 : Ref sig .tc := ⟨.hbm, 80, rfl⟩
abbrev main_call5_cst : Ref sig .tc := ⟨.hbm, 81, rfl⟩
abbrev main_call5_v2 : Ref sig .tc := ⟨.hbm, 82, rfl⟩
abbrev main_call5_v3 : Ref sig .tc := ⟨.hbm, 83, rfl⟩
abbrev main_call5_cst_0 : Ref sig .tc := ⟨.hbm, 84, rfl⟩
abbrev main_call5_v4 : Ref sig .tc := ⟨.hbm, 85, rfl⟩
abbrev main_call5_v5 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩

abbrev nD : Nat := 1
abbrev τ : Topo := Topo.v7x

variable {F : FTy → Type} [FloatOps F]
-- ==== Kernel6.lean ====
abbrev S2x8448x9984 : Shape := ⟨3, ![2, 8448, 9984]⟩
abbrev S128 : Shape := ⟨1, ![128]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x128 : Shape := ⟨2, ![8192, 128]⟩
abbrev S256x128 : Shape := ⟨2, ![256, 128]⟩
abbrev S8448x128 : Shape := ⟨2, ![8448, 128]⟩
abbrev S1x128 : Shape := ⟨2, ![1, 128]⟩
abbrev S2x2x8448x128 : Shape := ⟨4, ![2, 2, 8448, 128]⟩
abbrev S1x256x256 : Shape := ⟨3, ![1, 256, 256]⟩
abbrev S1x2x256x128 : Shape := ⟨4, ![1, 2, 256, 128]⟩
abbrev S256x256 : Shape := ⟨2, ![256, 256]⟩
abbrev S256 : Shape := ⟨1, ![256]⟩
abbrev S256x1 : Shape := ⟨2, ![256, 1]⟩
abbrev S1x1x256x128 : Shape := ⟨4, ![1, 1, 256, 128]⟩
abbrev S1x256x128 : Shape := ⟨3, ![1, 256, 128]⟩

abbrev nBuf : Space → Nat
  | .hbm => 90
  | .vmem => 13
  | .smem => 0
  | _ => 0

abbrev bufTy : (tb : Table) → Fin (tcTables nBuf tb) → BufTy
  | .hbm, ⟨0, _⟩ => ⟨S2x8448x9984, .bf16⟩
  | .hbm, ⟨1, _⟩ => ⟨S128, .f32⟩
  | .hbm, ⟨2, _⟩ => ⟨S8192, .i32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .i32⟩
  | .hbm, ⟨20, _⟩ => ⟨S_, .i32⟩
  | .hbm, ⟨21, _⟩ => ⟨S8192, .i32⟩
  | .hbm, ⟨22, _⟩ => ⟨S8192, .i32⟩
  | .hbm, ⟨23, _⟩ => ⟨S8192, .i32⟩
  | .hbm, ⟨24, _⟩ => ⟨S_, .i32⟩
  | .hbm, ⟨25, _⟩ => ⟨S8192, .i32⟩
  | .hbm, ⟨26, _⟩ => ⟨S8192, .i1⟩
  | .hbm, ⟨27, _⟩ => ⟨S8192, .i32⟩
  | .hbm, ⟨28, _⟩ => ⟨S8192, .i32⟩
  | .hbm, ⟨29, _⟩ => ⟨S_, .i32⟩
  | .hbm, ⟨30, _⟩ => ⟨S8192, .i32⟩
  | .hbm, ⟨31, _⟩ => ⟨S8192, .i1⟩
  | .hbm, ⟨32, _⟩ => ⟨S8192, .i1⟩
  | .hbm, ⟨33, _⟩ => ⟨S_, .i32⟩
  | .hbm, ⟨34, _⟩ => ⟨S8192, .i32⟩
  | .hbm, ⟨35, _⟩ => ⟨S8192, .i32⟩
  | .hbm, ⟨36, _⟩ => ⟨S8192, .i32⟩
  | .hbm, ⟨37, _⟩ => ⟨S8192, .f32⟩
  | .hbm, ⟨38, _⟩ => ⟨S8192x1, .f32⟩
  | .hbm, ⟨39, _⟩ => ⟨S1x32, .f32⟩
  | .hbm, ⟨40, _⟩ => ⟨S8192x32, .f32⟩
  | .hbm, ⟨41, _⟩ => ⟨S8192x32, .f32⟩
  | .hbm, ⟨42, _⟩ => ⟨S8192x32, .f32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i1⟩
  | .hbm, ⟨47, _⟩ => ⟨S_, .i32⟩
  | .hbm, ⟨48, _⟩ => ⟨S_, .i32⟩
  | .hbm, ⟨49, _⟩ => ⟨S8192, .i32⟩
  | .hbm, ⟨50, _⟩ => ⟨S8192, .i32⟩
  | .hbm, ⟨51, _⟩ => ⟨S_, .i32⟩
  | .hbm, ⟨52, _⟩ => ⟨S8192, .i32⟩
  | .hbm, ⟨53, _⟩ => ⟨S8192, .i1⟩
  | .hbm, ⟨54, _⟩ => ⟨S_, .i32⟩
  | .hbm, ⟨55, _⟩ => ⟨S8192, .i32⟩
  | .hbm, ⟨56, _⟩ => ⟨S8192, .i1⟩
  | .hbm, ⟨57, _⟩ => ⟨S_, .i32⟩
  | .hbm, ⟨58, _⟩ => ⟨S_, .i1⟩
  | .hbm, ⟨59, _⟩ => ⟨S8192, .i1⟩
  | .hbm, ⟨60, _⟩ => ⟨S8192, .i1⟩
  | .hbm, ⟨61, _⟩ => ⟨S8192, .i1⟩
  | .hbm, ⟨62, _⟩ => ⟨S8192, .i32⟩
  | .hbm, ⟨63, _⟩ => ⟨S8192, .i32⟩
  | .hbm, ⟨64, _⟩ => ⟨S8192, .i32⟩
  | .hbm, ⟨65, _⟩ => ⟨S8192, .f32⟩
  | .hbm, ⟨66, _⟩ => ⟨S8192x1, .f32⟩
  | .hbm, ⟨67, _⟩ => ⟨S1x32, .f32⟩
  | .hbm, ⟨68, _⟩ => ⟨S8192x32, .f32⟩
  | .hbm, ⟨69, _⟩ => ⟨S8192x32, .f32⟩
  | .hbm, ⟨70, _⟩ => ⟨S8192x32, .f32⟩
  | .hbm, ⟨71, _⟩ => ⟨S8192x32, .f32⟩
  | .hbm, ⟨72, _⟩ => ⟨S8192x32, .f32⟩
  | .hbm, ⟨73, _⟩ => ⟨S8192x128, .f32⟩
  | .hbm, ⟨74, _⟩ => ⟨S8192x32, .f32⟩
  | .hbm, ⟨75, _⟩ => ⟨S8192x32, .f32⟩
  | .hbm, ⟨76, _⟩ => ⟨S8192x32, .f32⟩
  | .hbm, ⟨77, _⟩ => ⟨S8192x32, .f32⟩
  | .hbm, ⟨78, _⟩ => ⟨S8192x32, .f32⟩
  | .hbm, ⟨79, _⟩ => ⟨S8192x32, .f32⟩
  | .hbm, ⟨80, _⟩ => ⟨S8192x128, .f32⟩
  | .hbm, ⟨81, _⟩ => ⟨S_, .f32⟩
  | .hbm, ⟨82, _⟩ => ⟨S256x128, .f32⟩
  | .hbm, ⟨83, _⟩ => ⟨S8448x128, .f32⟩
  | .hbm, ⟨84, _⟩ => ⟨S_, .f32⟩
  | .hbm, ⟨85, _⟩ => ⟨S256x128, .f32⟩
  | .hbm, ⟨86, _⟩ => ⟨S8448x128, .f32⟩
  | .hbm, ⟨87, _⟩ => ⟨S1x128, .f32⟩
  | .hbm, ⟨88, _⟩ => ⟨S2x2x8448x128, .bf16⟩
  | .hbm, ⟨89, _⟩ => ⟨S2x2x8448x128, .bf16⟩
  | .local _ .vmem, ⟨0, _⟩ => ⟨S1x256x256, .bf16⟩
  | .local _ .vmem, ⟨1, _⟩ => ⟨S1x256x256, .bf16⟩
  | .local _ .vmem, ⟨2, _⟩ => ⟨S1x256x256, .bf16⟩
  | .local _ .vmem, ⟨3, _⟩ => ⟨S1x256x256, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S1x128, .f32⟩
  | .local _ .vmem, ⟨9, _⟩ => ⟨S1x2x256x128, .bf16⟩
  | .local _ .vmem, ⟨10, _⟩ => ⟨S1x2x256x128, .bf16⟩
  | .local _ .vmem, ⟨11, _⟩ => ⟨S1x2x256x128, .bf16⟩
  | .local _ .vmem, ⟨12, _⟩ => ⟨S1x2x256x128, .bf16⟩
  | _, _ => ⟨S2x8448x9984, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_c_4 : Ref sig .tc := ⟨.hbm, 43, rfl⟩
abbrev main_call1_v0 : Ref sig .tc := ⟨.hbm, 44, rfl⟩
abbrev main_call1_c : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_c_1 : Ref sig .tc := ⟨.hbm, 51, rfl⟩
abbrev main_call1_v5 : Ref sig .tc := ⟨.hbm, 52, rfl⟩
abbrev main_call1_v6 : Ref sig .tc := ⟨.hbm, 53, rfl⟩
abbrev main_call1_c_2 : Ref sig .tc := ⟨.hbm, 54, rfl⟩
abbrev main_call1_v7 : Ref sig .tc := ⟨.hbm, 55, rfl⟩
abbrev main_call1_v8 : Ref sig .tc := ⟨.hbm, 56, rfl⟩
abbrev main_call1_c_3 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_cst_5 : Ref sig .tc := ⟨.hbm, 81, rfl⟩
abbrev main_v36 : Ref sig .tc := ⟨.hbm, 82, rfl⟩
abbrev main_v37 : Ref sig .tc := ⟨.hbm, 83, rfl⟩
abbrev main_cst_6 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41_0 : Ref sig .tc := ⟨.hbm, 88, rfl⟩
abbrev main_v41_1 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 33], ![false, false]⟩

def cc0_transform_0 (i : grid0.Coords) : Fin 3 → Nat :=
  let arg0 : BitVec 32 := BitVec.ofNat 32 (i 0).val
  let arg1 : BitVec 32 := BitVec.ofNat 32 (i 1).val
  let c36_i32 : BitVec 32 := 36#32
  let c0_i32 : BitVec 32 := 0#32
  ![arg0.toNat, arg1.toNat, c36_i32.toNat]

def cc0_transform_1 (i : grid0.Coords) : Fin 3 → Nat :=
  let arg0 : BitVec 32 := BitVec.ofNat 32 (i 0).val
  let arg1 : BitVec 32 := BitVec.ofNat 32 (i 1).val
  let c37_i32 : BitVec 32 := 37#32
  let c0_i32 : BitVec 32 := 0#32
  ![arg0.toNat, arg1.toNat, c37_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference6Ideal.lean ====
abbrev S2x8448x9984 : Shape := ⟨3, ![2, 8448, 9984]⟩
abbrev S128 : Shape := ⟨1, ![128]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S32 : Shape := ⟨1, ![32]⟩
abbrev S_ : Shape := ⟨0, ![]⟩
abbrev S8192x1 : Shape := ⟨2, ![8192, 1]⟩
abbrev S8192x2 : Shape := ⟨2, ![8192, 2]⟩
abbrev S8192x2x1 : Shape := ⟨3, ![8192, 2, 1]⟩
abbrev S1x1x32 : Shape := ⟨3, ![1, 1, 32]⟩
abbrev S8192x2x32 : Shape := ⟨3, ![8192, 2, 32]⟩
abbrev S2x8448x256 : Shape := ⟨3, ![2, 8448, 256]⟩
abbrev S2x256x256 : Shape := ⟨3, ![2, 256, 256]⟩
abbrev S2x256x2x128 : Shape := ⟨4, ![2, 256, 2, 128]⟩
abbrev S2x2x256x128 : Shape := ⟨4, ![2, 2, 256, 128]⟩
abbrev S2x2x256 : Shape := ⟨3, ![2, 2, 256]⟩
abbrev S2x2x256x1 : Shape := ⟨4, ![2, 2, 256, 1]⟩
abbrev S1x1x1x128 : Shape := ⟨4, ![1, 1, 1, 128]⟩
abbrev S2x8192x256 : Shape := ⟨3, ![2, 8192, 256]⟩
abbrev S2x8192x2x128 : Shape := ⟨4, ![2, 8192, 2, 128]⟩
abbrev S2x2x8192x128 : Shape := ⟨4, ![2, 2, 8192, 128]⟩
abbrev S2x2x8192 : Shape := ⟨3, ![2, 2, 8192]⟩
abbrev S2x2x8192x1 : Shape := ⟨4, ![2, 2, 8192, 1]⟩
abbrev S2x2x8192x2x2x32 : Shape := ⟨6, ![2, 2, 8192, 2, 2, 32]⟩
abbrev S2x2x8192x2x1x32 : Shape := ⟨6, ![2, 2, 8192, 2, 1, 32]⟩
abbrev S2x2x8192x2x32 : Shape := ⟨5, ![2, 2, 8192, 2, 32]⟩
abbrev S1x1x8192x2x32 : Shape := ⟨5, ![1, 1, 8192, 2, 32]⟩
abbrev S2x2x8448x128 : Shape := ⟨4, ![2, 2, 8448, 128]⟩

abbrev nBuf : Space → Nat
  | .hbm => 111
  | .vmem => 0
  | .smem => 0
  | _ => 0

abbrev bufTy : (tb : Table) → Fin (tcTables nBuf tb) → BufTy
  | .hbm, ⟨0, _⟩ => ⟨S2x8448x9984, .bf16⟩
  | .hbm, ⟨1, _⟩ => ⟨S128, .f32⟩
  | .hbm, ⟨2, _⟩ => ⟨S128, .i32⟩
  | .hbm, ⟨3, _⟩ => ⟨S128x64, .i32⟩
  | .hbm, ⟨4, _⟩ => ⟨S8192, .i32⟩
  | .hbm, ⟨5, _⟩ => ⟨S64, .i32⟩
  | .hbm, ⟨6, _⟩ => ⟨S1x64, .i32⟩
  | .hbm, ⟨7, _⟩ => ⟨S128x64, .i32⟩
  | .hbm, ⟨8, _⟩ => ⟨S8192, .i32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S8192x1, .i32⟩
  | .hbm, ⟨26, _⟩ => ⟨S8192x1, .i32⟩
  | .hbm, ⟨27, _⟩ => ⟨S8192x2, .i32⟩
  | .hbm, ⟨28, _⟩ => ⟨S8192x2, .f32⟩
  | .hbm, ⟨29, _⟩ => ⟨S8192x2x1, .f32⟩
  | .hbm, ⟨30, _⟩ => ⟨S1x1x32, .f32⟩
  | .hbm, ⟨31, _⟩ => ⟨S8192x2x32, .f32⟩
  | .hbm, ⟨32, _⟩ => ⟨S8192x2x32, .f32⟩
  | .hbm, ⟨33, _⟩ => ⟨S8192x2x32, .f32⟩
  | .hbm, ⟨34, _⟩ => ⟨S8192x2x32, .f32⟩
  | .hbm, ⟨35, _⟩ => ⟨S8192x2x32, .f32⟩
  | .hbm, ⟨36, _⟩ => ⟨S2x8448x256, .bf16⟩
  | .hbm, ⟨37, _⟩ => ⟨S2x8448x256, .f32⟩
  | .hbm, ⟨38, _⟩ => ⟨S2x8448x256, .bf16⟩
  | .hbm, ⟨39, _⟩ => ⟨S2x8448x256, .f32⟩
  | .hbm, ⟨40, _⟩ => ⟨S2x256x256, .f32⟩
  | .hbm, ⟨41, _⟩ => ⟨S2x256x2x128, .f32⟩
  | .hbm, ⟨42, _⟩ => ⟨S2x2x256x128, .f32⟩
  | .hbm, ⟨43, _⟩ => ⟨S2x2x256x128, .f32⟩
  | .hbm, ⟨44, _⟩ => ⟨S_, .f32⟩
  | .hbm, ⟨45, _⟩ => ⟨S2x2x256, .f32⟩
  | .hbm, ⟨46, _⟩ => ⟨S2x2x256x1, .f32⟩
  | .hbm, ⟨47, _⟩ => ⟨S_, .f32⟩
  | .hbm, ⟨48, _⟩ => ⟨S2x2x256x1, .f32⟩
  | .hbm, ⟨49, _⟩ => ⟨S2x2x256x1, .f32⟩
  | .hbm, ⟨50, _⟩ => ⟨S_, .f32⟩
  | .hbm, ⟨51, _⟩ => ⟨S2x2x256x1, .f32⟩
  | .hbm, ⟨52, _⟩ => ⟨S2x2x256x1, .f32⟩
  | .hbm, ⟨53, _⟩ => ⟨S2x2x256x1, .f32⟩
  | .hbm, ⟨54, _⟩ => ⟨S2x2x256x128, .f32⟩
  | .hbm, ⟨55, _⟩ => ⟨S2x2x256x128, .f32⟩
  | .hbm, ⟨56, _⟩ => ⟨S1x1x1x128, .f32⟩
  | .hbm, ⟨57, _⟩ => ⟨S2x2x256x128, .f32⟩
  | .hbm, ⟨58, _⟩ => ⟨S2x2x256x128, .f32⟩
  | .hbm, ⟨59, _⟩ => ⟨S2x8192x256, .f32⟩
  | .hbm, ⟨60, _⟩ => ⟨S2x8192x2x128, .f32⟩
  | .hbm, ⟨61, _⟩ => ⟨S2x2x8192x128, .f32⟩
  | .hbm, ⟨62, _⟩ => ⟨S2x2x8192x128, .f32⟩
  | .hbm, ⟨63, _⟩ => ⟨S_, .f32⟩
  | .hbm, ⟨64, _⟩ => ⟨S2x2x8192, .f32⟩
  | .hbm, ⟨65, _⟩ => ⟨S2x2x8192x1, .f32⟩
  | .hbm, ⟨66, _⟩ => ⟨S_, .f32⟩
  | .hbm, ⟨67, _⟩ => ⟨S2x2x8192x1, .f32⟩
  | .hbm, ⟨68, _⟩ => ⟨S2x2x8192x1, .f32⟩
  | .hbm, ⟨69, _⟩ => ⟨S_, .f32⟩
  | .hbm, ⟨70, _⟩ => ⟨S2x2x8192x1, .f32⟩
  | .hbm, ⟨71, _⟩ => ⟨S2x2x8192x1, .f32⟩
  | .hbm, ⟨72, _⟩ => ⟨S2x2x8192x1, .f32⟩
  | .hbm, ⟨73, _⟩ => ⟨S2x2x8192x128, .f32⟩
  | .hbm, ⟨74, _⟩ => ⟨S2x2x8192x128, .f32⟩
  | .hbm, ⟨75, _⟩ => ⟨S1x1x1x128, .f32⟩
  | .hbm, ⟨76, _⟩ => ⟨S2x2x8192x128, .f32⟩
  | .hbm, ⟨77, _⟩ => ⟨S2x2x8192x128, .f32⟩
  | .hbm, ⟨78, _⟩ => ⟨S2x2x8192x2x2x32, .f32⟩
  | .hbm, ⟨79, _⟩ => ⟨S2x2x8192x2x1x32, .f32⟩
  | .hbm, ⟨80, _⟩ => ⟨S2x2x8192x2x32, .f32⟩
  | .hbm, ⟨81, _⟩ => ⟨S2x2x8192x2x1x32, .f32⟩
  | .hbm, ⟨82, _⟩ => ⟨S2x2x8192x2x32, .f32⟩
  | .hbm, ⟨83, _⟩ => ⟨S1x1x8192x2x32, .f32⟩
  | .hbm, ⟨84, _⟩ => ⟨S2x2x8192x2x32, .f32⟩
  | .hbm, ⟨85, _⟩ => ⟨S2x2x8192x2x32, .f32⟩
  | .hbm, ⟨86, _⟩ => ⟨S1x1x8192x2x32, .f32⟩
  | .hbm, ⟨87, _⟩ => ⟨S2x2x8192x2x32, .f32⟩
  | .hbm, ⟨88, _⟩ => ⟨S2x2x8192x2x32, .f32⟩
  | .hbm, ⟨89, _⟩ => ⟨S2x2x8192x2x32, .f32⟩
  | .hbm, ⟨90, _⟩ => ⟨S1x1x8192x2x32, .f32⟩
  | .hbm, ⟨91, _⟩ => ⟨S2x2x8192x2x32, .f32⟩
  | .hbm, ⟨92, _⟩ => ⟨S2x2x8192x2x32, .f32⟩
  | .hbm, ⟨93, _⟩ => ⟨S1x1x8192x2x32, .f32⟩
  | .hbm, ⟨94, _⟩ => ⟨S2x2x8192x2x32, .f32⟩
  | .hbm, ⟨95, _⟩ => ⟨S2x2x8192x2x32, .f32⟩
  | .hbm, ⟨96, _⟩ => ⟨S2x2x8192x2x32, .f32⟩
  | .hbm, ⟨97, _⟩ => ⟨S2x2x8192x2x1x32, .f32⟩
  | .hbm, ⟨98, _⟩ => ⟨S2x2x8192x2x1x32, .f32⟩
  | .hbm, ⟨99, _⟩ => ⟨S2x2x8192x2x2x32, .f32⟩
  | .hbm, ⟨100, _⟩ => ⟨S2x2x8192x128, .f32⟩
  | .hbm, ⟨101, _⟩ => ⟨S2x2x8448x128, .f32⟩
  | .hbm, ⟨102, _⟩ => ⟨S2x256x256, .f32⟩
  | .hbm, ⟨103, _⟩ => ⟨S2x256x2x128, .f32⟩
  | .hbm, ⟨104, _⟩ => ⟨S2x2x256x128, .f32⟩
  | .hbm, ⟨105, _⟩ => ⟨S2x8192x256, .f32⟩
  | .hbm, ⟨106, _⟩ => ⟨S2x8192x2x128, .f32⟩
  | .hbm, ⟨107, _⟩ => ⟨S2x2x8192x128, .f32⟩
  | .hbm, ⟨108, _⟩ => ⟨S2x2x8448x128, .f32⟩
  | .hbm, ⟨109, _⟩ => ⟨S2x2x8448x128, .bf16⟩
  | .hbm, ⟨110, _⟩ => ⟨S2x2x8448x128, .bf16⟩
  | _, _ => ⟨S2x8448x9984, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_4 : Ref sig .tc := ⟨.hbm, 44, rfl⟩
abbrev main_v37 : Ref sig .tc := ⟨.hbm, 45, rfl⟩
abbrev main_v38 : Ref sig .tc := ⟨.hbm, 46, rfl⟩
abbrev main_cst_5 : Ref sig .tc := ⟨.hbm, 47, rfl⟩
abbrev main_v39 : Ref sig .tc := ⟨.hbm, 48, rfl⟩
abbrev main_v40 : Ref sig .tc := ⟨.hbm, 49, rfl⟩
abbrev main_cst_6 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_cst_7 : Ref sig .tc := ⟨.hbm, 63, rfl⟩
abbrev main_v53 : Ref sig .tc := ⟨.hbm, 64, rfl⟩
abbrev main_v54 : Ref sig .tc := ⟨.hbm, 65, rfl⟩
abbrev main_cst_8 : Ref sig .tc := ⟨.hbm, 66, rfl⟩
abbrev main_v55 : Ref sig .tc := ⟨.hbm, 67, rfl⟩
abbrev main_v56 : Ref sig .tc := ⟨.hbm, 68, rfl⟩
abbrev main_cst_9 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩

abbrev nD : Nat := 1
abbrev τ : Topo := Topo.v7x

variable {F : FTy → Type} [FloatOps F]
-- ==== Kernel7.lean ====
abbrev S2x8448x9984 : Shape := ⟨3, ![2, 8448, 9984]⟩
abbrev S2x16x512 : Shape := ⟨3, ![2, 16, 512]⟩
abbrev S2x512 : Shape := ⟨2, ![2, 512]⟩
abbrev S_ : Shape := ⟨0, ![]⟩
abbrev S256x512 : Shape := ⟨2, ![256, 512]⟩
abbrev S1x16x512 : Shape := ⟨3, ![1, 16, 512]⟩
abbrev S16x512 : Shape := ⟨2, ![16, 512]⟩
abbrev S1 : Shape := ⟨1, ![1]⟩
abbrev S1x512 : Shape := ⟨2, ![1, 512]⟩
abbrev S512 : Shape := ⟨1, ![512]⟩
abbrev S2x8448x1024 : Shape := ⟨3, ![2, 8448, 1024]⟩
abbrev S1x256x512 : Shape := ⟨3, ![1, 256, 512]⟩
abbrev S1x256x1024 : Shape := ⟨3, ![1, 256, 1024]⟩
abbrev S1x256x256 : Shape := ⟨3, ![1, 256, 256]⟩
abbrev S4x256x128 : Shape := ⟨3, ![4, 256, 128]⟩
abbrev S256x256 : Shape := ⟨2, ![256, 256]⟩
abbrev S64x64 : Shape := ⟨2, ![64, 64]⟩
abbrev S64x128 : Shape := ⟨2, ![64, 128]⟩
abbrev S1x64x256 : Shape := ⟨3, ![1, 64, 256]⟩
abbrev S64x256 : Shape := ⟨2, ![64, 256]⟩
abbrev S1x256x128 : Shape := ⟨3, ![1, 256, 128]⟩
abbrev S256x128 : Shape := ⟨2, ![256, 128]⟩
abbrev S1x128 : Shape := ⟨2, ![1, 128]⟩

abbrev nBuf : Space → Nat
  | .hbm => 15
  | .vmem => 13
  | .smem => 0
  | _ => 0

abbrev bufTy : (tb : Table) → Fin (tcTables nBuf tb) → BufTy
  | .hbm, ⟨0, _⟩ => ⟨S2x8448x9984, .bf16⟩
  | .hbm, ⟨1, _⟩ => ⟨S2x16x512, .f32⟩
  | .hbm, ⟨2, _⟩ => ⟨S2x512, .f32⟩
  | .hbm, ⟨3, _⟩ => ⟨S_, .f32⟩
  | .hbm, ⟨4, _⟩ => ⟨S256x512, .f32⟩
  | .hbm, ⟨5, _⟩ => ⟨S1x16x512, .f32⟩
  | .hbm, ⟨6, _⟩ => ⟨S16x512, .f32⟩
  | .hbm, ⟨7, _⟩ => ⟨S_, .i32⟩
  | .hbm, ⟨8, _⟩ => ⟨S1, .i32⟩
  | .hbm, ⟨9, _⟩ => ⟨S256x512, .f32⟩
  | .hbm, ⟨10, _⟩ => ⟨S256x512, .bf16⟩
  | .hbm, ⟨11, _⟩ => ⟨S1x512, .f32⟩
  | .hbm, ⟨12, _⟩ => ⟨S512, .f32⟩
  | .hbm, ⟨13, _⟩ => ⟨S1x512, .f32⟩
  | .hbm, ⟨14, _⟩ => ⟨S2x8448x1024, .f32⟩
  | .local _ .vmem, ⟨0, _⟩ => ⟨S1x256x512, .bf16⟩
  | .local _ .vmem, ⟨1, _⟩ => ⟨S1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x256, .bf16⟩
  | .local _ .vmem, ⟨7, _⟩ => ⟨S1x256x256, .bf16⟩
  | .local _ .vmem, ⟨8, _⟩ => ⟨S256x512, .bf16⟩
  | .local _ .vmem, ⟨9, _⟩ => ⟨S1x512, .f32⟩
  | .local _ .vmem, ⟨10, _⟩ => ⟨S1x256x1024, .f32⟩
  | .local _ .vmem, ⟨11, _⟩ => ⟨S1x256x1024, .f32⟩
  | .local _ .vmem, ⟨12, _⟩ => ⟨S4x256x128, .f32⟩
  | _, _ => ⟨S2x8448x9984, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 33], ![false, false]⟩

def cc0_transform_0 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_1 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_3 (i : grid0.Coords) : Fin 3 → Nat :=
  let arg0 : BitVec 32 := BitVec.ofNat 32 (i 0).val
  let arg1 : BitVec 32 := BitVec.ofNat 32 (i 1).val
  let c38_i32 : BitVec 32 := 38#32
  let c0_i32 : BitVec 32 := 0#32
  ![arg0.toNat, arg1.toNat, c38_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference7Ideal.lean ====
abbrev S2x8448x9984 : Shape := ⟨3, ![2, 8448, 9984]⟩
abbrev S2x16x512 : Shape := ⟨3, ![2, 16, 512]⟩
abbrev S2x512 : Shape := ⟨2, ![2, 512]⟩
abbrev S2x8448x512 : Shape := ⟨3, ![2, 8448, 512]⟩
abbrev S2x8448x1024 : Shape := ⟨3, ![2, 8448, 1024]⟩
abbrev S2x8448x16 : Shape := ⟨3, ![2, 8448, 16]⟩
abbrev S1x16x512 : Shape := ⟨3, ![1, 16, 512]⟩
abbrev S16x512 : Shape := ⟨2, ![16, 512]⟩
abbrev S1x512 : Shape := ⟨2, ![1, 512]⟩
abbrev S512 : Shape := ⟨1, ![512]⟩
abbrev S1x1x512 : Shape := ⟨3, ![1, 1, 512]⟩
abbrev S_ : Shape := ⟨0, ![]⟩
abbrev S2x8448x4x128 : Shape := ⟨4, ![2, 8448, 4, 128]⟩
abbrev S2x4x8448x128 : Shape := ⟨4, ![2, 4, 8448, 128]⟩
abbrev S2x4x128x256 : Shape := ⟨4, ![2, 4, 128, 256]⟩
abbrev S2x8448x4x256 : Shape := ⟨4, ![2, 8448, 4, 256]⟩
abbrev S2x4x8448x256 : Shape := ⟨4, ![2, 4, 8448, 256]⟩
abbrev S2x4x132x64x128 : Shape := ⟨5, ![2, 4, 132, 64, 128]⟩
abbrev S132x2x4x64x128 : Shape := ⟨5, ![132, 2, 4, 64, 128]⟩
abbrev S2x4x132x64x256 : Shape := ⟨5, ![2, 4, 132, 64, 256]⟩
abbrev S132x2x4x64x256 : Shape := ⟨5, ![132, 2, 4, 64, 256]⟩
abbrev S132x2x4x1x128 : Shape := ⟨5, ![132, 2, 4, 1, 128]⟩
abbrev S64x64 : Shape := ⟨2, ![64, 64]⟩
abbrev S1x2x4x64x128 : Shape := ⟨5, ![1, 2, 4, 64, 128]⟩
abbrev S2x4x64x128 : Shape := ⟨4, ![2, 4, 64, 128]⟩
abbrev S1x2x4x64x256 : Shape := ⟨5, ![1, 2, 4, 64, 256]⟩
abbrev S2x4x64x256 : Shape := ⟨4, ![2, 4, 64, 256]⟩
abbrev S1x2x4x1x128 : Shape := ⟨5, ![1, 2, 4, 1, 128]⟩
abbrev S2x4x1x128 : Shape := ⟨4, ![2, 4, 1, 128]⟩
abbrev S2x4x64x64 : Shape := ⟨4, ![2, 4, 64, 64]⟩
abbrev S2x4x128 : Shape := ⟨3, ![2, 4, 128]⟩
abbrev S2x4x128x1 : Shape := ⟨4, ![2, 4, 128, 1]⟩

abbrev nBuf : Space → Nat
  | .hbm => 155
  | .vmem => 0
  | .smem => 0
  | _ => 0

abbrev hbmTy0_0 (i : Nat) : BufTy := match i % 128 with
  | 0 => ⟨S2x8448x9984, .bf16⟩
  | 1 => ⟨S2x16x512, .f32⟩
  | 2 => ⟨S2x512, .f32⟩
  | 3 => ⟨S2x8448x512, .bf16⟩
  | 4 => ⟨S2x8448x512, .bf16⟩
  | 5 => ⟨S2x8448x1024, .bf16⟩
  | 6 => ⟨S2x8448x16, .bf16⟩
  | 7 => ⟨S2x8448x16, .f32⟩
  | 8 => ⟨S1x16x512, .f32⟩
  | 9 => ⟨S16x512, .f32⟩
  | 10 => ⟨S2x8448x512, .f32⟩
  | 11 => ⟨S1x512, .f32⟩
  | 12 => ⟨S512, .f32⟩
  | 13 => ⟨S1x1x512, .f32⟩
  | 14 => ⟨S2x8448x512, .f32⟩
  | 15 => ⟨S2x8448x512, .f32⟩
  | 16 => ⟨S2x8448x512, .f32⟩
  | 17 => ⟨S_, .f32⟩
  | 18 => ⟨S2x8448x512, .f32⟩
  | 19 => ⟨S2x8448x512, .f32⟩
  | 20 => ⟨S2x8448x512, .f32⟩
  | 21 => ⟨S2x8448x512, .f32⟩
  | 22 => ⟨S2x8448x512, .i1⟩
  | 23 => ⟨S2x8448x512, .f32⟩
  | 24 => ⟨S2x8448x512, .f32⟩
  | 25 => ⟨S2x8448x512, .f32⟩
  | 26 => ⟨S2x8448x512, .f32⟩
  | 27 => ⟨S2x8448x512, .f32⟩
  | 28 => ⟨S2x8448x512, .f32⟩
  | 29 => ⟨S2x8448x512, .f32⟩
  | 30 => ⟨S2x8448x512, .f32⟩
  | 31 => ⟨S2x8448x512, .f32⟩
  | 32 => ⟨S_, .f32⟩
  | 33 => ⟨S2x8448x512, .f32⟩
  | 34 => ⟨S2x8448x512, .f32⟩
  | 35 => ⟨S2x8448x4x128, .f32⟩
  | 36 => ⟨S2x4x8448x128, .f32⟩
  | 37 => ⟨S_, .f32⟩
  | 38 => ⟨S2x4x128x256, .f32⟩
  | 39 => ⟨S2x8448x4x128, .bf16⟩
  | 40 => ⟨S2x4x8448x128, .bf16⟩
  | 41 => ⟨S2x4x8448x128, .f32⟩
  | 42 => ⟨S_, .f32⟩
  | 43 => ⟨S2x4x8448x128, .f32⟩
  | 44 => ⟨S2x4x8448x128, .f32⟩
  | 45 => ⟨S2x8448x4x128, .bf16⟩
  | 46 => ⟨S2x4x8448x128, .bf16⟩
  | 47 => ⟨S2x4x8448x128, .f32⟩
  | 48 => ⟨S2x8448x4x256, .bf16⟩
  | 49 => ⟨S2x4x8448x256, .bf16⟩
  | 50 => ⟨S2x4x8448x256, .f32⟩
  | 51 => ⟨S2x4x132x64x128, .f32⟩
  | 52 => ⟨S132x2x4x64x128, .f32⟩
  | 53 => ⟨S2x4x132x64x128, .f32⟩
  | 54 => ⟨S132x2x4x64x128, .f32⟩
  | 55 => ⟨S2x4x132x64x256, .f32⟩
  | 56 => ⟨S132x2x4x64x256, .f32⟩
  | 57 => ⟨S2x4x132x64x128, .f32⟩
  | 58 => ⟨S132x2x4x64x128, .f32⟩
  | 59 => ⟨S_, .f32⟩
  | 60 => ⟨S_, .f32⟩
  | 61 => ⟨S132x2x4x64x128, .f32⟩
  | 62 => ⟨S132x2x4x1x128, .f32⟩
  | 63 => ⟨S132x2x4x64x128, .f32⟩
  | 64 => ⟨S132x2x4x64x128, .f32⟩
  | 65 => ⟨S132x2x4x64x128, .f32⟩
  | 66 => ⟨S132x2x4x64x128, .f32⟩
  | 67 => ⟨S132x2x4x64x128, .f32⟩
  | 68 => ⟨S132x2x4x64x128, .f32⟩
  | 69 => ⟨S132x2x4x64x128, .f32⟩
  | 70 => ⟨S132x2x4x64x128, .f32⟩
  | 71 => ⟨S132x2x4x64x128, .f32⟩
  | 72 => ⟨S_, .i1⟩
  | 73 => ⟨S64x64, .i1⟩
  | 74 => ⟨S64x64, .i32⟩
  | 75 => ⟨S_, .i32⟩
  | 76 => ⟨S64x64, .i32⟩
  | 77 => ⟨S64x64, .i32⟩
  | 78 => ⟨S64x64, .i32⟩
  | 79 => ⟨S64x64, .i1⟩
  | 80 => ⟨S_, .i1⟩
  | 81 => ⟨S64x64, .i1⟩
  | 82 => ⟨S64x64, .i1⟩
  | 83 => ⟨S_, .f32⟩
  | 84 => ⟨S132x2x4x64x256, .f32⟩
  | 85 => ⟨S_, .i32⟩
  | 86 => ⟨S132x2x4x64x128, .f32⟩
  | 87 => ⟨S132x2x4x64x128, .f32⟩
  | 88 => ⟨S132x2x4x64x128, .f32⟩
  | 89 => ⟨S132x2x4x64x256, .f32⟩
  | 90 => ⟨S132x2x4x1x128, .f32⟩
  | 91 => ⟨S64x64, .i1⟩
  | 92 => ⟨S_, .i32⟩
  | 93 => ⟨S2x4x128x256, .f32⟩
  | 94 => ⟨S132x2x4x64x256, .f32⟩
  | 95 => ⟨S_, .i32⟩
  | 96 => ⟨S_, .i1⟩
  | 97 => ⟨S_, .i32⟩
  | 98 => ⟨S_, .i32⟩
  | 99 => ⟨S_, .i32⟩
  | 100 => ⟨S_, .i32⟩
  | 101 => ⟨S1x2x4x64x128, .f32⟩
  | 102 => ⟨S2x4x64x128, .f32⟩
  | 103 => ⟨S_, .i32⟩
  | 104 => ⟨S_, .i32⟩
  | 105 => ⟨S_, .i32⟩
  | 106 => ⟨S_, .i32⟩
  | 107 => ⟨S1x2x4x64x128, .f32⟩
  | 108 => ⟨S2x4x64x128, .f32⟩
  | 109 => ⟨S_, .i32⟩
  | 110 => ⟨S_, .i32⟩
  | 111 => ⟨S_, .i32⟩
  | 112 => ⟨S_, .i32⟩
  | 113 => ⟨S1x2x4x64x128, .f32⟩
  | 114 => ⟨S2x4x64x128, .f32⟩
  | 115 => ⟨S_, .i32⟩
  | 116 => ⟨S_, .i32⟩
  | 117 => ⟨S_, .i32⟩
  | 118 => ⟨S_, .i32⟩
  | 119 => ⟨S1x2x4x64x256, .f32⟩
  | 120 => ⟨S2x4x64x256, .f32⟩
  | 121 => ⟨S_, .i32⟩
  | 122 => ⟨S_, .i32⟩
  | 123 => ⟨S_, .i32⟩
  | 124 => ⟨S_, .i32⟩
  | 125 => ⟨S1x2x4x1x128, .f32⟩
  | 126 => ⟨S2x4x1x128, .f32⟩
  | 127 => ⟨S2x4x64x64, .f32⟩
  | _ => ⟨S2x8448x9984, .bf16⟩

abbrev hbmTy0_1 (i : Nat) : BufTy := match i % 128 with
  | 0 => ⟨S_, .f32⟩
  | 1 => ⟨S_, .f32⟩
  | 2 => ⟨S2x4x64x64, .i1⟩
  | 3 => ⟨S2x4x64x64, .f32⟩
  | 4 => ⟨S2x4x64x64, .f32⟩
  | 5 => ⟨S2x4x64x256, .f32⟩
  | 6 => ⟨S2x4x64x256, .f32⟩
  | 7 => ⟨S2x4x64x256, .f32⟩
  | 8 => ⟨S2x4x128, .f32⟩
  | 9 => ⟨S2x4x128, .f32⟩
  | 10 => ⟨S2x4x128x1, .f32⟩
  | 11 => ⟨S2x4x128x256, .f32⟩
  | 12 => ⟨S2x4x128x256, .f32⟩
  | 13 => ⟨S2x4x128x256, .f32⟩
  | 14 => ⟨S2x4x128x256, .f32⟩
  | 15 => ⟨S1x2x4x64x256, .f32⟩
  | 16 => ⟨S_, .i32⟩
  | 17 => ⟨S_, .i32⟩
  | 18 => ⟨S_, .i32⟩
  | 19 => ⟨S_, .i32⟩
  | 20 => ⟨S132x2x4x64x256, .f32⟩
  | 21 => ⟨S_, .i32⟩
  | 22 => ⟨S_, .i32⟩
  | 23 => ⟨S2x4x132x64x256, .f32⟩
  | 24 => ⟨S2x4x8448x256, .f32⟩
  | 25 => ⟨S2x8448x4x256, .f32⟩
  | 26 => ⟨S2x8448x1024, .f32⟩
  | _ => ⟨S2x8448x9984, .bf16⟩

abbrev hbmTy (i : Nat) : BufTy := match i / 128 with
  | 0 => hbmTy0_0 i
  | 1 => hbmTy0_1 i
  | _ => ⟨S2x8448x9984, .bf16⟩

abbrev bufTy : (tb : Table) → Fin (tcTables nBuf tb) → BufTy
  | .hbm, ⟨i, _⟩ => hbmTy i
  | _, _ => ⟨S2x8448x9984, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_v14 : Ref sig .tc := ⟨.hbm, 30, rfl⟩
abbrev main_v15 : Ref sig .tc := ⟨.hbm, 31, rfl⟩
abbrev main_cst : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_0 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_1 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_call1_call0_cst : Ref sig .tc := ⟨.hbm, 59, rfl⟩
abbrev main_call1_call0_v0 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c : Ref sig .tc := ⟨.hbm, 72, rfl⟩
abbrev main_v51 : Ref sig .tc := ⟨.hbm, 73, rfl⟩
abbrev main_call2_v0 : Ref sig .tc := ⟨.hbm, 74, rfl⟩
abbrev main_call2_c : Ref sig .tc := ⟨.hbm, 75, rfl⟩
abbrev main_call2_v1 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_c_0 : Ref sig .tc := ⟨.hbm, 80, rfl⟩
abbrev main_call2_v5 : Ref sig .tc := ⟨.hbm, 81, rfl⟩
abbrev main_v52 : Ref sig .tc := ⟨.hbm, 82, rfl⟩
abbrev main_cst_2 : Ref sig .tc := ⟨.hbm, 83, rfl⟩
abbrev main_v53 : Ref sig .tc := ⟨.hbm, 84, rfl⟩
abbrev main_c_3 : Ref sig .tc := ⟨.hbm, 85, rfl⟩
abbrev main_v54_0 : Ref sig .tc := ⟨.hbm, 86, rfl⟩
abbrev main_v54_1 : Ref sig .tc := ⟨.hbm, 87, rfl⟩
abbrev main_v54_2 : Ref sig .tc := ⟨.hbm, 88, rfl⟩
abbrev main_v54_3 : Ref sig .tc := ⟨.hbm, 89, rfl⟩
abbrev main_v54_4 : Ref sig .tc := ⟨.hbm, 90, rfl⟩
abbrev main_v54_5 : Ref sig .tc := ⟨.hbm, 91, rfl⟩
abbrev main_v54_6 : Ref sig .tc := ⟨.hbm, 92, rfl⟩
abbrev main_v54_7 : Ref sig .tc := ⟨.hbm, 93, rfl⟩
abbrev main_v54_8 : Ref sig .tc := ⟨.hbm, 94, rfl⟩
abbrev main_while0c_c_12 : Ref sig .tc := ⟨.hbm, 95, rfl⟩
abbrev main_while0c_v59 : Ref sig .tc := ⟨.hbm, 96, rfl⟩
abbrev main_while0b_call3_c : Ref sig .tc := ⟨.hbm, 97, rfl⟩
abbrev main_while0b_call3_c_0 : Ref sig .tc := ⟨.hbm, 98, rfl⟩
abbrev main_while0b_call3_c_1 : Ref sig .tc := ⟨.hbm, 99, rfl⟩
abbrev main_while0b_call3_c_2 : Ref sig .tc := ⟨.hbm, 100, rfl⟩
abbrev main_while0b_call3_v0 : Ref sig .tc := ⟨.hbm, 101, rfl⟩
abbrev main_while0b_v59 : Ref sig .tc := ⟨.hbm, 102, rfl⟩
abbrev main_while0b_call4_c : Ref sig .tc := ⟨.hbm, 103, rfl⟩
abbrev main_while0b_call4_c_0 : Ref sig .tc := ⟨.hbm, 104, rfl⟩
abbrev main_while0b_call4_c_1 : Ref sig .tc := ⟨.hbm, 105, rfl⟩
abbrev main_while0b_call4_c_2 : Ref sig .tc := ⟨.hbm, 106, rfl⟩
abbrev main_while0b_call4_v0 : Ref sig .tc := ⟨.hbm, 107, rfl⟩
abbrev main_while0b_v60 : Ref sig .tc := ⟨.hbm, 108, rfl⟩
abbrev main_while0b_call5_c : Ref sig .tc := ⟨.hbm, 109, rfl⟩
abbrev main_while0b_call5_c_0 : Ref sig .tc := ⟨.hbm, 110, rfl⟩
abbrev main_while0b_call5_c_1 : Ref sig .tc := ⟨.hbm, 111, rfl⟩
abbrev main_while0b_call5_c_2 : Ref sig .tc := ⟨.hbm, 112, rfl⟩
abbrev main_while0b_call5_v0 : Ref sig .tc := ⟨.hbm, 113, rfl⟩
abbrev main_while0b_v61 : Ref sig .tc := ⟨.hbm, 114, rfl⟩
abbrev main_while0b_call6_c : Ref sig .tc := ⟨.hbm, 115, rfl⟩
abbrev main_while0b_call6_c_0 : Ref sig .tc := ⟨.hbm, 116, rfl⟩
abbrev main_while0b_call6_c_1 : Ref sig .tc := ⟨.hbm, 117, rfl⟩
abbrev main_while0b_call6_c_2 : Ref sig .tc := ⟨.hbm, 118, rfl⟩
abbrev main_while0b_call6_v0 : Ref sig .tc := ⟨.hbm, 119, rfl⟩
abbrev main_while0b_v62 : Ref sig .tc := ⟨.hbm, 120, rfl⟩
abbrev main_while0b_call7_c : Ref sig .tc := ⟨.hbm, 121, rfl⟩
abbrev main_while0b_call7_c_0 : Ref sig .tc := ⟨.hbm, 122, rfl⟩
abbrev main_while0b_call7_c_1 : Ref sig .tc := ⟨.hbm, 123, rfl⟩
abbrev main_while0b_call7_c_2 : Ref sig .tc := ⟨.hbm, 124, rfl⟩
abbrev main_while0b_call7_v0 : Ref sig .tc := ⟨.hbm, 125, rfl⟩
abbrev main_while0b_v63 : Ref sig .tc := ⟨.hbm, 126, rfl⟩
abbrev main_while0b_v64 : Ref sig .tc := ⟨.hbm, 127, rfl⟩
abbrev main_while0b_cst_12 : Ref sig .tc := ⟨.hbm, 128, rfl⟩
abbrev main_while0b_call8_v0 : Ref sig .tc := ⟨.hbm, 129, rfl⟩
abbrev main_while0b_call8_v1 : Ref sig .tc := ⟨.hbm, 130, rfl⟩
abbrev main_while0b_call8_v2 : Ref sig .tc := ⟨.hbm, 131, rfl⟩
abbrev main_while0b_v65 : Ref sig .tc := ⟨.hbm, 132, rfl⟩
abbrev main_while0b_v66 : Ref sig .tc := ⟨.hbm, 133, rfl⟩
abbrev main_while0b_v67 : Ref sig .tc := ⟨.hbm, 134, rfl⟩
abbrev main_while0b_v68 : Ref sig .tc := ⟨.hbm, 135, rfl⟩
abbrev main_while0b_v69 : Ref sig .tc := ⟨.hbm, 136, rfl⟩
abbrev main_while0b_v70 : Ref sig .tc := ⟨.hbm, 137, rfl⟩
abbrev main_while0b_v71 : Ref sig .tc := ⟨.hbm, 138, rfl⟩
abbrev main_while0b_v72 : Ref sig .tc := ⟨.hbm, 139, rfl⟩
abbrev main_while0b_v73 : Ref sig .tc := ⟨.hbm, 140, rfl⟩
abbrev main_while0b_v74 : Ref sig .tc := ⟨.hbm, 141, rfl⟩
abbrev main_while0b_v75 : Ref sig .tc := ⟨.hbm, 142, rfl⟩
abbrev main_while0b_call9_v0 : Ref sig .tc := ⟨.hbm, 143, rfl⟩
abbrev main_while0b_call9_c : Ref sig .tc := ⟨.hbm, 144, rfl⟩
abbrev main_while0b_call9_c_0 : Ref sig .tc := ⟨.hbm, 145, rfl⟩
abbrev main_while0b_call9_c_1 : Ref sig .tc := ⟨.hbm, 146, rfl⟩
abbrev main_while0b_call9_c_2 : Ref sig .tc := ⟨.hbm, 147, rfl⟩
abbrev main_while0b_v76 : Ref sig .tc := ⟨.hbm, 148, rfl⟩
abbrev main_while0b_c_13 : Ref sig .tc := ⟨.hbm, 149, rfl⟩
abbrev main_while0b_v77 : Ref sig .tc := ⟨.hbm, 150, rfl⟩
abbrev main_v55 : Ref sig .tc := ⟨.hbm, 151, rfl⟩
abbrev main_v56 : Ref sig .tc := ⟨.hbm, 152, rfl⟩
abbrev main_v57 : Ref sig .tc := ⟨.hbm, 153, rfl⟩
abbrev main_v58 : Ref sig .tc := ⟨.hbm, 154, rfl⟩

abbrev nD : Nat := 1
abbrev τ : Topo := Topo.v7x

variable {F : FTy → Type} [FloatOps F]

abbrev main_while0_count : Scf.Loop 32 := ⟨0#32, 132#32, 1#32⟩
-- ==== Proof.Common.lean ====
/- The normalization and modulation of a row of 1024 channels, which the projection, the merge and the feed-forward part share. -/
module

public import Idealize.ShloMosaic.Lib.Pointwise

@[expose] public section

noncomputable section

namespace Cert.Layer

open Idealize.ShloMosaic Idealize.SL.Sem

/-- The normalized row of 1024 channels: `x * rsqrt (mean of squares + eps) * gain`. -/
def rms (x g : Fin 1024 → EReal) (d : Fin 1024) : EReal :=
  x d * Ideal.rsqrt (Ideal.div (∑ k, x k * x k) (Ideal.ofBits .f32 0x44800000#32) + Ideal.ofBits .f32 0x358637BD#32) * g d

/-- The normalized row, scaled by one plus a scale and shifted. -/
def modrow (x g sc sh : Fin 1024 → EReal) (d : Fin 1024) : EReal :=
  rms x g d * (1 + sc d) + sh d

/-- The row of the modulation array that a position takes: 2 for the 256 context rows, the batch for the latent rows. -/
def modOf (b : Fin 2) (n : Fin 8448) : Fin 8 := if n.val < 256 then 2 else ⟨b.val, by omega⟩

end Cert.Layer

end
-- ==== Proof.InBlock.lean ====
/- What one block of the input projection writes: 256 rows, normalized, modulated and multiplied by the thirteen chunks of weights. -/
module

public import proofs.«01_k».proof.Proof.Gen.Kernel2Ideal.Frame
public import proofs.«01_k».proof.Proof.Common

@[expose] public section

set_option maxRecDepth 16384

noncomputable section

namespace Cert.Layer.In

open Idealize.ShloMosaic Idealize.SL.Sem Cert.Kernel2Ideal Cert.Kernel2Ideal.Gen Idealize.ShloMosaic.TcCoe

/-- The modulated rows of a block. -/
theorem pay2_apply (x : Vec Ideal S1x256x1024 .f32) (g : Vec Ideal S1x1024 .f32) (sc sh : Vec Ideal S1x1x1024 .f32) (r : Fin 256) (k : Fin 1024) :
    k0_pay2 (F := Ideal) x g sc sh (ix2 r k)
      = modrow (fun k => x (ix3 0 r k)) (fun k => g (ix2 0 k)) (fun k => sc (ix3 0 0 k)) (fun k => sh (ix3 0 0 k)) k := by
  pointwise [k0_pay2]
  rfl

/-- A chunk of the product: rows times one chunk of weights. -/
theorem pay4_apply (h : FVec Ideal S256x1024 .bf16) (w : Vec Ideal S1x1024x768 .bf16) (r : Fin 256) (k : Fin 768) :
    k0_pay4 (F := Ideal) h w (ix3 0 r k) = ∑ j, h (ix2 r j) * w (ix3 0 j k) := by
  pointwise [k0_pay4]

/-- The block's product with all thirteen chunks, side by side. -/
def product (h : FVec Ideal S256x1024 .bf16) (w : Vec Ideal S13x1024x768 .bf16) : Vec Ideal S1x256x9984 .bf16 := fun i =>
  ∑ j : Fin 1024, h (ix2 (n0 := 256) (n1 := 1024) (i 1) j) *
    w (ix3 (n0 := 13) (n1 := 1024) (n2 := 768) ⟨(i 2).val / 768, by have h : (i 2).val < 9984 := (i 2).isLt; omega⟩ j ⟨(i 2).val % 768, Nat.mod_lt _ (by decide)⟩)

/-- Chunk `n` of the product is the tile of columns `768 n` to `768 n + 767`. -/
theorem tile (h : FVec Ideal S256x1024 .bf16) (w : Vec Ideal S13x1024x768 .bf16) (n o : Nat) (ho : o = 768 * n) (hn : n < 13)
    (inbw : ∀ a, (![n, 0, 0] : Fin 3 → Nat) a + S1x1024x768.size a ≤ S13x1024x768.size a)
    (inbo : ∀ a, (![0, 0, o] : Fin 3 → Nat) a + S1x256x768.size a ≤ S1x256x9984.size a)
    (x : (Rect.unit (s := S1x256x9984) ![0, 0, o] S1x256x768.size inbo).shape.Idx) :
    k0_pay4 (F := Ideal) h (View.ld (Val := Elt Ideal) w (Rect.unit (s := S13x1024x768) ![n, 0, 0] S1x1024x768.size inbw)) x
      = product h w ((Rect.unit (s := S1x256x9984) ![0, 0, o] S1x256x768.size inbo).emb x) := by
  subst ho
  rw [show x = ix3 (n0 := 1) (n1 := 256) (n2 := 768) 0 (x 1) (x 2) from (ix3_eta (n0 := 1) (n1 := 256) (n2 := 768) x).symm.trans (congrArg (fun t => ix3 (n0 := 1) (n1 := 256) (n2 := 768) t (x 1) (x 2)) (Subsingleton.elim _ _))]
  generalize x 1 = r
  generalize x 2 = d
  change Fin 256 at r
  change Fin 768 at d
  have hd := d.isLt
  refine (pay4_apply h _ r d).trans ?_
  unfold product
  refine Finset.sum_congr rfl fun j _ => congrArg₂ (· * ·) (congrArg h (congrArg₂ ix2 (Fin.ext ?_) rfl)) (congrArg w ?_)
  · show r.val = 0 + 1 * r.val
    omega
  · refine (?_ : _ = ix3 (n0 := 13) (n1 := 1024) (n2 := 768) _ _ _)
    funext a
    refine Fin.ext ?_
    match a with
    | 0 => show n + 1 * 0 = (768 * n + 1 * d.val) / 768; omega
    | 1 => show 0 + 1 * j.val = j.val; omega
    | 2 => show 0 + 1 * d.val = (768 * n + 1 * d.val) % 768; omega

/-- A load of the whole of a block of rows. -/
theorem ld_rows (x : Vec Ideal S1x256x1024 .f32) : View.ld (Val := Elt Ideal) x r0_0 = x :=
  View.ld_unit_zero (S := S1x256x1024) (by funext a; fin_cases a <;> rfl) _ _

/-- A load of the whole gain. -/
theorem ld_gain (x : Vec Ideal S1x1024 .f32) : View.ld (Val := Elt Ideal) x r0_1 = x :=
  View.ld_unit_zero (S := S1x1024) (by funext a; fin_cases a <;> rfl) _ _

/-- A BLOCK'S OUTPUT is the product of the modulated rows with the weights. -/
theorem out_eq (x0 : Vec Ideal S1x256x1024 .f32) (x1 : Vec Ideal S1x1024 .f32) (x2 : Vec Ideal S1x6x1024 .f32) (x3 : Vec Ideal S13x1024x768 .bf16) :
    out0_4 (F := Ideal) x0 x1 x2 x3 = product (k0_pay16 (F := Ideal) x0 x1 x2 x3) x3 := by
  funext y
  unfold out0_4
  refine View.canon_apply_of_pieces _ _ ?_ y (cover0_4 _ _ _ _ _ _ _ _ _ _ _ _ _ y)
  simp only [List.forall_mem_cons]
  exact ⟨tile _ x3 12 9216 rfl (by decide) _ _, tile _ x3 11 8448 rfl (by decide) _ _, tile _ x3 10 7680 rfl (by decide) _ _,
    tile _ x3 9 6912 rfl (by decide) _ _, tile _ x3 8 6144 rfl (by decide) _ _, tile _ x3 7 5376 rfl (by decide) _ _,
    tile _ x3 6 4608 rfl (by decide) _ _, tile _ x3 5 3840 rfl (by decide) _ _, tile _ x3 4 3072 rfl (by decide) _ _,
    tile _ x3 3 2304 rfl (by decide) _ _, tile _ x3 2 1536 rfl (by decide) _ _, tile _ x3 1 768 rfl (by decide) _ _,
    tile _ x3 0 0 rfl (by decide) _ _, fun p hp => absurd hp List.not_mem_nil⟩

/-- A place of a block's output: the row, modulated, times a column of a chunk of weights. -/
theorem out_apply (x0 : Vec Ideal S1x256x1024 .f32) (x1 : Vec Ideal S1x1024 .f32) (x2 : Vec Ideal S1x6x1024 .f32) (x3 : Vec Ideal S13x1024x768 .bf16) (r : Fin 256) (k : Fin 9984) :
    out0_4 (F := Ideal) x0 x1 x2 x3 (ix3 0 r k)
      = ∑ j : Fin 1024, modrow (fun k => x0 (ix3 0 r k)) (fun k => x1 (ix2 0 k)) (fun k => x2 (ix3 0 1 k)) (fun k => x2 (ix3 0 0 k)) j
          * x3 (ix3 ⟨k.val / 768, by omega⟩ j ⟨k.val % 768, Nat.mod_lt _ (by decide)⟩) := by
  rw [out_eq]
  refine Finset.sum_congr rfl fun j _ => congrArg₂ (· * ·) ?_ rfl
  unfold k0_pay16
  rw [ld_rows, ld_gain]
  refine (pay2_apply x0 x1 _ _ r j).trans ?_
  have e1 : (fun k : Fin 1024 => View.ld (Val := Elt Ideal) x2 r0_2 (ix3 0 0 k)) = fun k => x2 (ix3 0 1 k) := by
    funext k; pointwise
  have e0 : (fun k : Fin 1024 => View.ld (Val := Elt Ideal) x2 r0_3 (ix3 0 0 k)) = fun k => x2 (ix3 0 0 k) := by
    funext k; pointwise
  exact congrArg₂ (fun a b => modrow (fun k => x0 (ix3 0 r k)) (fun k => x1 (ix2 0 k)) a b j) e1 e0

end Cert.Layer.In

end
-- ==== Proof.InSpec.lean ====
/- The input projection as one formula, and the order of its columns. -/
module

public import proofs.«01_k».proof.Proof.Common

@[expose] public section

noncomputable section

namespace Cert.Layer.In

open Idealize.ShloMosaic Idealize.SL.Sem

/-- The column of the projection weights that column `c` of the result takes: the gates, the gated linear attention, the queries, the recurrent branch, keys and values, and the decays. -/
def srcCol (c : ℕ) : ℕ :=
  if c < 3072 then c + 6688 else if c < 6144 then c - 3072 else if c < 7168 then c - 3040
  else if c < 9216 then c - 2528 else if c < 9728 then c - 5088 else c - 6656

theorem srcCol_lt (c : ℕ) (h : c < 9760) : srcCol c < 9760 := by
  unfold srcCol; split_ifs <;> omega

/-- Column `c` of a row of 9760 values laid out in the result's order, with zeros after them. -/
def arrange (f : Fin 9760 → EReal) (c : Fin 9984) : EReal :=
  if h : c.val < 9760 then f ⟨srcCol c.val, srcCol_lt _ h⟩ else 0

/-- The entry that a column of the arranged row takes. -/
theorem arrange_src (f : Fin 9760 → EReal) (c : Fin 9984) {k : ℕ} (hk : k < 9760) (hc : c.val < 9760) (h : k = srcCol c.val) : f ⟨k, hk⟩ = arrange f c := by
  subst h; unfold arrange; rw [dif_pos hc]

/-- A choice equals a value when both its sides do. -/
theorem dite_eq_of {α : Type} {p : Prop} [Decidable p] {a : p → α} {b : ¬p → α} {x : α} (h1 : ∀ h, a h = x) (h2 : ∀ h, b h = x) : dite p a b = x := by
  by_cases h : p
  · rw [dif_pos h]; exact h1 h
  · rw [dif_neg h]; exact h2 h

/-- The twelve slices of a row side by side, with zeros after them, are the row in the result's order. -/
theorem slices_eq (f : Fin 9760 → EReal) (c : Fin 9984) :
    (if h0 : c.val < 3072 then f ⟨6688 + c.val, by omega⟩
    else if h1 : c.val - 3072 < 512 then f ⟨c.val - 3072, by omega⟩
    else if h2 : c.val - 3072 - 512 < 512 then f ⟨512 + (c.val - 3072 - 512), by omega⟩
    else if h3 : c.val - 3072 - 512 - 512 < 1024 then f ⟨1024 + (c.val - 3072 - 512 - 512), by omega⟩
    else if h4 : c.val - 3072 - 512 - 512 - 1024 < 1024 then f ⟨2048 + (c.val - 3072 - 512 - 512 - 1024), by omega⟩
    else if h5 : c.val - 3072 - 512 - 512 - 1024 - 1024 < 1024 then f ⟨3104 + (c.val - 3072 - 512 - 512 - 1024 - 1024), by omega⟩
    else if h6 : c.val - 3072 - 512 - 512 - 1024 - 1024 - 1024 < 1024 then f ⟨4640 + (c.val - 3072 - 512 - 512 - 1024 - 1024 - 1024), by omega⟩
    else if h7 : c.val - 3072 - 512 - 512 - 1024 - 1024 - 1024 - 1024 < 1024 then f ⟨5664 + (c.val - 3072 - 512 - 512 - 1024 - 1024 - 1024 - 1024), by omega⟩
    else if h8 : c.val - 3072 - 512 - 512 - 1024 - 1024 - 1024 - 1024 - 1024 < 256 then f ⟨4128 + (c.val - 3072 - 512 - 512 - 1024 - 1024 - 1024 - 1024 - 1024), by omega⟩
    else if h9 : c.val - 3072 - 512 - 512 - 1024 - 1024 - 1024 - 1024 - 1024 - 256 < 256 then f ⟨4384 + (c.val - 3072 - 512 - 512 - 1024 - 1024 - 1024 - 1024 - 1024 - 256), by omega⟩
    else if h10 : c.val - 3072 - 512 - 512 - 1024 - 1024 - 1024 - 1024 - 1024 - 256 - 256 < 16 then f ⟨3072 + (c.val - 3072 - 512 - 512 - 1024 - 1024 - 1024 - 1024 - 1024 - 256 - 256), by omega⟩
    else if h11 : c.val - 3072 - 512 - 512 - 1024 - 1024 - 1024 - 1024 - 1024 - 256 - 256 - 16 < 16 then f ⟨3088 + (c.val - 3072 - 512 - 512 - 1024 - 1024 - 1024 - 1024 - 1024 - 256 - 256 - 16), by omega⟩
    else 0) = arrange f c := by
  have hc := c.isLt
  iterate 12 refine dite_eq_of (fun h => arrange_src f c _ (by omega) (by unfold srcCol; split_ifs <;> omega)) fun h => ?_
  unfold arrange
  rw [dif_neg (by omega)]

/-- The row of position `n`: a context row for the first 256 positions, a latent row after. -/
def rowOf (ctx : Fin 2 → Fin 256 → Fin 1024 → EReal) (x : Fin 2 → Fin 8192 → Fin 1024 → EReal) (b : Fin 2) (n : Fin 8448) (k : Fin 1024) : EReal :=
  if h : n.val < 256 then ctx b ⟨n.val, h⟩ k else x b ⟨n.val - 256, by omega⟩ k

/-- A place of the projection: the modulated row times a column of the arranged weights. -/
def project (ctx : Fin 2 → Fin 256 → Fin 1024 → EReal) (x : Fin 2 → Fin 8192 → Fin 1024 → EReal) (g : Fin 1024 → EReal) (mod : Fin 8 → Fin 6 → Fin 1024 → EReal)
    (w : Fin 1024 → Fin 9760 → EReal) (b : Fin 2) (n : Fin 8448) (c : Fin 9984) : EReal :=
  ∑ k : Fin 1024, modrow (rowOf ctx x b n) g (mod (modOf b n) 1) (mod (modOf b n) 0) k * arrange (w k) c

/-- Multiplying by arranged weights is arranging the products. -/
theorem sum_arrange (h : Fin 1024 → EReal) (w : Fin 1024 → Fin 9760 → EReal) (c : Fin 9984) :
    (∑ k, h k * arrange (w k) c) = arrange (fun j => ∑ k, h k * w k j) c := by
  unfold arrange
  by_cases hc : c.val < 9760
  · simp only [dif_pos hc]
  · simp only [dif_neg hc, mul_zero, Finset.sum_const_zero]

end Cert.Layer.In

end
-- ==== Proof.InArray.lean ====
/- What the input projection's result array holds. -/
module

public import proofs.«01_k».proof.Proof.Gen.Kernel2Ideal.Value
public import proofs.«01_k».proof.Proof.InBlock
public import proofs.«01_k».proof.Proof.InSpec
public import Idealize.ShloMosaic.Lib.StableHlo.ReadAt
public import Idealize.ShloMosaic.Lib.Pointwise
public import Idealize.ShloMosaic.Lib.Pipeline.ValueKit.Point

@[expose] public section

set_option maxRecDepth 16384

noncomputable section

namespace Cert.Layer.In

open Idealize.ShloMosaic Idealize.SL.Sem Cert.Kernel2Ideal Cert.Kernel2Ideal.Gen Cert.Kernel2Ideal.Value Idealize.ShloMosaic.TcCoe

variable (m : (ℓ : Loc nD τ sig) → Buf (Elt Ideal) ℓ)

/-- The grid coordinates of a point: batch and block of rows. -/
def tb (t : Fin cfg0.N) : Fin 2 := ⟨t.val / 33, by have h : t.val < 66 := t.isLt; omega⟩
def ti (t : Fin cfg0.N) : Fin 33 := ⟨t.val % 33, by omega⟩
/-- The row of the modulation array a point takes. -/
def tm (t : Fin cfg0.N) : Fin 8 := ⟨if t.val % 33 = 0 then 2 else t.val / 33, by have h : t.val < 66 := t.isLt; split <;> omega⟩

theorem idx0 : ∀ t : Fin cfg0.N, win0_0.index t = ![t.val / 33, t.val % 33, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![if t.val % 33 = 0 then 2 else t.val / 33, 0, 0] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![t.val / 33, t.val % 33, 0] := (by decide +kernel : ∀ t : Fin grid0.N, _)

/-- The block of rows staged at a point. -/
theorem x0_at (c : Dev nD) (t : Fin cfg0.N) (r : Fin 256) (k : Fin 1024) :
    (iblk m c 0 t : Vec Ideal S1x256x1024 .f32) (ix3 0 r k)
      = (V m c main_v0 : Vec Ideal S2x8448x1024 .f32) (ix3 (tb t) ⟨256 * (ti t).val + r.val, by have := (ti t).isLt; omega⟩ k) := by
  blk_simp [iblk]
  refine congrArg _ ?_
  unfold tb ti
  blk_ext [idx0]

/-- The gain. -/
theorem x1_at (c : Dev nD) (t : Fin cfg0.N) (k : Fin 1024) :
    (iblk m c 1 t : Vec Ideal S1x1024 .f32) (ix2 0 k) = (V m c main_v18 : Vec Ideal S1x1024 .f32) (ix2 0 k) := by
  blk_simp [iblk]
  refine congrArg _ ?_
  blk_ext [idx1]

/-- The modulation row staged at a point. -/
theorem x2_at (c : Dev nD) (t : Fin cfg0.N) (a : Fin 6) (k : Fin 1024) :
    (iblk m c 2 t : Vec Ideal S1x6x1024 .f32) (ix3 0 a k) = (V m c main_arg3 : Vec Ideal S8x6x1024 .f32) (ix3 (tm t) a k) := by
  blk_simp [iblk]
  refine congrArg _ ?_
  unfold tm
  blk_ext [idx2]

/-- The weights. -/
theorem x3_at (c : Dev nD) (t : Fin cfg0.N) (i : Fin 13) (j : Fin 1024) (k : Fin 768) :
    (iblk m c 3 t : Vec Ideal S13x1024x768 .bf16) (ix3 i j k) = (V m c main_v17 : Vec Ideal S13x1024x768 .bf16) (ix3 i j k) := by
  blk_simp [iblk]
  refine congrArg _ ?_
  blk_ext [idx3]

/-- The rows that the host code stacks are the context rows and then the latent rows. -/
theorem rows_at (c : Dev nD) (b : Fin 2) (n : Fin 8448) (k : Fin 1024) :
    (V m c main_v0 : Vec Ideal S2x8448x1024 .f32) (ix3 b n k)
      = rowOf (fun b n k => (m ((c : Thread nD τ).loc main_arg1) : Vec Ideal S2x256x1024 .f32) (ix3 b n k))
          (fun b n k => (m ((c : Thread nD τ).loc main_arg0) : Vec Ideal S2x8192x1024 .f32) (ix3 b n k)) b n k := by
  unfold V
  after_reads_at
  rfl

theorem gain_at (c : Dev nD) (k : Fin 1024) :
    (V m c main_v18 : Vec Ideal S1x1024 .f32) (ix2 0 k) = (m ((c : Thread nD τ).loc main_arg2) : Vec Ideal S1024 .f32) (ix1 k) := by
  unfold V
  after_reads_at

/-- The weights in the order of the result's columns: twelve slices of them side by side, and 224 columns of zeros. -/
def arrangedW (w : FVec Ideal S1024x9760 .f32) : FVec Ideal S1024x9984 .f32 :=
  concatenate S1024x9984 1 [⟨S1024x3072, extractStridedSlice S1024x3072 ![0, 6688] w slices_S1024x9760_S1024x3072_0_6688⟩, ⟨S1024x512, extractStridedSlice S1024x512 ![0, 0] w slices_S1024x9760_S1024x512_0_0⟩, ⟨S1024x512, extractStridedSlice S1024x512 ![0, 512] w slices_S1024x9760_S1024x512_0_512⟩, ⟨S1024x1024, extractStridedSlice S1024x1024 ![0, 1024] w slices_S1024x9760_S1024x1024_0_1024⟩, ⟨S1024x1024, extractStridedSlice S1024x1024 ![0, 2048] w slices_S1024x9760_S1024x1024_0_2048⟩, ⟨S1024x1024, extractStridedSlice S1024x1024 ![0, 3104] w slices_S1024x9760_S1024x1024_0_3104⟩, ⟨S1024x1024, extractStridedSlice S1024x1024 ![0, 4640] w slices_S1024x9760_S1024x1024_0_4640⟩, ⟨S1024x1024, extractStridedSlice S1024x1024 ![0, 5664] w slices_S1024x9760_S1024x1024_0_5664⟩, ⟨S1024x256, extractStridedSlice S1024x256 ![0, 4128] w slices_S1024x9760_S1024x256_0_4128⟩, ⟨S1024x256, extractStridedSlice S1024x256 ![0, 4384] w slices_S1024x9760_S1024x256_0_4384⟩, ⟨S1024x16, extractStridedSlice S1024x16 ![0, 3072] w slices_S1024x9760_S1024x16_0_3072⟩, ⟨S1024x16, extractStridedSlice S1024x16 ![0, 3088] w slices_S1024x9760_S1024x16_0_3088⟩,
    ⟨S1024x224, broadcastInDim S1024x224 ![] bcast_S_S1024x224 (constant S_ .f32 0x00000000#32)⟩] concatenates_S1024x3072_S1024x512_S1024x512_S1024x1024_S1024x1024_S1024x1024_S1024x1024_S1024x1024_S1024x256_S1024x256_S1024x16_S1024x16_S1024x224_S1024x9984_d1

/-- A place of the arranged weights. -/
theorem arrangedW_apply (w : FVec Ideal S1024x9760 .f32) (j : Fin 1024) (c : Fin 9984) :
    (arrangedW w (ix2 j c) : EReal) = arrange (fun k => w (ix2 j k)) c := by
  pointwise [arrangedW]
  exact slices_eq (fun k => w (ix2 j k)) c

/-- The host code cuts the arranged weights into thirteen chunks of 768 columns. -/
theorem chunks_eq (c : Dev nD) :
    (V m c main_v17 : Vec Ideal S13x1024x768 .bf16)
      = transpose S13x1024x768 [1, 0, 2] (shapeCast S1024x13x768 (truncf .bf16 (arrangedW (m ((c : Thread nD τ).loc main_arg4))) bitsLt_bf16_f32) shapeCasts_S1024x9984_S1024x13x768) transposes_S1024x13x768_S13x1024x768_1_0_2 := by
  have e : (V m c main_v17 : Vec Ideal S13x1024x768 .bf16)
      = transpose S13x1024x768 [1, 0, 2] (shapeCast S1024x13x768 (truncf .bf16 (concatenate S1024x9984 1 [⟨S1024x3072, (StableHlo.upto hostOps0 (fun b => m (c, b)) 15 (Proc.tc.devRef main_v12) : FVec Ideal S1024x3072 .f32)⟩, ⟨S1024x512, (StableHlo.upto hostOps0 (fun b => m (c, b)) 15 (Proc.tc.devRef main_v1) : FVec Ideal S1024x512 .f32)⟩, ⟨S1024x512, (StableHlo.upto hostOps0 (fun b => m (c, b)) 15 (Proc.tc.devRef main_v2) : FVec Ideal S1024x512 .f32)⟩, ⟨S1024x1024, (StableHlo.upto hostOps0 (fun b => m (c, b)) 15 (Proc.tc.devRef main_v3) : FVec Ideal S1024x1024 .f32)⟩, ⟨S1024x1024, (StableHlo.upto hostOps0 (fun b => m (c, b)) 15 (Proc.tc.devRef main_v4) : FVec Ideal S1024x1024 .f32)⟩, ⟨S1024x1024, (StableHlo.upto hostOps0 (fun b => m (c, b)) 15 (Proc.tc.devRef main_v7) : FVec Ideal S1024x1024 .f32)⟩, ⟨S1024x1024, (StableHlo.upto hostOps0 (fun b => m (c, b)) 15 (Proc.tc.devRef main_v10) : FVec Ideal S1024x1024 .f32)⟩, ⟨S1024x1024, (StableHlo.upto hostOps0 (fun b => m (c, b)) 15 (Proc.tc.devRef main_v11) : FVec Ideal S1024x1024 .f32)⟩, ⟨S1024x256, (StableHlo.upto hostOps0 (fun b => m (c, b)) 15 (Proc.tc.devRef main_v8) : FVec Ideal S1024x256 .f32)⟩, ⟨S1024x256, (StableHlo.upto hostOps0 (fun b => m (c, b)) 15 (Proc.tc.devRef main_v9) : FVec Ideal S1024x256 .f32)⟩, ⟨S1024x16, (StableHlo.upto hostOps0 (fun b => m (c, b)) 15 (Proc.tc.devRef main_v5) : FVec Ideal S1024x16 .f32)⟩, ⟨S1024x16, (StableHlo.upto hostOps0 (fun b => m (c, b)) 15 (Proc.tc.devRef main_v6) : FVec Ideal S1024x16 .f32)⟩, ⟨S1024x224, (StableHlo.upto hostOps0 (fun b => m (c, b)) 15 (Proc.tc.devRef main_v13) : FVec Ideal S1024x224 .f32)⟩] concatenates_S1024x3072_S1024x512_S1024x512_S1024x1024_S1024x1024_S1024x1024_S1024x1024_S1024x1024_S1024x256_S1024x256_S1024x16_S1024x16_S1024x224_S1024x9984_d1 : FVec Ideal S1024x9984 .f32) bitsLt_bf16_f32) shapeCasts_S1024x9984_S1024x13x768) transposes_S1024x13x768_S13x1024x768_1_0_2 := by
    unfold V
    after_reads_simp
    rfl
  rw [e]
  after_reads_simp
  rfl

/-- The weights that the host code prepares: column `768 i + k` of the arranged weights. -/
theorem weights_at (c : Dev nD) (i : Fin 13) (j : Fin 1024) (k : Fin 768) :
    (V m c main_v17 : Vec Ideal S13x1024x768 .bf16) (ix3 i j k)
      = arrange (fun col => (m ((c : Thread nD τ).loc main_arg4) : Vec Ideal S1024x9760 .f32) (ix2 j col)) ⟨768 * i.val + k.val, by omega⟩ := by
  rw [chunks_eq]
  refine Eq.trans ?_ (arrangedW_apply _ j _)
  generalize (arrangedW (m ((c : Thread nD τ).loc main_arg4)) : FVec Ideal S1024x9984 .f32) = w
  pointwise
  exact congrArg (fun k : Fin 9984 => w (ix2 j k)) (Fin.ext (by show i.val * 768 + k.val = 768 * i.val + k.val; omega))

/-- The output array as one function of the kernel's arguments. -/
def G (c : Dev nD) : Vec Ideal S2x8448x9984 .bf16 := fun i =>
  project (fun b n k => (m ((c : Thread nD τ).loc main_arg1) : Vec Ideal S2x256x1024 .f32) (ix3 b n k))
    (fun b n k => (m ((c : Thread nD τ).loc main_arg0) : Vec Ideal S2x8192x1024 .f32) (ix3 b n k))
    (fun k => (m ((c : Thread nD τ).loc main_arg2) : Vec Ideal S1024 .f32) (ix1 k))
    (fun r a k => (m ((c : Thread nD τ).loc main_arg3) : Vec Ideal S8x6x1024 .f32) (ix3 r a k))
    (fun k j => (m ((c : Thread nD τ).loc main_arg4) : Vec Ideal S1024x9760 .f32) (ix2 k j)) (i 0) (i 1) (i 2)

/-- The place of the output that a place of a point's block is. -/
theorem emb4 (t : Fin cfg0.N) (r : Fin 256) (k : Fin 9984) :
    ((cfg0.win 4).blk t).view.emb (ix3 (n0 := 1) (n1 := 256) (n2 := 9984) 0 r k)
      = (ix3 (tb t) ⟨256 * (ti t).val + r.val, by have := (ti t).isLt; omega⟩ k : S2x8448x9984.Idx) := by
  unfold tb ti
  blk_ext [idx4]

/-- A point's row of the modulation array is the one its positions take. -/
theorem tm_eq (t : Fin cfg0.N) (r : Fin 256) : tm t = modOf (tb t) ⟨256 * (ti t).val + r.val, by have := (ti t).isLt; omega⟩ := by
  unfold modOf
  refine Fin.ext ?_
  by_cases h : t.val % 33 = 0
  · rw [if_pos (show 256 * (ti t).val + r.val < 256 by have h' : (ti t).val = 0 := h; omega)]
    show (if t.val % 33 = 0 then 2 else t.val / 33) = 2
    rw [if_pos h]
  · rw [if_neg (show ¬ 256 * (ti t).val + r.val < 256 by have h' : (ti t).val ≠ 0 := h; omega)]
    show (if t.val % 33 = 0 then 2 else t.val / 33) = t.val / 33
    rw [if_neg h]

/-- THE RESULT ARRAY of the kernel is the projection, everywhere. -/
theorem final (c : Dev nD) : (dats m 0 c).arrAt 4 cfg0.N = G m c := by
  refine (dats m 0 c).arrAt_eq_of_covers 4 _ (by decide +kernel) fun t hf y => ?_
  obtain ⟨r, k, rfl⟩ : ∃ (r : Fin 256) (k : Fin 9984), y = (ix3 (n0 := 1) (n1 := 256) (n2 := 9984) 0 r k) :=
    ⟨y 1, y 2, ((ix3_eta (n0 := 1) (n1 := 256) (n2 := 9984) y).symm.trans (congrArg (fun t => ix3 (n0 := 1) (n1 := 256) (n2 := 9984) t (y 1) (y 2)) (Subsingleton.elim _ _)))⟩
  blk_simp
  rw [emb4, after0_4]
  refine (out_apply _ _ _ _ r k).trans ?_
  unfold G project
  refine Finset.sum_congr rfl fun j _ => congrArg₂ (· * ·) ?_ ?_
  · have e0 : (fun k : Fin 1024 => (iblk m c 0 t : Vec Ideal S1x256x1024 .f32) (ix3 0 r k)) = _ := funext fun k => (x0_at m c t r k).trans (rows_at m c _ _ k)
    have e1 : (fun k : Fin 1024 => (iblk m c 1 t : Vec Ideal S1x1024 .f32) (ix2 0 k)) = _ := funext fun k => (x1_at m c t k).trans (gain_at m c k)
    have e2 : ∀ a : Fin 6, (fun k : Fin 1024 => (iblk m c 2 t : Vec Ideal S1x6x1024 .f32) (ix3 0 a k))
        = fun k => (m ((c : Thread nD τ).loc main_arg3) : Vec Ideal S8x6x1024 .f32) (ix3 (tm t) a k) := fun a => funext fun k => by
      refine (x2_at m c t a k).trans ?_
      rw [V_main_arg3]
    rw [e0, e1, e2, e2, tm_eq t r]
    rfl
  · refine (x3_at m c t _ j _).trans ((weights_at m c _ j _).trans ?_)
    refine congrArg (arrange _) (Fin.ext ?_)
    show 768 * (k.val / 768) + k.val % 768 = k.val
    omega

end Cert.Layer.In

end
-- ==== Proof.InRef.lean ====
/- The reference's input projection: its stages as functions of arrays, read at an index, and its result. -/
module

public import proofs.«01_k».proof.Proof.Gen.Reference2Ideal.Run
public import Idealize.ShloMosaic.Lib.Pointwise
public import proofs.«01_k».proof.Proof.InSpec

@[expose] public section

set_option maxRecDepth 16384

noncomputable section

namespace Cert.Layer.In.Ref

open Idealize.ShloMosaic Idealize.SL.Sem Cert.Reference2Ideal Cert.Reference2Ideal.Gen Idealize.ShloMosaic.TcCoe Cert.Layer

/-- The context rows, normalized and modulated. -/
def ctxRow (ctx : FVec Ideal S2x256x1024 .f32) (g : FVec Ideal S1024 .f32) (mod : FVec Ideal S8x6x1024 .f32) : FVec Ideal S2x256x1024 .f32 :=
  have v6 : FVec Ideal S2x256x1024 .f32 := mulf ctx ctx
  have cst : FVec Ideal S_ .f32 := constant S_ .f32 0x00000000#32
  have v7 : FVec Ideal S2x256 .f32 := Host.reduceAdd v6 cst reducesTo_S2x256x1024_S2x256_d2 h_S_
  have v8 : FVec Ideal S2x256x1 .f32 := broadcastInDim S2x256x1 ![0, 1] bcast_S2x256_S2x256x1_0_1 v7
  have cst_0 : FVec Ideal S_ .f32 := constant S_ .f32 0x44800000#32
  have v9 : FVec Ideal S2x256x1 .f32 := broadcastInDim S2x256x1 ![] bcast_S_S2x256x1 cst_0
  have v10 : FVec Ideal S2x256x1 .f32 := Host.divf v8 v9
  have cst_1 : FVec Ideal S_ .f32 := constant S_ .f32 0x358637BD#32
  have v11 : FVec Ideal S2x256x1 .f32 := broadcastInDim S2x256x1 ![] bcast_S_S2x256x1 cst_1
  have v12 : FVec Ideal S2x256x1 .f32 := addf v10 v11
  have v13 : FVec Ideal S2x256x1 .f32 := Host.rsqrt v12
  have v14 : FVec Ideal S2x256x1024 .f32 := broadcastInDim S2x256x1024 ![0, 1, 2] bcast_S2x256x1_S2x256x1024_0_1_2 v13
  have v15 : FVec Ideal S2x256x1024 .f32 := mulf ctx v14
  have v16 : FVec Ideal S1x1x1024 .f32 := broadcastInDim S1x1x1024 ![2] bcast_S1024_S1x1x1024_2 g
  have v17 : FVec Ideal S2x256x1024 .f32 := broadcastInDim S2x256x1024 ![0, 1, 2] bcast_S1x1x1024_S2x256x1024_0_1_2 v16
  have v18 : FVec Ideal S2x256x1024 .f32 := mulf v15 v17
  have cst_2 : FVec Ideal S_ .f32 := constant S_ .f32 0x3F800000#32
  have v19 : FVec Ideal S1024 .f32 := broadcastInDim S1024 ![] bcast_S_S1024 cst_2
  have v4 : FVec Ideal S1x1x1024 .f32 := extractStridedSlice S1x1x1024 ![2, 1, 0] mod slices_S8x6x1024_S1x1x1024_2_1_0
  have v5 : FVec Ideal S1024 .f32 := shapeCast _ v4 shapeCasts_S1x1x1024_S1024
  have v20 : FVec Ideal S1024 .f32 := addf v19 v5
  have v21 : FVec Ideal S1x1x1024 .f32 := broadcastInDim S1x1x1024 ![2] bcast_S1024_S1x1x1024_2 v20
  have v22 : FVec Ideal S2x256x1024 .f32 := broadcastInDim S2x256x1024 ![0, 1, 2] bcast_S1x1x1024_S2x256x1024_0_1_2 v21
  have v23 : FVec Ideal S2x256x1024 .f32 := mulf v18 v22
  have v1 : FVec Ideal S1x1x1024 .f32 := extractStridedSlice S1x1x1024 ![2, 0, 0] mod slices_S8x6x1024_S1x1x1024_2_0_0
  have v2 : FVec Ideal S1024 .f32 := shapeCast _ v1 shapeCasts_S1x1x1024_S1024
  have v24 : FVec Ideal S1x1x1024 .f32 := broadcastInDim S1x1x1024 ![2] bcast_S1024_S1x1x1024_2 v2
  have v25 : FVec Ideal S2x256x1024 .f32 := broadcastInDim S2x256x1024 ![0, 1, 2] bcast_S1x1x1024_S2x256x1024_0_1_2 v24
  addf v23 v25

/-- The latent rows, normalized and modulated. -/
def latRow (x : FVec Ideal S2x8192x1024 .f32) (g : FVec Ideal S1024 .f32) (mod : FVec Ideal S8x6x1024 .f32) : FVec Ideal S2x8192x1024 .f32 :=
  have v42 : FVec Ideal S2x8192x1024 .f32 := mulf x x
  have cst_4 : FVec Ideal S_ .f32 := constant S_ .f32 0x00000000#32
  have v43 : FVec Ideal S2x8192 .f32 := Host.reduceAdd v42 cst_4 reducesTo_S2x8192x1024_S2x8192_d2 h_S_
  have v44 : FVec Ideal S2x8192x1 .f32 := broadcastInDim S2x8192x1 ![0, 1] bcast_S2x8192_S2x8192x1_0_1 v43
  have cst_5 : FVec Ideal S_ .f32 := constant S_ .f32 0x44800000#32
  have v45 : FVec Ideal S2x8192x1 .f32 := broadcastInDim S2x8192x1 ![] bcast_S_S2x8192x1 cst_5
  have v46 : FVec Ideal S2x8192x1 .f32 := Host.divf v44 v45
  have cst_6 : FVec Ideal S_ .f32 := constant S_ .f32 0x358637BD#32
  have v47 : FVec Ideal S2x8192x1 .f32 := broadcastInDim S2x8192x1 ![] bcast_S_S2x8192x1 cst_6
  have v48 : FVec Ideal S2x8192x1 .f32 := addf v46 v47
  have v49 : FVec Ideal S2x8192x1 .f32 := Host.rsqrt v48
  have v50 : FVec Ideal S2x8192x1024 .f32 := broadcastInDim S2x8192x1024 ![0, 1, 2] bcast_S2x8192x1_S2x8192x1024_0_1_2 v49
  have v51 : FVec Ideal S2x8192x1024 .f32 := mulf x v50
  have v52 : FVec Ideal S1x1x1024 .f32 := broadcastInDim S1x1x1024 ![2] bcast_S1024_S1x1x1024_2 g
  have v53 : FVec Ideal S2x8192x1024 .f32 := broadcastInDim S2x8192x1024 ![0, 1, 2] bcast_S1x1x1024_S2x8192x1024_0_1_2 v52
  have v54 : FVec Ideal S2x8192x1024 .f32 := mulf v51 v53
  have cst_7 : FVec Ideal S_ .f32 := constant S_ .f32 0x3F800000#32
  have v55 : FVec Ideal S2x1x1024 .f32 := broadcastInDim S2x1x1024 ![] bcast_S_S2x1x1024 cst_7
  have v3 : FVec Ideal S2x1x1024 .f32 := extractStridedSlice S2x1x1024 ![0, 1, 0] mod slices_S8x6x1024_S2x1x1024_0_1_0
  have v56 : FVec Ideal S2x1x1024 .f32 := addf v55 v3
  have v57 : FVec Ideal S2x8192x1024 .f32 := broadcastInDim S2x8192x1024 ![0, 1, 2] bcast_S2x1x1024_S2x8192x1024_0_1_2 v56
  have v58 : FVec Ideal S2x8192x1024 .f32 := mulf v54 v57
  have v0 : FVec Ideal S2x1x1024 .f32 := extractStridedSlice S2x1x1024 ![0, 0, 0] mod slices_S8x6x1024_S2x1x1024_0_0_0
  have v59 : FVec Ideal S2x8192x1024 .f32 := broadcastInDim S2x8192x1024 ![0, 1, 2] bcast_S2x1x1024_S2x8192x1024_0_1_2 v0
  addf v58 v59

/-- The context rows times the weights. -/
def ctxProj (h : FVec Ideal S2x256x1024 .f32) (w : FVec Ideal S1024x9760 .f32) : FVec Ideal S2x256x9760 .f32 :=
  Host.dotGeneral dot_S2x256x1024_S1024x9760_S2x256x9760_2_0_01_1_n_n none h w

/-- The latent rows times the weights. -/
def latProj (h : FVec Ideal S2x8192x1024 .f32) (w : FVec Ideal S1024x9760 .f32) : FVec Ideal S2x8192x9760 .f32 :=
  Host.dotGeneral dot_S2x8192x1024_S1024x9760_S2x8192x9760_2_0_01_1_n_n none h w

/-- The context projections in the result's order. -/
def ctxArr (p : FVec Ideal S2x256x9760 .f32) : FVec Ideal S2x256x9984 .f32 :=
  have v39 : FVec Ideal S2x256x3072 .f32 := extractStridedSlice S2x256x3072 ![0, 0, 6688] p slices_S2x256x9760_S2x256x3072_0_0_6688
  have v28 : FVec Ideal S2x256x512 .f32 := extractStridedSlice S2x256x512 ![0, 0, 0] p slices_S2x256x9760_S2x256x512_0_0_0
  have v29 : FVec Ideal S2x256x512 .f32 := extractStridedSlice S2x256x512 ![0, 0, 512] p slices_S2x256x9760_S2x256x512_0_0_512
  have v30 : FVec Ideal S2x256x1024 .f32 := extractStridedSlice S2x256x1024 ![0, 0, 1024] p slices_S2x256x9760_S2x256x1024_0_0_1024
  have v31 : FVec Ideal S2x256x1024 .f32 := extractStridedSlice S2x256x1024 ![0, 0, 2048] p slices_S2x256x9760_S2x256x1024_0_0_2048
  have v34 : FVec Ideal S2x256x1024 .f32 := extractStridedSlice S2x256x1024 ![0, 0, 3104] p slices_S2x256x9760_S2x256x1024_0_0_3104
  have v37 : FVec Ideal S2x256x1024 .f32 := extractStridedSlice S2x256x1024 ![0, 0, 4640] p slices_S2x256x9760_S2x256x1024_0_0_4640
  have v38 : FVec Ideal S2x256x1024 .f32 := extractStridedSlice S2x256x1024 ![0, 0, 5664] p slices_S2x256x9760_S2x256x1024_0_0_5664
  have v35 : FVec Ideal S2x256x256 .f32 := extractStridedSlice S2x256x256 ![0, 0, 4128] p slices_S2x256x9760_S2x256x256_0_0_4128
  have v36 : FVec Ideal S2x256x256 .f32 := extractStridedSlice S2x256x256 ![0, 0, 4384] p slices_S2x256x9760_S2x256x256_0_0_4384
  have v32 : FVec Ideal S2x256x16 .f32 := extractStridedSlice S2x256x16 ![0, 0, 3072] p slices_S2x256x9760_S2x256x16_0_0_3072
  have v33 : FVec Ideal S2x256x16 .f32 := extractStridedSlice S2x256x16 ![0, 0, 3088] p slices_S2x256x9760_S2x256x16_0_0_3088
  have cst_3 : FVec Ideal S_ .f32 := constant S_ .f32 0x00000000#32
  have v40 : FVec Ideal S2x256x224 .f32 := broadcastInDim S2x256x224 ![] bcast_S_S2x256x224 cst_3
  concatenate S2x256x9984 2 [⟨S2x256x3072, v39⟩, ⟨S2x256x512, v28⟩, ⟨S2x256x512, v29⟩, ⟨S2x256x1024, v30⟩, ⟨S2x256x1024, v31⟩, ⟨S2x256x1024, v34⟩, ⟨S2x256x1024, v37⟩, ⟨S2x256x1024, v38⟩, ⟨S2x256x256, v35⟩, ⟨S2x256x256, v36⟩, ⟨S2x256x16, v32⟩, ⟨S2x256x16, v33⟩, ⟨S2x256x224, v40⟩] concatenates_S2x256x3072_S2x256x512_S2x256x512_S2x256x1024_S2x256x1024_S2x256x1024_S2x256x1024_S2x256x1024_S2x256x256_S2x256x256_S2x256x16_S2x256x16_S2x256x224_S2x256x9984_d2

/-- The latent projections in the result's order. -/
def latArr (p : FVec Ideal S2x8192x9760 .f32) : FVec Ideal S2x8192x9984 .f32 :=
  have v73 : FVec Ideal S2x8192x3072 .f32 := extractStridedSlice S2x8192x3072 ![0, 0, 6688] p slices_S2x8192x9760_S2x8192x3072_0_0_6688
  have v62 : FVec Ideal S2x8192x512 .f32 := extractStridedSlice S2x8192x512 ![0, 0, 0] p slices_S2x8192x9760_S2x8192x512_0_0_0
  have v63 : FVec Ideal S2x8192x512 .f32 := extractStridedSlice S2x8192x512 ![0, 0, 512] p slices_S2x8192x9760_S2x8192x512_0_0_512
  have v64 : FVec Ideal S2x8192x1024 .f32 := extractStridedSlice S2x8192x1024 ![0, 0, 1024] p slices_S2x8192x9760_S2x8192x1024_0_0_1024
  have v65 : FVec Ideal S2x8192x1024 .f32 := extractStridedSlice S2x8192x1024 ![0, 0, 2048] p slices_S2x8192x9760_S2x8192x1024_0_0_2048
  have v68 : FVec Ideal S2x8192x1024 .f32 := extractStridedSlice S2x8192x1024 ![0, 0, 3104] p slices_S2x8192x9760_S2x8192x1024_0_0_3104
  have v71 : FVec Ideal S2x8192x1024 .f32 := extractStridedSlice S2x8192x1024 ![0, 0, 4640] p slices_S2x8192x9760_S2x8192x1024_0_0_4640
  have v72 : FVec Ideal S2x8192x1024 .f32 := extractStridedSlice S2x8192x1024 ![0, 0, 5664] p slices_S2x8192x9760_S2x8192x1024_0_0_5664
  have v69 : FVec Ideal S2x8192x256 .f32 := extractStridedSlice S2x8192x256 ![0, 0, 4128] p slices_S2x8192x9760_S2x8192x256_0_0_4128
  have v70 : FVec Ideal S2x8192x256 .f32 := extractStridedSlice S2x8192x256 ![0, 0, 4384] p slices_S2x8192x9760_S2x8192x256_0_0_4384
  have v66 : FVec Ideal S2x8192x16 .f32 := extractStridedSlice S2x8192x16 ![0, 0, 3072] p slices_S2x8192x9760_S2x8192x16_0_0_3072
  have v67 : FVec Ideal S2x8192x16 .f32 := extractStridedSlice S2x8192x16 ![0, 0, 3088] p slices_S2x8192x9760_S2x8192x16_0_0_3088
  have cst_8 : FVec Ideal S_ .f32 := constant S_ .f32 0x00000000#32
  have v74 : FVec Ideal S2x8192x224 .f32 := broadcastInDim S2x8192x224 ![] bcast_S_S2x8192x224 cst_8
  concatenate S2x8192x9984 2 [⟨S2x8192x3072, v73⟩, ⟨S2x8192x512, v62⟩, ⟨S2x8192x512, v63⟩, ⟨S2x8192x1024, v64⟩, ⟨S2x8192x1024, v65⟩, ⟨S2x8192x1024, v68⟩, ⟨S2x8192x1024, v71⟩, ⟨S2x8192x1024, v72⟩, ⟨S2x8192x256, v69⟩, ⟨S2x8192x256, v70⟩, ⟨S2x8192x16, v66⟩, ⟨S2x8192x16, v67⟩, ⟨S2x8192x224, v74⟩] concatenates_S2x8192x3072_S2x8192x512_S2x8192x512_S2x8192x1024_S2x8192x1024_S2x8192x1024_S2x8192x1024_S2x8192x1024_S2x8192x256_S2x8192x256_S2x8192x16_S2x8192x16_S2x8192x224_S2x8192x9984_d2

/-- The context rows and then the latent rows. -/
def stacked (p : FVec Ideal S2x256x9984 .f32) (q : FVec Ideal S2x8192x9984 .f32) : FVec Ideal S2x8448x9984 .bf16 :=
  have v76 : FVec Ideal S2x8448x9984 .f32 := concatenate S2x8448x9984 1 [⟨S2x256x9984, p⟩, ⟨S2x8192x9984, q⟩] concatenates_S2x256x9984_S2x8192x9984_S2x8448x9984_d1
  truncf .bf16 v76 bitsLt_bf16_f32

/-- The reference's result as the composition of its stages. -/
def out (x : FVec Ideal S2x8192x1024 .f32) (ctx : FVec Ideal S2x256x1024 .f32) (g : FVec Ideal S1024 .f32) (mod : FVec Ideal S8x6x1024 .f32) (w : FVec Ideal S1024x9760 .f32) : FVec Ideal S2x8448x9984 .bf16 :=
  stacked (ctxArr (ctxProj (ctxRow ctx g mod) w)) (latArr (latProj (latRow x g mod) w))

/-- A context row's entry. -/
theorem ctxRow_apply (ctx : FVec Ideal S2x256x1024 .f32) (g : FVec Ideal S1024 .f32) (mod : FVec Ideal S8x6x1024 .f32) (b : Fin 2) (n : Fin 256) (k : Fin 1024) :
    (ctxRow ctx g mod (ix3 b n k) : EReal) = modrow (fun k => ctx (ix3 b n k)) (fun k => g (ix1 k)) (fun k => mod (ix3 2 1 k)) (fun k => mod (ix3 2 0 k)) k := by
  pointwise [ctxRow]
  rfl

/-- A latent row's entry. -/
theorem latRow_apply (x : FVec Ideal S2x8192x1024 .f32) (g : FVec Ideal S1024 .f32) (mod : FVec Ideal S8x6x1024 .f32) (b : Fin 2) (n : Fin 8192) (k : Fin 1024) :
    (latRow x g mod (ix3 b n k) : EReal) = modrow (fun k => x (ix3 b n k)) (fun k => g (ix1 k)) (fun k => mod (ix3 ⟨b.val, by omega⟩ 1 k)) (fun k => mod (ix3 ⟨b.val, by omega⟩ 0 k)) k := by
  pointwise [latRow]
  rfl

/-- A place of a context row's product with the weights. -/
theorem ctxProj_apply (h : FVec Ideal S2x256x1024 .f32) (w : FVec Ideal S1024x9760 .f32) (b : Fin 2) (n : Fin 256) (c : Fin 9760) :
    (ctxProj h w (ix3 b n c) : EReal) = ∑ k, h (ix3 b n k) * w (ix2 k c) := by
  pointwise [ctxProj]

/-- A place of a latent row's product with the weights. -/
theorem latProj_apply (h : FVec Ideal S2x8192x1024 .f32) (w : FVec Ideal S1024x9760 .f32) (b : Fin 2) (n : Fin 8192) (c : Fin 9760) :
    (latProj h w (ix3 b n c) : EReal) = ∑ k, h (ix3 b n k) * w (ix2 k c) := by
  pointwise [latProj]

/-- A context row in the result's order. -/
theorem ctxArr_apply (p : FVec Ideal S2x256x9760 .f32) (b : Fin 2) (n : Fin 256) (c : Fin 9984) :
    (ctxArr p (ix3 b n c) : EReal) = arrange (fun j => p (ix3 b n j)) c := by
  pointwise [ctxArr]
  exact slices_eq (fun j => p (ix3 b n j)) c

/-- A latent row in the result's order. -/
theorem latArr_apply (p : FVec Ideal S2x8192x9760 .f32) (b : Fin 2) (n : Fin 8192) (c : Fin 9984) :
    (latArr p (ix3 b n c) : EReal) = arrange (fun j => p (ix3 b n j)) c := by
  pointwise [latArr]
  exact slices_eq (fun j => p (ix3 b n j)) c

/-- Row `n` of the result. -/
theorem stacked_apply (p : FVec Ideal S2x256x9984 .f32) (q : FVec Ideal S2x8192x9984 .f32) (b : Fin 2) (n : Fin 8448) (c : Fin 9984) :
    (stacked p q (ix3 b n c) : EReal) = if h : n.val < 256 then p (ix3 b ⟨n.val, h⟩ c) else q (ix3 b ⟨n.val - 256, by omega⟩ c) := by
  pointwise [stacked]

/-- THE REFERENCE'S RESULT is the projection, at every place. -/
theorem out_apply (x : FVec Ideal S2x8192x1024 .f32) (ctx : FVec Ideal S2x256x1024 .f32) (g : FVec Ideal S1024 .f32) (mod : FVec Ideal S8x6x1024 .f32) (w : FVec Ideal S1024x9760 .f32)
    (b : Fin 2) (n : Fin 8448) (c : Fin 9984) :
    (out x ctx g mod w (ix3 b n c) : EReal) = project (fun b n k => ctx (ix3 b n k)) (fun b n k => x (ix3 b n k)) (fun k => g (ix1 k)) (fun r a k => mod (ix3 r a k)) (fun k j => w (ix2 k j)) b n c := by
  unfold out project
  rw [stacked_apply, sum_arrange]
  by_cases h : n.val < 256
  · have hm : modOf b n = 2 := by unfold modOf; rw [if_pos h]
    have hr : rowOf (fun b n k => ctx (ix3 b n k)) (fun b n k => x (ix3 b n k)) b n = fun k => ctx (ix3 b ⟨n.val, h⟩ k) := by
      funext k; unfold rowOf; rw [dif_pos h]
    rw [dif_pos h, ctxArr_apply, hm, hr]
    simp only [ctxProj_apply, ctxRow_apply]
  · have hm : modOf b n = ⟨b.val, by omega⟩ := by unfold modOf; rw [if_neg h]
    have hr : rowOf (fun b n k => ctx (ix3 b n k)) (fun b n k => x (ix3 b n k)) b n = fun k => x (ix3 b ⟨n.val - 256, by omega⟩ k) := by
      funext k; unfold rowOf; rw [dif_neg h]
    rw [dif_neg h, latArr_apply, hm, hr]
    simp only [latProj_apply, latRow_apply]

set_option maxHeartbeats 4000000 in
/-- The run's result term is the composition of the stages. -/
theorem res_eq (m : (ℓ : Loc nD τ sig) → Buf (Elt Ideal) ℓ) (c : Dev nD) :
    Cert.Reference2Ideal.Value.res_main_v77 m c = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold Cert.Reference2Ideal.Value.res_main_v77
  rfl

end Cert.Layer.In.Ref

end
-- ==== Proof.InClaim.lean ====
/- The claims about the input projection: its reference's frame, and that the kernel and the reference return the same array. -/
module

public import proofs.«01_k».proof.Defs
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import Idealize.ShloMosaic.Adequacy
public import Idealize.ShloMosaic.Init
public import proofs.«01_k».proof.Proof.InArray
public import proofs.«01_k».proof.Proof.InRef

@[expose] public section

set_option maxRecDepth 16384

noncomputable section

namespace Cert.Layer.In

open Idealize.ShloMosaic Idealize.SL.Sem

/-- The reference runs, leaves its arguments unchanged, and declares no semaphore. -/
theorem frame_reference (m : (ℓ : Loc Cert.Reference2Ideal.nD Cert.Reference2Ideal.τ Cert.Reference2Ideal.sig) → Buf (Elt Ideal) ℓ) (ρ : Dev Cert.Reference2Ideal.nD → PrngReg) :
    θ_run (Cert.Reference2Ideal.defs (F := Ideal)) (onTc (τ := Cert.Reference2Ideal.τ) (Cert.Reference2Ideal.main (F := Ideal))) ⟨m, fun _ => 0, ρ⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0) :=
  (θ_run Cert.Reference2Ideal.defs _ _).mono (fun r h => ⟨fun c => (h c).2, sem_eq_zero_of_no_sems (by decide) r.2⟩)
    (Cert.Reference2Ideal.Value.run (F := Ideal) m ρ)

/-- The kernel's output array is the reference's result of the same arguments. -/
theorem value_eq (m : (ℓ : Loc Cert.Kernel2Ideal.nD Cert.Kernel2Ideal.τ Cert.Kernel2Ideal.sig) → Buf (Elt Ideal) ℓ) (c : Dev Cert.Kernel2Ideal.nD) :
    Ref.out (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) = G m c := by
  funext i
  obtain ⟨b, n, k, rfl⟩ : ∃ b n k, i = ix3 (n0 := 2) (n1 := 8448) (n2 := 9984) b n k := ⟨i 0, i 1, i 2, (ix3_eta (n0 := 2) (n1 := 8448) (n2 := 9984) i).symm⟩
  exact Ref.out_apply _ _ _ _ _ b n k

/-- THE VALUE CLAIM: from equal arguments, kernel and reference run and return the same array. -/
theorem algebraic : Cert.algebraic_Kernel2Ideal_Reference2Ideal (hKernel2Ideal := Cert.Kernel2Ideal.Gen.facts) (hReference2Ideal := Cert.Reference2Ideal.Gen.facts) := by
  intro m g m' g' _ hargs
  refine ⟨fun c => G m c, ?_, ?_⟩
  · refine (θ_run (Cert.Kernel2Ideal.defs (F := Ideal)) _ _).mono (fun r h c => ?_) (Cert.Kernel2Ideal.Value.run_blocks m g)
    obtain ⟨hv, h0, h1, h2, h3, h4⟩ := h c
    exact ⟨hv.trans (final m c), h0, h1, h2, h3, h4⟩
  · refine (θ_run (Cert.Reference2Ideal.defs (F := Ideal)) _ _).mono (fun r h c => ?_) (Cert.Reference2Ideal.Value.run (F := Ideal) m' g')
    obtain ⟨hv, h0, h1, h2, h3, h4⟩ := h c
    refine ⟨hv.trans ?_, h0, h1, h2, h3, h4⟩
    obtain ⟨e0, e1, e2, e3, e4⟩ := hargs c
    rw [Ref.res_eq, e0, e1, e2, e3, e4]
    exact value_eq m c

end Cert.Layer.In

end
-- ==== Proof.MergeSpec.lean ====
/- The merge of the three branches as one formula: for each row, the branches' products with their weights, each scaled by the sigmoid of its
   gate, summed, multiplied by the output weights, normalized, scaled by a row of the modulation array and added to the row. -/
module

public import proofs.«01_k».proof.Proof.Common

@[expose] public section

noncomputable section

namespace Cert.Layer

open Idealize.ShloMosaic

/-- The logistic function. -/
def sigm (x : EReal) : EReal := Ideal.div 1 (1 + Ideal.exp (-x))

/-- The row plus its modulated update. -/
def residual (x mg y g : Fin 1024 → EReal) (d : Fin 1024) : EReal := x d + mg d * rms y g d

end Cert.Layer

namespace Cert.Layer.Merge

open Idealize.ShloMosaic

/-- One branch's part of the mixture. -/
def term (gate br : Fin 1024 → EReal) (w : Fin 1024 → Fin 1024 → EReal) (d : Fin 1024) : EReal :=
  sigm (gate d) * ∑ j, br j * w j d

/-- The mixture of the three branches, times the output weights. -/
def mixedOut (g0 g1 g2 b0 b1 b2 : Fin 1024 → EReal) (w0 w1 w2 wo : Fin 1024 → Fin 1024 → EReal) (e : Fin 1024) : EReal :=
  ∑ d, (term g0 b0 w0 d + term g1 b1 w1 d + term g2 b2 w2 d) * wo d e

/-- A place of the merge's result. -/
def merge (gla att lru x : Fin 2 → Fin 8448 → Fin 1024 → EReal) (p : Fin 2 → Fin 8448 → Fin 9984 → EReal) (mod : Fin 8 → Fin 6 → Fin 1024 → EReal)
    (g : Fin 1024 → EReal) (wb : Fin 3 → Fin 1024 → Fin 1024 → EReal) (wo : Fin 1024 → Fin 1024 → EReal) (b : Fin 2) (n : Fin 8448) (e : Fin 1024) : EReal :=
  residual (x b n) (mod (modOf b n) 2)
    (mixedOut (fun d => p b n ⟨d.val, by omega⟩) (fun d => p b n ⟨1024 + d.val, by omega⟩) (fun d => p b n ⟨2048 + d.val, by omega⟩)
      (gla b n) (att b n) (lru b n) (wb 0) (wb 1) (wb 2) wo) g e

end Cert.Layer.Merge

end
-- ==== Proof.FfnSpec.lean ====
/- The feed-forward part as one formula: each row normalized and modulated, multiplied by the first weights, filtered along the sequence with
   three taps, gated, multiplied by the second weights, normalized, scaled by a row of the modulation array and added to the row. The context
   rows and the latent rows are filtered apart: a tap that falls outside its part reads zero. -/
module

public import proofs.«01_k».proof.Proof.MergeSpec

@[expose] public section

noncomputable section

namespace Cert.Layer.Ffn

open Idealize.ShloMosaic

/-- The filter at one place: the three neighbours times the taps, plus the bias. -/
def taps (p q r w0 w1 w2 bias : EReal) : EReal := p * w0 + q * w1 + r * w2 + bias

/-- The filter of equal neighbours and taps. -/
theorem taps_congr {p q r a b c d p' q' r' a' b' c' d' : EReal} (hp : p = p') (hq : q = q') (hr : r = r') (ha : a = a') (hb : b = b') (hc : c = c') (hd : d = d') :
    taps p q r a b c d = taps p' q' r' a' b' c' d' := by
  rw [hp, hq, hr, ha, hb, hc, hd]

/-- The gated product. -/
def gated (g v : EReal) : EReal := g * sigm g * v

/-- A gated row times the second weights. -/
def down (a : Fin 2816 → EReal) (w : Fin 2816 → Fin 1024 → EReal) (e : Fin 1024) : EReal := ∑ d, a d * w d e

/-- Row `n`, normalized and modulated, times column `c` of the first weights. -/
def up (x : Fin 2 → Fin 8448 → Fin 1024 → EReal) (mod : Fin 8 → Fin 6 → Fin 1024 → EReal) (g : Fin 1024 → EReal) (w : Fin 1024 → Fin 5632 → EReal)
    (b : Fin 2) (n : Fin 8448) (c : Fin 5632) : EReal :=
  ∑ j, modrow (x b n) g (mod (modOf b n) 4) (mod (modOf b n) 3) j * w j c

/-- The row before row `n` in its part, or zero. -/
def before (u : Fin 8448 → EReal) (n : Fin 8448) : EReal :=
  if n.val = 0 ∨ n.val = 256 then 0 else u ⟨n.val - 1, by omega⟩

/-- The row after row `n` in its part, or zero. -/
def after (u : Fin 8448 → EReal) (n : Fin 8448) : EReal :=
  if h : n.val = 255 ∨ n.val = 8447 then 0 else u ⟨n.val + 1, by omega⟩

/-- Column `c` of the filtered rows. -/
def conv (u : Fin 8448 → Fin 5632 → EReal) (cw : Fin 3 → Fin 5632 → EReal) (cb : Fin 5632 → EReal) (n : Fin 8448) (c : Fin 5632) : EReal :=
  taps (before (fun n => u n c) n) (u n c) (after (fun n => u n c) n) (cw 0 c) (cw 1 c) (cw 2 c) (cb c)

/-- A place of the gated rows. -/
def act (u : Fin 8448 → Fin 5632 → EReal) (cw : Fin 3 → Fin 5632 → EReal) (cb : Fin 5632 → EReal) (n : Fin 8448) (d : Fin 2816) : EReal :=
  gated (conv u cw cb n ⟨d.val, by omega⟩) (conv u cw cb n ⟨2816 + d.val, by omega⟩)

/-- A place of the feed-forward part's result. -/
def ffn (x : Fin 2 → Fin 8448 → Fin 1024 → EReal) (mod : Fin 8 → Fin 6 → Fin 1024 → EReal) (g gp : Fin 1024 → EReal) (w : Fin 1024 → Fin 5632 → EReal)
    (cw : Fin 3 → Fin 5632 → EReal) (cb : Fin 5632 → EReal) (wd : Fin 2816 → Fin 1024 → EReal) (b : Fin 2) (n : Fin 8448) (e : Fin 1024) : EReal :=
  residual (x b n) (mod (modOf b n) 5) (down (act (up x mod g w b) cw cb n) wd) gp e

end Cert.Layer.Ffn

end
-- ==== Proof.FfnChunk.lean ====
/- What one chunk of the feed-forward part's inner columns holds, and the rows it is computed from: 256 rows with the last row before them and
   the first row after them. -/
module

public import proofs.«01_k».proof.Proof.Gen.Kernel3Ideal.Frame
public import proofs.«01_k».proof.Proof.FfnSpec

@[expose] public section

set_option maxRecDepth 16384

noncomputable section

namespace Cert.Layer.Ffn

open Idealize.ShloMosaic Idealize.SL.Sem Cert.Kernel3Ideal Cert.Kernel3Ideal.Gen Idealize.ShloMosaic.TcCoe

/-- The rows before the block, modulated, or zero in a block that begins a part. -/
theorem pay4_apply (i : grid0.Coords) (sh sc : Vec Ideal S1x1x1024 .f32) (x : Vec Ideal S1x8x1024 .f32) (g : Vec Ideal S1x1024 .f32) (r : Fin 8) (k : Fin 1024) :
    k0_pay4 (F := Ideal) i sh sc x g (ix2 r k)
      = if Scalar.cmpi .sle (BitVec.ofNat 32 (i 1).val) 1#32 = 1#1 then 0
        else modrow (fun k => x (ix3 0 r k)) (fun k => g (ix2 0 k)) (fun k => sc (ix3 0 0 k)) (fun k => sh (ix3 0 0 k)) k := by
  pointwise [k0_pay4, k0_pay3, k0_pay2]
  rfl

/-- The rows of the block and their neighbours: eight rows before, the block's, eight rows after. -/
theorem pay7_apply (v3 : BitVec 1) (sh sc : Vec Ideal S1x1x1024 .f32) (p : FVec Ideal S8x1024 .f32) (q : Vec Ideal S1x8x1024 .f32) (g : Vec Ideal S1x1024 .f32) (x : Vec Ideal S1x256x1024 .f32)
    (m : Fin 272) (k : Fin 1024) :
    k0_pay7 (F := Ideal) v3 (k0_pay2 sh) (k0_pay3 sc) p (k0_pay5 q) g x g (ix2 m k)
      = if h : m.val < 8 then p (ix2 ⟨m.val, h⟩ k)
        else if h' : m.val - 8 < 256 then modrow (fun k => x (ix3 0 ⟨m.val - 8, by omega⟩ k)) (fun k => g (ix2 0 k)) (fun k => sc (ix3 0 0 k)) (fun k => sh (ix3 0 0 k)) k
        else Scalar.select v3 0 (modrow (fun k => q (ix3 0 ⟨m.val - 8 - 256, by omega⟩ k)) (fun k => g (ix2 0 k)) (fun k => sc (ix3 0 0 k)) (fun k => sh (ix3 0 0 k)) k) := by
  pointwise [k0_pay7, k0_pay2, k0_pay3, k0_pay5, k0_pay6]
  rfl

/-- One half of a chunk: the rows times a chunk of the first weights, filtered. -/
theorem pay8_apply (h : FVec Ideal S272x1024 .bf16) (w : Vec Ideal S1x1024x256 .bf16) (b c0 c1 c2 : Vec Ideal S1x1x256 .f32) (r d : Fin 256) :
    k0_pay8 (F := Ideal) h w b c0 c1 c2 (ix2 r d)
      = taps (∑ j, h (ix2 ⟨7 + r.val, by omega⟩ j) * w (ix3 0 j d)) (∑ j, h (ix2 ⟨8 + r.val, by omega⟩ j) * w (ix3 0 j d)) (∑ j, h (ix2 ⟨9 + r.val, by omega⟩ j) * w (ix3 0 j d))
          (c0 (ix3 0 0 d)) (c1 (ix3 0 0 d)) (c2 (ix3 0 0 d)) (b (ix3 0 0 d)) := by
  pointwise [k0_pay8]
  unfold taps
  exact add_comm _ _

/-- A chunk of the gated rows, from a chunk of either half of the first weights, taps and biases. -/
def chunk (h : FVec Ideal S272x1024 .bf16) (wg : Vec Ideal S1x1024x256 .bf16) (bg g0 g1 g2 : Vec Ideal S1x1x256 .f32) (wv : Vec Ideal S1x1024x256 .bf16) (bv v0 v1 v2 : Vec Ideal S1x1x256 .f32) :
    FVec Ideal S256x256 .bf16 :=
  k0_pay12 (k0_pay8 h wg bg g0 g1 g2) (k0_pay9 h wv) (k0_pay10 bv) (k0_pay11 h wv) v0 v1 v2

/-- A place of a chunk of the gated rows. -/
theorem chunk_apply (h : FVec Ideal S272x1024 .bf16) (wg : Vec Ideal S1x1024x256 .bf16) (bg g0 g1 g2 : Vec Ideal S1x1x256 .f32) (wv : Vec Ideal S1x1024x256 .bf16) (bv v0 v1 v2 : Vec Ideal S1x1x256 .f32)
    (r d : Fin 256) :
    chunk h wg bg g0 g1 g2 wv bv v0 v1 v2 (ix2 r d)
      = gated (k0_pay8 (F := Ideal) h wg bg g0 g1 g2 (ix2 r d)) (k0_pay8 (F := Ideal) h wv bv v0 v1 v2 (ix2 r d)) := by
  rw [pay8_apply h wv]
  unfold chunk
  generalize k0_pay8 (F := Ideal) h wg bg g0 g1 g2 = u
  pointwise [k0_pay12, k0_pay9, k0_pay10, k0_pay11]
  unfold gated sigm taps
  simp only [zero_add, zero_sub]
  rw [add_comm (bv _)]

/-- Column `d` of chunk `k` of the filtered rows. -/
def filtered (h : FVec Ideal S272x1024 .bf16) (w : Vec Ideal S22x1024x256 .bf16) (cw : Vec Ideal S22x3x256 .f32) (cb : Vec Ideal S22x1x256 .f32) (r : Fin 256) (k : Fin 22) (d : Fin 256) : EReal :=
  taps (∑ j, h (ix2 (n0 := 272) (n1 := 1024) ⟨7 + r.val, by omega⟩ j) * w (ix3 k j d)) (∑ j, h (ix2 (n0 := 272) (n1 := 1024) ⟨8 + r.val, by omega⟩ j) * w (ix3 k j d)) (∑ j, h (ix2 (n0 := 272) (n1 := 1024) ⟨9 + r.val, by omega⟩ j) * w (ix3 k j d))
    (cw (ix3 k 0 d)) (cw (ix3 k 1 d)) (cw (ix3 k 2 d)) (cb (ix3 k 0 d))

/-- The gated rows: chunk `k` of the first half of the columns is gated with chunk `k` of the second half. -/
def acts (h : FVec Ideal S272x1024 .bf16) (w : Vec Ideal S22x1024x256 .bf16) (cw : Vec Ideal S22x3x256 .f32) (cb : Vec Ideal S22x1x256 .f32) : Vec Ideal S256x2816 .bf16 := fun i =>
  gated (filtered h w cw cb (i 0) ⟨(i 1).val / 256, by have h : (i 1).val < 2816 := (i 1).isLt; omega⟩ ⟨(i 1).val % 256, Nat.mod_lt _ (by decide)⟩)
    (filtered h w cw cb (i 0) ⟨11 + (i 1).val / 256, by have h : (i 1).val < 2816 := (i 1).isLt; omega⟩ ⟨(i 1).val % 256, Nat.mod_lt _ (by decide)⟩)

/-- A chunk's weights lie within the weights. -/
theorem inbW {n : Nat} (hn : n < 22) : ∀ a, (![n, 0, 0] : Fin 3 → Nat) a + S1x1024x256.size a ≤ S22x1024x256.size a := by
  intro a
  match a with
  | 0 => show n + 1 ≤ 22; omega
  | 1 => exact le_rfl
  | 2 => exact le_rfl

/-- A row of a chunk's taps lies within the taps. -/
theorem inbC {n t : Nat} (hn : n < 22) (ht : t < 3) : ∀ a, (![n, t, 0] : Fin 3 → Nat) a + S1x1x256.size a ≤ S22x3x256.size a := by
  intro a
  match a with
  | 0 => show n + 1 ≤ 22; omega
  | 1 => show t + 1 ≤ 3; omega
  | 2 => exact le_rfl

/-- A chunk's biases lie within the biases. -/
theorem inbB {n : Nat} (hn : n < 22) : ∀ a, (![n, 0, 0] : Fin 3 → Nat) a + S1x1x256.size a ≤ S22x1x256.size a := by
  intro a
  match a with
  | 0 => show n + 1 ≤ 22; omega
  | 1 => exact le_rfl
  | 2 => exact le_rfl

/-- Chunk `n` of the first weights. -/
abbrev wAt (w : Vec Ideal S22x1024x256 .bf16) (n : Nat) (hn : n < 22) : Vec Ideal S1x1024x256 .bf16 :=
  View.ld (Val := Elt Ideal) w (Rect.unit (s := S22x1024x256) ![n, 0, 0] S1x1024x256.size (inbW hn))

/-- Row `t` of chunk `n` of the taps. -/
abbrev cAt (cw : Vec Ideal S22x3x256 .f32) (n t : Nat) (hn : n < 22) (ht : t < 3) : Vec Ideal S1x1x256 .f32 :=
  View.ld (Val := Elt Ideal) cw (Rect.unit (s := S22x3x256) ![n, t, 0] S1x1x256.size (inbC hn ht))

/-- Chunk `n` of the biases. -/
abbrev bAt (cb : Vec Ideal S22x1x256 .f32) (n : Nat) (hn : n < 22) : Vec Ideal S1x1x256 .f32 :=
  View.ld (Val := Elt Ideal) cb (Rect.unit (s := S22x1x256) ![n, 0, 0] S1x1x256.size (inbB hn))

/-- A place of a chunk of the first weights. -/
theorem wAt_apply (w : Vec Ideal S22x1024x256 .bf16) (n : Nat) (hn : n < 22) (j : Fin 1024) (d : Fin 256) : wAt w n hn (ix3 (n0 := 1) 0 j d) = w (ix3 ⟨n, hn⟩ j d) := by
  refine congrArg w (?_ : _ = ix3 (n0 := 22) (n1 := 1024) (n2 := 256) _ _ _)
  funext a
  refine Fin.ext ?_
  match a with
  | 0 => rfl
  | 1 => show 0 + 1 * j.val = j.val; omega
  | 2 => show 0 + 1 * d.val = d.val; omega

/-- A place of a row of a chunk's taps. -/
theorem cAt_apply (cw : Vec Ideal S22x3x256 .f32) (n t : Nat) (hn : n < 22) (ht : t < 3) (d : Fin 256) : cAt cw n t hn ht (ix3 (n0 := 1) (n1 := 1) 0 0 d) = cw (ix3 ⟨n, hn⟩ ⟨t, ht⟩ d) := by
  refine congrArg cw (?_ : _ = ix3 (n0 := 22) (n1 := 3) (n2 := 256) _ _ _)
  funext a
  refine Fin.ext ?_
  match a with
  | 0 => rfl
  | 1 => rfl
  | 2 => show 0 + 1 * d.val = d.val; omega

/-- A place of a chunk's biases. -/
theorem bAt_apply (cb : Vec Ideal S22x1x256 .f32) (n : Nat) (hn : n < 22) (d : Fin 256) : bAt cb n hn (ix3 (n0 := 1) (n1 := 1) 0 0 d) = cb (ix3 ⟨n, hn⟩ 0 d) := by
  refine congrArg cb (?_ : _ = ix3 (n0 := 22) (n1 := 1) (n2 := 256) _ _ _)
  funext a
  refine Fin.ext ?_
  match a with
  | 0 => rfl
  | 1 => rfl
  | 2 => show 0 + 1 * d.val = d.val; omega

/-- One half of chunk `n`. -/
theorem half_apply (h : FVec Ideal S272x1024 .bf16) (w : Vec Ideal S22x1024x256 .bf16) (cw : Vec Ideal S22x3x256 .f32) (cb : Vec Ideal S22x1x256 .f32) (n : Nat) (hn : n < 22) (r d : Fin 256) :
    k0_pay8 (F := Ideal) h (wAt w n hn) (bAt cb n hn) (cAt cw n 0 hn (by decide)) (cAt cw n 1 hn (by decide)) (cAt cw n 2 hn (by decide)) (ix2 r d) = filtered h w cw cb r ⟨n, hn⟩ d := by
  refine (pay8_apply h _ _ _ _ _ r d).trans ?_
  unfold filtered
  refine taps_congr ?_ ?_ ?_ (cAt_apply cw n 0 hn _ d) (cAt_apply cw n 1 hn _ d) (cAt_apply cw n 2 hn _ d) (bAt_apply cb n hn d)
  all_goals exact Finset.sum_congr rfl fun j _ => congrArg _ (wAt_apply w n hn j d)

/-- Chunk `n` of the gated rows is the tile of columns `256 n` to `256 n + 255`. -/
theorem tile (h : FVec Ideal S272x1024 .bf16) (w : Vec Ideal S22x1024x256 .bf16) (cw : Vec Ideal S22x3x256 .f32) (cb : Vec Ideal S22x1x256 .f32) (n m o : Nat) (hm : m = 11 + n) (ho : o = 256 * n)
    (hn : n < 22) (hm' : m < 22) (inbo : ∀ a, (![0, o] : Fin 2 → Nat) a + S256x256.size a ≤ S256x2816.size a)
    (x : (Rect.unit (s := S256x2816) ![0, o] S256x256.size inbo).shape.Idx) :
    chunk h (wAt w n hn) (bAt cb n hn) (cAt cw n 0 hn (by decide)) (cAt cw n 1 hn (by decide)) (cAt cw n 2 hn (by decide))
        (wAt w m hm') (bAt cb m hm') (cAt cw m 0 hm' (by decide)) (cAt cw m 1 hm' (by decide)) (cAt cw m 2 hm' (by decide)) x
      = acts h w cw cb ((Rect.unit (s := S256x2816) ![0, o] S256x256.size inbo).emb x) := by
  subst ho hm
  rw [show x = ix2 (n0 := 256) (n1 := 256) (x 0) (x 1) from (ix2_eta (n0 := 256) (n1 := 256) x).symm]
  generalize x 0 = r
  generalize x 1 = d
  change Fin 256 at r
  change Fin 256 at d
  have hd := d.isLt
  refine (chunk_apply h _ _ _ _ _ _ _ _ _ _ r d).trans ?_
  rw [half_apply, half_apply]
  unfold acts
  have er : ((Rect.unit (s := S256x2816) ![0, 256 * n] S256x256.size inbo).emb (ix2 (n0 := 256) (n1 := 256) r d) 0 : Fin 256) = r := Fin.ext (by show 0 + 1 * r.val = r.val; omega)
  have ed : ((Rect.unit (s := S256x2816) ![0, 256 * n] S256x256.size inbo).emb (ix2 (n0 := 256) (n1 := 256) r d) 1).val = 256 * n + d.val := by show 256 * n + 1 * d.val = _; omega
  refine congrArg₂ gated ?_ ?_
  · exact congr (congrArg₂ (filtered h w cw cb) er.symm (Fin.ext (by dsimp only; rw [ed]; omega))) (Fin.ext (by dsimp only; rw [ed]; omega))
  · exact congr (congrArg₂ (filtered h w cw cb) er.symm (Fin.ext (by dsimp only; rw [ed]; omega))) (Fin.ext (by dsimp only; rw [ed]; omega))

end Cert.Layer.Ffn

end
-- ==== Proof.FfnBlock.lean ====
/- What one block of the feed-forward part writes. -/
module

public import proofs.«01_k».proof.Proof.FfnChunk

@[expose] public section

set_option maxRecDepth 16384

noncomputable section

namespace Cert.Layer.Ffn

open Idealize.ShloMosaic Idealize.SL.Sem Cert.Kernel3Ideal Cert.Kernel3Ideal.Gen Idealize.ShloMosaic.TcCoe

/-- The gated rows times the second weights. -/
theorem pay78_apply (a : Vec Ideal S256x2816 .bf16) (w : Vec Ideal S2816x1024 .bf16) (r : Fin 256) (e : Fin 1024) :
    k0_pay78 (F := Ideal) a w (ix2 r e) = down (fun d => a (ix2 r d)) (fun d k => w (ix2 d k)) e := by
  pointwise [k0_pay78]
  rfl

/-- A place of what the block stores, from the values read before it. -/
theorem stored_apply (a : Vec Ideal S256x2816 .bf16) (w : Vec Ideal S2816x1024 .bf16) (x : Vec Ideal S1x256x1024 .f32) (mg : Vec Ideal S1x1x1024 .f32) (g : Vec Ideal S1x1024 .f32) (r : Fin 256) (e : Fin 1024) :
    k0_pay1 (F := Ideal) (k0_pay6 x) (k0_pay78 a w) (k0_pay79 mg) (k0_pay80 g) (k0_pay81 a w) k0_pay82 (ix3 0 r e)
      = residual (fun k => x (ix3 0 r k)) (fun k => mg (ix3 0 0 k)) (down (fun d => a (ix2 r d)) (fun d k => w (ix2 d k))) (fun k => g (ix2 0 k)) e := by
  rw [show down (fun d => a (ix2 r d)) (fun d k => w (ix2 d k)) = fun k => k0_pay78 (F := Ideal) a w (ix2 r k) from funext fun k => (pay78_apply a w r k).symm]
  unfold k0_pay81
  generalize k0_pay78 (F := Ideal) a w = y
  pointwise [k0_pay1, k0_pay6, k0_pay79, k0_pay80, k0_pay82]
  rfl

/-- Row `n` of the modulation vectors. -/
theorem ld_mod (x : Vec Ideal S1x6x1024 .f32) (n : Nat) (hn : n < 6) (inb : ∀ a, (![0, n, 0] : Fin 3 → Nat) a + S1x1x1024.size a ≤ S1x6x1024.size a) (k : Fin 1024) :
    View.ld (Val := Elt Ideal) x (Rect.unit (s := S1x6x1024) ![0, n, 0] S1x1x1024.size inb) (ix3 (n0 := 1) (n1 := 1) (n2 := 1024) 0 0 k) = x (ix3 0 ⟨n, hn⟩ k) := by
  refine congrArg x (?_ : _ = ix3 (n0 := 1) (n1 := 6) (n2 := 1024) _ _ _)
  funext a
  refine Fin.ext ?_
  match a with
  | 0 => rfl
  | 1 => rfl
  | 2 => show 0 + 1 * k.val = k.val; omega

/-- The rows a block computes from: its own between their neighbours. -/
def rowsIn (i : grid0.Coords) (x0 : Vec Ideal S1x256x1024 .f32) (x1 x2 : Vec Ideal S1x8x1024 .f32) (x3 : Vec Ideal S1x6x1024 .f32) (x4 : Vec Ideal S1x1024 .f32) : FVec Ideal S272x1024 .bf16 :=
  k0_pay7 (Scalar.ori (Scalar.cmpi .eq (BitVec.ofNat 32 (i 1).val) 0#32) (Scalar.cmpi .eq (BitVec.ofNat 32 (i 1).val) 32#32))
    (k0_pay2 (View.ld (Val := Elt Ideal) x3 (Rect.unit (s := S1x6x1024) ![0, 3, 0] S1x1x1024.size inb_S1x6x1024_S1x1x1024_0_3_0)))
    (k0_pay3 (View.ld (Val := Elt Ideal) x3 (Rect.unit (s := S1x6x1024) ![0, 4, 0] S1x1x1024.size inb_S1x6x1024_S1x1x1024_0_4_0)))
    (k0_pay4 i (View.ld (Val := Elt Ideal) x3 (Rect.unit (s := S1x6x1024) ![0, 3, 0] S1x1x1024.size inb_S1x6x1024_S1x1x1024_0_3_0))
      (View.ld (Val := Elt Ideal) x3 (Rect.unit (s := S1x6x1024) ![0, 4, 0] S1x1x1024.size inb_S1x6x1024_S1x1x1024_0_4_0)) x1 x4)
    (k0_pay5 x2) x4 x0 x4

/-- A place of the rows a block computes from. -/
theorem rowsIn_apply (i : grid0.Coords) (x0 : Vec Ideal S1x256x1024 .f32) (x1 x2 : Vec Ideal S1x8x1024 .f32) (x3 : Vec Ideal S1x6x1024 .f32) (x4 : Vec Ideal S1x1024 .f32) (m : Fin 272) (k : Fin 1024) :
    rowsIn i x0 x1 x2 x3 x4 (ix2 m k)
      = if h : m.val < 8 then (if Scalar.cmpi .sle (BitVec.ofNat 32 (i 1).val) 1#32 = 1#1 then 0
          else modrow (fun k => x1 (ix3 0 ⟨m.val, h⟩ k)) (fun k => x4 (ix2 0 k)) (fun k => x3 (ix3 0 4 k)) (fun k => x3 (ix3 0 3 k)) k)
        else if h' : m.val - 8 < 256 then modrow (fun k => x0 (ix3 0 ⟨m.val - 8, by omega⟩ k)) (fun k => x4 (ix2 0 k)) (fun k => x3 (ix3 0 4 k)) (fun k => x3 (ix3 0 3 k)) k
        else Scalar.select (Scalar.ori (Scalar.cmpi .eq (BitVec.ofNat 32 (i 1).val) 0#32) (Scalar.cmpi .eq (BitVec.ofNat 32 (i 1).val) 32#32)) 0
          (modrow (fun k => x2 (ix3 0 ⟨m.val - 8 - 256, by omega⟩ k)) (fun k => x4 (ix2 0 k)) (fun k => x3 (ix3 0 4 k)) (fun k => x3 (ix3 0 3 k)) k) := by
  have e3 : (fun k : Fin 1024 => View.ld (Val := Elt Ideal) x3 (Rect.unit (s := S1x6x1024) ![0, 3, 0] S1x1x1024.size inb_S1x6x1024_S1x1x1024_0_3_0) (ix3 (n0 := 1) (n1 := 1) 0 0 k)) = fun k => x3 (ix3 0 3 k) :=
    funext fun k => ld_mod x3 3 (by decide) _ k
  have e4 : (fun k : Fin 1024 => View.ld (Val := Elt Ideal) x3 (Rect.unit (s := S1x6x1024) ![0, 4, 0] S1x1x1024.size inb_S1x6x1024_S1x1x1024_0_4_0) (ix3 (n0 := 1) (n1 := 1) 0 0 k)) = fun k => x3 (ix3 0 4 k) :=
    funext fun k => ld_mod x3 4 (by decide) _ k
  unfold rowsIn
  refine (pay7_apply _ _ _ _ x2 x4 x0 m k).trans ?_
  simp only [pay4_apply]
  rw [← e3, ← e4]

/-- A block's output as one function of its operands. -/
def rows (i : grid0.Coords) (x0 : Vec Ideal S1x256x1024 .f32) (x1 : Vec Ideal S1x8x1024 .f32) (x2 : Vec Ideal S1x8x1024 .f32) (x3 : Vec Ideal S1x6x1024 .f32) (x4 : Vec Ideal S1x1024 .f32) (x5 : Vec Ideal S1x1024 .f32) (x6 : Vec Ideal S22x1024x256 .bf16) (x7 : Vec Ideal S22x3x256 .f32) (x8 : Vec Ideal S22x1x256 .f32) (x9 : Vec Ideal S2816x1024 .bf16) (r : Fin 256) (e : Fin 1024) : EReal :=
  residual (fun k => x0 (ix3 0 r k)) (fun k => x3 (ix3 0 5 k)) (down (fun d => acts (rowsIn i x0 x1 x2 x3 x4) x6 x7 x8 (ix2 r d)) (fun d k => x9 (ix2 d k))) (fun k => x5 (ix2 0 k)) e

/-- A block's output. -/
def block (i : grid0.Coords) (x0 : Vec Ideal S1x256x1024 .f32) (x1 : Vec Ideal S1x8x1024 .f32) (x2 : Vec Ideal S1x8x1024 .f32) (x3 : Vec Ideal S1x6x1024 .f32) (x4 : Vec Ideal S1x1024 .f32) (x5 : Vec Ideal S1x1024 .f32) (x6 : Vec Ideal S22x1024x256 .bf16) (x7 : Vec Ideal S22x3x256 .f32) (x8 : Vec Ideal S22x1x256 .f32) (x9 : Vec Ideal S2816x1024 .bf16) : Vec Ideal S1x256x1024 .f32 := fun y => rows i x0 x1 x2 x3 x4 x5 x6 x7 x8 x9 (y 1) (y 2)

/-- The whole of a block stored at once is the block. -/
theorem stored_whole (f : Vec Ideal S1x256x1024 .f32) (i : grid0.Coords) (x0 : Vec Ideal S1x256x1024 .f32) (x1 : Vec Ideal S1x8x1024 .f32) (x2 : Vec Ideal S1x8x1024 .f32) (x3 : Vec Ideal S1x6x1024 .f32) (x4 : Vec Ideal S1x1024 .f32) (x5 : Vec Ideal S1x1024 .f32) (x6 : Vec Ideal S22x1024x256 .bf16) (x7 : Vec Ideal S22x3x256 .f32) (x8 : Vec Ideal S22x1x256 .f32) (x9 : Vec Ideal S2816x1024 .bf16)
    (h : ∀ r e, f (ix3 0 r e) = rows i x0 x1 x2 x3 x4 x5 x6 x7 x8 x9 r e)
    (inb : ∀ a, (![0, 0, 0] : Fin 3 → Nat) a + S1x256x1024.size a ≤ S1x256x1024.size a) (x : (Rect.unit (s := S1x256x1024) ![0, 0, 0] S1x256x1024.size inb).shape.Idx) :
    f x = block i x0 x1 x2 x3 x4 x5 x6 x7 x8 x9 ((Rect.unit (s := S1x256x1024) ![0, 0, 0] S1x256x1024.size inb).emb x) := by
  rw [show x = ix3 (n0 := 1) (n1 := 256) (n2 := 1024) 0 (x 1) (x 2) from (ix3_eta (n0 := 1) (n1 := 256) (n2 := 1024) x).symm.trans (congrArg (fun t => ix3 (n0 := 1) (n1 := 256) (n2 := 1024) t (x 1) (x 2)) (Subsingleton.elim _ _))]
  generalize x 1 = r
  generalize x 2 = d
  change Fin 256 at r
  change Fin 1024 at d
  refine (h r d).trans (congrArg₂ (rows i x0 x1 x2 x3 x4 x5 x6 x7 x8 x9) (Fin.ext ?_) (Fin.ext ?_))
  · show r.val = 0 + 1 * r.val
    omega
  · show d.val = 0 + 1 * d.val
    omega

/-- The scratch buffer, read after its eleven tiles are written, is the array the tiles are of. -/
theorem read_tiles (a : Memref sig .tc .vmem S256x2816 .bf16) (p0 p1 p2 p3 p4 p5 p6 p7 p8 p9 p10 : FVec Ideal S256x256 .bf16) (A : Vec Ideal S256x2816 .bf16)
    (h0 : ∀ x, p0 x = A ((Rect.unit (s := S256x2816) ![0, 0] ![256, 256] inb_S256x2816_S256x256_0_0).emb x))
    (h1 : ∀ x, p1 x = A ((Rect.unit (s := S256x2816) ![0, 256] ![256, 256] inb_S256x2816_S256x256_0_256).emb x))
    (h2 : ∀ x, p2 x = A ((Rect.unit (s := S256x2816) ![0, 512] ![256, 256] inb_S256x2816_S256x256_0_512).emb x))
    (h3 : ∀ x, p3 x = A ((Rect.unit (s := S256x2816) ![0, 768] ![256, 256] inb_S256x2816_S256x256_0_768).emb x))
    (h4 : ∀ x, p4 x = A ((Rect.unit (s := S256x2816) ![0, 1024] ![256, 256] inb_S256x2816_S256x256_0_1024).emb x))
    (h5 : ∀ x, p5 x = A ((Rect.unit (s := S256x2816) ![0, 1280] ![256, 256] inb_S256x2816_S256x256_0_1280).emb x))
    (h6 : ∀ x, p6 x = A ((Rect.unit (s := S256x2816) ![0, 1536] ![256, 256] inb_S256x2816_S256x256_0_1536).emb x))
    (h7 : ∀ x, p7 x = A ((Rect.unit (s := S256x2816) ![0, 1792] ![256, 256] inb_S256x2816_S256x256_0_1792).emb x))
    (h8 : ∀ x, p8 x = A ((Rect.unit (s := S256x2816) ![0, 2048] ![256, 256] inb_S256x2816_S256x256_0_2048).emb x))
    (h9 : ∀ x, p9 x = A ((Rect.unit (s := S256x2816) ![0, 2304] ![256, 256] inb_S256x2816_S256x256_0_2304).emb x))
    (h10 : ∀ x, p10 x = A ((Rect.unit (s := S256x2816) ![0, 2560] ![256, 256] inb_S256x2816_S256x256_0_2560).emb x)) :
    a.view.readCov (Val := Elt Ideal) [⟨Rect.unit (s := S256x2816) ![0, 2560] ![256, 256] inb_S256x2816_S256x256_0_2560, p10⟩, ⟨Rect.unit (s := S256x2816) ![0, 2304] ![256, 256] inb_S256x2816_S256x256_0_2304, p9⟩, ⟨Rect.unit (s := S256x2816) ![0, 2048] ![256, 256] inb_S256x2816_S256x256_0_2048, p8⟩, ⟨Rect.unit (s := S256x2816) ![0, 1792] ![256, 256] inb_S256x2816_S256x256_0_1792, p7⟩, ⟨Rect.unit (s := S256x2816) ![0, 1536] ![256, 256] inb_S256x2816_S256x256_0_1536, p6⟩, ⟨Rect.unit (s := S256x2816) ![0, 1280] ![256, 256] inb_S256x2816_S256x256_0_1280, p5⟩, ⟨Rect.unit (s := S256x2816) ![0, 1024] ![256, 256] inb_S256x2816_S256x256_0_1024, p4⟩, ⟨Rect.unit (s := S256x2816) ![0, 768] ![256, 256] inb_S256x2816_S256x256_0_768, p3⟩, ⟨Rect.unit (s := S256x2816) ![0, 512] ![256, 256] inb_S256x2816_S256x256_0_512, p2⟩, ⟨Rect.unit (s := S256x2816) ![0, 256] ![256, 256] inb_S256x2816_S256x256_0_256, p1⟩, ⟨Rect.unit (s := S256x2816) ![0, 0] ![256, 256] inb_S256x2816_S256x256_0_0, p0⟩]
      (Rect.unit (s := S256x2816) ![0, 0] ![256, 2816] inb_S256x2816_S256x2816_0_0).toLoadRect = A := by
  have hz2 : (![0, 0] : Fin 2 → Nat) = fun _ => 0 := by funext a; fin_cases a <;> rfl
  have cov : ∀ y : S256x2816.Idx, ∃ pc ∈ ([⟨Rect.unit (s := S256x2816) ![0, 2560] ![256, 256] inb_S256x2816_S256x256_0_2560, p10⟩, ⟨Rect.unit (s := S256x2816) ![0, 2304] ![256, 256] inb_S256x2816_S256x256_0_2304, p9⟩, ⟨Rect.unit (s := S256x2816) ![0, 2048] ![256, 256] inb_S256x2816_S256x256_0_2048, p8⟩, ⟨Rect.unit (s := S256x2816) ![0, 1792] ![256, 256] inb_S256x2816_S256x256_0_1792, p7⟩, ⟨Rect.unit (s := S256x2816) ![0, 1536] ![256, 256] inb_S256x2816_S256x256_0_1536, p6⟩, ⟨Rect.unit (s := S256x2816) ![0, 1280] ![256, 256] inb_S256x2816_S256x256_0_1280, p5⟩, ⟨Rect.unit (s := S256x2816) ![0, 1024] ![256, 256] inb_S256x2816_S256x256_0_1024, p4⟩, ⟨Rect.unit (s := S256x2816) ![0, 768] ![256, 256] inb_S256x2816_S256x256_0_768, p3⟩, ⟨Rect.unit (s := S256x2816) ![0, 512] ![256, 256] inb_S256x2816_S256x256_0_512, p2⟩, ⟨Rect.unit (s := S256x2816) ![0, 256] ![256, 256] inb_S256x2816_S256x256_0_256, p1⟩, ⟨Rect.unit (s := S256x2816) ![0, 0] ![256, 256] inb_S256x2816_S256x256_0_0, p0⟩] : List (View.Piece (Elt Ideal) S256x2816 .bf16)), y ∈ pc.1.set :=
    fun y => View.cover_of_tiledL (s := S256x2816) _ ![256, 256] (by sl_kernel_rfl) y
  unfold View.readCov
  rw [View.readAt_eq_ld]
  refine (View.ld_unit_zero (S := S256x2816) hz2 _ _).trans ?_
  rw [View.read_writes_eq_canon _ _ _ cov]
  funext y
  refine View.canon_apply_of_pieces A _ ?_ y (cov y)
  simp only [List.forall_mem_cons]
  exact ⟨h10, h9, h8, h7, h6, h5, h4, h3, h2, h1, h0, fun p hp => absurd hp List.not_mem_nil⟩

set_option maxHeartbeats 4000000 in
/-- A BLOCK'S OUTPUT is the feed-forward part of its operands' rows. -/
theorem out0_A_10_eq (c : Dev nD) (i : grid0.Coords) (arg2 : Memref sig .tc .vmem S1x256x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x6x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S22x1024x256 .bf16) (harg8 : arg8.IsWhole) (arg9 : Memref sig .tc .vmem S22x3x256 .f32) (harg9 : arg9.IsWhole) (arg10 : Memref sig .tc .vmem S22x1x256 .f32) (harg10 : arg10.IsWhole) (arg11 : Memref sig .tc .vmem S2816x1024 .bf16) (harg11 : arg11.IsWhole) (arg12 : Memref sig .tc .vmem S1x256x1024 .f32) (harg12 : arg12.IsWhole) (arg13 : Memref sig .tc .vmem S256x2816 .bf16) (harg13 : arg13.IsWhole)
    (x0 : Vec Ideal S1x256x1024 .f32) (x1 : Vec Ideal S1x8x1024 .f32) (x2 : Vec Ideal S1x8x1024 .f32) (x3 : Vec Ideal S1x6x1024 .f32) (x4 : Vec Ideal S1x1024 .f32) (x5 : Vec Ideal S1x1024 .f32) (x6 : Vec Ideal S22x1024x256 .bf16) (x7 : Vec Ideal S22x3x256 .f32) (x8 : Vec Ideal S22x1x256 .f32) (x9 : Vec Ideal S2816x1024 .bf16) :
    out0_A_10 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 = block i x0 x1 x2 x3 x4 x5 x6 x7 x8 x9 := by
  have hz2 : (![0, 0] : Fin 2 → Nat) = fun _ => 0 := by funext a; fin_cases a <;> rfl
  have hz3 : (![0, 0, 0] : Fin 3 → Nat) = fun _ => 0 := by funext a; fin_cases a <;> rfl
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9)]
  funext y
  refine View.canon_apply_of_pieces (block i x0 x1 x2 x3 x4 x5 x6 x7 x8 x9) _ ?_ y (cover0_A_10 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 y)
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread,
    View.ld_unit_zero (S := S1x256x1024) hz3, View.ld_unit_zero (S := S1x8x1024) hz3, View.ld_unit_zero (S := S2816x1024) hz2, View.ld_unit_zero (S := S1x1024) hz2]
  change ∀ p ∈ [_], _
  simp only [List.forall_mem_cons]
  refine ⟨stored_whole _ i x0 x1 x2 x3 x4 x5 x6 x7 x8 x9 (fun r e => ?_) inb_S1x256x1024_S1x256x1024_0_0_0, fun p hp => absurd hp List.not_mem_nil⟩
  refine (stored_apply _ _ _ _ _ r e).trans ?_
  unfold rows
  refine congrArg₂ (fun p q => residual _ p q _ e) (funext fun k => ld_mod x3 5 (by decide) _ k) (congrArg (fun a : Vec Ideal S256x2816 .bf16 => down (fun d => a (ix2 r d)) _) ?_)
  exact read_tiles arg13 _ _ _ _ _ _ _ _ _ _ _ (acts (rowsIn i x0 x1 x2 x3 x4) x6 x7 x8)
      (tile _ x6 x7 x8 0 11 0 rfl rfl (by decide) (by decide) inb_S256x2816_S256x256_0_0)
      (tile _ x6 x7 x8 1 12 256 rfl rfl (by decide) (by decide) inb_S256x2816_S256x256_0_256)
      (tile _ x6 x7 x8 2 13 512 rfl rfl (by decide) (by decide) inb_S256x2816_S256x256_0_512)
      (tile _ x6 x7 x8 3 14 768 rfl rfl (by decide) (by decide) inb_S256x2816_S256x256_0_768)
      (tile _ x6 x7 x8 4 15 1024 rfl rfl (by decide) (by decide) inb_S256x2816_S256x256_0_1024)
      (tile _ x6 x7 x8 5 16 1280 rfl rfl (by decide) (by decide) inb_S256x2816_S256x256_0_1280)
      (tile _ x6 x7 x8 6 17 1536 rfl rfl (by decide) (by decide) inb_S256x2816_S256x256_0_1536)
      (tile _ x6 x7 x8 7 18 1792 rfl rfl (by decide) (by decide) inb_S256x2816_S256x256_0_1792)
      (tile _ x6 x7 x8 8 19 2048 rfl rfl (by decide) (by decide) inb_S256x2816_S256x256_0_2048)
      (tile _ x6 x7 x8 9 20 2304 rfl rfl (by decide) (by decide) inb_S256x2816_S256x256_0_2304)
      (tile _ x6 x7 x8 10 21 2560 rfl rfl (by decide) (by decide) inb_S256x2816_S256x256_0_2560)

end Cert.Layer.Ffn

end
-- ==== Proof.FfnArray.lean ====
/- What the feed-forward part's result array holds. -/
module

public import proofs.«01_k».proof.Proof.Gen.Kernel3Ideal.Value
public import proofs.«01_k».proof.Proof.FfnBlock
public import Idealize.ShloMosaic.Lib.StableHlo.ReadAt
public import Idealize.ShloMosaic.Lib.Pointwise
public import Idealize.ShloMosaic.Lib.Pipeline.ValueKit.Point

@[expose] public section

set_option maxRecDepth 16384

noncomputable section

namespace Cert.Layer.Ffn

open Idealize.ShloMosaic Idealize.SL.Sem Cert.Kernel3Ideal Cert.Kernel3Ideal.Gen Cert.Kernel3Ideal.Value Idealize.ShloMosaic.TcCoe

variable (m : (ℓ : Loc nD τ sig) → Buf (Elt Ideal) ℓ)

/-- The grid coordinates of a point: batch and block of rows. -/
def tb (t : Fin cfg0.N) : Fin 2 := ⟨t.val / 33, by have h : t.val < 66 := t.isLt; omega⟩
def ti (t : Fin cfg0.N) : Fin 33 := ⟨t.val % 33, by omega⟩
/-- The row of the modulation array a point takes. -/
def tm (t : Fin cfg0.N) : Fin 8 := ⟨if t.val % 33 = 0 then 2 else t.val / 33, by have h : t.val < 66 := t.isLt; split <;> omega⟩
/-- A block's row in the arrays. -/
def tn (t : Fin cfg0.N) (r : Fin 256) : Fin 8448 := ⟨256 * (ti t).val + r.val, by have := (ti t).isLt; omega⟩
/-- A row of the eight rows staged before a block. -/
def tp (t : Fin cfg0.N) (r : Fin 8) : Fin 8448 := ⟨8 * (t.val % 33 * 32 - 1) + r.val, by omega⟩
/-- A row of the eight rows staged after a block. -/
def tq (t : Fin cfg0.N) (r : Fin 8) : Fin 8448 := ⟨8 * min ((t.val % 33 + 1) * 32) 1055 + r.val, by omega⟩

theorem idx0 : ∀ t : Fin cfg0.N, win0_0.index t = ![t.val / 33, t.val % 33, 0] := (by decide +kernel : ∀ t : Fin grid0.N, _)
theorem idx1 : ∀ t : Fin cfg0.N, win0_1.index t = ![t.val / 33, t.val % 33 * 32 - 1, 0] := (by decide +kernel : ∀ t : Fin grid0.N, _)
theorem idx2 : ∀ t : Fin cfg0.N, win0_2.index t = ![t.val / 33, min ((t.val % 33 + 1) * 32) 1055, 0] := (by decide +kernel : ∀ t : Fin grid0.N, _)
theorem idx3 : ∀ t : Fin cfg0.N, win0_3.index t = ![if t.val % 33 = 0 then 2 else t.val / 33, 0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0, 0] := (by decide +kernel : ∀ t : Fin grid0.N, _)
theorem idx7 : ∀ t : Fin cfg0.N, win0_7.index t = ![0, 0, 0] := (by decide +kernel : ∀ t : Fin grid0.N, _)
theorem idx8 : ∀ t : Fin cfg0.N, win0_8.index t = ![0, 0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![t.val / 33, t.val % 33, 0] := (by decide +kernel : ∀ t : Fin grid0.N, _)

/-- A block has no row before it in its part exactly when it is the first of the context or of the latent rows. -/
theorem first_iff : ∀ t : Fin cfg0.N, (Scalar.cmpi .sle (BitVec.ofNat 32 (grid0.coords t 1).val) 1#32 = 1#1) ↔ t.val % 33 ≤ 1 := (by decide +kernel : ∀ t : Fin grid0.N, _)

/-- A block has no row after it in its part exactly when it is the last of the context or of the latent rows. -/
theorem last_iff : ∀ t : Fin cfg0.N, (Scalar.ori (Scalar.cmpi .eq (BitVec.ofNat 32 (grid0.coords t 1).val) 0#32) (Scalar.cmpi .eq (BitVec.ofNat 32 (grid0.coords t 1).val) 32#32) = 1#1)
    ↔ t.val % 33 = 0 ∨ t.val % 33 = 32 := (by decide +kernel : ∀ t : Fin grid0.N, _)

/-- The kernel's arguments, each as a function of its indices. -/
abbrev xsOf (c : Dev nD) (b : Fin 2) (n : Fin 8448) (k : Fin 1024) : EReal := (m ((c : Thread nD τ).loc main_arg0) : Vec Ideal S2x8448x1024 .f32) (ix3 b n k)
abbrev modsOf (c : Dev nD) (r : Fin 8) (a : Fin 6) (k : Fin 1024) : EReal := (m ((c : Thread nD τ).loc main_arg1) : Vec Ideal S8x6x1024 .f32) (ix3 r a k)
abbrev gOf (c : Dev nD) (k : Fin 1024) : EReal := (m ((c : Thread nD τ).loc main_arg2) : Vec Ideal S1024 .f32) (ix1 k)
abbrev gpOf (c : Dev nD) (k : Fin 1024) : EReal := (m ((c : Thread nD τ).loc main_arg3) : Vec Ideal S1024 .f32) (ix1 k)
abbrev wOf (c : Dev nD) (j : Fin 1024) (k : Fin 5632) : EReal := (m ((c : Thread nD τ).loc main_arg4) : Vec Ideal S1024x5632 .f32) (ix2 j k)
abbrev cwOf (c : Dev nD) (t : Fin 3) (k : Fin 5632) : EReal := (m ((c : Thread nD τ).loc main_arg5) : Vec Ideal S3x5632 .f32) (ix2 t k)
abbrev cbOf (c : Dev nD) (k : Fin 5632) : EReal := (m ((c : Thread nD τ).loc main_arg6) : Vec Ideal S5632 .f32) (ix1 k)
abbrev wdOf (c : Dev nD) (d : Fin 2816) (k : Fin 1024) : EReal := (m ((c : Thread nD τ).loc main_arg7) : Vec Ideal S2816x1024 .f32) (ix2 d k)

/-- The block of rows staged at a point. -/
theorem x0_at (c : Dev nD) (t : Fin cfg0.N) (r : Fin 256) (k : Fin 1024) :
    (iblk m c 0 t : Vec Ideal S1x256x1024 .f32) (ix3 0 r k) = xsOf m c (tb t) (tn t r) k := by
  unfold xsOf
  rw [← V_main_arg0 m c]
  blk_simp [iblk]
  refine congrArg _ ?_
  unfold tn tb ti
  blk_ext [idx0]

/-- The rows before it. -/
theorem x1_at (c : Dev nD) (t : Fin cfg0.N) (r : Fin 8) (k : Fin 1024) :
    (iblk m c 1 t : Vec Ideal S1x8x1024 .f32) (ix3 0 r k) = xsOf m c (tb t) (tp t r) k := by
  unfold xsOf
  rw [← V_main_arg0 m c]
  blk_simp [iblk]
  refine congrArg _ ?_
  unfold tp tb
  blk_ext [idx1]

/-- The rows after it. -/
theorem x2_at (c : Dev nD) (t : Fin cfg0.N) (r : Fin 8) (k : Fin 1024) :
    (iblk m c 2 t : Vec Ideal S1x8x1024 .f32) (ix3 0 r k) = xsOf m c (tb t) (tq t r) k := by
  unfold xsOf
  rw [← V_main_arg0 m c]
  blk_simp [iblk]
  refine congrArg _ ?_
  unfold tq tb
  blk_ext [idx2]

/-- The modulation row. -/
theorem x3_at (c : Dev nD) (t : Fin cfg0.N) (a : Fin 6) (k : Fin 1024) :
    (iblk m c 3 t : Vec Ideal S1x6x1024 .f32) (ix3 0 a k) = modsOf m c (tm t) a k := by
  unfold modsOf
  rw [← V_main_arg1 m c]
  blk_simp [iblk]
  refine congrArg _ ?_
  unfold tm
  blk_ext [idx3]

/-- The first gain. -/
theorem x4_at (c : Dev nD) (t : Fin cfg0.N) (k : Fin 1024) :
    (iblk m c 4 t : Vec Ideal S1x1024 .f32) (ix2 0 k) = gOf m c k := by
  refine Eq.trans (b := (V m c main_v9 : Vec Ideal S1x1024 .f32) (ix2 0 k)) ?_ ?_
  · blk_simp [iblk]
    refine congrArg _ ?_
    blk_ext [idx4]
  · unfold V
    after_reads_at

/-- The second gain. -/
theorem x5_at (c : Dev nD) (t : Fin cfg0.N) (k : Fin 1024) :
    (iblk m c 5 t : Vec Ideal S1x1024 .f32) (ix2 0 k) = gpOf m c k := by
  refine Eq.trans (b := (V m c main_v10 : Vec Ideal S1x1024 .f32) (ix2 0 k)) ?_ ?_
  · blk_simp [iblk]
    refine congrArg _ ?_
    blk_ext [idx5]
  · unfold V
    after_reads_at

/-- The first weights, in chunks of 256 columns. -/
theorem x6_at (c : Dev nD) (t : Fin cfg0.N) (i : Fin 22) (j : Fin 1024) (k : Fin 256) :
    (iblk m c 6 t : Vec Ideal S22x1024x256 .bf16) (ix3 i j k) = wOf m c j ⟨256 * i.val + k.val, by omega⟩ := by
  refine Eq.trans (b := (V m c main_v2 : Vec Ideal S22x1024x256 .bf16) (ix3 i j k)) ?_ ?_
  · blk_simp [iblk]
    refine congrArg _ ?_
    blk_ext [idx6]
  · unfold V
    after_reads_at
    exact congrArg (wOf m c j) (Fin.ext (by show i.val * 256 + k.val = 256 * i.val + k.val; omega))

/-- The taps, in chunks of 256 columns. -/
theorem x7_at (c : Dev nD) (t : Fin cfg0.N) (i : Fin 22) (j : Fin 3) (k : Fin 256) :
    (iblk m c 7 t : Vec Ideal S22x3x256 .f32) (ix3 i j k) = cwOf m c j ⟨256 * i.val + k.val, by omega⟩ := by
  refine Eq.trans (b := (V m c main_v4 : Vec Ideal S22x3x256 .f32) (ix3 i j k)) ?_ ?_
  · blk_simp [iblk]
    refine congrArg _ ?_
    blk_ext [idx7]
  · unfold V
    after_reads_at
    exact congrArg (cwOf m c j) (Fin.ext (by show i.val * 256 + k.val = 256 * i.val + k.val; omega))

/-- The biases, in chunks of 256 columns. -/
theorem x8_at (c : Dev nD) (t : Fin cfg0.N) (i : Fin 22) (k : Fin 256) :
    (iblk m c 8 t : Vec Ideal S22x1x256 .f32) (ix3 i 0 k) = cbOf m c ⟨256 * i.val + k.val, by omega⟩ := by
  refine Eq.trans (b := (V m c main_v7 : Vec Ideal S22x1x256 .f32) (ix3 i 0 k)) ?_ ?_
  · blk_simp [iblk]
    refine congrArg _ ?_
    blk_ext [idx8]
  · unfold V
    after_reads_at
    exact congrArg (cbOf m c) (Fin.ext (by show i.val * 256 + k.val = 256 * i.val + k.val; omega))

/-- The second weights. -/
theorem x9_at (c : Dev nD) (t : Fin cfg0.N) (d : Fin 2816) (k : Fin 1024) :
    (iblk m c 9 t : Vec Ideal S2816x1024 .bf16) (ix2 d k) = wdOf m c d k := by
  refine Eq.trans (b := (V m c main_v8 : Vec Ideal S2816x1024 .bf16) (ix2 d k)) ?_ ?_
  · blk_simp [iblk]
    refine congrArg _ ?_
    blk_ext [idx9]
  · unfold V
    after_reads_at

/-- A point's row of the modulation array is the one that the positions of its part take. -/
theorem tm_eq (t : Fin cfg0.N) (n : Fin 8448) (h : n.val < 256 ↔ t.val % 33 = 0) : tm t = modOf (tb t) n := by
  unfold modOf
  refine Fin.ext ?_
  by_cases h' : t.val % 33 = 0
  · rw [if_pos (h.mpr h')]
    show (if t.val % 33 = 0 then 2 else t.val / 33) = 2
    rw [if_pos h']
  · rw [if_neg fun h0 => h' (h.mp h0)]
    show (if t.val % 33 = 0 then 2 else t.val / 33) = t.val / 33
    rw [if_neg h']

/-- A position in a point's block is a context position exactly when the block is the first. -/
theorem tn_ctx (t : Fin cfg0.N) (r : Fin 256) : (tn t r).val < 256 ↔ t.val % 33 = 0 := by
  show 256 * (t.val % 33) + r.val < 256 ↔ _
  omega

/-- The modulated row of a position. -/
abbrev hrow (c : Dev nD) (b : Fin 2) (n : Fin 8448) (k : Fin 1024) : EReal :=
  modrow (xsOf m c b n) (gOf m c) (modsOf m c (modOf b n) 4) (modsOf m c (modOf b n) 3) k

/-- The rows a point's block computes from. -/
abbrev inAt (c : Dev nD) (t : Fin cfg0.N) : FVec Ideal S272x1024 .bf16 :=
  rowsIn (grid0.coords t) (iblk m c 0 t) (iblk m c 1 t) (iblk m c 2 t) (iblk m c 3 t) (iblk m c 4 t)

/-- A row of the block. -/
theorem in_mid (c : Dev nD) (t : Fin cfg0.N) (r : Fin 256) (k : Fin 1024) (q : Fin 272) (hq : q.val = 8 + r.val) :
    inAt m c t (ix2 (n0 := 272) (n1 := 1024) q k) = hrow m c (tb t) (tn t r) k := by
  refine (rowsIn_apply _ _ _ _ _ _ q k).trans ?_
  rw [dif_neg (by omega), dif_pos (by omega)]
  have e : (⟨q.val - 8, by omega⟩ : Fin 256) = r := Fin.ext (by show q.val - 8 = r.val; omega)
  simp only [x0_at, x3_at, x4_at]
  rw [e, tm_eq t (tn t r) (tn_ctx t r)]

/-- The row before a row of the block. -/
theorem in_before (c : Dev nD) (t : Fin cfg0.N) (r : Fin 256) (k : Fin 1024) :
    inAt m c t (ix2 (n0 := 272) (n1 := 1024) ⟨7 + r.val, by omega⟩ k) = before (fun n => hrow m c (tb t) n k) (tn t r) := by
  have hn : (tn t r).val = 256 * (t.val % 33) + r.val := rfl
  unfold before
  by_cases hr : r.val = 0
  · refine (rowsIn_apply _ _ _ _ _ _ _ k).trans ?_
    rw [dif_pos (by show 7 + r.val < 8; omega)]
    by_cases h1 : t.val % 33 ≤ 1
    · rw [if_pos ((first_iff t).mpr h1), if_pos (by omega)]
    · rw [if_neg fun h => h1 ((first_iff t).mp h), if_neg (by omega)]
      simp only [x1_at, x3_at, x4_at]
      have e : tp t ⟨7 + r.val, by omega⟩ = (⟨(tn t r).val - 1, by omega⟩ : Fin 8448) := Fin.ext (by show 8 * (t.val % 33 * 32 - 1) + (7 + r.val) = 256 * (t.val % 33) + r.val - 1; omega)
      rw [e, tm_eq t ⟨(tn t r).val - 1, by omega⟩ (by dsimp only; omega)]
  · rw [if_neg (by omega)]
    have e : (⟨(tn t r).val - 1, by omega⟩ : Fin 8448) = tn t ⟨r.val - 1, by omega⟩ := Fin.ext (by show 256 * (t.val % 33) + r.val - 1 = 256 * (t.val % 33) + (r.val - 1); omega)
    rw [e]
    exact in_mid m c t ⟨r.val - 1, by omega⟩ k _ (by dsimp only; omega)

/-- The row after a row of the block. -/
theorem in_after (c : Dev nD) (t : Fin cfg0.N) (r : Fin 256) (k : Fin 1024) :
    inAt m c t (ix2 (n0 := 272) (n1 := 1024) ⟨9 + r.val, by omega⟩ k) = after (fun n => hrow m c (tb t) n k) (tn t r) := by
  have hn : (tn t r).val = 256 * (t.val % 33) + r.val := rfl
  have ht : t.val % 33 < 33 := Nat.mod_lt _ (by decide)
  unfold after
  by_cases hr : r.val = 255
  · refine (rowsIn_apply _ _ _ _ _ _ _ k).trans ?_
    rw [dif_neg (by dsimp only; omega), dif_neg (by dsimp only; omega)]
    by_cases h1 : t.val % 33 = 0 ∨ t.val % 33 = 32
    · rw [(last_iff t).mpr h1, dif_pos (by omega)]
      rfl
    · have hc : ¬ _ := fun h => h1 ((last_iff t).mp h)
      rw [dif_neg (by omega)]
      refine (if_neg hc).trans ?_
      simp only [x2_at, x3_at, x4_at]
      have e : tq t ⟨9 + r.val - 8 - 256, by omega⟩ = (⟨(tn t r).val + 1, by omega⟩ : Fin 8448) :=
        Fin.ext (by show 8 * min ((t.val % 33 + 1) * 32) 1055 + (9 + r.val - 8 - 256) = 256 * (t.val % 33) + r.val + 1; omega)
      rw [e, tm_eq t ⟨(tn t r).val + 1, by omega⟩ (by dsimp only; omega)]
  · rw [dif_neg (by omega)]
    have e : (⟨(tn t r).val + 1, by omega⟩ : Fin 8448) = tn t ⟨r.val + 1, by omega⟩ := Fin.ext (by show 256 * (t.val % 33) + r.val + 1 = 256 * (t.val % 33) + (r.val + 1); omega)
    rw [e]
    exact in_mid m c t ⟨r.val + 1, by omega⟩ k _ (by dsimp only; omega)

/-- Multiplying the row before by a column is the product's row before. -/
theorem sum_before (f : Fin 8448 → Fin 1024 → EReal) (w : Fin 1024 → EReal) (n : Fin 8448) :
    ∑ j, before (fun n => f n j) n * w j = before (fun n => ∑ j, f n j * w j) n := by
  unfold before
  split
  · exact Finset.sum_eq_zero fun j _ => zero_mul _
  · rfl

/-- Multiplying the row after by a column is the product's row after. -/
theorem sum_after (f : Fin 8448 → Fin 1024 → EReal) (w : Fin 1024 → EReal) (n : Fin 8448) :
    ∑ j, after (fun n => f n j) n * w j = after (fun n => ∑ j, f n j * w j) n := by
  unfold after
  split
  · exact Finset.sum_eq_zero fun j _ => zero_mul _
  · rfl

/-- A place of the filtered rows of a point's block. -/
theorem filtered_at (c : Dev nD) (t : Fin cfg0.N) (r : Fin 256) (i : Fin 22) (d : Fin 256) (col : Fin 5632) (hcol : col.val = 256 * i.val + d.val) :
    filtered (inAt m c t) (iblk m c 6 t) (iblk m c 7 t) (iblk m c 8 t) r i d
      = conv (up (xsOf m c) (modsOf m c) (gOf m c) (wOf m c) (tb t)) (cwOf m c) (cbOf m c) (tn t r) col := by
  have e : (⟨256 * i.val + d.val, by omega⟩ : Fin 5632) = col := Fin.ext hcol.symm
  unfold filtered conv
  refine taps_congr ?_ ?_ ?_ ?_ ?_ ?_ ?_
  · simp only [in_before, x6_at, e]
    exact sum_before _ _ _
  · refine Finset.sum_congr rfl fun j _ => ?_
    rw [in_mid m c t r j _ rfl, x6_at, e]
  · simp only [in_after, x6_at, e]
    exact sum_after _ _ _
  · rw [x7_at, e]
  · rw [x7_at, e]
  · rw [x7_at, e]
  · rw [x8_at, e]

/-- A place of the gated rows of a point's block. -/
theorem acts_at (c : Dev nD) (t : Fin cfg0.N) (r : Fin 256) (d : Fin 2816) :
    acts (inAt m c t) (iblk m c 6 t) (iblk m c 7 t) (iblk m c 8 t) (ix2 r d)
      = act (up (xsOf m c) (modsOf m c) (gOf m c) (wOf m c) (tb t)) (cwOf m c) (cbOf m c) (tn t r) d :=
  congrArg₂ gated (filtered_at m c t r _ _ _ (by show d.val = 256 * (d.val / 256) + d.val % 256; omega))
    (filtered_at m c t r _ _ _ (by show 2816 + d.val = 256 * (11 + d.val / 256) + d.val % 256; omega))

/-- The output array as one function of the kernel's arguments. -/
def G (c : Dev nD) : Vec Ideal S2x8448x1024 .f32 := fun i =>
  ffn (xsOf m c) (modsOf m c) (gOf m c) (gpOf m c) (wOf m c) (cwOf m c) (cbOf m c) (wdOf m c) (i 0) (i 1) (i 2)

/-- The place of the output that a place of a point's block is. -/
theorem emb10 (t : Fin cfg0.N) (r : Fin 256) (k : Fin 1024) :
    ((cfg0.win 10).blk t).view.emb (ix3 (n0 := 1) (n1 := 256) (n2 := 1024) 0 r k) = (ix3 (tb t) (tn t r) k : S2x8448x1024.Idx) := by
  unfold tn tb ti
  blk_ext [idx10]

/-- THE RESULT ARRAY of the kernel is the feed-forward part, everywhere. -/
theorem final (c : Dev nD) : (dats m 0 c).arrAt 10 cfg0.N = G m c := by
  refine (dats m 0 c).arrAt_eq_of_covers 10 _ (by decide +kernel) fun t hf y => ?_
  obtain ⟨r, k, rfl⟩ : ∃ (r : Fin 256) (k : Fin 1024), y = (ix3 (n0 := 1) (n1 := 256) (n2 := 1024) 0 r k) :=
    ⟨y 1, y 2, ((ix3_eta (n0 := 1) (n1 := 256) (n2 := 1024) y).symm.trans (congrArg (fun t => ix3 (n0 := 1) (n1 := 256) (n2 := 1024) t (y 1) (y 2)) (Subsingleton.elim _ _)))⟩
  blk_simp
  rw [emb10, after0_10]
  unfold outsAt0
  rw [out0_A_10_eq]
  show rows _ _ _ _ _ _ _ _ _ _ _ r k = ffn _ _ _ _ _ _ _ _ (tb t) (tn t r) k
  unfold rows ffn
  simp only [acts_at, x0_at, x3_at, x5_at, x9_at, tm_eq t (tn t r) (tn_ctx t r)]

end Cert.Layer.Ffn

end
-- ==== Proof.FfnRef.lean ====
/- The reference's feed-forward part: its stages as functions of arrays, read at an index, and its result. -/
module

public import proofs.«01_k».proof.Proof.Gen.Reference3Ideal.Run
public import Idealize.ShloMosaic.Lib.Pointwise
public import proofs.«01_k».proof.Proof.FfnSpec
public import Idealize.ShloMosaic.Lib.KernelVsHost

@[expose] public section

set_option maxRecDepth 16384

noncomputable section

namespace Cert.Layer.Ffn.Ref

open Idealize.ShloMosaic Idealize.SL.Sem Cert.Reference3Ideal Cert.Reference3Ideal.Gen Idealize.ShloMosaic.TcCoe Cert.Layer

/-- The context rows, normalized and modulated. -/
def ctxH (x : FVec Ideal S2x8448x1024 .f32) (mod : FVec Ideal S8x6x1024 .f32) (g : FVec Ideal S1024 .f32) : FVec Ideal S2x256x1024 .f32 :=
  have v9 : FVec Ideal S2x256x1024 .f32 := extractStridedSlice S2x256x1024 ![0, 0, 0] x slices_S2x8448x1024_S2x256x1024_0_0_0
  have v78 : FVec Ideal S2x256x1024 .f32 := mulf v9 v9
  have cst_7 : FVec Ideal S_ .f32 := constant S_ .f32 0x00000000#32
  have v79 : FVec Ideal S2x256 .f32 := Host.reduceAdd v78 cst_7 reducesTo_S2x256x1024_S2x256_d2 h_S_
  have v80 : FVec Ideal S2x256x1 .f32 := broadcastInDim S2x256x1 ![0, 1] bcast_S2x256_S2x256x1_0_1 v79
  have cst_8 : FVec Ideal S_ .f32 := constant S_ .f32 0x44800000#32
  have v81 : FVec Ideal S2x256x1 .f32 := broadcastInDim S2x256x1 ![] bcast_S_S2x256x1 cst_8
  have v82 : FVec Ideal S2x256x1 .f32 := Host.divf v80 v81
  have cst_9 : FVec Ideal S_ .f32 := constant S_ .f32 0x358637BD#32
  have v83 : FVec Ideal S2x256x1 .f32 := broadcastInDim S2x256x1 ![] bcast_S_S2x256x1 cst_9
  have v84 : FVec Ideal S2x256x1 .f32 := addf v82 v83
  have v85 : FVec Ideal S2x256x1 .f32 := Host.rsqrt v84
  have v86 : FVec Ideal S2x256x1024 .f32 := broadcastInDim S2x256x1024 ![0, 1, 2] bcast_S2x256x1_S2x256x1024_0_1_2 v85
  have v87 : FVec Ideal S2x256x1024 .f32 := mulf v9 v86
  have v88 : FVec Ideal S1x1x1024 .f32 := broadcastInDim S1x1x1024 ![2] bcast_S1024_S1x1x1024_2 g
  have v89 : FVec Ideal S2x256x1024 .f32 := broadcastInDim S2x256x1024 ![0, 1, 2] bcast_S1x1x1024_S2x256x1024_0_1_2 v88
  have v90 : FVec Ideal S2x256x1024 .f32 := mulf v87 v89
  have cst_10 : FVec Ideal S_ .f32 := constant S_ .f32 0x3F800000#32
  have v91 : FVec Ideal S1024 .f32 := broadcastInDim S1024 ![] bcast_S_S1024 cst_10
  have v4 : FVec Ideal S1x1x1024 .f32 := extractStridedSlice S1x1x1024 ![2, 4, 0] mod slices_S8x6x1024_S1x1x1024_2_4_0
  have v5 : FVec Ideal S1024 .f32 := shapeCast _ v4 shapeCasts_S1x1x1024_S1024
  have v92 : FVec Ideal S1024 .f32 := addf v91 v5
  have v93 : FVec Ideal S1x1x1024 .f32 := broadcastInDim S1x1x1024 ![2] bcast_S1024_S1x1x1024_2 v92
  have v94 : FVec Ideal S2x256x1024 .f32 := broadcastInDim S2x256x1024 ![0, 1, 2] bcast_S1x1x1024_S2x256x1024_0_1_2 v93
  have v95 : FVec Ideal S2x256x1024 .f32 := mulf v90 v94
  have v1 : FVec Ideal S1x1x1024 .f32 := extractStridedSlice S1x1x1024 ![2, 3, 0] mod slices_S8x6x1024_S1x1x1024_2_3_0
  have v2 : FVec Ideal S1024 .f32 := shapeCast _ v1 shapeCasts_S1x1x1024_S1024
  have v96 : FVec Ideal S1x1x1024 .f32 := broadcastInDim S1x1x1024 ![2] bcast_S1024_S1x1x1024_2 v2
  have v97 : FVec Ideal S2x256x1024 .f32 := broadcastInDim S2x256x1024 ![0, 1, 2] bcast_S1x1x1024_S2x256x1024_0_1_2 v96
  addf v95 v97

/-- The context rows times the first weights. -/
def ctxUp (h : FVec Ideal S2x256x1024 .f32) (w : FVec Ideal S1024x5632 .f32) : FVec Ideal S2x256x5632 .f32 :=
  Host.dotGeneral dot_S2x256x1024_S1024x5632_S2x256x5632_2_0_01_1_n_n none h w

/-- The context rows with a row of zeros at either end. -/
def ctxPad (u : FVec Ideal S2x256x5632 .f32) : FVec Ideal S2x258x5632 .f32 :=
  have c_11 : Vec Ideal S_ .i32 := constantI S_ 32 0#32
  have call2_v0 : FVec Ideal S_ .f32 := sitofp .f32 c_11
  pad S2x258x5632 ![0, 1, 0] ![0, 1, 0] ![0, 0, 0] u call2_v0 pads_S2x256x5632_S2x258x5632_000_110_000 h_S_

/-- The context rows, filtered. -/
def ctxConv (p : FVec Ideal S2x258x5632 .f32) (cw : FVec Ideal S3x5632 .f32) (cb : FVec Ideal S5632 .f32) : FVec Ideal S2x256x5632 .f32 :=
  have cst_12 : FVec Ideal S_ .f32 := constant S_ .f32 0x00000000#32
  have v107 : FVec Ideal S2x256x5632 .f32 := broadcastInDim S2x256x5632 ![] bcast_S_S2x256x5632 cst_12
  have v101 : FVec Ideal S2x256x5632 .f32 := extractStridedSlice S2x256x5632 ![0, 0, 0] p slices_S2x258x5632_S2x256x5632_0_0_0
  have v102 : FVec Ideal S1x5632 .f32 := extractStridedSlice S1x5632 ![0, 0] cw slices_S3x5632_S1x5632_0_0
  have v103 : FVec Ideal S5632 .f32 := shapeCast _ v102 shapeCasts_S1x5632_S5632
  have v104 : FVec Ideal S1x1x5632 .f32 := broadcastInDim S1x1x5632 ![2] bcast_S5632_S1x1x5632_2 v103
  have v105 : FVec Ideal S2x256x5632 .f32 := broadcastInDim S2x256x5632 ![0, 1, 2] bcast_S1x1x5632_S2x256x5632_0_1_2 v104
  have v106 : FVec Ideal S2x256x5632 .f32 := mulf v101 v105
  have v108 : FVec Ideal S2x256x5632 .f32 := addf v107 v106
  have v109 : FVec Ideal S2x256x5632 .f32 := extractStridedSlice S2x256x5632 ![0, 1, 0] p slices_S2x258x5632_S2x256x5632_0_1_0
  have v110 : FVec Ideal S1x5632 .f32 := extractStridedSlice S1x5632 ![1, 0] cw slices_S3x5632_S1x5632_1_0
  have v111 : FVec Ideal S5632 .f32 := shapeCast _ v110 shapeCasts_S1x5632_S5632
  have v112 : FVec Ideal S1x1x5632 .f32 := broadcastInDim S1x1x5632 ![2] bcast_S5632_S1x1x5632_2 v111
  have v113 : FVec Ideal S2x256x5632 .f32 := broadcastInDim S2x256x5632 ![0, 1, 2] bcast_S1x1x5632_S2x256x5632_0_1_2 v112
  have v114 : FVec Ideal S2x256x5632 .f32 := mulf v109 v113
  have v115 : FVec Ideal S2x256x5632 .f32 := addf v108 v114
  have v116 : FVec Ideal S2x256x5632 .f32 := extractStridedSlice S2x256x5632 ![0, 2, 0] p slices_S2x258x5632_S2x256x5632_0_2_0
  have v117 : FVec Ideal S1x5632 .f32 := extractStridedSlice S1x5632 ![2, 0] cw slices_S3x5632_S1x5632_2_0
  have v118 : FVec Ideal S5632 .f32 := shapeCast _ v117 shapeCasts_S1x5632_S5632
  have v119 : FVec Ideal S1x1x5632 .f32 := broadcastInDim S1x1x5632 ![2] bcast_S5632_S1x1x5632_2 v118
  have v120 : FVec Ideal S2x256x5632 .f32 := broadcastInDim S2x256x5632 ![0, 1, 2] bcast_S1x1x5632_S2x256x5632_0_1_2 v119
  have v121 : FVec Ideal S2x256x5632 .f32 := mulf v116 v120
  have v122 : FVec Ideal S2x256x5632 .f32 := addf v115 v121
  have v123 : FVec Ideal S1x1x5632 .f32 := broadcastInDim S1x1x5632 ![2] bcast_S5632_S1x1x5632_2 cb
  have v124 : FVec Ideal S2x256x5632 .f32 := broadcastInDim S2x256x5632 ![0, 1, 2] bcast_S1x1x5632_S2x256x5632_0_1_2 v123
  addf v122 v124

/-- The context rows, gated. -/
def ctxAct (f : FVec Ideal S2x256x5632 .f32) : FVec Ideal S2x256x2816 .f32 :=
  have v126 : FVec Ideal S2x256x2816 .f32 := extractStridedSlice S2x256x2816 ![0, 0, 0] f slices_S2x256x5632_S2x256x2816_0_0_0
  have call3_cst_0 : FVec Ideal S_ .f32 := constant S_ .f32 0x3F800000#32
  have call3_v4 : FVec Ideal S2x256x2816 .f32 := broadcastInDim S2x256x2816 ![] bcast_S_S2x256x2816 call3_cst_0
  have call3_cst : FVec Ideal S_ .f32 := constant S_ .f32 0x3F800000#32
  have call3_v2 : FVec Ideal S2x256x2816 .f32 := broadcastInDim S2x256x2816 ![] bcast_S_S2x256x2816 call3_cst
  have call3_v0 : FVec Ideal S2x256x2816 .f32 := Host.negf v126
  have call3_v1 : FVec Ideal S2x256x2816 .f32 := Host.exp call3_v0
  have call3_v3 : FVec Ideal S2x256x2816 .f32 := addf call3_v2 call3_v1
  have call3_v5 : FVec Ideal S2x256x2816 .f32 := Host.divf call3_v4 call3_v3
  have v128 : FVec Ideal S2x256x2816 .f32 := mulf v126 call3_v5
  have v127 : FVec Ideal S2x256x2816 .f32 := extractStridedSlice S2x256x2816 ![0, 0, 2816] f slices_S2x256x5632_S2x256x2816_0_0_2816
  mulf v128 v127

/-- The context rows times the second weights. -/
def ctxDown (s : FVec Ideal S2x256x2816 .f32) (wd : FVec Ideal S2816x1024 .f32) : FVec Ideal S2x256x1024 .f32 :=
  Host.dotGeneral dot_S2x256x2816_S2816x1024_S2x256x1024_2_0_01_1_n_n none s wd

/-- The context rows plus their modulated update. -/
def ctxRes (x : FVec Ideal S2x8448x1024 .f32) (mod : FVec Ideal S8x6x1024 .f32) (gp : FVec Ideal S1024 .f32) (y : FVec Ideal S2x256x1024 .f32) : FVec Ideal S2x256x1024 .f32 :=
  have v9 : FVec Ideal S2x256x1024 .f32 := extractStridedSlice S2x256x1024 ![0, 0, 0] x slices_S2x8448x1024_S2x256x1024_0_0_0
  have v7 : FVec Ideal S1x1x1024 .f32 := extractStridedSlice S1x1x1024 ![2, 5, 0] mod slices_S8x6x1024_S1x1x1024_2_5_0
  have v8 : FVec Ideal S1024 .f32 := shapeCast _ v7 shapeCasts_S1x1x1024_S1024
  have v144 : FVec Ideal S1x1x1024 .f32 := broadcastInDim S1x1x1024 ![2] bcast_S1024_S1x1x1024_2 v8
  have v145 : FVec Ideal S2x256x1024 .f32 := broadcastInDim S2x256x1024 ![0, 1, 2] bcast_S1x1x1024_S2x256x1024_0_1_2 v144
  have v131 : FVec Ideal S2x256x1024 .f32 := mulf y y
  have cst_13 : FVec Ideal S_ .f32 := constant S_ .f32 0x00000000#32
  have v132 : FVec Ideal S2x256 .f32 := Host.reduceAdd v131 cst_13 reducesTo_S2x256x1024_S2x256_d2 h_S_
  have v133 : FVec Ideal S2x256x1 .f32 := broadcastInDim S2x256x1 ![0, 1] bcast_S2x256_S2x256x1_0_1 v132
  have cst_14 : FVec Ideal S_ .f32 := constant S_ .f32 0x44800000#32
  have v134 : FVec Ideal S2x256x1 .f32 := broadcastInDim S2x256x1 ![] bcast_S_S2x256x1 cst_14
  have v135 : FVec Ideal S2x256x1 .f32 := Host.divf v133 v134
  have cst_15 : FVec Ideal S_ .f32 := constant S_ .f32 0x358637BD#32
  have v136 : FVec Ideal S2x256x1 .f32 := broadcastInDim S2x256x1 ![] bcast_S_S2x256x1 cst_15
  have v137 : FVec Ideal S2x256x1 .f32 := addf v135 v136
  have v138 : FVec Ideal S2x256x1 .f32 := Host.rsqrt v137
  have v139 : FVec Ideal S2x256x1024 .f32 := broadcastInDim S2x256x1024 ![0, 1, 2] bcast_S2x256x1_S2x256x1024_0_1_2 v138
  have v140 : FVec Ideal S2x256x1024 .f32 := mulf y v139
  have v141 : FVec Ideal S1x1x1024 .f32 := broadcastInDim S1x1x1024 ![2] bcast_S1024_S1x1x1024_2 gp
  have v142 : FVec Ideal S2x256x1024 .f32 := broadcastInDim S2x256x1024 ![0, 1, 2] bcast_S1x1x1024_S2x256x1024_0_1_2 v141
  have v143 : FVec Ideal S2x256x1024 .f32 := mulf v140 v142
  have v146 : FVec Ideal S2x256x1024 .f32 := mulf v145 v143
  addf v9 v146

/-- The latent rows, normalized and modulated. -/
def latH (x : FVec Ideal S2x8448x1024 .f32) (mod : FVec Ideal S8x6x1024 .f32) (g : FVec Ideal S1024 .f32) : FVec Ideal S2x8192x1024 .f32 :=
  have v10 : FVec Ideal S2x8192x1024 .f32 := extractStridedSlice S2x8192x1024 ![0, 256, 0] x slices_S2x8448x1024_S2x8192x1024_0_256_0
  have v11 : FVec Ideal S2x8192x1024 .f32 := mulf v10 v10
  have cst : FVec Ideal S_ .f32 := constant S_ .f32 0x00000000#32
  have v12 : FVec Ideal S2x8192 .f32 := Host.reduceAdd v11 cst reducesTo_S2x8192x1024_S2x8192_d2 h_S_
  have v13 : FVec Ideal S2x8192x1 .f32 := broadcastInDim S2x8192x1 ![0, 1] bcast_S2x8192_S2x8192x1_0_1 v12
  have cst_0 : FVec Ideal S_ .f32 := constant S_ .f32 0x44800000#32
  have v14 : FVec Ideal S2x8192x1 .f32 := broadcastInDim S2x8192x1 ![] bcast_S_S2x8192x1 cst_0
  have v15 : FVec Ideal S2x8192x1 .f32 := Host.divf v13 v14
  have cst_1 : FVec Ideal S_ .f32 := constant S_ .f32 0x358637BD#32
  have v16 : FVec Ideal S2x8192x1 .f32 := broadcastInDim S2x8192x1 ![] bcast_S_S2x8192x1 cst_1
  have v17 : FVec Ideal S2x8192x1 .f32 := addf v15 v16
  have v18 : FVec Ideal S2x8192x1 .f32 := Host.rsqrt v17
  have v19 : FVec Ideal S2x8192x1024 .f32 := broadcastInDim S2x8192x1024 ![0, 1, 2] bcast_S2x8192x1_S2x8192x1024_0_1_2 v18
  have v20 : FVec Ideal S2x8192x1024 .f32 := mulf v10 v19
  have v21 : FVec Ideal S1x1x1024 .f32 := broadcastInDim S1x1x1024 ![2] bcast_S1024_S1x1x1024_2 g
  have v22 : FVec Ideal S2x8192x1024 .f32 := broadcastInDim S2x8192x1024 ![0, 1, 2] bcast_S1x1x1024_S2x8192x1024_0_1_2 v21
  have v23 : FVec Ideal S2x8192x1024 .f32 := mulf v20 v22
  have cst_2 : FVec Ideal S_ .f32 := constant S_ .f32 0x3F800000#32
  have v24 : FVec Ideal S2x1x1024 .f32 := broadcastInDim S2x1x1024 ![] bcast_S_S2x1x1024 cst_2
  have v3 : FVec Ideal S2x1x1024 .f32 := extractStridedSlice S2x1x1024 ![0, 4, 0] mod slices_S8x6x1024_S2x1x1024_0_4_0
  have v25 : FVec Ideal S2x1x1024 .f32 := addf v24 v3
  have v26 : FVec Ideal S2x8192x1024 .f32 := broadcastInDim S2x8192x1024 ![0, 1, 2] bcast_S2x1x1024_S2x8192x1024_0_1_2 v25
  have v27 : FVec Ideal S2x8192x1024 .f32 := mulf v23 v26
  have v0 : FVec Ideal S2x1x1024 .f32 := extractStridedSlice S2x1x1024 ![0, 3, 0] mod slices_S8x6x1024_S2x1x1024_0_3_0
  have v28 : FVec Ideal S2x8192x1024 .f32 := broadcastInDim S2x8192x1024 ![0, 1, 2] bcast_S2x1x1024_S2x8192x1024_0_1_2 v0
  addf v27 v28

/-- The latent rows times the first weights. -/
def latUp (h : FVec Ideal S2x8192x1024 .f32) (w : FVec Ideal S1024x5632 .f32) : FVec Ideal S2x8192x5632 .f32 :=
  Host.dotGeneral dot_S2x8192x1024_S1024x5632_S2x8192x5632_2_0_01_1_n_n none h w

/-- The latent rows with a row of zeros at either end. -/
def latPad (u : FVec Ideal S2x8192x5632 .f32) : FVec Ideal S2x8194x5632 .f32 :=
  have c : Vec Ideal S_ .i32 := constantI S_ 32 0#32
  have call0_v0 : FVec Ideal S_ .f32 := sitofp .f32 c
  pad S2x8194x5632 ![0, 1, 0] ![0, 1, 0] ![0, 0, 0] u call0_v0 pads_S2x8192x5632_S2x8194x5632_000_110_000 h_S_

/-- The latent rows, filtered. -/
def latConv (p : FVec Ideal S2x8194x5632 .f32) (cw : FVec Ideal S3x5632 .f32) (cb : FVec Ideal S5632 .f32) : FVec Ideal S2x8192x5632 .f32 :=
  have cst_3 : FVec Ideal S_ .f32 := constant S_ .f32 0x00000000#32
  have v38 : FVec Ideal S2x8192x5632 .f32 := broadcastInDim S2x8192x5632 ![] bcast_S_S2x8192x5632 cst_3
  have v32 : FVec Ideal S2x8192x5632 .f32 := extractStridedSlice S2x8192x5632 ![0, 0, 0] p slices_S2x8194x5632_S2x8192x5632_0_0_0
  have v33 : FVec Ideal S1x5632 .f32 := extractStridedSlice S1x5632 ![0, 0] cw slices_S3x5632_S1x5632_0_0
  have v34 : FVec Ideal S5632 .f32 := shapeCast _ v33 shapeCasts_S1x5632_S5632
  have v35 : FVec Ideal S1x1x5632 .f32 := broadcastInDim S1x1x5632 ![2] bcast_S5632_S1x1x5632_2 v34
  have v36 : FVec Ideal S2x8192x5632 .f32 := broadcastInDim S2x8192x5632 ![0, 1, 2] bcast_S1x1x5632_S2x8192x5632_0_1_2 v35
  have v37 : FVec Ideal S2x8192x5632 .f32 := mulf v32 v36
  have v39 : FVec Ideal S2x8192x5632 .f32 := addf v38 v37
  have v40 : FVec Ideal S2x8192x5632 .f32 := extractStridedSlice S2x8192x5632 ![0, 1, 0] p slices_S2x8194x5632_S2x8192x5632_0_1_0
  have v41 : FVec Ideal S1x5632 .f32 := extractStridedSlice S1x5632 ![1, 0] cw slices_S3x5632_S1x5632_1_0
  have v42 : FVec Ideal S5632 .f32 := shapeCast _ v41 shapeCasts_S1x5632_S5632
  have v43 : FVec Ideal S1x1x5632 .f32 := broadcastInDim S1x1x5632 ![2] bcast_S5632_S1x1x5632_2 v42
  have v44 : FVec Ideal S2x8192x5632 .f32 := broadcastInDim S2x8192x5632 ![0, 1, 2] bcast_S1x1x5632_S2x8192x5632_0_1_2 v43
  have v45 : FVec Ideal S2x8192x5632 .f32 := mulf v40 v44
  have v46 : FVec Ideal S2x8192x5632 .f32 := addf v39 v45
  have v47 : FVec Ideal S2x8192x5632 .f32 := extractStridedSlice S2x8192x5632 ![0, 2, 0] p slices_S2x8194x5632_S2x8192x5632_0_2_0
  have v48 : FVec Ideal S1x5632 .f32 := extractStridedSlice S1x5632 ![2, 0] cw slices_S3x5632_S1x5632_2_0
  have v49 : FVec Ideal S5632 .f32 := shapeCast _ v48 shapeCasts_S1x5632_S5632
  have v50 : FVec Ideal S1x1x5632 .f32 := broadcastInDim S1x1x5632 ![2] bcast_S5632_S1x1x5632_2 v49
  have v51 : FVec Ideal S2x8192x5632 .f32 := broadcastInDim S2x8192x5632 ![0, 1, 2] bcast_S1x1x5632_S2x8192x5632_0_1_2 v50
  have v52 : FVec Ideal S2x8192x5632 .f32 := mulf v47 v51
  have v53 : FVec Ideal S2x8192x5632 .f32 := addf v46 v52
  have v54 : FVec Ideal S1x1x5632 .f32 := broadcastInDim S1x1x5632 ![2] bcast_S5632_S1x1x5632_2 cb
  have v55 : FVec Ideal S2x8192x5632 .f32 := broadcastInDim S2x8192x5632 ![0, 1, 2] bcast_S1x1x5632_S2x8192x5632_0_1_2 v54
  addf v53 v55

/-- The latent rows, gated. -/
def latAct (f : FVec Ideal S2x8192x5632 .f32) : FVec Ideal S2x8192x2816 .f32 :=
  have v57 : FVec Ideal S2x8192x2816 .f32 := extractStridedSlice S2x8192x2816 ![0, 0, 0] f slices_S2x8192x5632_S2x8192x2816_0_0_0
  have call1_cst_0 : FVec Ideal S_ .f32 := constant S_ .f32 0x3F800000#32
  have call1_v4 : FVec Ideal S2x8192x2816 .f32 := broadcastInDim S2x8192x2816 ![] bcast_S_S2x8192x2816 call1_cst_0
  have call1_cst : FVec Ideal S_ .f32 := constant S_ .f32 0x3F800000#32
  have call1_v2 : FVec Ideal S2x8192x2816 .f32 := broadcastInDim S2x8192x2816 ![] bcast_S_S2x8192x2816 call1_cst
  have call1_v0 : FVec Ideal S2x8192x2816 .f32 := Host.negf v57
  have call1_v1 : FVec Ideal S2x8192x2816 .f32 := Host.exp call1_v0
  have call1_v3 : FVec Ideal S2x8192x2816 .f32 := addf call1_v2 call1_v1
  have call1_v5 : FVec Ideal S2x8192x2816 .f32 := Host.divf call1_v4 call1_v3
  have v59 : FVec Ideal S2x8192x2816 .f32 := mulf v57 call1_v5
  have v58 : FVec Ideal S2x8192x2816 .f32 := extractStridedSlice S2x8192x2816 ![0, 0, 2816] f slices_S2x8192x5632_S2x8192x2816_0_0_2816
  mulf v59 v58

/-- The latent rows times the second weights. -/
def latDown (s : FVec Ideal S2x8192x2816 .f32) (wd : FVec Ideal S2816x1024 .f32) : FVec Ideal S2x8192x1024 .f32 :=
  Host.dotGeneral dot_S2x8192x2816_S2816x1024_S2x8192x1024_2_0_01_1_n_n none s wd

/-- The latent rows plus their modulated update. -/
def latRes (x : FVec Ideal S2x8448x1024 .f32) (mod : FVec Ideal S8x6x1024 .f32) (gp : FVec Ideal S1024 .f32) (y : FVec Ideal S2x8192x1024 .f32) : FVec Ideal S2x8192x1024 .f32 :=
  have v10 : FVec Ideal S2x8192x1024 .f32 := extractStridedSlice S2x8192x1024 ![0, 256, 0] x slices_S2x8448x1024_S2x8192x1024_0_256_0
  have v6 : FVec Ideal S2x1x1024 .f32 := extractStridedSlice S2x1x1024 ![0, 5, 0] mod slices_S8x6x1024_S2x1x1024_0_5_0
  have v75 : FVec Ideal S2x8192x1024 .f32 := broadcastInDim S2x8192x1024 ![0, 1, 2] bcast_S2x1x1024_S2x8192x1024_0_1_2 v6
  have v62 : FVec Ideal S2x8192x1024 .f32 := mulf y y
  have cst_4 : FVec Ideal S_ .f32 := constant S_ .f32 0x00000000#32
  have v63 : FVec Ideal S2x8192 .f32 := Host.reduceAdd v62 cst_4 reducesTo_S2x8192x1024_S2x8192_d2 h_S_
  have v64 : FVec Ideal S2x8192x1 .f32 := broadcastInDim S2x8192x1 ![0, 1] bcast_S2x8192_S2x8192x1_0_1 v63
  have cst_5 : FVec Ideal S_ .f32 := constant S_ .f32 0x44800000#32
  have v65 : FVec Ideal S2x8192x1 .f32 := broadcastInDim S2x8192x1 ![] bcast_S_S2x8192x1 cst_5
  have v66 : FVec Ideal S2x8192x1 .f32 := Host.divf v64 v65
  have cst_6 : FVec Ideal S_ .f32 := constant S_ .f32 0x358637BD#32
  have v67 : FVec Ideal S2x8192x1 .f32 := broadcastInDim S2x8192x1 ![] bcast_S_S2x8192x1 cst_6
  have v68 : FVec Ideal S2x8192x1 .f32 := addf v66 v67
  have v69 : FVec Ideal S2x8192x1 .f32 := Host.rsqrt v68
  have v70 : FVec Ideal S2x8192x1024 .f32 := broadcastInDim S2x8192x1024 ![0, 1, 2] bcast_S2x8192x1_S2x8192x1024_0_1_2 v69
  have v71 : FVec Ideal S2x8192x1024 .f32 := mulf y v70
  have v72 : FVec Ideal S1x1x1024 .f32 := broadcastInDim S1x1x1024 ![2] bcast_S1024_S1x1x1024_2 gp
  have v73 : FVec Ideal S2x8192x1024 .f32 := broadcastInDim S2x8192x1024 ![0, 1, 2] bcast_S1x1x1024_S2x8192x1024_0_1_2 v72
  have v74 : FVec Ideal S2x8192x1024 .f32 := mulf v71 v73
  have v76 : FVec Ideal S2x8192x1024 .f32 := mulf v75 v74
  addf v10 v76

/-- The context rows and then the latent rows. -/
def stacked (q : FVec Ideal S2x256x1024 .f32) (s : FVec Ideal S2x8192x1024 .f32) : FVec Ideal S2x8448x1024 .f32 :=
  concatenate S2x8448x1024 1 [⟨S2x256x1024, q⟩, ⟨S2x8192x1024, s⟩] concatenates_S2x256x1024_S2x8192x1024_S2x8448x1024_d1

/-- The reference's result as the composition of its stages. -/
def out (x : FVec Ideal S2x8448x1024 .f32) (mod : FVec Ideal S8x6x1024 .f32) (g : FVec Ideal S1024 .f32) (gp : FVec Ideal S1024 .f32) (w : FVec Ideal S1024x5632 .f32) (cw : FVec Ideal S3x5632 .f32) (cb : FVec Ideal S5632 .f32) (wd : FVec Ideal S2816x1024 .f32) : FVec Ideal S2x8448x1024 .f32 :=
  stacked (ctxRes x mod gp (ctxDown (ctxAct (ctxConv (ctxPad (ctxUp (ctxH x mod g) w)) cw cb)) wd)) (latRes x mod gp (latDown (latAct (latConv (latPad (latUp (latH x mod g) w)) cw cb)) wd))

/-- A place of the context rows, normalized and modulated. -/
theorem ctxH_apply (x : FVec Ideal S2x8448x1024 .f32) (mod : FVec Ideal S8x6x1024 .f32) (g : FVec Ideal S1024 .f32) (b : Fin 2) (n : Fin 256) (d : Fin 1024) :
    (ctxH x mod g (ix3 b n d) : EReal)
      = modrow (fun k => x (ix3 b ⟨n.val, by omega⟩ k)) (fun k => g (ix1 k)) (fun k => mod (ix3 2 4 k)) (fun k => mod (ix3 2 3 k)) d := by
  pointwise [ctxH]
  rfl

/-- A place of the context rows times the first weights. -/
theorem ctxUp_apply (h : FVec Ideal S2x256x1024 .f32) (w : FVec Ideal S1024x5632 .f32) (b : Fin 2) (n : Fin 256) (c : Fin 5632) :
    (ctxUp h w (ix3 b n c) : EReal) = ∑ j, h (ix3 b n j) * w (ix2 j c) := by
  pointwise [ctxUp]

/-- A place of the context rows between two rows of zeros. -/
theorem ctxPad_apply (u : FVec Ideal S2x256x5632 .f32) (b : Fin 2) (n : Fin 258) (c : Fin 5632) :
    (ctxPad u (ix3 b n c) : EReal) = if h : 1 ≤ n.val ∧ n.val < 257 then u (ix3 b ⟨n.val - 1, by omega⟩ c) else 0 := by
  pointwise [ctxPad]
  have z : (FloatOps.sitofp FTy.f32 0#32 : Ideal FTy.f32) = (0 : EReal) := sitofp_zero
  rw [z]
  by_cases h : 1 ≤ n.val ∧ n.val < 257
  · rw [dif_pos h, dif_pos ⟨h.1, by omega⟩]
  · rw [dif_neg h, dif_neg fun h' => h ⟨h'.1, by omega⟩]

/-- A place of the context rows, filtered. -/
theorem ctxConv_apply (p : FVec Ideal S2x258x5632 .f32) (cw : FVec Ideal S3x5632 .f32) (cb : FVec Ideal S5632 .f32) (b : Fin 2) (n : Fin 256) (c : Fin 5632) :
    (ctxConv p cw cb (ix3 b n c) : EReal)
      = taps (p (ix3 b ⟨n.val, by omega⟩ c)) (p (ix3 b ⟨1 + n.val, by omega⟩ c)) (p (ix3 b ⟨2 + n.val, by omega⟩ c)) (cw (ix2 0 c)) (cw (ix2 1 c)) (cw (ix2 2 c)) (cb (ix1 c)) := by
  pointwise [ctxConv]
  unfold taps
  simp only [zero_add]

/-- A place of the context rows, gated. -/
theorem ctxAct_apply (f : FVec Ideal S2x256x5632 .f32) (b : Fin 2) (n : Fin 256) (d : Fin 2816) :
    (ctxAct f (ix3 b n d) : EReal) = gated (f (ix3 b n ⟨d.val, by omega⟩)) (f (ix3 b n ⟨2816 + d.val, by omega⟩)) := by
  pointwise [ctxAct]
  rfl

/-- A place of the context rows times the second weights. -/
theorem ctxDown_apply (s : FVec Ideal S2x256x2816 .f32) (wd : FVec Ideal S2816x1024 .f32) (b : Fin 2) (n : Fin 256) (e : Fin 1024) :
    (ctxDown s wd (ix3 b n e) : EReal) = down (fun d => s (ix3 b n d)) (fun d e => wd (ix2 d e)) e := by
  pointwise [ctxDown]
  rfl

/-- A place of the context rows plus their modulated update. -/
theorem ctxRes_apply (x : FVec Ideal S2x8448x1024 .f32) (mod : FVec Ideal S8x6x1024 .f32) (gp : FVec Ideal S1024 .f32) (y : FVec Ideal S2x256x1024 .f32) (b : Fin 2) (n : Fin 256) (e : Fin 1024) :
    (ctxRes x mod gp y (ix3 b n e) : EReal)
      = residual (fun k => x (ix3 b ⟨n.val, by omega⟩ k)) (fun k => mod (ix3 2 5 k)) (fun k => y (ix3 b n k)) (fun k => gp (ix1 k)) e := by
  pointwise [ctxRes]
  rfl

/-- A place of the latent rows, normalized and modulated. -/
theorem latH_apply (x : FVec Ideal S2x8448x1024 .f32) (mod : FVec Ideal S8x6x1024 .f32) (g : FVec Ideal S1024 .f32) (b : Fin 2) (n : Fin 8192) (d : Fin 1024) :
    (latH x mod g (ix3 b n d) : EReal)
      = modrow (fun k => x (ix3 b ⟨256 + n.val, by omega⟩ k)) (fun k => g (ix1 k)) (fun k => mod (ix3 ⟨b.val, by omega⟩ 4 k)) (fun k => mod (ix3 ⟨b.val, by omega⟩ 3 k)) d := by
  pointwise [latH]
  rfl

/-- A place of the latent rows times the first weights. -/
theorem latUp_apply (h : FVec Ideal S2x8192x1024 .f32) (w : FVec Ideal S1024x5632 .f32) (b : Fin 2) (n : Fin 8192) (c : Fin 5632) :
    (latUp h w (ix3 b n c) : EReal) = ∑ j, h (ix3 b n j) * w (ix2 j c) := by
  pointwise [latUp]

/-- A place of the latent rows between two rows of zeros. -/
theorem latPad_apply (u : FVec Ideal S2x8192x5632 .f32) (b : Fin 2) (n : Fin 8194) (c : Fin 5632) :
    (latPad u (ix3 b n c) : EReal) = if h : 1 ≤ n.val ∧ n.val < 8193 then u (ix3 b ⟨n.val - 1, by omega⟩ c) else 0 := by
  pointwise [latPad]
  have z : (FloatOps.sitofp FTy.f32 0#32 : Ideal FTy.f32) = (0 : EReal) := sitofp_zero
  rw [z]
  by_cases h : 1 ≤ n.val ∧ n.val < 8193
  · rw [dif_pos h, dif_pos ⟨h.1, by omega⟩]
  · rw [dif_neg h, dif_neg fun h' => h ⟨h'.1, by omega⟩]

/-- A place of the latent rows, filtered. -/
theorem latConv_apply (p : FVec Ideal S2x8194x5632 .f32) (cw : FVec Ideal S3x5632 .f32) (cb : FVec Ideal S5632 .f32) (b : Fin 2) (n : Fin 8192) (c : Fin 5632) :
    (latConv p cw cb (ix3 b n c) : EReal)
      = taps (p (ix3 b ⟨n.val, by omega⟩ c)) (p (ix3 b ⟨1 + n.val, by omega⟩ c)) (p (ix3 b ⟨2 + n.val, by omega⟩ c)) (cw (ix2 0 c)) (cw (ix2 1 c)) (cw (ix2 2 c)) (cb (ix1 c)) := by
  pointwise [latConv]
  unfold taps
  simp only [zero_add]

/-- A place of the latent rows, gated. -/
theorem latAct_apply (f : FVec Ideal S2x8192x5632 .f32) (b : Fin 2) (n : Fin 8192) (d : Fin 2816) :
    (latAct f (ix3 b n d) : EReal) = gated (f (ix3 b n ⟨d.val, by omega⟩)) (f (ix3 b n ⟨2816 + d.val, by omega⟩)) := by
  pointwise [latAct]
  rfl

/-- A place of the latent rows times the second weights. -/
theorem latDown_apply (s : FVec Ideal S2x8192x2816 .f32) (wd : FVec Ideal S2816x1024 .f32) (b : Fin 2) (n : Fin 8192) (e : Fin 1024) :
    (latDown s wd (ix3 b n e) : EReal) = down (fun d => s (ix3 b n d)) (fun d e => wd (ix2 d e)) e := by
  pointwise [latDown]
  rfl

/-- A place of the latent rows plus their modulated update. -/
theorem latRes_apply (x : FVec Ideal S2x8448x1024 .f32) (mod : FVec Ideal S8x6x1024 .f32) (gp : FVec Ideal S1024 .f32) (y : FVec Ideal S2x8192x1024 .f32) (b : Fin 2) (n : Fin 8192) (e : Fin 1024) :
    (latRes x mod gp y (ix3 b n e) : EReal)
      = residual (fun k => x (ix3 b ⟨256 + n.val, by omega⟩ k)) (fun k => mod (ix3 ⟨b.val, by omega⟩ 5 k)) (fun k => y (ix3 b n k)) (fun k => gp (ix1 k)) e := by
  pointwise [latRes]
  rfl

/-- Row `n` of the result. -/
theorem stacked_apply (q : FVec Ideal S2x256x1024 .f32) (s : FVec Ideal S2x8192x1024 .f32) (b : Fin 2) (n : Fin 8448) (c : Fin 1024) :
    (stacked q s (ix3 b n c) : EReal) = if h : n.val < 256 then q (ix3 b ⟨n.val, h⟩ c) else s (ix3 b ⟨n.val - 256, by omega⟩ c) := by
  pointwise [stacked]

/-- A place of the context rows times the first weights, as the formula's. -/
theorem ctxUp_eq (x : FVec Ideal S2x8448x1024 .f32) (mod : FVec Ideal S8x6x1024 .f32) (g : FVec Ideal S1024 .f32) (w : FVec Ideal S1024x5632 .f32) (b : Fin 2) (n : Fin 256) (k : Fin 8448)
    (hk : k.val = n.val) (c : Fin 5632) :
    (ctxUp (ctxH x mod g) w (ix3 b n c) : EReal)
      = up (fun b n k => x (ix3 b n k)) (fun r a k => mod (ix3 r a k)) (fun k => g (ix1 k)) (fun j k => w (ix2 j k)) b k c := by
  have hb := b.isLt
  have hm : modOf b k = 2 := by unfold modOf; split <;> first | rfl | omega
  have hn : (⟨n.val, by omega⟩ : Fin 8448) = k := Fin.ext hk.symm
  unfold up
  rw [ctxUp_apply]
  simp only [ctxH_apply, hn, hm]

/-- A place of the filtered context rows, as the formula's. -/
theorem ctxConv_eq (x : FVec Ideal S2x8448x1024 .f32) (mod : FVec Ideal S8x6x1024 .f32) (g : FVec Ideal S1024 .f32) (w : FVec Ideal S1024x5632 .f32) (cw : FVec Ideal S3x5632 .f32) (cb : FVec Ideal S5632 .f32)
    (b : Fin 2) (n : Fin 256) (k : Fin 8448) (hk : k.val = n.val) (c : Fin 5632) :
    (ctxConv (ctxPad (ctxUp (ctxH x mod g) w)) cw cb (ix3 b n c) : EReal)
      = conv (up (fun b n k => x (ix3 b n k)) (fun r a k => mod (ix3 r a k)) (fun k => g (ix1 k)) (fun j k => w (ix2 j k)) b) (fun t k => cw (ix2 t k)) (fun k => cb (ix1 k)) k c := by
  have hn := n.isLt
  have hk8 := k.isLt
  rw [ctxConv_apply]
  unfold conv
  refine taps_congr ?_ ?_ ?_ rfl rfl rfl rfl
  · rw [ctxPad_apply]
    unfold before
    by_cases h : n.val = 0
    · rw [dif_neg (by dsimp only; omega), if_pos (by omega)]
    · rw [dif_pos (by dsimp only; omega), if_neg (by omega)]
      exact ctxUp_eq x mod g w b _ _ (by dsimp only; omega) c
  · rw [ctxPad_apply, dif_pos (by dsimp only; omega)]
    exact ctxUp_eq x mod g w b _ _ (by dsimp only; omega) c
  · rw [ctxPad_apply]
    unfold after
    by_cases h : n.val + 1 = 256
    · rw [dif_neg (by dsimp only; omega), dif_pos (by omega)]
    · rw [dif_pos (by dsimp only; omega), dif_neg (by omega)]
      exact ctxUp_eq x mod g w b _ _ (by dsimp only; omega) c

/-- A place of the context rows' result, as the formula's. -/
theorem ctx_eq (x : FVec Ideal S2x8448x1024 .f32) (mod : FVec Ideal S8x6x1024 .f32) (g : FVec Ideal S1024 .f32) (gp : FVec Ideal S1024 .f32) (w : FVec Ideal S1024x5632 .f32) (cw : FVec Ideal S3x5632 .f32) (cb : FVec Ideal S5632 .f32) (wd : FVec Ideal S2816x1024 .f32) (b : Fin 2) (n : Fin 256) (k : Fin 8448) (hk : k.val = n.val) (e : Fin 1024) :
    (ctxRes x mod gp (ctxDown (ctxAct (ctxConv (ctxPad (ctxUp (ctxH x mod g) w)) cw cb)) wd) (ix3 b n e) : EReal)
      = ffn (fun b n k => x (ix3 b n k)) (fun r a k => mod (ix3 r a k)) (fun k => g (ix1 k)) (fun k => gp (ix1 k)) (fun j k => w (ix2 j k)) (fun t k => cw (ix2 t k)) (fun k => cb (ix1 k))
          (fun d k => wd (ix2 d k)) b k e := by
  have hb := b.isLt
  have hm : modOf b k = 2 := by unfold modOf; split <;> first | rfl | omega
  have hn : (⟨n.val, by omega⟩ : Fin 8448) = k := Fin.ext hk.symm
  unfold ffn
  rw [ctxRes_apply, hn, hm]
  simp only [ctxDown_apply, ctxAct_apply, ctxConv_eq x mod g w cw cb b n k hk]
  rfl

/-- A place of the latent rows times the first weights, as the formula's. -/
theorem latUp_eq (x : FVec Ideal S2x8448x1024 .f32) (mod : FVec Ideal S8x6x1024 .f32) (g : FVec Ideal S1024 .f32) (w : FVec Ideal S1024x5632 .f32) (b : Fin 2) (n : Fin 8192) (k : Fin 8448)
    (hk : k.val = 256 + n.val) (c : Fin 5632) :
    (latUp (latH x mod g) w (ix3 b n c) : EReal)
      = up (fun b n k => x (ix3 b n k)) (fun r a k => mod (ix3 r a k)) (fun k => g (ix1 k)) (fun j k => w (ix2 j k)) b k c := by
  have hb := b.isLt
  have hm : modOf b k = ⟨b.val, by omega⟩ := by unfold modOf; split <;> first | rfl | omega
  have hn : (⟨256 + n.val, by omega⟩ : Fin 8448) = k := Fin.ext hk.symm
  unfold up
  rw [latUp_apply]
  simp only [latH_apply, hn, hm]

/-- A place of the filtered latent rows, as the formula's. -/
theorem latConv_eq (x : FVec Ideal S2x8448x1024 .f32) (mod : FVec Ideal S8x6x1024 .f32) (g : FVec Ideal S1024 .f32) (w : FVec Ideal S1024x5632 .f32) (cw : FVec Ideal S3x5632 .f32) (cb : FVec Ideal S5632 .f32)
    (b : Fin 2) (n : Fin 8192) (k : Fin 8448) (hk : k.val = 256 + n.val) (c : Fin 5632) :
    (latConv (latPad (latUp (latH x mod g) w)) cw cb (ix3 b n c) : EReal)
      = conv (up (fun b n k => x (ix3 b n k)) (fun r a k => mod (ix3 r a k)) (fun k => g (ix1 k)) (fun j k => w (ix2 j k)) b) (fun t k => cw (ix2 t k)) (fun k => cb (ix1 k)) k c := by
  have hn := n.isLt
  have hk8 := k.isLt
  rw [latConv_apply]
  unfold conv
  refine taps_congr ?_ ?_ ?_ rfl rfl rfl rfl
  · rw [latPad_apply]
    unfold before
    by_cases h : n.val = 0
    · rw [dif_neg (by dsimp only; omega), if_pos (by omega)]
    · rw [dif_pos (by dsimp only; omega), if_neg (by omega)]
      exact latUp_eq x mod g w b _ _ (by dsimp only; omega) c
  · rw [latPad_apply, dif_pos (by dsimp only; omega)]
    exact latUp_eq x mod g w b _ _ (by dsimp only; omega) c
  · rw [latPad_apply]
    unfold after
    by_cases h : n.val + 1 = 8192
    · rw [dif_neg (by dsimp only; omega), dif_pos (by omega)]
    · rw [dif_pos (by dsimp only; omega), dif_neg (by omega)]
      exact latUp_eq x mod g w b _ _ (by dsimp only; omega) c

/-- A place of the latent rows' result, as the formula's. -/
theorem lat_eq (x : FVec Ideal S2x8448x1024 .f32) (mod : FVec Ideal S8x6x1024 .f32) (g : FVec Ideal S1024 .f32) (gp : FVec Ideal S1024 .f32) (w : FVec Ideal S1024x5632 .f32) (cw : FVec Ideal S3x5632 .f32) (cb : FVec Ideal S5632 .f32) (wd : FVec Ideal S2816x1024 .f32) (b : Fin 2) (n : Fin 8192) (k : Fin 8448) (hk : k.val = 256 + n.val) (e : Fin 1024) :
    (latRes x mod gp (latDown (latAct (latConv (latPad (latUp (latH x mod g) w)) cw cb)) wd) (ix3 b n e) : EReal)
      = ffn (fun b n k => x (ix3 b n k)) (fun r a k => mod (ix3 r a k)) (fun k => g (ix1 k)) (fun k => gp (ix1 k)) (fun j k => w (ix2 j k)) (fun t k => cw (ix2 t k)) (fun k => cb (ix1 k))
          (fun d k => wd (ix2 d k)) b k e := by
  have hb := b.isLt
  have hm : modOf b k = ⟨b.val, by omega⟩ := by unfold modOf; split <;> first | rfl | omega
  have hn : (⟨256 + n.val, by omega⟩ : Fin 8448) = k := Fin.ext hk.symm
  unfold ffn
  rw [latRes_apply, hn, hm]
  simp only [latDown_apply, latAct_apply, latConv_eq x mod g w cw cb b n k hk]
  rfl

/-- THE REFERENCE'S RESULT is the feed-forward part, at every place. -/
theorem out_apply (x : FVec Ideal S2x8448x1024 .f32) (mod : FVec Ideal S8x6x1024 .f32) (g : FVec Ideal S1024 .f32) (gp : FVec Ideal S1024 .f32) (w : FVec Ideal S1024x5632 .f32) (cw : FVec Ideal S3x5632 .f32) (cb : FVec Ideal S5632 .f32) (wd : FVec Ideal S2816x1024 .f32)
    (b : Fin 2) (n : Fin 8448) (e : Fin 1024) :
    (out x mod g gp w cw cb wd (ix3 b n e) : EReal)
      = ffn (fun b n k => x (ix3 b n k)) (fun r a k => mod (ix3 r a k)) (fun k => g (ix1 k)) (fun k => gp (ix1 k)) (fun j k => w (ix2 j k)) (fun t k => cw (ix2 t k)) (fun k => cb (ix1 k))
          (fun d k => wd (ix2 d k)) b n e := by
  unfold out
  rw [stacked_apply]
  by_cases h : n.val < 256
  · rw [dif_pos h]
    exact ctx_eq x mod g gp w cw cb wd b _ n rfl e
  · rw [dif_neg h]
    exact lat_eq x mod g gp w cw cb wd b _ n (by dsimp only; omega) e

set_option maxHeartbeats 4000000 in
/-- The reference runs, returns the composition of its stages, and leaves its arguments unchanged. -/
theorem run_out (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v148) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run (defs (F := Ideal)) _ _).mono (fun r h c => ?_) (Cert.Reference3Ideal.Value.run m ρ)
  refine ⟨(h c).1.trans ?_, (h c).2⟩
  rfl

end Cert.Layer.Ffn.Ref

end
-- ==== Proof.FfnClaim.lean ====
/- The claims about the feed-forward part: its reference's frame, and that the kernel and the reference return the same array. -/
module

public import proofs.«01_k».proof.Defs
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import Idealize.ShloMosaic.Adequacy
public import Idealize.ShloMosaic.Init
public import proofs.«01_k».proof.Proof.FfnArray
public import proofs.«01_k».proof.Proof.FfnRef

@[expose] public section

set_option maxRecDepth 16384

noncomputable section

namespace Cert.Layer.Ffn

open Idealize.ShloMosaic Idealize.SL.Sem

/-- The reference runs, leaves its arguments unchanged, and declares no semaphore. -/
theorem frame_reference (m : (ℓ : Loc Cert.Reference3Ideal.nD Cert.Reference3Ideal.τ Cert.Reference3Ideal.sig) → Buf (Elt Ideal) ℓ) (ρ : Dev Cert.Reference3Ideal.nD → PrngReg) :
    θ_run (Cert.Reference3Ideal.defs (F := Ideal)) (onTc (τ := Cert.Reference3Ideal.τ) (Cert.Reference3Ideal.main (F := Ideal))) ⟨m, fun _ => 0, ρ⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0) :=
  (θ_run Cert.Reference3Ideal.defs _ _).mono (fun r h => ⟨fun c => (h c).2, sem_eq_zero_of_no_sems (by decide) r.2⟩)
    (Cert.Layer.Ffn.Ref.run_out m ρ)

/-- The kernel's output array is the reference's result of the same arguments. -/
theorem value_eq (m : (ℓ : Loc Cert.Kernel3Ideal.nD Cert.Kernel3Ideal.τ Cert.Kernel3Ideal.sig) → Buf (Elt Ideal) ℓ) (c : Dev Cert.Kernel3Ideal.nD) :
    Ref.out (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) = G m c := by
  funext i
  obtain ⟨b, n, k, rfl⟩ : ∃ b n k, i = ix3 (n0 := 2) (n1 := 8448) (n2 := 1024) b n k := ⟨i 0, i 1, i 2, (ix3_eta (n0 := 2) (n1 := 8448) (n2 := 1024) i).symm⟩
  exact Ref.out_apply _ _ _ _ _ _ _ _ b n k

/-- THE VALUE CLAIM: from equal arguments, kernel and reference run and return the same array. -/
theorem algebraic : Cert.algebraic_Kernel3Ideal_Reference3Ideal (hKernel3Ideal := Cert.Kernel3Ideal.Gen.facts) (hReference3Ideal := Cert.Reference3Ideal.Gen.facts) := by
  intro m g m' g' _ hargs
  refine ⟨fun c => G m c, ?_, ?_⟩
  · refine (θ_run (Cert.Kernel3Ideal.defs (F := Ideal)) _ _).mono (fun r h c => ?_) (Cert.Kernel3Ideal.Value.run_blocks m g)
    obtain ⟨hv, h0, h1, h2, h3, h4, h5, h6, h7⟩ := h c
    exact ⟨hv.trans (final m c), h0, h1, h2, h3, h4, h5, h6, h7⟩
  · refine (θ_run (Cert.Reference3Ideal.defs (F := Ideal)) _ _).mono (fun r h c => ?_) (Cert.Layer.Ffn.Ref.run_out m' g')
    obtain ⟨hv, h0, h1, h2, h3, h4, h5, h6, h7⟩ := h c
    refine ⟨hv.trans ?_, h0, h1, h2, h3, h4, h5, h6, h7⟩
    obtain ⟨e0, e1, e2, e3, e4, e5, e6, e7⟩ := hargs c
    rw [e0, e1, e2, e3, e4, e5, e6, e7]
    exact value_eq m c

end Cert.Layer.Ffn

end
-- ==== Proof.MergeBlock.lean ====
/- What one block of the merge writes. -/
module

public import proofs.«01_k».proof.Proof.Gen.Kernel4Ideal.Frame
public import proofs.«01_k».proof.Proof.MergeSpec

@[expose] public section

set_option maxRecDepth 16384

noncomputable section

namespace Cert.Layer.Merge

open Idealize.ShloMosaic Idealize.SL.Sem Cert.Kernel4Ideal Cert.Kernel4Ideal.Gen Idealize.ShloMosaic.TcCoe

/-- The first branch's part of the mixture. -/
theorem pay2_apply (gt br : Vec Ideal S1x256x1024 .bf16) (w : Vec Ideal S1x1024x1024 .bf16) (r : Fin 256) (d : Fin 1024) :
    k0_pay2 (F := Ideal) gt br w (ix2 r d)
      = term (fun k => gt (ix3 0 r k)) (fun k => br (ix3 0 r k)) (fun j k => w (ix3 0 j k)) d := by
  pointwise [k0_pay2]
  unfold term sigm
  rw [zero_sub]

/-- The second branch's part of the mixture. -/
theorem pay3_apply (gt br : Vec Ideal S1x256x1024 .bf16) (w : Vec Ideal S1x1024x1024 .bf16) (r : Fin 256) (d : Fin 1024) :
    k0_pay3 (F := Ideal) gt br w (ix2 r d)
      = term (fun k => gt (ix3 0 r k)) (fun k => br (ix3 0 r k)) (fun j k => w (ix3 0 j k)) d :=
  pay2_apply gt br w r d

/-- The mixture times the output weights. -/
theorem pay4_apply (v15 v31 : FVec Ideal S256x1024 .f32) (gt br : Vec Ideal S1x256x1024 .bf16) (w : Vec Ideal S1x1024x1024 .bf16) (wo : Vec Ideal S1024x1024 .bf16)
    (r : Fin 256) (e : Fin 1024) :
    k0_pay4 (F := Ideal) v15 v31 gt br w wo (ix2 r e)
      = ∑ d, (v15 (ix2 r d) + v31 (ix2 r d) + term (fun k => gt (ix3 0 r k)) (fun k => br (ix3 0 r k)) (fun j k => w (ix3 0 j k)) d) * wo (ix2 d e) := by
  pointwise [k0_pay4]
  unfold term sigm
  simp only [zero_sub]

/-- A place of what the block stores, from the values read before it. -/
theorem stored_apply (v15 v31 : FVec Ideal S256x1024 .f32) (gt br : Vec Ideal S1x256x1024 .bf16) (w : Vec Ideal S1x1024x1024 .bf16) (wo : Vec Ideal S1024x1024 .bf16)
    (x : Vec Ideal S1x256x1024 .f32) (mg : Vec Ideal S1x1x1024 .f32) (g : Vec Ideal S1x1024 .f32) (r : Fin 256) (e : Fin 1024) :
    k0_pay1 (F := Ideal) (k0_pay4 v15 v31 gt br w wo) (k0_pay5 x) (k0_pay6 mg) (k0_pay7 g) (k0_pay8 v15 v31 gt br w wo) (Scalar.ofBits .f32 0x358637BD#32) (ix3 0 r e)
      = residual (fun k => x (ix3 0 r k)) (fun k => mg (ix3 0 0 k)) (fun k => k0_pay4 (F := Ideal) v15 v31 gt br w wo (ix2 r k)) (fun k => g (ix2 0 k)) e := by
  unfold k0_pay8
  generalize k0_pay4 (F := Ideal) v15 v31 gt br w wo = y
  pointwise [k0_pay1, k0_pay5, k0_pay6, k0_pay7]
  rfl

/-- A block's output as one function of its operands. -/
def rows (x0 x1 x2 : Vec Ideal S1x256x1024 .bf16) (x3 : Vec Ideal S1x256x3072 .bf16) (x4 : Vec Ideal S1x256x1024 .f32) (x5 : Vec Ideal S1x6x1024 .f32)
    (x6 : Vec Ideal S1x1024 .f32) (x7 : Vec Ideal S3x1024x1024 .bf16) (x8 : Vec Ideal S1024x1024 .bf16) (r : Fin 256) (e : Fin 1024) : EReal :=
  residual (fun k => x4 (ix3 0 r k)) (fun k => x5 (ix3 0 2 k))
    (mixedOut (fun d => x3 (ix3 0 r ⟨d.val, by omega⟩)) (fun d => x3 (ix3 0 r ⟨1024 + d.val, by omega⟩)) (fun d => x3 (ix3 0 r ⟨2048 + d.val, by omega⟩))
      (fun k => x0 (ix3 0 r k)) (fun k => x1 (ix3 0 r k)) (fun k => x2 (ix3 0 r k))
      (fun j k => x7 (ix3 0 j k)) (fun j k => x7 (ix3 1 j k)) (fun j k => x7 (ix3 2 j k)) (fun d k => x8 (ix2 d k))) (fun k => x6 (ix2 0 k)) e

/-- A block's output. -/
def block (x0 x1 x2 : Vec Ideal S1x256x1024 .bf16) (x3 : Vec Ideal S1x256x3072 .bf16) (x4 : Vec Ideal S1x256x1024 .f32) (x5 : Vec Ideal S1x6x1024 .f32)
    (x6 : Vec Ideal S1x1024 .f32) (x7 : Vec Ideal S3x1024x1024 .bf16) (x8 : Vec Ideal S1024x1024 .bf16) : Vec Ideal S1x256x1024 .f32 := fun i =>
  rows x0 x1 x2 x3 x4 x5 x6 x7 x8 (i 1) (i 2)

/-- Columns `o` to `o + 1023` of the gates. -/
theorem ld_gates (x : Vec Ideal S1x256x3072 .bf16) (o : Nat) (inb : ∀ a, (![0, 0, o] : Fin 3 → Nat) a + S1x256x1024.size a ≤ S1x256x3072.size a) (ho : o ≤ 2048) (r : Fin 256) (k : Fin 1024) :
    View.ld (Val := Elt Ideal) x (Rect.unit (s := S1x256x3072) ![0, 0, o] S1x256x1024.size inb) (ix3 (n0 := 1) (n1 := 256) (n2 := 1024) 0 r k) = x (ix3 0 r ⟨o + k.val, by omega⟩) := by
  refine congrArg x (?_ : _ = ix3 (n0 := 1) (n1 := 256) (n2 := 3072) _ _ _)
  funext a
  refine Fin.ext ?_
  match a with
  | 0 => rfl
  | 1 => show 0 + 1 * r.val = r.val; omega
  | 2 => show o + 1 * k.val = o + k.val; omega

/-- One branch's weights. -/
theorem ld_branch (x : Vec Ideal S3x1024x1024 .bf16) (n : Nat) (hn : n < 3) (inb : ∀ a, (![n, 0, 0] : Fin 3 → Nat) a + S1x1024x1024.size a ≤ S3x1024x1024.size a) (j k : Fin 1024) :
    View.ld (Val := Elt Ideal) x (Rect.unit (s := S3x1024x1024) ![n, 0, 0] S1x1024x1024.size inb) (ix3 (n0 := 1) (n1 := 1024) (n2 := 1024) 0 j k) = x (ix3 ⟨n, hn⟩ j k) := by
  refine congrArg x (?_ : _ = ix3 (n0 := 3) (n1 := 1024) (n2 := 1024) _ _ _)
  funext a
  refine Fin.ext ?_
  match a with
  | 0 => rfl
  | 1 => show 0 + 1 * j.val = j.val; omega
  | 2 => show 0 + 1 * k.val = k.val; omega

/-- The third row of the modulation vectors. -/
theorem ld_mod (x : Vec Ideal S1x6x1024 .f32) (inb : ∀ a, (![0, 2, 0] : Fin 3 → Nat) a + S1x1x1024.size a ≤ S1x6x1024.size a) (k : Fin 1024) :
    View.ld (Val := Elt Ideal) x (Rect.unit (s := S1x6x1024) ![0, 2, 0] S1x1x1024.size inb) (ix3 (n0 := 1) (n1 := 1) (n2 := 1024) 0 0 k) = x (ix3 0 2 k) := by
  refine congrArg x (?_ : _ = ix3 (n0 := 1) (n1 := 6) (n2 := 1024) _ _ _)
  funext a
  refine Fin.ext ?_
  match a with
  | 0 => rfl
  | 1 => rfl
  | 2 => show 0 + 1 * k.val = k.val; omega

/-- The whole of a block stored at once is the block. -/
theorem stored_whole (f : Vec Ideal S1x256x1024 .f32) (x0 x1 x2 : Vec Ideal S1x256x1024 .bf16) (x3 : Vec Ideal S1x256x3072 .bf16) (x4 : Vec Ideal S1x256x1024 .f32) (x5 : Vec Ideal S1x6x1024 .f32)
    (x6 : Vec Ideal S1x1024 .f32) (x7 : Vec Ideal S3x1024x1024 .bf16) (x8 : Vec Ideal S1024x1024 .bf16)
    (h : ∀ r e, f (ix3 0 r e) = rows x0 x1 x2 x3 x4 x5 x6 x7 x8 r e)
    (inb : ∀ a, (![0, 0, 0] : Fin 3 → Nat) a + S1x256x1024.size a ≤ S1x256x1024.size a) (x : (Rect.unit (s := S1x256x1024) ![0, 0, 0] S1x256x1024.size inb).shape.Idx) :
    f x = block x0 x1 x2 x3 x4 x5 x6 x7 x8 ((Rect.unit (s := S1x256x1024) ![0, 0, 0] S1x256x1024.size inb).emb x) := by
  rw [show x = ix3 (n0 := 1) (n1 := 256) (n2 := 1024) 0 (x 1) (x 2) from (ix3_eta (n0 := 1) (n1 := 256) (n2 := 1024) x).symm.trans (congrArg (fun t => ix3 (n0 := 1) (n1 := 256) (n2 := 1024) t (x 1) (x 2)) (Subsingleton.elim _ _))]
  generalize x 1 = r
  generalize x 2 = d
  change Fin 256 at r
  change Fin 1024 at d
  refine (h r d).trans (congrArg₂ (rows x0 x1 x2 x3 x4 x5 x6 x7 x8) (Fin.ext ?_) (Fin.ext ?_))
  · show r.val = 0 + 1 * r.val
    omega
  · show d.val = 0 + 1 * d.val
    omega

/-- A BLOCK'S OUTPUT is the merge of its operands' rows. -/
theorem out0_A_9_eq (c : Dev nD) (i : grid0.Coords) (arg2 : Memref sig .tc .vmem S1x256x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x256x3072 .bf16) (harg5 : arg5.IsWhole) (arg6 : Memref sig .tc .vmem S1x256x1024 .f32) (harg6 : arg6.IsWhole) (arg7 : Memref sig .tc .vmem S1x6x1024 .f32) (harg7 : arg7.IsWhole) (arg8 : Memref sig .tc .vmem S1x1024 .f32) (harg8 : arg8.IsWhole) (arg9 : Memref sig .tc .vmem S3x1024x1024 .bf16) (harg9 : arg9.IsWhole) (arg10 : Memref sig .tc .vmem S1024x1024 .bf16) (harg10 : arg10.IsWhole) (arg11 : Memref sig .tc .vmem S1x256x1024 .f32) (harg11 : arg11.IsWhole)
    (x0 : Vec Ideal S1x256x1024 .bf16) (x1 : Vec Ideal S1x256x1024 .bf16) (x2 : Vec Ideal S1x256x1024 .bf16) (x3 : Vec Ideal S1x256x3072 .bf16) (x4 : Vec Ideal S1x256x1024 .f32) (x5 : Vec Ideal S1x6x1024 .f32) (x6 : Vec Ideal S1x1024 .f32) (x7 : Vec Ideal S3x1024x1024 .bf16) (x8 : Vec Ideal S1024x1024 .bf16) :
    out0_A_9 (F := Ideal) c i arg2 harg2 arg3 harg3 arg4 harg4 arg5 harg5 arg6 harg6 arg7 harg7 arg8 harg8 arg9 harg9 arg10 harg10 arg11 harg11 x0 x1 x2 x3 x4 x5 x6 x7 x8 = block x0 x1 x2 x3 x4 x5 x6 x7 x8 := by
  have hz2 : (![0, 0] : Fin 2 → Nat) = fun _ => 0 := by funext a; fin_cases a <;> rfl
  have hz3 : (![0, 0, 0] : Fin 3 → Nat) = fun _ => 0 := by funext a; fin_cases a <;> rfl
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 x0 x1 x2 x3 x4 x5 x6 x7 x8)]
  funext y
  refine View.canon_apply_of_pieces _ _ ?_ y (cover0_A_9 c i arg2 harg2 arg3 harg3 arg4 harg4 arg5 harg5 arg6 harg6 arg7 harg7 arg8 harg8 arg9 harg9 arg10 harg10 arg11 harg11 x0 x1 x2 x3 x4 x5 x6 x7 x8 y)
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread,
    View.ld_unit_zero (S := S1x256x1024) hz3, View.ld_unit_zero (S := S1024x1024) hz2, View.ld_unit_zero (S := S1x1024) hz2]
  change ∀ p ∈ [_], _
  simp only [List.forall_mem_cons]
  refine ⟨stored_whole _ x0 x1 x2 x3 x4 x5 x6 x7 x8 (fun r e => ?_) inb_S1x256x1024_S1x256x1024_0_0_0, fun p hp => absurd hp List.not_mem_nil⟩
  refine (stored_apply _ _ _ _ _ _ _ _ _ r e).trans ?_
  unfold rows mixedOut
  simp only [pay4_apply, pay3_apply, pay2_apply]
  have em : (fun k : Fin 1024 => View.ld (Val := Elt Ideal) x5 (Rect.unit ![0, 2, 0] ![1, 1, 1024] inb_S1x6x1024_S1x1x1024_0_2_0) (ix3 0 0 k)) = fun k => x5 (ix3 0 2 k) :=
    funext fun k => ld_mod x5 _ k
  refine congrArg₂ (fun p q => residual _ p q _ e) em (funext fun k => Finset.sum_congr rfl fun d _ => congrArg (· * _) ?_)
  refine congrArg₂ (· + ·) (congrArg₂ (· + ·) ?_ ?_) ?_
  · exact congrArg₂ (fun p q => term p _ q d) (funext fun k => (ld_gates x3 0 _ (by decide) r k).trans (congrArg (fun n => x3 (ix3 0 r n)) (Fin.ext (Nat.zero_add _))))
      (funext fun j => funext fun k => ld_branch x7 0 (by decide) _ j k)
  · exact congrArg₂ (fun p q => term p _ q d) (funext fun k => ld_gates x3 1024 _ (by decide) r k) (funext fun j => funext fun k => ld_branch x7 1 (by decide) _ j k)
  · exact congrArg₂ (fun p q => term p _ q d) (funext fun k => ld_gates x3 2048 _ (by decide) r k) (funext fun j => funext fun k => ld_branch x7 2 (by decide) _ j k)

end Cert.Layer.Merge

end
-- ==== Proof.MergeArray.lean ====
/- What the merge's result array holds. -/
module

public import proofs.«01_k».proof.Proof.Gen.Kernel4Ideal.Value
public import proofs.«01_k».proof.Proof.MergeBlock
public import Idealize.ShloMosaic.Lib.StableHlo.ReadAt
public import Idealize.ShloMosaic.Lib.Pointwise
public import Idealize.ShloMosaic.Lib.Pipeline.ValueKit.Point

@[expose] public section

set_option maxRecDepth 16384

noncomputable section

namespace Cert.Layer.Merge

open Idealize.ShloMosaic Idealize.SL.Sem Cert.Kernel4Ideal Cert.Kernel4Ideal.Gen Cert.Kernel4Ideal.Value Idealize.ShloMosaic.TcCoe

variable (m : (ℓ : Loc nD τ sig) → Buf (Elt Ideal) ℓ)

/-- The grid coordinates of a point: batch and block of rows. -/
def tb (t : Fin cfg0.N) : Fin 2 := ⟨t.val / 33, by have h : t.val < 66 := t.isLt; omega⟩
def ti (t : Fin cfg0.N) : Fin 33 := ⟨t.val % 33, by omega⟩
/-- The row of the modulation array a point takes. -/
def tm (t : Fin cfg0.N) : Fin 8 := ⟨if t.val % 33 = 0 then 2 else t.val / 33, by have h : t.val < 66 := t.isLt; split <;> omega⟩
/-- A block's row in the arrays. -/
def tn (t : Fin cfg0.N) (r : Fin 256) : Fin 8448 := ⟨256 * (ti t).val + r.val, by have := (ti t).isLt; omega⟩

theorem idx0 : ∀ t : Fin cfg0.N, win0_0.index t = ![t.val / 33, t.val % 33, 0] := (by decide +kernel : ∀ t : Fin grid0.N, _)
theorem idx1 : ∀ t : Fin cfg0.N, win0_1.index t = ![t.val / 33, t.val % 33, 0] := (by decide +kernel : ∀ t : Fin grid0.N, _)
theorem idx2 : ∀ t : Fin cfg0.N, win0_2.index t = ![t.val / 33, t.val % 33, 0] := (by decide +kernel : ∀ t : Fin grid0.N, _)
theorem idx3 : ∀ t : Fin cfg0.N, win0_3.index t = ![t.val / 33, t.val % 33, 0] := (by decide +kernel : ∀ t : Fin grid0.N, _)
theorem idx4 : ∀ t : Fin cfg0.N, win0_4.index t = ![t.val / 33, t.val % 33, 0] := (by decide +kernel : ∀ t : Fin grid0.N, _)
theorem idx9 : ∀ t : Fin cfg0.N, win0_9.index t = ![t.val / 33, t.val % 33, 0] := (by decide +kernel : ∀ t : Fin grid0.N, _)
theorem idx5 : ∀ t : Fin cfg0.N, win0_5.index t = ![if t.val % 33 = 0 then 2 else t.val / 33, 0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0, 0] := (by decide +kernel : ∀ t : Fin grid0.N, _)
theorem idx8 : ∀ t : Fin cfg0.N, win0_8.index t = ![0, 0] := (by decide +kernel : ∀ t : Fin grid0.N, _)

/-- The first branch's rows staged at a point. -/
theorem x0_at (c : Dev nD) (t : Fin cfg0.N) (r : Fin 256) (k : Fin 1024) :
    (iblk m c 0 t : Vec Ideal S1x256x1024 .bf16) (ix3 0 r k) = (V m c main_arg0 : Vec Ideal S2x8448x1024 .bf16) (ix3 (tb t) (tn t r) k) := by
  blk_simp [iblk]
  refine congrArg _ ?_
  unfold tn tb ti
  blk_ext [idx0]

/-- The second branch's rows. -/
theorem x1_at (c : Dev nD) (t : Fin cfg0.N) (r : Fin 256) (k : Fin 1024) :
    (iblk m c 1 t : Vec Ideal S1x256x1024 .bf16) (ix3 0 r k) = (V m c main_arg1 : Vec Ideal S2x8448x1024 .bf16) (ix3 (tb t) (tn t r) k) := by
  blk_simp [iblk]
  refine congrArg _ ?_
  unfold tn tb ti
  blk_ext [idx1]

/-- The third branch's rows. -/
theorem x2_at (c : Dev nD) (t : Fin cfg0.N) (r : Fin 256) (k : Fin 1024) :
    (iblk m c 2 t : Vec Ideal S1x256x1024 .bf16) (ix3 0 r k) = (V m c main_arg2 : Vec Ideal S2x8448x1024 .bf16) (ix3 (tb t) (tn t r) k) := by
  blk_simp [iblk]
  refine congrArg _ ?_
  unfold tn tb ti
  blk_ext [idx2]

/-- The gates' rows. -/
theorem x3_at (c : Dev nD) (t : Fin cfg0.N) (r : Fin 256) (k : Fin 3072) :
    (X0_3 m c t : Vec Ideal S1x256x3072 .bf16) (ix3 0 r k) = (V m c main_arg3 : Vec Ideal S2x8448x9984 .bf16) (ix3 (tb t) (tn t r) ⟨k.val, by omega⟩) := by
  unfold X0_3 Pipeline.Window.fill
  rw [dif_pos (moved0_3 t _)]
  blk_simp [iblk]
  refine congrArg _ ?_
  unfold tn tb ti
  blk_ext [idx3]

/-- The rows that the update is added to. -/
theorem x4_at (c : Dev nD) (t : Fin cfg0.N) (r : Fin 256) (k : Fin 1024) :
    (iblk m c 4 t : Vec Ideal S1x256x1024 .f32) (ix3 0 r k) = (V m c main_arg4 : Vec Ideal S2x8448x1024 .f32) (ix3 (tb t) (tn t r) k) := by
  blk_simp [iblk]
  refine congrArg _ ?_
  unfold tn tb ti
  blk_ext [idx4]

/-- The modulation row. -/
theorem x5_at (c : Dev nD) (t : Fin cfg0.N) (a : Fin 6) (k : Fin 1024) :
    (iblk m c 5 t : Vec Ideal S1x6x1024 .f32) (ix3 0 a k) = (V m c main_arg5 : Vec Ideal S8x6x1024 .f32) (ix3 (tm t) a k) := by
  blk_simp [iblk]
  refine congrArg _ ?_
  unfold tm
  blk_ext [idx5]

/-- The gain. -/
theorem x6_at (c : Dev nD) (t : Fin cfg0.N) (k : Fin 1024) :
    (iblk m c 6 t : Vec Ideal S1x1024 .f32) (ix2 0 k) = (m ((c : Thread nD τ).loc main_arg6) : Vec Ideal S1024 .f32) (ix1 k) := by
  refine Eq.trans (b := (V m c main_v2 : Vec Ideal S1x1024 .f32) (ix2 0 k)) ?_ ?_
  · blk_simp [iblk]
    refine congrArg _ ?_
    blk_ext [idx6]
  · unfold V
    after_reads_at

/-- The branches' weights. -/
theorem x7_at (c : Dev nD) (t : Fin cfg0.N) (i : Fin 3) (j k : Fin 1024) :
    (iblk m c 7 t : Vec Ideal S3x1024x1024 .bf16) (ix3 i j k) = (m ((c : Thread nD τ).loc main_arg7) : Vec Ideal S3x1024x1024 .f32) (ix3 i j k) := by
  refine Eq.trans (b := (V m c main_v0 : Vec Ideal S3x1024x1024 .bf16) (ix3 i j k)) ?_ ?_
  · blk_simp [iblk]
    refine congrArg _ ?_
    blk_ext [idx7]
  · unfold V
    after_reads_at

/-- The output weights. -/
theorem x8_at (c : Dev nD) (t : Fin cfg0.N) (j k : Fin 1024) :
    (iblk m c 8 t : Vec Ideal S1024x1024 .bf16) (ix2 j k) = (m ((c : Thread nD τ).loc main_arg8) : Vec Ideal S1024x1024 .f32) (ix2 j k) := by
  refine Eq.trans (b := (V m c main_v1 : Vec Ideal S1024x1024 .bf16) (ix2 j k)) ?_ ?_
  · blk_simp [iblk]
    refine congrArg _ ?_
    blk_ext [idx8]
  · unfold V
    after_reads_at

/-- The output array as one function of the kernel's arguments. -/
def G (c : Dev nD) : Vec Ideal S2x8448x1024 .f32 := fun i =>
  merge (fun b n k => (m ((c : Thread nD τ).loc main_arg0) : Vec Ideal S2x8448x1024 .bf16) (ix3 b n k))
    (fun b n k => (m ((c : Thread nD τ).loc main_arg1) : Vec Ideal S2x8448x1024 .bf16) (ix3 b n k))
    (fun b n k => (m ((c : Thread nD τ).loc main_arg2) : Vec Ideal S2x8448x1024 .bf16) (ix3 b n k))
    (fun b n k => (m ((c : Thread nD τ).loc main_arg4) : Vec Ideal S2x8448x1024 .f32) (ix3 b n k))
    (fun b n k => (m ((c : Thread nD τ).loc main_arg3) : Vec Ideal S2x8448x9984 .bf16) (ix3 b n k))
    (fun r a k => (m ((c : Thread nD τ).loc main_arg5) : Vec Ideal S8x6x1024 .f32) (ix3 r a k))
    (fun k => (m ((c : Thread nD τ).loc main_arg6) : Vec Ideal S1024 .f32) (ix1 k))
    (fun i j k => (m ((c : Thread nD τ).loc main_arg7) : Vec Ideal S3x1024x1024 .f32) (ix3 i j k))
    (fun j k => (m ((c : Thread nD τ).loc main_arg8) : Vec Ideal S1024x1024 .f32) (ix2 j k)) (i 0) (i 1) (i 2)

/-- The place of the output that a place of a point's block is. -/
theorem emb9 (t : Fin cfg0.N) (r : Fin 256) (k : Fin 1024) :
    ((cfg0.win 9).blk t).view.emb (ix3 (n0 := 1) (n1 := 256) (n2 := 1024) 0 r k) = (ix3 (tb t) (tn t r) k : S2x8448x1024.Idx) := by
  unfold tn tb ti
  blk_ext [idx9]

/-- A point's row of the modulation array is the one its positions take. -/
theorem tm_eq (t : Fin cfg0.N) (r : Fin 256) : tm t = modOf (tb t) (tn t r) := by
  unfold modOf
  refine Fin.ext ?_
  by_cases h : t.val % 33 = 0
  · rw [if_pos (show (tn t r).val < 256 by show 256 * (ti t).val + r.val < 256; have h' : (ti t).val = 0 := h; omega)]
    show (if t.val % 33 = 0 then 2 else t.val / 33) = 2
    rw [if_pos h]
  · rw [if_neg (show ¬ (tn t r).val < 256 by show ¬ 256 * (ti t).val + r.val < 256; have h' : (ti t).val ≠ 0 := h; omega)]
    show (if t.val % 33 = 0 then 2 else t.val / 33) = t.val / 33
    rw [if_neg h]

/-- THE RESULT ARRAY of the kernel is the merge, everywhere. -/
theorem final (c : Dev nD) : (dats m 0 c).arrAt 9 cfg0.N = G m c := by
  refine (dats m 0 c).arrAt_eq_of_covers 9 _ (by decide +kernel) fun t hf y => ?_
  obtain ⟨r, k, rfl⟩ : ∃ (r : Fin 256) (k : Fin 1024), y = (ix3 (n0 := 1) (n1 := 256) (n2 := 1024) 0 r k) :=
    ⟨y 1, y 2, ((ix3_eta (n0 := 1) (n1 := 256) (n2 := 1024) y).symm.trans (congrArg (fun t => ix3 (n0 := 1) (n1 := 256) (n2 := 1024) t (y 1) (y 2)) (Subsingleton.elim _ _)))⟩
  blk_simp
  rw [emb9, after0_9]
  unfold outsAt0
  rw [out0_A_9_eq]
  show rows _ _ _ _ _ _ _ _ _ r k = merge _ _ _ _ _ _ _ _ _ (tb t) (tn t r) k
  unfold rows merge
  simp only [x0_at, x1_at, x2_at, x3_at, x4_at, x5_at, x6_at, x7_at, x8_at, ← tm_eq t r]
  rw [V_main_arg0, V_main_arg1, V_main_arg2, V_main_arg3, V_main_arg4, V_main_arg5]

end Cert.Layer.Merge

end
-- ==== Proof.MergeRef.lean ====
/- The reference's merge: its stages as functions of arrays, read at an index, and its result. -/
module

public import proofs.«01_k».proof.Proof.Gen.Reference4Ideal.Run
public import Idealize.ShloMosaic.Lib.Pointwise
public import proofs.«01_k».proof.Proof.MergeSpec

@[expose] public section

set_option maxRecDepth 16384

noncomputable section

namespace Cert.Layer.Merge.Ref

open Idealize.ShloMosaic Idealize.SL.Sem Cert.Reference4Ideal Cert.Reference4Ideal.Gen Idealize.ShloMosaic.TcCoe Cert.Layer

/-- Branch 1's gates of the context rows. -/
def ctxGate0 (p : FVec Ideal S2x8448x9984 .bf16) : FVec Ideal S2x256x1024 .f32 :=
  have cst_5 : FVec Ideal S_ .f32 := constant S_ .f32 0x3F800000#32
  have v62 : FVec Ideal S2x256x3072 .f32 := broadcastInDim S2x256x3072 ![] bcast_S_S2x256x3072 cst_5
  have cst_4 : FVec Ideal S_ .f32 := constant S_ .f32 0x3F800000#32
  have v60 : FVec Ideal S2x256x3072 .f32 := broadcastInDim S2x256x3072 ![] bcast_S_S2x256x3072 cst_4
  have v3 : FVec Ideal S2x8448x3072 .bf16 := extractStridedSlice S2x8448x3072 ![0, 0, 0] p slices_S2x8448x9984_S2x8448x3072_0_0_0
  have v7 : FVec Ideal S2x8448x3072 .f32 := extf .f32 v3 bitsLt_bf16_f32
  have v57 : FVec Ideal S2x256x3072 .f32 := extractStridedSlice S2x256x3072 ![0, 0, 0] v7 slices_S2x8448x3072_S2x256x3072_0_0_0
  have v58 : FVec Ideal S2x256x3072 .f32 := Host.negf v57
  have v59 : FVec Ideal S2x256x3072 .f32 := Host.exp v58
  have v61 : FVec Ideal S2x256x3072 .f32 := addf v60 v59
  have v63 : FVec Ideal S2x256x3072 .f32 := Host.divf v62 v61
  extractStridedSlice S2x256x1024 ![0, 0, 0] v63 slices_S2x256x3072_S2x256x1024_0_0_0

/-- The context rows of branch 1 times its weights. -/
def ctxBranch0 (gla : FVec Ideal S2x8448x1024 .bf16) (wb : FVec Ideal S3x1024x1024 .f32) : FVec Ideal S2x256x1024 .f32 :=
  have v4 : FVec Ideal S2x8448x1024 .f32 := extf .f32 gla bitsLt_bf16_f32
  have v54 : FVec Ideal S2x256x1024 .f32 := extractStridedSlice S2x256x1024 ![0, 0, 0] v4 slices_S2x8448x1024_S2x256x1024_0_0_0
  have v67 : FVec Ideal S1x1024x1024 .f32 := extractStridedSlice S1x1024x1024 ![0, 0, 0] wb slices_S3x1024x1024_S1x1024x1024_0_0_0
  have v68 : FVec Ideal S1024x1024 .f32 := shapeCast _ v67 shapeCasts_S1x1024x1024_S1024x1024
  Host.dotGeneral dot_S2x256x1024_S1024x1024_S2x256x1024_2_0_01_1_n_n none v54 v68

/-- Branch 2's gates of the context rows. -/
def ctxGate1 (p : FVec Ideal S2x8448x9984 .bf16) : FVec Ideal S2x256x1024 .f32 :=
  have cst_5 : FVec Ideal S_ .f32 := constant S_ .f32 0x3F800000#32
  have v62 : FVec Ideal S2x256x3072 .f32 := broadcastInDim S2x256x3072 ![] bcast_S_S2x256x3072 cst_5
  have cst_4 : FVec Ideal S_ .f32 := constant S_ .f32 0x3F800000#32
  have v60 : FVec Ideal S2x256x3072 .f32 := broadcastInDim S2x256x3072 ![] bcast_S_S2x256x3072 cst_4
  have v3 : FVec Ideal S2x8448x3072 .bf16 := extractStridedSlice S2x8448x3072 ![0, 0, 0] p slices_S2x8448x9984_S2x8448x3072_0_0_0
  have v7 : FVec Ideal S2x8448x3072 .f32 := extf .f32 v3 bitsLt_bf16_f32
  have v57 : FVec Ideal S2x256x3072 .f32 := extractStridedSlice S2x256x3072 ![0, 0, 0] v7 slices_S2x8448x3072_S2x256x3072_0_0_0
  have v58 : FVec Ideal S2x256x3072 .f32 := Host.negf v57
  have v59 : FVec Ideal S2x256x3072 .f32 := Host.exp v58
  have v61 : FVec Ideal S2x256x3072 .f32 := addf v60 v59
  have v63 : FVec Ideal S2x256x3072 .f32 := Host.divf v62 v61
  extractStridedSlice S2x256x1024 ![0, 0, 1024] v63 slices_S2x256x3072_S2x256x1024_0_0_1024

/-- The context rows of branch 2 times its weights. -/
def ctxBranch1 (att : FVec Ideal S2x8448x1024 .bf16) (wb : FVec Ideal S3x1024x1024 .f32) : FVec Ideal S2x256x1024 .f32 :=
  have v5 : FVec Ideal S2x8448x1024 .f32 := extf .f32 att bitsLt_bf16_f32
  have v55 : FVec Ideal S2x256x1024 .f32 := extractStridedSlice S2x256x1024 ![0, 0, 0] v5 slices_S2x8448x1024_S2x256x1024_0_0_0
  have v71 : FVec Ideal S1x1024x1024 .f32 := extractStridedSlice S1x1024x1024 ![1, 0, 0] wb slices_S3x1024x1024_S1x1024x1024_1_0_0
  have v72 : FVec Ideal S1024x1024 .f32 := shapeCast _ v71 shapeCasts_S1x1024x1024_S1024x1024
  Host.dotGeneral dot_S2x256x1024_S1024x1024_S2x256x1024_2_0_01_1_n_n none v55 v72

/-- Branch 3's gates of the context rows. -/
def ctxGate2 (p : FVec Ideal S2x8448x9984 .bf16) : FVec Ideal S2x256x1024 .f32 :=
  have cst_5 : FVec Ideal S_ .f32 := constant S_ .f32 0x3F800000#32
  have v62 : FVec Ideal S2x256x3072 .f32 := broadcastInDim S2x256x3072 ![] bcast_S_S2x256x3072 cst_5
  have cst_4 : FVec Ideal S_ .f32 := constant S_ .f32 0x3F800000#32
  have v60 : FVec Ideal S2x256x3072 .f32 := broadcastInDim S2x256x3072 ![] bcast_S_S2x256x3072 cst_4
  have v3 : FVec Ideal S2x8448x3072 .bf16 := extractStridedSlice S2x8448x3072 ![0, 0, 0] p slices_S2x8448x9984_S2x8448x3072_0_0_0
  have v7 : FVec Ideal S2x8448x3072 .f32 := extf .f32 v3 bitsLt_bf16_f32
  have v57 : FVec Ideal S2x256x3072 .f32 := extractStridedSlice S2x256x3072 ![0, 0, 0] v7 slices_S2x8448x3072_S2x256x3072_0_0_0
  have v58 : FVec Ideal S2x256x3072 .f32 := Host.negf v57
  have v59 : FVec Ideal S2x256x3072 .f32 := Host.exp v58
  have v61 : FVec Ideal S2x256x3072 .f32 := addf v60 v59
  have v63 : FVec Ideal S2x256x3072 .f32 := Host.divf v62 v61
  extractStridedSlice S2x256x1024 ![0, 0, 2048] v63 slices_S2x256x3072_S2x256x1024_0_0_2048

/-- The context rows of branch 3 times its weights. -/
def ctxBranch2 (lru : FVec Ideal S2x8448x1024 .bf16) (wb : FVec Ideal S3x1024x1024 .f32) : FVec Ideal S2x256x1024 .f32 :=
  have v6 : FVec Ideal S2x8448x1024 .f32 := extf .f32 lru bitsLt_bf16_f32
  have v56 : FVec Ideal S2x256x1024 .f32 := extractStridedSlice S2x256x1024 ![0, 0, 0] v6 slices_S2x8448x1024_S2x256x1024_0_0_0
  have v76 : FVec Ideal S1x1024x1024 .f32 := extractStridedSlice S1x1024x1024 ![2, 0, 0] wb slices_S3x1024x1024_S1x1024x1024_2_0_0
  have v77 : FVec Ideal S1024x1024 .f32 := shapeCast _ v76 shapeCasts_S1x1024x1024_S1024x1024
  Host.dotGeneral dot_S2x256x1024_S1024x1024_S2x256x1024_2_0_01_1_n_n none v56 v77

/-- The mixture of the context rows times the output weights. -/
def ctxOut (g0 : FVec Ideal S2x256x1024 .f32) (g1 : FVec Ideal S2x256x1024 .f32) (g2 : FVec Ideal S2x256x1024 .f32) (d0 : FVec Ideal S2x256x1024 .f32) (d1 : FVec Ideal S2x256x1024 .f32) (d2 : FVec Ideal S2x256x1024 .f32) (wo : FVec Ideal S1024x1024 .f32) : FVec Ideal S2x256x1024 .f32 :=
  have v70 : FVec Ideal S2x256x1024 .f32 := mulf g0 d0
  have v74 : FVec Ideal S2x256x1024 .f32 := mulf g1 d1
  have v75 : FVec Ideal S2x256x1024 .f32 := addf v70 v74
  have v79 : FVec Ideal S2x256x1024 .f32 := mulf g2 d2
  have v80 : FVec Ideal S2x256x1024 .f32 := addf v75 v79
  Host.dotGeneral dot_S2x256x1024_S1024x1024_S2x256x1024_2_0_01_1_n_n none v80 wo

/-- The context rows plus their modulated update. -/
def ctxRes (x : FVec Ideal S2x8448x1024 .f32) (mod : FVec Ideal S8x6x1024 .f32) (g : FVec Ideal S1024 .f32) (y : FVec Ideal S2x256x1024 .f32) : FVec Ideal S2x256x1024 .f32 :=
  have v8 : FVec Ideal S2x256x1024 .f32 := extractStridedSlice S2x256x1024 ![0, 0, 0] x slices_S2x8448x1024_S2x256x1024_0_0_0
  have v1 : FVec Ideal S1x1x1024 .f32 := extractStridedSlice S1x1x1024 ![2, 2, 0] mod slices_S8x6x1024_S1x1x1024_2_2_0
  have v2 : FVec Ideal S1024 .f32 := shapeCast _ v1 shapeCasts_S1x1x1024_S1024
  have v95 : FVec Ideal S1x1x1024 .f32 := broadcastInDim S1x1x1024 ![2] bcast_S1024_S1x1x1024_2 v2
  have v96 : FVec Ideal S2x256x1024 .f32 := broadcastInDim S2x256x1024 ![0, 1, 2] bcast_S1x1x1024_S2x256x1024_0_1_2 v95
  have v82 : FVec Ideal S2x256x1024 .f32 := mulf y y
  have cst_6 : FVec Ideal S_ .f32 := constant S_ .f32 0x00000000#32
  have v83 : FVec Ideal S2x256 .f32 := Host.reduceAdd v82 cst_6 reducesTo_S2x256x1024_S2x256_d2 h_S_
  have v84 : FVec Ideal S2x256x1 .f32 := broadcastInDim S2x256x1 ![0, 1] bcast_S2x256_S2x256x1_0_1 v83
  have cst_7 : FVec Ideal S_ .f32 := constant S_ .f32 0x44800000#32
  have v85 : FVec Ideal S2x256x1 .f32 := broadcastInDim S2x256x1 ![] bcast_S_S2x256x1 cst_7
  have v86 : FVec Ideal S2x256x1 .f32 := Host.divf v84 v85
  have cst_8 : FVec Ideal S_ .f32 := constant S_ .f32 0x358637BD#32
  have v87 : FVec Ideal S2x256x1 .f32 := broadcastInDim S2x256x1 ![] bcast_S_S2x256x1 cst_8
  have v88 : FVec Ideal S2x256x1 .f32 := addf v86 v87
  have v89 : FVec Ideal S2x256x1 .f32 := Host.rsqrt v88
  have v90 : FVec Ideal S2x256x1024 .f32 := broadcastInDim S2x256x1024 ![0, 1, 2] bcast_S2x256x1_S2x256x1024_0_1_2 v89
  have v91 : FVec Ideal S2x256x1024 .f32 := mulf y v90
  have v92 : FVec Ideal S1x1x1024 .f32 := broadcastInDim S1x1x1024 ![2] bcast_S1024_S1x1x1024_2 g
  have v93 : FVec Ideal S2x256x1024 .f32 := broadcastInDim S2x256x1024 ![0, 1, 2] bcast_S1x1x1024_S2x256x1024_0_1_2 v92
  have v94 : FVec Ideal S2x256x1024 .f32 := mulf v91 v93
  have v97 : FVec Ideal S2x256x1024 .f32 := mulf v96 v94
  addf v8 v97

/-- Branch 1's gates of the latent rows. -/
def latGate0 (p : FVec Ideal S2x8448x9984 .bf16) : FVec Ideal S2x8192x1024 .f32 :=
  have cst_0 : FVec Ideal S_ .f32 := constant S_ .f32 0x3F800000#32
  have v18 : FVec Ideal S2x8192x3072 .f32 := broadcastInDim S2x8192x3072 ![] bcast_S_S2x8192x3072 cst_0
  have cst : FVec Ideal S_ .f32 := constant S_ .f32 0x3F800000#32
  have v16 : FVec Ideal S2x8192x3072 .f32 := broadcastInDim S2x8192x3072 ![] bcast_S_S2x8192x3072 cst
  have v3 : FVec Ideal S2x8448x3072 .bf16 := extractStridedSlice S2x8448x3072 ![0, 0, 0] p slices_S2x8448x9984_S2x8448x3072_0_0_0
  have v7 : FVec Ideal S2x8448x3072 .f32 := extf .f32 v3 bitsLt_bf16_f32
  have v13 : FVec Ideal S2x8192x3072 .f32 := extractStridedSlice S2x8192x3072 ![0, 256, 0] v7 slices_S2x8448x3072_S2x8192x3072_0_256_0
  have v14 : FVec Ideal S2x8192x3072 .f32 := Host.negf v13
  have v15 : FVec Ideal S2x8192x3072 .f32 := Host.exp v14
  have v17 : FVec Ideal S2x8192x3072 .f32 := addf v16 v15
  have v19 : FVec Ideal S2x8192x3072 .f32 := Host.divf v18 v17
  extractStridedSlice S2x8192x1024 ![0, 0, 0] v19 slices_S2x8192x3072_S2x8192x1024_0_0_0

/-- The latent rows of branch 1 times its weights. -/
def latBranch0 (gla : FVec Ideal S2x8448x1024 .bf16) (wb : FVec Ideal S3x1024x1024 .f32) : FVec Ideal S2x8192x1024 .f32 :=
  have v4 : FVec Ideal S2x8448x1024 .f32 := extf .f32 gla bitsLt_bf16_f32
  have v10 : FVec Ideal S2x8192x1024 .f32 := extractStridedSlice S2x8192x1024 ![0, 256, 0] v4 slices_S2x8448x1024_S2x8192x1024_0_256_0
  have v23 : FVec Ideal S1x1024x1024 .f32 := extractStridedSlice S1x1024x1024 ![0, 0, 0] wb slices_S3x1024x1024_S1x1024x1024_0_0_0
  have v24 : FVec Ideal S1024x1024 .f32 := shapeCast _ v23 shapeCasts_S1x1024x1024_S1024x1024
  Host.dotGeneral dot_S2x8192x1024_S1024x1024_S2x8192x1024_2_0_01_1_n_n none v10 v24

/-- Branch 2's gates of the latent rows. -/
def latGate1 (p : FVec Ideal S2x8448x9984 .bf16) : FVec Ideal S2x8192x1024 .f32 :=
  have cst_0 : FVec Ideal S_ .f32 := constant S_ .f32 0x3F800000#32
  have v18 : FVec Ideal S2x8192x3072 .f32 := broadcastInDim S2x8192x3072 ![] bcast_S_S2x8192x3072 cst_0
  have cst : FVec Ideal S_ .f32 := constant S_ .f32 0x3F800000#32
  have v16 : FVec Ideal S2x8192x3072 .f32 := broadcastInDim S2x8192x3072 ![] bcast_S_S2x8192x3072 cst
  have v3 : FVec Ideal S2x8448x3072 .bf16 := extractStridedSlice S2x8448x3072 ![0, 0, 0] p slices_S2x8448x9984_S2x8448x3072_0_0_0
  have v7 : FVec Ideal S2x8448x3072 .f32 := extf .f32 v3 bitsLt_bf16_f32
  have v13 : FVec Ideal S2x8192x3072 .f32 := extractStridedSlice S2x8192x3072 ![0, 256, 0] v7 slices_S2x8448x3072_S2x8192x3072_0_256_0
  have v14 : FVec Ideal S2x8192x3072 .f32 := Host.negf v13
  have v15 : FVec Ideal S2x8192x3072 .f32 := Host.exp v14
  have v17 : FVec Ideal S2x8192x3072 .f32 := addf v16 v15
  have v19 : FVec Ideal S2x8192x3072 .f32 := Host.divf v18 v17
  extractStridedSlice S2x8192x1024 ![0, 0, 1024] v19 slices_S2x8192x3072_S2x8192x1024_0_0_1024

/-- The latent rows of branch 2 times its weights. -/
def latBranch1 (att : FVec Ideal S2x8448x1024 .bf16) (wb : FVec Ideal S3x1024x1024 .f32) : FVec Ideal S2x8192x1024 .f32 :=
  have v5 : FVec Ideal S2x8448x1024 .f32 := extf .f32 att bitsLt_bf16_f32
  have v11 : FVec Ideal S2x8192x1024 .f32 := extractStridedSlice S2x8192x1024 ![0, 256, 0] v5 slices_S2x8448x1024_S2x8192x1024_0_256_0
  have v27 : FVec Ideal S1x1024x1024 .f32 := extractStridedSlice S1x1024x1024 ![1, 0, 0] wb slices_S3x1024x1024_S1x1024x1024_1_0_0
  have v28 : FVec Ideal S1024x1024 .f32 := shapeCast _ v27 shapeCasts_S1x1024x1024_S1024x1024
  Host.dotGeneral dot_S2x8192x1024_S1024x1024_S2x8192x1024_2_0_01_1_n_n none v11 v28

/-- Branch 3's gates of the latent rows. -/
def latGate2 (p : FVec Ideal S2x8448x9984 .bf16) : FVec Ideal S2x8192x1024 .f32 :=
  have cst_0 : FVec Ideal S_ .f32 := constant S_ .f32 0x3F800000#32
  have v18 : FVec Ideal S2x8192x3072 .f32 := broadcastInDim S2x8192x3072 ![] bcast_S_S2x8192x3072 cst_0
  have cst : FVec Ideal S_ .f32 := constant S_ .f32 0x3F800000#32
  have v16 : FVec Ideal S2x8192x3072 .f32 := broadcastInDim S2x8192x3072 ![] bcast_S_S2x8192x3072 cst
  have v3 : FVec Ideal S2x8448x3072 .bf16 := extractStridedSlice S2x8448x3072 ![0, 0, 0] p slices_S2x8448x9984_S2x8448x3072_0_0_0
  have v7 : FVec Ideal S2x8448x3072 .f32 := extf .f32 v3 bitsLt_bf16_f32
  have v13 : FVec Ideal S2x8192x3072 .f32 := extractStridedSlice S2x8192x3072 ![0, 256, 0] v7 slices_S2x8448x3072_S2x8192x3072_0_256_0
  have v14 : FVec Ideal S2x8192x3072 .f32 := Host.negf v13
  have v15 : FVec Ideal S2x8192x3072 .f32 := Host.exp v14
  have v17 : FVec Ideal S2x8192x3072 .f32 := addf v16 v15
  have v19 : FVec Ideal S2x8192x3072 .f32 := Host.divf v18 v17
  extractStridedSlice S2x8192x1024 ![0, 0, 2048] v19 slices_S2x8192x3072_S2x8192x1024_0_0_2048

/-- The latent rows of branch 3 times its weights. -/
def latBranch2 (lru : FVec Ideal S2x8448x1024 .bf16) (wb : FVec Ideal S3x1024x1024 .f32) : FVec Ideal S2x8192x1024 .f32 :=
  have v6 : FVec Ideal S2x8448x1024 .f32 := extf .f32 lru bitsLt_bf16_f32
  have v12 : FVec Ideal S2x8192x1024 .f32 := extractStridedSlice S2x8192x1024 ![0, 256, 0] v6 slices_S2x8448x1024_S2x8192x1024_0_256_0
  have v32 : FVec Ideal S1x1024x1024 .f32 := extractStridedSlice S1x1024x1024 ![2, 0, 0] wb slices_S3x1024x1024_S1x1024x1024_2_0_0
  have v33 : FVec Ideal S1024x1024 .f32 := shapeCast _ v32 shapeCasts_S1x1024x1024_S1024x1024
  Host.dotGeneral dot_S2x8192x1024_S1024x1024_S2x8192x1024_2_0_01_1_n_n none v12 v33

/-- The mixture of the latent rows times the output weights. -/
def latOut (g0 : FVec Ideal S2x8192x1024 .f32) (g1 : FVec Ideal S2x8192x1024 .f32) (g2 : FVec Ideal S2x8192x1024 .f32) (d0 : FVec Ideal S2x8192x1024 .f32) (d1 : FVec Ideal S2x8192x1024 .f32) (d2 : FVec Ideal S2x8192x1024 .f32) (wo : FVec Ideal S1024x1024 .f32) : FVec Ideal S2x8192x1024 .f32 :=
  have v26 : FVec Ideal S2x8192x1024 .f32 := mulf g0 d0
  have v30 : FVec Ideal S2x8192x1024 .f32 := mulf g1 d1
  have v31 : FVec Ideal S2x8192x1024 .f32 := addf v26 v30
  have v35 : FVec Ideal S2x8192x1024 .f32 := mulf g2 d2
  have v36 : FVec Ideal S2x8192x1024 .f32 := addf v31 v35
  Host.dotGeneral dot_S2x8192x1024_S1024x1024_S2x8192x1024_2_0_01_1_n_n none v36 wo

/-- The latent rows plus their modulated update. -/
def latRes (x : FVec Ideal S2x8448x1024 .f32) (mod : FVec Ideal S8x6x1024 .f32) (g : FVec Ideal S1024 .f32) (y : FVec Ideal S2x8192x1024 .f32) : FVec Ideal S2x8192x1024 .f32 :=
  have v9 : FVec Ideal S2x8192x1024 .f32 := extractStridedSlice S2x8192x1024 ![0, 256, 0] x slices_S2x8448x1024_S2x8192x1024_0_256_0
  have v0 : FVec Ideal S2x1x1024 .f32 := extractStridedSlice S2x1x1024 ![0, 2, 0] mod slices_S8x6x1024_S2x1x1024_0_2_0
  have v51 : FVec Ideal S2x8192x1024 .f32 := broadcastInDim S2x8192x1024 ![0, 1, 2] bcast_S2x1x1024_S2x8192x1024_0_1_2 v0
  have v38 : FVec Ideal S2x8192x1024 .f32 := mulf y y
  have cst_1 : FVec Ideal S_ .f32 := constant S_ .f32 0x00000000#32
  have v39 : FVec Ideal S2x8192 .f32 := Host.reduceAdd v38 cst_1 reducesTo_S2x8192x1024_S2x8192_d2 h_S_
  have v40 : FVec Ideal S2x8192x1 .f32 := broadcastInDim S2x8192x1 ![0, 1] bcast_S2x8192_S2x8192x1_0_1 v39
  have cst_2 : FVec Ideal S_ .f32 := constant S_ .f32 0x44800000#32
  have v41 : FVec Ideal S2x8192x1 .f32 := broadcastInDim S2x8192x1 ![] bcast_S_S2x8192x1 cst_2
  have v42 : FVec Ideal S2x8192x1 .f32 := Host.divf v40 v41
  have cst_3 : FVec Ideal S_ .f32 := constant S_ .f32 0x358637BD#32
  have v43 : FVec Ideal S2x8192x1 .f32 := broadcastInDim S2x8192x1 ![] bcast_S_S2x8192x1 cst_3
  have v44 : FVec Ideal S2x8192x1 .f32 := addf v42 v43
  have v45 : FVec Ideal S2x8192x1 .f32 := Host.rsqrt v44
  have v46 : FVec Ideal S2x8192x1024 .f32 := broadcastInDim S2x8192x1024 ![0, 1, 2] bcast_S2x8192x1_S2x8192x1024_0_1_2 v45
  have v47 : FVec Ideal S2x8192x1024 .f32 := mulf y v46
  have v48 : FVec Ideal S1x1x1024 .f32 := broadcastInDim S1x1x1024 ![2] bcast_S1024_S1x1x1024_2 g
  have v49 : FVec Ideal S2x8192x1024 .f32 := broadcastInDim S2x8192x1024 ![0, 1, 2] bcast_S1x1x1024_S2x8192x1024_0_1_2 v48
  have v50 : FVec Ideal S2x8192x1024 .f32 := mulf v47 v49
  have v52 : FVec Ideal S2x8192x1024 .f32 := mulf v51 v50
  addf v9 v52

/-- The context rows and then the latent rows. -/
def stacked (q : FVec Ideal S2x256x1024 .f32) (s : FVec Ideal S2x8192x1024 .f32) : FVec Ideal S2x8448x1024 .f32 :=
  concatenate S2x8448x1024 1 [⟨S2x256x1024, q⟩, ⟨S2x8192x1024, s⟩] concatenates_S2x256x1024_S2x8192x1024_S2x8448x1024_d1

/-- The reference's result as the composition of its stages. -/
def out (gla : FVec Ideal S2x8448x1024 .bf16) (att : FVec Ideal S2x8448x1024 .bf16) (lru : FVec Ideal S2x8448x1024 .bf16) (p : FVec Ideal S2x8448x9984 .bf16) (x : FVec Ideal S2x8448x1024 .f32) (mod : FVec Ideal S8x6x1024 .f32) (g : FVec Ideal S1024 .f32) (wb : FVec Ideal S3x1024x1024 .f32) (wo : FVec Ideal S1024x1024 .f32) : FVec Ideal S2x8448x1024 .f32 :=
  stacked (ctxRes x mod g (ctxOut (ctxGate0 p) (ctxGate1 p) (ctxGate2 p) (ctxBranch0 gla wb) (ctxBranch1 att wb) (ctxBranch2 lru wb) wo)) (latRes x mod g (latOut (latGate0 p) (latGate1 p) (latGate2 p) (latBranch0 gla wb) (latBranch1 att wb) (latBranch2 lru wb) wo))

/-- A place of branch 1's gates of the context rows. -/
theorem ctxGate0_apply (p : FVec Ideal S2x8448x9984 .bf16) (b : Fin 2) (n : Fin 256) (d : Fin 1024) :
    (ctxGate0 p (ix3 b n d) : EReal) = sigm (p (ix3 b ⟨n.val, by omega⟩ ⟨d.val, by omega⟩)) := by
  pointwise [ctxGate0]
  rfl

/-- A place of the context rows of branch 1 times its weights. -/
theorem ctxBranch0_apply (gla : FVec Ideal S2x8448x1024 .bf16) (wb : FVec Ideal S3x1024x1024 .f32) (b : Fin 2) (n : Fin 256) (d : Fin 1024) :
    (ctxBranch0 gla wb (ix3 b n d) : EReal) = ∑ j, gla (ix3 b ⟨n.val, by omega⟩ j) * wb (ix3 0 j d) := by
  pointwise [ctxBranch0]

/-- A place of branch 2's gates of the context rows. -/
theorem ctxGate1_apply (p : FVec Ideal S2x8448x9984 .bf16) (b : Fin 2) (n : Fin 256) (d : Fin 1024) :
    (ctxGate1 p (ix3 b n d) : EReal) = sigm (p (ix3 b ⟨n.val, by omega⟩ ⟨1024 + d.val, by omega⟩)) := by
  pointwise [ctxGate1]
  rfl

/-- A place of the context rows of branch 2 times its weights. -/
theorem ctxBranch1_apply (att : FVec Ideal S2x8448x1024 .bf16) (wb : FVec Ideal S3x1024x1024 .f32) (b : Fin 2) (n : Fin 256) (d : Fin 1024) :
    (ctxBranch1 att wb (ix3 b n d) : EReal) = ∑ j, att (ix3 b ⟨n.val, by omega⟩ j) * wb (ix3 1 j d) := by
  pointwise [ctxBranch1]

/-- A place of branch 3's gates of the context rows. -/
theorem ctxGate2_apply (p : FVec Ideal S2x8448x9984 .bf16) (b : Fin 2) (n : Fin 256) (d : Fin 1024) :
    (ctxGate2 p (ix3 b n d) : EReal) = sigm (p (ix3 b ⟨n.val, by omega⟩ ⟨2048 + d.val, by omega⟩)) := by
  pointwise [ctxGate2]
  rfl

/-- A place of the context rows of branch 3 times its weights. -/
theorem ctxBranch2_apply (lru : FVec Ideal S2x8448x1024 .bf16) (wb : FVec Ideal S3x1024x1024 .f32) (b : Fin 2) (n : Fin 256) (d : Fin 1024) :
    (ctxBranch2 lru wb (ix3 b n d) : EReal) = ∑ j, lru (ix3 b ⟨n.val, by omega⟩ j) * wb (ix3 2 j d) := by
  pointwise [ctxBranch2]

/-- A place of the mixture of the context rows times the output weights. -/
theorem ctxOut_apply (g0 g1 g2 d0 d1 d2 : FVec Ideal S2x256x1024 .f32) (wo : FVec Ideal S1024x1024 .f32) (b : Fin 2) (n : Fin 256) (e : Fin 1024) :
    (ctxOut g0 g1 g2 d0 d1 d2 wo (ix3 b n e) : EReal)
      = ∑ d, (g0 (ix3 b n d) * d0 (ix3 b n d) + g1 (ix3 b n d) * d1 (ix3 b n d) + g2 (ix3 b n d) * d2 (ix3 b n d)) * wo (ix2 d e) := by
  pointwise [ctxOut]

/-- A place of the context rows plus their modulated update. -/
theorem ctxRes_apply (x : FVec Ideal S2x8448x1024 .f32) (mod : FVec Ideal S8x6x1024 .f32) (g : FVec Ideal S1024 .f32) (y : FVec Ideal S2x256x1024 .f32) (b : Fin 2) (n : Fin 256) (e : Fin 1024) :
    (ctxRes x mod g y (ix3 b n e) : EReal)
      = residual (fun k => x (ix3 b ⟨n.val, by omega⟩ k)) (fun k => mod (ix3 2 2 k)) (fun k => y (ix3 b n k)) (fun k => g (ix1 k)) e := by
  pointwise [ctxRes]
  rfl

/-- A place of branch 1's gates of the latent rows. -/
theorem latGate0_apply (p : FVec Ideal S2x8448x9984 .bf16) (b : Fin 2) (n : Fin 8192) (d : Fin 1024) :
    (latGate0 p (ix3 b n d) : EReal) = sigm (p (ix3 b ⟨256 + n.val, by omega⟩ ⟨d.val, by omega⟩)) := by
  pointwise [latGate0]
  rfl

/-- A place of the latent rows of branch 1 times its weights. -/
theorem latBranch0_apply (gla : FVec Ideal S2x8448x1024 .bf16) (wb : FVec Ideal S3x1024x1024 .f32) (b : Fin 2) (n : Fin 8192) (d : Fin 1024) :
    (latBranch0 gla wb (ix3 b n d) : EReal) = ∑ j, gla (ix3 b ⟨256 + n.val, by omega⟩ j) * wb (ix3 0 j d) := by
  pointwise [latBranch0]

/-- A place of branch 2's gates of the latent rows. -/
theorem latGate1_apply (p : FVec Ideal S2x8448x9984 .bf16) (b : Fin 2) (n : Fin 8192) (d : Fin 1024) :
    (latGate1 p (ix3 b n d) : EReal) = sigm (p (ix3 b ⟨256 + n.val, by omega⟩ ⟨1024 + d.val, by omega⟩)) := by
  pointwise [latGate1]
  rfl

/-- A place of the latent rows of branch 2 times its weights. -/
theorem latBranch1_apply (att : FVec Ideal S2x8448x1024 .bf16) (wb : FVec Ideal S3x1024x1024 .f32) (b : Fin 2) (n : Fin 8192) (d : Fin 1024) :
    (latBranch1 att wb (ix3 b n d) : EReal) = ∑ j, att (ix3 b ⟨256 + n.val, by omega⟩ j) * wb (ix3 1 j d) := by
  pointwise [latBranch1]

/-- A place of branch 3's gates of the latent rows. -/
theorem latGate2_apply (p : FVec Ideal S2x8448x9984 .bf16) (b : Fin 2) (n : Fin 8192) (d : Fin 1024) :
    (latGate2 p (ix3 b n d) : EReal) = sigm (p (ix3 b ⟨256 + n.val, by omega⟩ ⟨2048 + d.val, by omega⟩)) := by
  pointwise [latGate2]
  rfl

/-- A place of the latent rows of branch 3 times its weights. -/
theorem latBranch2_apply (lru : FVec Ideal S2x8448x1024 .bf16) (wb : FVec Ideal S3x1024x1024 .f32) (b : Fin 2) (n : Fin 8192) (d : Fin 1024) :
    (latBranch2 lru wb (ix3 b n d) : EReal) = ∑ j, lru (ix3 b ⟨256 + n.val, by omega⟩ j) * wb (ix3 2 j d) := by
  pointwise [latBranch2]

/-- A place of the mixture of the latent rows times the output weights. -/
theorem latOut_apply (g0 g1 g2 d0 d1 d2 : FVec Ideal S2x8192x1024 .f32) (wo : FVec Ideal S1024x1024 .f32) (b : Fin 2) (n : Fin 8192) (e : Fin 1024) :
    (latOut g0 g1 g2 d0 d1 d2 wo (ix3 b n e) : EReal)
      = ∑ d, (g0 (ix3 b n d) * d0 (ix3 b n d) + g1 (ix3 b n d) * d1 (ix3 b n d) + g2 (ix3 b n d) * d2 (ix3 b n d)) * wo (ix2 d e) := by
  pointwise [latOut]

/-- A place of the latent rows plus their modulated update. -/
theorem latRes_apply (x : FVec Ideal S2x8448x1024 .f32) (mod : FVec Ideal S8x6x1024 .f32) (g : FVec Ideal S1024 .f32) (y : FVec Ideal S2x8192x1024 .f32) (b : Fin 2) (n : Fin 8192) (e : Fin 1024) :
    (latRes x mod g y (ix3 b n e) : EReal)
      = residual (fun k => x (ix3 b ⟨256 + n.val, by omega⟩ k)) (fun k => mod (ix3 ⟨b.val, by omega⟩ 2 k)) (fun k => y (ix3 b n k)) (fun k => g (ix1 k)) e := by
  pointwise [latRes]
  rfl

/-- Row `n` of the result. -/
theorem stacked_apply (q : FVec Ideal S2x256x1024 .f32) (s : FVec Ideal S2x8192x1024 .f32) (b : Fin 2) (n : Fin 8448) (c : Fin 1024) :
    (stacked q s (ix3 b n c) : EReal) = if h : n.val < 256 then q (ix3 b ⟨n.val, h⟩ c) else s (ix3 b ⟨n.val - 256, by omega⟩ c) := by
  pointwise [stacked]

/-- THE REFERENCE'S RESULT is the merge, at every place. -/
theorem out_apply (gla : FVec Ideal S2x8448x1024 .bf16) (att : FVec Ideal S2x8448x1024 .bf16) (lru : FVec Ideal S2x8448x1024 .bf16) (p : FVec Ideal S2x8448x9984 .bf16) (x : FVec Ideal S2x8448x1024 .f32) (mod : FVec Ideal S8x6x1024 .f32) (g : FVec Ideal S1024 .f32) (wb : FVec Ideal S3x1024x1024 .f32) (wo : FVec Ideal S1024x1024 .f32)
    (b : Fin 2) (n : Fin 8448) (e : Fin 1024) :
    (out gla att lru p x mod g wb wo (ix3 b n e) : EReal) = merge (fun b n k => gla (ix3 b n k)) (fun b n k => att (ix3 b n k)) (fun b n k => lru (ix3 b n k)) (fun b n k => x (ix3 b n k)) (fun b n k => p (ix3 b n k))
      (fun r a k => mod (ix3 r a k)) (fun k => g (ix1 k)) (fun i j k => wb (ix3 i j k)) (fun j k => wo (ix2 j k)) b n e := by
  unfold out merge
  rw [stacked_apply]
  by_cases h : n.val < 256
  · have hm : modOf b n = 2 := by unfold modOf; rw [if_pos h]
    rw [dif_pos h, hm, ctxRes_apply]
    simp only [ctxOut_apply, ctxGate0_apply, ctxGate1_apply, ctxGate2_apply, ctxBranch0_apply, ctxBranch1_apply, ctxBranch2_apply]
    rfl
  · have hm : modOf b n = ⟨b.val, by omega⟩ := by unfold modOf; rw [if_neg h]
    have hn : (⟨256 + (n.val - 256), by omega⟩ : Fin 8448) = n := Fin.ext (by show 256 + (n.val - 256) = n.val; omega)
    rw [dif_neg h, hm, latRes_apply]
    simp only [latOut_apply, latGate0_apply, latGate1_apply, latGate2_apply, latBranch0_apply, latBranch1_apply, latBranch2_apply, hn]
    rfl

set_option maxHeartbeats 4000000 in
/-- The run's result term is the composition of the stages. -/
theorem res_eq (m : (ℓ : Loc nD τ sig) → Buf (Elt Ideal) ℓ) (c : Dev nD) :
    Cert.Reference4Ideal.Value.res_main_v99 m c = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold Cert.Reference4Ideal.Value.res_main_v99
  rfl

end Cert.Layer.Merge.Ref

end
-- ==== Proof.MergeClaim.lean ====
/- The claims about the merge of the branches: its reference's frame, and that the kernel and the reference return the same array. -/
module

public import proofs.«01_k».proof.Defs
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import Idealize.ShloMosaic.Adequacy
public import Idealize.ShloMosaic.Init
public import proofs.«01_k».proof.Proof.MergeArray
public import proofs.«01_k».proof.Proof.MergeRef

@[expose] public section

set_option maxRecDepth 16384

noncomputable section

namespace Cert.Layer.Merge

open Idealize.ShloMosaic Idealize.SL.Sem

/-- The reference runs, leaves its arguments unchanged, and declares no semaphore. -/
theorem frame_reference (m : (ℓ : Loc Cert.Reference4Ideal.nD Cert.Reference4Ideal.τ Cert.Reference4Ideal.sig) → Buf (Elt Ideal) ℓ) (ρ : Dev Cert.Reference4Ideal.nD → PrngReg) :
    θ_run (Cert.Reference4Ideal.defs (F := Ideal)) (onTc (τ := Cert.Reference4Ideal.τ) (Cert.Reference4Ideal.main (F := Ideal))) ⟨m, fun _ => 0, ρ⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0) :=
  (θ_run Cert.Reference4Ideal.defs _ _).mono (fun r h => ⟨fun c => (h c).2, sem_eq_zero_of_no_sems (by decide) r.2⟩)
    (Cert.Reference4Ideal.Value.run (F := Ideal) m ρ)

/-- The kernel's output array is the reference's result of the same arguments. -/
theorem value_eq (m : (ℓ : Loc Cert.Kernel4Ideal.nD Cert.Kernel4Ideal.τ Cert.Kernel4Ideal.sig) → Buf (Elt Ideal) ℓ) (c : Dev Cert.Kernel4Ideal.nD) :
    Ref.out (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) = G m c := by
  funext i
  obtain ⟨b, n, k, rfl⟩ : ∃ b n k, i = ix3 (n0 := 2) (n1 := 8448) (n2 := 1024) b n k := ⟨i 0, i 1, i 2, (ix3_eta (n0 := 2) (n1 := 8448) (n2 := 1024) i).symm⟩
  exact Ref.out_apply _ _ _ _ _ _ _ _ _ b n k

/-- THE VALUE CLAIM: from equal arguments, kernel and reference run and return the same array. -/
theorem algebraic : Cert.algebraic_Kernel4Ideal_Reference4Ideal (hKernel4Ideal := Cert.Kernel4Ideal.Gen.facts) (hReference4Ideal := Cert.Reference4Ideal.Gen.facts) := by
  intro m g m' g' _ hargs
  refine ⟨fun c => G m c, ?_, ?_⟩
  · refine (θ_run (Cert.Kernel4Ideal.defs (F := Ideal)) _ _).mono (fun r h c => ?_) (Cert.Kernel4Ideal.Value.run_blocks m g)
    obtain ⟨hv, h0, h1, h2, h3, h4, h5, h6, h7, h8⟩ := h c
    exact ⟨hv.trans (final m c), h0, h1, h2, h3, h4, h5, h6, h7, h8⟩
  · refine (θ_run (Cert.Reference4Ideal.defs (F := Ideal)) _ _).mono (fun r h c => ?_) (Cert.Reference4Ideal.Value.run (F := Ideal) m' g')
    obtain ⟨hv, h0, h1, h2, h3, h4, h5, h6, h7, h8⟩ := h c
    refine ⟨hv.trans ?_, h0, h1, h2, h3, h4, h5, h6, h7, h8⟩
    obtain ⟨e0, e1, e2, e3, e4, e5, e6, e7, e8⟩ := hargs c
    rw [Ref.res_eq, e0, e1, e2, e3, e4, e5, e6, e7, e8]
    exact value_eq m c

end Cert.Layer.Merge

end
-- ==== Proof.AdaVectors.lean ====
/- The conditioning vectors that the host code stacks: it writes the two batches' vectors into rows 0 and 1 of an array of zeros, and the
   context's into row 2. -/
module

public import proofs.«01_k».proof.Proof.Gen.Kernel5Ideal.Frame
public import Idealize.ShloMosaic.Lib.StableHlo.ReadAt
public import Idealize.ShloMosaic.Lib.Pointwise
public import Idealize.ShloMosaic.Lib.Routing.OpsOne

@[expose] public section

set_option maxRecDepth 16384

noncomputable section

namespace Cert.Layer.Ada

open Idealize.ShloMosaic Idealize.SL.Sem Cert.Kernel5Ideal Cert.Kernel5Ideal.Gen Idealize.ShloMosaic.TcCoe Idealize.ShloMosaic.Routing

/-- An array of one index word has one place. -/
theorem one_idx (j : S1.Idx) : j = ix1 0 :=
  (ix1_eta (n0 := 1) j).symm.trans (congrArg (ix1 (n0 := 1)) (Subsingleton.elim _ _))

/-- Writing two rows from row 0 on: update place (a, k) is written to row a, column k. -/
theorem lands_rows (idx : IVec S1 32) (hi : (idx (ix1 0)).toInt = 0) (a : Fin 2) (k : Fin 1024) (r : Fin 8) (e : Fin 1024) :
    scatter_S8x1024_S1_S2x1024_01_n_0_0.resultIdx? (ix2 a k) idx = some (ix2 r e) ↔ a.val = r.val ∧ k = e := by
  have h0 : scatter_S8x1024_S1_S2x1024_01_n_0_0.start (ix2 a k) idx 0 = 0 := (congrArg (fun j => (idx j).toInt) (one_idx _)).trans hi
  have h1 : scatter_S8x1024_S1_S2x1024_01_n_0_0.start (ix2 a k) idx 1 = 0 := rfl
  have w0 : scatter_S8x1024_S1_S2x1024_01_n_0_0.window (ix2 a k) 0 = a.val := rfl
  have w1 : scatter_S8x1024_S1_S2x1024_01_n_0_0.window (ix2 a k) 1 = k.val := rfl
  refine (resultIdx?_ix2 _ _ _ _ _).trans ?_
  rw [Fin.ext_iff, h0, w0, h1, w1]
  omega

/-- Writing one row to row 2: update place k is written to row 2, column k. -/
theorem lands_row (idx : IVec S1 32) (hi : (idx (ix1 0)).toInt = 2) (k : Fin 1024) (r : Fin 8) (e : Fin 1024) :
    scatter_S8x1024_S1_S1024_0_0_0_0.resultIdx? (ix1 k) idx = some (ix2 r e) ↔ r.val = 2 ∧ k = e := by
  have h0 : scatter_S8x1024_S1_S1024_0_0_0_0.start (ix1 k) idx 0 = 2 := (congrArg (fun j => (idx j).toInt) (one_idx _)).trans hi
  have h1 : scatter_S8x1024_S1_S1024_0_0_0_0.start (ix1 k) idx 1 = 0 := rfl
  have w0 : scatter_S8x1024_S1_S1024_0_0_0_0.window (ix1 k) 0 = 0 := rfl
  have w1 : scatter_S8x1024_S1_S1024_0_0_0_0.window (ix1 k) 1 = k.val := rfl
  refine (resultIdx?_ix2 _ _ _ _ _).trans ?_
  rw [Fin.ext_iff, h0, w0, h1, w1]
  omega

/-- The stacked vectors: two rows of the batches, one of the context, five of zeros. -/
def vecs (c : Fin 2 → Fin 1024 → EReal) (cc : Fin 1024 → EReal) (r : Fin 8) (k : Fin 1024) : EReal :=
  if h : r.val < 2 then c ⟨r.val, h⟩ k else if r.val = 2 then cc k else 0

/-- Two rows written into an array from row 0 on. -/
theorem rows_set (x : FVec Ideal S8x1024 .f32) (idx : IVec S1 32) (u : FVec Ideal S2x1024 .f32) (hi : (idx (ix1 0)).toInt = 0) (r : Fin 8) (e : Fin 1024) :
    Host.scatter scatter_S8x1024_S1_S2x1024_01_n_0_0 (fun _ b => b) x idx u (ix2 r e) = if h : r.val < 2 then u (ix2 ⟨r.val, h⟩ e) else x (ix2 r e) := by
  have lands : ∀ j : S2x1024.Idx, scatter_S8x1024_S1_S2x1024_01_n_0_0.resultIdx? j idx = some (ix2 r e) → (j 0).val = r.val ∧ j 1 = e := fun j hj =>
    (lands_rows idx hi (j 0) (j 1) r e).1 ((congrArg (fun t => scatter_S8x1024_S1_S2x1024_01_n_0_0.resultIdx? t idx) (ix2_eta (n0 := 2) (n1 := 1024) j)).trans hj)
  by_cases h : r.val < 2
  · rw [dif_pos h]
    refine scatter_set_hit _ x idx u _ _ (fun j hj => ?_) (ix2 ⟨r.val, h⟩ e) ((lands_rows idx hi _ e r e).2 ⟨rfl, rfl⟩)
    refine congrArg u ((ix2_eta (n0 := 2) (n1 := 1024) j).symm.trans (congrArg₂ ix2 (Fin.ext (lands j hj).1) (lands j hj).2))
  · rw [dif_neg h]
    exact scatter_set_miss _ x idx u _ fun j hj => h ((lands j hj).1 ▸ (j 0).isLt)

/-- One row written into an array at row 2. -/
theorem row_set (x : FVec Ideal S8x1024 .f32) (idx : IVec S1 32) (u : FVec Ideal S1024 .f32) (hi : (idx (ix1 0)).toInt = 2) (r : Fin 8) (e : Fin 1024) :
    Host.scatter scatter_S8x1024_S1_S1024_0_0_0_0 (fun _ b => b) x idx u (ix2 r e) = if r.val = 2 then u (ix1 e) else x (ix2 r e) := by
  have lands : ∀ j : S1024.Idx, scatter_S8x1024_S1_S1024_0_0_0_0.resultIdx? j idx = some (ix2 r e) → r.val = 2 ∧ j 0 = e := fun j hj =>
    (lands_row idx hi (j 0) r e).1 ((congrArg (fun t => scatter_S8x1024_S1_S1024_0_0_0_0.resultIdx? t idx) (ix1_eta (n0 := 1024) j)).trans hj)
  by_cases h : r.val = 2
  · rw [if_pos h]
    refine scatter_set_hit _ x idx u _ _ (fun j hj => ?_) (ix1 e) ((lands_row idx hi e r e).2 ⟨h, rfl⟩)
    exact congrArg u ((ix1_eta (n0 := 1024) j).symm.trans (congrArg ix1 (lands j hj).2))
  · rw [if_neg h]
    exact scatter_set_miss _ x idx u _ fun j hj => h (lands j hj).1

variable (m : (ℓ : Loc nD τ sig) → Buf (Elt Ideal) ℓ)

/-- The array of vectors that the host code hands to the call. -/
theorem vecs_at (c : Dev nD) (r : Fin 8) (k : Fin 1024) :
    (V m c main_v4 : Vec Ideal S8x1024 .f32) (ix2 r k)
      = vecs (fun a k => (m ((c : Thread nD τ).loc main_arg0) : Vec Ideal S2x1024 .f32) (ix2 a k))
          (fun k => (m ((c : Thread nD τ).loc main_arg1) : Vec Ideal S1024 .f32) (ix1 k)) r k := by
  unfold V
  after_reads_simp
  refine (row_set _ _ _ rfl r k).trans ?_
  unfold vecs
  by_cases h2 : r.val = 2
  · rw [if_pos h2, dif_neg (by omega), if_pos h2]
  · rw [if_neg h2, if_neg h2]
    refine (rows_set _ _ _ rfl r k).trans ?_
    by_cases h : r.val < 2
    · rw [dif_pos h, dif_pos h]
    · rw [dif_neg h, dif_neg h]
      pointwise

/-- The biases. -/
theorem bias_at (c : Dev nD) (l : Fin 2) (k : Fin 6144) :
    (V m c main_v5 : Vec Ideal S2x1x6144 .f32) (ix3 l 0 k) = (m ((c : Thread nD τ).loc main_arg3) : Vec Ideal S2x6144 .f32) (ix2 l k) := by
  unfold V
  after_reads_at

end Cert.Layer.Ada

end
-- ==== Proof.AdaArray.lean ====
/- What the modulation vectors' result array holds: the sigmoid-weighted conditioning vectors times a layer's weights, plus its biases. -/
module

public import proofs.«01_k».proof.Proof.Gen.Kernel5Ideal.Value
public import proofs.«01_k».proof.Proof.AdaVectors
public import proofs.«01_k».proof.Proof.MergeSpec
public import Idealize.ShloMosaic.Lib.Pipeline.ValueKit.Point

@[expose] public section

set_option maxRecDepth 16384

noncomputable section

namespace Cert.Layer.Ada

open Idealize.ShloMosaic Idealize.SL.Sem Cert.Kernel5Ideal Cert.Kernel5Ideal.Gen Cert.Kernel5Ideal.Value Idealize.ShloMosaic.TcCoe

/-- One modulation entry: a conditioning vector, each channel times its sigmoid, times a column of weights, plus a bias. -/
def entry (v w : Fin 1024 → EReal) (b : EReal) : EReal := (∑ j, v j * sigm (v j) * w j) + b

/-- A place of what a block stores. -/
theorem pay1_apply (v : Vec Ideal S8x1024 .f32) (w : Vec Ideal S1x1024x2048 .f32) (b : Vec Ideal S1x1x2048 .f32) (r : Fin 8) (k : Fin 2048) :
    k0_pay1 (F := Ideal) v w b (ix3 0 r k) = entry (fun j => v (ix2 r j)) (fun j => w (ix3 0 j k)) (b (ix3 0 0 k)) := by
  pointwise [k0_pay1]
  unfold entry sigm
  simp only [zero_sub]

/-- A block's output is what it stores. -/
theorem out_apply (v : Vec Ideal S8x1024 .f32) (w : Vec Ideal S1x1024x2048 .f32) (b : Vec Ideal S1x1x2048 .f32) (r : Fin 8) (k : Fin 2048) :
    out0_3 (F := Ideal) v w b (ix3 0 r k) = entry (fun j => v (ix2 r j)) (fun j => w (ix3 0 j k)) (b (ix3 0 0 k)) := by
  have e : out0_3 (F := Ideal) v w b = k0_pay1 (F := Ideal) v w b := by
    unfold out0_3
    rw [View.ld_unit_zero (S := S8x1024) (by funext a; fin_cases a <;> rfl) _ _, View.ld_unit_zero (S := S1x1024x2048) (by funext a; fin_cases a <;> rfl) _ _,
      View.ld_unit_zero (S := S1x1x2048) (by funext a; fin_cases a <;> rfl) _ _]
    exact View.canon_unit_zero (S := S1x8x2048) (by funext a; fin_cases a <;> rfl) _ _
  rw [e]
  exact pay1_apply v w b r k

variable (m : (ℓ : Loc nD τ sig) → Buf (Elt Ideal) ℓ)

/-- The grid coordinates of a point: layer and block of columns. -/
def tl (t : Fin cfg0.N) : Fin 2 := ⟨t.val / 3, by have h : t.val < 6 := t.isLt; omega⟩
def tj (t : Fin cfg0.N) : Fin 3 := ⟨t.val % 3, by omega⟩

theorem idx0 : ∀ t : Fin cfg0.N, win0_0.index t = ![0, 0] := (by decide +kernel : ∀ t : Fin grid0.N, _)
theorem idx1 : ∀ t : Fin cfg0.N, win0_1.index t = ![t.val / 3, 0, t.val % 3] := (by decide +kernel : ∀ t : Fin grid0.N, _)
theorem idx2 : ∀ t : Fin cfg0.N, win0_2.index t = ![t.val / 3, 0, t.val % 3] := (by decide +kernel : ∀ t : Fin grid0.N, _)
theorem idx3 : ∀ t : Fin cfg0.N, win0_3.index t = ![t.val / 3, 0, t.val % 3] := (by decide +kernel : ∀ t : Fin grid0.N, _)

/-- The conditioning vectors, staged whole at every point. -/
theorem x0_at (c : Dev nD) (t : Fin cfg0.N) (r : Fin 8) (k : Fin 1024) :
    (iblk m c 0 t : Vec Ideal S8x1024 .f32) (ix2 r k) = (V m c main_v4 : Vec Ideal S8x1024 .f32) (ix2 r k) := by
  blk_simp [iblk]
  refine congrArg _ ?_
  blk_ext [idx0]

/-- The block of weights staged at a point. -/
theorem x1_at (c : Dev nD) (t : Fin cfg0.N) (j : Fin 1024) (k : Fin 2048) :
    (iblk m c 1 t : Vec Ideal S1x1024x2048 .f32) (ix3 0 j k)
      = (V m c main_arg2 : Vec Ideal S2x1024x6144 .f32) (ix3 (tl t) j ⟨2048 * (tj t).val + k.val, by have := (tj t).isLt; omega⟩) := by
  blk_simp [iblk]
  refine congrArg _ ?_
  unfold tl tj
  blk_ext [idx1]

/-- The block of biases staged at a point. -/
theorem x2_at (c : Dev nD) (t : Fin cfg0.N) (k : Fin 2048) :
    (iblk m c 2 t : Vec Ideal S1x1x2048 .f32) (ix3 0 0 k)
      = (V m c main_v5 : Vec Ideal S2x1x6144 .f32) (ix3 (tl t) 0 ⟨2048 * (tj t).val + k.val, by have := (tj t).isLt; omega⟩) := by
  blk_simp [iblk]
  refine congrArg _ ?_
  unfold tl tj
  blk_ext [idx2]

/-- The output array as one function of the kernel's arguments. -/
def G (c : Dev nD) : Vec Ideal S2x8x6144 .f32 := fun i =>
  entry (vecs (fun a k => (m ((c : Thread nD τ).loc main_arg0) : Vec Ideal S2x1024 .f32) (ix2 a k))
      (fun k => (m ((c : Thread nD τ).loc main_arg1) : Vec Ideal S1024 .f32) (ix1 k)) (i 1))
    (fun j => (m ((c : Thread nD τ).loc main_arg2) : Vec Ideal S2x1024x6144 .f32) (ix3 (n0 := 2) (n1 := 1024) (n2 := 6144) (i 0) j (i 2)))
    ((m ((c : Thread nD τ).loc main_arg3) : Vec Ideal S2x6144 .f32) (ix2 (n0 := 2) (n1 := 6144) (i 0) (i 2)))

/-- The place of the output that a place of a point's block is. -/
theorem emb3 (t : Fin cfg0.N) (r : Fin 8) (k : Fin 2048) :
    ((cfg0.win 3).blk t).view.emb (ix3 (n0 := 1) (n1 := 8) (n2 := 2048) 0 r k)
      = (ix3 (tl t) r ⟨2048 * (tj t).val + k.val, by have := (tj t).isLt; omega⟩ : S2x8x6144.Idx) := by
  unfold tl tj
  blk_ext [idx3]

/-- THE RESULT ARRAY of the kernel holds the modulation entries, everywhere. -/
theorem final (c : Dev nD) : (dats m 0 c).arrAt 3 cfg0.N = G m c := by
  refine (dats m 0 c).arrAt_eq_of_covers 3 _ (by decide +kernel) fun t hf y => ?_
  obtain ⟨r, k, rfl⟩ : ∃ (r : Fin 8) (k : Fin 2048), y = (ix3 (n0 := 1) (n1 := 8) (n2 := 2048) 0 r k) :=
    ⟨y 1, y 2, ((ix3_eta (n0 := 1) (n1 := 8) (n2 := 2048) y).symm.trans (congrArg (fun t => ix3 (n0 := 1) (n1 := 8) (n2 := 2048) t (y 1) (y 2)) (Subsingleton.elim _ _)))⟩
  blk_simp
  rw [emb3, after0_3]
  refine (out_apply _ _ _ r k).trans ?_
  have e0 : (fun j : Fin 1024 => (iblk m c 0 t : Vec Ideal S8x1024 .f32) (ix2 r j)) = _ := funext fun j => (x0_at m c t r j).trans (vecs_at m c r j)
  have e1 : (fun j : Fin 1024 => (iblk m c 1 t : Vec Ideal S1x1024x2048 .f32) (ix3 0 j k))
      = fun j => (m ((c : Thread nD τ).loc main_arg2) : Vec Ideal S2x1024x6144 .f32) (ix3 (tl t) j ⟨2048 * (tj t).val + k.val, by have := (tj t).isLt; omega⟩) := funext fun j => by
    refine (x1_at m c t j k).trans ?_
    rw [V_main_arg2]
  rw [e0, e1, (x2_at m c t k).trans (bias_at m c _ _)]
  rfl

end Cert.Layer.Ada

end
-- ==== Proof.AdaRef.lean ====
/- The reference's modulation vectors: its stages as functions of arrays, read at an index, and its result. -/
module

public import proofs.«01_k».proof.Proof.Gen.Reference5Ideal.Run
public import Idealize.ShloMosaic.Lib.Pointwise
public import proofs.«01_k».proof.Proof.AdaArray

@[expose] public section

set_option maxRecDepth 16384

noncomputable section

namespace Cert.Layer.Ada.Ref

open Idealize.ShloMosaic Idealize.SL.Sem Cert.Reference5Ideal Cert.Reference5Ideal.Gen Idealize.ShloMosaic.TcCoe

/-- A layer's modulation rows of the two batches. -/
def latent (c : FVec Ideal S2x1024 .f32) (w : FVec Ideal S1024x6144 .f32) (b : FVec Ideal S6144 .f32) : FVec Ideal S2x6144 .f32 :=
  have call0_cst_0 : FVec Ideal S_ .f32 := constant S_ .f32 0x3F800000#32
  have call0_v4 : FVec Ideal S2x1024 .f32 := broadcastInDim S2x1024 ![] bcast_S_S2x1024 call0_cst_0
  have call0_cst : FVec Ideal S_ .f32 := constant S_ .f32 0x3F800000#32
  have call0_v2 : FVec Ideal S2x1024 .f32 := broadcastInDim S2x1024 ![] bcast_S_S2x1024 call0_cst
  have call0_v0 : FVec Ideal S2x1024 .f32 := Host.negf c
  have call0_v1 : FVec Ideal S2x1024 .f32 := Host.exp call0_v0
  have call0_v3 : FVec Ideal S2x1024 .f32 := addf call0_v2 call0_v1
  have call0_v5 : FVec Ideal S2x1024 .f32 := Host.divf call0_v4 call0_v3
  have v4 : FVec Ideal S2x1024 .f32 := mulf c call0_v5
  have v5 : FVec Ideal S2x6144 .f32 := Host.dotGeneral dot_S2x1024_S1024x6144_S2x6144_1_0_0_1_n_n none v4 w
  have v6 : FVec Ideal S1x6144 .f32 := broadcastInDim S1x6144 ![1] bcast_S6144_S1x6144_1 b
  have v7 : FVec Ideal S2x6144 .f32 := broadcastInDim S2x6144 ![0, 1] bcast_S1x6144_S2x6144_0_1 v6
  addf v5 v7

/-- A layer's modulation row of the context. -/
def context (cc : FVec Ideal S1024 .f32) (w : FVec Ideal S1024x6144 .f32) (b : FVec Ideal S6144 .f32) : FVec Ideal S6144 .f32 :=
  have call1_cst_0 : FVec Ideal S_ .f32 := constant S_ .f32 0x3F800000#32
  have call1_v4 : FVec Ideal S1024 .f32 := broadcastInDim S1024 ![] bcast_S_S1024 call1_cst_0
  have call1_cst : FVec Ideal S_ .f32 := constant S_ .f32 0x3F800000#32
  have call1_v2 : FVec Ideal S1024 .f32 := broadcastInDim S1024 ![] bcast_S_S1024 call1_cst
  have call1_v0 : FVec Ideal S1024 .f32 := Host.negf cc
  have call1_v1 : FVec Ideal S1024 .f32 := Host.exp call1_v0
  have call1_v3 : FVec Ideal S1024 .f32 := addf call1_v2 call1_v1
  have call1_v5 : FVec Ideal S1024 .f32 := Host.divf call1_v4 call1_v3
  have v9 : FVec Ideal S1024 .f32 := mulf cc call1_v5
  have v10 : FVec Ideal S6144 .f32 := Host.dotGeneral dot_S1024_S1024x6144_S6144_0_0_n_1_n_n none v9 w
  addf v10 b

/-- A layer's modulation rows of zero vectors. -/
def zeros (w : FVec Ideal S1024x6144 .f32) (b : FVec Ideal S6144 .f32) : FVec Ideal S5x6144 .f32 :=
  have cst : FVec Ideal S_ .f32 := constant S_ .f32 0x00000000#32
  have v12 : FVec Ideal S5x1024 .f32 := broadcastInDim S5x1024 ![] bcast_S_S5x1024 cst
  have call2_cst_0 : FVec Ideal S_ .f32 := constant S_ .f32 0x3F800000#32
  have call2_v4 : FVec Ideal S5x1024 .f32 := broadcastInDim S5x1024 ![] bcast_S_S5x1024 call2_cst_0
  have call2_cst : FVec Ideal S_ .f32 := constant S_ .f32 0x3F800000#32
  have call2_v2 : FVec Ideal S5x1024 .f32 := broadcastInDim S5x1024 ![] bcast_S_S5x1024 call2_cst
  have call2_v0 : FVec Ideal S5x1024 .f32 := Host.negf v12
  have call2_v1 : FVec Ideal S5x1024 .f32 := Host.exp call2_v0
  have call2_v3 : FVec Ideal S5x1024 .f32 := addf call2_v2 call2_v1
  have call2_v5 : FVec Ideal S5x1024 .f32 := Host.divf call2_v4 call2_v3
  have v13 : FVec Ideal S5x1024 .f32 := mulf v12 call2_v5
  have v14 : FVec Ideal S5x6144 .f32 := Host.dotGeneral dot_S5x1024_S1024x6144_S5x6144_1_0_0_1_n_n none v13 w
  have v15 : FVec Ideal S1x6144 .f32 := broadcastInDim S1x6144 ![1] bcast_S6144_S1x6144_1 b
  have v16 : FVec Ideal S5x6144 .f32 := broadcastInDim S5x6144 ![0, 1] bcast_S1x6144_S5x6144_0_1 v15
  addf v14 v16

/-- A layer's eight modulation rows. -/
def layer (y : FVec Ideal S2x6144 .f32) (z : FVec Ideal S6144 .f32) (o : FVec Ideal S5x6144 .f32) : FVec Ideal S8x6144 .f32 :=
  have v18 : FVec Ideal S1x6144 .f32 := broadcastInDim S1x6144 ![1] bcast_S6144_S1x6144_1 z
  concatenate S8x6144 0 [⟨S2x6144, y⟩, ⟨S1x6144, v18⟩, ⟨S5x6144, o⟩] concatenates_S2x6144_S1x6144_S5x6144_S8x6144_d0

/-- The first layer's weights. -/
def w0 (w : FVec Ideal S2x1024x6144 .f32) : FVec Ideal S1024x6144 .f32 :=
  have v0 : FVec Ideal S1x1024x6144 .f32 := extractStridedSlice S1x1024x6144 ![0, 0, 0] w slices_S2x1024x6144_S1x1024x6144_0_0_0
  shapeCast _ v0 shapeCasts_S1x1024x6144_S1024x6144

/-- The second layer's weights. -/
def w1 (w : FVec Ideal S2x1024x6144 .f32) : FVec Ideal S1024x6144 .f32 :=
  have v20 : FVec Ideal S1x1024x6144 .f32 := extractStridedSlice S1x1024x6144 ![1, 0, 0] w slices_S2x1024x6144_S1x1024x6144_1_0_0
  shapeCast _ v20 shapeCasts_S1x1024x6144_S1024x6144

/-- The first layer's biases. -/
def b0 (b : FVec Ideal S2x6144 .f32) : FVec Ideal S6144 .f32 :=
  have v2 : FVec Ideal S1x6144 .f32 := extractStridedSlice S1x6144 ![0, 0] b slices_S2x6144_S1x6144_0_0
  shapeCast _ v2 shapeCasts_S1x6144_S6144

/-- The second layer's biases. -/
def b1 (b : FVec Ideal S2x6144 .f32) : FVec Ideal S6144 .f32 :=
  have v22 : FVec Ideal S1x6144 .f32 := extractStridedSlice S1x6144 ![1, 0] b slices_S2x6144_S1x6144_1_0
  shapeCast _ v22 shapeCasts_S1x6144_S6144

/-- Both layers' rows, stacked. -/
def both (y : FVec Ideal S8x6144 .f32) (z : FVec Ideal S8x6144 .f32) : FVec Ideal S2x8x6144 .f32 :=
  have v40 : FVec Ideal S1x8x6144 .f32 := broadcastInDim S1x8x6144 ![1, 2] bcast_S8x6144_S1x8x6144_1_2 y
  have v41 : FVec Ideal S1x8x6144 .f32 := broadcastInDim S1x8x6144 ![1, 2] bcast_S8x6144_S1x8x6144_1_2 z
  concatenate S2x8x6144 0 [⟨S1x8x6144, v40⟩, ⟨S1x8x6144, v41⟩] concatenates_S1x8x6144_S1x8x6144_S2x8x6144_d0

/-- A layer's rows from its weights and biases. -/
def rows (c : FVec Ideal S2x1024 .f32) (cc : FVec Ideal S1024 .f32) (w : FVec Ideal S1024x6144 .f32) (b : FVec Ideal S6144 .f32) : FVec Ideal S8x6144 .f32 :=
  layer (latent c w b) (context cc w b) (zeros w b)

/-- The reference's result. -/
def out (c : FVec Ideal S2x1024 .f32) (cc : FVec Ideal S1024 .f32) (w : FVec Ideal S2x1024x6144 .f32) (b : FVec Ideal S2x6144 .f32) : FVec Ideal S2x8x6144 .f32 :=
  both (rows c cc (w0 w) (b0 b)) (rows c cc (w1 w) (b1 b))

/-- A batch's row at a column. -/
theorem latent_apply (c : FVec Ideal S2x1024 .f32) (w : FVec Ideal S1024x6144 .f32) (b : FVec Ideal S6144 .f32) (a : Fin 2) (k : Fin 6144) :
    (latent c w b (ix2 a k) : EReal) = entry (fun j => c (ix2 a j)) (fun j => w (ix2 j k)) (b (ix1 k)) := by
  pointwise [latent]
  rfl

/-- The context's row at a column. -/
theorem context_apply (c : FVec Ideal S1024 .f32) (w : FVec Ideal S1024x6144 .f32) (b : FVec Ideal S6144 .f32) (k : Fin 6144) :
    (context c w b (ix1 k) : EReal) = entry (fun j => c (ix1 j)) (fun j => w (ix2 j k)) (b (ix1 k)) := by
  pointwise [context]
  rfl

/-- A zero vector's row at a column. -/
theorem zeros_apply (w : FVec Ideal S1024x6144 .f32) (b : FVec Ideal S6144 .f32) (a : Fin 5) (k : Fin 6144) :
    (zeros w b (ix2 a k) : EReal) = entry (fun _ => 0) (fun j => w (ix2 j k)) (b (ix1 k)) := by
  pointwise [zeros]
  rfl

/-- The eight rows at a place. -/
theorem layer_apply (y : FVec Ideal S2x6144 .f32) (z : FVec Ideal S6144 .f32) (o : FVec Ideal S5x6144 .f32) (r : Fin 8) (k : Fin 6144) :
    (layer y z o (ix2 r k) : EReal) = if h : r.val < 2 then y (ix2 ⟨r.val, h⟩ k) else if h' : r.val < 3 then z (ix1 k) else o (ix2 ⟨r.val - 3, by omega⟩ k) := by
  pointwise [layer]
  by_cases h : r.val < 2
  · rw [dif_pos h, dif_pos h]
  · rw [dif_neg h, dif_neg h]
    by_cases h' : r.val < 3
    · rw [dif_pos (show r.val - 2 < 1 by omega), dif_pos h']
    · rw [dif_neg (show ¬ r.val - 2 < 1 by omega), dif_neg h']
      rfl

/-- Every row is the modulation entry of its stacked vector. -/
theorem rows_apply (c : FVec Ideal S2x1024 .f32) (cc : FVec Ideal S1024 .f32) (w : FVec Ideal S1024x6144 .f32) (b : FVec Ideal S6144 .f32) (r : Fin 8) (k : Fin 6144) :
    (rows c cc w b (ix2 r k) : EReal) = entry (vecs (fun a k => c (ix2 a k)) (fun k => cc (ix1 k)) r) (fun j => w (ix2 j k)) (b (ix1 k)) := by
  unfold rows
  rw [layer_apply]
  by_cases h : r.val < 2
  · have e : vecs (fun a k => c (ix2 a k)) (fun k => cc (ix1 k)) r = fun k => c (ix2 ⟨r.val, h⟩ k) := by
      funext k; unfold vecs; rw [dif_pos h]
    rw [dif_pos h, latent_apply, e]
  · by_cases h' : r.val < 3
    · have e : vecs (fun a k => c (ix2 a k)) (fun k => cc (ix1 k)) r = fun k => cc (ix1 k) := by
        funext k; unfold vecs; rw [dif_neg h, if_pos (by omega)]
      rw [dif_neg h, dif_pos h', context_apply, e]
    · have e : vecs (fun a k => c (ix2 a k)) (fun k => cc (ix1 k)) r = fun _ => 0 := by
        funext k; unfold vecs; rw [dif_neg h, if_neg (by omega)]
      rw [dif_neg h, dif_neg h', zeros_apply, e]

/-- The layers' weights and biases at a place. -/
theorem w0_apply (w : FVec Ideal S2x1024x6144 .f32) (j : Fin 1024) (k : Fin 6144) : (w0 w (ix2 j k) : EReal) = w (ix3 0 j k) := by
  pointwise [w0]
theorem w1_apply (w : FVec Ideal S2x1024x6144 .f32) (j : Fin 1024) (k : Fin 6144) : (w1 w (ix2 j k) : EReal) = w (ix3 1 j k) := by
  pointwise [w1]
theorem b0_apply (b : FVec Ideal S2x6144 .f32) (k : Fin 6144) : (b0 b (ix1 k) : EReal) = b (ix2 0 k) := by
  pointwise [b0]
theorem b1_apply (b : FVec Ideal S2x6144 .f32) (k : Fin 6144) : (b1 b (ix1 k) : EReal) = b (ix2 1 k) := by
  pointwise [b1]

/-- The two layers' rows, stacked, at a place. -/
theorem both_apply (y z : FVec Ideal S8x6144 .f32) (l : Fin 2) (r : Fin 8) (k : Fin 6144) :
    (both y z (ix3 l r k) : EReal) = if l.val < 1 then y (ix2 r k) else z (ix2 r k) := by
  pointwise [both]
  rfl

/-- THE REFERENCE'S RESULT is the modulation entry of every layer, row and column. -/
theorem out_apply (c : FVec Ideal S2x1024 .f32) (cc : FVec Ideal S1024 .f32) (w : FVec Ideal S2x1024x6144 .f32) (b : FVec Ideal S2x6144 .f32)
    (l : Fin 2) (r : Fin 8) (k : Fin 6144) :
    (out c cc w b (ix3 l r k) : EReal) = entry (vecs (fun a k => c (ix2 a k)) (fun k => cc (ix1 k)) r) (fun j => w (ix3 l j k)) (b (ix2 l k)) := by
  unfold out
  rw [both_apply, rows_apply, rows_apply]
  simp only [w0_apply, w1_apply, b0_apply, b1_apply]
  fin_cases l <;> rfl

/-- The run's result term is the composition of the stages. -/
theorem res_eq (m : (ℓ : Loc nD τ sig) → Buf (Elt Ideal) ℓ) (c : Dev nD) :
    Cert.Reference5Ideal.Value.res_main_v42 m c = out (m ((c.tc : Thread nD τ).loc main_arg0)) (m ((c.tc : Thread nD τ).loc main_arg1)) (m ((c.tc : Thread nD τ).loc main_arg2)) (m ((c.tc : Thread nD τ).loc main_arg3)) := by
  unfold Cert.Reference5Ideal.Value.res_main_v42
  rfl

end Cert.Layer.Ada.Ref

end
-- ==== Proof.AdaClaim.lean ====
/- The claims about the modulation vectors: its reference's frame, and that the kernel and the reference return the same array. -/
module

public import proofs.«01_k».proof.Defs
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import Idealize.ShloMosaic.Adequacy
public import Idealize.ShloMosaic.Init
public import proofs.«01_k».proof.Proof.AdaArray
public import proofs.«01_k».proof.Proof.AdaRef

@[expose] public section

set_option maxRecDepth 16384

noncomputable section

namespace Cert.Layer.Ada

open Idealize.ShloMosaic Idealize.SL.Sem

/-- The reference runs, leaves its arguments unchanged, and declares no semaphore. -/
theorem frame_reference (m : (ℓ : Loc Cert.Reference5Ideal.nD Cert.Reference5Ideal.τ Cert.Reference5Ideal.sig) → Buf (Elt Ideal) ℓ) (ρ : Dev Cert.Reference5Ideal.nD → PrngReg) :
    θ_run (Cert.Reference5Ideal.defs (F := Ideal)) (onTc (τ := Cert.Reference5Ideal.τ) (Cert.Reference5Ideal.main (F := Ideal))) ⟨m, fun _ => 0, ρ⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0) :=
  (θ_run Cert.Reference5Ideal.defs _ _).mono (fun r h => ⟨fun c => (h c).2, sem_eq_zero_of_no_sems (by decide) r.2⟩)
    (Cert.Reference5Ideal.Value.run (F := Ideal) m ρ)

/-- The kernel's output array is the reference's result of the same arguments. -/
theorem value_eq (m : (ℓ : Loc Cert.Kernel5Ideal.nD Cert.Kernel5Ideal.τ Cert.Kernel5Ideal.sig) → Buf (Elt Ideal) ℓ) (c : Dev Cert.Kernel5Ideal.nD) :
    Ref.out (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) = G m c := by
  funext i
  obtain ⟨l, r, k, rfl⟩ : ∃ l r k, i = ix3 (n0 := 2) (n1 := 8) (n2 := 6144) l r k := ⟨i 0, i 1, i 2, (ix3_eta (n0 := 2) (n1 := 8) (n2 := 6144) i).symm⟩
  exact Ref.out_apply _ _ _ _ l r k

/-- THE VALUE CLAIM: from equal arguments, kernel and reference run and return the same array. -/
theorem algebraic : Cert.algebraic_Kernel5Ideal_Reference5Ideal (hKernel5Ideal := Cert.Kernel5Ideal.Gen.facts) (hReference5Ideal := Cert.Reference5Ideal.Gen.facts) := by
  intro m g m' g' _ hargs
  refine ⟨fun c => G m c, ?_, ?_⟩
  · refine (θ_run (Cert.Kernel5Ideal.defs (F := Ideal)) _ _).mono (fun r h c => ?_) (Cert.Kernel5Ideal.Value.run_blocks m g)
    obtain ⟨hv, h0, h1, h2, h3⟩ := h c
    exact ⟨hv.trans (final m c), h0, h1, h2, h3⟩
  · refine (θ_run (Cert.Reference5Ideal.defs (F := Ideal)) _ _).mono (fun r h c => ?_) (Cert.Reference5Ideal.Value.run (F := Ideal) m' g')
    obtain ⟨hv, h0, h1, h2, h3⟩ := h c
    refine ⟨hv.trans ?_, h0, h1, h2, h3⟩
    obtain ⟨e0, e1, e2, e3⟩ := hargs c
    rw [Ref.res_eq, e0, e1, e2, e3]
    exact value_eq m c

end Cert.Layer.Ada

end
-- ==== Proof.ScanRun.lean ====
module

public import proofs.«01_k».proof.Proof.Gen.Reference7Ideal.Run
public import proofs.«01_k».proof.Proof.Gen.Reference7Ideal.Step

/-!
The run of the reference of the gated linear attention's forward scan: its host loop goes through 132 states,
each made from the one before by one trip, and the result is read off the last state.
-/

@[expose] public section

noncomputable section

namespace Cert.GlaScan

open Idealize.ShloMosaic Idealize.ShloMosaic.TcCoe Idealize.SL.Sem Idealize.ShloMosaic.StableHlo
open Cert.Reference7Ideal Cert.Reference7Ideal.Gen Cert.Reference7Ideal.Value Cert.Reference7Ideal.Step

variable {F : FTy → Type} [FloatOps F]

/-- The buffers hold the state `s` before trip `j`: the carried values, the operands of the scan, the mask and the counter. -/
structure At (V0 : Valuation τ sig (Elt F)) (s : State F) (j : ℕ) : Prop where
  state : V0 (Proc.devRef .tc main_v54_7) = s.main_v54_7
  out : V0 (Proc.devRef .tc main_v54_8) = s.main_v54_8
  qd : V0 (Proc.devRef .tc main_v54_0) = s.main_v54_0
  ki : V0 (Proc.devRef .tc main_v54_1) = s.main_v54_1
  ke : V0 (Proc.devRef .tc main_v54_2) = s.main_v54_2
  v : V0 (Proc.devRef .tc main_v54_3) = s.main_v54_3
  tot : V0 (Proc.devRef .tc main_v54_4) = s.main_v54_4
  mask : V0 (Proc.devRef .tc main_v54_5) = K_main_v52 (F := F)
  count : V0 (Proc.devRef .tc main_v54_6) = constantI S_ 32 (BitVec.ofNat 32 j)

variable {V0 : Valuation τ sig (Elt F)} {s : State F} {j : ℕ}

set_option maxRecDepth 8192 in
/-- The carried sum after a trip is the step's. -/
theorem state_step (h : At V0 s j) : Value.step_main_v54_7 V0 = (step j s).main_v54_7 := by
  unfold Value.step_main_v54_7 res_main_while0b_v62
  rw [h.state, h.ke, h.v, h.tot, h.count]
  rfl

set_option maxRecDepth 8192 in
/-- The rows written so far, after a trip, are the step's. -/
theorem out_step (h : At V0 s j) : Value.step_main_v54_8 V0 = (step j s).main_v54_8 := by
  unfold Value.step_main_v54_8 res_main_while0b_v59 res_main_while0b_v62
  rw [h.state, h.out, h.qd, h.ki, h.v, h.mask, h.count]
  rfl

/-- The counter after a trip is the next number. -/
theorem count_step (h : At V0 s j) : step_main_v54_6 V0 = constantI S_ 32 (BitVec.ofNat 32 (j + 1)) := by
  unfold step_main_v54_6
  rw [h.count]
  funext i
  show BitVec.ofNat 32 j + 1#32 = BitVec.ofNat 32 (j + 1)
  simp only [BitVec.ofNat_add]

/-- One trip goes from a state to the next. -/
theorem At.next (h : At V0 s j) : At (STEP V0) (step j s) (j + 1) where
  state := (STEP_main_v54_7 V0).trans (state_step h)
  out := (STEP_main_v54_8 V0).trans (out_step h)
  count := (STEP_main_v54_6 V0).trans (count_step h)
  mask := (STEP_main_v54_5 V0).trans h.mask
  qd := (STEP_main_v54_0 V0).trans h.qd
  ki := (STEP_main_v54_1 V0).trans h.ki
  ke := (STEP_main_v54_2 V0).trans h.ke
  v := (STEP_main_v54_3 V0).trans h.v
  tot := (STEP_main_v54_4 V0).trans h.tot

/-- The states of the loop, from the operands. -/
def states (p : (⟨S2x8448x9984, .bf16⟩ : BufTy).Contents (Elt F)) (w : (⟨S2x16x512, .f32⟩ : BufTy).Contents (Elt F))
    (b : (⟨S2x512, .f32⟩ : BufTy).Contents (Elt F)) : ℕ → State F
  | 0 => init p w b
  | n + 1 => step n (states p w b n)

variable (m : (ℓ : Loc nD τ sig) → Buf (Elt F) ℓ) (ρ : Dev nD → PrngReg) (c : Dev nD)

/-- The states of the loop on one device. -/
abbrev statesAt : ℕ → State F :=
  states (m ((c.tc : Thread nD τ).loc main_arg0)) (m ((c.tc : Thread nD τ).loc main_arg1)) (m ((c.tc : Thread nD τ).loc main_arg2))

set_option maxRecDepth 65536 in
set_option maxHeartbeats 1000000 in
/-- The loop is entered at the first state. -/
theorem at_entry : At (entryContents preI m c) (statesAt m c 0) 0 := by
  constructor <;> (simp only [entryContents, afterL_cons, afterL_nil]; after_reads_simp) <;> rfl

/-- Before every trip the buffers hold that trip's state. -/
theorem at_trip : ∀ k, At (STEP^[k] (entryContents preI m c)) (statesAt m c k) k
  | 0 => at_entry m c
  | k + 1 => by
    rw [Function.iterate_succ_apply']
    exact (at_trip k).next

/-- The reference ends with its result read off the state after 132 trips, its arguments unchanged. -/
theorem run_states : θ_run (defs (F := F)) (onTc (τ := τ) (main (F := F))) ⟨m, fun _ => 0, ρ⟩ fun r => ∀ c : Dev nD,
      r.2.mem ((c.tc : Thread nD τ).loc main_v58) = R_main_v58 (statesAt m c 132)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(h c).1.trans (by unfold out_main_v58 R_main_v58; rw [(at_trip m c 132).out]; rfl), (h c).2.1, (h c).2.2.1, (h c).2.2.2⟩)
    (Value.run m ρ)

end Cert.GlaScan

end
-- ==== Proof.ScanSpec.lean ====
/- The gated linear attention's forward scan as mathematics: decays, chunks of 64 positions, the carried sum. -/
module

public import Idealize.ShloMosaic.Lib.Pointwise

@[expose] public section

noncomputable section

namespace Cert.Layer.Scan

open Idealize.ShloMosaic Idealize.SL.Sem

/-- The logarithm of the logistic function, over 16: `-(max (-z) 0 + log (1 + exp (-|-z|))) / 16`. -/
def logDecay (z : EReal) : EReal :=
  Ideal.div (-(max (-z) 0 + Ideal.log1p (Ideal.exp (-(max (-z) (-(-z))))))) (Ideal.ofBits .f32 0x41800000#32)

/-- What a chunk of 64 positions brings to the scan, for one head: decayed queries, keys decayed from the chunk's start
and to its end, values, and the chunk's whole decay. -/
structure Chunk where
  qd : Fin 64 → Fin 128 → EReal
  ki : Fin 64 → Fin 128 → EReal
  ke : Fin 64 → Fin 128 → EReal
  v : Fin 64 → Fin 256 → EReal
  tot : Fin 128 → EReal

/-- The sum of the log decays from the chunk's start to a position, that position included. -/
def cum (la : Fin 64 → Fin 128 → EReal) (t : Fin 64) (d : Fin 128) : EReal := ∑ s : Fin 64, if s ≤ t then la s d else 0

/-- The sum of the log decays of the chunk. -/
def total (la : Fin 64 → Fin 128 → EReal) (d : Fin 128) : EReal := ∑ s : Fin 64, la s d

/-- A chunk from its queries, keys, values and log decays. -/
def Chunk.of (q k : Fin 64 → Fin 128 → EReal) (v : Fin 64 → Fin 256 → EReal) (la : Fin 64 → Fin 128 → EReal) : Chunk where
  qd t d := q t d * Ideal.ofBits .f32 0x3DB504F3#32 * Ideal.exp (cum la t d)
  ki t d := k t d * Ideal.exp (-(cum la t d))
  ke t d := k t d * Ideal.exp (total la d - cum la t d)
  v := v
  tot := total la

/-- The weight of position `s` for position `t` of the same chunk. -/
def Chunk.att (c : Chunk) (t s : Fin 64) : EReal := if s ≤ t then ∑ d, c.qd t d * c.ki s d else 0

/-- A position's output: from its chunk and from the carried sum. -/
def Chunk.out (c : Chunk) (S : Fin 128 → Fin 256 → EReal) (t : Fin 64) (e : Fin 256) : EReal :=
  ∑ s, c.att t s * c.v s e + ∑ d, c.qd t d * S d e

/-- The carried sum after a chunk. -/
def Chunk.next (c : Chunk) (S : Fin 128 → Fin 256 → EReal) (d : Fin 128) (e : Fin 256) : EReal :=
  Ideal.exp (c.tot d) * S d e + ∑ s, c.ke s d * c.v s e

/-- The carried sum before chunk `n` of a run of chunks. -/
def carried (c : ℕ → Chunk) : ℕ → Fin 128 → Fin 256 → EReal
  | 0 => fun _ _ => 0
  | n + 1 => (c n).next (carried c n)

/-- The shapes of the projections, of the decay maps and of the decay biases. -/
abbrev SProj : Shape := ⟨3, ![2, 8448, 9984]⟩
abbrev SDec : Shape := ⟨3, ![2, 16, 512]⟩
abbrev SBias : Shape := ⟨2, ![2, 512]⟩

/-- Position `t` of chunk `m`. -/
def pos (m : ℕ) (t : Fin 64) : Fin 8448 := if h : m < 132 then ⟨m * 64 + t.val, by omega⟩ else 0

/-- The decay's argument of one position and channel. -/
def gate (p : SProj.Idx → EReal) (w : SDec.Idx → EReal) (b : SBias.Idx → EReal) (i : Fin 2) (n : Fin 8448) (d : Fin 512) : EReal :=
  (∑ k : Fin 16, p (ix3 i n ⟨9728 + k.val, by omega⟩) * w (ix3 0 k d)) + b (ix2 0 d)

/-- Chunk `m` of head `h` of batch `i`. -/
def chunkOf (p : SProj.Idx → EReal) (w : SDec.Idx → EReal) (b : SBias.Idx → EReal) (i : Fin 2) (h : Fin 4) (m : ℕ) : Chunk :=
  Chunk.of (fun t d => p (ix3 i (pos m t) ⟨3072 + (h.val * 128 + d.val), by omega⟩)) (fun t d => p (ix3 i (pos m t) ⟨3584 + (h.val * 128 + d.val), by omega⟩))
    (fun t e => p (ix3 i (pos m t) ⟨4096 + (h.val * 256 + e.val), by omega⟩)) (fun t d => logDecay (gate p w b i (pos m t) ⟨h.val * 128 + d.val, by omega⟩))

/-- The carried sum of head `h` of batch `i` before chunk `m`. -/
def carriedOf (p : SProj.Idx → EReal) (w : SDec.Idx → EReal) (b : SBias.Idx → EReal) (i : Fin 2) (h : Fin 4) (m : ℕ) : Fin 128 → Fin 256 → EReal :=
  carried (chunkOf p w b i h) m

/-- One entry of the scan's output. -/
def scanAt (p : SProj.Idx → EReal) (w : SDec.Idx → EReal) (b : SBias.Idx → EReal) (i : Fin 2) (n : Fin 8448) (e : Fin 1024) : EReal :=
  (chunkOf p w b i ⟨e.val / 256, by omega⟩ (n.val / 64)).out (carriedOf p w b i ⟨e.val / 256, by omega⟩ (n.val / 64)) ⟨n.val % 64, by omega⟩ ⟨e.val % 256, by omega⟩

end Cert.Layer.Scan

end
-- ==== Proof.ScanPay.lean ====
/- What the scan's payloads compute: a head's carried sum after one chunk and a chunk's outputs, from the block's decayed rows. -/
module

public import proofs.«01_k».proof.Proof.Common
public import proofs.«01_k».proof.Proof.Gen.Kernel7Ideal.Value
public import proofs.«01_k».proof.Proof.ScanSpec

@[expose] public section

noncomputable section

namespace Cert.Layer.Scan

open Idealize.ShloMosaic Idealize.SL.Sem Cert.Kernel7Ideal Cert.Kernel7Ideal.Gen Idealize.ShloMosaic.TcCoe

/-- The chunk at rows `o …`, key columns `p …` and value columns `q …` of a block of 256 rows. -/
def blk (QD KI KE : FVec Ideal S256x512 .bf16) (TOT : FVec Ideal S256x512 .f32) (V : Vec Ideal S1x256x1024 .bf16) (o p q : ℕ) : Chunk where
  qd t d := QD (ix2 (Fin.ofNat 256 (o + t.val)) (Fin.ofNat 512 (p + d.val)))
  ki t d := KI (ix2 (Fin.ofNat 256 (o + t.val)) (Fin.ofNat 512 (p + d.val)))
  ke t d := KE (ix2 (Fin.ofNat 256 (o + t.val)) (Fin.ofNat 512 (p + d.val)))
  v t e := V (ix3 0 (Fin.ofNat 256 (o + t.val)) (Fin.ofNat 1024 (q + e.val)))
  tot d := TOT (ix2 (Fin.ofNat 256 o) (Fin.ofNat 512 (p + d.val)))

/-- A number below the bound as itself. -/
theorem ofNat_lt (n k : ℕ) [NeZero n] (h : k < n) : Fin.ofNat n k = ⟨k, h⟩ := Fin.ext (Nat.mod_eq_of_lt h)

/-- The mask keeps a pair of positions exactly when the second is not after the first. -/
theorem mask_apply (t s : Fin 64) : k0_pay5 (ix2 t s) = 1 ↔ s ≤ t := by
  have h : k0_pay5 (ix2 t s) = Scalar.cmpi .sle (BitVec.ofNat 32 s.val) (BitVec.ofNat 32 t.val) := by
    pointwise [k0_pay5]
    rfl
  rw [h]
  revert t s
  decide +kernel

/-- A head's carried sum after a chunk, from the payload's own expression. -/
theorem next_of (QD KI KE : FVec Ideal S256x512 .bf16) (E TOT : FVec Ideal S256x512 .f32) (V : Vec Ideal S1x256x1024 .bf16) (vV : Vec Ideal S1x64x256 .bf16) (vS : Vec Ideal S1x256x128 .f32)
    (S : Fin 128 → Fin 256 → EReal) (o p q : ℕ) (ho : o + 64 ≤ 256) (hp : p + 128 ≤ 512)
    (hE : ∀ i, (E i : EReal) = Ideal.exp (TOT i)) (hv : ∀ s e, (vV (ix3 0 s e) : EReal) = V (ix3 0 (Fin.ofNat 256 (o + s.val)) (Fin.ofNat 1024 (q + e.val))))
    (hS : ∀ e d, (vS (ix3 0 e d) : EReal) = S d e) (e : Fin 256) (d : Fin 128) :
    (vS (ix3 0 e d) * E (ix2 ⟨o, by omega⟩ ⟨p + d.val, by omega⟩) + ∑ s : Fin 64, vV (ix3 0 s e) * KE (ix2 ⟨o + s.val, by omega⟩ ⟨p + d.val, by omega⟩) : EReal)
      = (blk QD KI KE TOT V o p q).next S d e := by
  unfold Chunk.next blk
  dsimp only
  rw [hS, hE, ofNat_lt 256 o (by omega), ofNat_lt 512 (p + d.val) (by omega), mul_comm (S d e) _]
  refine congrArg₂ (· + ·) rfl (Finset.sum_congr rfl fun s _ => ?_)
  rw [hv, mul_comm, ofNat_lt 256 (o + s.val) (by omega)]

/-- A chunk's output, from the payload's own expression. -/
theorem out_of (QD KI KE : FVec Ideal S256x512 .bf16) (TOT : FVec Ideal S256x512 .f32) (V : Vec Ideal S1x256x1024 .bf16) (vV : Vec Ideal S1x64x256 .bf16) (vS : Vec Ideal S1x256x128 .f32)
    (S : Fin 128 → Fin 256 → EReal) (o p q : ℕ) (ho : o + 64 ≤ 256) (hp : p + 128 ≤ 512)
    (hv : ∀ s e, (vV (ix3 0 s e) : EReal) = V (ix3 0 (Fin.ofNat 256 (o + s.val)) (Fin.ofNat 1024 (q + e.val))))
    (hS : ∀ e d, (vS (ix3 0 e d) : EReal) = S d e) (t : Fin 64) (e : Fin 256) :
    ((∑ s : Fin 64, Scalar.select (k0_pay5 (ix2 t s)) ((∑ d : Fin 128, QD (ix2 ⟨o + t.val, by omega⟩ ⟨p + d.val, by omega⟩) * KI (ix2 ⟨o + s.val, by omega⟩ ⟨p + d.val, by omega⟩)) * vV (ix3 0 s e)) (0 : EReal))
      + ∑ d : Fin 128, QD (ix2 ⟨o + t.val, by omega⟩ ⟨p + d.val, by omega⟩) * vS (ix3 0 e d) : EReal)
      = (blk QD KI KE TOT V o p q).out S t e := by
  unfold Chunk.out Chunk.att blk
  dsimp only
  refine congrArg₂ (· + ·) (Finset.sum_congr rfl fun s _ => ?_) (Finset.sum_congr rfl fun d _ => ?_)
  · unfold Scalar.select
    rw [hv]
    by_cases h : s ≤ t
    · rw [if_pos ((mask_apply t s).2 h), if_pos h]
      refine congrArg (· * _) (Finset.sum_congr rfl fun d _ => ?_)
      rw [ofNat_lt 256 (o + t.val) (by omega), ofNat_lt 256 (o + s.val) (by omega), ofNat_lt 512 (p + d.val) (by omega)]
    · rw [if_neg (fun hh => h ((mask_apply t s).1 hh)), if_neg h, zero_mul]
  · rw [hS, ofNat_lt 256 (o + t.val) (by omega), ofNat_lt 512 (p + d.val) (by omega)]

section

variable (QD KI KE : FVec Ideal S256x512 .bf16) (E TOT : FVec Ideal S256x512 .f32) (V : Vec Ideal S1x256x1024 .bf16) (vV : Vec Ideal S1x64x256 .bf16) (vS : Vec Ideal S1x256x128 .f32)
  (a0 a1 : FVec Ideal S256x256 .bf16) (a2 a3 : FVec Ideal S256x512 .f32) (a4 b : Vec Ideal S1x256x512 .bf16)

/-- Head 0's carried sum after chunk 0 of the block. -/
theorem st_0_0 (e : Fin 256) (d : Fin 128) :
    (k0_pay24 (F := Ideal) E (k0_pay20 a0 a1 a2 a3 a4) (k0_pay21 vV) vS (ix3 0 e d) : EReal) = vS (ix3 0 e d) * E (ix2 ⟨0, by omega⟩ ⟨0 + d.val, by omega⟩)
      + ∑ s : Fin 64, vV (ix3 0 s e) * (k0_pay17 a0 a1 a2 a3 a4) (ix2 ⟨0 + s.val, by omega⟩ ⟨0 + d.val, by omega⟩) := by
  unfold k0_pay20
  generalize k0_pay17 (F := Ideal) a0 a1 a2 a3 a4 = KE
  pointwise [k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41]

/-- Head 0's output in chunk 0 of the block. -/
theorem ot_0_0 (t : Fin 64) (e : Fin 256) :
    (k0_pay25 (F := Ideal) (k0_pay19 a0 a2 a3 b) (k0_pay21 vV) (k0_pay22 a0 k0_pay5 a2 a3 b a4) vS (ix3 0 t e) : EReal) = (∑ s : Fin 64, Scalar.select (k0_pay5 (ix2 t s)) ((∑ d : Fin 128, (k0_pay15 a0 a2 a3 b) (ix2 ⟨0 + t.val, by omega⟩ ⟨0 + d.val, by omega⟩) * (k0_pay16 a0 a2 a3 a4) (ix2 ⟨0 + s.val, by omega⟩ ⟨0 + d.val, by omega⟩)) * vV (ix3 0 s e)) (0 : EReal))
      + ∑ d : Fin 128, (k0_pay15 a0 a2 a3 b) (ix2 ⟨0 + t.val, by omega⟩ ⟨0 + d.val, by omega⟩) * vS (ix3 0 e d) := by
  unfold k0_pay22 k0_pay19
  generalize k0_pay15 (F := Ideal) a0 a2 a3 b = QD
  generalize k0_pay16 (F := Ideal) a0 a2 a3 a4 = KI
  pointwise [k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41]

/-- Head 1's carried sum after chunk 0 of the block. -/
theorem st_0_1 (e : Fin 256) (d : Fin 128) :
    (k0_pay31 (F := Ideal) (k0_pay26 KE) (k0_pay27 vV) (k0_pay30 E vS) (ix3 0 e d) : EReal) = vS (ix3 0 e d) * E (ix2 ⟨0, by omega⟩ ⟨128 + d.val, by omega⟩)
      + ∑ s : Fin 64, vV (ix3 0 s e) * KE (ix2 ⟨0 + s.val, by omega⟩ ⟨128 + d.val, by omega⟩) := by
  pointwise [k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41]

/-- Head 1's output in chunk 0 of the block. -/
theorem ot_0_1 (t : Fin 64) (e : Fin 256) :
    (k0_pay32 (F := Ideal) (k0_pay29 k0_pay5 QD KI vV vS) (ix3 0 t e) : EReal) = (∑ s : Fin 64, Scalar.select (k0_pay5 (ix2 t s)) ((∑ d : Fin 128, QD (ix2 ⟨0 + t.val, by omega⟩ ⟨128 + d.val, by omega⟩) * KI (ix2 ⟨0 + s.val, by omega⟩ ⟨128 + d.val, by omega⟩)) * vV (ix3 0 s e)) (0 : EReal))
      + ∑ d : Fin 128, QD (ix2 ⟨0 + t.val, by omega⟩ ⟨128 + d.val, by omega⟩) * vS (ix3 0 e d) := by
  pointwise [k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41]

/-- Head 2's carried sum after chunk 0 of the block. -/
theorem st_0_2 (e : Fin 256) (d : Fin 128) :
    (k0_pay36 (F := Ideal) KE E vV vS (ix3 0 e d) : EReal) = vS (ix3 0 e d) * E (ix2 ⟨0, by omega⟩ ⟨256 + d.val, by omega⟩)
      + ∑ s : Fin 64, vV (ix3 0 s e) * KE (ix2 ⟨0 + s.val, by omega⟩ ⟨256 + d.val, by omega⟩) := by
  pointwise [k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41]

/-- Head 2's output in chunk 0 of the block. -/
theorem ot_0_2 (t : Fin 64) (e : Fin 256) :
    (k0_pay37 (F := Ideal) (k0_pay35 k0_pay5 QD KI vV vS) (ix3 0 t e) : EReal) = (∑ s : Fin 64, Scalar.select (k0_pay5 (ix2 t s)) ((∑ d : Fin 128, QD (ix2 ⟨0 + t.val, by omega⟩ ⟨256 + d.val, by omega⟩) * KI (ix2 ⟨0 + s.val, by omega⟩ ⟨256 + d.val, by omega⟩)) * vV (ix3 0 s e)) (0 : EReal))
      + ∑ d : Fin 128, QD (ix2 ⟨0 + t.val, by omega⟩ ⟨256 + d.val, by omega⟩) * vS (ix3 0 e d) := by
  pointwise [k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41]

/-- Head 3's carried sum after chunk 0 of the block. -/
theorem st_0_3 (e : Fin 256) (d : Fin 128) :
    (k0_pay40 (F := Ideal) KE E vV vS (ix3 0 e d) : EReal) = vS (ix3 0 e d) * E (ix2 ⟨0, by omega⟩ ⟨384 + d.val, by omega⟩)
      + ∑ s : Fin 64, vV (ix3 0 s e) * KE (ix2 ⟨0 + s.val, by omega⟩ ⟨384 + d.val, by omega⟩) := by
  pointwise [k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41]

/-- Head 3's output in chunk 0 of the block. -/
theorem ot_0_3 (t : Fin 64) (e : Fin 256) :
    (k0_pay41 (F := Ideal) k0_pay5 QD KI vV vS (ix3 0 t e) : EReal) = (∑ s : Fin 64, Scalar.select (k0_pay5 (ix2 t s)) ((∑ d : Fin 128, QD (ix2 ⟨0 + t.val, by omega⟩ ⟨384 + d.val, by omega⟩) * KI (ix2 ⟨0 + s.val, by omega⟩ ⟨384 + d.val, by omega⟩)) * vV (ix3 0 s e)) (0 : EReal))
      + ∑ d : Fin 128, QD (ix2 ⟨0 + t.val, by omega⟩ ⟨384 + d.val, by omega⟩) * vS (ix3 0 e d) := by
  pointwise [k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41]

/-- Head 0's carried sum after chunk 1 of the block. -/
theorem st_1_0 (e : Fin 256) (d : Fin 128) :
    (k0_pay47 (F := Ideal) E (k0_pay43 KE) (k0_pay44 vV) vS (ix3 0 e d) : EReal) = vS (ix3 0 e d) * E (ix2 ⟨64, by omega⟩ ⟨0 + d.val, by omega⟩)
      + ∑ s : Fin 64, vV (ix3 0 s e) * KE (ix2 ⟨64 + s.val, by omega⟩ ⟨0 + d.val, by omega⟩) := by
  pointwise [k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64]

/-- Head 0's output in chunk 1 of the block. -/
theorem ot_1_0 (t : Fin 64) (e : Fin 256) :
    (k0_pay48 (F := Ideal) (k0_pay42 QD) (k0_pay44 vV) (k0_pay45 k0_pay5 QD KI) vS (ix3 0 t e) : EReal) = (∑ s : Fin 64, Scalar.select (k0_pay5 (ix2 t s)) ((∑ d : Fin 128, QD (ix2 ⟨64 + t.val, by omega⟩ ⟨0 + d.val, by omega⟩) * KI (ix2 ⟨64 + s.val, by omega⟩ ⟨0 + d.val, by omega⟩)) * vV (ix3 0 s e)) (0 : EReal))
      + ∑ d : Fin 128, QD (ix2 ⟨64 + t.val, by omega⟩ ⟨0 + d.val, by omega⟩) * vS (ix3 0 e d) := by
  pointwise [k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64]

/-- Head 1's carried sum after chunk 1 of the block. -/
theorem st_1_1 (e : Fin 256) (d : Fin 128) :
    (k0_pay54 (F := Ideal) (k0_pay49 KE) (k0_pay50 vV) (k0_pay53 E vS) (ix3 0 e d) : EReal) = vS (ix3 0 e d) * E (ix2 ⟨64, by omega⟩ ⟨128 + d.val, by omega⟩)
      + ∑ s : Fin 64, vV (ix3 0 s e) * KE (ix2 ⟨64 + s.val, by omega⟩ ⟨128 + d.val, by omega⟩) := by
  pointwise [k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64]

/-- Head 1's output in chunk 1 of the block. -/
theorem ot_1_1 (t : Fin 64) (e : Fin 256) :
    (k0_pay55 (F := Ideal) (k0_pay52 k0_pay5 QD KI vV vS) (ix3 0 t e) : EReal) = (∑ s : Fin 64, Scalar.select (k0_pay5 (ix2 t s)) ((∑ d : Fin 128, QD (ix2 ⟨64 + t.val, by omega⟩ ⟨128 + d.val, by omega⟩) * KI (ix2 ⟨64 + s.val, by omega⟩ ⟨128 + d.val, by omega⟩)) * vV (ix3 0 s e)) (0 : EReal))
      + ∑ d : Fin 128, QD (ix2 ⟨64 + t.val, by omega⟩ ⟨128 + d.val, by omega⟩) * vS (ix3 0 e d) := by
  pointwise [k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64]

/-- Head 2's carried sum after chunk 1 of the block. -/
theorem st_1_2 (e : Fin 256) (d : Fin 128) :
    (k0_pay59 (F := Ideal) KE E vV vS (ix3 0 e d) : EReal) = vS (ix3 0 e d) * E (ix2 ⟨64, by omega⟩ ⟨256 + d.val, by omega⟩)
      + ∑ s : Fin 64, vV (ix3 0 s e) * KE (ix2 ⟨64 + s.val, by omega⟩ ⟨256 + d.val, by omega⟩) := by
  pointwise [k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64]

/-- Head 2's output in chunk 1 of the block. -/
theorem ot_1_2 (t : Fin 64) (e : Fin 256) :
    (k0_pay60 (F := Ideal) (k0_pay58 k0_pay5 QD KI vV vS) (ix3 0 t e) : EReal) = (∑ s : Fin 64, Scalar.select (k0_pay5 (ix2 t s)) ((∑ d : Fin 128, QD (ix2 ⟨64 + t.val, by omega⟩ ⟨256 + d.val, by omega⟩) * KI (ix2 ⟨64 + s.val, by omega⟩ ⟨256 + d.val, by omega⟩)) * vV (ix3 0 s e)) (0 : EReal))
      + ∑ d : Fin 128, QD (ix2 ⟨64 + t.val, by omega⟩ ⟨256 + d.val, by omega⟩) * vS (ix3 0 e d) := by
  pointwise [k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64]

/-- Head 3's carried sum after chunk 1 of the block. -/
theorem st_1_3 (e : Fin 256) (d : Fin 128) :
    (k0_pay63 (F := Ideal) KE E vV vS (ix3 0 e d) : EReal) = vS (ix3 0 e d) * E (ix2 ⟨64, by omega⟩ ⟨384 + d.val, by omega⟩)
      + ∑ s : Fin 64, vV (ix3 0 s e) * KE (ix2 ⟨64 + s.val, by omega⟩ ⟨384 + d.val, by omega⟩) := by
  pointwise [k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64]

/-- Head 3's output in chunk 1 of the block. -/
theorem ot_1_3 (t : Fin 64) (e : Fin 256) :
    (k0_pay64 (F := Ideal) k0_pay5 QD KI vV vS (ix3 0 t e) : EReal) = (∑ s : Fin 64, Scalar.select (k0_pay5 (ix2 t s)) ((∑ d : Fin 128, QD (ix2 ⟨64 + t.val, by omega⟩ ⟨384 + d.val, by omega⟩) * KI (ix2 ⟨64 + s.val, by omega⟩ ⟨384 + d.val, by omega⟩)) * vV (ix3 0 s e)) (0 : EReal))
      + ∑ d : Fin 128, QD (ix2 ⟨64 + t.val, by omega⟩ ⟨384 + d.val, by omega⟩) * vS (ix3 0 e d) := by
  pointwise [k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64]

/-- Head 0's carried sum after chunk 2 of the block. -/
theorem st_2_0 (e : Fin 256) (d : Fin 128) :
    (k0_pay70 (F := Ideal) E (k0_pay66 KE) (k0_pay67 vV) vS (ix3 0 e d) : EReal) = vS (ix3 0 e d) * E (ix2 ⟨128, by omega⟩ ⟨0 + d.val, by omega⟩)
      + ∑ s : Fin 64, vV (ix3 0 s e) * KE (ix2 ⟨128 + s.val, by omega⟩ ⟨0 + d.val, by omega⟩) := by
  pointwise [k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87]

/-- Head 0's output in chunk 2 of the block. -/
theorem ot_2_0 (t : Fin 64) (e : Fin 256) :
    (k0_pay71 (F := Ideal) (k0_pay65 QD) (k0_pay67 vV) (k0_pay68 k0_pay5 QD KI) vS (ix3 0 t e) : EReal) = (∑ s : Fin 64, Scalar.select (k0_pay5 (ix2 t s)) ((∑ d : Fin 128, QD (ix2 ⟨128 + t.val, by omega⟩ ⟨0 + d.val, by omega⟩) * KI (ix2 ⟨128 + s.val, by omega⟩ ⟨0 + d.val, by omega⟩)) * vV (ix3 0 s e)) (0 : EReal))
      + ∑ d : Fin 128, QD (ix2 ⟨128 + t.val, by omega⟩ ⟨0 + d.val, by omega⟩) * vS (ix3 0 e d) := by
  pointwise [k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87]

/-- Head 1's carried sum after chunk 2 of the block. -/
theorem st_2_1 (e : Fin 256) (d : Fin 128) :
    (k0_pay77 (F := Ideal) (k0_pay72 KE) (k0_pay73 vV) (k0_pay76 E vS) (ix3 0 e d) : EReal) = vS (ix3 0 e d) * E (ix2 ⟨128, by omega⟩ ⟨128 + d.val, by omega⟩)
      + ∑ s : Fin 64, vV (ix3 0 s e) * KE (ix2 ⟨128 + s.val, by omega⟩ ⟨128 + d.val, by omega⟩) := by
  pointwise [k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87]

/-- Head 1's output in chunk 2 of the block. -/
theorem ot_2_1 (t : Fin 64) (e : Fin 256) :
    (k0_pay78 (F := Ideal) (k0_pay75 k0_pay5 QD KI vV vS) (ix3 0 t e) : EReal) = (∑ s : Fin 64, Scalar.select (k0_pay5 (ix2 t s)) ((∑ d : Fin 128, QD (ix2 ⟨128 + t.val, by omega⟩ ⟨128 + d.val, by omega⟩) * KI (ix2 ⟨128 + s.val, by omega⟩ ⟨128 + d.val, by omega⟩)) * vV (ix3 0 s e)) (0 : EReal))
      + ∑ d : Fin 128, QD (ix2 ⟨128 + t.val, by omega⟩ ⟨128 + d.val, by omega⟩) * vS (ix3 0 e d) := by
  pointwise [k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87]

/-- Head 2's carried sum after chunk 2 of the block. -/
theorem st_2_2 (e : Fin 256) (d : Fin 128) :
    (k0_pay82 (F := Ideal) KE E vV vS (ix3 0 e d) : EReal) = vS (ix3 0 e d) * E (ix2 ⟨128, by omega⟩ ⟨256 + d.val, by omega⟩)
      + ∑ s : Fin 64, vV (ix3 0 s e) * KE (ix2 ⟨128 + s.val, by omega⟩ ⟨256 + d.val, by omega⟩) := by
  pointwise [k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87]

/-- Head 2's output in chunk 2 of the block. -/
theorem ot_2_2 (t : Fin 64) (e : Fin 256) :
    (k0_pay83 (F := Ideal) (k0_pay81 k0_pay5 QD KI vV vS) (ix3 0 t e) : EReal) = (∑ s : Fin 64, Scalar.select (k0_pay5 (ix2 t s)) ((∑ d : Fin 128, QD (ix2 ⟨128 + t.val, by omega⟩ ⟨256 + d.val, by omega⟩) * KI (ix2 ⟨128 + s.val, by omega⟩ ⟨256 + d.val, by omega⟩)) * vV (ix3 0 s e)) (0 : EReal))
      + ∑ d : Fin 128, QD (ix2 ⟨128 + t.val, by omega⟩ ⟨256 + d.val, by omega⟩) * vS (ix3 0 e d) := by
  pointwise [k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87]

/-- Head 3's carried sum after chunk 2 of the block. -/
theorem st_2_3 (e : Fin 256) (d : Fin 128) :
    (k0_pay86 (F := Ideal) KE E vV vS (ix3 0 e d) : EReal) = vS (ix3 0 e d) * E (ix2 ⟨128, by omega⟩ ⟨384 + d.val, by omega⟩)
      + ∑ s : Fin 64, vV (ix3 0 s e) * KE (ix2 ⟨128 + s.val, by omega⟩ ⟨384 + d.val, by omega⟩) := by
  pointwise [k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87]

/-- Head 3's output in chunk 2 of the block. -/
theorem ot_2_3 (t : Fin 64) (e : Fin 256) :
    (k0_pay87 (F := Ideal) k0_pay5 QD KI vV vS (ix3 0 t e) : EReal) = (∑ s : Fin 64, Scalar.select (k0_pay5 (ix2 t s)) ((∑ d : Fin 128, QD (ix2 ⟨128 + t.val, by omega⟩ ⟨384 + d.val, by omega⟩) * KI (ix2 ⟨128 + s.val, by omega⟩ ⟨384 + d.val, by omega⟩)) * vV (ix3 0 s e)) (0 : EReal))
      + ∑ d : Fin 128, QD (ix2 ⟨128 + t.val, by omega⟩ ⟨384 + d.val, by omega⟩) * vS (ix3 0 e d) := by
  pointwise [k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87]

/-- Head 0's carried sum after chunk 3 of the block. -/
theorem st_3_0 (e : Fin 256) (d : Fin 128) :
    (k0_pay93 (F := Ideal) E (k0_pay89 KE) (k0_pay90 vV) vS (ix3 0 e d) : EReal) = vS (ix3 0 e d) * E (ix2 ⟨192, by omega⟩ ⟨0 + d.val, by omega⟩)
      + ∑ s : Fin 64, vV (ix3 0 s e) * KE (ix2 ⟨192 + s.val, by omega⟩ ⟨0 + d.val, by omega⟩) := by
  pointwise [k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110]

/-- Head 0's output in chunk 3 of the block. -/
theorem ot_3_0 (t : Fin 64) (e : Fin 256) :
    (k0_pay94 (F := Ideal) (k0_pay88 QD) (k0_pay90 vV) (k0_pay91 k0_pay5 QD KI) vS (ix3 0 t e) : EReal) = (∑ s : Fin 64, Scalar.select (k0_pay5 (ix2 t s)) ((∑ d : Fin 128, QD (ix2 ⟨192 + t.val, by omega⟩ ⟨0 + d.val, by omega⟩) * KI (ix2 ⟨192 + s.val, by omega⟩ ⟨0 + d.val, by omega⟩)) * vV (ix3 0 s e)) (0 : EReal))
      + ∑ d : Fin 128, QD (ix2 ⟨192 + t.val, by omega⟩ ⟨0 + d.val, by omega⟩) * vS (ix3 0 e d) := by
  pointwise [k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110]

/-- Head 1's carried sum after chunk 3 of the block. -/
theorem st_3_1 (e : Fin 256) (d : Fin 128) :
    (k0_pay100 (F := Ideal) (k0_pay95 KE) (k0_pay96 vV) (k0_pay99 E vS) (ix3 0 e d) : EReal) = vS (ix3 0 e d) * E (ix2 ⟨192, by omega⟩ ⟨128 + d.val, by omega⟩)
      + ∑ s : Fin 64, vV (ix3 0 s e) * KE (ix2 ⟨192 + s.val, by omega⟩ ⟨128 + d.val, by omega⟩) := by
  pointwise [k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110]

/-- Head 1's output in chunk 3 of the block. -/
theorem ot_3_1 (t : Fin 64) (e : Fin 256) :
    (k0_pay101 (F := Ideal) (k0_pay98 k0_pay5 QD KI vV vS) (ix3 0 t e) : EReal) = (∑ s : Fin 64, Scalar.select (k0_pay5 (ix2 t s)) ((∑ d : Fin 128, QD (ix2 ⟨192 + t.val, by omega⟩ ⟨128 + d.val, by omega⟩) * KI (ix2 ⟨192 + s.val, by omega⟩ ⟨128 + d.val, by omega⟩)) * vV (ix3 0 s e)) (0 : EReal))
      + ∑ d : Fin 128, QD (ix2 ⟨192 + t.val, by omega⟩ ⟨128 + d.val, by omega⟩) * vS (ix3 0 e d) := by
  pointwise [k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110]

/-- Head 2's carried sum after chunk 3 of the block. -/
theorem st_3_2 (e : Fin 256) (d : Fin 128) :
    (k0_pay105 (F := Ideal) KE E vV vS (ix3 0 e d) : EReal) = vS (ix3 0 e d) * E (ix2 ⟨192, by omega⟩ ⟨256 + d.val, by omega⟩)
      + ∑ s : Fin 64, vV (ix3 0 s e) * KE (ix2 ⟨192 + s.val, by omega⟩ ⟨256 + d.val, by omega⟩) := by
  pointwise [k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110]

/-- Head 2's output in chunk 3 of the block. -/
theorem ot_3_2 (t : Fin 64) (e : Fin 256) :
    (k0_pay106 (F := Ideal) (k0_pay104 k0_pay5 QD KI vV vS) (ix3 0 t e) : EReal) = (∑ s : Fin 64, Scalar.select (k0_pay5 (ix2 t s)) ((∑ d : Fin 128, QD (ix2 ⟨192 + t.val, by omega⟩ ⟨256 + d.val, by omega⟩) * KI (ix2 ⟨192 + s.val, by omega⟩ ⟨256 + d.val, by omega⟩)) * vV (ix3 0 s e)) (0 : EReal))
      + ∑ d : Fin 128, QD (ix2 ⟨192 + t.val, by omega⟩ ⟨256 + d.val, by omega⟩) * vS (ix3 0 e d) := by
  pointwise [k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110]

/-- Head 3's carried sum after chunk 3 of the block. -/
theorem st_3_3 (e : Fin 256) (d : Fin 128) :
    (k0_pay109 (F := Ideal) KE E vV vS (ix3 0 e d) : EReal) = vS (ix3 0 e d) * E (ix2 ⟨192, by omega⟩ ⟨384 + d.val, by omega⟩)
      + ∑ s : Fin 64, vV (ix3 0 s e) * KE (ix2 ⟨192 + s.val, by omega⟩ ⟨384 + d.val, by omega⟩) := by
  pointwise [k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110]

/-- Head 3's output in chunk 3 of the block. -/
theorem ot_3_3 (t : Fin 64) (e : Fin 256) :
    (k0_pay110 (F := Ideal) k0_pay5 QD KI vV vS (ix3 0 t e) : EReal) = (∑ s : Fin 64, Scalar.select (k0_pay5 (ix2 t s)) ((∑ d : Fin 128, QD (ix2 ⟨192 + t.val, by omega⟩ ⟨384 + d.val, by omega⟩) * KI (ix2 ⟨192 + s.val, by omega⟩ ⟨384 + d.val, by omega⟩)) * vV (ix3 0 s e)) (0 : EReal))
      + ∑ d : Fin 128, QD (ix2 ⟨192 + t.val, by omega⟩ ⟨384 + d.val, by omega⟩) * vS (ix3 0 e d) := by
  pointwise [k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110]

end

end Cert.Layer.Scan

end
-- ==== Proof.ScanTile.lean ====
/- A block of 256 rows as four chunks per head, and the reads of the carried sum between its stores. -/
module

public import proofs.«01_k».proof.Proof.ScanPay
public import Idealize.ShloMosaic.Lib.VecWindow

@[expose] public section

noncomputable section

namespace Cert.Layer.Scan

open Idealize.ShloMosaic Idealize.SL.Sem Cert.Kernel7Ideal Cert.Kernel7Ideal.Gen Idealize.ShloMosaic.TcCoe

/-- Offsets that are all zero. -/
theorem hz3 : (![0, 0, 0] : Fin 3 → Nat) = fun _ => 0 := by funext a; fin_cases a <;> rfl
theorem hz2 : (![0, 0] : Fin 2 → Nat) = fun _ => 0 := by funext a; fin_cases a <;> rfl

/-- Chunk `j` of head `h` of a block, from the block's operands. -/
def tile (x0 x1 : Vec Ideal S1x256x512 .bf16) (x2 : Vec Ideal S1x256x1024 .bf16) (x3 : Vec Ideal S1x256x256 .bf16) (x4 : Vec Ideal S256x512 .bf16) (x5 : Vec Ideal S1x512 .f32) (h j : ℕ) : Chunk :=
  blk (k0_pay15 k0_pay3 (k0_pay7 x3 x4 x5) (k0_pay8 x3 x4 x5) x0) (k0_pay16 k0_pay3 (k0_pay7 x3 x4 x5) (k0_pay8 x3 x4 x5) x1)
    (k0_pay17 k0_pay3 k0_pay4 (k0_pay7 x3 x4 x5) (k0_pay8 x3 x4 x5) x1) (k0_pay13 k0_pay4 (k0_pay7 x3 x4 x5) (k0_pay8 x3 x4 x5)) x2 (64 * j) (128 * h) (256 * h)

/-- The carried sum after the first `n` of a run of chunks. -/
def runOf (c : ℕ → Chunk) (S : Fin 128 → Fin 256 → EReal) : ℕ → Fin 128 → Fin 256 → EReal
  | 0 => S
  | n + 1 => (c n).next (runOf c S n)

/-- The chunk's whole decay is the exponential of its sum. -/
theorem decay_eq (y : FVec Ideal S256x256 .bf16) (u v : FVec Ideal S256x512 .f32) (i : S256x512.Idx) : (k0_pay18 (F := Ideal) y u v i : EReal) = Ideal.exp (k0_pay13 (F := Ideal) y u v i) := rfl

/-- A load of 64 rows and 256 columns of the values. -/
theorem ld_vals (x : Vec Ideal S1x256x1024 .bf16) (o q : ℕ) (ho : o + 64 ≤ 256) (hq : q + 256 ≤ 1024) (inb : ∀ a, (![0, o, q] : Fin 3 → Nat) a + S1x64x256.size a ≤ S1x256x1024.size a) (s : Fin 64) (e : Fin 256) :
    (View.ld (Val := Elt Ideal) x (Rect.unit (s := S1x256x1024) ![0, o, q] S1x64x256.size inb) (ix3 (n0 := 1) (n1 := 64) (n2 := 256) 0 s e) : EReal) = x (ix3 0 (Fin.ofNat 256 (o + s.val)) (Fin.ofNat 1024 (q + e.val))) := by
  rw [ofNat_lt 256 (o + s.val) (by omega), ofNat_lt 1024 (q + e.val) (by omega)]
  refine congrArg x (?_ : _ = ix3 (n0 := 1) (n1 := 256) (n2 := 1024) _ _ _)
  funext a
  refine Fin.ext ?_
  match a with
  | 0 => rfl
  | 1 => show o + 1 * s.val = o + s.val; omega
  | 2 => show q + 1 * e.val = q + e.val; omega

/-- One head of the carried sums. -/
theorem ld_head (x : Vec Ideal S4x256x128 .f32) (h : ℕ) (hh : h < 4) (inb : ∀ a, (![h, 0, 0] : Fin 3 → Nat) a + S1x256x128.size a ≤ S4x256x128.size a) (e : Fin 256) (d : Fin 128) :
    (View.ld (Val := Elt Ideal) x (Rect.unit (s := S4x256x128) ![h, 0, 0] S1x256x128.size inb) (ix3 (n0 := 1) (n1 := 256) (n2 := 128) 0 e d) : EReal) = x (ix3 ⟨h, hh⟩ e d) := by
  refine congrArg x (?_ : _ = ix3 (n0 := 4) (n1 := 256) (n2 := 128) _ _ _)
  funext a
  refine Fin.ext ?_
  match a with
  | 0 => rfl
  | 1 => show 0 + 1 * e.val = e.val; omega
  | 2 => show 0 + 1 * d.val = d.val; omega

/-- What a view reads of head `h` after a list of stores. -/
def headOf {κ : Kind} {sp : Space} (v : View sig κ sp S4x256x128 .f32) (L : List (View.Piece (Elt Ideal) S4x256x128 .f32)) (h : ℕ) (inb : ∀ a, (![h, 0, 0] : Fin 3 → Nat) a + S1x256x128.size a ≤ S4x256x128.size a) :
    Vec Ideal S1x256x128 .f32 :=
  VecWindow.window (s := S4x256x128) (v.read (Elt Ideal) (v.writes (Elt Ideal) v.junk L)) ![h, 0, 0] S1x256x128.size inb

/-- A head's carried sum read back from the stores that cover it. -/
theorem readCov_head {κ : Kind} {sp : Space} (v : View sig κ sp S4x256x128 .f32) (L : List (View.Piece (Elt Ideal) S4x256x128 .f32)) (h : ℕ) (inb : ∀ a, (![h, 0, 0] : Fin 3 → Nat) a + S1x256x128.size a ≤ S4x256x128.size a) :
    v.readCov L (Rect.unit (s := S4x256x128) ![h, 0, 0] S1x256x128.size inb).toLoadRect = headOf v L h inb := rfl

/-- A head just stored reads what was stored. -/
theorem head_hit {κ : Kind} {sp : Space} (v : View sig κ sp S4x256x128 .f32) (L : List (View.Piece (Elt Ideal) S4x256x128 .f32)) (h : ℕ) (inb inb' : ∀ a, (![h, 0, 0] : Fin 3 → Nat) a + S1x256x128.size a ≤ S4x256x128.size a)
    (w : Vec Ideal S1x256x128 .f32) : headOf v (⟨Rect.unit (s := S4x256x128) ![h, 0, 0] S1x256x128.size inb', w⟩ :: L) h inb = w := by
  unfold headOf
  rw [View.read_writes_cons_put v v.junk inb' w L rfl]
  exact VecWindow.window_put_same _ _ _ _ _

/-- A store of another head leaves the head as it was. -/
theorem head_miss {κ : Kind} {sp : Space} (v : View sig κ sp S4x256x128 .f32) (L : List (View.Piece (Elt Ideal) S4x256x128 .f32)) (h a : ℕ) (inb : ∀ a, (![h, 0, 0] : Fin 3 → Nat) a + S1x256x128.size a ≤ S4x256x128.size a)
    (inb' : ∀ i, (![a, 0, 0] : Fin 3 → Nat) i + S1x256x128.size i ≤ S4x256x128.size i) (w : Vec Ideal S1x256x128 .f32) (hne : a ≠ h) :
    headOf v (⟨Rect.unit (s := S4x256x128) ![a, 0, 0] S1x256x128.size inb', w⟩ :: L) h inb = headOf v L h inb := by
  unfold headOf
  rw [View.read_writes_cons_put v v.junk inb' w L rfl]
  refine VecWindow.window_put_of_disjoint _ _ _ _ _ _ _ 0 ?_
  show h + 1 ≤ a ∨ a + 1 ≤ h
  omega

/-- After a store of all the heads, each reads its part of what was stored. -/
theorem head_all {κ : Kind} {sp : Space} (v : View sig κ sp S4x256x128 .f32) (L : List (View.Piece (Elt Ideal) S4x256x128 .f32)) (h : ℕ) (inb : ∀ a, (![h, 0, 0] : Fin 3 → Nat) a + S1x256x128.size a ≤ S4x256x128.size a)
    (inb' : ∀ a, (![0, 0, 0] : Fin 3 → Nat) a + S4x256x128.size a ≤ S4x256x128.size a) (w : Vec Ideal S4x256x128 .f32) :
    headOf v (⟨Rect.unit (s := S4x256x128) ![0, 0, 0] S4x256x128.size inb', w⟩ :: L) h inb = VecWindow.window (s := S4x256x128) w ![h, 0, 0] S1x256x128.size inb := by
  unfold headOf
  rw [View.read_writes_full]

/-- The carried sums start at zero. -/
theorem start_zero (h : ℕ) (inb : ∀ a, (![h, 0, 0] : Fin 3 → Nat) a + S1x256x128.size a ≤ S4x256x128.size a) (e : Fin 256) (d : Fin 128) :
    (VecWindow.window (s := S4x256x128) (k0_pay1 (F := Ideal)) ![h, 0, 0] S1x256x128.size inb (ix3 (n0 := 1) (n1 := 256) (n2 := 128) 0 e d) : EReal) = 0 := by
  unfold VecWindow.window k0_pay1
  exact Ideal.ofBits_zero_f32

/-- What a block writes: each head's output in each of its four chunks. -/
def tileOut (c : ℕ → ℕ → Chunk) (S : ℕ → Fin 128 → Fin 256 → EReal) : Vec Ideal S1x256x1024 .f32 := fun y =>
  ((c ((y 2).val / 256) ((y 1).val / 64)).out (runOf (c ((y 2).val / 256)) (S ((y 2).val / 256)) ((y 1).val / 64)) (Fin.ofNat 64 (y 1).val) (Fin.ofNat 256 (y 2).val) : EReal)

/-- A store of one head's output in one chunk agrees with the block's output. -/
theorem piece_of (c : ℕ → ℕ → Chunk) (S : ℕ → Fin 128 → Fin 256 → EReal) (h j o q : ℕ) (ho : o = 64 * j) (hq : q = 256 * h) (w : Vec Ideal S1x64x256 .f32)
    (hw : ∀ (t : Fin 64) (e : Fin 256), (w (ix3 0 t e) : EReal) = (c h j).out (runOf (c h) (S h) j) t e)
    (inb : ∀ a, (![0, o, q] : Fin 3 → Nat) a + S1x64x256.size a ≤ S1x256x1024.size a) (x : (Rect.unit (s := S1x256x1024) ![0, o, q] S1x64x256.size inb).shape.Idx) :
    w x = tileOut c S ((Rect.unit (s := S1x256x1024) ![0, o, q] S1x64x256.size inb).emb x) := by
  have e0 : x 0 = (0 : Fin 1) := Subsingleton.elim (α := Fin 1) _ _
  have ex : x = ix3 (n0 := 1) (n1 := 64) (n2 := 256) 0 (x 1) (x 2) := by
    funext a
    match a with
    | 0 => exact e0
    | 1 => rfl
    | 2 => rfl
  rw [ex]
  generalize x 1 = t
  generalize x 2 = e
  change Fin 64 at t
  change Fin 256 at e
  refine (hw t e).trans ?_
  unfold tileOut
  have h1 : (((Rect.unit (s := S1x256x1024) ![0, o, q] S1x64x256.size inb).emb (ix3 (n0 := 1) (n1 := 64) (n2 := 256) 0 t e)) 1).val = 64 * j + t.val := by
    show o + 1 * t.val = _; omega
  have h2 : (((Rect.unit (s := S1x256x1024) ![0, o, q] S1x64x256.size inb).emb (ix3 (n0 := 1) (n1 := 64) (n2 := 256) 0 t e)) 2).val = 256 * h + e.val := by
    show q + 1 * e.val = _; omega
  rw [h1, h2, show (256 * h + e.val) / 256 = h by omega, show (64 * j + t.val) / 64 = j by omega,
    show Fin.ofNat 64 (64 * j + t.val) = t from Fin.ext (by show (64 * j + t.val) % 64 = t.val; omega),
    show Fin.ofNat 256 (256 * h + e.val) = e from Fin.ext (by show (256 * h + e.val) % 256 = e.val; omega)]

end Cert.Layer.Scan

end
-- ==== Proof.ScanFirst.lean ====
/- A block of the scan, the first of a batch, which starts from zero: each load of a head's carried sum, each store of it and each store of an output. -/
module

public import proofs.«01_k».proof.Proof.ScanTile

@[expose] public section

noncomputable section

namespace Cert.Layer.Scan.First

open Idealize.ShloMosaic Idealize.SL.Sem Cert.Kernel7Ideal Cert.Kernel7Ideal.Gen Cert.Kernel7Ideal.Gen.kernelRun0_A Idealize.ShloMosaic.TcCoe

variable {c : Dev nD} {i : grid0.Coords} {arg2 : Memref sig .tc .vmem S1x256x512 .bf16} {harg2 : arg2.IsWhole} {arg3 : Memref sig .tc .vmem S1x256x512 .bf16} {harg3 : arg3.IsWhole} {arg4 : Memref sig .tc .vmem S1x256x1024 .bf16} {harg4 : arg4.IsWhole} {arg5 : Memref sig .tc .vmem S1x256x256 .bf16} {harg5 : arg5.IsWhole} {arg6 : Memref sig .tc .vmem S256x512 .bf16} {harg6 : arg6.IsWhole} {arg7 : Memref sig .tc .vmem S1x512 .f32} {harg7 : arg7.IsWhole} {arg8 : Memref sig .tc .vmem S1x256x1024 .f32} {harg8 : arg8.IsWhole} {arg9 : Memref sig .tc .vmem S4x256x128 .f32} {harg9 : arg9.IsWhole}
  {x0 : Vec Ideal S1x256x512 .bf16} {x1 : Vec Ideal S1x256x512 .bf16} {x2 : Vec Ideal S1x256x1024 .bf16} {x3 : Vec Ideal S1x256x256 .bf16} {x4 : Vec Ideal S256x512 .bf16} {x5 : Vec Ideal S1x512 .f32}

/-- The load of head 0's carried sum before chunk 0. -/
theorem ld_0_0 (e : Fin 256) (d : Fin 128) :
    ((sl.v82 (F := Ideal) c arg9) (ix3 (n0 := 1) (n1 := 256) (n2 := 128) 0 e d) : EReal) = runOf (tile x0 x1 x2 x3 x4 x5 0) (fun _ _ => 0) 0 d e := by
  unfold sl.v82 sl.HS0_1
  rw [readCov_head]
  rw [head_all]
  exact start_zero 0 _ e d

/-- The store of head 0's carried sum after chunk 0. -/
theorem sv_0_0 (e : Fin 256) (d : Fin 128) :
    (k0_pay24 (F := Ideal) (sl.r_5 (F := Ideal) c arg5 harg5 arg6 harg6 arg7 harg7 x3 x4 x5) (sl.r_7 (F := Ideal) c arg3 harg3 arg5 harg5 arg6 harg6 arg7 harg7 x1 x3 x4 x5) (sl.r_8 (F := Ideal) c arg4 harg4 x2) (sl.v82 (F := Ideal) c arg9) (ix3 (n0 := 1) (n1 := 256) (n2 := 128) 0 e d) : EReal) = runOf (tile x0 x1 x2 x3 x4 x5 0) (fun _ _ => 0) 1 d e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.st_0_0]
  exact next_of _ _ _ _ _ _ _ _ _ 0 0 0 (by omega) (by omega) (decay_eq _ _ _) (ld_vals x2 0 0 (by omega) (by omega) _) (fun e d => ld_0_0 e d) e d

/-- The store of head 0's output in chunk 0. -/
theorem ov_0_0 (t : Fin 64) (e : Fin 256) :
    (k0_pay25 (F := Ideal) (sl.r_6 (F := Ideal) c arg2 harg2 arg5 harg5 arg6 harg6 arg7 harg7 x0 x3 x4 x5) (sl.r_8 (F := Ideal) c arg4 harg4 x2) (sl.r_9 (F := Ideal) c arg2 harg2 arg3 harg3 arg5 harg5 arg6 harg6 arg7 harg7 x0 x1 x3 x4 x5) (sl.v82 (F := Ideal) c arg9) (ix3 (n0 := 1) (n1 := 64) (n2 := 256) 0 t e) : EReal) = (tile x0 x1 x2 x3 x4 x5 0 0).out (runOf (tile x0 x1 x2 x3 x4 x5 0) (fun _ _ => 0) 0) t e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.ot_0_0]
  exact out_of _ _ _ _ _ _ _ _ 0 0 0 (by omega) (by omega) (ld_vals x2 0 0 (by omega) (by omega) _) (fun e d => ld_0_0 e d) t e

/-- The load of head 1's carried sum before chunk 0. -/
theorem ld_0_1 (e : Fin 256) (d : Fin 128) :
    ((sl.v108 (F := Ideal) c arg3 harg3 arg4 harg4 arg5 harg5 arg6 harg6 arg7 harg7 arg9 x1 x2 x3 x4 x5) (ix3 (n0 := 1) (n1 := 256) (n2 := 128) 0 e d) : EReal) = runOf (tile x0 x1 x2 x3 x4 x5 1) (fun _ _ => 0) 0 d e := by
  unfold sl.v108 sl.HS0_2 sl.HS0_1
  rw [readCov_head]
  rw [head_miss _ _ 1 0 _ _ _ (by omega)]
  rw [head_all]
  exact start_zero 1 _ e d

/-- The store of head 1's carried sum after chunk 0. -/
theorem sv_0_1 (e : Fin 256) (d : Fin 128) :
    (k0_pay31 (F := Ideal) (sl.r_10 (F := Ideal) c arg3 harg3 arg5 harg5 arg6 harg6 arg7 harg7 x1 x3 x4 x5) (sl.r_11 (F := Ideal) c arg4 harg4 x2) (sl.r_13 (F := Ideal) c arg3 harg3 arg4 harg4 arg5 harg5 arg6 harg6 arg7 harg7 arg9 x1 x2 x3 x4 x5) (ix3 (n0 := 1) (n1 := 256) (n2 := 128) 0 e d) : EReal) = runOf (tile x0 x1 x2 x3 x4 x5 1) (fun _ _ => 0) 1 d e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.st_0_1]
  exact next_of _ _ _ _ _ _ _ _ _ 0 128 256 (by omega) (by omega) (decay_eq _ _ _) (ld_vals x2 0 256 (by omega) (by omega) _) (fun e d => ld_0_1 e d) e d

/-- The store of head 1's output in chunk 0. -/
theorem ov_0_1 (t : Fin 64) (e : Fin 256) :
    (k0_pay32 (F := Ideal) (sl.r_12 (F := Ideal) c arg2 harg2 arg3 harg3 arg4 harg4 arg5 harg5 arg6 harg6 arg7 harg7 arg9 x0 x1 x2 x3 x4 x5) (ix3 (n0 := 1) (n1 := 64) (n2 := 256) 0 t e) : EReal) = (tile x0 x1 x2 x3 x4 x5 1 0).out (runOf (tile x0 x1 x2 x3 x4 x5 1) (fun _ _ => 0) 0) t e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.ot_0_1]
  exact out_of _ _ _ _ _ _ _ _ 0 128 256 (by omega) (by omega) (ld_vals x2 0 256 (by omega) (by omega) _) (fun e d => ld_0_1 e d) t e

/-- The load of head 2's carried sum before chunk 0. -/
theorem ld_0_2 (e : Fin 256) (d : Fin 128) :
    ((sl.v134 (F := Ideal) c arg3 harg3 arg4 harg4 arg5 harg5 arg6 harg6 arg7 harg7 arg9 x1 x2 x3 x4 x5) (ix3 (n0 := 1) (n1 := 256) (n2 := 128) 0 e d) : EReal) = runOf (tile x0 x1 x2 x3 x4 x5 2) (fun _ _ => 0) 0 d e := by
  unfold sl.v134 sl.HS0_3 sl.HS0_2 sl.HS0_1
  rw [readCov_head]
  rw [head_miss _ _ 2 1 _ _ _ (by omega)]
  rw [head_miss _ _ 2 0 _ _ _ (by omega)]
  rw [head_all]
  exact start_zero 2 _ e d

/-- The store of head 2's carried sum after chunk 0. -/
theorem sv_0_2 (e : Fin 256) (d : Fin 128) :
    (k0_pay36 (F := Ideal) (sl.r_4 (F := Ideal) c arg3 harg3 arg5 harg5 arg6 harg6 arg7 harg7 x1 x3 x4 x5) (sl.r_5 (F := Ideal) c arg5 harg5 arg6 harg6 arg7 harg7 x3 x4 x5) (View.readAt (Elt Ideal) arg4.view (Rect.unit (s := S1x256x1024) ![0, 0, 512] S1x64x256.size inb_S1x256x1024_S1x64x256_0_0_512).toLoadRect (harg4.unread x2)) (sl.v134 (F := Ideal) c arg3 harg3 arg4 harg4 arg5 harg5 arg6 harg6 arg7 harg7 arg9 x1 x2 x3 x4 x5) (ix3 (n0 := 1) (n1 := 256) (n2 := 128) 0 e d) : EReal) = runOf (tile x0 x1 x2 x3 x4 x5 2) (fun _ _ => 0) 1 d e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.st_0_2]
  exact next_of _ _ _ _ _ _ _ _ _ 0 256 512 (by omega) (by omega) (decay_eq _ _ _) (ld_vals x2 0 512 (by omega) (by omega) _) (fun e d => ld_0_2 e d) e d

/-- The store of head 2's output in chunk 0. -/
theorem ov_0_2 (t : Fin 64) (e : Fin 256) :
    (k0_pay37 (F := Ideal) (sl.r_14 (F := Ideal) c arg2 harg2 arg3 harg3 arg4 harg4 arg5 harg5 arg6 harg6 arg7 harg7 arg9 x0 x1 x2 x3 x4 x5) (ix3 (n0 := 1) (n1 := 64) (n2 := 256) 0 t e) : EReal) = (tile x0 x1 x2 x3 x4 x5 2 0).out (runOf (tile x0 x1 x2 x3 x4 x5 2) (fun _ _ => 0) 0) t e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.ot_0_2]
  exact out_of _ _ _ _ _ _ _ _ 0 256 512 (by omega) (by omega) (ld_vals x2 0 512 (by omega) (by omega) _) (fun e d => ld_0_2 e d) t e

/-- The load of head 3's carried sum before chunk 0. -/
theorem ld_0_3 (e : Fin 256) (d : Fin 128) :
    ((sl.v160 (F := Ideal) c arg3 harg3 arg4 harg4 arg5 harg5 arg6 harg6 arg7 harg7 arg9 x1 x2 x3 x4 x5) (ix3 (n0 := 1) (n1 := 256) (n2 := 128) 0 e d) : EReal) = runOf (tile x0 x1 x2 x3 x4 x5 3) (fun _ _ => 0) 0 d e := by
  unfold sl.v160 sl.HS0_4 sl.HS0_3 sl.HS0_2 sl.HS0_1
  rw [readCov_head]
  rw [head_miss _ _ 3 2 _ _ _ (by omega)]
  rw [head_miss _ _ 3 1 _ _ _ (by omega)]
  rw [head_miss _ _ 3 0 _ _ _ (by omega)]
  rw [head_all]
  exact start_zero 3 _ e d

/-- The store of head 3's carried sum after chunk 0. -/
theorem sv_0_3 (e : Fin 256) (d : Fin 128) :
    (k0_pay40 (F := Ideal) (sl.r_4 (F := Ideal) c arg3 harg3 arg5 harg5 arg6 harg6 arg7 harg7 x1 x3 x4 x5) (sl.r_5 (F := Ideal) c arg5 harg5 arg6 harg6 arg7 harg7 x3 x4 x5) (View.readAt (Elt Ideal) arg4.view (Rect.unit (s := S1x256x1024) ![0, 0, 768] S1x64x256.size inb_S1x256x1024_S1x64x256_0_0_768).toLoadRect (harg4.unread x2)) (sl.v160 (F := Ideal) c arg3 harg3 arg4 harg4 arg5 harg5 arg6 harg6 arg7 harg7 arg9 x1 x2 x3 x4 x5) (ix3 (n0 := 1) (n1 := 256) (n2 := 128) 0 e d) : EReal) = runOf (tile x0 x1 x2 x3 x4 x5 3) (fun _ _ => 0) 1 d e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.st_0_3]
  exact next_of _ _ _ _ _ _ _ _ _ 0 384 768 (by omega) (by omega) (decay_eq _ _ _) (ld_vals x2 0 768 (by omega) (by omega) _) (fun e d => ld_0_3 e d) e d

/-- The store of head 3's output in chunk 0. -/
theorem ov_0_3 (t : Fin 64) (e : Fin 256) :
    (k0_pay41 (F := Ideal) k0_pay5 (sl.r_2 (F := Ideal) c arg2 harg2 arg5 harg5 arg6 harg6 arg7 harg7 x0 x3 x4 x5) (sl.r_3 (F := Ideal) c arg3 harg3 arg5 harg5 arg6 harg6 arg7 harg7 x1 x3 x4 x5) (View.readAt (Elt Ideal) arg4.view (Rect.unit (s := S1x256x1024) ![0, 0, 768] S1x64x256.size inb_S1x256x1024_S1x64x256_0_0_768).toLoadRect (harg4.unread x2)) (sl.v160 (F := Ideal) c arg3 harg3 arg4 harg4 arg5 harg5 arg6 harg6 arg7 harg7 arg9 x1 x2 x3 x4 x5) (ix3 (n0 := 1) (n1 := 64) (n2 := 256) 0 t e) : EReal) = (tile x0 x1 x2 x3 x4 x5 3 0).out (runOf (tile x0 x1 x2 x3 x4 x5 3) (fun _ _ => 0) 0) t e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.ot_0_3]
  exact out_of _ _ _ _ _ _ _ _ 0 384 768 (by omega) (by omega) (ld_vals x2 0 768 (by omega) (by omega) _) (fun e d => ld_0_3 e d) t e

/-- The load of head 0's carried sum before chunk 1. -/
theorem ld_1_0 (e : Fin 256) (d : Fin 128) :
    ((sl.v186 (F := Ideal) c arg3 harg3 arg4 harg4 arg5 harg5 arg6 harg6 arg7 harg7 arg9 x1 x2 x3 x4 x5) (ix3 (n0 := 1) (n1 := 256) (n2 := 128) 0 e d) : EReal) = runOf (tile x0 x1 x2 x3 x4 x5 0) (fun _ _ => 0) 1 d e := by
  unfold sl.v186 sl.HS0_5 sl.HS0_4 sl.HS0_3 sl.HS0_2
  rw [readCov_head]
  rw [head_miss _ _ 0 3 _ _ _ (by omega)]
  rw [head_miss _ _ 0 2 _ _ _ (by omega)]
  rw [head_miss _ _ 0 1 _ _ _ (by omega)]
  rw [head_hit]
  exact sv_0_0 e d

/-- The store of head 0's carried sum after chunk 1. -/
theorem sv_1_0 (e : Fin 256) (d : Fin 128) :
    (k0_pay47 (F := Ideal) (sl.r_5 (F := Ideal) c arg5 harg5 arg6 harg6 arg7 harg7 x3 x4 x5) (sl.r_16 (F := Ideal) c arg3 harg3 arg5 harg5 arg6 harg6 arg7 harg7 x1 x3 x4 x5) (sl.r_17 (F := Ideal) c arg4 harg4 x2) (sl.v186 (F := Ideal) c arg3 harg3 arg4 harg4 arg5 harg5 arg6 harg6 arg7 harg7 arg9 x1 x2 x3 x4 x5) (ix3 (n0 := 1) (n1 := 256) (n2 := 128) 0 e d) : EReal) = runOf (tile x0 x1 x2 x3 x4 x5 0) (fun _ _ => 0) 2 d e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.st_1_0]
  exact next_of _ _ _ _ _ _ _ _ _ 64 0 0 (by omega) (by omega) (decay_eq _ _ _) (ld_vals x2 64 0 (by omega) (by omega) _) (fun e d => ld_1_0 e d) e d

/-- The store of head 0's output in chunk 1. -/
theorem ov_1_0 (t : Fin 64) (e : Fin 256) :
    (k0_pay48 (F := Ideal) (sl.r_15 (F := Ideal) c arg2 harg2 arg5 harg5 arg6 harg6 arg7 harg7 x0 x3 x4 x5) (sl.r_17 (F := Ideal) c arg4 harg4 x2) (sl.r_18 (F := Ideal) c arg2 harg2 arg3 harg3 arg5 harg5 arg6 harg6 arg7 harg7 x0 x1 x3 x4 x5) (sl.v186 (F := Ideal) c arg3 harg3 arg4 harg4 arg5 harg5 arg6 harg6 arg7 harg7 arg9 x1 x2 x3 x4 x5) (ix3 (n0 := 1) (n1 := 64) (n2 := 256) 0 t e) : EReal) = (tile x0 x1 x2 x3 x4 x5 0 1).out (runOf (tile x0 x1 x2 x3 x4 x5 0) (fun _ _ => 0) 1) t e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.ot_1_0]
  exact out_of _ _ _ _ _ _ _ _ 64 0 0 (by omega) (by omega) (ld_vals x2 64 0 (by omega) (by omega) _) (fun e d => ld_1_0 e d) t e

/-- The load of head 1's carried sum before chunk 1. -/
theorem ld_1_1 (e : Fin 256) (d : Fin 128) :
    ((sl.v212 (F := Ideal) c arg3 harg3 arg4 harg4 arg5 harg5 arg6 harg6 arg7 harg7 arg9 x1 x2 x3 x4 x5) (ix3 (n0 := 1) (n1 := 256) (n2 := 128) 0 e d) : EReal) = runOf (tile x0 x1 x2 x3 x4 x5 1) (fun _ _ => 0) 1 d e := by
  unfold sl.v212 sl.HS0_6 sl.HS0_5 sl.HS0_4 sl.HS0_3
  rw [readCov_head]
  rw [head_miss _ _ 1 0 _ _ _ (by omega)]
  rw [head_miss _ _ 1 3 _ _ _ (by omega)]
  rw [head_miss _ _ 1 2 _ _ _ (by omega)]
  rw [head_hit]
  exact sv_0_1 e d

/-- The store of head 1's carried sum after chunk 1. -/
theorem sv_1_1 (e : Fin 256) (d : Fin 128) :
    (k0_pay54 (F := Ideal) (sl.r_19 (F := Ideal) c arg3 harg3 arg5 harg5 arg6 harg6 arg7 harg7 x1 x3 x4 x5) (sl.r_20 (F := Ideal) c arg4 harg4 x2) (sl.r_22 (F := Ideal) c arg3 harg3 arg4 harg4 arg5 harg5 arg6 harg6 arg7 harg7 arg9 x1 x2 x3 x4 x5) (ix3 (n0 := 1) (n1 := 256) (n2 := 128) 0 e d) : EReal) = runOf (tile x0 x1 x2 x3 x4 x5 1) (fun _ _ => 0) 2 d e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.st_1_1]
  exact next_of _ _ _ _ _ _ _ _ _ 64 128 256 (by omega) (by omega) (decay_eq _ _ _) (ld_vals x2 64 256 (by omega) (by omega) _) (fun e d => ld_1_1 e d) e d

/-- The store of head 1's output in chunk 1. -/
theorem ov_1_1 (t : Fin 64) (e : Fin 256) :
    (k0_pay55 (F := Ideal) (sl.r_21 (F := Ideal) c arg2 harg2 arg3 harg3 arg4 harg4 arg5 harg5 arg6 harg6 arg7 harg7 arg9 x0 x1 x2 x3 x4 x5) (ix3 (n0 := 1) (n1 := 64) (n2 := 256) 0 t e) : EReal) = (tile x0 x1 x2 x3 x4 x5 1 1).out (runOf (tile x0 x1 x2 x3 x4 x5 1) (fun _ _ => 0) 1) t e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.ot_1_1]
  exact out_of _ _ _ _ _ _ _ _ 64 128 256 (by omega) (by omega) (ld_vals x2 64 256 (by omega) (by omega) _) (fun e d => ld_1_1 e d) t e

/-- The load of head 2's carried sum before chunk 1. -/
theorem ld_1_2 (e : Fin 256) (d : Fin 128) :
    ((sl.v238 (F := Ideal) c arg3 harg3 arg4 harg4 arg5 harg5 arg6 harg6 arg7 harg7 arg9 x1 x2 x3 x4 x5) (ix3 (n0 := 1) (n1 := 256) (n2 := 128) 0 e d) : EReal) = runOf (tile x0 x1 x2 x3 x4 x5 2) (fun _ _ => 0) 1 d e := by
  unfold sl.v238 sl.HS0_7 sl.HS0_6 sl.HS0_5 sl.HS0_4
  rw [readCov_head]
  rw [head_miss _ _ 2 1 _ _ _ (by omega)]
  rw [head_miss _ _ 2 0 _ _ _ (by omega)]
  rw [head_miss _ _ 2 3 _ _ _ (by omega)]
  rw [head_hit]
  exact sv_0_2 e d

/-- The store of head 2's carried sum after chunk 1. -/
theorem sv_1_2 (e : Fin 256) (d : Fin 128) :
    (k0_pay59 (F := Ideal) (sl.r_4 (F := Ideal) c arg3 harg3 arg5 harg5 arg6 harg6 arg7 harg7 x1 x3 x4 x5) (sl.r_5 (F := Ideal) c arg5 harg5 arg6 harg6 arg7 harg7 x3 x4 x5) (View.readAt (Elt Ideal) arg4.view (Rect.unit (s := S1x256x1024) ![0, 64, 512] S1x64x256.size inb_S1x256x1024_S1x64x256_0_64_512).toLoadRect (harg4.unread x2)) (sl.v238 (F := Ideal) c arg3 harg3 arg4 harg4 arg5 harg5 arg6 harg6 arg7 harg7 arg9 x1 x2 x3 x4 x5) (ix3 (n0 := 1) (n1 := 256) (n2 := 128) 0 e d) : EReal) = runOf (tile x0 x1 x2 x3 x4 x5 2) (fun _ _ => 0) 2 d e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.st_1_2]
  exact next_of _ _ _ _ _ _ _ _ _ 64 256 512 (by omega) (by omega) (decay_eq _ _ _) (ld_vals x2 64 512 (by omega) (by omega) _) (fun e d => ld_1_2 e d) e d

/-- The store of head 2's output in chunk 1. -/
theorem ov_1_2 (t : Fin 64) (e : Fin 256) :
    (k0_pay60 (F := Ideal) (sl.r_23 (F := Ideal) c arg2 harg2 arg3 harg3 arg4 harg4 arg5 harg5 arg6 harg6 arg7 harg7 arg9 x0 x1 x2 x3 x4 x5) (ix3 (n0 := 1) (n1 := 64) (n2 := 256) 0 t e) : EReal) = (tile x0 x1 x2 x3 x4 x5 2 1).out (runOf (tile x0 x1 x2 x3 x4 x5 2) (fun _ _ => 0) 1) t e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.ot_1_2]
  exact out_of _ _ _ _ _ _ _ _ 64 256 512 (by omega) (by omega) (ld_vals x2 64 512 (by omega) (by omega) _) (fun e d => ld_1_2 e d) t e

/-- The load of head 3's carried sum before chunk 1. -/
theorem ld_1_3 (e : Fin 256) (d : Fin 128) :
    ((sl.v264 (F := Ideal) c arg3 harg3 arg4 harg4 arg5 harg5 arg6 harg6 arg7 harg7 arg9 x1 x2 x3 x4 x5) (ix3 (n0 := 1) (n1 := 256) (n2 := 128) 0 e d) : EReal) = runOf (tile x0 x1 x2 x3 x4 x5 3) (fun _ _ => 0) 1 d e := by
  unfold sl.v264 sl.HS0_8 sl.HS0_7 sl.HS0_6 sl.HS0_5
  rw [readCov_head]
  rw [head_miss _ _ 3 2 _ _ _ (by omega)]
  rw [head_miss _ _ 3 1 _ _ _ (by omega)]
  rw [head_miss _ _ 3 0 _ _ _ (by omega)]
  rw [head_hit]
  exact sv_0_3 e d

/-- The store of head 3's carried sum after chunk 1. -/
theorem sv_1_3 (e : Fin 256) (d : Fin 128) :
    (k0_pay63 (F := Ideal) (sl.r_4 (F := Ideal) c arg3 harg3 arg5 harg5 arg6 harg6 arg7 harg7 x1 x3 x4 x5) (sl.r_5 (F := Ideal) c arg5 harg5 arg6 harg6 arg7 harg7 x3 x4 x5) (View.readAt (Elt Ideal) arg4.view (Rect.unit (s := S1x256x1024) ![0, 64, 768] S1x64x256.size inb_S1x256x1024_S1x64x256_0_64_768).toLoadRect (harg4.unread x2)) (sl.v264 (F := Ideal) c arg3 harg3 arg4 harg4 arg5 harg5 arg6 harg6 arg7 harg7 arg9 x1 x2 x3 x4 x5) (ix3 (n0 := 1) (n1 := 256) (n2 := 128) 0 e d) : EReal) = runOf (tile x0 x1 x2 x3 x4 x5 3) (fun _ _ => 0) 2 d e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.st_1_3]
  exact next_of _ _ _ _ _ _ _ _ _ 64 384 768 (by omega) (by omega) (decay_eq _ _ _) (ld_vals x2 64 768 (by omega) (by omega) _) (fun e d => ld_1_3 e d) e d

/-- The store of head 3's output in chunk 1. -/
theorem ov_1_3 (t : Fin 64) (e : Fin 256) :
    (k0_pay64 (F := Ideal) k0_pay5 (sl.r_2 (F := Ideal) c arg2 harg2 arg5 harg5 arg6 harg6 arg7 harg7 x0 x3 x4 x5) (sl.r_3 (F := Ideal) c arg3 harg3 arg5 harg5 arg6 harg6 arg7 harg7 x1 x3 x4 x5) (View.readAt (Elt Ideal) arg4.view (Rect.unit (s := S1x256x1024) ![0, 64, 768] S1x64x256.size inb_S1x256x1024_S1x64x256_0_64_768).toLoadRect (harg4.unread x2)) (sl.v264 (F := Ideal) c arg3 harg3 arg4 harg4 arg5 harg5 arg6 harg6 arg7 harg7 arg9 x1 x2 x3 x4 x5) (ix3 (n0 := 1) (n1 := 64) (n2 := 256) 0 t e) : EReal) = (tile x0 x1 x2 x3 x4 x5 3 1).out (runOf (tile x0 x1 x2 x3 x4 x5 3) (fun _ _ => 0) 1) t e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.ot_1_3]
  exact out_of _ _ _ _ _ _ _ _ 64 384 768 (by omega) (by omega) (ld_vals x2 64 768 (by omega) (by omega) _) (fun e d => ld_1_3 e d) t e

/-- The load of head 0's carried sum before chunk 2. -/
theorem ld_2_0 (e : Fin 256) (d : Fin 128) :
    ((sl.v290 (F := Ideal) c arg3 harg3 arg4 harg4 arg5 harg5 arg6 harg6 arg7 harg7 arg9 x1 x2 x3 x4 x5) (ix3 (n0 := 1) (n1 := 256) (n2 := 128) 0 e d) : EReal) = runOf (tile x0 x1 x2 x3 x4 x5 0) (fun _ _ => 0) 2 d e := by
  unfold sl.v290 sl.HS0_9 sl.HS0_8 sl.HS0_7 sl.HS0_6
  rw [readCov_head]
  rw [head_miss _ _ 0 3 _ _ _ (by omega)]
  rw [head_miss _ _ 0 2 _ _ _ (by omega)]
  rw [head_miss _ _ 0 1 _ _ _ (by omega)]
  rw [head_hit]
  exact sv_1_0 e d

/-- The store of head 0's carried sum after chunk 2. -/
theorem sv_2_0 (e : Fin 256) (d : Fin 128) :
    (k0_pay70 (F := Ideal) (sl.r_5 (F := Ideal) c arg5 harg5 arg6 harg6 arg7 harg7 x3 x4 x5) (sl.r_25 (F := Ideal) c arg3 harg3 arg5 harg5 arg6 harg6 arg7 harg7 x1 x3 x4 x5) (sl.r_26 (F := Ideal) c arg4 harg4 x2) (sl.v290 (F := Ideal) c arg3 harg3 arg4 harg4 arg5 harg5 arg6 harg6 arg7 harg7 arg9 x1 x2 x3 x4 x5) (ix3 (n0 := 1) (n1 := 256) (n2 := 128) 0 e d) : EReal) = runOf (tile x0 x1 x2 x3 x4 x5 0) (fun _ _ => 0) 3 d e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.st_2_0]
  exact next_of _ _ _ _ _ _ _ _ _ 128 0 0 (by omega) (by omega) (decay_eq _ _ _) (ld_vals x2 128 0 (by omega) (by omega) _) (fun e d => ld_2_0 e d) e d

/-- The store of head 0's output in chunk 2. -/
theorem ov_2_0 (t : Fin 64) (e : Fin 256) :
    (k0_pay71 (F := Ideal) (sl.r_24 (F := Ideal) c arg2 harg2 arg5 harg5 arg6 harg6 arg7 harg7 x0 x3 x4 x5) (sl.r_26 (F := Ideal) c arg4 harg4 x2) (sl.r_27 (F := Ideal) c arg2 harg2 arg3 harg3 arg5 harg5 arg6 harg6 arg7 harg7 x0 x1 x3 x4 x5) (sl.v290 (F := Ideal) c arg3 harg3 arg4 harg4 arg5 harg5 arg6 harg6 arg7 harg7 arg9 x1 x2 x3 x4 x5) (ix3 (n0 := 1) (n1 := 64) (n2 := 256) 0 t e) : EReal) = (tile x0 x1 x2 x3 x4 x5 0 2).out (runOf (tile x0 x1 x2 x3 x4 x5 0) (fun _ _ => 0) 2) t e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.ot_2_0]
  exact out_of _ _ _ _ _ _ _ _ 128 0 0 (by omega) (by omega) (ld_vals x2 128 0 (by omega) (by omega) _) (fun e d => ld_2_0 e d) t e

/-- The load of head 1's carried sum before chunk 2. -/
theorem ld_2_1 (e : Fin 256) (d : Fin 128) :
    ((sl.v316 (F := Ideal) c arg3 harg3 arg4 harg4 arg5 harg5 arg6 harg6 arg7 harg7 arg9 x1 x2 x3 x4 x5) (ix3 (n0 := 1) (n1 := 256) (n2 := 128) 0 e d) : EReal) = runOf (tile x0 x1 x2 x3 x4 x5 1) (fun _ _ => 0) 2 d e := by
  unfold sl.v316 sl.HS0_10 sl.HS0_9 sl.HS0_8 sl.HS0_7
  rw [readCov_head]
  rw [head_miss _ _ 1 0 _ _ _ (by omega)]
  rw [head_miss _ _ 1 3 _ _ _ (by omega)]
  rw [head_miss _ _ 1 2 _ _ _ (by omega)]
  rw [head_hit]
  exact sv_1_1 e d

/-- The store of head 1's carried sum after chunk 2. -/
theorem sv_2_1 (e : Fin 256) (d : Fin 128) :
    (k0_pay77 (F := Ideal) (sl.r_28 (F := Ideal) c arg3 harg3 arg5 harg5 arg6 harg6 arg7 harg7 x1 x3 x4 x5) (sl.r_29 (F := Ideal) c arg4 harg4 x2) (sl.r_31 (F := Ideal) c arg3 harg3 arg4 harg4 arg5 harg5 arg6 harg6 arg7 harg7 arg9 x1 x2 x3 x4 x5) (ix3 (n0 := 1) (n1 := 256) (n2 := 128) 0 e d) : EReal) = runOf (tile x0 x1 x2 x3 x4 x5 1) (fun _ _ => 0) 3 d e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.st_2_1]
  exact next_of _ _ _ _ _ _ _ _ _ 128 128 256 (by omega) (by omega) (decay_eq _ _ _) (ld_vals x2 128 256 (by omega) (by omega) _) (fun e d => ld_2_1 e d) e d

/-- The store of head 1's output in chunk 2. -/
theorem ov_2_1 (t : Fin 64) (e : Fin 256) :
    (k0_pay78 (F := Ideal) (sl.r_30 (F := Ideal) c arg2 harg2 arg3 harg3 arg4 harg4 arg5 harg5 arg6 harg6 arg7 harg7 arg9 x0 x1 x2 x3 x4 x5) (ix3 (n0 := 1) (n1 := 64) (n2 := 256) 0 t e) : EReal) = (tile x0 x1 x2 x3 x4 x5 1 2).out (runOf (tile x0 x1 x2 x3 x4 x5 1) (fun _ _ => 0) 2) t e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.ot_2_1]
  exact out_of _ _ _ _ _ _ _ _ 128 128 256 (by omega) (by omega) (ld_vals x2 128 256 (by omega) (by omega) _) (fun e d => ld_2_1 e d) t e

/-- The load of head 2's carried sum before chunk 2. -/
theorem ld_2_2 (e : Fin 256) (d : Fin 128) :
    ((sl.v342 (F := Ideal) c arg3 harg3 arg4 harg4 arg5 harg5 arg6 harg6 arg7 harg7 arg9 x1 x2 x3 x4 x5) (ix3 (n0 := 1) (n1 := 256) (n2 := 128) 0 e d) : EReal) = runOf (tile x0 x1 x2 x3 x4 x5 2) (fun _ _ => 0) 2 d e := by
  unfold sl.v342 sl.HS0_11 sl.HS0_10 sl.HS0_9 sl.HS0_8
  rw [readCov_head]
  rw [head_miss _ _ 2 1 _ _ _ (by omega)]
  rw [head_miss _ _ 2 0 _ _ _ (by omega)]
  rw [head_miss _ _ 2 3 _ _ _ (by omega)]
  rw [head_hit]
  exact sv_1_2 e d

/-- The store of head 2's carried sum after chunk 2. -/
theorem sv_2_2 (e : Fin 256) (d : Fin 128) :
    (k0_pay82 (F := Ideal) (sl.r_4 (F := Ideal) c arg3 harg3 arg5 harg5 arg6 harg6 arg7 harg7 x1 x3 x4 x5) (sl.r_5 (F := Ideal) c arg5 harg5 arg6 harg6 arg7 harg7 x3 x4 x5) (View.readAt (Elt Ideal) arg4.view (Rect.unit (s := S1x256x1024) ![0, 128, 512] S1x64x256.size inb_S1x256x1024_S1x64x256_0_128_512).toLoadRect (harg4.unread x2)) (sl.v342 (F := Ideal) c arg3 harg3 arg4 harg4 arg5 harg5 arg6 harg6 arg7 harg7 arg9 x1 x2 x3 x4 x5) (ix3 (n0 := 1) (n1 := 256) (n2 := 128) 0 e d) : EReal) = runOf (tile x0 x1 x2 x3 x4 x5 2) (fun _ _ => 0) 3 d e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.st_2_2]
  exact next_of _ _ _ _ _ _ _ _ _ 128 256 512 (by omega) (by omega) (decay_eq _ _ _) (ld_vals x2 128 512 (by omega) (by omega) _) (fun e d => ld_2_2 e d) e d

/-- The store of head 2's output in chunk 2. -/
theorem ov_2_2 (t : Fin 64) (e : Fin 256) :
    (k0_pay83 (F := Ideal) (sl.r_32 (F := Ideal) c arg2 harg2 arg3 harg3 arg4 harg4 arg5 harg5 arg6 harg6 arg7 harg7 arg9 x0 x1 x2 x3 x4 x5) (ix3 (n0 := 1) (n1 := 64) (n2 := 256) 0 t e) : EReal) = (tile x0 x1 x2 x3 x4 x5 2 2).out (runOf (tile x0 x1 x2 x3 x4 x5 2) (fun _ _ => 0) 2) t e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.ot_2_2]
  exact out_of _ _ _ _ _ _ _ _ 128 256 512 (by omega) (by omega) (ld_vals x2 128 512 (by omega) (by omega) _) (fun e d => ld_2_2 e d) t e

/-- The load of head 3's carried sum before chunk 2. -/
theorem ld_2_3 (e : Fin 256) (d : Fin 128) :
    ((sl.v368 (F := Ideal) c arg3 harg3 arg4 harg4 arg5 harg5 arg6 harg6 arg7 harg7 arg9 x1 x2 x3 x4 x5) (ix3 (n0 := 1) (n1 := 256) (n2 := 128) 0 e d) : EReal) = runOf (tile x0 x1 x2 x3 x4 x5 3) (fun _ _ => 0) 2 d e := by
  unfold sl.v368 sl.HS0_12 sl.HS0_11 sl.HS0_10 sl.HS0_9
  rw [readCov_head]
  rw [head_miss _ _ 3 2 _ _ _ (by omega)]
  rw [head_miss _ _ 3 1 _ _ _ (by omega)]
  rw [head_miss _ _ 3 0 _ _ _ (by omega)]
  rw [head_hit]
  exact sv_1_3 e d

/-- The store of head 3's carried sum after chunk 2. -/
theorem sv_2_3 (e : Fin 256) (d : Fin 128) :
    (k0_pay86 (F := Ideal) (sl.r_4 (F := Ideal) c arg3 harg3 arg5 harg5 arg6 harg6 arg7 harg7 x1 x3 x4 x5) (sl.r_5 (F := Ideal) c arg5 harg5 arg6 harg6 arg7 harg7 x3 x4 x5) (View.readAt (Elt Ideal) arg4.view (Rect.unit (s := S1x256x1024) ![0, 128, 768] S1x64x256.size inb_S1x256x1024_S1x64x256_0_128_768).toLoadRect (harg4.unread x2)) (sl.v368 (F := Ideal) c arg3 harg3 arg4 harg4 arg5 harg5 arg6 harg6 arg7 harg7 arg9 x1 x2 x3 x4 x5) (ix3 (n0 := 1) (n1 := 256) (n2 := 128) 0 e d) : EReal) = runOf (tile x0 x1 x2 x3 x4 x5 3) (fun _ _ => 0) 3 d e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.st_2_3]
  exact next_of _ _ _ _ _ _ _ _ _ 128 384 768 (by omega) (by omega) (decay_eq _ _ _) (ld_vals x2 128 768 (by omega) (by omega) _) (fun e d => ld_2_3 e d) e d

/-- The store of head 3's output in chunk 2. -/
theorem ov_2_3 (t : Fin 64) (e : Fin 256) :
    (k0_pay87 (F := Ideal) k0_pay5 (sl.r_2 (F := Ideal) c arg2 harg2 arg5 harg5 arg6 harg6 arg7 harg7 x0 x3 x4 x5) (sl.r_3 (F := Ideal) c arg3 harg3 arg5 harg5 arg6 harg6 arg7 harg7 x1 x3 x4 x5) (View.readAt (Elt Ideal) arg4.view (Rect.unit (s := S1x256x1024) ![0, 128, 768] S1x64x256.size inb_S1x256x1024_S1x64x256_0_128_768).toLoadRect (harg4.unread x2)) (sl.v368 (F := Ideal) c arg3 harg3 arg4 harg4 arg5 harg5 arg6 harg6 arg7 harg7 arg9 x1 x2 x3 x4 x5) (ix3 (n0 := 1) (n1 := 64) (n2 := 256) 0 t e) : EReal) = (tile x0 x1 x2 x3 x4 x5 3 2).out (runOf (tile x0 x1 x2 x3 x4 x5 3) (fun _ _ => 0) 2) t e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.ot_2_3]
  exact out_of _ _ _ _ _ _ _ _ 128 384 768 (by omega) (by omega) (ld_vals x2 128 768 (by omega) (by omega) _) (fun e d => ld_2_3 e d) t e

/-- The load of head 0's carried sum before chunk 3. -/
theorem ld_3_0 (e : Fin 256) (d : Fin 128) :
    ((sl.v394 (F := Ideal) c arg3 harg3 arg4 harg4 arg5 harg5 arg6 harg6 arg7 harg7 arg9 x1 x2 x3 x4 x5) (ix3 (n0 := 1) (n1 := 256) (n2 := 128) 0 e d) : EReal) = runOf (tile x0 x1 x2 x3 x4 x5 0) (fun _ _ => 0) 3 d e := by
  unfold sl.v394 sl.HS0_13 sl.HS0_12 sl.HS0_11 sl.HS0_10
  rw [readCov_head]
  rw [head_miss _ _ 0 3 _ _ _ (by omega)]
  rw [head_miss _ _ 0 2 _ _ _ (by omega)]
  rw [head_miss _ _ 0 1 _ _ _ (by omega)]
  rw [head_hit]
  exact sv_2_0 e d

/-- The store of head 0's carried sum after chunk 3. -/
theorem sv_3_0 (e : Fin 256) (d : Fin 128) :
    (k0_pay93 (F := Ideal) (sl.r_5 (F := Ideal) c arg5 harg5 arg6 harg6 arg7 harg7 x3 x4 x5) (sl.r_34 (F := Ideal) c arg3 harg3 arg5 harg5 arg6 harg6 arg7 harg7 x1 x3 x4 x5) (sl.r_35 (F := Ideal) c arg4 harg4 x2) (sl.v394 (F := Ideal) c arg3 harg3 arg4 harg4 arg5 harg5 arg6 harg6 arg7 harg7 arg9 x1 x2 x3 x4 x5) (ix3 (n0 := 1) (n1 := 256) (n2 := 128) 0 e d) : EReal) = runOf (tile x0 x1 x2 x3 x4 x5 0) (fun _ _ => 0) 4 d e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.st_3_0]
  exact next_of _ _ _ _ _ _ _ _ _ 192 0 0 (by omega) (by omega) (decay_eq _ _ _) (ld_vals x2 192 0 (by omega) (by omega) _) (fun e d => ld_3_0 e d) e d

/-- The store of head 0's output in chunk 3. -/
theorem ov_3_0 (t : Fin 64) (e : Fin 256) :
    (k0_pay94 (F := Ideal) (sl.r_33 (F := Ideal) c arg2 harg2 arg5 harg5 arg6 harg6 arg7 harg7 x0 x3 x4 x5) (sl.r_35 (F := Ideal) c arg4 harg4 x2) (sl.r_36 (F := Ideal) c arg2 harg2 arg3 harg3 arg5 harg5 arg6 harg6 arg7 harg7 x0 x1 x3 x4 x5) (sl.v394 (F := Ideal) c arg3 harg3 arg4 harg4 arg5 harg5 arg6 harg6 arg7 harg7 arg9 x1 x2 x3 x4 x5) (ix3 (n0 := 1) (n1 := 64) (n2 := 256) 0 t e) : EReal) = (tile x0 x1 x2 x3 x4 x5 0 3).out (runOf (tile x0 x1 x2 x3 x4 x5 0) (fun _ _ => 0) 3) t e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.ot_3_0]
  exact out_of _ _ _ _ _ _ _ _ 192 0 0 (by omega) (by omega) (ld_vals x2 192 0 (by omega) (by omega) _) (fun e d => ld_3_0 e d) t e

/-- The load of head 1's carried sum before chunk 3. -/
theorem ld_3_1 (e : Fin 256) (d : Fin 128) :
    ((sl.v420 (F := Ideal) c arg3 harg3 arg4 harg4 arg5 harg5 arg6 harg6 arg7 harg7 arg9 x1 x2 x3 x4 x5) (ix3 (n0 := 1) (n1 := 256) (n2 := 128) 0 e d) : EReal) = runOf (tile x0 x1 x2 x3 x4 x5 1) (fun _ _ => 0) 3 d e := by
  unfold sl.v420 sl.HS0_14 sl.HS0_13 sl.HS0_12 sl.HS0_11
  rw [readCov_head]
  rw [head_miss _ _ 1 0 _ _ _ (by omega)]
  rw [head_miss _ _ 1 3 _ _ _ (by omega)]
  rw [head_miss _ _ 1 2 _ _ _ (by omega)]
  rw [head_hit]
  exact sv_2_1 e d

/-- The store of head 1's carried sum after chunk 3. -/
theorem sv_3_1 (e : Fin 256) (d : Fin 128) :
    (k0_pay100 (F := Ideal) (sl.r_37 (F := Ideal) c arg3 harg3 arg5 harg5 arg6 harg6 arg7 harg7 x1 x3 x4 x5) (sl.r_38 (F := Ideal) c arg4 harg4 x2) (sl.r_40 (F := Ideal) c arg3 harg3 arg4 harg4 arg5 harg5 arg6 harg6 arg7 harg7 arg9 x1 x2 x3 x4 x5) (ix3 (n0 := 1) (n1 := 256) (n2 := 128) 0 e d) : EReal) = runOf (tile x0 x1 x2 x3 x4 x5 1) (fun _ _ => 0) 4 d e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.st_3_1]
  exact next_of _ _ _ _ _ _ _ _ _ 192 128 256 (by omega) (by omega) (decay_eq _ _ _) (ld_vals x2 192 256 (by omega) (by omega) _) (fun e d => ld_3_1 e d) e d

/-- The store of head 1's output in chunk 3. -/
theorem ov_3_1 (t : Fin 64) (e : Fin 256) :
    (k0_pay101 (F := Ideal) (sl.r_39 (F := Ideal) c arg2 harg2 arg3 harg3 arg4 harg4 arg5 harg5 arg6 harg6 arg7 harg7 arg9 x0 x1 x2 x3 x4 x5) (ix3 (n0 := 1) (n1 := 64) (n2 := 256) 0 t e) : EReal) = (tile x0 x1 x2 x3 x4 x5 1 3).out (runOf (tile x0 x1 x2 x3 x4 x5 1) (fun _ _ => 0) 3) t e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.ot_3_1]
  exact out_of _ _ _ _ _ _ _ _ 192 128 256 (by omega) (by omega) (ld_vals x2 192 256 (by omega) (by omega) _) (fun e d => ld_3_1 e d) t e

/-- The load of head 2's carried sum before chunk 3. -/
theorem ld_3_2 (e : Fin 256) (d : Fin 128) :
    ((sl.v446 (F := Ideal) c arg3 harg3 arg4 harg4 arg5 harg5 arg6 harg6 arg7 harg7 arg9 x1 x2 x3 x4 x5) (ix3 (n0 := 1) (n1 := 256) (n2 := 128) 0 e d) : EReal) = runOf (tile x0 x1 x2 x3 x4 x5 2) (fun _ _ => 0) 3 d e := by
  unfold sl.v446 sl.HS0_15 sl.HS0_14 sl.HS0_13 sl.HS0_12
  rw [readCov_head]
  rw [head_miss _ _ 2 1 _ _ _ (by omega)]
  rw [head_miss _ _ 2 0 _ _ _ (by omega)]
  rw [head_miss _ _ 2 3 _ _ _ (by omega)]
  rw [head_hit]
  exact sv_2_2 e d

/-- The store of head 2's carried sum after chunk 3. -/
theorem sv_3_2 (e : Fin 256) (d : Fin 128) :
    (k0_pay105 (F := Ideal) (sl.r_4 (F := Ideal) c arg3 harg3 arg5 harg5 arg6 harg6 arg7 harg7 x1 x3 x4 x5) (sl.r_5 (F := Ideal) c arg5 harg5 arg6 harg6 arg7 harg7 x3 x4 x5) (View.readAt (Elt Ideal) arg4.view (Rect.unit (s := S1x256x1024) ![0, 192, 512] S1x64x256.size inb_S1x256x1024_S1x64x256_0_192_512).toLoadRect (harg4.unread x2)) (sl.v446 (F := Ideal) c arg3 harg3 arg4 harg4 arg5 harg5 arg6 harg6 arg7 harg7 arg9 x1 x2 x3 x4 x5) (ix3 (n0 := 1) (n1 := 256) (n2 := 128) 0 e d) : EReal) = runOf (tile x0 x1 x2 x3 x4 x5 2) (fun _ _ => 0) 4 d e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.st_3_2]
  exact next_of _ _ _ _ _ _ _ _ _ 192 256 512 (by omega) (by omega) (decay_eq _ _ _) (ld_vals x2 192 512 (by omega) (by omega) _) (fun e d => ld_3_2 e d) e d

/-- The store of head 2's output in chunk 3. -/
theorem ov_3_2 (t : Fin 64) (e : Fin 256) :
    (k0_pay106 (F := Ideal) (sl.r_41 (F := Ideal) c arg2 harg2 arg3 harg3 arg4 harg4 arg5 harg5 arg6 harg6 arg7 harg7 arg9 x0 x1 x2 x3 x4 x5) (ix3 (n0 := 1) (n1 := 64) (n2 := 256) 0 t e) : EReal) = (tile x0 x1 x2 x3 x4 x5 2 3).out (runOf (tile x0 x1 x2 x3 x4 x5 2) (fun _ _ => 0) 3) t e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.ot_3_2]
  exact out_of _ _ _ _ _ _ _ _ 192 256 512 (by omega) (by omega) (ld_vals x2 192 512 (by omega) (by omega) _) (fun e d => ld_3_2 e d) t e

/-- The load of head 3's carried sum before chunk 3. -/
theorem ld_3_3 (e : Fin 256) (d : Fin 128) :
    ((sl.v472 (F := Ideal) c arg3 harg3 arg4 harg4 arg5 harg5 arg6 harg6 arg7 harg7 arg9 x1 x2 x3 x4 x5) (ix3 (n0 := 1) (n1 := 256) (n2 := 128) 0 e d) : EReal) = runOf (tile x0 x1 x2 x3 x4 x5 3) (fun _ _ => 0) 3 d e := by
  unfold sl.v472 sl.HS0_16 sl.HS0_15 sl.HS0_14 sl.HS0_13
  rw [readCov_head]
  rw [head_miss _ _ 3 2 _ _ _ (by omega)]
  rw [head_miss _ _ 3 1 _ _ _ (by omega)]
  rw [head_miss _ _ 3 0 _ _ _ (by omega)]
  rw [head_hit]
  exact sv_2_3 e d

/-- The store of head 3's carried sum after chunk 3. -/
theorem sv_3_3 (e : Fin 256) (d : Fin 128) :
    (k0_pay109 (F := Ideal) (sl.r_4 (F := Ideal) c arg3 harg3 arg5 harg5 arg6 harg6 arg7 harg7 x1 x3 x4 x5) (sl.r_5 (F := Ideal) c arg5 harg5 arg6 harg6 arg7 harg7 x3 x4 x5) (View.readAt (Elt Ideal) arg4.view (Rect.unit (s := S1x256x1024) ![0, 192, 768] S1x64x256.size inb_S1x256x1024_S1x64x256_0_192_768).toLoadRect (harg4.unread x2)) (sl.v472 (F := Ideal) c arg3 harg3 arg4 harg4 arg5 harg5 arg6 harg6 arg7 harg7 arg9 x1 x2 x3 x4 x5) (ix3 (n0 := 1) (n1 := 256) (n2 := 128) 0 e d) : EReal) = runOf (tile x0 x1 x2 x3 x4 x5 3) (fun _ _ => 0) 4 d e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.st_3_3]
  exact next_of _ _ _ _ _ _ _ _ _ 192 384 768 (by omega) (by omega) (decay_eq _ _ _) (ld_vals x2 192 768 (by omega) (by omega) _) (fun e d => ld_3_3 e d) e d

/-- The store of head 3's output in chunk 3. -/
theorem ov_3_3 (t : Fin 64) (e : Fin 256) :
    (k0_pay110 (F := Ideal) k0_pay5 (sl.r_2 (F := Ideal) c arg2 harg2 arg5 harg5 arg6 harg6 arg7 harg7 x0 x3 x4 x5) (sl.r_3 (F := Ideal) c arg3 harg3 arg5 harg5 arg6 harg6 arg7 harg7 x1 x3 x4 x5) (View.readAt (Elt Ideal) arg4.view (Rect.unit (s := S1x256x1024) ![0, 192, 768] S1x64x256.size inb_S1x256x1024_S1x64x256_0_192_768).toLoadRect (harg4.unread x2)) (sl.v472 (F := Ideal) c arg3 harg3 arg4 harg4 arg5 harg5 arg6 harg6 arg7 harg7 arg9 x1 x2 x3 x4 x5) (ix3 (n0 := 1) (n1 := 64) (n2 := 256) 0 t e) : EReal) = (tile x0 x1 x2 x3 x4 x5 3 3).out (runOf (tile x0 x1 x2 x3 x4 x5 3) (fun _ _ => 0) 3) t e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.ot_3_3]
  exact out_of _ _ _ _ _ _ _ _ 192 384 768 (by omega) (by omega) (ld_vals x2 192 768 (by omega) (by omega) _) (fun e d => ld_3_3 e d) t e

end Cert.Layer.Scan.First

end
-- ==== Proof.ScanLater.lean ====
/- A block of the scan, a later one, which starts from what the block before left: each load of a head's carried sum, each store of it and each store of an output. -/
module

public import proofs.«01_k».proof.Proof.ScanTile

@[expose] public section

noncomputable section

namespace Cert.Layer.Scan.Later

open Idealize.ShloMosaic Idealize.SL.Sem Cert.Kernel7Ideal Cert.Kernel7Ideal.Gen Cert.Kernel7Ideal.Gen.kernelRun0_B Idealize.ShloMosaic.TcCoe

variable {c : Dev nD} {i : grid0.Coords} {arg2 : Memref sig .tc .vmem S1x256x512 .bf16} {harg2 : arg2.IsWhole} {arg3 : Memref sig .tc .vmem S1x256x512 .bf16} {harg3 : arg3.IsWhole} {arg4 : Memref sig .tc .vmem S1x256x1024 .bf16} {harg4 : arg4.IsWhole} {arg5 : Memref sig .tc .vmem S1x256x256 .bf16} {harg5 : arg5.IsWhole} {arg6 : Memref sig .tc .vmem S256x512 .bf16} {harg6 : arg6.IsWhole} {arg7 : Memref sig .tc .vmem S1x512 .f32} {harg7 : arg7.IsWhole} {arg8 : Memref sig .tc .vmem S1x256x1024 .f32} {harg8 : arg8.IsWhole} {arg9 : Memref sig .tc .vmem S4x256x128 .f32} {harg9 : arg9.IsWhole}
  {x0 : Vec Ideal S1x256x512 .bf16} {x1 : Vec Ideal S1x256x512 .bf16} {x2 : Vec Ideal S1x256x1024 .bf16} {x3 : Vec Ideal S1x256x256 .bf16} {x4 : Vec Ideal S256x512 .bf16} {x5 : Vec Ideal S1x512 .f32} {xs0 : Vec Ideal S4x256x128 .f32} {S : ℕ → Fin 128 → Fin 256 → EReal}

/-- The load of head 0's carried sum before chunk 0. -/
theorem ld_0_0 (hS : ∀ (h : Fin 4) e d, (xs0 (ix3 h e d) : EReal) = S h.val d e) (e : Fin 256) (d : Fin 128) :
    ((View.readAt (Elt Ideal) arg9.view (Rect.unit (s := S4x256x128) ![0, 0, 0] S1x256x128.size inb_S4x256x128_S1x256x128_0_0_0).toLoadRect (harg9.unread xs0)) (ix3 (n0 := 1) (n1 := 256) (n2 := 128) 0 e d) : EReal) = runOf (tile x0 x1 x2 x3 x4 x5 0) (S 0) 0 d e := by
  rw [View.readAt_eq_ld, harg9.read_unread]
  exact (ld_head xs0 0 (by omega) _ e d).trans (hS ⟨0, by omega⟩ e d)

/-- The store of head 0's carried sum after chunk 0. -/
theorem sv_0_0 (hS : ∀ (h : Fin 4) e d, (xs0 (ix3 h e d) : EReal) = S h.val d e) (e : Fin 256) (d : Fin 128) :
    (k0_pay24 (F := Ideal) (sl.r_5 (F := Ideal) c arg5 harg5 arg6 harg6 arg7 harg7 x3 x4 x5) (sl.r_7 (F := Ideal) c arg3 harg3 arg5 harg5 arg6 harg6 arg7 harg7 x1 x3 x4 x5) (sl.r_8 (F := Ideal) c arg4 harg4 x2) (View.readAt (Elt Ideal) arg9.view (Rect.unit (s := S4x256x128) ![0, 0, 0] S1x256x128.size inb_S4x256x128_S1x256x128_0_0_0).toLoadRect (harg9.unread xs0)) (ix3 (n0 := 1) (n1 := 256) (n2 := 128) 0 e d) : EReal) = runOf (tile x0 x1 x2 x3 x4 x5 0) (S 0) 1 d e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.st_0_0]
  exact next_of _ _ _ _ _ _ _ _ _ 0 0 0 (by omega) (by omega) (decay_eq _ _ _) (ld_vals x2 0 0 (by omega) (by omega) _) (fun e d => (ld_head xs0 0 (by omega) _ e d).trans (hS 0 e d)) e d

/-- The store of head 0's output in chunk 0. -/
theorem ov_0_0 (hS : ∀ (h : Fin 4) e d, (xs0 (ix3 h e d) : EReal) = S h.val d e) (t : Fin 64) (e : Fin 256) :
    (k0_pay25 (F := Ideal) (sl.r_6 (F := Ideal) c arg2 harg2 arg5 harg5 arg6 harg6 arg7 harg7 x0 x3 x4 x5) (sl.r_8 (F := Ideal) c arg4 harg4 x2) (sl.r_9 (F := Ideal) c arg2 harg2 arg3 harg3 arg5 harg5 arg6 harg6 arg7 harg7 x0 x1 x3 x4 x5) (View.readAt (Elt Ideal) arg9.view (Rect.unit (s := S4x256x128) ![0, 0, 0] S1x256x128.size inb_S4x256x128_S1x256x128_0_0_0).toLoadRect (harg9.unread xs0)) (ix3 (n0 := 1) (n1 := 64) (n2 := 256) 0 t e) : EReal) = (tile x0 x1 x2 x3 x4 x5 0 0).out (runOf (tile x0 x1 x2 x3 x4 x5 0) (S 0) 0) t e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.ot_0_0]
  exact out_of _ _ _ _ _ _ _ _ 0 0 0 (by omega) (by omega) (ld_vals x2 0 0 (by omega) (by omega) _) (fun e d => (ld_head xs0 0 (by omega) _ e d).trans (hS 0 e d)) t e

/-- The load of head 1's carried sum before chunk 0. -/
theorem ld_0_1 (hS : ∀ (h : Fin 4) e d, (xs0 (ix3 h e d) : EReal) = S h.val d e) (e : Fin 256) (d : Fin 128) :
    ((sl.v108 (F := Ideal) c arg9 harg9 xs0) (ix3 (n0 := 1) (n1 := 256) (n2 := 128) 0 e d) : EReal) = runOf (tile x0 x1 x2 x3 x4 x5 1) (S 1) 0 d e := by
  unfold sl.v108
  rw [View.readAt_eq_ld, harg9.read_unread]
  exact (ld_head xs0 1 (by omega) _ e d).trans (hS ⟨1, by omega⟩ e d)

/-- The store of head 1's carried sum after chunk 0. -/
theorem sv_0_1 (hS : ∀ (h : Fin 4) e d, (xs0 (ix3 h e d) : EReal) = S h.val d e) (e : Fin 256) (d : Fin 128) :
    (k0_pay31 (F := Ideal) (sl.r_10 (F := Ideal) c arg3 harg3 arg5 harg5 arg6 harg6 arg7 harg7 x1 x3 x4 x5) (sl.r_11 (F := Ideal) c arg4 harg4 x2) (sl.r_13 (F := Ideal) c arg5 harg5 arg6 harg6 arg7 harg7 arg9 harg9 x3 x4 x5 xs0) (ix3 (n0 := 1) (n1 := 256) (n2 := 128) 0 e d) : EReal) = runOf (tile x0 x1 x2 x3 x4 x5 1) (S 1) 1 d e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.st_0_1]
  exact next_of _ _ _ _ _ _ _ _ _ 0 128 256 (by omega) (by omega) (decay_eq _ _ _) (ld_vals x2 0 256 (by omega) (by omega) _) (fun e d => ld_0_1 hS e d) e d

/-- The store of head 1's output in chunk 0. -/
theorem ov_0_1 (hS : ∀ (h : Fin 4) e d, (xs0 (ix3 h e d) : EReal) = S h.val d e) (t : Fin 64) (e : Fin 256) :
    (k0_pay32 (F := Ideal) (sl.r_12 (F := Ideal) c arg2 harg2 arg3 harg3 arg4 harg4 arg5 harg5 arg6 harg6 arg7 harg7 arg9 harg9 x0 x1 x2 x3 x4 x5 xs0) (ix3 (n0 := 1) (n1 := 64) (n2 := 256) 0 t e) : EReal) = (tile x0 x1 x2 x3 x4 x5 1 0).out (runOf (tile x0 x1 x2 x3 x4 x5 1) (S 1) 0) t e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.ot_0_1]
  exact out_of _ _ _ _ _ _ _ _ 0 128 256 (by omega) (by omega) (ld_vals x2 0 256 (by omega) (by omega) _) (fun e d => ld_0_1 hS e d) t e

/-- The load of head 2's carried sum before chunk 0. -/
theorem ld_0_2 (hS : ∀ (h : Fin 4) e d, (xs0 (ix3 h e d) : EReal) = S h.val d e) (e : Fin 256) (d : Fin 128) :
    ((sl.v134 (F := Ideal) c arg9 harg9 xs0) (ix3 (n0 := 1) (n1 := 256) (n2 := 128) 0 e d) : EReal) = runOf (tile x0 x1 x2 x3 x4 x5 2) (S 2) 0 d e := by
  unfold sl.v134
  rw [View.readAt_eq_ld, harg9.read_unread]
  exact (ld_head xs0 2 (by omega) _ e d).trans (hS ⟨2, by omega⟩ e d)

/-- The store of head 2's carried sum after chunk 0. -/
theorem sv_0_2 (hS : ∀ (h : Fin 4) e d, (xs0 (ix3 h e d) : EReal) = S h.val d e) (e : Fin 256) (d : Fin 128) :
    (k0_pay36 (F := Ideal) (sl.r_4 (F := Ideal) c arg3 harg3 arg5 harg5 arg6 harg6 arg7 harg7 x1 x3 x4 x5) (sl.r_5 (F := Ideal) c arg5 harg5 arg6 harg6 arg7 harg7 x3 x4 x5) (View.readAt (Elt Ideal) arg4.view (Rect.unit (s := S1x256x1024) ![0, 0, 512] S1x64x256.size inb_S1x256x1024_S1x64x256_0_0_512).toLoadRect (harg4.unread x2)) (sl.v134 (F := Ideal) c arg9 harg9 xs0) (ix3 (n0 := 1) (n1 := 256) (n2 := 128) 0 e d) : EReal) = runOf (tile x0 x1 x2 x3 x4 x5 2) (S 2) 1 d e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.st_0_2]
  exact next_of _ _ _ _ _ _ _ _ _ 0 256 512 (by omega) (by omega) (decay_eq _ _ _) (ld_vals x2 0 512 (by omega) (by omega) _) (fun e d => ld_0_2 hS e d) e d

/-- The store of head 2's output in chunk 0. -/
theorem ov_0_2 (hS : ∀ (h : Fin 4) e d, (xs0 (ix3 h e d) : EReal) = S h.val d e) (t : Fin 64) (e : Fin 256) :
    (k0_pay37 (F := Ideal) (sl.r_14 (F := Ideal) c arg2 harg2 arg3 harg3 arg4 harg4 arg5 harg5 arg6 harg6 arg7 harg7 arg9 harg9 x0 x1 x2 x3 x4 x5 xs0) (ix3 (n0 := 1) (n1 := 64) (n2 := 256) 0 t e) : EReal) = (tile x0 x1 x2 x3 x4 x5 2 0).out (runOf (tile x0 x1 x2 x3 x4 x5 2) (S 2) 0) t e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.ot_0_2]
  exact out_of _ _ _ _ _ _ _ _ 0 256 512 (by omega) (by omega) (ld_vals x2 0 512 (by omega) (by omega) _) (fun e d => ld_0_2 hS e d) t e

/-- The load of head 3's carried sum before chunk 0. -/
theorem ld_0_3 (hS : ∀ (h : Fin 4) e d, (xs0 (ix3 h e d) : EReal) = S h.val d e) (e : Fin 256) (d : Fin 128) :
    ((sl.v160 (F := Ideal) c arg9 harg9 xs0) (ix3 (n0 := 1) (n1 := 256) (n2 := 128) 0 e d) : EReal) = runOf (tile x0 x1 x2 x3 x4 x5 3) (S 3) 0 d e := by
  unfold sl.v160
  rw [View.readAt_eq_ld, harg9.read_unread]
  exact (ld_head xs0 3 (by omega) _ e d).trans (hS ⟨3, by omega⟩ e d)

/-- The store of head 3's carried sum after chunk 0. -/
theorem sv_0_3 (hS : ∀ (h : Fin 4) e d, (xs0 (ix3 h e d) : EReal) = S h.val d e) (e : Fin 256) (d : Fin 128) :
    (k0_pay40 (F := Ideal) (sl.r_4 (F := Ideal) c arg3 harg3 arg5 harg5 arg6 harg6 arg7 harg7 x1 x3 x4 x5) (sl.r_5 (F := Ideal) c arg5 harg5 arg6 harg6 arg7 harg7 x3 x4 x5) (View.readAt (Elt Ideal) arg4.view (Rect.unit (s := S1x256x1024) ![0, 0, 768] S1x64x256.size inb_S1x256x1024_S1x64x256_0_0_768).toLoadRect (harg4.unread x2)) (sl.v160 (F := Ideal) c arg9 harg9 xs0) (ix3 (n0 := 1) (n1 := 256) (n2 := 128) 0 e d) : EReal) = runOf (tile x0 x1 x2 x3 x4 x5 3) (S 3) 1 d e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.st_0_3]
  exact next_of _ _ _ _ _ _ _ _ _ 0 384 768 (by omega) (by omega) (decay_eq _ _ _) (ld_vals x2 0 768 (by omega) (by omega) _) (fun e d => ld_0_3 hS e d) e d

/-- The store of head 3's output in chunk 0. -/
theorem ov_0_3 (hS : ∀ (h : Fin 4) e d, (xs0 (ix3 h e d) : EReal) = S h.val d e) (t : Fin 64) (e : Fin 256) :
    (k0_pay41 (F := Ideal) k0_pay5 (sl.r_2 (F := Ideal) c arg2 harg2 arg5 harg5 arg6 harg6 arg7 harg7 x0 x3 x4 x5) (sl.r_3 (F := Ideal) c arg3 harg3 arg5 harg5 arg6 harg6 arg7 harg7 x1 x3 x4 x5) (View.readAt (Elt Ideal) arg4.view (Rect.unit (s := S1x256x1024) ![0, 0, 768] S1x64x256.size inb_S1x256x1024_S1x64x256_0_0_768).toLoadRect (harg4.unread x2)) (sl.v160 (F := Ideal) c arg9 harg9 xs0) (ix3 (n0 := 1) (n1 := 64) (n2 := 256) 0 t e) : EReal) = (tile x0 x1 x2 x3 x4 x5 3 0).out (runOf (tile x0 x1 x2 x3 x4 x5 3) (S 3) 0) t e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.ot_0_3]
  exact out_of _ _ _ _ _ _ _ _ 0 384 768 (by omega) (by omega) (ld_vals x2 0 768 (by omega) (by omega) _) (fun e d => ld_0_3 hS e d) t e

/-- The load of head 0's carried sum before chunk 1. -/
theorem ld_1_0 (hS : ∀ (h : Fin 4) e d, (xs0 (ix3 h e d) : EReal) = S h.val d e) (e : Fin 256) (d : Fin 128) :
    ((sl.v186 (F := Ideal) c arg3 harg3 arg4 harg4 arg5 harg5 arg6 harg6 arg7 harg7 arg9 harg9 x1 x2 x3 x4 x5 xs0) (ix3 (n0 := 1) (n1 := 256) (n2 := 128) 0 e d) : EReal) = runOf (tile x0 x1 x2 x3 x4 x5 0) (S 0) 1 d e := by
  unfold sl.v186 sl.HS0_4
  rw [readCov_head]
  rw [head_miss _ _ 0 3 _ _ _ (by omega)]
  rw [head_miss _ _ 0 2 _ _ _ (by omega)]
  rw [head_miss _ _ 0 1 _ _ _ (by omega)]
  rw [head_hit]
  exact sv_0_0 hS e d

/-- The store of head 0's carried sum after chunk 1. -/
theorem sv_1_0 (hS : ∀ (h : Fin 4) e d, (xs0 (ix3 h e d) : EReal) = S h.val d e) (e : Fin 256) (d : Fin 128) :
    (k0_pay47 (F := Ideal) (sl.r_5 (F := Ideal) c arg5 harg5 arg6 harg6 arg7 harg7 x3 x4 x5) (sl.r_16 (F := Ideal) c arg3 harg3 arg5 harg5 arg6 harg6 arg7 harg7 x1 x3 x4 x5) (sl.r_17 (F := Ideal) c arg4 harg4 x2) (sl.v186 (F := Ideal) c arg3 harg3 arg4 harg4 arg5 harg5 arg6 harg6 arg7 harg7 arg9 harg9 x1 x2 x3 x4 x5 xs0) (ix3 (n0 := 1) (n1 := 256) (n2 := 128) 0 e d) : EReal) = runOf (tile x0 x1 x2 x3 x4 x5 0) (S 0) 2 d e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.st_1_0]
  exact next_of _ _ _ _ _ _ _ _ _ 64 0 0 (by omega) (by omega) (decay_eq _ _ _) (ld_vals x2 64 0 (by omega) (by omega) _) (fun e d => ld_1_0 hS e d) e d

/-- The store of head 0's output in chunk 1. -/
theorem ov_1_0 (hS : ∀ (h : Fin 4) e d, (xs0 (ix3 h e d) : EReal) = S h.val d e) (t : Fin 64) (e : Fin 256) :
    (k0_pay48 (F := Ideal) (sl.r_15 (F := Ideal) c arg2 harg2 arg5 harg5 arg6 harg6 arg7 harg7 x0 x3 x4 x5) (sl.r_17 (F := Ideal) c arg4 harg4 x2) (sl.r_18 (F := Ideal) c arg2 harg2 arg3 harg3 arg5 harg5 arg6 harg6 arg7 harg7 x0 x1 x3 x4 x5) (sl.v186 (F := Ideal) c arg3 harg3 arg4 harg4 arg5 harg5 arg6 harg6 arg7 harg7 arg9 harg9 x1 x2 x3 x4 x5 xs0) (ix3 (n0 := 1) (n1 := 64) (n2 := 256) 0 t e) : EReal) = (tile x0 x1 x2 x3 x4 x5 0 1).out (runOf (tile x0 x1 x2 x3 x4 x5 0) (S 0) 1) t e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.ot_1_0]
  exact out_of _ _ _ _ _ _ _ _ 64 0 0 (by omega) (by omega) (ld_vals x2 64 0 (by omega) (by omega) _) (fun e d => ld_1_0 hS e d) t e

/-- The load of head 1's carried sum before chunk 1. -/
theorem ld_1_1 (hS : ∀ (h : Fin 4) e d, (xs0 (ix3 h e d) : EReal) = S h.val d e) (e : Fin 256) (d : Fin 128) :
    ((sl.v212 (F := Ideal) c arg3 harg3 arg4 harg4 arg5 harg5 arg6 harg6 arg7 harg7 arg9 harg9 x1 x2 x3 x4 x5 xs0) (ix3 (n0 := 1) (n1 := 256) (n2 := 128) 0 e d) : EReal) = runOf (tile x0 x1 x2 x3 x4 x5 1) (S 1) 1 d e := by
  unfold sl.v212 sl.HS0_5 sl.HS0_4
  rw [readCov_head]
  rw [head_miss _ _ 1 0 _ _ _ (by omega)]
  rw [head_miss _ _ 1 3 _ _ _ (by omega)]
  rw [head_miss _ _ 1 2 _ _ _ (by omega)]
  rw [head_hit]
  exact sv_0_1 hS e d

/-- The store of head 1's carried sum after chunk 1. -/
theorem sv_1_1 (hS : ∀ (h : Fin 4) e d, (xs0 (ix3 h e d) : EReal) = S h.val d e) (e : Fin 256) (d : Fin 128) :
    (k0_pay54 (F := Ideal) (sl.r_19 (F := Ideal) c arg3 harg3 arg5 harg5 arg6 harg6 arg7 harg7 x1 x3 x4 x5) (sl.r_20 (F := Ideal) c arg4 harg4 x2) (sl.r_22 (F := Ideal) c arg3 harg3 arg4 harg4 arg5 harg5 arg6 harg6 arg7 harg7 arg9 harg9 x1 x2 x3 x4 x5 xs0) (ix3 (n0 := 1) (n1 := 256) (n2 := 128) 0 e d) : EReal) = runOf (tile x0 x1 x2 x3 x4 x5 1) (S 1) 2 d e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.st_1_1]
  exact next_of _ _ _ _ _ _ _ _ _ 64 128 256 (by omega) (by omega) (decay_eq _ _ _) (ld_vals x2 64 256 (by omega) (by omega) _) (fun e d => ld_1_1 hS e d) e d

/-- The store of head 1's output in chunk 1. -/
theorem ov_1_1 (hS : ∀ (h : Fin 4) e d, (xs0 (ix3 h e d) : EReal) = S h.val d e) (t : Fin 64) (e : Fin 256) :
    (k0_pay55 (F := Ideal) (sl.r_21 (F := Ideal) c arg2 harg2 arg3 harg3 arg4 harg4 arg5 harg5 arg6 harg6 arg7 harg7 arg9 harg9 x0 x1 x2 x3 x4 x5 xs0) (ix3 (n0 := 1) (n1 := 64) (n2 := 256) 0 t e) : EReal) = (tile x0 x1 x2 x3 x4 x5 1 1).out (runOf (tile x0 x1 x2 x3 x4 x5 1) (S 1) 1) t e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.ot_1_1]
  exact out_of _ _ _ _ _ _ _ _ 64 128 256 (by omega) (by omega) (ld_vals x2 64 256 (by omega) (by omega) _) (fun e d => ld_1_1 hS e d) t e

/-- The load of head 2's carried sum before chunk 1. -/
theorem ld_1_2 (hS : ∀ (h : Fin 4) e d, (xs0 (ix3 h e d) : EReal) = S h.val d e) (e : Fin 256) (d : Fin 128) :
    ((sl.v238 (F := Ideal) c arg3 harg3 arg4 harg4 arg5 harg5 arg6 harg6 arg7 harg7 arg9 harg9 x1 x2 x3 x4 x5 xs0) (ix3 (n0 := 1) (n1 := 256) (n2 := 128) 0 e d) : EReal) = runOf (tile x0 x1 x2 x3 x4 x5 2) (S 2) 1 d e := by
  unfold sl.v238 sl.HS0_6 sl.HS0_5 sl.HS0_4
  rw [readCov_head]
  rw [head_miss _ _ 2 1 _ _ _ (by omega)]
  rw [head_miss _ _ 2 0 _ _ _ (by omega)]
  rw [head_miss _ _ 2 3 _ _ _ (by omega)]
  rw [head_hit]
  exact sv_0_2 hS e d

/-- The store of head 2's carried sum after chunk 1. -/
theorem sv_1_2 (hS : ∀ (h : Fin 4) e d, (xs0 (ix3 h e d) : EReal) = S h.val d e) (e : Fin 256) (d : Fin 128) :
    (k0_pay59 (F := Ideal) (sl.r_4 (F := Ideal) c arg3 harg3 arg5 harg5 arg6 harg6 arg7 harg7 x1 x3 x4 x5) (sl.r_5 (F := Ideal) c arg5 harg5 arg6 harg6 arg7 harg7 x3 x4 x5) (View.readAt (Elt Ideal) arg4.view (Rect.unit (s := S1x256x1024) ![0, 64, 512] S1x64x256.size inb_S1x256x1024_S1x64x256_0_64_512).toLoadRect (harg4.unread x2)) (sl.v238 (F := Ideal) c arg3 harg3 arg4 harg4 arg5 harg5 arg6 harg6 arg7 harg7 arg9 harg9 x1 x2 x3 x4 x5 xs0) (ix3 (n0 := 1) (n1 := 256) (n2 := 128) 0 e d) : EReal) = runOf (tile x0 x1 x2 x3 x4 x5 2) (S 2) 2 d e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.st_1_2]
  exact next_of _ _ _ _ _ _ _ _ _ 64 256 512 (by omega) (by omega) (decay_eq _ _ _) (ld_vals x2 64 512 (by omega) (by omega) _) (fun e d => ld_1_2 hS e d) e d

/-- The store of head 2's output in chunk 1. -/
theorem ov_1_2 (hS : ∀ (h : Fin 4) e d, (xs0 (ix3 h e d) : EReal) = S h.val d e) (t : Fin 64) (e : Fin 256) :
    (k0_pay60 (F := Ideal) (sl.r_23 (F := Ideal) c arg2 harg2 arg3 harg3 arg4 harg4 arg5 harg5 arg6 harg6 arg7 harg7 arg9 harg9 x0 x1 x2 x3 x4 x5 xs0) (ix3 (n0 := 1) (n1 := 64) (n2 := 256) 0 t e) : EReal) = (tile x0 x1 x2 x3 x4 x5 2 1).out (runOf (tile x0 x1 x2 x3 x4 x5 2) (S 2) 1) t e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.ot_1_2]
  exact out_of _ _ _ _ _ _ _ _ 64 256 512 (by omega) (by omega) (ld_vals x2 64 512 (by omega) (by omega) _) (fun e d => ld_1_2 hS e d) t e

/-- The load of head 3's carried sum before chunk 1. -/
theorem ld_1_3 (hS : ∀ (h : Fin 4) e d, (xs0 (ix3 h e d) : EReal) = S h.val d e) (e : Fin 256) (d : Fin 128) :
    ((sl.v264 (F := Ideal) c arg3 harg3 arg4 harg4 arg5 harg5 arg6 harg6 arg7 harg7 arg9 harg9 x1 x2 x3 x4 x5 xs0) (ix3 (n0 := 1) (n1 := 256) (n2 := 128) 0 e d) : EReal) = runOf (tile x0 x1 x2 x3 x4 x5 3) (S 3) 1 d e := by
  unfold sl.v264 sl.HS0_7 sl.HS0_6 sl.HS0_5 sl.HS0_4
  rw [readCov_head]
  rw [head_miss _ _ 3 2 _ _ _ (by omega)]
  rw [head_miss _ _ 3 1 _ _ _ (by omega)]
  rw [head_miss _ _ 3 0 _ _ _ (by omega)]
  rw [head_hit]
  exact sv_0_3 hS e d

/-- The store of head 3's carried sum after chunk 1. -/
theorem sv_1_3 (hS : ∀ (h : Fin 4) e d, (xs0 (ix3 h e d) : EReal) = S h.val d e) (e : Fin 256) (d : Fin 128) :
    (k0_pay63 (F := Ideal) (sl.r_4 (F := Ideal) c arg3 harg3 arg5 harg5 arg6 harg6 arg7 harg7 x1 x3 x4 x5) (sl.r_5 (F := Ideal) c arg5 harg5 arg6 harg6 arg7 harg7 x3 x4 x5) (View.readAt (Elt Ideal) arg4.view (Rect.unit (s := S1x256x1024) ![0, 64, 768] S1x64x256.size inb_S1x256x1024_S1x64x256_0_64_768).toLoadRect (harg4.unread x2)) (sl.v264 (F := Ideal) c arg3 harg3 arg4 harg4 arg5 harg5 arg6 harg6 arg7 harg7 arg9 harg9 x1 x2 x3 x4 x5 xs0) (ix3 (n0 := 1) (n1 := 256) (n2 := 128) 0 e d) : EReal) = runOf (tile x0 x1 x2 x3 x4 x5 3) (S 3) 2 d e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.st_1_3]
  exact next_of _ _ _ _ _ _ _ _ _ 64 384 768 (by omega) (by omega) (decay_eq _ _ _) (ld_vals x2 64 768 (by omega) (by omega) _) (fun e d => ld_1_3 hS e d) e d

/-- The store of head 3's output in chunk 1. -/
theorem ov_1_3 (hS : ∀ (h : Fin 4) e d, (xs0 (ix3 h e d) : EReal) = S h.val d e) (t : Fin 64) (e : Fin 256) :
    (k0_pay64 (F := Ideal) k0_pay5 (sl.r_2 (F := Ideal) c arg2 harg2 arg5 harg5 arg6 harg6 arg7 harg7 x0 x3 x4 x5) (sl.r_3 (F := Ideal) c arg3 harg3 arg5 harg5 arg6 harg6 arg7 harg7 x1 x3 x4 x5) (View.readAt (Elt Ideal) arg4.view (Rect.unit (s := S1x256x1024) ![0, 64, 768] S1x64x256.size inb_S1x256x1024_S1x64x256_0_64_768).toLoadRect (harg4.unread x2)) (sl.v264 (F := Ideal) c arg3 harg3 arg4 harg4 arg5 harg5 arg6 harg6 arg7 harg7 arg9 harg9 x1 x2 x3 x4 x5 xs0) (ix3 (n0 := 1) (n1 := 64) (n2 := 256) 0 t e) : EReal) = (tile x0 x1 x2 x3 x4 x5 3 1).out (runOf (tile x0 x1 x2 x3 x4 x5 3) (S 3) 1) t e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.ot_1_3]
  exact out_of _ _ _ _ _ _ _ _ 64 384 768 (by omega) (by omega) (ld_vals x2 64 768 (by omega) (by omega) _) (fun e d => ld_1_3 hS e d) t e

/-- The load of head 0's carried sum before chunk 2. -/
theorem ld_2_0 (hS : ∀ (h : Fin 4) e d, (xs0 (ix3 h e d) : EReal) = S h.val d e) (e : Fin 256) (d : Fin 128) :
    ((sl.v290 (F := Ideal) c arg3 harg3 arg4 harg4 arg5 harg5 arg6 harg6 arg7 harg7 arg9 harg9 x1 x2 x3 x4 x5 xs0) (ix3 (n0 := 1) (n1 := 256) (n2 := 128) 0 e d) : EReal) = runOf (tile x0 x1 x2 x3 x4 x5 0) (S 0) 2 d e := by
  unfold sl.v290 sl.HS0_8 sl.HS0_7 sl.HS0_6 sl.HS0_5
  rw [readCov_head]
  rw [head_miss _ _ 0 3 _ _ _ (by omega)]
  rw [head_miss _ _ 0 2 _ _ _ (by omega)]
  rw [head_miss _ _ 0 1 _ _ _ (by omega)]
  rw [head_hit]
  exact sv_1_0 hS e d

/-- The store of head 0's carried sum after chunk 2. -/
theorem sv_2_0 (hS : ∀ (h : Fin 4) e d, (xs0 (ix3 h e d) : EReal) = S h.val d e) (e : Fin 256) (d : Fin 128) :
    (k0_pay70 (F := Ideal) (sl.r_5 (F := Ideal) c arg5 harg5 arg6 harg6 arg7 harg7 x3 x4 x5) (sl.r_25 (F := Ideal) c arg3 harg3 arg5 harg5 arg6 harg6 arg7 harg7 x1 x3 x4 x5) (sl.r_26 (F := Ideal) c arg4 harg4 x2) (sl.v290 (F := Ideal) c arg3 harg3 arg4 harg4 arg5 harg5 arg6 harg6 arg7 harg7 arg9 harg9 x1 x2 x3 x4 x5 xs0) (ix3 (n0 := 1) (n1 := 256) (n2 := 128) 0 e d) : EReal) = runOf (tile x0 x1 x2 x3 x4 x5 0) (S 0) 3 d e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.st_2_0]
  exact next_of _ _ _ _ _ _ _ _ _ 128 0 0 (by omega) (by omega) (decay_eq _ _ _) (ld_vals x2 128 0 (by omega) (by omega) _) (fun e d => ld_2_0 hS e d) e d

/-- The store of head 0's output in chunk 2. -/
theorem ov_2_0 (hS : ∀ (h : Fin 4) e d, (xs0 (ix3 h e d) : EReal) = S h.val d e) (t : Fin 64) (e : Fin 256) :
    (k0_pay71 (F := Ideal) (sl.r_24 (F := Ideal) c arg2 harg2 arg5 harg5 arg6 harg6 arg7 harg7 x0 x3 x4 x5) (sl.r_26 (F := Ideal) c arg4 harg4 x2) (sl.r_27 (F := Ideal) c arg2 harg2 arg3 harg3 arg5 harg5 arg6 harg6 arg7 harg7 x0 x1 x3 x4 x5) (sl.v290 (F := Ideal) c arg3 harg3 arg4 harg4 arg5 harg5 arg6 harg6 arg7 harg7 arg9 harg9 x1 x2 x3 x4 x5 xs0) (ix3 (n0 := 1) (n1 := 64) (n2 := 256) 0 t e) : EReal) = (tile x0 x1 x2 x3 x4 x5 0 2).out (runOf (tile x0 x1 x2 x3 x4 x5 0) (S 0) 2) t e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.ot_2_0]
  exact out_of _ _ _ _ _ _ _ _ 128 0 0 (by omega) (by omega) (ld_vals x2 128 0 (by omega) (by omega) _) (fun e d => ld_2_0 hS e d) t e

/-- The load of head 1's carried sum before chunk 2. -/
theorem ld_2_1 (hS : ∀ (h : Fin 4) e d, (xs0 (ix3 h e d) : EReal) = S h.val d e) (e : Fin 256) (d : Fin 128) :
    ((sl.v316 (F := Ideal) c arg3 harg3 arg4 harg4 arg5 harg5 arg6 harg6 arg7 harg7 arg9 harg9 x1 x2 x3 x4 x5 xs0) (ix3 (n0 := 1) (n1 := 256) (n2 := 128) 0 e d) : EReal) = runOf (tile x0 x1 x2 x3 x4 x5 1) (S 1) 2 d e := by
  unfold sl.v316 sl.HS0_9 sl.HS0_8 sl.HS0_7 sl.HS0_6
  rw [readCov_head]
  rw [head_miss _ _ 1 0 _ _ _ (by omega)]
  rw [head_miss _ _ 1 3 _ _ _ (by omega)]
  rw [head_miss _ _ 1 2 _ _ _ (by omega)]
  rw [head_hit]
  exact sv_1_1 hS e d

/-- The store of head 1's carried sum after chunk 2. -/
theorem sv_2_1 (hS : ∀ (h : Fin 4) e d, (xs0 (ix3 h e d) : EReal) = S h.val d e) (e : Fin 256) (d : Fin 128) :
    (k0_pay77 (F := Ideal) (sl.r_28 (F := Ideal) c arg3 harg3 arg5 harg5 arg6 harg6 arg7 harg7 x1 x3 x4 x5) (sl.r_29 (F := Ideal) c arg4 harg4 x2) (sl.r_31 (F := Ideal) c arg3 harg3 arg4 harg4 arg5 harg5 arg6 harg6 arg7 harg7 arg9 harg9 x1 x2 x3 x4 x5 xs0) (ix3 (n0 := 1) (n1 := 256) (n2 := 128) 0 e d) : EReal) = runOf (tile x0 x1 x2 x3 x4 x5 1) (S 1) 3 d e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.st_2_1]
  exact next_of _ _ _ _ _ _ _ _ _ 128 128 256 (by omega) (by omega) (decay_eq _ _ _) (ld_vals x2 128 256 (by omega) (by omega) _) (fun e d => ld_2_1 hS e d) e d

/-- The store of head 1's output in chunk 2. -/
theorem ov_2_1 (hS : ∀ (h : Fin 4) e d, (xs0 (ix3 h e d) : EReal) = S h.val d e) (t : Fin 64) (e : Fin 256) :
    (k0_pay78 (F := Ideal) (sl.r_30 (F := Ideal) c arg2 harg2 arg3 harg3 arg4 harg4 arg5 harg5 arg6 harg6 arg7 harg7 arg9 harg9 x0 x1 x2 x3 x4 x5 xs0) (ix3 (n0 := 1) (n1 := 64) (n2 := 256) 0 t e) : EReal) = (tile x0 x1 x2 x3 x4 x5 1 2).out (runOf (tile x0 x1 x2 x3 x4 x5 1) (S 1) 2) t e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.ot_2_1]
  exact out_of _ _ _ _ _ _ _ _ 128 128 256 (by omega) (by omega) (ld_vals x2 128 256 (by omega) (by omega) _) (fun e d => ld_2_1 hS e d) t e

/-- The load of head 2's carried sum before chunk 2. -/
theorem ld_2_2 (hS : ∀ (h : Fin 4) e d, (xs0 (ix3 h e d) : EReal) = S h.val d e) (e : Fin 256) (d : Fin 128) :
    ((sl.v342 (F := Ideal) c arg3 harg3 arg4 harg4 arg5 harg5 arg6 harg6 arg7 harg7 arg9 harg9 x1 x2 x3 x4 x5 xs0) (ix3 (n0 := 1) (n1 := 256) (n2 := 128) 0 e d) : EReal) = runOf (tile x0 x1 x2 x3 x4 x5 2) (S 2) 2 d e := by
  unfold sl.v342 sl.HS0_10 sl.HS0_9 sl.HS0_8 sl.HS0_7
  rw [readCov_head]
  rw [head_miss _ _ 2 1 _ _ _ (by omega)]
  rw [head_miss _ _ 2 0 _ _ _ (by omega)]
  rw [head_miss _ _ 2 3 _ _ _ (by omega)]
  rw [head_hit]
  exact sv_1_2 hS e d

/-- The store of head 2's carried sum after chunk 2. -/
theorem sv_2_2 (hS : ∀ (h : Fin 4) e d, (xs0 (ix3 h e d) : EReal) = S h.val d e) (e : Fin 256) (d : Fin 128) :
    (k0_pay82 (F := Ideal) (sl.r_4 (F := Ideal) c arg3 harg3 arg5 harg5 arg6 harg6 arg7 harg7 x1 x3 x4 x5) (sl.r_5 (F := Ideal) c arg5 harg5 arg6 harg6 arg7 harg7 x3 x4 x5) (View.readAt (Elt Ideal) arg4.view (Rect.unit (s := S1x256x1024) ![0, 128, 512] S1x64x256.size inb_S1x256x1024_S1x64x256_0_128_512).toLoadRect (harg4.unread x2)) (sl.v342 (F := Ideal) c arg3 harg3 arg4 harg4 arg5 harg5 arg6 harg6 arg7 harg7 arg9 harg9 x1 x2 x3 x4 x5 xs0) (ix3 (n0 := 1) (n1 := 256) (n2 := 128) 0 e d) : EReal) = runOf (tile x0 x1 x2 x3 x4 x5 2) (S 2) 3 d e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.st_2_2]
  exact next_of _ _ _ _ _ _ _ _ _ 128 256 512 (by omega) (by omega) (decay_eq _ _ _) (ld_vals x2 128 512 (by omega) (by omega) _) (fun e d => ld_2_2 hS e d) e d

/-- The store of head 2's output in chunk 2. -/
theorem ov_2_2 (hS : ∀ (h : Fin 4) e d, (xs0 (ix3 h e d) : EReal) = S h.val d e) (t : Fin 64) (e : Fin 256) :
    (k0_pay83 (F := Ideal) (sl.r_32 (F := Ideal) c arg2 harg2 arg3 harg3 arg4 harg4 arg5 harg5 arg6 harg6 arg7 harg7 arg9 harg9 x0 x1 x2 x3 x4 x5 xs0) (ix3 (n0 := 1) (n1 := 64) (n2 := 256) 0 t e) : EReal) = (tile x0 x1 x2 x3 x4 x5 2 2).out (runOf (tile x0 x1 x2 x3 x4 x5 2) (S 2) 2) t e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.ot_2_2]
  exact out_of _ _ _ _ _ _ _ _ 128 256 512 (by omega) (by omega) (ld_vals x2 128 512 (by omega) (by omega) _) (fun e d => ld_2_2 hS e d) t e

/-- The load of head 3's carried sum before chunk 2. -/
theorem ld_2_3 (hS : ∀ (h : Fin 4) e d, (xs0 (ix3 h e d) : EReal) = S h.val d e) (e : Fin 256) (d : Fin 128) :
    ((sl.v368 (F := Ideal) c arg3 harg3 arg4 harg4 arg5 harg5 arg6 harg6 arg7 harg7 arg9 harg9 x1 x2 x3 x4 x5 xs0) (ix3 (n0 := 1) (n1 := 256) (n2 := 128) 0 e d) : EReal) = runOf (tile x0 x1 x2 x3 x4 x5 3) (S 3) 2 d e := by
  unfold sl.v368 sl.HS0_11 sl.HS0_10 sl.HS0_9 sl.HS0_8
  rw [readCov_head]
  rw [head_miss _ _ 3 2 _ _ _ (by omega)]
  rw [head_miss _ _ 3 1 _ _ _ (by omega)]
  rw [head_miss _ _ 3 0 _ _ _ (by omega)]
  rw [head_hit]
  exact sv_1_3 hS e d

/-- The store of head 3's carried sum after chunk 2. -/
theorem sv_2_3 (hS : ∀ (h : Fin 4) e d, (xs0 (ix3 h e d) : EReal) = S h.val d e) (e : Fin 256) (d : Fin 128) :
    (k0_pay86 (F := Ideal) (sl.r_4 (F := Ideal) c arg3 harg3 arg5 harg5 arg6 harg6 arg7 harg7 x1 x3 x4 x5) (sl.r_5 (F := Ideal) c arg5 harg5 arg6 harg6 arg7 harg7 x3 x4 x5) (View.readAt (Elt Ideal) arg4.view (Rect.unit (s := S1x256x1024) ![0, 128, 768] S1x64x256.size inb_S1x256x1024_S1x64x256_0_128_768).toLoadRect (harg4.unread x2)) (sl.v368 (F := Ideal) c arg3 harg3 arg4 harg4 arg5 harg5 arg6 harg6 arg7 harg7 arg9 harg9 x1 x2 x3 x4 x5 xs0) (ix3 (n0 := 1) (n1 := 256) (n2 := 128) 0 e d) : EReal) = runOf (tile x0 x1 x2 x3 x4 x5 3) (S 3) 3 d e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.st_2_3]
  exact next_of _ _ _ _ _ _ _ _ _ 128 384 768 (by omega) (by omega) (decay_eq _ _ _) (ld_vals x2 128 768 (by omega) (by omega) _) (fun e d => ld_2_3 hS e d) e d

/-- The store of head 3's output in chunk 2. -/
theorem ov_2_3 (hS : ∀ (h : Fin 4) e d, (xs0 (ix3 h e d) : EReal) = S h.val d e) (t : Fin 64) (e : Fin 256) :
    (k0_pay87 (F := Ideal) k0_pay5 (sl.r_2 (F := Ideal) c arg2 harg2 arg5 harg5 arg6 harg6 arg7 harg7 x0 x3 x4 x5) (sl.r_3 (F := Ideal) c arg3 harg3 arg5 harg5 arg6 harg6 arg7 harg7 x1 x3 x4 x5) (View.readAt (Elt Ideal) arg4.view (Rect.unit (s := S1x256x1024) ![0, 128, 768] S1x64x256.size inb_S1x256x1024_S1x64x256_0_128_768).toLoadRect (harg4.unread x2)) (sl.v368 (F := Ideal) c arg3 harg3 arg4 harg4 arg5 harg5 arg6 harg6 arg7 harg7 arg9 harg9 x1 x2 x3 x4 x5 xs0) (ix3 (n0 := 1) (n1 := 64) (n2 := 256) 0 t e) : EReal) = (tile x0 x1 x2 x3 x4 x5 3 2).out (runOf (tile x0 x1 x2 x3 x4 x5 3) (S 3) 2) t e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.ot_2_3]
  exact out_of _ _ _ _ _ _ _ _ 128 384 768 (by omega) (by omega) (ld_vals x2 128 768 (by omega) (by omega) _) (fun e d => ld_2_3 hS e d) t e

/-- The load of head 0's carried sum before chunk 3. -/
theorem ld_3_0 (hS : ∀ (h : Fin 4) e d, (xs0 (ix3 h e d) : EReal) = S h.val d e) (e : Fin 256) (d : Fin 128) :
    ((sl.v394 (F := Ideal) c arg3 harg3 arg4 harg4 arg5 harg5 arg6 harg6 arg7 harg7 arg9 harg9 x1 x2 x3 x4 x5 xs0) (ix3 (n0 := 1) (n1 := 256) (n2 := 128) 0 e d) : EReal) = runOf (tile x0 x1 x2 x3 x4 x5 0) (S 0) 3 d e := by
  unfold sl.v394 sl.HS0_12 sl.HS0_11 sl.HS0_10 sl.HS0_9
  rw [readCov_head]
  rw [head_miss _ _ 0 3 _ _ _ (by omega)]
  rw [head_miss _ _ 0 2 _ _ _ (by omega)]
  rw [head_miss _ _ 0 1 _ _ _ (by omega)]
  rw [head_hit]
  exact sv_2_0 hS e d

/-- The store of head 0's carried sum after chunk 3. -/
theorem sv_3_0 (hS : ∀ (h : Fin 4) e d, (xs0 (ix3 h e d) : EReal) = S h.val d e) (e : Fin 256) (d : Fin 128) :
    (k0_pay93 (F := Ideal) (sl.r_5 (F := Ideal) c arg5 harg5 arg6 harg6 arg7 harg7 x3 x4 x5) (sl.r_34 (F := Ideal) c arg3 harg3 arg5 harg5 arg6 harg6 arg7 harg7 x1 x3 x4 x5) (sl.r_35 (F := Ideal) c arg4 harg4 x2) (sl.v394 (F := Ideal) c arg3 harg3 arg4 harg4 arg5 harg5 arg6 harg6 arg7 harg7 arg9 harg9 x1 x2 x3 x4 x5 xs0) (ix3 (n0 := 1) (n1 := 256) (n2 := 128) 0 e d) : EReal) = runOf (tile x0 x1 x2 x3 x4 x5 0) (S 0) 4 d e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.st_3_0]
  exact next_of _ _ _ _ _ _ _ _ _ 192 0 0 (by omega) (by omega) (decay_eq _ _ _) (ld_vals x2 192 0 (by omega) (by omega) _) (fun e d => ld_3_0 hS e d) e d

/-- The store of head 0's output in chunk 3. -/
theorem ov_3_0 (hS : ∀ (h : Fin 4) e d, (xs0 (ix3 h e d) : EReal) = S h.val d e) (t : Fin 64) (e : Fin 256) :
    (k0_pay94 (F := Ideal) (sl.r_33 (F := Ideal) c arg2 harg2 arg5 harg5 arg6 harg6 arg7 harg7 x0 x3 x4 x5) (sl.r_35 (F := Ideal) c arg4 harg4 x2) (sl.r_36 (F := Ideal) c arg2 harg2 arg3 harg3 arg5 harg5 arg6 harg6 arg7 harg7 x0 x1 x3 x4 x5) (sl.v394 (F := Ideal) c arg3 harg3 arg4 harg4 arg5 harg5 arg6 harg6 arg7 harg7 arg9 harg9 x1 x2 x3 x4 x5 xs0) (ix3 (n0 := 1) (n1 := 64) (n2 := 256) 0 t e) : EReal) = (tile x0 x1 x2 x3 x4 x5 0 3).out (runOf (tile x0 x1 x2 x3 x4 x5 0) (S 0) 3) t e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.ot_3_0]
  exact out_of _ _ _ _ _ _ _ _ 192 0 0 (by omega) (by omega) (ld_vals x2 192 0 (by omega) (by omega) _) (fun e d => ld_3_0 hS e d) t e

/-- The load of head 1's carried sum before chunk 3. -/
theorem ld_3_1 (hS : ∀ (h : Fin 4) e d, (xs0 (ix3 h e d) : EReal) = S h.val d e) (e : Fin 256) (d : Fin 128) :
    ((sl.v420 (F := Ideal) c arg3 harg3 arg4 harg4 arg5 harg5 arg6 harg6 arg7 harg7 arg9 harg9 x1 x2 x3 x4 x5 xs0) (ix3 (n0 := 1) (n1 := 256) (n2 := 128) 0 e d) : EReal) = runOf (tile x0 x1 x2 x3 x4 x5 1) (S 1) 3 d e := by
  unfold sl.v420 sl.HS0_13 sl.HS0_12 sl.HS0_11 sl.HS0_10
  rw [readCov_head]
  rw [head_miss _ _ 1 0 _ _ _ (by omega)]
  rw [head_miss _ _ 1 3 _ _ _ (by omega)]
  rw [head_miss _ _ 1 2 _ _ _ (by omega)]
  rw [head_hit]
  exact sv_2_1 hS e d

/-- The store of head 1's carried sum after chunk 3. -/
theorem sv_3_1 (hS : ∀ (h : Fin 4) e d, (xs0 (ix3 h e d) : EReal) = S h.val d e) (e : Fin 256) (d : Fin 128) :
    (k0_pay100 (F := Ideal) (sl.r_37 (F := Ideal) c arg3 harg3 arg5 harg5 arg6 harg6 arg7 harg7 x1 x3 x4 x5) (sl.r_38 (F := Ideal) c arg4 harg4 x2) (sl.r_40 (F := Ideal) c arg3 harg3 arg4 harg4 arg5 harg5 arg6 harg6 arg7 harg7 arg9 harg9 x1 x2 x3 x4 x5 xs0) (ix3 (n0 := 1) (n1 := 256) (n2 := 128) 0 e d) : EReal) = runOf (tile x0 x1 x2 x3 x4 x5 1) (S 1) 4 d e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.st_3_1]
  exact next_of _ _ _ _ _ _ _ _ _ 192 128 256 (by omega) (by omega) (decay_eq _ _ _) (ld_vals x2 192 256 (by omega) (by omega) _) (fun e d => ld_3_1 hS e d) e d

/-- The store of head 1's output in chunk 3. -/
theorem ov_3_1 (hS : ∀ (h : Fin 4) e d, (xs0 (ix3 h e d) : EReal) = S h.val d e) (t : Fin 64) (e : Fin 256) :
    (k0_pay101 (F := Ideal) (sl.r_39 (F := Ideal) c arg2 harg2 arg3 harg3 arg4 harg4 arg5 harg5 arg6 harg6 arg7 harg7 arg9 harg9 x0 x1 x2 x3 x4 x5 xs0) (ix3 (n0 := 1) (n1 := 64) (n2 := 256) 0 t e) : EReal) = (tile x0 x1 x2 x3 x4 x5 1 3).out (runOf (tile x0 x1 x2 x3 x4 x5 1) (S 1) 3) t e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.ot_3_1]
  exact out_of _ _ _ _ _ _ _ _ 192 128 256 (by omega) (by omega) (ld_vals x2 192 256 (by omega) (by omega) _) (fun e d => ld_3_1 hS e d) t e

/-- The load of head 2's carried sum before chunk 3. -/
theorem ld_3_2 (hS : ∀ (h : Fin 4) e d, (xs0 (ix3 h e d) : EReal) = S h.val d e) (e : Fin 256) (d : Fin 128) :
    ((sl.v446 (F := Ideal) c arg3 harg3 arg4 harg4 arg5 harg5 arg6 harg6 arg7 harg7 arg9 harg9 x1 x2 x3 x4 x5 xs0) (ix3 (n0 := 1) (n1 := 256) (n2 := 128) 0 e d) : EReal) = runOf (tile x0 x1 x2 x3 x4 x5 2) (S 2) 3 d e := by
  unfold sl.v446 sl.HS0_14 sl.HS0_13 sl.HS0_12 sl.HS0_11
  rw [readCov_head]
  rw [head_miss _ _ 2 1 _ _ _ (by omega)]
  rw [head_miss _ _ 2 0 _ _ _ (by omega)]
  rw [head_miss _ _ 2 3 _ _ _ (by omega)]
  rw [head_hit]
  exact sv_2_2 hS e d

/-- The store of head 2's carried sum after chunk 3. -/
theorem sv_3_2 (hS : ∀ (h : Fin 4) e d, (xs0 (ix3 h e d) : EReal) = S h.val d e) (e : Fin 256) (d : Fin 128) :
    (k0_pay105 (F := Ideal) (sl.r_4 (F := Ideal) c arg3 harg3 arg5 harg5 arg6 harg6 arg7 harg7 x1 x3 x4 x5) (sl.r_5 (F := Ideal) c arg5 harg5 arg6 harg6 arg7 harg7 x3 x4 x5) (View.readAt (Elt Ideal) arg4.view (Rect.unit (s := S1x256x1024) ![0, 192, 512] S1x64x256.size inb_S1x256x1024_S1x64x256_0_192_512).toLoadRect (harg4.unread x2)) (sl.v446 (F := Ideal) c arg3 harg3 arg4 harg4 arg5 harg5 arg6 harg6 arg7 harg7 arg9 harg9 x1 x2 x3 x4 x5 xs0) (ix3 (n0 := 1) (n1 := 256) (n2 := 128) 0 e d) : EReal) = runOf (tile x0 x1 x2 x3 x4 x5 2) (S 2) 4 d e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.st_3_2]
  exact next_of _ _ _ _ _ _ _ _ _ 192 256 512 (by omega) (by omega) (decay_eq _ _ _) (ld_vals x2 192 512 (by omega) (by omega) _) (fun e d => ld_3_2 hS e d) e d

/-- The store of head 2's output in chunk 3. -/
theorem ov_3_2 (hS : ∀ (h : Fin 4) e d, (xs0 (ix3 h e d) : EReal) = S h.val d e) (t : Fin 64) (e : Fin 256) :
    (k0_pay106 (F := Ideal) (sl.r_41 (F := Ideal) c arg2 harg2 arg3 harg3 arg4 harg4 arg5 harg5 arg6 harg6 arg7 harg7 arg9 harg9 x0 x1 x2 x3 x4 x5 xs0) (ix3 (n0 := 1) (n1 := 64) (n2 := 256) 0 t e) : EReal) = (tile x0 x1 x2 x3 x4 x5 2 3).out (runOf (tile x0 x1 x2 x3 x4 x5 2) (S 2) 3) t e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.ot_3_2]
  exact out_of _ _ _ _ _ _ _ _ 192 256 512 (by omega) (by omega) (ld_vals x2 192 512 (by omega) (by omega) _) (fun e d => ld_3_2 hS e d) t e

/-- The load of head 3's carried sum before chunk 3. -/
theorem ld_3_3 (hS : ∀ (h : Fin 4) e d, (xs0 (ix3 h e d) : EReal) = S h.val d e) (e : Fin 256) (d : Fin 128) :
    ((sl.v472 (F := Ideal) c arg3 harg3 arg4 harg4 arg5 harg5 arg6 harg6 arg7 harg7 arg9 harg9 x1 x2 x3 x4 x5 xs0) (ix3 (n0 := 1) (n1 := 256) (n2 := 128) 0 e d) : EReal) = runOf (tile x0 x1 x2 x3 x4 x5 3) (S 3) 3 d e := by
  unfold sl.v472 sl.HS0_15 sl.HS0_14 sl.HS0_13 sl.HS0_12
  rw [readCov_head]
  rw [head_miss _ _ 3 2 _ _ _ (by omega)]
  rw [head_miss _ _ 3 1 _ _ _ (by omega)]
  rw [head_miss _ _ 3 0 _ _ _ (by omega)]
  rw [head_hit]
  exact sv_2_3 hS e d

/-- The store of head 3's carried sum after chunk 3. -/
theorem sv_3_3 (hS : ∀ (h : Fin 4) e d, (xs0 (ix3 h e d) : EReal) = S h.val d e) (e : Fin 256) (d : Fin 128) :
    (k0_pay109 (F := Ideal) (sl.r_4 (F := Ideal) c arg3 harg3 arg5 harg5 arg6 harg6 arg7 harg7 x1 x3 x4 x5) (sl.r_5 (F := Ideal) c arg5 harg5 arg6 harg6 arg7 harg7 x3 x4 x5) (View.readAt (Elt Ideal) arg4.view (Rect.unit (s := S1x256x1024) ![0, 192, 768] S1x64x256.size inb_S1x256x1024_S1x64x256_0_192_768).toLoadRect (harg4.unread x2)) (sl.v472 (F := Ideal) c arg3 harg3 arg4 harg4 arg5 harg5 arg6 harg6 arg7 harg7 arg9 harg9 x1 x2 x3 x4 x5 xs0) (ix3 (n0 := 1) (n1 := 256) (n2 := 128) 0 e d) : EReal) = runOf (tile x0 x1 x2 x3 x4 x5 3) (S 3) 4 d e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.st_3_3]
  exact next_of _ _ _ _ _ _ _ _ _ 192 384 768 (by omega) (by omega) (decay_eq _ _ _) (ld_vals x2 192 768 (by omega) (by omega) _) (fun e d => ld_3_3 hS e d) e d

/-- The store of head 3's output in chunk 3. -/
theorem ov_3_3 (hS : ∀ (h : Fin 4) e d, (xs0 (ix3 h e d) : EReal) = S h.val d e) (t : Fin 64) (e : Fin 256) :
    (k0_pay110 (F := Ideal) k0_pay5 (sl.r_2 (F := Ideal) c arg2 harg2 arg5 harg5 arg6 harg6 arg7 harg7 x0 x3 x4 x5) (sl.r_3 (F := Ideal) c arg3 harg3 arg5 harg5 arg6 harg6 arg7 harg7 x1 x3 x4 x5) (View.readAt (Elt Ideal) arg4.view (Rect.unit (s := S1x256x1024) ![0, 192, 768] S1x64x256.size inb_S1x256x1024_S1x64x256_0_192_768).toLoadRect (harg4.unread x2)) (sl.v472 (F := Ideal) c arg3 harg3 arg4 harg4 arg5 harg5 arg6 harg6 arg7 harg7 arg9 harg9 x1 x2 x3 x4 x5 xs0) (ix3 (n0 := 1) (n1 := 64) (n2 := 256) 0 t e) : EReal) = (tile x0 x1 x2 x3 x4 x5 3 3).out (runOf (tile x0 x1 x2 x3 x4 x5 3) (S 3) 3) t e := by
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, View.readAt_eq_ld, Memref.IsWhole.read_unread, View.ld_unit_zero (S := S1x256x512) hz3, View.ld_unit_zero (S := S1x256x256) hz3, View.ld_unit_zero (S := S256x512) hz2, View.ld_unit_zero (S := S1x512) hz2]
  rw [Cert.Layer.Scan.ot_3_3]
  exact out_of _ _ _ _ _ _ _ _ 192 384 768 (by omega) (by omega) (ld_vals x2 192 768 (by omega) (by omega) _) (fun e d => ld_3_3 hS e d) t e

end Cert.Layer.Scan.Later

end
-- ==== Proof.ScanBlock.lean ====
/- What a block of the scan writes and what it leaves for the next. -/
module

public import proofs.«01_k».proof.Proof.ScanFirst
public import proofs.«01_k».proof.Proof.ScanLater

@[expose] public section

noncomputable section

namespace Cert.Layer.Scan

open Idealize.ShloMosaic Idealize.SL.Sem Cert.Kernel7Ideal Cert.Kernel7Ideal.Gen Idealize.ShloMosaic.TcCoe

/-- An entry of a head is an entry of what a view reads of it. -/
theorem head_at {κ : Kind} {sp : Space} (v : View sig κ sp S4x256x128 .f32) (L : List (View.Piece (Elt Ideal) S4x256x128 .f32)) (h : ℕ) (hh : h < 4)
    (inb : ∀ a, (![h, 0, 0] : Fin 3 → Nat) a + S1x256x128.size a ≤ S4x256x128.size a) (e : Fin 256) (d : Fin 128) :
    (v.read (Elt Ideal) (v.writes (Elt Ideal) v.junk L) (ix3 ⟨h, hh⟩ e d) : EReal) = headOf v L h inb (ix3 (n0 := 1) (n1 := 256) (n2 := 128) 0 e d) :=
  (ld_head _ h hh inb e d).symm

set_option maxHeartbeats 2000000 in
/-- The first block of a batch writes each head's output in each of its chunks. -/
theorem out0_A_6_eq (c : Dev nD) (i : grid0.Coords) (arg2 : Memref sig .tc .vmem S1x256x512 .bf16) (harg2 : arg2.IsWhole) (arg3 : Memref sig .tc .vmem S1x256x512 .bf16) (harg3 : arg3.IsWhole) (arg4 : Memref sig .tc .vmem S1x256x1024 .bf16) (harg4 : arg4.IsWhole) (arg5 : Memref sig .tc .vmem S1x256x256 .bf16) (harg5 : arg5.IsWhole) (arg6 : Memref sig .tc .vmem S256x512 .bf16) (harg6 : arg6.IsWhole) (arg7 : Memref sig .tc .vmem S1x512 .f32) (harg7 : arg7.IsWhole) (arg8 : Memref sig .tc .vmem S1x256x1024 .f32) (harg8 : arg8.IsWhole) (arg9 : Memref sig .tc .vmem S4x256x128 .f32) (harg9 : arg9.IsWhole) (hc0 : cond0_0 i)
    (x0 : Vec Ideal S1x256x512 .bf16) (x1 : Vec Ideal S1x256x512 .bf16) (x2 : Vec Ideal S1x256x1024 .bf16) (x3 : Vec Ideal S1x256x256 .bf16) (x4 : Vec Ideal S256x512 .bf16) (x5 : Vec Ideal S1x512 .f32) :
    out0_A_6 (F := Ideal) c i arg2 harg2 arg3 harg3 arg4 harg4 arg5 harg5 arg6 harg6 arg7 harg7 arg8 harg8 arg9 harg9 hc0 x0 x1 x2 x3 x4 x5 = tileOut (tile x0 x1 x2 x3 x4 x5) (fun _ _ _ => 0) := by
  unfold out0_A_6
  rw [View.read_writes_eq_canon _ _ _ (cover0_A_6 c i arg2 harg2 arg3 harg3 arg4 harg4 arg5 harg5 arg6 harg6 arg7 harg7 arg8 harg8 arg9 harg9 hc0 x0 x1 x2 x3 x4 x5)]
  funext y
  refine View.canon_apply_of_pieces (tileOut (tile x0 x1 x2 x3 x4 x5) (fun _ _ _ => 0)) _ ?_ y (cover0_A_6 c i arg2 harg2 arg3 harg3 arg4 harg4 arg5 harg5 arg6 harg6 arg7 harg7 arg8 harg8 arg9 harg9 hc0 x0 x1 x2 x3 x4 x5 y)
  unfold kernelRun0_A
  dsimp only
  simp only [List.forall_mem_cons]
  exact ⟨piece_of (tile x0 x1 x2 x3 x4 x5) (fun _ _ _ => 0) 3 3 192 768 rfl rfl _ (fun t e => First.ov_3_3 t e) _,
    piece_of (tile x0 x1 x2 x3 x4 x5) (fun _ _ _ => 0) 2 3 192 512 rfl rfl _ (fun t e => First.ov_3_2 t e) _,
    piece_of (tile x0 x1 x2 x3 x4 x5) (fun _ _ _ => 0) 1 3 192 256 rfl rfl _ (fun t e => First.ov_3_1 t e) _,
    piece_of (tile x0 x1 x2 x3 x4 x5) (fun _ _ _ => 0) 0 3 192 0 rfl rfl _ (fun t e => First.ov_3_0 t e) _,
    piece_of (tile x0 x1 x2 x3 x4 x5) (fun _ _ _ => 0) 3 2 128 768 rfl rfl _ (fun t e => First.ov_2_3 t e) _,
    piece_of (tile x0 x1 x2 x3 x4 x5) (fun _ _ _ => 0) 2 2 128 512 rfl rfl _ (fun t e => First.ov_2_2 t e) _,
    piece_of (tile x0 x1 x2 x3 x4 x5) (fun _ _ _ => 0) 1 2 128 256 rfl rfl _ (fun t e => First.ov_2_1 t e) _,
    piece_of (tile x0 x1 x2 x3 x4 x5) (fun _ _ _ => 0) 0 2 128 0 rfl rfl _ (fun t e => First.ov_2_0 t e) _,
    piece_of (tile x0 x1 x2 x3 x4 x5) (fun _ _ _ => 0) 3 1 64 768 rfl rfl _ (fun t e => First.ov_1_3 t e) _,
    piece_of (tile x0 x1 x2 x3 x4 x5) (fun _ _ _ => 0) 2 1 64 512 rfl rfl _ (fun t e => First.ov_1_2 t e) _,
    piece_of (tile x0 x1 x2 x3 x4 x5) (fun _ _ _ => 0) 1 1 64 256 rfl rfl _ (fun t e => First.ov_1_1 t e) _,
    piece_of (tile x0 x1 x2 x3 x4 x5) (fun _ _ _ => 0) 0 1 64 0 rfl rfl _ (fun t e => First.ov_1_0 t e) _,
    piece_of (tile x0 x1 x2 x3 x4 x5) (fun _ _ _ => 0) 3 0 0 768 rfl rfl _ (fun t e => First.ov_0_3 t e) _,
    piece_of (tile x0 x1 x2 x3 x4 x5) (fun _ _ _ => 0) 2 0 0 512 rfl rfl _ (fun t e => First.ov_0_2 t e) _,
    piece_of (tile x0 x1 x2 x3 x4 x5) (fun _ _ _ => 0) 1 0 0 256 rfl rfl _ (fun t e => First.ov_0_1 t e) _,
    piece_of (tile x0 x1 x2 x3 x4 x5) (fun _ _ _ => 0) 0 0 0 0 rfl rfl _ (fun t e => First.ov_0_0 t e) _,
    fun p hp => absurd hp List.not_mem_nil⟩

set_option maxHeartbeats 2000000 in
/-- The first block of a batch leaves each head's carried sum after its four chunks. -/
theorem sout0_A_0_at (c : Dev nD) (i : grid0.Coords) (arg2 : Memref sig .tc .vmem S1x256x512 .bf16) (harg2 : arg2.IsWhole) (arg3 : Memref sig .tc .vmem S1x256x512 .bf16) (harg3 : arg3.IsWhole) (arg4 : Memref sig .tc .vmem S1x256x1024 .bf16) (harg4 : arg4.IsWhole) (arg5 : Memref sig .tc .vmem S1x256x256 .bf16) (harg5 : arg5.IsWhole) (arg6 : Memref sig .tc .vmem S256x512 .bf16) (harg6 : arg6.IsWhole) (arg7 : Memref sig .tc .vmem S1x512 .f32) (harg7 : arg7.IsWhole) (arg8 : Memref sig .tc .vmem S1x256x1024 .f32) (harg8 : arg8.IsWhole) (arg9 : Memref sig .tc .vmem S4x256x128 .f32) (harg9 : arg9.IsWhole) (hc0 : cond0_0 i)
    (x0 : Vec Ideal S1x256x512 .bf16) (x1 : Vec Ideal S1x256x512 .bf16) (x2 : Vec Ideal S1x256x1024 .bf16) (x3 : Vec Ideal S1x256x256 .bf16) (x4 : Vec Ideal S256x512 .bf16) (x5 : Vec Ideal S1x512 .f32) (h : Fin 4) (e : Fin 256) (d : Fin 128) :
    (sout0_A_0 (F := Ideal) c i arg2 harg2 arg3 harg3 arg4 harg4 arg5 harg5 arg6 harg6 arg7 harg7 arg8 harg8 arg9 harg9 hc0 x0 x1 x2 x3 x4 x5 (ix3 h e d) : EReal) = runOf (tile x0 x1 x2 x3 x4 x5 h.val) (fun _ _ => 0) 4 d e := by
  unfold sout0_A_0 kernelRun0_A
  dsimp only
  unfold kernelRun0_A.sl.HS0_16 kernelRun0_A.sl.HS0_15 kernelRun0_A.sl.HS0_14
  obtain ⟨h, hh⟩ := h
  match h, hh with
  | 0, hh =>
    refine (head_at VS0_0 _ 0 hh inb_S4x256x128_S1x256x128_0_0_0 e d).trans ?_
    rw [head_miss _ _ 0 3 _ _ _ (by omega)]
    rw [head_miss _ _ 0 2 _ _ _ (by omega)]
    rw [head_miss _ _ 0 1 _ _ _ (by omega)]
    rw [head_hit]
    exact First.sv_3_0 e d
  | 1, hh =>
    refine (head_at VS0_0 _ 1 hh inb_S4x256x128_S1x256x128_1_0_0 e d).trans ?_
    rw [head_miss _ _ 1 3 _ _ _ (by omega)]
    rw [head_miss _ _ 1 2 _ _ _ (by omega)]
    rw [head_hit]
    exact First.sv_3_1 e d
  | 2, hh =>
    refine (head_at VS0_0 _ 2 hh inb_S4x256x128_S1x256x128_2_0_0 e d).trans ?_
    rw [head_miss _ _ 2 3 _ _ _ (by omega)]
    rw [head_hit]
    exact First.sv_3_2 e d
  | 3, hh =>
    refine (head_at VS0_0 _ 3 hh inb_S4x256x128_S1x256x128_3_0_0 e d).trans ?_
    rw [head_hit]
    exact First.sv_3_3 e d

set_option maxHeartbeats 2000000 in
/-- A later block writes each head's output in each of its chunks. -/
theorem out0_B_6_eq (c : Dev nD) (i : grid0.Coords) (arg2 : Memref sig .tc .vmem S1x256x512 .bf16) (harg2 : arg2.IsWhole) (arg3 : Memref sig .tc .vmem S1x256x512 .bf16) (harg3 : arg3.IsWhole) (arg4 : Memref sig .tc .vmem S1x256x1024 .bf16) (harg4 : arg4.IsWhole) (arg5 : Memref sig .tc .vmem S1x256x256 .bf16) (harg5 : arg5.IsWhole) (arg6 : Memref sig .tc .vmem S256x512 .bf16) (harg6 : arg6.IsWhole) (arg7 : Memref sig .tc .vmem S1x512 .f32) (harg7 : arg7.IsWhole) (arg8 : Memref sig .tc .vmem S1x256x1024 .f32) (harg8 : arg8.IsWhole) (arg9 : Memref sig .tc .vmem S4x256x128 .f32) (harg9 : arg9.IsWhole) (hc0 : ¬cond0_0 i)
    (x0 : Vec Ideal S1x256x512 .bf16) (x1 : Vec Ideal S1x256x512 .bf16) (x2 : Vec Ideal S1x256x1024 .bf16) (x3 : Vec Ideal S1x256x256 .bf16) (x4 : Vec Ideal S256x512 .bf16) (x5 : Vec Ideal S1x512 .f32) (xs0 : Vec Ideal S4x256x128 .f32) (S : ℕ → Fin 128 → Fin 256 → EReal) (hS : ∀ (h : Fin 4) e d, (xs0 (ix3 h e d) : EReal) = S h.val d e) :
    out0_B_6 (F := Ideal) c i arg2 harg2 arg3 harg3 arg4 harg4 arg5 harg5 arg6 harg6 arg7 harg7 arg8 harg8 arg9 harg9 hc0 x0 x1 x2 x3 x4 x5 xs0 = tileOut (tile x0 x1 x2 x3 x4 x5) S := by
  unfold out0_B_6
  rw [View.read_writes_eq_canon _ _ _ (cover0_B_6 c i arg2 harg2 arg3 harg3 arg4 harg4 arg5 harg5 arg6 harg6 arg7 harg7 arg8 harg8 arg9 harg9 hc0 x0 x1 x2 x3 x4 x5 xs0)]
  funext y
  refine View.canon_apply_of_pieces (tileOut (tile x0 x1 x2 x3 x4 x5) S) _ ?_ y (cover0_B_6 c i arg2 harg2 arg3 harg3 arg4 harg4 arg5 harg5 arg6 harg6 arg7 harg7 arg8 harg8 arg9 harg9 hc0 x0 x1 x2 x3 x4 x5 xs0 y)
  unfold kernelRun0_B
  dsimp only
  simp only [List.forall_mem_cons]
  exact ⟨piece_of (tile x0 x1 x2 x3 x4 x5) S 3 3 192 768 rfl rfl _ (fun t e => Later.ov_3_3 hS t e) _,
    piece_of (tile x0 x1 x2 x3 x4 x5) S 2 3 192 512 rfl rfl _ (fun t e => Later.ov_3_2 hS t e) _,
    piece_of (tile x0 x1 x2 x3 x4 x5) S 1 3 192 256 rfl rfl _ (fun t e => Later.ov_3_1 hS t e) _,
    piece_of (tile x0 x1 x2 x3 x4 x5) S 0 3 192 0 rfl rfl _ (fun t e => Later.ov_3_0 hS t e) _,
    piece_of (tile x0 x1 x2 x3 x4 x5) S 3 2 128 768 rfl rfl _ (fun t e => Later.ov_2_3 hS t e) _,
    piece_of (tile x0 x1 x2 x3 x4 x5) S 2 2 128 512 rfl rfl _ (fun t e => Later.ov_2_2 hS t e) _,
    piece_of (tile x0 x1 x2 x3 x4 x5) S 1 2 128 256 rfl rfl _ (fun t e => Later.ov_2_1 hS t e) _,
    piece_of (tile x0 x1 x2 x3 x4 x5) S 0 2 128 0 rfl rfl _ (fun t e => Later.ov_2_0 hS t e) _,
    piece_of (tile x0 x1 x2 x3 x4 x5) S 3 1 64 768 rfl rfl _ (fun t e => Later.ov_1_3 hS t e) _,
    piece_of (tile x0 x1 x2 x3 x4 x5) S 2 1 64 512 rfl rfl _ (fun t e => Later.ov_1_2 hS t e) _,
    piece_of (tile x0 x1 x2 x3 x4 x5) S 1 1 64 256 rfl rfl _ (fun t e => Later.ov_1_1 hS t e) _,
    piece_of (tile x0 x1 x2 x3 x4 x5) S 0 1 64 0 rfl rfl _ (fun t e => Later.ov_1_0 hS t e) _,
    piece_of (tile x0 x1 x2 x3 x4 x5) S 3 0 0 768 rfl rfl _ (fun t e => Later.ov_0_3 hS t e) _,
    piece_of (tile x0 x1 x2 x3 x4 x5) S 2 0 0 512 rfl rfl _ (fun t e => Later.ov_0_2 hS t e) _,
    piece_of (tile x0 x1 x2 x3 x4 x5) S 1 0 0 256 rfl rfl _ (fun t e => Later.ov_0_1 hS t e) _,
    piece_of (tile x0 x1 x2 x3 x4 x5) S 0 0 0 0 rfl rfl _ (fun t e => Later.ov_0_0 hS t e) _,
    fun p hp => absurd hp List.not_mem_nil⟩

set_option maxHeartbeats 2000000 in
/-- A later block leaves each head's carried sum after its four chunks. -/
theorem sout0_B_0_at (c : Dev nD) (i : grid0.Coords) (arg2 : Memref sig .tc .vmem S1x256x512 .bf16) (harg2 : arg2.IsWhole) (arg3 : Memref sig .tc .vmem S1x256x512 .bf16) (harg3 : arg3.IsWhole) (arg4 : Memref sig .tc .vmem S1x256x1024 .bf16) (harg4 : arg4.IsWhole) (arg5 : Memref sig .tc .vmem S1x256x256 .bf16) (harg5 : arg5.IsWhole) (arg6 : Memref sig .tc .vmem S256x512 .bf16) (harg6 : arg6.IsWhole) (arg7 : Memref sig .tc .vmem S1x512 .f32) (harg7 : arg7.IsWhole) (arg8 : Memref sig .tc .vmem S1x256x1024 .f32) (harg8 : arg8.IsWhole) (arg9 : Memref sig .tc .vmem S4x256x128 .f32) (harg9 : arg9.IsWhole) (hc0 : ¬cond0_0 i)
    (x0 : Vec Ideal S1x256x512 .bf16) (x1 : Vec Ideal S1x256x512 .bf16) (x2 : Vec Ideal S1x256x1024 .bf16) (x3 : Vec Ideal S1x256x256 .bf16) (x4 : Vec Ideal S256x512 .bf16) (x5 : Vec Ideal S1x512 .f32) (xs0 : Vec Ideal S4x256x128 .f32) (S : ℕ → Fin 128 → Fin 256 → EReal) (hS : ∀ (h : Fin 4) e d, (xs0 (ix3 h e d) : EReal) = S h.val d e) (h : Fin 4) (e : Fin 256) (d : Fin 128) :
    (sout0_B_0 (F := Ideal) c i arg2 harg2 arg3 harg3 arg4 harg4 arg5 harg5 arg6 harg6 arg7 harg7 arg8 harg8 arg9 harg9 hc0 x0 x1 x2 x3 x4 x5 xs0 (ix3 h e d) : EReal) = runOf (tile x0 x1 x2 x3 x4 x5 h.val) (S h.val) 4 d e := by
  unfold sout0_B_0 kernelRun0_B
  dsimp only
  unfold kernelRun0_B.sl.HS0_15 kernelRun0_B.sl.HS0_14 kernelRun0_B.sl.HS0_13
  obtain ⟨h, hh⟩ := h
  match h, hh with
  | 0, hh =>
    refine (head_at VS0_0 _ 0 hh inb_S4x256x128_S1x256x128_0_0_0 e d).trans ?_
    rw [head_miss _ _ 0 3 _ _ _ (by omega)]
    rw [head_miss _ _ 0 2 _ _ _ (by omega)]
    rw [head_miss _ _ 0 1 _ _ _ (by omega)]
    rw [head_hit]
    exact Later.sv_3_0 hS e d
  | 1, hh =>
    refine (head_at VS0_0 _ 1 hh inb_S4x256x128_S1x256x128_1_0_0 e d).trans ?_
    rw [head_miss _ _ 1 3 _ _ _ (by omega)]
    rw [head_miss _ _ 1 2 _ _ _ (by omega)]
    rw [head_hit]
    exact Later.sv_3_1 hS e d
  | 2, hh =>
    refine (head_at VS0_0 _ 2 hh inb_S4x256x128_S1x256x128_2_0_0 e d).trans ?_
    rw [head_miss _ _ 2 3 _ _ _ (by omega)]
    rw [head_hit]
    exact Later.sv_3_2 hS e d
  | 3, hh =>
    refine (head_at VS0_0 _ 3 hh inb_S4x256x128_S1x256x128_3_0_0 e d).trans ?_
    rw [head_hit]
    exact Later.sv_3_3 hS e d

end Cert.Layer.Scan

end
-- ==== Proof.ScanGate.lean ====
/- The decays of a block: their logarithms, and the sums of those within each chunk. -/
module

public import proofs.«01_k».proof.Proof.ScanTile
public import proofs.«01_k».proof.Proof.ScanSpec
public import Idealize.ShloMosaic.Lib.WordCmp

@[expose] public section

noncomputable section

namespace Cert.Layer.Scan

open Idealize.ShloMosaic Idealize.SL.Sem Cert.Kernel7Ideal Cert.Kernel7Ideal.Gen Idealize.ShloMosaic.TcCoe

/-- The word of 16. -/
theorem word_16 : Ideal.ofBits .f32 0x41800000#32 = ((16 : ℝ) : EReal) := by
  simp [Ideal.ofBits, Ideal.ieee]; rw [← EReal.coe_mul]; norm_num

/-- The word of 1/16. -/
theorem word_16th : Ideal.ofBits .f32 0x3D800000#32 = ((16 : ℝ)⁻¹ : EReal) := by
  rw [← EReal.coe_inv]
  simp [Ideal.ofBits, Ideal.ieee]; rw [← EReal.coe_mul]; norm_num

/-- The logarithm of one plus an exponential is not negative. -/
theorem log1p_exp_nonneg (u : EReal) : 0 ≤ Ideal.log1p (Ideal.exp u) := by
  unfold Ideal.log1p
  induction u with
  | bot => show 0 ≤ Ideal.log (1 + 0); rw [add_zero]; show (0 : EReal) ≤ if (1 : ℝ) ≤ 0 then ⊥ else (Real.log 1 : EReal); rw [if_neg (by norm_num)]; simp
  | top => show 0 ≤ Ideal.log (1 + ⊤); rw [show (1 : EReal) + ⊤ = ⊤ from rfl]; exact le_top
  | coe r =>
    show 0 ≤ Ideal.log (1 + (Real.exp r : EReal))
    have hp := Real.exp_pos r
    rw [show (1 : EReal) + (Real.exp r : EReal) = ((1 + Real.exp r : ℝ) : EReal) by simp]
    show (0 : EReal) ≤ if 1 + Real.exp r ≤ 0 then ⊥ else (Real.log (1 + Real.exp r) : EReal)
    rw [if_neg (by linarith)]
    exact_mod_cast Real.log_nonneg (by linarith)

/-- The log decay as the kernel forms it. -/
theorem decay_form (z : EReal) : (min z 0 - Ideal.log1p (Ideal.exp (0 - max z (-z)))) * Ideal.ofBits .f32 0x3D800000#32 = logDecay z := by
  unfold logDecay Ideal.div
  rw [word_16, word_16th, if_neg (by norm_num)]
  have hl := log1p_exp_nonneg (-(max (-z) z))
  rw [neg_neg, sub_eq_add_neg, zero_sub, max_comm z (-z), EReal.neg_add, sub_eq_add_neg]
  · congr 2
    rcases le_total z 0 with h | h
    · rw [min_eq_left h, max_eq_left (by simpa using EReal.neg_le_neg_iff.2 h), neg_neg]
    · rw [min_eq_right h, max_eq_right (by simpa using EReal.neg_le_neg_iff.2 h), neg_zero]
  · exact Or.inl (ne_of_gt (lt_of_lt_of_le EReal.bot_lt_zero (le_max_right _ _)))
  · exact Or.inr (ne_of_gt (lt_of_lt_of_le EReal.bot_lt_zero hl))

/-- A log decay is not positive. -/
theorem logDecay_le (z : EReal) : logDecay z ≤ 0 := by
  unfold logDecay Ideal.div
  rw [word_16, if_neg (by norm_num)]
  have h : -(max (-z) 0 + Ideal.log1p (Ideal.exp (-(max (-z) (-(-z)))))) ≤ 0 := by
    rw [EReal.neg_le, neg_zero]
    exact add_nonneg (le_max_right _ _) (log1p_exp_nonneg _)
  rw [← EReal.coe_inv]
  exact mul_nonpos_of_nonpos_of_nonneg h (by exact_mod_cast (by norm_num : (0 : ℝ) ≤ 16⁻¹))

/-- A log decay plus what its own difference leaves is the log decay. -/
theorem add_rest (z : EReal) : logDecay z + (logDecay z - logDecay z) = logDecay z := by
  have h := logDecay_le z
  generalize logDecay z = y at h ⊢
  induction y with
  | bot => rfl
  | top => exact absurd h (not_le_of_gt EReal.zero_lt_top)
  | coe r => rw [← EReal.coe_sub, ← EReal.coe_add]; norm_num

/-- The chunk of a place of a block, as a word. -/
theorem chunk_word : ∀ r : Fin 256, Scalar.shrsi (BitVec.ofNat 32 r.val) 6#32 = BitVec.ofNat 32 (r.val / 64) := by decide +kernel

/-- Small words are equal when their numbers are. -/
theorem word_eq : ∀ a b : Fin 4, Scalar.cmpi .eq (BitVec.ofNat 32 a.val) (BitVec.ofNat 32 b.val) = 1 ↔ b.val = a.val := by decide +kernel

/-- A conjunction of bits. -/
theorem and_one : ∀ a b : BitVec 1, Scalar.andi a b = 1 ↔ a = 1 ∧ b = 1 := by decide +kernel

/-- Two places of a block are in the same chunk. -/
theorem same_word (r k : Fin 256) : Scalar.cmpi .eq (Scalar.shrsi (BitVec.ofNat 32 r.val) 6#32) (Scalar.shrsi (BitVec.ofNat 32 k.val) 6#32) = 1 ↔ k.val / 64 = r.val / 64 := by
  rw [chunk_word, chunk_word]
  exact word_eq ⟨r.val / 64, by omega⟩ ⟨k.val / 64, by omega⟩

/-- One place of a block is not after another. -/
theorem le_word (r k : Fin 256) : Scalar.cmpi .sle (BitVec.ofNat 32 k.val) (BitVec.ofNat 32 r.val) = 1 ↔ k ≤ r := by
  have h : Scalar.cmpi .sle (BitVec.ofNat 32 k.val) (BitVec.ofNat 32 r.val) = BitVec.ofBool ((BitVec.ofNat 32 k.val).sle (BitVec.ofNat 32 r.val)) := rfl
  rw [h, BitVec.sle_eq_decide, WordCmp.toInt_ofNat_of_lt (by omega), WordCmp.toInt_ofNat_of_lt (by omega), Fin.le_def]
  by_cases hk : k.val ≤ r.val
  · rw [decide_eq_true (by omega)]; simp [hk]
  · rw [decide_eq_false (by omega)]; simp [hk]

/-- The mask of a block's prefix sums: one where the row's chunk is the column's and the column is not after the row. -/
theorem tri_apply (r k : Fin 256) : (k0_pay3 (F := Ideal) (ix2 r k) : EReal) = if k.val / 64 = r.val / 64 ∧ k ≤ r then 1 else 0 := by
  have h : (k0_pay3 (F := Ideal) (ix2 r k) : EReal)
      = Scalar.select (Scalar.andi (Scalar.cmpi .eq (Scalar.shrsi (BitVec.ofNat 32 r.val) 6#32) (Scalar.shrsi (BitVec.ofNat 32 k.val) 6#32)) (Scalar.cmpi .sle (BitVec.ofNat 32 k.val) (BitVec.ofNat 32 r.val)))
        (Ideal.ofBits .f32 0x3F800000#32) (Ideal.ofBits .f32 0x00000000#32) := by
    pointwise [k0_pay3, k0_pay2]
    rfl
  rw [h]
  have e : ∀ r k : Fin 256, _ ↔ k.val / 64 = r.val / 64 ∧ k ≤ r := fun r k => (and_one _ _).trans (and_congr (same_word r k) (le_word r k))
  unfold Scalar.select
  rw [Ideal.ofBits_zero_f32, Ideal.ofBits_one_f32]
  exact if_congr (e r k) rfl rfl

/-- The mask of a block's chunk sums. -/
theorem same_apply (r k : Fin 256) : (k0_pay4 (F := Ideal) (ix2 r k) : EReal) = if k.val / 64 = r.val / 64 then 1 else 0 := by
  have h : (k0_pay4 (F := Ideal) (ix2 r k) : EReal)
      = Scalar.select (Scalar.cmpi .eq (Scalar.shrsi (BitVec.ofNat 32 r.val) 6#32) (Scalar.shrsi (BitVec.ofNat 32 k.val) 6#32))
        (Ideal.ofBits .f32 0x3F800000#32) (Ideal.ofBits .f32 0x00000000#32) := by
    pointwise [k0_pay4, k0_pay2]
    rfl
  rw [h]
  have e := same_word
  unfold Scalar.select
  rw [Ideal.ofBits_zero_f32, Ideal.ofBits_one_f32]
  exact if_congr (e r k) rfl rfl

variable (x3 : Vec Ideal S1x256x256 .bf16) (x4 : Vec Ideal S256x512 .bf16) (x5 : Vec Ideal S1x512 .f32)

/-- The decay's argument in a block. -/
def zOf (r : Fin 256) (d : Fin 512) : EReal := ∑ k : Fin 256, x3 (ix3 0 r k) * x4 (ix2 k d) + x5 (ix2 0 d)

/-- The decay's argument in a block. -/
theorem z_apply (r : Fin 256) (d : Fin 512) : (k0_pay6 x3 x4 x5 (ix2 r d) : EReal) = zOf x3 x4 x5 r d := by
  unfold zOf
  pointwise [k0_pay6]

/-- The log decays in a block. -/
theorem la_apply (r : Fin 256) (d : Fin 512) : (k0_pay9 (k0_pay7 x3 x4 x5) (k0_pay8 x3 x4 x5) (ix2 r d) : EReal) = logDecay (zOf x3 x4 x5 r d) := by
  rw [← decay_form, ← z_apply]
  pointwise [k0_pay9, k0_pay7, k0_pay8]
  rfl

/-- The first part of the log decays. -/
theorem hi_apply (r : Fin 256) (d : Fin 512) : (k0_pay10 (k0_pay7 x3 x4 x5) (k0_pay8 x3 x4 x5) (ix2 r d) : EReal) = logDecay (zOf x3 x4 x5 r d) := by
  rw [← la_apply]
  pointwise [k0_pay10]

/-- The second part of the log decays: what the first leaves. -/
theorem lo_apply (r : Fin 256) (d : Fin 512) : (k0_pay11 (k0_pay7 x3 x4 x5) (k0_pay8 x3 x4 x5) (ix2 r d) : EReal) = logDecay (zOf x3 x4 x5 r d) - logDecay (zOf x3 x4 x5 r d) := by
  rw [← la_apply]
  pointwise [k0_pay11, k0_pay10]

/-- A masked sum of the two parts of the log decays is the sum of the log decays. -/
theorem two_sums (M : Fin 256 → EReal) (P : Fin 256 → Prop) [DecidablePred P] (hM : ∀ k, M k = if P k then 1 else 0) (z : Fin 256 → EReal) :
    ∑ k, M k * logDecay (z k) + ∑ k, M k * (logDecay (z k) - logDecay (z k)) = ∑ k, if P k then logDecay (z k) else 0 := by
  rw [← Finset.sum_add_distrib]
  refine Finset.sum_congr rfl fun k _ => ?_
  rw [hM k]
  by_cases h : P k
  · rw [if_pos h, if_pos h, one_mul, one_mul, add_rest]
  · rw [if_neg h, if_neg h, zero_mul, zero_mul, add_zero]

/-- The decays' running sum within a chunk. -/
theorem cum_apply' (r : Fin 256) (d : Fin 512) : (k0_pay12 k0_pay3 (k0_pay7 x3 x4 x5) (k0_pay8 x3 x4 x5) (ix2 r d) : EReal)
    = ∑ k : Fin 256, if k.val / 64 = r.val / 64 ∧ k ≤ r then logDecay (zOf x3 x4 x5 k d) else 0 := by
  have e : (k0_pay12 k0_pay3 (k0_pay7 x3 x4 x5) (k0_pay8 x3 x4 x5) (ix2 r d) : EReal)
      = ∑ k : Fin 256, (k0_pay3 (F := Ideal) (ix2 r k) : EReal) * (k0_pay10 (k0_pay7 x3 x4 x5) (k0_pay8 x3 x4 x5) (ix2 k d) : EReal)
        + ∑ k : Fin 256, (k0_pay3 (F := Ideal) (ix2 r k) : EReal) * (k0_pay11 (k0_pay7 x3 x4 x5) (k0_pay8 x3 x4 x5) (ix2 k d) : EReal) := by
    pointwise [k0_pay12]
  rw [e]
  simp only [hi_apply, lo_apply]
  exact two_sums _ _ (tri_apply r) (fun k => zOf x3 x4 x5 k d)

/-- The decays' sum over a chunk. -/
theorem total_apply' (r : Fin 256) (d : Fin 512) : (k0_pay13 k0_pay4 (k0_pay7 x3 x4 x5) (k0_pay8 x3 x4 x5) (ix2 r d) : EReal)
    = ∑ k : Fin 256, if k.val / 64 = r.val / 64 then logDecay (zOf x3 x4 x5 k d) else 0 := by
  have e : (k0_pay13 k0_pay4 (k0_pay7 x3 x4 x5) (k0_pay8 x3 x4 x5) (ix2 r d) : EReal)
      = ∑ k : Fin 256, (k0_pay4 (F := Ideal) (ix2 r k) : EReal) * (k0_pay10 (k0_pay7 x3 x4 x5) (k0_pay8 x3 x4 x5) (ix2 k d) : EReal)
        + ∑ k : Fin 256, (k0_pay4 (F := Ideal) (ix2 r k) : EReal) * (k0_pay11 (k0_pay7 x3 x4 x5) (k0_pay8 x3 x4 x5) (ix2 k d) : EReal) := by
    pointwise [k0_pay13]
  rw [e]
  simp only [hi_apply, lo_apply]
  exact two_sums _ _ (same_apply r) (fun k => zOf x3 x4 x5 k d)

/-- A sum over a block that keeps one chunk's places is the sum over the chunk. -/
theorem sum_chunk (j : ℕ) (hj : j < 4) (f : Fin 256 → EReal) (h0 : ∀ k : Fin 256, k.val / 64 ≠ j → f k = 0) :
    ∑ k, f k = ∑ s : Fin 64, f ⟨64 * j + s.val, by omega⟩ := by
  symm
  refine Finset.sum_bij_ne_zero (fun s _ _ => ⟨64 * j + s.val, by omega⟩) (fun _ _ _ => Finset.mem_univ _) (fun a _ _ b _ _ h => Fin.ext (by have := congrArg Fin.val h; dsimp only at this; omega)) (fun k _ hk => ?_) (fun _ _ _ => rfl)
  have hkj : k.val / 64 = j := by by_contra hne; exact hk (h0 k hne)
  have e : k = ⟨64 * j + (⟨k.val % 64, by omega⟩ : Fin 64).val, by show 64 * j + k.val % 64 < 256; omega⟩ := Fin.ext (by show k.val = 64 * j + k.val % 64; omega)
  exact ⟨⟨k.val % 64, by omega⟩, Finset.mem_univ _, by rw [← e]; exact hk, e.symm⟩

/-- Chunk `j` of head `h` of a block, from its queries, keys, values and log decays. -/
theorem tile_eq (x0 x1 : Vec Ideal S1x256x512 .bf16) (x2 : Vec Ideal S1x256x1024 .bf16) (h : Fin 4) (j : Fin 4) :
    tile x0 x1 x2 x3 x4 x5 h.val j.val
      = Chunk.of (fun t d => x0 (ix3 0 ⟨64 * j.val + t.val, by omega⟩ ⟨128 * h.val + d.val, by omega⟩)) (fun t d => x1 (ix3 0 ⟨64 * j.val + t.val, by omega⟩ ⟨128 * h.val + d.val, by omega⟩))
        (fun t e => x2 (ix3 0 ⟨64 * j.val + t.val, by omega⟩ ⟨256 * h.val + e.val, by omega⟩)) (fun t d => logDecay (zOf x3 x4 x5 ⟨64 * j.val + t.val, by omega⟩ ⟨128 * h.val + d.val, by omega⟩)) := by
  have hc : ∀ (t : Fin 64) (d : Fin 128), (k0_pay12 k0_pay3 (k0_pay7 x3 x4 x5) (k0_pay8 x3 x4 x5) (ix2 (Fin.ofNat 256 (64 * j.val + t.val)) (Fin.ofNat 512 (128 * h.val + d.val))) : EReal)
      = cum (fun t d => logDecay (zOf x3 x4 x5 ⟨64 * j.val + t.val, by omega⟩ ⟨128 * h.val + d.val, by omega⟩)) t d := fun t d => by
    rw [ofNat_lt 256 (64 * j.val + t.val) (by omega), ofNat_lt 512 (128 * h.val + d.val) (by omega), cum_apply', sum_chunk j.val j.isLt]
    · unfold cum
      refine Finset.sum_congr rfl fun s _ => ?_
      refine if_congr ?_ rfl rfl
      rw [Fin.le_def, Fin.le_def]
      dsimp only
      constructor
      · intro hh; omega
      · intro hh; omega
    · intro k hk
      refine if_neg fun hh => hk ?_
      have := hh.1
      dsimp only at this
      omega
  have ht : ∀ (t : Fin 64) (d : Fin 128), (k0_pay13 k0_pay4 (k0_pay7 x3 x4 x5) (k0_pay8 x3 x4 x5) (ix2 (Fin.ofNat 256 (64 * j.val + t.val)) (Fin.ofNat 512 (128 * h.val + d.val))) : EReal)
      = total (fun t d => logDecay (zOf x3 x4 x5 ⟨64 * j.val + t.val, by omega⟩ ⟨128 * h.val + d.val, by omega⟩)) d := fun t d => by
    rw [ofNat_lt 256 (64 * j.val + t.val) (by omega), ofNat_lt 512 (128 * h.val + d.val) (by omega), total_apply', sum_chunk j.val j.isLt]
    · unfold total
      refine Finset.sum_congr rfl fun s _ => if_pos ?_
      dsimp only
      omega
    · intro k hk
      refine if_neg fun hh => hk ?_
      dsimp only at hh
      omega
  unfold tile blk Chunk.of
  congr 1
  · funext t d
    rw [← hc t d]
    beta_reduce
    rw [← ofNat_lt 256 (64 * j.val + t.val) (by omega), ← ofNat_lt 512 (128 * h.val + d.val) (by omega), mul_right_comm]
    generalize Fin.ofNat 256 (64 * j.val + t.val) = r
    generalize Fin.ofNat 512 (128 * h.val + d.val) = q
    pointwise [k0_pay15]
  · funext t d
    rw [← hc t d]
    beta_reduce
    rw [← ofNat_lt 256 (64 * j.val + t.val) (by omega), ← ofNat_lt 512 (128 * h.val + d.val) (by omega), ← zero_sub]
    generalize Fin.ofNat 256 (64 * j.val + t.val) = r
    generalize Fin.ofNat 512 (128 * h.val + d.val) = q
    pointwise [k0_pay16, k0_pay14]
  · funext t d
    rw [← hc t d, ← ht t d]
    beta_reduce
    rw [← ofNat_lt 256 (64 * j.val + t.val) (by omega), ← ofNat_lt 512 (128 * h.val + d.val) (by omega)]
    generalize Fin.ofNat 256 (64 * j.val + t.val) = r
    generalize Fin.ofNat 512 (128 * h.val + d.val) = q
    pointwise [k0_pay17, k0_pay14]
  · funext t e
    rw [ofNat_lt 256 (64 * j.val + t.val) (by omega), ofNat_lt 1024 (256 * h.val + e.val) (by omega)]
  · funext d
    rw [← ht 0 d]
    rfl

end Cert.Layer.Scan

end
-- ==== Proof.ScanArray.lean ====
/- What the result array of the scan's kernel holds: every point's block is the scan's output of its rows. -/
module

public import proofs.«01_k».proof.Proof.Gen.Kernel7Ideal.Value
public import proofs.«01_k».proof.Proof.ScanBlock
public import proofs.«01_k».proof.Proof.ScanGate
public import Idealize.ShloMosaic.Lib.Routing.OpsOne
public import Idealize.ShloMosaic.Lib.Routing.OpsPair
public import Idealize.ShloMosaic.Lib.Routing.OpsSet
public import Idealize.ShloMosaic.Lib.StableHlo.ReadAt
public import Idealize.ShloMosaic.Lib.Pipeline.ValueKit.Point

@[expose] public section

set_option maxRecDepth 16384

noncomputable section

namespace Cert.Layer.Scan

open Idealize.ShloMosaic Idealize.SL.Sem Cert.Kernel7Ideal Cert.Kernel7Ideal.Gen Cert.Kernel7Ideal.Value Idealize.ShloMosaic.TcCoe

variable (m : (ℓ : Loc nD τ sig) → Buf (Elt Ideal) ℓ)

/-- The grid coordinates of a point: batch and block of rows. -/
def tb (t : Fin cfg0.N) : Fin 2 := ⟨t.val / 33, by have h : t.val < 66 := t.isLt; omega⟩
def ti (t : Fin cfg0.N) : Fin 33 := ⟨t.val % 33, by omega⟩

/-- Row `r` of a point's block. -/
def row (t : Fin cfg0.N) (r : Fin 256) : Fin 8448 := ⟨256 * (ti t).val + r.val, by have := (ti t).isLt; omega⟩

/-- The scan's arguments in memory. -/
abbrev argP (c : Dev nD) : Vec Ideal S2x8448x9984 .bf16 := m ((c : Thread nD τ).loc main_arg0)
/-- The decay maps. -/
abbrev argW (c : Dev nD) : Vec Ideal S2x16x512 .f32 := m ((c : Thread nD τ).loc main_arg1)
/-- The decay biases. -/
abbrev argB (c : Dev nD) : Vec Ideal S2x512 .f32 := m ((c : Thread nD τ).loc main_arg2)

/-- The block of operand 0 that a point reads or writes. -/
theorem idx0 : ∀ t : Fin cfg0.N, win0_0.index t = ![t.val / 33, t.val % 33, 6] := (by decide +kernel : ∀ t : Fin grid0.N, _)
/-- The block of operand 1 that a point reads or writes. -/
theorem idx1 : ∀ t : Fin cfg0.N, win0_1.index t = ![t.val / 33, t.val % 33, 7] := (by decide +kernel : ∀ t : Fin grid0.N, _)
/-- The block of operand 2 that a point reads or writes. -/
theorem idx2 : ∀ t : Fin cfg0.N, win0_2.index t = ![t.val / 33, t.val % 33, 4] := (by decide +kernel : ∀ t : Fin grid0.N, _)
/-- The block of operand 3 that a point reads or writes. -/
theorem idx3 : ∀ t : Fin cfg0.N, win0_3.index t = ![t.val / 33, t.val % 33, 38] := (by decide +kernel : ∀ t : Fin grid0.N, _)
/-- The block of operand 4 that a point reads or writes. -/
theorem idx4 : ∀ t : Fin cfg0.N, win0_4.index t = ![0, 0] := (by decide +kernel : ∀ t : Fin grid0.N, _)
/-- The block of operand 5 that a point reads or writes. -/
theorem idx5 : ∀ t : Fin cfg0.N, win0_5.index t = ![0, 0] := (by decide +kernel : ∀ t : Fin grid0.N, _)
/-- The block of operand 6 that a point reads or writes. -/
theorem idx6 : ∀ t : Fin cfg0.N, win0_6.index t = ![t.val / 33, t.val % 33, 0] := (by decide +kernel : ∀ t : Fin grid0.N, _)

/-- The block of queries staged at a point. -/
theorem x0_at (c : Dev nD) (t : Fin cfg0.N) (r : Fin 256) (k : Fin 512) :
    (X0_0 m c t : Vec Ideal S1x256x512 .bf16) (ix3 0 r k) = argP m c (ix3 (tb t) (row t r) ⟨3072 + k.val, by omega⟩) := by
  unfold argP
  rw [← V_main_arg0 m c]
  unfold X0_0 Pipeline.Window.fill
  rw [dif_pos (moved0_0 t _)]
  blk_simp [iblk]
  refine congrArg _ ?_
  unfold row tb ti
  blk_ext [idx0]

/-- The block of keys staged at a point. -/
theorem x1_at (c : Dev nD) (t : Fin cfg0.N) (r : Fin 256) (k : Fin 512) :
    (X0_1 m c t : Vec Ideal S1x256x512 .bf16) (ix3 0 r k) = argP m c (ix3 (tb t) (row t r) ⟨3584 + k.val, by omega⟩) := by
  unfold argP
  rw [← V_main_arg0 m c]
  unfold X0_1 Pipeline.Window.fill
  rw [dif_pos (moved0_1 t _)]
  blk_simp [iblk]
  refine congrArg _ ?_
  unfold row tb ti
  blk_ext [idx1]

/-- The block of values staged at a point. -/
theorem x2_at (c : Dev nD) (t : Fin cfg0.N) (r : Fin 256) (k : Fin 1024) :
    (X0_2 m c t : Vec Ideal S1x256x1024 .bf16) (ix3 0 r k) = argP m c (ix3 (tb t) (row t r) ⟨4096 + k.val, by omega⟩) := by
  unfold argP
  rw [← V_main_arg0 m c]
  unfold X0_2 Pipeline.Window.fill
  rw [dif_pos (moved0_2 t _)]
  blk_simp [iblk]
  refine congrArg _ ?_
  unfold row tb ti
  blk_ext [idx2]

/-- The block of the decay's operand staged at a point. -/
theorem x3_at (c : Dev nD) (t : Fin cfg0.N) (r : Fin 256) (k : Fin 256) :
    (iblk m c 3 t : Vec Ideal S1x256x256 .bf16) (ix3 0 r k) = argP m c (ix3 (tb t) (row t r) ⟨9728 + k.val, by omega⟩) := by
  unfold argP
  rw [← V_main_arg0 m c]
  blk_simp [iblk]
  refine congrArg _ ?_
  unfold row tb ti
  blk_ext [idx3]

/-- The decay's weights: the host pads sixteen rows with zeros. -/
theorem x4_at (c : Dev nD) (t : Fin cfg0.N) (k : Fin 256) (d : Fin 512) :
    (iblk m c 4 t : Vec Ideal S256x512 .bf16) (ix2 k d) = (V m c main_v5 : Vec Ideal S256x512 .bf16) (ix2 k d) := by
  blk_simp [iblk]
  refine congrArg _ ?_
  blk_ext [idx4]

/-- The decay's bias. -/
theorem x5_at (c : Dev nD) (t : Fin cfg0.N) (d : Fin 512) :
    (iblk m c 5 t : Vec Ideal S1x512 .f32) (ix2 0 d) = (V m c main_v8 : Vec Ideal S1x512 .f32) (ix2 0 d) := by
  blk_simp [iblk]
  refine congrArg _ ?_
  blk_ext [idx5]

/-- The biases as the host code hands them to the call. -/
theorem bias_at (c : Dev nD) (d : Fin 512) : (V m c main_v8 : Vec Ideal S1x512 .f32) (ix2 0 d) = argB m c (ix2 0 d) := by
  unfold V
  after_reads_at

/-- A row written into an array from its first row on. -/
theorem rows_set (x : S256x512.Idx → EReal) (idx : IVec S1 32) (h0 : idx (ix1 0) = 0#32) (u : S16x512.Idx → EReal) (k : Fin 256) (d : Fin 512) :
    Host.scatter scatter_S256x512_S1_S16x512_01_n_0_0 (fun _ b => b) x idx u (ix2 k d) = if hk : k.val < 16 then u (ix2 ⟨k.val, hk⟩ d) else x (ix2 k d) := by
  have hs0 : ∀ q : S16x512.Idx, scatter_S256x512_S1_S16x512_01_n_0_0.start q idx 0 = 0 := fun q => by
    unfold ScatterDims.start
    rw [dif_pos (by decide)]
    refine Eq.trans (congrArg (fun z => (idx z).toInt) (?_ : _ = ix1 (0 : Fin 1))) (by rw [h0]; rfl)
    funext b'
    match b' with
    | ⟨0, _⟩ => exact Subsingleton.elim (α := Fin 1) _ _
  have hs1 : ∀ q : S16x512.Idx, scatter_S256x512_S1_S16x512_01_n_0_0.start q idx 1 = 0 := fun q => by
    unfold ScatterDims.start
    rw [dif_neg (by decide)]
  have hw : ∀ (a : Fin 16) (b : Fin 512) (z : Fin 2), scatter_S256x512_S1_S16x512_01_n_0_0.window (ix2 a b) z = ((![a.val, b.val] : Fin 2 → ℕ) z) := fun a b z => by
    unfold ScatterDims.window
    match z with
    | 0 => rw [dif_pos (by decide)]; rfl
    | 1 => rw [dif_pos (by decide)]; rfl
  have lands : ∀ (a : Fin 16) (b : Fin 512), scatter_S256x512_S1_S16x512_01_n_0_0.resultIdx? (ix2 a b) idx = some (ix2 k d) ↔ a.val = k.val ∧ b = d := fun a b => by
    refine (Routing.resultIdx?_ix2 (R := 256) (C := 512) scatter_S256x512_S1_S16x512_01_n_0_0 (ix2 a b) idx k d).trans ?_
    rw [hs0, hs1, hw, hw, Fin.ext_iff]
    show (0 : Int) + ((a.val : ℕ) : Int) = _ ∧ (0 : Int) + ((b.val : ℕ) : Int) = _ ↔ _
    omega
  by_cases hk : k.val < 16
  · rw [dif_pos hk]
    refine Routing.scatter_set_hit _ x idx u _ _ (fun q hq => ?_) (ix2 ⟨k.val, hk⟩ d) ((lands _ _).2 ⟨rfl, rfl⟩)
    rw [show q = ix2 (q 0) (q 1) from (ix2_eta (n0 := 16) (n1 := 512) q).symm] at hq ⊢
    obtain ⟨ha, hb⟩ := (lands (q 0) (q 1)).1 hq
    rw [show q 0 = (⟨k.val, hk⟩ : Fin 16) from Fin.ext ha, hb]
    rfl
  · rw [dif_neg hk]
    refine Routing.scatter_set_miss _ x idx u _ fun q hq => hk ?_
    rw [show q = ix2 (q 0) (q 1) from (ix2_eta (n0 := 16) (n1 := 512) q).symm] at hq
    have h1 := ((lands (q 0) (q 1)).1 hq).1
    have h2 : (q 0).val < 16 := (q 0).isLt
    omega

set_option maxHeartbeats 4000000 in
/-- The gate's weights as the host code pads them. -/
theorem weights_eq (c : Dev nD) :
    (V m c main_v5 : Vec Ideal S256x512 .bf16) = truncf .bf16 (Host.scatter scatter_S256x512_S1_S16x512_01_n_0_0 (fun _ b => b) (broadcastInDim S256x512 ![] bcast_S_S256x512 (constant S_ .f32 0x00000000#32)) (broadcastInDim S1 ![] bcast_S_S1 (constantI S_ 32 0#32))
      (shapeCast S16x512 (extractStridedSlice S1x16x512 ![0, 0, 0] (argW m c) slices_S2x16x512_S1x16x512_0_0_0) shapeCasts_S1x16x512_S16x512) : FVec Ideal S256x512 .f32) bitsLt_bf16_f32 := by
  unfold V
  after_reads_simp
  rfl

/-- The padded weights at a place: the gate's in the first 16 rows, zero below. -/
theorem weights_at (c : Dev nD) (k : Fin 256) (d : Fin 512) :
    ((V m c main_v5 : Vec Ideal S256x512 .bf16) (ix2 k d) : EReal) = if hk : k.val < 16 then (argW m c (ix3 0 ⟨k.val, hk⟩ d) : EReal) else 0 := by
  have t : ∀ X : FVec Ideal S256x512 .f32, ((truncf .bf16 X bitsLt_bf16_f32 : FVec Ideal S256x512 .bf16) (ix2 k d) : EReal) = X (ix2 k d) := fun X => by pointwise
  have z : ((broadcastInDim S256x512 ![] bcast_S_S256x512 (constant (F := Ideal) S_ .f32 0x00000000#32) : FVec Ideal S256x512 .f32) (ix2 k d) : EReal) = 0 :=
    Ideal.ofBits_zero_f32
  have u : ∀ q : Fin 16, ((shapeCast S16x512 (extractStridedSlice S1x16x512 ![0, 0, 0] (argW m c) slices_S2x16x512_S1x16x512_0_0_0) shapeCasts_S1x16x512_S16x512 : FVec Ideal S16x512 .f32) (ix2 q d) : EReal)
      = argW m c (ix3 0 q d) := fun q => by pointwise
  have r := rows_set (broadcastInDim S256x512 ![] bcast_S_S256x512 (constant (F := Ideal) S_ .f32 0x00000000#32) : FVec Ideal S256x512 .f32) (broadcastInDim S1 ![] bcast_S_S1 (constantI S_ 32 0#32)) rfl
      (shapeCast S16x512 (extractStridedSlice S1x16x512 ![0, 0, 0] (argW m c) slices_S2x16x512_S1x16x512_0_0_0) shapeCasts_S1x16x512_S16x512 : FVec Ideal S16x512 .f32) k d
  refine ((congrFun (weights_eq m c) (ix2 k d)).trans ((t _).trans r)).trans ?_
  by_cases hk : k.val < 16
  · rw [dif_pos hk, dif_pos hk]
    exact u ⟨k.val, hk⟩
  · rw [dif_neg hk, dif_neg hk]
    exact z

/-- The decay's argument at a point's row. -/
theorem z_at (c : Dev nD) (t : Fin cfg0.N) (r : Fin 256) (d : Fin 512) :
    zOf (iblk m c 3 t) (iblk m c 4 t) (iblk m c 5 t) r d = gate (argP m c) (argW m c) (argB m c) (tb t) (row t r) d := by
  unfold zOf gate
  rw [x5_at, bias_at]
  refine congrArg (fun z : EReal => z + (argB m c (ix2 0 d) : EReal)) ?_
  have e : ∀ k : Fin 256, (show EReal from (iblk m c 3 t : Vec Ideal S1x256x256 .bf16) (ix3 0 r k)) * (show EReal from (iblk m c 4 t : Vec Ideal S256x512 .bf16) (ix2 k d))
      = if hk : k.val < 16 then (argP m c (ix3 (tb t) (row t r) ⟨9728 + k.val, by omega⟩) : EReal) * (argW m c (ix3 0 ⟨k.val, hk⟩ d) : EReal) else 0 := fun k => by
    rw [show (show EReal from (iblk m c 3 t : Vec Ideal S1x256x256 .bf16) (ix3 0 r k)) = _ from x3_at m c t r k, show (show EReal from (iblk m c 4 t : Vec Ideal S256x512 .bf16) (ix2 k d)) = _ from (x4_at m c t k d).trans (weights_at m c k d)]
    by_cases hk : k.val < 16
    · rw [dif_pos hk, dif_pos hk]
    · rw [dif_neg hk, dif_neg hk, mul_zero]
  refine (Finset.sum_congr rfl fun k _ => e k).trans ?_
  symm
  refine Finset.sum_bij_ne_zero (fun s _ _ => (⟨s.val, by omega⟩ : Fin 256)) (fun _ _ _ => Finset.mem_univ _) (fun a _ _ b _ _ h => Fin.ext (Fin.mk.inj h)) (fun k _ hk => ?_) (fun s _ _ => ?_)
  · have h16 : k.val < 16 := by by_contra hn; exact hk (dif_neg hn)
    rw [dif_pos h16] at hk
    exact ⟨⟨k.val, h16⟩, Finset.mem_univ _, hk, rfl⟩
  · beta_reduce
    rw [dif_pos (show (⟨s.val, by omega⟩ : Fin 256).val < 16 from s.isLt)]

/-- Chunk `j` of head `h` of a point's block. -/
abbrev tileAt (c : Dev nD) (t : Fin cfg0.N) : ℕ → ℕ → Chunk := tile (X0_0 m c t) (X0_1 m c t) (X0_2 m c t) (iblk m c 3 t) (iblk m c 4 t) (iblk m c 5 t)

/-- A point's block is four chunks of its batch. -/
theorem tile_at (c : Dev nD) (t : Fin cfg0.N) (h j : Fin 4) :
    tileAt m c t h.val j.val = chunkOf (argP m c) (argW m c) (argB m c) (tb t) h (4 * (ti t).val + j.val) := by
  have hp : ∀ u : Fin 64, row t ⟨64 * j.val + u.val, by omega⟩ = pos (4 * (ti t).val + j.val) u := fun u => by
    have := (ti t).isLt
    unfold row pos
    rw [dif_pos (by omega)]
    exact Fin.ext (show 256 * (ti t).val + (64 * j.val + u.val) = (4 * (ti t).val + j.val) * 64 + u.val by omega)
  refine (tile_eq (iblk m c 3 t) (iblk m c 4 t) (iblk m c 5 t) (X0_0 m c t) (X0_1 m c t) (X0_2 m c t) h j).trans ?_
  unfold chunkOf
  simp only [x0_at, x1_at, x2_at, z_at, hp]
  congr 1
  · funext u d
    exact congrArg (fun q : Fin 9984 => (argP m c (ix3 (tb t) (pos (4 * (ti t).val + j.val) u) q) : EReal)) (Fin.ext (show 3072 + (128 * h.val + d.val) = 3072 + (h.val * 128 + d.val) by omega))
  · funext u d
    exact congrArg (fun q : Fin 9984 => (argP m c (ix3 (tb t) (pos (4 * (ti t).val + j.val) u) q) : EReal)) (Fin.ext (show 3584 + (128 * h.val + d.val) = 3584 + (h.val * 128 + d.val) by omega))
  · funext u d
    exact congrArg (fun q : Fin 9984 => (argP m c (ix3 (tb t) (pos (4 * (ti t).val + j.val) u) q) : EReal)) (Fin.ext (show 4096 + (256 * h.val + d.val) = 4096 + (h.val * 256 + d.val) by omega))
  · funext u d
    exact congrArg (fun q : Fin 512 => logDecay (gate (argP m c) (argW m c) (argB m c) (tb t) (pos (4 * (ti t).val + j.val) u) q)) (Fin.ext (show 128 * h.val + d.val = h.val * 128 + d.val by omega))

/-- The carried sum before chunk `n` of head `h`, `h` any number. -/
def sumAt (c : Dev nD) (b : Fin 2) (n : ℕ) (h : ℕ) : Fin 128 → Fin 256 → EReal :=
  carriedOf (argP m c) (argW m c) (argB m c) b (Fin.ofNat 4 h) n

/-- Running a point's chunks from the carried sum before them. -/
theorem run_at (c : Dev nD) (t : Fin cfg0.N) (h : Fin 4) : ∀ n : ℕ, n ≤ 4 →
    runOf (tileAt m c t h.val) (sumAt m c (tb t) (4 * (ti t).val) h.val) n = sumAt m c (tb t) (4 * (ti t).val + n) h.val
  | 0, _ => rfl
  | n + 1, hn => by
    have e := tile_at m c t h ⟨n, by omega⟩
    have ih := run_at c t h n (by omega)
    have hh : Fin.ofNat 4 h.val = h := Fin.ext (Nat.mod_eq_of_lt h.isLt)
    show (tileAt m c t h.val n).next (runOf _ _ n) = _
    rw [ih, e]
    unfold sumAt
    rw [hh]
    rfl

end Cert.Layer.Scan

end
-- ==== Proof.ScanPoints.lean ====
/- The gated linear attention's scan, point by point, and the array its call returns. -/
module

public import proofs.«01_k».proof.Proof.ScanArray

@[expose] public section

set_option maxRecDepth 16384

noncomputable section

namespace Cert.Layer.Scan

open Idealize.ShloMosaic Idealize.SL.Sem Cert.Kernel7Ideal Cert.Kernel7Ideal.Gen Cert.Kernel7Ideal.Value Idealize.ShloMosaic.TcCoe

variable (m : (ℓ : Loc nD τ sig) → Buf (Elt Ideal) ℓ)

/-- The carried sums after a batch's first point. -/
theorem first_at (c : Dev nD) (t : Fin cfg0.N) (h0 : t.val % 33 = 0) (h : Fin 4) (e : Fin 256) (d : Fin 128) :
    (((outsAt0 m c t.val t.isLt).2 : Vec Ideal S4x256x128 .f32) (ix3 h e d) : EReal) = sumAt m c (tb t) (4 * (t.val % 33) + 4) h.val d e := by
  have r := congrFun (congrFun (run_at m c t h 4 le_rfl) d) e
  rw [show (ti t).val = t.val % 33 from rfl] at r
  have q := sout0_A_0_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (X0_0 m c t) (X0_1 m c t) (X0_2 m c t) (iblk m c 3 t) (iblk m c 4 t) (iblk m c 5 t) h e d
  have z : sumAt m c (tb t) (4 * (t.val % 33)) h.val = fun _ _ => 0 := by
    rw [h0]
    rfl
  rw [z] at r
  rw [outsAt0_A m c t h0]
  dsimp only
  rw [q]
  exact r

/-- The carried sums after a later point, from those after the point before it. -/
theorem later_at (c : Dev nD) (t : Fin cfg0.N) (h0 : ¬t.val % 33 = 0)
    (hS : ∀ (h : Fin 4) (e : Fin 256) (d : Fin 128), (((outsAt0 m c (t.val - 1) (Nat.lt_of_le_of_lt (Nat.sub_le _ _) t.isLt)).2 : Vec Ideal S4x256x128 .f32) (ix3 h e d) : EReal) = sumAt m c (tb t) (4 * (t.val % 33)) h.val d e)
    (h : Fin 4) (e : Fin 256) (d : Fin 128) :
    (((outsAt0 m c t.val t.isLt).2 : Vec Ideal S4x256x128 .f32) (ix3 h e d) : EReal) = sumAt m c (tb t) (4 * (t.val % 33) + 4) h.val d e := by
  have r := congrFun (congrFun (run_at m c t h 4 le_rfl) d) e
  rw [show (ti t).val = t.val % 33 from rfl] at r
  have q := sout0_B_0_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (X0_0 m c t) (X0_1 m c t) (X0_2 m c t) (iblk m c 3 t) (iblk m c 4 t) (iblk m c 5 t) (outsAt0 m c (t.val - 1) (Nat.lt_of_le_of_lt (Nat.sub_le _ _) t.isLt)).2 (sumAt m c (tb t) (4 * (t.val % 33))) hS h e d
  rw [outsAt0_B m c t h0]
  dsimp only
  rw [q]
  exact r

/-- The carried sums before a later point's chunks are those after the point before it. -/
theorem before_at (c : Dev nD) (n : ℕ) (hn : n < cfg0.N)
    (ih : ∀ (h : Fin 4) (e : Fin 256) (d : Fin 128), (((outsAt0 m c n hn).2 : Vec Ideal S4x256x128 .f32) (ix3 h e d) : EReal) = sumAt m c (tb ⟨n, hn⟩) (4 * (n % 33) + 4) h.val d e)
    (t : Fin cfg0.N) (ht : t.val - 1 = n) (h0 : ¬t.val % 33 = 0) (h : Fin 4) (e : Fin 256) (d : Fin 128) :
    (((outsAt0 m c (t.val - 1) (Nat.lt_of_le_of_lt (Nat.sub_le _ _) t.isLt)).2 : Vec Ideal S4x256x128 .f32) (ix3 h e d) : EReal) = sumAt m c (tb t) (4 * (t.val % 33)) h.val d e := by
  subst ht
  refine (ih h e d).trans ?_
  have hb : tb ⟨t.val - 1, hn⟩ = tb t := Fin.ext (show (t.val - 1) / 33 = t.val / 33 by omega)
  rw [hb, show 4 * ((t.val - 1) % 33) + 4 = 4 * (t.val % 33) by omega]

/-- After a point, the carried sums are those before the next block's first chunk. -/
theorem carry_at (c : Dev nD) (n : ℕ) (hn : n < cfg0.N) : ∀ (h : Fin 4) (e : Fin 256) (d : Fin 128),
    (((outsAt0 m c n hn).2 : Vec Ideal S4x256x128 .f32) (ix3 h e d) : EReal) = sumAt m c (tb ⟨n, hn⟩) (4 * (n % 33) + 4) h.val d e := by
  induction n with
  | zero => exact first_at m c ⟨0, hn⟩ (Nat.zero_mod _)
  | succ n ih =>
    by_cases h0 : (n + 1) % 33 = 0
    · exact first_at m c ⟨n + 1, hn⟩ h0
    · exact later_at m c ⟨n + 1, hn⟩ h0 (before_at m c n (Nat.lt_of_succ_lt hn) (ih (Nat.lt_of_succ_lt hn)) ⟨n + 1, hn⟩ (Nat.add_sub_cancel n 1) h0)

/-- A point writes the outputs of its chunks. -/
theorem out_at (c : Dev nD) (t : Fin cfg0.N) : (outsAt0 m c t.val t.isLt).1 = tileOut (tileAt m c t) (sumAt m c (tb t) (4 * (t.val % 33))) := by
  by_cases h0 : t.val % 33 = 0
  · have z : sumAt m c (tb t) (4 * (t.val % 33)) = fun _ _ _ => 0 := by
      rw [h0]
      rfl
    rw [z]
    rw [outsAt0_A m c t h0]
    dsimp only
    rw [out0_A_6_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (X0_0 m c t) (X0_1 m c t) (X0_2 m c t) (iblk m c 3 t) (iblk m c 4 t) (iblk m c 5 t)]
  · have q := out0_B_6_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (X0_0 m c t) (X0_1 m c t) (X0_2 m c t) (iblk m c 3 t) (iblk m c 4 t) (iblk m c 5 t) (outsAt0 m c (t.val - 1) (Nat.lt_of_le_of_lt (Nat.sub_le _ _) t.isLt)).2 (sumAt m c (tb t) (4 * (t.val % 33)))
      (before_at m c (t.val - 1) _ (carry_at m c (t.val - 1) (Nat.lt_of_le_of_lt (Nat.sub_le _ _) t.isLt)) t rfl h0)
    rw [outsAt0_B m c t h0]
    dsimp only
    rw [q]

/-- The output array as a function of the kernel's arguments. -/
def GS (c : Dev nD) : Vec Ideal S2x8448x1024 .f32 := fun i => scanAt (argP m c) (argW m c) (argB m c) (i 0) (i 1) (i 2)

/-- The place of the output that a place of a point's block is. -/
theorem emb6 (t : Fin cfg0.N) (r : Fin 256) (e : Fin 1024) :
    ((cfg0.win 6).blk t).view.emb (ix3 (n0 := 1) (n1 := 256) (n2 := 1024) 0 r e) = (ix3 (tb t) (row t r) e : S2x8448x1024.Idx) := by
  unfold row tb ti
  blk_ext [idx6]

/-- A place of a block of outputs. -/
theorem place (y : S1x256x1024.Idx) : ∃ (r : Fin 256) (e : Fin 1024), y = ix3 (n0 := 1) (n1 := 256) (n2 := 1024) 0 r e := by
  refine ⟨y 1, y 2, ?_⟩
  have e0 : y 0 = (0 : Fin 1) := Subsingleton.elim (α := Fin 1) _ _
  funext a
  match a with
  | 0 => exact e0
  | 1 => rfl
  | 2 => rfl

/-- THE RESULT ARRAY of the kernel holds the scan's output, everywhere. -/
theorem final6 (c : Dev nD) : (dats m 0 c).arrAt 6 cfg0.N = GS m c := by
  refine (dats m 0 c).arrAt_eq_of_covers 6 _ (by decide +kernel) fun t hf y => ?_
  obtain ⟨r, e, rfl⟩ := place y
  blk_simp
  rw [emb6, after0_6, out_at]
  show ((tileAt m c t (e.val / 256) (r.val / 64)).out (runOf (tileAt m c t (e.val / 256)) (sumAt m c (tb t) (4 * (ti t).val) (e.val / 256)) (r.val / 64)) (Fin.ofNat 64 r.val) (Fin.ofNat 256 e.val) : EReal)
    = scanAt (argP m c) (argW m c) (argB m c) (tb t) (row t r) e
  have hr := run_at m c t ⟨e.val / 256, by omega⟩ (r.val / 64) (by omega)
  have ht := tile_at m c t ⟨e.val / 256, by omega⟩ ⟨r.val / 64, by omega⟩
  dsimp only at hr ht
  rw [hr, ht]
  unfold sumAt scanAt
  have h1 : (row t r).val / 64 = 4 * (ti t).val + r.val / 64 := by show (256 * (ti t).val + r.val) / 64 = _; omega
  have h2 : (⟨(row t r).val % 64, by omega⟩ : Fin 64) = Fin.ofNat 64 r.val := Fin.ext (by show (256 * (ti t).val + r.val) % 64 = r.val % 64; omega)
  have h3 : Fin.ofNat 4 (e.val / 256) = ⟨e.val / 256, by omega⟩ := Fin.ext (Nat.mod_eq_of_lt (by omega))
  rw [h1, h2, h3]
  rfl

end Cert.Layer.Scan

end
-- ==== Proof.ScanRef.lean ====
/- The reference's scan read at its places: what one trip of its loop makes of a chunk and the carried sum. -/
module

public import proofs.«01_k».proof.Proof.ScanRun
public import proofs.«01_k».proof.Proof.ScanSpec

@[expose] public section

set_option maxRecDepth 16384

noncomputable section

namespace Cert.Layer.Scan.Ref

open Idealize.ShloMosaic Idealize.SL.Sem Cert.Reference7Ideal Cert.Reference7Ideal.Gen Cert.Reference7Ideal.Step Idealize.ShloMosaic.TcCoe

variable (p : FVec Ideal S2x8448x9984 .bf16) (w : FVec Ideal S2x16x512 .f32) (b : FVec Ideal S2x512 .f32)

/-- The decay's argument. -/
theorem gate_apply (i : Fin 2) (n : Fin 8448) (d : Fin 512) : (A_main_v12 (F := Ideal) p w b (ix3 i n d) : EReal) = gate p w b i n d := by
  pointwise [A_main_v12, A_main_v11, A_main_v10, A_main_v9, A_main_v8, A_main_v7, A_main_v6, A_main_v5, A_main_v4, A_main_v3]
  rfl

/-- The log decay. -/
theorem decay_apply (i : Fin 2) (n : Fin 8448) (d : Fin 512) : (A_main_v17 (F := Ideal) p w b (ix3 i n d) : EReal) = logDecay (gate p w b i n d) := by
  rw [← gate_apply]
  generalize hz : A_main_v12 (F := Ideal) p w b = z
  pointwise [A_main_v17, A_main_v15, A_main_v14, A_main_call0_v11, A_main_call0_v10, A_main_call0_v9, A_main_call0_v8, A_main_call0_v7, A_main_call0_v6, A_main_call0_v4, A_main_call0_v3, A_main_call0_v1, A_main_v13, K_main_v16, K_main_cst, K_main_call0_v0, K_main_call0_v2, K_main_call0_v5, K_main_call0_cst]
  rw [if_neg (fun hne => hne rfl), hz]
  rfl

/-- The log decays by chunks and heads. -/
theorem la_apply (m : Fin 132) (i : Fin 2) (h : Fin 4) (t : Fin 64) (d : Fin 128) :
    (A_main_v39 (F := Ideal) p w b (ix5 m i h t d) : EReal) = logDecay (gate p w b i (pos m.val t) ⟨h.val * 128 + d.val, by omega⟩) := by
  rw [← decay_apply]
  generalize hz : A_main_v17 (F := Ideal) p w b = z
  pointwise [A_main_v39, A_main_v38, A_main_v19, A_main_v18]
  rw [hz]
  unfold pos
  rw [dif_pos m.isLt]

/-- The queries by chunks and heads. -/
theorem q_apply (m : Fin 132) (i : Fin 2) (h : Fin 4) (t : Fin 64) (d : Fin 128) :
    (A_main_v33 (F := Ideal) p w b (ix5 m i h t d) : EReal) = p (ix3 i (pos m.val t) ⟨3072 + (h.val * 128 + d.val), by omega⟩) * Ideal.ofBits .f32 0x3DB504F3#32 := by
  pointwise [A_main_v33, A_main_v32, A_main_v25, A_main_v23, A_main_v22, A_main_v21, A_main_v0, K_main_v24, K_main_cst_1]
  unfold pos
  rw [dif_pos m.isLt]

/-- The keys by chunks and heads. -/
theorem k_apply (m : Fin 132) (i : Fin 2) (h : Fin 4) (t : Fin 64) (d : Fin 128) :
    (A_main_v35 (F := Ideal) p w b (ix5 m i h t d) : EReal) = p (ix3 i (pos m.val t) ⟨3584 + (h.val * 128 + d.val), by omega⟩) := by
  pointwise [A_main_v35, A_main_v34, A_main_v28, A_main_v27, A_main_v26, A_main_v1]
  unfold pos
  rw [dif_pos m.isLt]

/-- The values by chunks and heads. -/
theorem v_apply (m : Fin 132) (i : Fin 2) (h : Fin 4) (t : Fin 64) (e : Fin 256) :
    (A_main_v37 (F := Ideal) p w b (ix5 m i h t e) : EReal) = p (ix3 i (pos m.val t) ⟨4096 + (h.val * 256 + e.val), by omega⟩) := by
  pointwise [A_main_v37, A_main_v36, A_main_v31, A_main_v30, A_main_v29, A_main_v2]
  unfold pos
  rw [dif_pos m.isLt]

/-- A place of the window of 64. -/
theorem win_symm (n : Fin (⟨5, ![1, 1, 1, 64, 1]⟩ : Shape).numel) (a : Fin 5) :
    (((⟨5, ![1, 1, 1, 64, 1]⟩ : Shape).rowMajor.symm n) a).val = if a = 3 then n.val else 0 := by
  revert n a
  decide

/-- A sum that starts at zero and adds the entries of a list in order is their sum. -/
theorem foldl_sum {n : ℕ} (f : Fin n → EReal) : (List.finRange n).foldl (fun r k => r + f k) 0 = ∑ k, f k := by
  rw [Fin.sum_univ_def, List.sum_eq_foldl, List.foldl_map]

/-- The running sum over the 64 positions of each chunk, as it is written: a window of 64 padded low by 63. -/
theorem cum_apply (x : FVec Ideal S132x2x4x64x128 .f32) (init : FVec Ideal S_ .f32) (hi : ∀ j, (init j : EReal) = 0) (m : Fin 132) (i : Fin 2) (h : Fin 4) (t : Fin 64) (d : Fin 128) :
    (Host.reduceWindowAdd (F := Ideal) ![1, 1, 1, 64, 1] ![1, 1, 1, 1, 1] ![0, 0, 0, 63, 0] ![0, 0, 0, 0, 0] x init reduceWindows_S132x2x4x64x128_S132x2x4x64x128_w1s1p0_0_w1s1p0_0_w1s1p0_0_w64s1p63_0_w1s1p0_0 h_S_ (ix5 m i h t d) : EReal)
      = ∑ s : Fin 64, if s ≤ t then x (ix5 m i h s d) else 0 := by
  unfold Host.reduceWindowAdd
  rw [Ideal.hostReduceWindowAdd_def]
  unfold Ideal.hostReduceWindowAdd Host.reduceWindow
  simp only [hi]
  refine (foldl_sum _).trans ?_
  have hW : (⟨5, ![1, 1, 1, 64, 1]⟩ : Shape).numel = 64 := by decide
  rw [← Equiv.sum_comp (finCongr hW.symm), ← Equiv.sum_comp (Equiv.addRight (t + 1)) (fun s : Fin 64 => if s ≤ t then (x (ix5 m i h s d) : EReal) else 0)]
  refine Finset.sum_congr rfl fun n _ => ?_
  have hs : ((n + (t + 1) : Fin 64)).val = (n.val + t.val + 1) % 64 := by simp only [Fin.val_add]; omega
  by_cases hc : 63 ≤ n.val + t.val
  · rw [Equiv.coe_addRight, if_pos (show (n + (t + 1) : Fin 64) ≤ t by rw [Fin.le_def]; omega)]
    have hv : ∀ a : Fin 5, (((⟨5, ![1, 1, 1, 64, 1]⟩ : Shape).rowMajor.symm (finCongr hW.symm n)) a).val = if a = 3 then n.val else 0 := win_symm _
    have h0 := hv 0; have h1 := hv 1; have h2 := hv 2; have h3 := hv 3; have h4 := hv 4
    have l0 := m.isLt; have l1 := i.isLt; have l2 := h.isLt; have l3 := t.isLt; have l4 := d.isLt; have l5 := n.isLt
    rw [dif_pos (fun a => by
      match a with
      | ⟨0, _⟩ => exact ⟨Nat.zero_le _, show m.val * 1 + _ - 0 < 132 by erw [h0]; simpa using l0⟩
      | ⟨1, _⟩ => exact ⟨Nat.zero_le _, show i.val * 1 + _ - 0 < 2 by erw [h1]; simpa using l1⟩
      | ⟨2, _⟩ => exact ⟨Nat.zero_le _, show h.val * 1 + _ - 0 < 4 by erw [h2]; simpa using l2⟩
      | ⟨3, _⟩ => exact ⟨show 63 ≤ t.val * 1 + _ by erw [h3]; rw [if_pos rfl]; omega, show t.val * 1 + _ - 63 < 64 by erw [h3]; rw [if_pos rfl]; omega⟩
      | ⟨4, _⟩ => exact ⟨Nat.zero_le _, show d.val * 1 + _ - 0 < 128 by erw [h4]; simpa using l4⟩)]
    refine congrArg x (funext fun a => Fin.ext ?_)
    match a with
    | ⟨0, _⟩ => show m.val * 1 + _ - 0 = m.val; erw [h0]; simp
    | ⟨1, _⟩ => show i.val * 1 + _ - 0 = i.val; erw [h1]; simp
    | ⟨2, _⟩ => show h.val * 1 + _ - 0 = h.val; erw [h2]; simp
    | ⟨3, _⟩ => show t.val * 1 + _ - 63 = (n + (t + 1) : Fin 64).val; erw [h3]; rw [if_pos rfl]; omega
    | ⟨4, _⟩ => show d.val * 1 + _ - 0 = d.val; erw [h4]; simp
  · rw [Equiv.coe_addRight, if_neg (show ¬ (n + (t + 1) : Fin 64) ≤ t by rw [Fin.le_def]; omega)]
    refine dif_neg fun hin => hc ?_
    have h3 : (((⟨5, ![1, 1, 1, 64, 1]⟩ : Shape).rowMajor.symm (finCongr hW.symm n)) 3).val = n.val := win_symm _ 3
    have h5 : 63 ≤ t.val * 1 + (((⟨5, ![1, 1, 1, 64, 1]⟩ : Shape).rowMajor.symm (finCongr hW.symm n)) 3).val := (hin 3).1
    rw [h3] at h5
    omega

/-- The decayed queries, keys and values of each chunk, and its whole decay. -/
theorem chunk_apply (m : Fin 132) (i : Fin 2) (h : Fin 4) :
    (∀ (t : Fin 64) (d : Fin 128), (A_main_v43 (F := Ideal) p w b (ix5 m i h t d) : EReal) = (chunkOf p w b i h m.val).qd t d)
    ∧ (∀ (t : Fin 64) (d : Fin 128), (A_main_v46 (F := Ideal) p w b (ix5 m i h t d) : EReal) = (chunkOf p w b i h m.val).ki t d)
    ∧ (∀ (t : Fin 64) (d : Fin 128), (A_main_v50 (F := Ideal) p w b (ix5 m i h t d) : EReal) = (chunkOf p w b i h m.val).ke t d)
    ∧ (∀ (t : Fin 64) (e : Fin 256), (A_main_v37 (F := Ideal) p w b (ix5 m i h t e) : EReal) = (chunkOf p w b i h m.val).v t e)
    ∧ (∀ d : Fin 128, (A_main_v41 (F := Ideal) p w b (ix5 m i h 0 d) : EReal) = (chunkOf p w b i h m.val).tot d) := by
  have hc : ∀ (t : Fin 64) (d : Fin 128), (A_main_v40 (F := Ideal) p w b (ix5 m i h t d) : EReal)
      = cum (fun t d => logDecay (gate p w b i (pos m.val t) ⟨h.val * 128 + d.val, by omega⟩)) t d := fun t d => by
    unfold A_main_v40
    refine (cum_apply _ _ (fun j => ?_) m i h t d).trans ?_
    · pointwise [K_main_call1_call0_v0, K_main_call1_call0_cst]
    · unfold cum
      simp only [la_apply]
  have ht : ∀ d : Fin 128, (A_main_v40 (F := Ideal) p w b (ix5 m i h 63 d) : EReal)
      = total (fun t d => logDecay (gate p w b i (pos m.val t) ⟨h.val * 128 + d.val, by omega⟩)) d := fun d => by
    rw [hc]
    unfold cum total
    exact Finset.sum_congr rfl fun s _ => if_pos (Fin.le_last s)
  refine ⟨fun t d => ?_, fun t d => ?_, fun t d => ?_, fun t e => v_apply p w b m i h t e, fun d => ?_⟩
  · show _ = _ * Ideal.exp (cum _ t d)
    rw [← hc t d, ← q_apply p w b]
    pointwise [A_main_v43, A_main_v42]
  · show _ = _ * Ideal.exp (-(cum _ t d))
    rw [← hc t d]
    beta_reduce
    rw [← k_apply p w b]
    pointwise [A_main_v46, A_main_v45, A_main_v44]
  · show _ = _ * Ideal.exp (total _ d - cum _ t d)
    rw [← hc t d, ← ht d]
    beta_reduce
    rw [← k_apply p w b]
    pointwise [A_main_v50, A_main_v49, A_main_v48, A_main_v47, A_main_v41]
  · refine Eq.trans ?_ (ht d)
    pointwise [A_main_v41]

end Cert.Layer.Scan.Ref

end
-- ==== Proof.ScanTrip.lean ====
/- The reference's loop: a trip makes the next carried sum and writes its chunk's outputs. -/
module

public import proofs.«01_k».proof.Proof.ScanRef
public import proofs.«01_k».proof.Proof.ScanRun
public import Idealize.ShloMosaic.Lib.WordCmp

@[expose] public section

noncomputable section

namespace Cert.Layer.Scan.Ref

open Idealize.ShloMosaic Idealize.SL.Sem Idealize.ShloMosaic.TcCoe Idealize.ShloMosaic.WordCmp
open Cert.Reference7Ideal Cert.Reference7Ideal.Gen Cert.Reference7Ideal.Step

/-- The mask keeps a pair of positions exactly when the second is not after the first. -/
theorem mask_apply (t s : Fin 64) : K_main_v52 (F := Ideal) (ix2 t s) = 1 ↔ s ≤ t := by
  have h : K_main_v52 (F := Ideal) (ix2 t s) = Scalar.select (Scalar.cmpi .sge (BitVec.ofNat 32 t.val + 0#32) (BitVec.ofNat 32 s.val)) 1#1 0#1 := by
    pointwise [K_main_v52, K_main_call2_v4, K_main_v51, K_main_call2_v5, K_main_call2_v2, K_main_call2_v3, K_main_call2_v0, K_main_call2_v1, K_main_c, K_main_call2_c_0, K_main_call2_c]
    rfl
  rw [h]
  clear h
  revert t s
  decide +kernel

/-- The starts of a trip's slices. -/
theorem starts (j : ℕ) (hj : j < 132) (a b c d : (⟨S_, .i32⟩ : BufTy).Contents (Elt Ideal)) (ha : a = constantI S_ 32 0#32) (hb : b = constantI S_ 32 0#32) (hc : c = constantI S_ 32 0#32) (hd : d = constantI S_ 32 0#32) (k : Fin 5) :
    (((![(constantI S_ 32 (BitVec.ofNat 32 j) : (⟨S_, .i32⟩ : BufTy).Contents (Elt Ideal)), a, b, c, d] : Fin 5 → (⟨S_, .i32⟩ : BufTy).Contents (Elt Ideal))) k (Shape.Idx.first h_S_)).toInt = (((![j, 0, 0, 0, 0] : Fin 5 → ℕ) k : ℕ) : Int) := by
  subst ha hb hc hd
  match k with
  | 0 => exact toInt_ofNat_of_lt (by omega)
  | 1 => rfl
  | 2 => rfl
  | 3 => rfl
  | 4 => rfl

/-- A trip's slice holds the trip's chunk. -/
theorem slice_apply {n q : ℕ} (x : (⟨5, ![132, 2, 4, n, q]⟩ : Shape).Idx → EReal) (st : Fin 5 → Int) (hf : (⟨5, ![132, 2, 4, n, q]⟩ : Shape).Slices (fun _ => 0) ⟨5, ![1, 2, 4, n, q]⟩)
    (j : ℕ) (hj : j < 132) (hst : ∀ k, st k = ((![j, 0, 0, 0, 0] : Fin 5 → ℕ) k : Int)) (i : Fin 2) (h : Fin 4) (t : Fin n) (d : Fin q) :
    Host.dynamicSlice (⟨5, ![1, 2, 4, n, q]⟩ : Shape) x st hf (ix5 0 i h t d) = x (ix5 ⟨j, hj⟩ i h t d) := by
  rw [dynamicSlice_eq_extract _ x st hf (![j, 0, 0, 0, 0] : Fin 5 → ℕ) ⟨rfl, fun a => by
    match a with
    | 0 => show j + 1 ≤ 132; omega
    | 1 => show 0 + 2 ≤ 2; omega
    | 2 => show 0 + 4 ≤ 4; omega
    | 3 => show 0 + n ≤ n; omega
    | 4 => show 0 + q ≤ q; omega⟩ hst]
  unfold extractStridedSlice
  refine congrArg x (funext fun a => Fin.ext ?_)
  match a with
  | 0 => show j + 0 = j; omega
  | 1 => show 0 + i.val = i.val; omega
  | 2 => show 0 + h.val = h.val; omega
  | 3 => show 0 + t.val = t.val; omega
  | 4 => show 0 + d.val = d.val; omega

/-- The chunk that a trip reads from a state's operands. -/
def trip (s : State Ideal) (j : ℕ) (hj : j < 132) (i : Fin 2) (h : Fin 4) : Chunk where
  qd t d := s.main_v54_0 (ix5 ⟨j, hj⟩ i h t d)
  ki t d := s.main_v54_1 (ix5 ⟨j, hj⟩ i h t d)
  ke t d := s.main_v54_2 (ix5 ⟨j, hj⟩ i h t d)
  v t e := s.main_v54_3 (ix5 ⟨j, hj⟩ i h t e)
  tot d := s.main_v54_4 (ix5 ⟨j, hj⟩ i h 0 d)

section Trip

variable (s : State Ideal) (j : ℕ) (hj : j < 132) (i : Fin 2) (h : Fin 4)

/-- The queries that a trip takes. -/
theorem b5_at (t : Fin 64) (d : Fin 128) : (b5 j s (ix4 i h t d) : EReal) = (trip s j hj i h).qd t d := by
  refine Eq.trans ?_ (slice_apply s.main_v54_0 _ sliceFits_S132x2x4x64x128_S1x2x4x64x128 j hj (starts j hj _ _ _ _ rfl rfl rfl rfl) i h t d)
  change _ = b4 j s (ix5 0 i h t d)
  pointwise [b5]

/-- The inverse keys that a trip takes. -/
theorem b11_at (t : Fin 64) (d : Fin 128) : (b11 j s (ix4 i h t d) : EReal) = (trip s j hj i h).ki t d := by
  refine Eq.trans ?_ (slice_apply s.main_v54_1 _ sliceFits_S132x2x4x64x128_S1x2x4x64x128 j hj (starts j hj _ _ _ _ rfl rfl rfl rfl) i h t d)
  change _ = b10 j s (ix5 0 i h t d)
  pointwise [b11]

/-- The end keys that a trip takes. -/
theorem b17_at (t : Fin 64) (d : Fin 128) : (b17 j s (ix4 i h t d) : EReal) = (trip s j hj i h).ke t d := by
  refine Eq.trans ?_ (slice_apply s.main_v54_2 _ sliceFits_S132x2x4x64x128_S1x2x4x64x128 j hj (starts j hj _ _ _ _ rfl rfl rfl rfl) i h t d)
  change _ = b16 j s (ix5 0 i h t d)
  pointwise [b17]

/-- The values that a trip takes. -/
theorem b23_at (t : Fin 64) (e : Fin 256) : (b23 j s (ix4 i h t e) : EReal) = (trip s j hj i h).v t e := by
  refine Eq.trans ?_ (slice_apply s.main_v54_3 _ sliceFits_S132x2x4x64x256_S1x2x4x64x256 j hj (starts j hj _ _ _ _ rfl rfl rfl rfl) i h t e)
  change _ = b22 j s (ix5 0 i h t e)
  pointwise [b23]

/-- The total decays that a trip takes. -/
theorem b39_at (d : Fin 128) : (b39 j s (ix3 i h d) : EReal) = (trip s j hj i h).tot d := by
  refine Eq.trans ?_ (slice_apply s.main_v54_4 _ sliceFits_S132x2x4x1x128_S1x2x4x1x128 j hj (starts j hj _ _ _ _ rfl rfl rfl rfl) i h 0 d)
  change _ = b28 j s (ix5 0 i h 0 d)
  pointwise [b39, b29]

/-- The carried sum after a trip. -/
theorem b45_at (d : Fin 128) (e : Fin 256) : (b45 j s (ix4 i h d e) : EReal) = (trip s j hj i h).next (fun d e => s.main_v54_7 (ix4 i h d e)) d e := by
  unfold Chunk.next
  rw [← b39_at]
  simp only [← b17_at, ← b23_at]
  pointwise [b45, b43, b44, b42, b41, b40]

/-- The weights of a trip. -/
theorem b35_at (t u : Fin 64) : (b35 j s (ix4 i h t u) : EReal) = (trip s j hj i h).att t u := by
  have hm := mask_apply t u
  have e : (b35 j s (ix4 i h t u) : EReal) = Scalar.select (K_main_v52 (F := Ideal) (ix2 t u)) (∑ d, (trip s j hj i h).qd t d * (trip s j hj i h).ki u d) (Ideal.ofBits .f32 0x00000000#32) := by
    simp only [← b5_at, ← b11_at]
    pointwise [b35, b33, b34, b32, b31, b30]
  rw [e, Ideal.ofBits_zero_f32]
  unfold Scalar.select Chunk.att
  exact if_congr hm rfl rfl

/-- The outputs of a trip. -/
theorem b38_at (t : Fin 64) (e : Fin 256) : (b38 j s (ix4 i h t e) : EReal) = (trip s j hj i h).out (fun d e => s.main_v54_7 (ix4 i h d e)) t e := by
  unfold Chunk.out
  simp only [← b35_at, ← b23_at, ← b5_at]
  pointwise [b38, b36, b37]

include hj in
/-- The rows written so far after a trip: the trip's chunk is its outputs, every other is as before. -/
theorem b51_at (m : Fin 132) (t : Fin 64) (e : Fin 256) :
    (b51 j s (ix5 m i h t e) : EReal) = if m.val = j then (b38 j s (ix4 i h t e) : EReal) else s.main_v54_8 (ix5 m i h t e) := by
  unfold b51
  refine Eq.trans (congrFun (dynamicUpdateSlice_eq_update s.main_v54_8 (b46 j s) _ updateFits_S132x2x4x64x256_S1x2x4x64x256 (![j, 0, 0, 0, 0] : Fin 5 → ℕ) ⟨rfl, fun a => by
    match a with
    | 0 => show j + 1 ≤ 132; omega
    | 1 => show 0 + 2 ≤ 2; omega
    | 2 => show 0 + 4 ≤ 4; omega
    | 3 => show 0 + 64 ≤ 64; omega
    | 4 => show 0 + 256 ≤ 256; omega⟩ (starts j hj _ _ _ _ rfl rfl rfl rfl)) (ix5 m i h t e)) ?_
  unfold updateSlice
  by_cases hm : m.val = j
  · rw [if_pos hm, dif_pos (fun a => by
      match a with
      | 0 => exact ⟨show j ≤ m.val by omega, show m.val < j + 1 by omega⟩
      | 1 => exact ⟨Nat.zero_le _, show i.val < 0 + 2 by omega⟩
      | 2 => exact ⟨Nat.zero_le _, show h.val < 0 + 4 by omega⟩
      | 3 => exact ⟨Nat.zero_le _, show t.val < 0 + 64 by omega⟩
      | 4 => exact ⟨Nat.zero_le _, show e.val < 0 + 256 by omega⟩)]
    refine Eq.trans (congrArg (b46 j s) (?_ : _ = ix5 (n0 := 1) (n1 := 2) (n2 := 4) (n3 := 64) (n4 := 256) 0 i h t e)) (by pointwise [b46])
    funext a
    refine Fin.ext ?_
    match a with
    | 0 => show m.val - j = 0; omega
    | 1 => rfl
    | 2 => rfl
    | 3 => rfl
    | 4 => rfl
  · rw [if_neg hm, dif_neg]
    intro hh
    have h0 := hh 0
    have a0 : j ≤ m.val := h0.1
    have a1 : m.val < j + 1 := h0.2
    omega

end Trip

variable (p : (⟨S2x8448x9984, .bf16⟩ : BufTy).Contents (Elt Ideal)) (w : (⟨S2x16x512, .f32⟩ : BufTy).Contents (Elt Ideal)) (b : (⟨S2x512, .f32⟩ : BufTy).Contents (Elt Ideal))

open Cert.GlaScan

/-- No trip changes the scan's operands. -/
theorem operands (n : ℕ) : (states p w b n).main_v54_0 = A_main_v43 p w b ∧ (states p w b n).main_v54_1 = A_main_v46 p w b
    ∧ (states p w b n).main_v54_2 = A_main_v50 p w b ∧ (states p w b n).main_v54_3 = A_main_v37 p w b ∧ (states p w b n).main_v54_4 = A_main_v41 p w b := by
  induction n with
  | zero => exact ⟨rfl, rfl, rfl, rfl, rfl⟩
  | succ n ih => exact ih

/-- Two chunks with the same parts are the same. -/
theorem chunk_ext {c c' : Chunk} (h0 : ∀ t d, c.qd t d = c'.qd t d) (h1 : ∀ t d, c.ki t d = c'.ki t d) (h2 : ∀ t d, c.ke t d = c'.ke t d) (h3 : ∀ t e, c.v t e = c'.v t e) (h4 : ∀ d, c.tot d = c'.tot d) : c = c' := by
  obtain ⟨a0, a1, a2, a3, a4⟩ := c
  obtain ⟨b0, b1, b2, b3, b4⟩ := c'
  obtain rfl : a0 = b0 := funext fun t => funext fun d => h0 t d
  obtain rfl : a1 = b1 := funext fun t => funext fun d => h1 t d
  obtain rfl : a2 = b2 := funext fun t => funext fun d => h2 t d
  obtain rfl : a3 = b3 := funext fun t => funext fun d => h3 t d
  obtain rfl : a4 = b4 := funext fun d => h4 d
  rfl

/-- Trip `n` reads chunk `n`. -/
theorem trip_eq (n : ℕ) (hn : n < 132) (i : Fin 2) (h : Fin 4) : trip (states p w b n) n hn i h = chunkOf p w b i h n := by
  obtain ⟨e0, e1, e2, e3, e4⟩ := operands p w b n
  obtain ⟨c0, c1, c2, c3, c4⟩ := chunk_apply p w b ⟨n, hn⟩ i h
  unfold trip
  rw [e0, e1, e2, e3, e4]
  exact chunk_ext c0 c1 c2 c3 c4

/-- The carried sum before each trip. -/
theorem state_at : ∀ n : ℕ, n ≤ 132 → ∀ (i : Fin 2) (h : Fin 4) (d : Fin 128) (e : Fin 256), ((states p w b n).main_v54_7 (ix4 i h d e) : EReal) = carriedOf p w b i h n d e
  | 0, _, i, h, d, e => by
    change (K_main_v20 (F := Ideal) (ix4 i h d e) : EReal) = 0
    pointwise [K_main_v20, K_main_cst_0]
  | n + 1, hn, i, h, d, e => by
    change (b45 n (states p w b n) (ix4 i h d e) : EReal) = (chunkOf p w b i h n).next (carriedOf p w b i h n) d e
    rw [b45_at _ n (by omega) i h d e, trip_eq]
    exact congrArg (fun S => (chunkOf p w b i h n).next S d e) (funext fun d => funext fun e => state_at n (by omega) i h d e)

/-- The rows written before each trip. -/
theorem rows_at : ∀ n : ℕ, n ≤ 132 → ∀ (m : Fin 132) (i : Fin 2) (h : Fin 4) (t : Fin 64) (e : Fin 256), m.val < n →
    ((states p w b n).main_v54_8 (ix5 m i h t e) : EReal) = (chunkOf p w b i h m.val).out (carriedOf p w b i h m.val) t e
  | 0, _, m, i, h, t, e, hm => absurd hm (Nat.not_lt_zero _)
  | n + 1, hn, m, i, h, t, e, hm => by
    change (b51 n (states p w b n) (ix5 m i h t e) : EReal) = _
    rw [b51_at _ n (by omega) i h m t e]
    by_cases hmn : m.val = n
    · rw [if_pos hmn, b38_at _ n (by omega) i h t e, trip_eq, hmn]
      exact congrArg (fun S => (chunkOf p w b i h n).out S t e) (funext fun d => funext fun e => state_at p w b n (by omega) i h d e)
    · rw [if_neg hmn]
      exact rows_at n (by omega) m i h t e (by omega)

/-- Where the result takes its entries from. -/
theorem result_at (s : State Ideal) (i : Fin 2) (m : Fin 132) (t : Fin 64) (h : Fin 4) (e : Fin 256) :
    (R_main_v58 s (ix3 i ⟨m.val * 64 + t.val, by omega⟩ ⟨h.val * 256 + e.val, by omega⟩) : EReal) = s.main_v54_8 (ix5 m i h t e) := by
  pointwise [R_main_v58]

/-- THE REFERENCE'S RESULT is the scan's output. -/
theorem result_eq (i : Fin 2) (n : Fin 8448) (e : Fin 1024) : (R_main_v58 (states p w b 132) (ix3 i n e) : EReal) = scanAt p w b i n e := by
  have hn : n = ⟨(⟨n.val / 64, by omega⟩ : Fin 132).val * 64 + (⟨n.val % 64, by omega⟩ : Fin 64).val, by show n.val / 64 * 64 + n.val % 64 < 8448; omega⟩ := Fin.ext (by show n.val = n.val / 64 * 64 + n.val % 64; omega)
  have he : e = ⟨(⟨e.val / 256, by omega⟩ : Fin 4).val * 256 + (⟨e.val % 256, by omega⟩ : Fin 256).val, by show e.val / 256 * 256 + e.val % 256 < 1024; omega⟩ := Fin.ext (by show e.val = e.val / 256 * 256 + e.val % 256; omega)
  refine (congrArg₂ (fun n e => (R_main_v58 (states p w b 132) (ix3 i n e) : EReal)) hn he).trans ?_
  rw [result_at, rows_at p w b 132 le_rfl _ _ _ _ _ (by show n.val / 64 < 132; omega)]
  rfl

end Cert.Layer.Scan.Ref

end
-- ==== Proof.ScanClaim.lean ====
/- The claims about the gated linear attention's forward scan: its reference's frame, and that the kernel and the reference return the same array. -/
module

public import proofs.«01_k».proof.Defs
public import proofs.«01_k».proof.Proof.Gen.Kernel7Ideal
public import proofs.«01_k».proof.Proof.Gen.Kernel7Ideal.Value
public import proofs.«01_k».proof.Proof.Gen.Reference7Ideal
public import proofs.«01_k».proof.Proof.ScanRun
public import Idealize.ShloMosaic.Adequacy
public import Idealize.ShloMosaic.Init
public import proofs.«01_k».proof.Proof.ScanPoints
public import proofs.«01_k».proof.Proof.ScanTrip

@[expose] public section

set_option maxRecDepth 16384

noncomputable section

namespace Cert.Layer.Scan

open Idealize.ShloMosaic Idealize.SL.Sem

/-- The reference runs, leaves its arguments unchanged, and declares no semaphore. -/
theorem frame_reference (m : (ℓ : Loc Cert.Reference7Ideal.nD Cert.Reference7Ideal.τ Cert.Reference7Ideal.sig) → Buf (Elt Ideal) ℓ) (ρ : Dev Cert.Reference7Ideal.nD → PrngReg) :
    θ_run (Cert.Reference7Ideal.defs (F := Ideal)) (onTc (τ := Cert.Reference7Ideal.τ) (Cert.Reference7Ideal.main (F := Ideal))) ⟨m, fun _ => 0, ρ⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0) :=
  (θ_run Cert.Reference7Ideal.defs _ _).mono (fun r h => ⟨fun c => (h c).2, sem_eq_zero_of_no_sems (by decide) r.2⟩)
    (Cert.GlaScan.run_states (F := Ideal) m ρ)

/-- The kernel's array is the reference's of the same arguments. -/
theorem result_eq (m : (ℓ : Loc Cert.Kernel7Ideal.nD Cert.Kernel7Ideal.τ Cert.Kernel7Ideal.sig) → Buf (Elt Ideal) ℓ) (c : Dev Cert.Kernel7Ideal.nD) :
    Cert.Reference7Ideal.Step.R_main_v58 (Cert.GlaScan.states (argP m c) (argW m c) (argB m c) 132) = GS m c := by
  funext i
  obtain ⟨b, n, e, rfl⟩ : ∃ b n e, i = ix3 (n0 := 2) (n1 := 8448) (n2 := 1024) b n e :=
    ⟨i 0, i 1, i 2, (ix3_eta (n0 := 2) (n1 := 8448) (n2 := 1024) i).symm⟩
  exact Ref.result_eq _ _ _ b n e

/-- THE VALUE CLAIM: from equal arguments, kernel and reference run and return the same array. -/
theorem algebraic : Cert.algebraic_Kernel7Ideal_Reference7Ideal (hKernel7Ideal := Cert.Kernel7Ideal.Gen.facts) (hReference7Ideal := Cert.Reference7Ideal.Gen.facts) := by
  intro m g m' g' _ hargs
  refine ⟨fun c => GS m c, ?_, ?_⟩
  · refine (θ_run (Cert.Kernel7Ideal.defs (F := Ideal)) _ _).mono (fun r h c => ?_) (Cert.Kernel7Ideal.Value.run_blocks m g)
    obtain ⟨hk, h0⟩ := h c
    exact ⟨hk.trans (final6 m c), h0⟩
  · refine (θ_run (Cert.Reference7Ideal.defs (F := Ideal)) _ _).mono (fun r h c => ?_) (Cert.GlaScan.run_states (F := Ideal) m' g')
    obtain ⟨hk, h0⟩ := h c
    obtain ⟨e0, e1, e2⟩ := hargs c
    refine ⟨hk.trans ?_, h0⟩
    unfold Cert.GlaScan.statesAt
    rw [e0, e1, e2]
    exact result_eq m c

end Cert.Layer.Scan

end
-- ==== Proof.Tables.lean ====
/- The cosine and sine tables that the host builds, element by element. -/
module

public import proofs.«01_k».proof.Proof.Gen.KernelIdeal.Frame
public import Idealize.ShloMosaic.Lib.StableHlo.ReadAt
public import Idealize.ShloMosaic.Lib.Pointwise

@[expose] public section

set_option maxRecDepth 16384

noncomputable section

namespace Cert.Attn

open Idealize.ShloMosaic Idealize.SL.Sem Cert.KernelIdeal Cert.KernelIdeal.Gen Idealize.ShloMosaic.TcCoe

variable (m : (ℓ : Loc nD τ sig) → Buf (Elt Ideal) ℓ)

theorem gain_at (c : Dev nD) (d : Fin 128) :
    (V m c main_v40 : Vec Ideal S1x128 .f32) (ix2 0 d) = (m ((c : Thread nD τ).loc main_arg3) : Vec Ideal S128 .f32) (ix1 d) := by
  unfold V
  after_reads_at

/-- Dividing by 64 and rounding down, in words: the row of a position. -/
theorem row_word : ∀ t : Fin 8192, Scalar.select
    (IntOp.andi
      (IntOp.cmpi CmpIPredicate.ne (if BitVec.ofNat 32 t.val = 0 then 0 else if (BitVec.ofNat 32 t.val).msb = true then -1 else 1)
        (if 64#32 = 0 then 0 else if BitVec.msb 64#32 = true then -1 else (1 : BitVec 32)))
      (IntOp.cmpi CmpIPredicate.ne (IntOp.remsi ArithUnit.host (BitVec.ofNat 32 t.val) 64#32) 0#32))
    (IntOp.subi (IntOp.divsi ArithUnit.host (BitVec.ofNat 32 t.val) 64#32) 1#32)
    (IntOp.divsi ArithUnit.host (BitVec.ofNat 32 t.val) 64#32) = BitVec.ofNat 32 (t.val / 64) := by decide +kernel

/-- The remainder by 64, in words: the column of a position. -/
theorem col_word : ∀ t : Fin 8192, Scalar.select
    (IntOp.andi
      (IntOp.cmpi CmpIPredicate.ne
        (IntOp.cmpi CmpIPredicate.slt (IntOp.remsi ArithUnit.host (BitVec.ofNat 32 t.val) (Scalar.select (IntOp.cmpi CmpIPredicate.eq 64#32 0#32) 1#32 64#32)) 0#32)
        (IntOp.cmpi CmpIPredicate.slt (Scalar.select (IntOp.cmpi CmpIPredicate.eq 64#32 0#32) 1#32 64#32) 0#32))
      (IntOp.cmpi CmpIPredicate.ne (IntOp.remsi ArithUnit.host (BitVec.ofNat 32 t.val) (Scalar.select (IntOp.cmpi CmpIPredicate.eq 64#32 0#32) 1#32 64#32)) 0#32))
    (IntOp.addi (IntOp.remsi ArithUnit.host (BitVec.ofNat 32 t.val) (Scalar.select (IntOp.cmpi CmpIPredicate.eq 64#32 0#32) 1#32 64#32))
      (Scalar.select (IntOp.cmpi CmpIPredicate.eq 64#32 0#32) 1#32 64#32))
    (IntOp.remsi ArithUnit.host (BitVec.ofNat 32 t.val) (Scalar.select (IntOp.cmpi CmpIPredicate.eq 64#32 0#32) 1#32 64#32))
      = BitVec.ofNat 32 (t.val % 64) := by decide +kernel

/-- The inverse frequency of pair `i`: one over 10000 to the power `2 i / 64`. -/
def freq (i : ℕ) : EReal :=
  Ideal.div 1 (Ideal.pow (Ideal.ofBits .f32 1176256512#32)
    (Ideal.div (Ideal.ofBits .f32 1073741824#32 * FloatOps.sitofp (F := Ideal) .f32 (BitVec.ofNat 32 i)) (Ideal.ofBits .f32 1115684864#32)))

/-- The angle of pair `i` at a coordinate. -/
def angle (x i : ℕ) : EReal := FloatOps.sitofp (F := Ideal) .f32 (BitVec.ofNat 32 x) * freq i

/-- The coordinate that channel `d` is rotated by, at latent position `t`: its row for the first 64 channels, its column for the rest. -/
def coordOf (t d : ℕ) : ℕ := if d < 64 then t / 64 else t % 64

/-- The cosine table: 1 on the context rows. -/
def cosT (n : Fin 8448) (d : Fin 128) : EReal :=
  if n.val < 256 then 1 else Ideal.cos (angle (coordOf (n.val - 256) d.val) (d.val % 32))

/-- The signed sine table: 0 on the context rows, minus the sine on the first half of each 64 channels. -/
def sinT (n : Fin 8448) (d : Fin 128) : EReal :=
  if n.val < 256 then 0
  else if d.val % 64 < 32 then -Ideal.sin (angle (coordOf (n.val - 256) d.val) (d.val % 32))
  else Ideal.sin (angle (coordOf (n.val - 256) d.val) (d.val % 32))

set_option maxHeartbeats 4000000 in
/-- The array of cosines that the host code hands to the attention is the cosine table. -/
theorem cos_at (c : Dev nD) (n : Fin 8448) (d : Fin 128) :
    (V m c main_v37 : Vec Ideal S8448x128 .f32) (ix2 n d) = cosT n d := by
  unfold V
  after_reads_at
  after_reads_simp
  all_goals try simp -implicitDefEqProofs only [StableHlo.TRef.toBuf, StableHlo.TRef.ofBuf, cast_cast, cast_eq]
  all_goals clean_types
  all_goals pointwise
  have hc : id (constantI S_ 32 64#32) ix0 = 64#32 := rfl
  unfold cosT
  by_cases hn : n.val < 256
  · rw [dif_pos hn, if_pos hn]
  rw [dif_neg hn, if_neg hn]
  have ht : n.val - 256 < 8192 := by omega
  have hrow := row_word ⟨n.val - 256, ht⟩
  have hcol := col_word ⟨n.val - 256, ht⟩
  simp only at hrow hcol
  simp only [hc, hcol]
  unfold angle freq coordOf
  by_cases h1 : d.val < 32
  · rw [dif_pos h1]
    rw [if_pos (show d.val < 64 by omega), show d.val % 32 = d.val by omega]
    exact congrArg (fun w : BitVec 32 => Ideal.cos (FloatOps.sitofp (F := Ideal) .f32 w * _)) hrow
  rw [dif_neg h1]
  by_cases h2 : d.val - 32 < 32
  · rw [dif_pos h2]
    rw [if_pos (show d.val < 64 by omega), show d.val % 32 = d.val - 32 by omega]
    exact congrArg (fun w : BitVec 32 => Ideal.cos (FloatOps.sitofp (F := Ideal) .f32 w * _)) hrow
  rw [dif_neg h2]
  by_cases h3 : d.val - 32 - 32 < 32
  · rw [dif_pos h3]
    rw [if_neg (show ¬ d.val < 64 by omega), show d.val % 32 = d.val - 32 - 32 by omega]
  rw [dif_neg h3]
  rw [if_neg (show ¬ d.val < 64 by omega), show d.val % 32 = d.val - 32 - 32 - 32 by omega]

set_option maxHeartbeats 4000000 in
/-- The array of signed sines that the host code hands to the attention is the signed sine table. -/
theorem sin_at (c : Dev nD) (n : Fin 8448) (d : Fin 128) :
    (V m c main_v39 : Vec Ideal S8448x128 .f32) (ix2 n d) = sinT n d := by
  unfold V
  after_reads_at
  after_reads_simp
  all_goals try simp -implicitDefEqProofs only [StableHlo.TRef.toBuf, StableHlo.TRef.ofBuf, cast_cast, cast_eq]
  all_goals clean_types
  all_goals pointwise
  have hc : id (constantI S_ 32 64#32) ix0 = 64#32 := rfl
  unfold sinT
  by_cases hn : n.val < 256
  · rw [dif_pos hn, if_pos hn]
  rw [dif_neg hn, if_neg hn]
  have ht : n.val - 256 < 8192 := by omega
  have hrow := row_word ⟨n.val - 256, ht⟩
  have hcol := col_word ⟨n.val - 256, ht⟩
  simp only at hrow hcol
  simp only [hc, hcol]
  unfold angle freq coordOf
  by_cases h1 : d.val < 32
  · rw [dif_pos h1]
    rw [if_pos (show d.val < 64 by omega), if_pos (show d.val % 64 < 32 by omega), show d.val % 32 = d.val by omega]
    exact congrArg (fun w : BitVec 32 => -Ideal.sin (FloatOps.sitofp (F := Ideal) .f32 w * _)) hrow
  rw [dif_neg h1]
  by_cases h2 : d.val - 32 < 32
  · rw [dif_pos h2]
    rw [if_pos (show d.val < 64 by omega), if_neg (show ¬ d.val % 64 < 32 by omega), show d.val % 32 = d.val - 32 by omega]
    exact congrArg (fun w : BitVec 32 => Ideal.sin (FloatOps.sitofp (F := Ideal) .f32 w * _)) hrow
  rw [dif_neg h2]
  by_cases h3 : d.val - 32 - 32 < 32
  · rw [dif_pos h3]
    rw [if_neg (show ¬ d.val < 64 by omega), if_pos (show d.val % 64 < 32 by omega), show d.val % 32 = d.val - 32 - 32 by omega]
  rw [dif_neg h3]
  rw [if_neg (show ¬ d.val < 64 by omega), if_neg (show ¬ d.val % 64 < 32 by omega), show d.val % 32 = d.val - 32 - 32 - 32 by omega]

end Cert.Attn

end
-- ==== Proof.KvTables.lean ====
/- The tables and the gain that the host code hands to the preparation of keys and values. -/
module

public import proofs.«01_k».proof.Proof.Gen.Kernel6Ideal.Frame
public import proofs.«01_k».proof.Proof.Tables

@[expose] public section

set_option maxRecDepth 16384

noncomputable section

namespace Cert.Layer.Kv

open Idealize.ShloMosaic Idealize.SL.Sem Cert.Kernel6Ideal Cert.Kernel6Ideal.Gen Idealize.ShloMosaic.TcCoe Cert.Attn

variable (m : (ℓ : Loc nD τ sig) → Buf (Elt Ideal) ℓ)

theorem gain_at (c : Dev nD) (d : Fin 128) :
    (V m c main_v40 : Vec Ideal S1x128 .f32) (ix2 0 d) = (m ((c : Thread nD τ).loc main_arg1) : Vec Ideal S128 .f32) (ix1 d) := by
  unfold V
  after_reads_at

/-- A memory of the attention's program: its tables do not depend on it. -/
def someMem : (ℓ : Loc Cert.KernelIdeal.nD Cert.KernelIdeal.τ Cert.KernelIdeal.sig) → Buf (Elt Ideal) ℓ := fun _ _ => Classical.choice inferInstance

set_option maxHeartbeats 4000000 in
/-- The cosines are those of the attention. -/
theorem cos_at (c : Dev nD) (n : Fin 8448) (d : Fin 128) :
    (V m c main_v37 : Vec Ideal S8448x128 .f32) (ix2 n d) = cosT n d := by
  refine Eq.trans ?_ (Cert.Attn.cos_at someMem c n d)
  unfold V Cert.KernelIdeal.Gen.V
  after_reads_at
  after_reads_simp

set_option maxHeartbeats 4000000 in
/-- The signed sines are those of the attention. -/
theorem sin_at (c : Dev nD) (n : Fin 8448) (d : Fin 128) :
    (V m c main_v39 : Vec Ideal S8448x128 .f32) (ix2 n d) = sinT n d := by
  refine Eq.trans ?_ (Cert.Attn.sin_at someMem c n d)
  unfold V Cert.KernelIdeal.Gen.V
  after_reads_at
  after_reads_simp

end Cert.Layer.Kv

end
-- ==== Proof.Head.lean ====
/- One query row, as the kernel computes it: RMS normalization over the 128 channels of a head, the gain, the rotary
   embedding as `x * cos + partner * sin`, and the scale of the scores. -/
module

public import proofs.«01_k».proof.Proof.Gen.KernelIdeal.Skeleton
public import Idealize.ShloMosaic.Lib.Pointwise

@[expose] public section

noncomputable section

namespace Cert.Attn

open Idealize.ShloMosaic Idealize.SL.Sem Cert.KernelIdeal Cert.KernelIdeal.Gen

/-- The normalized row: `x * rsqrt (mean of squares + eps) * gain`. -/
def rms (x g : Fin 128 → EReal) (d : Fin 128) : EReal :=
  x d * Ideal.rsqrt (Ideal.div (∑ k, x k * x k) (Ideal.ofBits .f32 0x43000000#32) + Ideal.ofBits .f32 0x358637BD#32) * g d

/-- The rotary partner of a channel: 32 further in the first half of a 64-wide group, 32 back in the second. -/
def partner (y : Fin 128 → EReal) (d : Fin 128) : EReal :=
  if d.val % 64 < 32 then y ⟨(d.val + 128 - 96) % 128, Nat.mod_lt _ (by decide)⟩ else y ⟨(d.val + 128 - 32) % 128, Nat.mod_lt _ (by decide)⟩

/-- The scale of the scores. -/
def scl : EReal := Ideal.ofBits .f32 0x3DB504F3#32

/-- A query row ready for the scores: normalized, rotated, scaled. -/
def qrow (x g cs sn : Fin 128 → EReal) (d : Fin 128) : EReal :=
  (rms x g d * cs d + partner (rms x g) d * sn d) * scl

/-- The lane test of the kernel's rotation: lane number modulo 64 below 32. -/
theorem lane_lt : ∀ d : Fin 128, IntOp.cmpi .slt (IntOp.andi (BitVec.ofNat 32 d.val) 63#32) 32#32 = BitVec.ofBool (decide (d.val % 64 < 32)) := by
  decide +kernel

/-- Head `h` of the block of queries, row `r`: its 128 channels. -/
def qsrc (v1 : Vec Ideal S1x256x512 .bf16) (h : Fin 4) (r : Fin 256) (k : Fin 128) : EReal :=
  v1 (ix3 0 r ⟨128 * h.val + k.val, by omega⟩)

/-- Row `r` of a two-axis table. -/
def trow {n : Nat} (cs : (⟨2, ![n, 128]⟩ : Shape).Idx → EReal) (r : Fin n) (k : Fin 128) : EReal := cs (ix2 r k)

/-- Head 0 of the block, ready for the scores. -/
theorem pay25_apply (v1 : Vec Ideal S1x256x512 .bf16) (g : Vec Ideal S1x128 .f32) (cs sn : Vec Ideal S256x128 .f32) (r : Fin 256) (d : Fin 128) :
    k0_pay25 (F := Ideal) v1 g cs sn (ix2 r d) = qrow (qsrc v1 0 r) (trow g 0) (trow cs r) (trow sn r) d := by
  pointwise [k0_pay25, k0_pay24]
  rw [lane_lt]
  pointwise
  simp only [qrow, rms, partner, qsrc, trow, scl, Fin.val_zero, Nat.mul_zero, Nat.zero_add]

/-- Head 1 of the block, ready for the scores. -/
theorem pay27_apply (v1 : Vec Ideal S1x256x512 .bf16) (g : Vec Ideal S1x128 .f32) (cs sn : Vec Ideal S256x128 .f32) (r : Fin 256) (d : Fin 128) :
    k0_pay27 (F := Ideal) (k0_pay26 v1) g cs sn (ix2 r d) = qrow (qsrc v1 1 r) (trow g 0) (trow cs r) (trow sn r) d := by
  pointwise [k0_pay27, k0_pay26, k0_pay24]
  rw [lane_lt]
  pointwise
  rfl

/-- Head 2 of the block, ready for the scores. -/
theorem pay31_apply (v1 : Vec Ideal S1x256x512 .bf16) (g : Vec Ideal S1x128 .f32) (cs sn : Vec Ideal S256x128 .f32) (r : Fin 256) (d : Fin 128) :
    k0_pay31 (F := Ideal) (k0_pay28 (k0_pay24 v1)) (k0_pay29 g) (k0_pay30 (k0_pay24 v1)) cs sn (ix2 r d) = qrow (qsrc v1 2 r) (trow g 0) (trow cs r) (trow sn r) d := by
  pointwise [k0_pay31, k0_pay28, k0_pay29, k0_pay30, k0_pay24]
  rw [lane_lt]
  pointwise
  rfl

/-- Head 3 of the block, normalized. -/
theorem pay32_apply (v1 : Vec Ideal S1x256x512 .bf16) (g : Vec Ideal S1x128 .f32) (r : Fin 256) (d : Fin 128) :
    k0_pay32 (F := Ideal) (k0_pay24 v1) g (ix2 r d) = rms (qsrc v1 3 r) (trow g 0) d := by
  pointwise [k0_pay32, k0_pay24]
  rfl

/-- The table of cosines as read for head 3. -/
theorem pay33_apply (cs : Vec Ideal S256x128 .f32) (r : Fin 256) (d : Fin 128) : k0_pay33 (F := Ideal) cs (ix2 r d) = cs (ix2 r d) := by
  pointwise [k0_pay33]

/-- The table of sines as read for head 3. -/
theorem pay34_apply (cs : Vec Ideal S256x128 .f32) (r : Fin 256) (d : Fin 128) : k0_pay34 (F := Ideal) cs (ix2 r d) = cs (ix2 r d) := by
  pointwise [k0_pay34]

/-- The four heads of the block stacked: row `256 h + r` is row `r` of head `h`. -/
def qmat (v1 : Vec Ideal S1x256x512 .bf16) (g : Vec Ideal S1x128 .f32) (cs sn : Vec Ideal S256x128 .f32) : FVec Ideal S1024x128 .bf16 :=
  k0_pay1 (F := Ideal) (k0_pay25 v1 g cs sn) (k0_pay27 (k0_pay26 v1) g cs sn)
    (k0_pay31 (k0_pay28 (k0_pay24 v1)) (k0_pay29 g) (k0_pay30 (k0_pay24 v1)) cs sn)
    (k0_pay32 (k0_pay24 v1) g) (k0_pay33 cs) (k0_pay34 sn)

/-- Row `256 h + r` of the stacked queries is row `r` of head `h`, ready for the scores. -/
theorem qmat_apply (v1 : Vec Ideal S1x256x512 .bf16) (g : Vec Ideal S1x128 .f32) (cs sn : Vec Ideal S256x128 .f32) (h : Fin 4) (r : Fin 256) (d : Fin 128) :
    qmat v1 g cs sn (ix2 ⟨256 * h.val + r.val, by omega⟩ d) = qrow (qsrc v1 h r) (trow g 0) (trow cs r) (trow sn r) d := by
  unfold qmat
  have hr := r.isLt
  match h with
  | 0 =>
    rw [← pay25_apply]
    pointwise [k0_pay1]
  | 1 =>
    rw [← pay27_apply]
    pointwise [k0_pay1]
  | 2 =>
    rw [← pay31_apply]
    pointwise [k0_pay1]
    rw [dif_neg (show ¬ 512 + r.val < 256 by omega), dif_neg (show ¬ 512 + r.val - 256 < 256 by omega), dif_pos (show 512 + r.val - 256 - 256 < 256 by omega)]
    have e : 512 + r.val - 256 - 256 = r.val := by omega
    simp only [e]
  | 3 =>
    pointwise [k0_pay1]
    rw [dif_neg (show ¬ 768 + r.val < 256 by omega), dif_neg (show ¬ 768 + r.val - 256 < 256 by omega), dif_neg (show ¬ 768 + r.val - 256 - 256 < 256 by omega)]
    have e : 768 + r.val - 256 - 256 - 256 = r.val := by omega
    simp only [e, lane_lt, Fin.eta, pay32_apply, pay33_apply, pay34_apply]
    pointwise
    rfl

end Cert.Attn

end
-- ==== Proof.KvBlock.lean ====
/- What one block of the preparation of keys and values writes: 256 rows of both heads' keys, normalized and rotated, and of both heads' values. -/
module

public import proofs.«01_k».proof.Proof.Gen.Kernel6Ideal.Frame
public import proofs.«01_k».proof.Proof.Head

@[expose] public section

set_option maxRecDepth 16384

noncomputable section

namespace Cert.Layer.Kv

open Idealize.ShloMosaic Idealize.SL.Sem Cert.Kernel6Ideal Cert.Kernel6Ideal.Gen Idealize.ShloMosaic.TcCoe Cert.Attn

/-- A row of a head, rotated: the row times the cosines plus its partners times the signed sines. -/
def turned (y cs sn : Fin 128 → EReal) (d : Fin 128) : EReal := y d * cs d + partner y d * sn d

/-- Head `h` of a row of a block of keys. -/
def ksrc (v : Vec Ideal S1x256x256 .bf16) (h : Fin 2) (r : Fin 256) (k : Fin 128) : EReal := v (ix3 0 r ⟨128 * h.val + k.val, by omega⟩)

/-- The keys of head 0. -/
theorem pay4_apply (v : Vec Ideal S1x256x256 .bf16) (g : Vec Ideal S1x128 .f32) (cs sn : Vec Ideal S256x128 .f32) (r : Fin 256) (d : Fin 128) :
    k0_pay4 (F := Ideal) v g cs sn (ix4 0 0 r d) = turned (rms (ksrc v 0 r) (trow g 0)) (trow cs r) (trow sn r) d := by
  pointwise [k0_pay4, k0_pay3]
  rw [lane_lt]
  pointwise
  simp only [turned, rms, partner, ksrc, trow, Fin.val_zero, Nat.mul_zero, Nat.zero_add]

/-- The keys of head 1. -/
theorem pay6_apply (v : Vec Ideal S1x256x256 .bf16) (g : Vec Ideal S1x128 .f32) (cs sn : Vec Ideal S256x128 .f32) (r : Fin 256) (d : Fin 128) :
    k0_pay1 (F := Ideal) (k0_pay6 (k0_pay3 v) g cs sn) (ix4 0 0 r d) = turned (rms (ksrc v 1 r) (trow g 0)) (trow cs r) (trow sn r) d := by
  pointwise [k0_pay1, k0_pay6, k0_pay3]
  rw [lane_lt]
  pointwise
  rfl

/-- The values of a head. -/
theorem pay5_apply (v : Vec Ideal S1x256x128 .bf16) (r : Fin 256) (d : Fin 128) : k0_pay5 (F := Ideal) v (ix4 0 0 r d) = v (ix3 0 r d) := by
  pointwise [k0_pay5]
theorem pay2_apply (v : Vec Ideal S1x256x128 .bf16) (r : Fin 256) (d : Fin 128) : k0_pay2 (F := Ideal) v (ix4 0 0 r d) = v (ix3 0 r d) := by
  pointwise [k0_pay2]

/-- A block's keys. -/
def keys (v : Vec Ideal S1x256x256 .bf16) (g : Vec Ideal S1x128 .f32) (cs sn : Vec Ideal S256x128 .f32) : Vec Ideal S1x2x256x128 .bf16 := fun i =>
  turned (rms (ksrc v (i 1) (i 2)) (trow g 0)) (trow (n := 256) cs (i 2)) (trow (n := 256) sn (i 2)) (i 3)

/-- A block's values. -/
def vals (v : Vec Ideal S1x256x256 .bf16) : Vec Ideal S1x2x256x128 .bf16 := fun i => ksrc v (i 1) (i 2) (i 3)

/-- What is stored for a head is that head's tile. -/
theorem tile (G : Vec Ideal S1x2x256x128 .bf16) (p : Vec Ideal S1x1x256x128 .bf16) (h : Fin 2) (n : Nat) (hn : n = h.val)
    (hp : ∀ (r : Fin 256) (d : Fin 128), p (ix4 0 0 r d) = G (ix4 0 h r d))
    (inbo : ∀ a, (![0, n, 0, 0] : Fin 4 → Nat) a + S1x1x256x128.size a ≤ S1x2x256x128.size a)
    (x : (Rect.unit (s := S1x2x256x128) ![0, n, 0, 0] S1x1x256x128.size inbo).shape.Idx) :
    p x = G ((Rect.unit (s := S1x2x256x128) ![0, n, 0, 0] S1x1x256x128.size inbo).emb x) := by
  subst hn
  have e0 : x 0 = (0 : Fin 1) := Subsingleton.elim (α := Fin 1) _ _
  have e1 : x 1 = (0 : Fin 1) := Subsingleton.elim (α := Fin 1) _ _
  have ex : x = ix4 (n0 := 1) (n1 := 1) (n2 := 256) (n3 := 128) 0 0 (x 2) (x 3) := by
    funext a
    match a with
    | 0 => exact e0
    | 1 => exact e1
    | 2 => rfl
    | 3 => rfl
  rw [ex]
  generalize x 2 = r
  generalize x 3 = d
  change Fin 256 at r
  change Fin 128 at d
  refine (hp r d).trans (congrArg G ?_)
  funext a
  refine Fin.ext ?_
  match a with
  | 0 => rfl
  | 1 => show h.val = h.val + 1 * 0; omega
  | 2 => show r.val = 0 + 1 * r.val; omega
  | 3 => show d.val = 0 + 1 * d.val; omega

/-- A BLOCK'S FIRST OUTPUT is its keys. -/
theorem out5_eq (x0 x1 : Vec Ideal S1x256x256 .bf16) (x2 x3 : Vec Ideal S256x128 .f32) (x4 : Vec Ideal S1x128 .f32) :
    out0_5 (F := Ideal) x0 x1 x2 x3 x4 = keys x0 x4 x2 x3 := by
  funext y
  unfold out0_5
  rw [View.ld_unit_zero (S := S1x256x256) (by funext a; fin_cases a <;> rfl) _ _, View.ld_unit_zero (S := S1x128) (by funext a; fin_cases a <;> rfl) _ _,
    View.ld_unit_zero (S := S256x128) (by funext a; fin_cases a <;> rfl) _ _, View.ld_unit_zero (S := S256x128) (by funext a; fin_cases a <;> rfl) _ _]
  refine View.canon_apply_of_pieces _ _ ?_ y (cover0_5 _ _ y)
  simp only [List.forall_mem_cons]
  exact ⟨tile (keys x0 x4 x2 x3) _ 1 1 rfl (fun r d => pay6_apply x0 x4 x2 x3 r d) _, tile (keys x0 x4 x2 x3) _ 0 0 rfl (fun r d => pay4_apply x0 x4 x2 x3 r d) _,
    fun p hp => absurd hp List.not_mem_nil⟩

/-- A BLOCK'S SECOND OUTPUT is its values. -/
theorem out6_eq (x0 x1 : Vec Ideal S1x256x256 .bf16) (x2 x3 : Vec Ideal S256x128 .f32) (x4 : Vec Ideal S1x128 .f32) :
    out0_6 (F := Ideal) x0 x1 x2 x3 x4 = vals x1 := by
  funext y
  unfold out0_6
  refine View.canon_apply_of_pieces _ _ ?_ y (cover0_6 _ _ y)
  simp only [List.forall_mem_cons]
  refine ⟨tile (vals x1) _ 1 1 rfl (fun r d => (pay2_apply _ r d).trans ?_) _, tile (vals x1) _ 0 0 rfl (fun r d => (pay5_apply _ r d).trans ?_) _,
    fun p hp => absurd hp List.not_mem_nil⟩
  · show _ = ksrc x1 1 r d
    unfold ksrc
    pointwise
  · show _ = ksrc x1 0 r d
    unfold ksrc
    pointwise

end Cert.Layer.Kv

end
-- ==== Proof.KvArray.lean ====
/- What the result arrays of the preparation hold: every head's keys, normalized and rotated, and every head's values. -/
module

public import proofs.«01_k».proof.Proof.Gen.Kernel6Ideal.Value
public import proofs.«01_k».proof.Proof.KvTables
public import proofs.«01_k».proof.Proof.KvBlock
public import Idealize.ShloMosaic.Lib.Pipeline.ValueKit.Point

@[expose] public section

set_option maxRecDepth 16384

noncomputable section

namespace Cert.Layer.Kv

open Idealize.ShloMosaic Idealize.SL.Sem Cert.Kernel6Ideal Cert.Kernel6Ideal.Gen Cert.Kernel6Ideal.Value Idealize.ShloMosaic.TcCoe Cert.Attn

variable (m : (ℓ : Loc nD τ sig) → Buf (Elt Ideal) ℓ)

/-- Head `h` of row `n` of the keys, and of the values, in the projection's columns. -/
def khead (p : Vec Ideal S2x8448x9984 .bf16) (b h : Fin 2) (n : Fin 8448) (k : Fin 128) : EReal := p (ix3 b n ⟨9216 + (h.val * 128 + k.val), by omega⟩)
def vhead (p : Vec Ideal S2x8448x9984 .bf16) (b h : Fin 2) (n : Fin 8448) (k : Fin 128) : EReal := p (ix3 b n ⟨9472 + (h.val * 128 + k.val), by omega⟩)

/-- A key: the head's row, normalized and rotated by its position. -/
def key (p : Vec Ideal S2x8448x9984 .bf16) (g : Fin 128 → EReal) (b h : Fin 2) (n : Fin 8448) (d : Fin 128) : EReal :=
  turned (rms (khead p b h n) g) (cosT n) (sinT n) d

/-- The grid coordinates of a point: batch and block of rows. -/
def tb (t : Fin cfg0.N) : Fin 2 := ⟨t.val / 33, by have h : t.val < 66 := t.isLt; omega⟩
def ti (t : Fin cfg0.N) : Fin 33 := ⟨t.val % 33, by omega⟩

/-- Row `r` of a point's block. -/
def row (t : Fin cfg0.N) (r : Fin 256) : Fin 8448 := ⟨256 * (ti t).val + r.val, by have := (ti t).isLt; omega⟩

theorem idx0 : ∀ t : Fin cfg0.N, win0_0.index t = ![t.val / 33, t.val % 33, 36] := (by decide +kernel : ∀ t : Fin grid0.N, _)
theorem idx1 : ∀ t : Fin cfg0.N, win0_1.index t = ![t.val / 33, t.val % 33, 37] := (by decide +kernel : ∀ t : Fin grid0.N, _)
theorem idx2 : ∀ t : Fin cfg0.N, win0_2.index t = ![t.val % 33, 0] := (by decide +kernel : ∀ t : Fin grid0.N, _)
theorem idx3 : ∀ t : Fin cfg0.N, win0_3.index t = ![t.val % 33, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val / 33, 0, t.val % 33, 0] := (by decide +kernel : ∀ t : Fin grid0.N, _)
theorem idx6 : ∀ t : Fin cfg0.N, win0_6.index t = ![t.val / 33, 0, t.val % 33, 0] := (by decide +kernel : ∀ t : Fin grid0.N, _)

/-- The block of keys staged at a point. -/
theorem x0_at (c : Dev nD) (t : Fin cfg0.N) (r : Fin 256) (k : Fin 256) :
    (iblk m c 0 t : Vec Ideal S1x256x256 .bf16) (ix3 0 r k)
      = (V m c main_arg0 : Vec Ideal S2x8448x9984 .bf16) (ix3 (tb t) (row t r) ⟨9216 + k.val, by omega⟩) := by
  blk_simp [iblk]
  refine congrArg _ ?_
  unfold row tb ti
  blk_ext [idx0]

/-- The block of values staged at a point. -/
theorem x1_at (c : Dev nD) (t : Fin cfg0.N) (r : Fin 256) (k : Fin 256) :
    (iblk m c 1 t : Vec Ideal S1x256x256 .bf16) (ix3 0 r k)
      = (V m c main_arg0 : Vec Ideal S2x8448x9984 .bf16) (ix3 (tb t) (row t r) ⟨9472 + k.val, by omega⟩) := by
  blk_simp [iblk]
  refine congrArg _ ?_
  unfold row tb ti
  blk_ext [idx1]

/-- The rows of cosines staged at a point. -/
theorem x2_at (c : Dev nD) (t : Fin cfg0.N) (r : Fin 256) (d : Fin 128) :
    (iblk m c 2 t : Vec Ideal S256x128 .f32) (ix2 r d) = (V m c main_v37 : Vec Ideal S8448x128 .f32) (ix2 (row t r) d) := by
  blk_simp [iblk]
  refine congrArg _ ?_
  unfold row ti
  blk_ext [idx2]

/-- The rows of signed sines staged at a point. -/
theorem x3_at (c : Dev nD) (t : Fin cfg0.N) (r : Fin 256) (d : Fin 128) :
    (iblk m c 3 t : Vec Ideal S256x128 .f32) (ix2 r d) = (V m c main_v39 : Vec Ideal S8448x128 .f32) (ix2 (row t r) d) := by
  blk_simp [iblk]
  refine congrArg _ ?_
  unfold row ti
  blk_ext [idx3]

/-- The gain. -/
theorem x4_at (c : Dev nD) (t : Fin cfg0.N) (d : Fin 128) :
    (iblk m c 4 t : Vec Ideal S1x128 .f32) (ix2 0 d) = (V m c main_v40 : Vec Ideal S1x128 .f32) (ix2 0 d) := by
  blk_simp [iblk]
  refine congrArg _ ?_
  blk_ext [idx4]

/-- A head's row of the staged block of keys. -/
theorem ksrc_at (c : Dev nD) (t : Fin cfg0.N) (h : Fin 2) (r : Fin 256) :
    ksrc (iblk m c 0 t : Vec Ideal S1x256x256 .bf16) h r = khead (m ((c : Thread nD τ).loc main_arg0)) (tb t) h (row t r) := by
  funext k
  refine (x0_at m c t r _).trans ?_
  rw [V_main_arg0]
  exact congrArg (fun j : Fin 9984 => (m ((c : Thread nD τ).loc main_arg0) : Vec Ideal S2x8448x9984 .bf16) (ix3 (tb t) (row t r) j))
    (Fin.ext (show 9216 + (128 * h.val + k.val) = 9216 + (h.val * 128 + k.val) by omega))

/-- A head's row of the staged block of values. -/
theorem vsrc_at (c : Dev nD) (t : Fin cfg0.N) (h : Fin 2) (r : Fin 256) :
    ksrc (iblk m c 1 t : Vec Ideal S1x256x256 .bf16) h r = vhead (m ((c : Thread nD τ).loc main_arg0)) (tb t) h (row t r) := by
  funext k
  refine (x1_at m c t r _).trans ?_
  rw [V_main_arg0]
  exact congrArg (fun j : Fin 9984 => (m ((c : Thread nD τ).loc main_arg0) : Vec Ideal S2x8448x9984 .bf16) (ix3 (tb t) (row t r) j))
    (Fin.ext (show 9472 + (128 * h.val + k.val) = 9472 + (h.val * 128 + k.val) by omega))

/-- The two output arrays as functions of the kernel's arguments. -/
def GK (c : Dev nD) : Vec Ideal S2x2x8448x128 .bf16 := fun i =>
  key (m ((c : Thread nD τ).loc main_arg0)) (fun d => (m ((c : Thread nD τ).loc main_arg1) : Vec Ideal S128 .f32) (ix1 d)) (i 0) (i 1) (i 2) (i 3)
def GV (c : Dev nD) : Vec Ideal S2x2x8448x128 .bf16 := fun i => vhead (m ((c : Thread nD τ).loc main_arg0)) (i 0) (i 1) (i 2) (i 3)

/-- The place of an output that a place of a point's block is. -/
theorem emb5 (t : Fin cfg0.N) (h : Fin 2) (r : Fin 256) (d : Fin 128) :
    ((cfg0.win 5).blk t).view.emb (ix4 (n0 := 1) (n1 := 2) (n2 := 256) (n3 := 128) 0 h r d) = (ix4 (tb t) h (row t r) d : S2x2x8448x128.Idx) := by
  unfold row tb ti
  blk_ext [idx5]
theorem emb6 (t : Fin cfg0.N) (h : Fin 2) (r : Fin 256) (d : Fin 128) :
    ((cfg0.win 6).blk t).view.emb (ix4 (n0 := 1) (n1 := 2) (n2 := 256) (n3 := 128) 0 h r d) = (ix4 (tb t) h (row t r) d : S2x2x8448x128.Idx) := by
  unfold row tb ti
  blk_ext [idx6]

/-- A place of a block of outputs. -/
theorem place (y : S1x2x256x128.Idx) : ∃ (h : Fin 2) (r : Fin 256) (d : Fin 128), y = ix4 (n0 := 1) (n1 := 2) (n2 := 256) (n3 := 128) 0 h r d := by
  refine ⟨y 1, y 2, y 3, ?_⟩
  have e0 : y 0 = (0 : Fin 1) := Subsingleton.elim (α := Fin 1) _ _
  funext a
  match a with
  | 0 => exact e0
  | 1 => rfl
  | 2 => rfl
  | 3 => rfl

/-- THE FIRST RESULT ARRAY of the kernel holds the keys, everywhere. -/
theorem final5 (c : Dev nD) : (dats m 0 c).arrAt 5 cfg0.N = GK m c := by
  refine (dats m 0 c).arrAt_eq_of_covers 5 _ (by decide +kernel) fun t hf y => ?_
  obtain ⟨h, r, d, rfl⟩ := place y
  blk_simp
  rw [emb5, after0_5, out5_eq]
  show turned (rms (ksrc (iblk m c 0 t) h r) (trow (iblk m c 4 t) 0)) (trow (n := 256) (iblk m c 2 t) r) (trow (n := 256) (iblk m c 3 t) r) d
    = key _ _ (tb t) h (row t r) d
  have e4 : trow (n := 1) (iblk m c 4 t) 0 = fun d => (m ((c : Thread nD τ).loc main_arg1) : Vec Ideal S128 .f32) (ix1 d) :=
    funext fun d => (x4_at m c t d).trans (gain_at m c d)
  have e2 : trow (n := 256) (iblk m c 2 t) r = cosT (row t r) := funext fun d => (x2_at m c t r d).trans (cos_at m c _ d)
  have e3 : trow (n := 256) (iblk m c 3 t) r = sinT (row t r) := funext fun d => (x3_at m c t r d).trans (sin_at m c _ d)
  rw [ksrc_at, e4, e2, e3]
  rfl

/-- THE SECOND RESULT ARRAY of the kernel holds the values, everywhere. -/
theorem final6 (c : Dev nD) : (dats m 0 c).arrAt 6 cfg0.N = GV m c := by
  refine (dats m 0 c).arrAt_eq_of_covers 6 _ (by decide +kernel) fun t hf y => ?_
  obtain ⟨h, r, d, rfl⟩ := place y
  blk_simp
  rw [emb6, after0_6, out6_eq]
  show ksrc (iblk m c 1 t) h r d = vhead _ (tb t) h (row t r) d
  rw [vsrc_at]

end Cert.Layer.Kv

end
-- ==== Proof.Ref.lean ====
/- The reference's stages as functions of arrays, and its result as their composition. -/
module

public import proofs.«01_k».proof.Proof.Gen.ReferenceIdeal.Run
public import Idealize.ShloMosaic.Lib.Pointwise

@[expose] public section

set_option maxRecDepth 16384

noncomputable section

namespace Cert.Attn.Ref

open Idealize.ShloMosaic Idealize.SL.Sem Cert.ReferenceIdeal Cert.ReferenceIdeal.Gen Idealize.ShloMosaic.TcCoe

/-- The rotary angles: position, axis (row or column), pair. -/
def angles  : FVec Ideal S8192x2x32 .f32 :=
  have v0 : Vec Ideal S128 .i32 := (iotaInDim S128 32 0)
  have v1 : Vec Ideal S128x64 .i32 := broadcastInDim S128x64 ![0] bcast_S128_S128x64_0 v0
  have v2 : Vec Ideal S8192 .i32 := shapeCast _ v1 shapeCasts_S128x64_S8192
  have v18 : Vec Ideal S8192x1 .i32 := broadcastInDim S8192x1 ![0] bcast_S8192_S8192x1_0 v2
  have v3 : Vec Ideal S64 .i32 := (iotaInDim S64 32 0)
  have v4 : Vec Ideal S1x64 .i32 := shapeCast _ v3 shapeCasts_S64_S1x64
  have v5 : Vec Ideal S128x64 .i32 := broadcastInDim S128x64 ![0, 1] bcast_S1x64_S128x64_0_1 v4
  have v6 : Vec Ideal S8192 .i32 := shapeCast _ v5 shapeCasts_S128x64_S8192
  have v19 : Vec Ideal S8192x1 .i32 := broadcastInDim S8192x1 ![0] bcast_S8192_S8192x1_0 v6
  have v20 : Vec Ideal S8192x2 .i32 := concatenate S8192x2 1 [⟨S8192x1, v18⟩, ⟨S8192x1, v19⟩] concatenates_S8192x1_S8192x1_S8192x2_d1
  have v21 : FVec Ideal S8192x2 .f32 := sitofp .f32 v20
  have v22 : FVec Ideal S8192x2x1 .f32 := broadcastInDim S8192x2x1 ![0, 1] bcast_S8192x2_S8192x2x1_0_1 v21
  have v24 : FVec Ideal S8192x2x32 .f32 := broadcastInDim S8192x2x32 ![0, 1, 2] bcast_S8192x2x1_S8192x2x32_0_1_2 v22
  have cst_3 : FVec Ideal S_ .f32 := (constant S_ .f32 0x3F800000#32)
  have v16 : FVec Ideal S32 .f32 := broadcastInDim S32 ![] bcast_S_S32 cst_3
  have cst_2 : FVec Ideal S_ .f32 := (constant S_ .f32 0x461C4000#32)
  have v14 : FVec Ideal S32 .f32 := broadcastInDim S32 ![] bcast_S_S32 cst_2
  have cst_0 : FVec Ideal S_ .f32 := (constant S_ .f32 0x00000000#32)
  have v10 : FVec Ideal S32 .f32 := broadcastInDim S32 ![] bcast_S_S32 cst_0
  have cst : FVec Ideal S_ .f32 := (constant S_ .f32 0x40000000#32)
  have v8 : FVec Ideal S32 .f32 := broadcastInDim S32 ![] bcast_S_S32 cst
  have v7 : FVec Ideal S32 .f32 := (sitofp .f32 (iotaInDim S32 32 0))
  have v9 : FVec Ideal S32 .f32 := mulf v8 v7
  have v11 : FVec Ideal S32 .f32 := addf v10 v9
  have cst_1 : FVec Ideal S_ .f32 := (constant S_ .f32 0x42800000#32)
  have v12 : FVec Ideal S32 .f32 := broadcastInDim S32 ![] bcast_S_S32 cst_1
  have v13 : FVec Ideal S32 .f32 := Host.divf v11 v12
  have v15 : FVec Ideal S32 .f32 := Host.powf v14 v13
  have v17 : FVec Ideal S32 .f32 := Host.divf v16 v15
  have v23 : FVec Ideal S1x1x32 .f32 := broadcastInDim S1x1x32 ![2] bcast_S32_S1x1x32_2 v17
  have v25 : FVec Ideal S8192x2x32 .f32 := broadcastInDim S8192x2x32 ![0, 1, 2] bcast_S1x1x32_S8192x2x32_0_1_2 v23
  mulf v24 v25

/-- The query heads, RMS-normalized and scaled by the gain. -/
def normed (p : FVec Ideal S2x8448x9984 .bf16) (g : FVec Ideal S128 .f32) : FVec Ideal S2x8x8448x128 .f32 :=
  have v31 : FVec Ideal S2x8448x1024 .bf16 := extractStridedSlice S2x8448x1024 ![0, 0, 6144] p slices_S2x8448x9984_S2x8448x1024_0_0_6144
  have v32 : FVec Ideal S2x8448x1024 .f32 := extf .f32 v31 bitsLt_bf16_f32
  have v33 : FVec Ideal S2x8448x8x128 .f32 := shapeCast _ v32 shapeCasts_S2x8448x1024_S2x8448x8x128
  have v34 : FVec Ideal S2x8x8448x128 .f32 := transpose S2x8x8448x128 [0, 2, 1, 3] v33 transposes_S2x8448x8x128_S2x8x8448x128_0_2_1_3
  have v35 : FVec Ideal S2x8x8448x128 .f32 := mulf v34 v34
  have cst_4 : FVec Ideal S_ .f32 := (constant S_ .f32 0x00000000#32)
  have v36 : FVec Ideal S2x8x8448 .f32 := Host.reduceAdd v35 cst_4 reducesTo_S2x8x8448x128_S2x8x8448_d3 h_S_
  have v37 : FVec Ideal S2x8x8448x1 .f32 := broadcastInDim S2x8x8448x1 ![0, 1, 2] bcast_S2x8x8448_S2x8x8448x1_0_1_2 v36
  have cst_5 : FVec Ideal S_ .f32 := (constant S_ .f32 0x43000000#32)
  have v38 : FVec Ideal S2x8x8448x1 .f32 := broadcastInDim S2x8x8448x1 ![] bcast_S_S2x8x8448x1 cst_5
  have v39 : FVec Ideal S2x8x8448x1 .f32 := Host.divf v37 v38
  have cst_6 : FVec Ideal S_ .f32 := (constant S_ .f32 0x358637BD#32)
  have v40 : FVec Ideal S2x8x8448x1 .f32 := broadcastInDim S2x8x8448x1 ![] bcast_S_S2x8x8448x1 cst_6
  have v41 : FVec Ideal S2x8x8448x1 .f32 := addf v39 v40
  have v42 : FVec Ideal S2x8x8448x1 .f32 := Host.rsqrt v41
  have v43 : FVec Ideal S2x8x8448x128 .f32 := broadcastInDim S2x8x8448x128 ![0, 1, 2, 3] bcast_S2x8x8448x1_S2x8x8448x128_0_1_2_3 v42
  have v44 : FVec Ideal S2x8x8448x128 .f32 := mulf v34 v43
  have v45 : FVec Ideal S1x1x1x128 .f32 := broadcastInDim S1x1x1x128 ![3] bcast_S128_S1x1x1x128_3 g
  have v46 : FVec Ideal S2x8x8448x128 .f32 := broadcastInDim S2x8x8448x128 ![0, 1, 2, 3] bcast_S1x1x1x128_S2x8x8448x128_0_1_2_3 v45
  mulf v44 v46

/-- The latent queries, rotated. -/
def rotated (x : FVec Ideal S2x8x8448x128 .f32) (c : FVec Ideal S8192x2x32 .f32) (s : FVec Ideal S8192x2x32 .f32) : FVec Ideal S2x2x4x8192x128 .f32 :=
  have v49 : FVec Ideal S2x8x8192x128 .f32 := extractStridedSlice S2x8x8192x128 ![0, 0, 256, 0] x slices_S2x8x8448x128_S2x8x8192x128_0_0_256_0
  have v50 : FVec Ideal S2x8x8192x2x2x32 .f32 := shapeCast _ v49 shapeCasts_S2x8x8192x128_S2x8x8192x2x2x32
  have v51 : FVec Ideal S2x8x8192x2x1x32 .f32 := extractStridedSlice S2x8x8192x2x1x32 ![0, 0, 0, 0, 0, 0] v50 slices_S2x8x8192x2x2x32_S2x8x8192x2x1x32_0_0_0_0_0_0
  have v52 : FVec Ideal S2x8x8192x2x32 .f32 := shapeCast _ v51 shapeCasts_S2x8x8192x2x1x32_S2x8x8192x2x32
  have v55 : FVec Ideal S1x1x8192x2x32 .f32 := broadcastInDim S1x1x8192x2x32 ![2, 3, 4] bcast_S8192x2x32_S1x1x8192x2x32_2_3_4 c
  have v56 : FVec Ideal S2x8x8192x2x32 .f32 := broadcastInDim S2x8x8192x2x32 ![0, 1, 2, 3, 4] bcast_S1x1x8192x2x32_S2x8x8192x2x32_0_1_2_3_4 v55
  have v57 : FVec Ideal S2x8x8192x2x32 .f32 := mulf v52 v56
  have v53 : FVec Ideal S2x8x8192x2x1x32 .f32 := extractStridedSlice S2x8x8192x2x1x32 ![0, 0, 0, 0, 1, 0] v50 slices_S2x8x8192x2x2x32_S2x8x8192x2x1x32_0_0_0_0_1_0
  have v54 : FVec Ideal S2x8x8192x2x32 .f32 := shapeCast _ v53 shapeCasts_S2x8x8192x2x1x32_S2x8x8192x2x32
  have v58 : FVec Ideal S1x1x8192x2x32 .f32 := broadcastInDim S1x1x8192x2x32 ![2, 3, 4] bcast_S8192x2x32_S1x1x8192x2x32_2_3_4 s
  have v59 : FVec Ideal S2x8x8192x2x32 .f32 := broadcastInDim S2x8x8192x2x32 ![0, 1, 2, 3, 4] bcast_S1x1x8192x2x32_S2x8x8192x2x32_0_1_2_3_4 v58
  have v60 : FVec Ideal S2x8x8192x2x32 .f32 := mulf v54 v59
  have v61 : FVec Ideal S2x8x8192x2x32 .f32 := subf v57 v60
  have v69 : FVec Ideal S2x8x8192x2x1x32 .f32 := broadcastInDim S2x8x8192x2x1x32 ![0, 1, 2, 3, 5] bcast_S2x8x8192x2x32_S2x8x8192x2x1x32_0_1_2_3_5 v61
  have v62 : FVec Ideal S1x1x8192x2x32 .f32 := broadcastInDim S1x1x8192x2x32 ![2, 3, 4] bcast_S8192x2x32_S1x1x8192x2x32_2_3_4 s
  have v63 : FVec Ideal S2x8x8192x2x32 .f32 := broadcastInDim S2x8x8192x2x32 ![0, 1, 2, 3, 4] bcast_S1x1x8192x2x32_S2x8x8192x2x32_0_1_2_3_4 v62
  have v64 : FVec Ideal S2x8x8192x2x32 .f32 := mulf v52 v63
  have v65 : FVec Ideal S1x1x8192x2x32 .f32 := broadcastInDim S1x1x8192x2x32 ![2, 3, 4] bcast_S8192x2x32_S1x1x8192x2x32_2_3_4 c
  have v66 : FVec Ideal S2x8x8192x2x32 .f32 := broadcastInDim S2x8x8192x2x32 ![0, 1, 2, 3, 4] bcast_S1x1x8192x2x32_S2x8x8192x2x32_0_1_2_3_4 v65
  have v67 : FVec Ideal S2x8x8192x2x32 .f32 := mulf v54 v66
  have v68 : FVec Ideal S2x8x8192x2x32 .f32 := addf v64 v67
  have v70 : FVec Ideal S2x8x8192x2x1x32 .f32 := broadcastInDim S2x8x8192x2x1x32 ![0, 1, 2, 3, 5] bcast_S2x8x8192x2x32_S2x8x8192x2x1x32_0_1_2_3_5 v68
  have v71 : FVec Ideal S2x8x8192x2x2x32 .f32 := concatenate S2x8x8192x2x2x32 4 [⟨S2x8x8192x2x1x32, v69⟩, ⟨S2x8x8192x2x1x32, v70⟩] concatenates_S2x8x8192x2x1x32_S2x8x8192x2x1x32_S2x8x8192x2x2x32_d4
  have v72 : FVec Ideal S2x8x8192x128 .f32 := shapeCast _ v71 shapeCasts_S2x8x8192x2x2x32_S2x8x8192x128
  shapeCast _ v72 shapeCasts_S2x8x8192x128_S2x2x4x8192x128

/-- The context queries. -/
def contextQ (x : FVec Ideal S2x8x8448x128 .f32) : FVec Ideal S2x2x4x256x128 .f32 :=
  have v48 : FVec Ideal S2x8x256x128 .f32 := extractStridedSlice S2x8x256x128 ![0, 0, 0, 0] x slices_S2x8x8448x128_S2x8x256x128_0_0_0_0
  shapeCast _ v48 shapeCasts_S2x8x256x128_S2x2x4x256x128

/-- The scaled scores of the latent queries. -/
def latScores (q : FVec Ideal S2x2x4x8192x128 .f32) (kp : FVec Ideal S2x2x8448x128 .bf16) : FVec Ideal S2x2x4x8192x8448 .f32 :=
  have v29 : FVec Ideal S2x2x8448x128 .f32 := extf .f32 kp bitsLt_bf16_f32
  have v74 : FVec Ideal S2x2x4x8192x8448 .f32 := Host.dotGeneral dot_S2x2x4x8192x128_S2x2x8448x128_S2x2x4x8192x8448_4_3_23_2_01_01 none q v29
  have cst_7 : FVec Ideal S_ .f32 := (constant S_ .f32 0x3DB504F3#32)
  have v75 : FVec Ideal S2x2x4x8192x8448 .f32 := broadcastInDim S2x2x4x8192x8448 ![] bcast_S_S2x2x4x8192x8448 cst_7
  mulf v74 v75

/-- The largest score of each latent query. -/
def latTop (s : FVec Ideal S2x2x4x8192x8448 .f32) : FVec Ideal S2x2x4x8192 .f32 :=
  have cst_9 : FVec Ideal S_ .f32 := (constant S_ .f32 0xFF800000#32)
  have v78 : FVec Ideal S2x2x4x8192 .f32 := broadcastInDim S2x2x4x8192 ![] bcast_S_S2x2x4x8192 cst_9
  have cst_8 : FVec Ideal S_ .f32 := (constant S_ .f32 0xFF800000#32)
  have v77 : FVec Ideal S2x2x4x8192 .f32 := Host.reduce FloatOps.maximumf s cst_8 reducesTo_S2x2x4x8192x8448_S2x2x4x8192_d4 h_S_
  maximumf v78 v77

/-- The exponentials of the latent scores below the largest. -/
def latExp (s : FVec Ideal S2x2x4x8192x8448 .f32) (t : FVec Ideal S2x2x4x8192 .f32) : FVec Ideal S2x2x4x8192x8448 .f32 :=
  have v80 : FVec Ideal S2x2x4x8192x1 .f32 := broadcastInDim S2x2x4x8192x1 ![0, 1, 2, 3] bcast_S2x2x4x8192_S2x2x4x8192x1_0_1_2_3 t
  have v81 : FVec Ideal S2x2x4x8192x8448 .f32 := broadcastInDim S2x2x4x8192x8448 ![0, 1, 2, 3, 4] bcast_S2x2x4x8192x1_S2x2x4x8192x8448_0_1_2_3_4 v80
  have v82 : FVec Ideal S2x2x4x8192x8448 .f32 := subf s v81
  Host.exp v82

/-- The sum of the exponentials of each latent query. -/
def latTotal (e : FVec Ideal S2x2x4x8192x8448 .f32) : FVec Ideal S2x2x4x8192 .f32 :=
  have cst_10 : FVec Ideal S_ .f32 := (constant S_ .f32 0x00000000#32)
  Host.reduceAdd e cst_10 reducesTo_S2x2x4x8192x8448_S2x2x4x8192_d4 h_S_

/-- The exponentials divided by their sum. -/
def latDiv (e : FVec Ideal S2x2x4x8192x8448 .f32) (t : FVec Ideal S2x2x4x8192 .f32) : FVec Ideal S2x2x4x8192x8448 .f32 :=
  have v85 : FVec Ideal S2x2x4x8192x1 .f32 := broadcastInDim S2x2x4x8192x1 ![0, 1, 2, 3] bcast_S2x2x4x8192_S2x2x4x8192x1_0_1_2_3 t
  have v86 : FVec Ideal S2x2x4x8192x8448 .f32 := broadcastInDim S2x2x4x8192x8448 ![0, 1, 2, 3, 4] bcast_S2x2x4x8192x1_S2x2x4x8192x8448_0_1_2_3_4 v85
  Host.divf e v86

/-- The latent weights times the values. -/
def latSum (w : FVec Ideal S2x2x4x8192x8448 .f32) (vp : FVec Ideal S2x2x8448x128 .bf16) : FVec Ideal S2x2x4x8192x128 .f32 :=
  have v30 : FVec Ideal S2x2x8448x128 .f32 := extf .f32 vp bitsLt_bf16_f32
  Host.dotGeneral dot_S2x2x4x8192x8448_S2x2x8448x128_S2x2x4x8192x128_4_2_23_3_01_01 none w v30

/-- Softmax of the latent scores, times the values. -/
def latAttn (s : FVec Ideal S2x2x4x8192x8448 .f32) (vp : FVec Ideal S2x2x8448x128 .bf16) : FVec Ideal S2x2x4x8192x128 .f32 :=
  latSum (latDiv (latExp s (latTop s)) (latTotal (latExp s (latTop s)))) vp

/-- The scaled scores of the context queries. -/
def ctxScores (q : FVec Ideal S2x2x4x256x128 .f32) (kp : FVec Ideal S2x2x8448x128 .bf16) : FVec Ideal S2x2x4x256x256 .f32 :=
  have v29 : FVec Ideal S2x2x8448x128 .f32 := extf .f32 kp bitsLt_bf16_f32
  have v90 : FVec Ideal S2x2x256x128 .f32 := extractStridedSlice S2x2x256x128 ![0, 0, 0, 0] v29 slices_S2x2x8448x128_S2x2x256x128_0_0_0_0
  have v92 : FVec Ideal S2x2x4x256x256 .f32 := Host.dotGeneral dot_S2x2x4x256x128_S2x2x256x128_S2x2x4x256x256_4_3_23_2_01_01 none q v90
  have cst_11 : FVec Ideal S_ .f32 := (constant S_ .f32 0x3DB504F3#32)
  have v93 : FVec Ideal S2x2x4x256x256 .f32 := broadcastInDim S2x2x4x256x256 ![] bcast_S_S2x2x4x256x256 cst_11
  mulf v92 v93

/-- Softmax of the context scores, times the values. -/
def ctxAttn (s : FVec Ideal S2x2x4x256x256 .f32) (vp : FVec Ideal S2x2x8448x128 .bf16) : FVec Ideal S2x2x4x256x128 .f32 :=
  have cst_13 : FVec Ideal S_ .f32 := (constant S_ .f32 0xFF800000#32)
  have v96 : FVec Ideal S2x2x4x256 .f32 := broadcastInDim S2x2x4x256 ![] bcast_S_S2x2x4x256 cst_13
  have cst_12 : FVec Ideal S_ .f32 := (constant S_ .f32 0xFF800000#32)
  have v95 : FVec Ideal S2x2x4x256 .f32 := Host.reduce FloatOps.maximumf s cst_12 reducesTo_S2x2x4x256x256_S2x2x4x256_d4 h_S_
  have v97 : FVec Ideal S2x2x4x256 .f32 := maximumf v96 v95
  have v98 : FVec Ideal S2x2x4x256x1 .f32 := broadcastInDim S2x2x4x256x1 ![0, 1, 2, 3] bcast_S2x2x4x256_S2x2x4x256x1_0_1_2_3 v97
  have v99 : FVec Ideal S2x2x4x256x256 .f32 := broadcastInDim S2x2x4x256x256 ![0, 1, 2, 3, 4] bcast_S2x2x4x256x1_S2x2x4x256x256_0_1_2_3_4 v98
  have v100 : FVec Ideal S2x2x4x256x256 .f32 := subf s v99
  have v101 : FVec Ideal S2x2x4x256x256 .f32 := Host.exp v100
  have cst_14 : FVec Ideal S_ .f32 := (constant S_ .f32 0x00000000#32)
  have v102 : FVec Ideal S2x2x4x256 .f32 := Host.reduceAdd v101 cst_14 reducesTo_S2x2x4x256x256_S2x2x4x256_d4 h_S_
  have v103 : FVec Ideal S2x2x4x256x1 .f32 := broadcastInDim S2x2x4x256x1 ![0, 1, 2, 3] bcast_S2x2x4x256_S2x2x4x256x1_0_1_2_3 v102
  have v104 : FVec Ideal S2x2x4x256x256 .f32 := broadcastInDim S2x2x4x256x256 ![0, 1, 2, 3, 4] bcast_S2x2x4x256x1_S2x2x4x256x256_0_1_2_3_4 v103
  have v105 : FVec Ideal S2x2x4x256x256 .f32 := Host.divf v101 v104
  have v30 : FVec Ideal S2x2x8448x128 .f32 := extf .f32 vp bitsLt_bf16_f32
  have v91 : FVec Ideal S2x2x256x128 .f32 := extractStridedSlice S2x2x256x128 ![0, 0, 0, 0] v30 slices_S2x2x8448x128_S2x2x256x128_0_0_0_0
  Host.dotGeneral dot_S2x2x4x256x256_S2x2x256x128_S2x2x4x256x128_4_2_23_3_01_01 none v105 v91

/-- The two parts, heads beside each other, one under the other. -/
def merged (l : FVec Ideal S2x2x4x8192x128 .f32) (x : FVec Ideal S2x2x4x256x128 .f32) : FVec Ideal S2x8448x1024 .bf16 :=
  have v110 : FVec Ideal S2x8x256x128 .f32 := shapeCast _ x shapeCasts_S2x2x4x256x128_S2x8x256x128
  have v111 : FVec Ideal S2x256x8x128 .f32 := transpose S2x256x8x128 [0, 2, 1, 3] v110 transposes_S2x8x256x128_S2x256x8x128_0_2_1_3
  have v112 : FVec Ideal S2x256x1024 .f32 := shapeCast _ v111 shapeCasts_S2x256x8x128_S2x256x1024
  have v107 : FVec Ideal S2x8x8192x128 .f32 := shapeCast _ l shapeCasts_S2x2x4x8192x128_S2x8x8192x128
  have v108 : FVec Ideal S2x8192x8x128 .f32 := transpose S2x8192x8x128 [0, 2, 1, 3] v107 transposes_S2x8x8192x128_S2x8192x8x128_0_2_1_3
  have v109 : FVec Ideal S2x8192x1024 .f32 := shapeCast _ v108 shapeCasts_S2x8192x8x128_S2x8192x1024
  have v113 : FVec Ideal S2x8448x1024 .f32 := concatenate S2x8448x1024 1 [⟨S2x256x1024, v112⟩, ⟨S2x8192x1024, v109⟩] concatenates_S2x256x1024_S2x8192x1024_S2x8448x1024_d1
  truncf .bf16 v113 bitsLt_bf16_f32

/-- The reference's result. -/
def out (p : FVec Ideal S2x8448x9984 .bf16) (kp vp : FVec Ideal S2x2x8448x128 .bf16) (g : FVec Ideal S128 .f32) : FVec Ideal S2x8448x1024 .bf16 :=
  merged (latAttn (latScores (rotated (normed p g) (Host.cos angles) (Host.sin angles)) kp) vp) (ctxAttn (ctxScores (contextQ (normed p g)) kp) vp)

set_option maxHeartbeats 4000000 in
/-- The reference's composed term is `out` of its arguments. -/
theorem res_eq (m : (ℓ : Loc nD τ sig) → Buf (Elt Ideal) ℓ) (c : Dev nD) :
    Cert.ReferenceIdeal.Value.res_main_v114 m c = out (m ((c.tc : Thread nD τ).loc main_arg0)) (m ((c.tc : Thread nD τ).loc main_arg1)) (m ((c.tc : Thread nD τ).loc main_arg2)) (m ((c.tc : Thread nD τ).loc main_arg3)) := by
  unfold Cert.ReferenceIdeal.Value.res_main_v114
  rfl

end Cert.Attn.Ref

end
-- ==== Proof.Softmax.lean ====
/- The softmax of a finite row over the extended reals: computed chunk by chunk with a running maximum, and at once;
   dividing once at the end, or dividing each weight. -/
module

public import Idealize.ShloMosaic.Lib.Pointwise

@[expose] public section

noncomputable section

namespace Cert.Attn

open Idealize.ShloMosaic

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.neg {x : EReal} (hx : IsReal x) : IsReal (-x) := by
  obtain ⟨a, rfl⟩ := hx; exact ⟨-a, (EReal.coe_neg a).symm⟩

theorem IsReal.sum {ι : Type} (t : Finset ι) {f : ι → EReal} (h : ∀ i ∈ t, IsReal (f i)) : IsReal (∑ i ∈ t, f i) := by
  classical
  induction t using Finset.induction_on with
  | empty => exact ⟨0, by simp⟩
  | insert a t ha ih =>
    rw [Finset.sum_insert ha]
    exact (h a (Finset.mem_insert_self a t)).add (ih fun i hi => h i (Finset.mem_insert_of_mem hi))

/-- A sum of real numbers, taken over the extended reals. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

theorem isReal_of_ne {x : EReal} (h1 : x ≠ ⊤) (h2 : x ≠ ⊥) : IsReal x := ⟨x.toReal, (EReal.coe_toReal h1 h2).symm⟩

/-- Multiplying by a nonnegative real distributes over any finite sum of extended reals. -/
theorem mul_sum_of_nonneg {ι : Type} (t : Finset ι) (f : ι → EReal) {c : EReal} (h0 : 0 ≤ c) (h1 : c ≠ ⊤) :
    c * ∑ i ∈ t, f i = ∑ i ∈ t, c * f i := by
  classical
  induction t using Finset.induction_on with
  | empty => simp
  | insert a t ha ih =>
    rw [Finset.sum_insert ha, Finset.sum_insert ha, EReal.left_distrib_of_nonneg_of_ne_top h0 h1, ih]

theorem exp_bot : Ideal.exp ⊥ = 0 := rfl

/-- The exponential is nonnegative. -/
theorem exp_nonneg (x : EReal) : 0 ≤ Ideal.exp x := by
  induction x with
  | bot => exact le_refl 0
  | top => exact le_top
  | coe r => exact EReal.coe_nonneg.mpr (Real.exp_pos r).le

/-- The exponential of a difference from an upper bound is at most one, so it is no infinity. -/
theorem exp_sub_ne_top {x y : EReal} (h : x ≤ y) : Ideal.exp (x - y) ≠ ⊤ := by
  induction x with
  | bot => simp [exp_bot]
  | top => rw [top_le_iff.mp h]; simp [exp_bot]
  | coe a =>
    induction y with
    | bot => exact absurd h (by simp)
    | top => simp [exp_bot]
    | coe b => rw [← EReal.coe_sub]; exact EReal.coe_ne_top _

/-- Moving a weight from one upper bound to a larger one. -/
theorem exp_rescale {s m m' : EReal} (h : s ≤ m) (h' : m ≤ m') :
    Ideal.exp (m - m') * Ideal.exp (s - m) = Ideal.exp (s - m') := by
  induction s with
  | bot => simp [exp_bot]
  | top => rw [top_le_iff.mp h] at h' ⊢; rw [top_le_iff.mp h']; simp [exp_bot]
  | coe s =>
    induction m with
    | bot => exact absurd h (by simp)
    | top => rw [top_le_iff.mp h']; simp [exp_bot]
    | coe m =>
      induction m' with
      | bot => exact absurd h' (by simp)
      | top => simp [exp_bot]
      | coe m' =>
        rw [← EReal.coe_sub, ← EReal.coe_sub, ← EReal.coe_sub]
        show ((Real.exp (m - m') : ℝ) : EReal) * ((Real.exp (s - m) : ℝ) : EReal) = ((Real.exp (s - m') : ℝ) : EReal)
        rw [← EReal.coe_mul, ← Real.exp_add]
        congr 2; ring

/-- The maximum of the first `n` scores. -/
def smax (s : ℕ → EReal) (n : ℕ) : EReal := (Finset.range n).sup s

/-- The sum of the first `n` weights, each times its value. -/
def wsum (s v : ℕ → EReal) (n : ℕ) (M : EReal) : EReal := ∑ j ∈ Finset.range n, Ideal.exp (s j - M) * v j

/-- The sum of the first `n` weights. -/
def lsum (s : ℕ → EReal) (n : ℕ) (M : EReal) : EReal := ∑ j ∈ Finset.range n, Ideal.exp (s j - M)

/-- Attention over the first `n` keys: the weighted sum of the values over the sum of the weights. -/
def attn (s v : ℕ → EReal) (n : ℕ) : EReal := Ideal.div (wsum s v n (smax s n)) (lsum s n (smax s n))

theorem smax_zero (s : ℕ → EReal) : smax s 0 = ⊥ := by simp [smax]
theorem wsum_zero (s v : ℕ → EReal) (M : EReal) : wsum s v 0 M = 0 := by simp [wsum]
theorem lsum_zero (s : ℕ → EReal) (M : EReal) : lsum s 0 M = 0 := by simp [lsum]

theorem smax_add (s : ℕ → EReal) (a n : ℕ) : max (smax s a) (Finset.univ.sup fun j : Fin n => s (a + j.val)) = smax s (a + n) := by
  unfold smax
  rw [Finset.range_add_eq_union, Finset.sup_union, Finset.sup_map]
  congr 1
  apply le_antisymm
  · exact Finset.sup_le fun j _ => Finset.le_sup (f := s ∘ (addLeftEmbedding a)) (Finset.mem_range.mpr j.isLt)
  · refine Finset.sup_le fun j hj => ?_
    exact Finset.le_sup (f := fun j : Fin n => s (a + j.val)) (Finset.mem_univ (⟨j, Finset.mem_range.mp hj⟩ : Fin n))

theorem smax_fin (s : ℕ → EReal) (n : ℕ) : (Finset.univ.sup fun j : Fin n => s j.val) = smax s n := by
  have h := smax_add s 0 n
  simp only [smax_zero, Nat.zero_add, bot_sup_eq, max_eq_right bot_le] at h
  exact h

theorem smax_le_add (s : ℕ → EReal) (a n : ℕ) : smax s a ≤ smax s (a + n) :=
  Finset.sup_mono (Finset.range_mono (Nat.le_add_right a n))

/-- One chunk of the running weighted sum. -/
theorem wsum_add (s v : ℕ → EReal) (a n : ℕ) :
    Ideal.exp (smax s a - smax s (a + n)) * wsum s v a (smax s a)
      + ∑ j : Fin n, Ideal.exp (s (a + j.val) - smax s (a + n)) * v (a + j.val) = wsum s v (a + n) (smax s (a + n)) := by
  have hle := smax_le_add s a n
  generalize smax s (a + n) = M' at *
  unfold wsum
  rw [mul_sum_of_nonneg _ _ (exp_nonneg _) (exp_sub_ne_top hle), Finset.sum_range_add, Fin.sum_univ_eq_sum_range (fun j => Ideal.exp (s (a + j) - M') * v (a + j)) n]
  congr 1
  refine Finset.sum_congr rfl fun j hj => ?_
  rw [← mul_assoc, exp_rescale (show s j ≤ smax s a from Finset.le_sup (f := s) hj) hle]

/-- One chunk of the running sum of the weights. -/
theorem lsum_add (s : ℕ → EReal) (a n : ℕ) :
    Ideal.exp (smax s a - smax s (a + n)) * lsum s a (smax s a)
      + ∑ j : Fin n, Ideal.exp (s (a + j.val) - smax s (a + n)) = lsum s (a + n) (smax s (a + n)) := by
  have h := wsum_add s (fun _ => 1) a n
  simpa only [wsum, lsum, mul_one] using h

/-- The maximum of real scores is real. -/
theorem smax_isReal (s : ℕ → EReal) {n : ℕ} (hn : 0 < n) (h : ∀ j < n, IsReal (s j)) : IsReal (smax s n) := by
  unfold smax
  obtain ⟨j, hj, e⟩ := Finset.exists_mem_eq_sup (Finset.range n) ⟨0, Finset.mem_range.mpr hn⟩ s
  rw [e]; exact h j (Finset.mem_range.mp hj)

/-- Of real scores, dividing each weight by the sum of the weights and dividing once at the end are the same. -/
theorem attn_eq (s v : ℕ → EReal) {n : ℕ} (hn : 0 < n) (h : ∀ j < n, IsReal (s j)) :
    attn s v n = ∑ j ∈ Finset.range n, Ideal.div (Ideal.exp (s j - smax s n)) (lsum s n (smax s n)) * v j := by
  obtain ⟨M, hM⟩ := smax_isReal s hn h
  unfold attn
  rw [hM]
  have hL : ∃ L : ℝ, 0 < L ∧ lsum s n (M : EReal) = (L : EReal) := by
    refine ⟨∑ j ∈ Finset.range n, Real.exp ((s j).toReal - M), ?_, ?_⟩
    · exact Finset.sum_pos (fun j _ => Real.exp_pos _) ⟨0, Finset.mem_range.mpr hn⟩
    · unfold lsum
      rw [coe_sum]
      refine Finset.sum_congr rfl fun j hj => ?_
      obtain ⟨r, hr⟩ := h j (Finset.mem_range.mp hj)
      rw [hr, EReal.toReal_coe, ← EReal.coe_sub]; rfl
  obtain ⟨L, hL0, hL⟩ := hL
  rw [hL]
  have hne : L ≠ 0 := hL0.ne'
  have hc : (0 : EReal) ≤ ((1 / L : ℝ) : EReal) := EReal.coe_nonneg.mpr (by positivity)
  simp only [Ideal.div_coe hne]
  unfold wsum
  rw [mul_comm, mul_sum_of_nonneg _ _ hc (EReal.coe_ne_top _)]
  refine Finset.sum_congr rfl fun j _ => ?_
  rw [← mul_assoc, mul_comm ((1 / L : ℝ) : EReal)]

end Cert.Attn

end
-- ==== Proof.Scores.lean ====
/- The values of one block of attention: the scores of a chunk of keys, its running maximum, its weights and its sums,
   and the result of the block whose keys are all taken at once. -/
module

public import proofs.«01_k».proof.Proof.Gen.KernelIdeal.Skeleton
public import proofs.«01_k».proof.Proof.Softmax

@[expose] public section

noncomputable section

namespace Cert.Attn

open Idealize.ShloMosaic Idealize.SL.Sem Cert.KernelIdeal Cert.KernelIdeal.Gen

/-- The pattern of minus infinity is the bottom of the extended reals. -/
theorem ofBits_ninf : Ideal.ofBits .f32 0xFF800000#32 = ⊥ := by
  simp [Ideal.ofBits, Ideal.ieee]

/-- A maximum folded from minus infinity is the supremum. -/
theorem fold_max_bot {n : Nat} (f : Fin n → EReal) : Finset.fold max (⊥ : EReal) f Finset.univ = Finset.univ.sup f := by
  rw [Finset.sup_def, Finset.fold]
  rfl

/-- The score of stacked query row `r` against key `j` of a chunk. -/
def sc {n : Nat} (q : FVec Ideal S1024x128 .bf16) (kk : (⟨4, ![1, 1, n, 128]⟩ : Shape).Idx → EReal) (r : Fin 1024) (j : Fin n) : EReal :=
  ∑ d : Fin 128, q (ix2 r d) * kk (ix4 0 0 j d)

/-- The scores of a chunk. -/
theorem pay10_apply (q : FVec Ideal S1024x128 .bf16) (kk : Vec Ideal S1x1x768x128 .bf16) (r : Fin 1024) (j : Fin 768) :
    k0_pay10 (F := Ideal) q kk (ix2 r j) = sc q kk r j := by
  pointwise [k0_pay10]
  rfl

section Chunk

variable (q : FVec Ideal S1024x128 .bf16) (kk vv : Vec Ideal S1x1x768x128 .bf16) (m l a : Vec Ideal S1024x128 .f32) (r : Fin 1024)
  (s v : ℕ → EReal) (b : ℕ)

/-- The running maximum after a chunk. -/
theorem pay11_eq (hs : ∀ j : Fin 768, sc q kk r j = s (b + j.val)) (hm : ∀ d, m (ix2 r d) = smax s b) (d : Fin 128) :
    k0_pay11 (F := Ideal) q kk m (ix2 r d) = smax s (b + 768) := by
  pointwise [k0_pay11]
  simp only [pay10_apply, hs, hm, ofBits_ninf, fold_max_bot]
  exact smax_add s b 768

/-- The factor that moves the sums to the new maximum. -/
theorem pay12_eq (hs : ∀ j : Fin 768, sc q kk r j = s (b + j.val)) (hm : ∀ d, m (ix2 r d) = smax s b) (d : Fin 128) :
    k0_pay12 (F := Ideal) q kk m (ix2 r d) = Ideal.exp (smax s b - smax s (b + 768)) := by
  pointwise [k0_pay12]
  rw [pay11_eq q kk m r s b hs hm, hm]

/-- The weights of a chunk, at the new maximum. -/
theorem pay13_eq (hs : ∀ j : Fin 768, sc q kk r j = s (b + j.val)) (hm : ∀ d, m (ix2 r d) = smax s b) (j : Fin 768) :
    k0_pay13 (F := Ideal) q kk m (ix2 r j) = Ideal.exp (s (b + j.val) - smax s (b + 768)) := by
  pointwise [k0_pay13]
  simp only [pay11_eq q kk m r s b hs hm, pay10_apply, hs, dite_eq_ite, ite_self]

/-- The sum of the weights after a chunk. -/
theorem pay14_eq (hs : ∀ j : Fin 768, sc q kk r j = s (b + j.val)) (hm : ∀ d, m (ix2 r d) = smax s b)
    (hl : ∀ d, l (ix2 r d) = lsum s b (smax s b)) (d : Fin 128) :
    k0_pay14 (F := Ideal) q kk m l (ix2 r d) = lsum s (b + 768) (smax s (b + 768)) := by
  pointwise [k0_pay14]
  simp only [pay12_eq q kk m r s b hs hm, pay13_eq q kk m r s b hs hm, hl]
  exact lsum_add s b 768

/-- The weighted sum of the values after a chunk. -/
theorem pay15_eq (hs : ∀ j : Fin 768, sc q kk r j = s (b + j.val)) (hm : ∀ d, m (ix2 r d) = smax s b) (d : Fin 128)
    (hv : ∀ j : Fin 768, vv (ix4 0 0 j d) = v (b + j.val)) (ha : a (ix2 r d) = wsum s v b (smax s b)) :
    k0_pay15 (F := Ideal) q kk m a vv (ix2 r d) = wsum s v (b + 768) (smax s (b + 768)) := by
  pointwise [k0_pay15]
  simp only [pay12_eq q kk m r s b hs hm, pay13_eq q kk m r s b hs hm, ha, hv]
  exact wsum_add s v b 768

end Chunk

/-- The block whose 256 keys are taken at once. -/
theorem pay5_eq (q : FVec Ideal S1024x128 .bf16) (kk vv : Vec Ideal S1x1x256x128 .bf16) (r : Fin 1024) (d : Fin 128) (s v : ℕ → EReal)
    (hs : ∀ j : Fin 256, sc q kk r j = s j.val) (hv : ∀ j : Fin 256, vv (ix4 0 0 j d) = v j.val) :
    k0_pay5 (F := Ideal) q kk vv (ix2 r d) = attn s v 256 := by
  pointwise [k0_pay5]
  have hs' : ∀ j : Fin 256, ∑ x, q (ix2 r x) * kk (ix4 0 0 j x) = s j.val := hs
  simp only [hs', hv, ofBits_ninf, fold_max_bot, smax_fin]
  rw [attn, wsum, lsum, Fin.sum_univ_eq_sum_range (fun j => Ideal.exp (s j - smax s 256) * v j) 256,
    Fin.sum_univ_eq_sum_range (fun j => Ideal.exp (s j - smax s 256)) 256]

/-- The four heads of a block of 1024 stacked rows, side by side: column `128 h + d` of row `r` is column `d` of stacked row `256 h + r`. -/
def beside (y : FVec Ideal S1024x128 .f32) (j : S1x256x512.Idx) : EReal :=
  y (ix2 ⟨256 * ((j 2).val / 128) + (j 1).val, by
      have h1 : (j 1).val < 256 := (j 1).isLt
      have h2 : (j 2).val < 512 := (j 2).isLt
      omega⟩ ⟨(j 2).val % 128, Nat.mod_lt _ (by decide)⟩)

end Cert.Attn

end
-- ==== Proof.BlockA.lean ====
/- What a block of context rows writes. -/
module

public import proofs.«01_k».proof.Proof.Gen.KernelIdeal.Frame
public import proofs.«01_k».proof.Proof.Scores
public import proofs.«01_k».proof.Proof.Head

@[expose] public section

set_option maxRecDepth 16384

noncomputable section

namespace Cert.Attn

open Idealize.ShloMosaic Idealize.SL.Sem Cert.KernelIdeal Cert.KernelIdeal.Gen Idealize.ShloMosaic.TcCoe

/-- The first 256 keys (or values) of a block. -/
def firstRows (x : Vec Ideal S1x1x8448x128 .bf16) : Vec Ideal S1x1x256x128 .bf16 := fun j => x (ix4 0 0 ⟨(j 2).val, Nat.lt_trans (j 2).isLt (by decide)⟩ (j 3))

theorem ld_first (x : Vec Ideal S1x1x8448x128 .bf16) (inb : ∀ a, (![0, 0, 0, 0] : Fin 4 → Nat) a + (![1, 1, 256, 128] : Fin 4 → Nat) a ≤ S1x1x8448x128.size a) :
    View.ld (Val := Elt Ideal) x (Rect.unit ![0, 0, 0, 0] ![1, 1, 256, 128] inb) = firstRows x := by
  funext j
  pointwise [firstRows]

/-- Tile `h` of a block read from 1024 stacked rows: stacked rows `256 h …`, at columns `128 h …`. -/
theorem beside_tile (y : FVec Ideal S1024x128 .f32) (h : Nat) (o o' : Nat) (ho : o = 128 * h) (ho' : o' = 256 * h) (hh : h < 4)
    (inb : ∀ a, (![0, 0, o] : Fin 3 → Nat) a + (![1, 256, 128] : Fin 3 → Nat) a ≤ S1x256x512.size a)
    (x : (Rect.unit (s := S1x256x512) ![0, 0, o] ![1, 256, 128] inb).shape.Idx) (r : Fin 256) (d : Fin 128) (hr : x 1 = r) (hd : x 2 = d) :
    beside y ((Rect.unit (s := S1x256x512) ![0, 0, o] ![1, 256, 128] inb).emb x) = y (ix2 ⟨o' + r.val, by omega⟩ d) := by
  subst hr hd ho ho'
  have h1 : (x 1).val < 256 := (x 1).isLt
  have h2 : (x 2).val < 128 := (x 2).isLt
  unfold beside
  congr 1
  refine congrArg₂ ix2 (Fin.ext ?_) (Fin.ext ?_)
  · show 256 * ((128 * h + 1 * (x 2).val) / 128) + (0 + 1 * (x 1).val) = 256 * h + (x 1).val
    omega
  · show (128 * h + 1 * (x 2).val) % 128 = (x 2).val
    omega

/-- The first tile of a block of context rows. -/
theorem pay6_tile (q : FVec Ideal S1024x128 .bf16) (kk vv : Vec Ideal S1x1x256x128 .bf16) (x : (Rect.unit (s := S1x256x512) ![0, 0, 0] ![1, 256, 128] inb_S1x256x512_S1x256x128_0_0_0).shape.Idx) :
    k0_pay6 (F := Ideal) q kk vv x = beside (k0_pay5 (F := Ideal) q kk vv) ((Rect.unit (s := S1x256x512) ![0, 0, 0] ![1, 256, 128] inb_S1x256x512_S1x256x128_0_0_0).emb x) := by
  rw [beside_tile (k0_pay5 (F := Ideal) q kk vv) 0 0 0 rfl rfl (by decide) _ x (x 1) (x 2) rfl rfl]
  rw [show x = ix3 (n0 := 1) (n1 := 256) (n2 := 128) 0 (x 1) (x 2) from (ix3_eta (n0 := 1) (n1 := 256) (n2 := 128) x).symm.trans (congrArg (fun t => ix3 (n0 := 1) (n1 := 256) (n2 := 128) t (x 1) (x 2)) (Subsingleton.elim _ _))]
  generalize x 1 = r
  generalize x 2 = d
  change Fin 256 at r
  change Fin 128 at d
  pointwise [k0_pay6]

/-- The second. -/
theorem pay7_tile (q : FVec Ideal S1024x128 .bf16) (kk vv : Vec Ideal S1x1x256x128 .bf16) (x : (Rect.unit (s := S1x256x512) ![0, 0, 128] ![1, 256, 128] inb_S1x256x512_S1x256x128_0_0_128).shape.Idx) :
    k0_pay7 (F := Ideal) q kk vv x = beside (k0_pay5 (F := Ideal) q kk vv) ((Rect.unit (s := S1x256x512) ![0, 0, 128] ![1, 256, 128] inb_S1x256x512_S1x256x128_0_0_128).emb x) := by
  rw [beside_tile (k0_pay5 (F := Ideal) q kk vv) 1 128 256 rfl rfl (by decide) _ x (x 1) (x 2) rfl rfl]
  rw [show x = ix3 (n0 := 1) (n1 := 256) (n2 := 128) 0 (x 1) (x 2) from (ix3_eta (n0 := 1) (n1 := 256) (n2 := 128) x).symm.trans (congrArg (fun t => ix3 (n0 := 1) (n1 := 256) (n2 := 128) t (x 1) (x 2)) (Subsingleton.elim _ _))]
  generalize x 1 = r
  generalize x 2 = d
  change Fin 256 at r
  change Fin 128 at d
  pointwise [k0_pay7]

/-- The third. -/
theorem pay8_tile (q : FVec Ideal S1024x128 .bf16) (kk vv : Vec Ideal S1x1x256x128 .bf16) (x : (Rect.unit (s := S1x256x512) ![0, 0, 256] ![1, 256, 128] inb_S1x256x512_S1x256x128_0_0_256).shape.Idx) :
    k0_pay8 (F := Ideal) q kk vv x = beside (k0_pay5 (F := Ideal) q kk vv) ((Rect.unit (s := S1x256x512) ![0, 0, 256] ![1, 256, 128] inb_S1x256x512_S1x256x128_0_0_256).emb x) := by
  rw [beside_tile (k0_pay5 (F := Ideal) q kk vv) 2 256 512 rfl rfl (by decide) _ x (x 1) (x 2) rfl rfl]
  rw [show x = ix3 (n0 := 1) (n1 := 256) (n2 := 128) 0 (x 1) (x 2) from (ix3_eta (n0 := 1) (n1 := 256) (n2 := 128) x).symm.trans (congrArg (fun t => ix3 (n0 := 1) (n1 := 256) (n2 := 128) t (x 1) (x 2)) (Subsingleton.elim _ _))]
  generalize x 1 = r
  generalize x 2 = d
  change Fin 256 at r
  change Fin 128 at d
  pointwise [k0_pay8]

/-- The fourth. -/
theorem pay9_tile (q : FVec Ideal S1024x128 .bf16) (kk vv : Vec Ideal S1x1x256x128 .bf16) (x : (Rect.unit (s := S1x256x512) ![0, 0, 384] ![1, 256, 128] inb_S1x256x512_S1x256x128_0_0_384).shape.Idx) :
    k0_pay2 (F := Ideal) (k0_pay9 (F := Ideal) q kk vv) x = beside (k0_pay5 (F := Ideal) q kk vv) ((Rect.unit (s := S1x256x512) ![0, 0, 384] ![1, 256, 128] inb_S1x256x512_S1x256x128_0_0_384).emb x) := by
  rw [beside_tile (k0_pay5 (F := Ideal) q kk vv) 3 384 768 rfl rfl (by decide) _ x (x 1) (x 2) rfl rfl]
  rw [show x = ix3 (n0 := 1) (n1 := 256) (n2 := 128) 0 (x 1) (x 2) from (ix3_eta (n0 := 1) (n1 := 256) (n2 := 128) x).symm.trans (congrArg (fun t => ix3 (n0 := 1) (n1 := 256) (n2 := 128) t (x 1) (x 2)) (Subsingleton.elim _ _))]
  generalize x 1 = r
  generalize x 2 = d
  change Fin 256 at r
  change Fin 128 at d
  pointwise [k0_pay2, k0_pay9]

/-- The first tile of a block of latent rows. -/
theorem pay21_tile (a l : FVec Ideal S1024x128 .f32) (x : (Rect.unit (s := S1x256x512) ![0, 0, 0] ![1, 256, 128] inb_S1x256x512_S1x256x128_0_0_0).shape.Idx) :
    k0_pay21 (F := Ideal) a l x = beside (k0_pay20 (F := Ideal) a l) ((Rect.unit (s := S1x256x512) ![0, 0, 0] ![1, 256, 128] inb_S1x256x512_S1x256x128_0_0_0).emb x) := by
  rw [beside_tile (k0_pay20 (F := Ideal) a l) 0 0 0 rfl rfl (by decide) _ x (x 1) (x 2) rfl rfl]
  rw [show x = ix3 (n0 := 1) (n1 := 256) (n2 := 128) 0 (x 1) (x 2) from (ix3_eta (n0 := 1) (n1 := 256) (n2 := 128) x).symm.trans (congrArg (fun t => ix3 (n0 := 1) (n1 := 256) (n2 := 128) t (x 1) (x 2)) (Subsingleton.elim _ _))]
  generalize x 1 = r
  generalize x 2 = d
  change Fin 256 at r
  change Fin 128 at d
  pointwise [k0_pay21]

/-- The second. -/
theorem pay22_tile (a l : FVec Ideal S1024x128 .f32) (x : (Rect.unit (s := S1x256x512) ![0, 0, 128] ![1, 256, 128] inb_S1x256x512_S1x256x128_0_0_128).shape.Idx) :
    k0_pay22 (F := Ideal) a l x = beside (k0_pay20 (F := Ideal) a l) ((Rect.unit (s := S1x256x512) ![0, 0, 128] ![1, 256, 128] inb_S1x256x512_S1x256x128_0_0_128).emb x) := by
  rw [beside_tile (k0_pay20 (F := Ideal) a l) 1 128 256 rfl rfl (by decide) _ x (x 1) (x 2) rfl rfl]
  rw [show x = ix3 (n0 := 1) (n1 := 256) (n2 := 128) 0 (x 1) (x 2) from (ix3_eta (n0 := 1) (n1 := 256) (n2 := 128) x).symm.trans (congrArg (fun t => ix3 (n0 := 1) (n1 := 256) (n2 := 128) t (x 1) (x 2)) (Subsingleton.elim _ _))]
  generalize x 1 = r
  generalize x 2 = d
  change Fin 256 at r
  change Fin 128 at d
  pointwise [k0_pay22]

/-- The third. -/
theorem pay23_tile (a l : FVec Ideal S1024x128 .f32) (x : (Rect.unit (s := S1x256x512) ![0, 0, 256] ![1, 256, 128] inb_S1x256x512_S1x256x128_0_0_256).shape.Idx) :
    k0_pay3 (F := Ideal) (k0_pay23 (F := Ideal) a l) x = beside (k0_pay20 (F := Ideal) a l) ((Rect.unit (s := S1x256x512) ![0, 0, 256] ![1, 256, 128] inb_S1x256x512_S1x256x128_0_0_256).emb x) := by
  rw [beside_tile (k0_pay20 (F := Ideal) a l) 2 256 512 rfl rfl (by decide) _ x (x 1) (x 2) rfl rfl]
  rw [show x = ix3 (n0 := 1) (n1 := 256) (n2 := 128) 0 (x 1) (x 2) from (ix3_eta (n0 := 1) (n1 := 256) (n2 := 128) x).symm.trans (congrArg (fun t => ix3 (n0 := 1) (n1 := 256) (n2 := 128) t (x 1) (x 2)) (Subsingleton.elim _ _))]
  generalize x 1 = r
  generalize x 2 = d
  change Fin 256 at r
  change Fin 128 at d
  pointwise [k0_pay3, k0_pay23]

/-- The fourth. -/
theorem pay4_tile (a l : FVec Ideal S1024x128 .f32) (x : (Rect.unit (s := S1x256x512) ![0, 0, 384] ![1, 256, 128] inb_S1x256x512_S1x256x128_0_0_384).shape.Idx) :
    k0_pay4 (F := Ideal) (k0_pay20 (F := Ideal) a l) x = beside (k0_pay20 (F := Ideal) a l) ((Rect.unit (s := S1x256x512) ![0, 0, 384] ![1, 256, 128] inb_S1x256x512_S1x256x128_0_0_384).emb x) := by
  rw [beside_tile (k0_pay20 (F := Ideal) a l) 3 384 768 rfl rfl (by decide) _ x (x 1) (x 2) rfl rfl]
  rw [show x = ix3 (n0 := 1) (n1 := 256) (n2 := 128) 0 (x 1) (x 2) from (ix3_eta (n0 := 1) (n1 := 256) (n2 := 128) x).symm.trans (congrArg (fun t => ix3 (n0 := 1) (n1 := 256) (n2 := 128) t (x 1) (x 2)) (Subsingleton.elim _ _))]
  generalize x 1 = r
  generalize x 2 = d
  change Fin 256 at r
  change Fin 128 at d
  pointwise [k0_pay4]

/-- A context block's output: the softmax rows over the first 256 keys, heads beside each other. -/
theorem out0_A_6_eq (c : Dev nD) (i : grid0.Coords) (arg3 : Memref sig .tc .vmem S1x256x512 .bf16) (harg3 : arg3.IsWhole) (arg4 : Memref sig .tc .vmem S256x128 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S1x1x8448x128 .bf16) (harg7 : arg7.IsWhole) (arg8 : Memref sig .tc .vmem S1x1x8448x128 .bf16) (harg8 : arg8.IsWhole) (arg9 : Memref sig .tc .vmem S1x256x512 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .f32) (harg12 : arg12.IsWhole) (hc0 : cond0_0 i) (hc1 : ¬cond0_1 i)
    (x0 : Vec Ideal S1x256x512 .bf16) (x1 : Vec Ideal S256x128 .f32) (x2 : Vec Ideal S256x128 .f32) (x3 : Vec Ideal S1x128 .f32) (x4 : Vec Ideal S1x1x8448x128 .bf16) (x5 : Vec Ideal S1x1x8448x128 .bf16) :
    out0_A_6 (F := Ideal) c i arg3 harg3 arg4 harg4 arg5 harg5 arg6 harg6 arg7 harg7 arg8 harg8 arg9 harg9 arg10 harg10 arg11 harg11 arg12 harg12 hc0 hc1 x0 x1 x2 x3 x4 x5 = beside (k0_pay5 (F := Ideal) (qmat x0 x3 x1 x2) (firstRows x4) (firstRows x5)) := by
  have hz2 : (![0, 0] : Fin 2 → Nat) = fun _ => 0 := by funext a; fin_cases a <;> rfl
  have hz3 : (![0, 0, 0] : Fin 3 → Nat) = fun _ => 0 := by funext a; fin_cases a <;> rfl
  unfold out0_A_6
  rw [View.read_writes_eq_canon _ _ _ (cover0_A_6 c i arg3 harg3 arg4 harg4 arg5 harg5 arg6 harg6 arg7 harg7 arg8 harg8 arg9 harg9 arg10 harg10 arg11 harg11 arg12 harg12 hc0 hc1 x0 x1 x2 x3 x4 x5)]
  funext y
  refine View.canon_apply_of_pieces _ _ ?_ y (cover0_A_6 c i arg3 harg3 arg4 harg4 arg5 harg5 arg6 harg6 arg7 harg7 arg8 harg8 arg9 harg9 arg10 harg10 arg11 harg11 arg12 harg12 hc0 hc1 x0 x1 x2 x3 x4 x5 y)
  unfold kernelRun0_A
  dsimp only
  sl_unfold_words
  simp only [View.readAt_eq_ld, harg3.read_unread, harg4.read_unread, harg5.read_unread, harg6.read_unread, harg7.read_unread,
    harg8.read_unread, View.ld_unit_zero (S := S1x256x512) hz3, View.ld_unit_zero (S := S256x128) hz2, View.ld_unit_zero (S := S1x128) hz2,
    ld_first]
  change ∀ p ∈ [_, _, _, _], _
  simp only [List.forall_mem_cons]
  exact ⟨pay9_tile _ _ _, pay8_tile _ _ _, pay7_tile _ _ _, pay6_tile _ _ _, fun p hp => absurd hp List.not_mem_nil⟩

end Cert.Attn

end
-- ==== Proof.Loop.lean ====
/- The loop over the chunks of keys: what its three scratch buffers hold after each trip. -/
module

public import proofs.«01_k».proof.Proof.Gen.KernelIdeal.Loops
public import proofs.«01_k».proof.Proof.Scores

@[expose] public section

set_option maxRecDepth 16384

noncomputable section

namespace Cert.Attn

open Idealize.ShloMosaic Idealize.SL.Sem Cert.KernelIdeal Cert.KernelIdeal.Gen Idealize.ShloMosaic.TcCoe

/-- The scores of stacked query row `r` against the keys of a block, by number. -/
def seqK (q : FVec Ideal S1024x128 .bf16) (x : Vec Ideal S1x1x8448x128 .bf16) (r : Fin 1024) (j : ℕ) : EReal :=
  if h : j < 8448 then sc q x r ⟨j, h⟩ else 0

/-- Channel `d` of the values of a block, by number. -/
def seqV (x : Vec Ideal S1x1x8448x128 .bf16) (d : Fin 128) (j : ℕ) : EReal :=
  if h : j < 8448 then x (ix4 0 0 ⟨j, h⟩ d) else 0

/-- A chunk of 768 keys, read at an index. -/
theorem ld_chunk (x : Vec Ideal S1x1x8448x128 .bf16) (off : Fin 4 → Nat) (b : Nat) (hb : b + 768 ≤ 8448) (hoff : off = ![0, 0, b, 0])
    (inb : ∀ a, off a + S1x1x768x128.size a ≤ S1x1x8448x128.size a) (j : Fin 768) (d : Fin 128) :
    View.ld (Val := Elt Ideal) x (Rect.unit off S1x1x768x128.size inb) (ix4 0 0 j d) = x (ix4 0 0 ⟨b + j.val, by omega⟩ d) := by
  subst hoff
  pointwise

/-- The scores of a chunk are those of the block, from the chunk's first key on. -/
theorem sc_chunk (q : FVec Ideal S1024x128 .bf16) (x : Vec Ideal S1x1x8448x128 .bf16) (off : Fin 4 → Nat) (b : Nat) (hb : b + 768 ≤ 8448) (hoff : off = ![0, 0, b, 0])
    (inb : ∀ a, off a + S1x1x768x128.size a ≤ S1x1x8448x128.size a) (r : Fin 1024) (j : Fin 768) :
    sc q (n := 768) (View.ld (Val := Elt Ideal) x (Rect.unit off S1x1x768x128.size inb)) r j = seqK q x r (b + j.val) := by
  unfold sc seqK
  rw [dif_pos (show b + j.val < 8448 by omega)]
  unfold sc
  exact Finset.sum_congr rfl fun d _ => congrArg (q (ix2 r d) * ·) (ld_chunk x off b hb hoff inb j d)

theorem hz2 : (![0, 0] : Fin 2 → Nat) = fun _ => 0 := by funext a; fin_cases a <;> rfl

section Trip

variable (𝒱 : Variants) (c : Dev nD) (bd : Option 𝒱.V) (i : grid0.Coords) (arg3 : Memref sig .tc .vmem S1x256x512 .bf16) (harg3 : arg3.IsWhole) (arg4 : Memref sig .tc .vmem S256x128 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S1x1x8448x128 .bf16) (harg7 : arg7.IsWhole) (arg8 : Memref sig .tc .vmem S1x1x8448x128 .bf16) (harg8 : arg8.IsWhole) (arg9 : Memref sig .tc .vmem S1x256x512 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .f32) (harg12 : arg12.IsWhole) (v136 : FVec Ideal S1024x128 .bf16) (k0_h2 : k0_cond2 i = 1#1) (X_arg7 : BufTy.Contents (Elt Ideal) arg7.view.ty) (X_arg8 : BufTy.Contents (Elt Ideal) arg8.view.ty)

/-- The keys (or the values) a trip reads. -/
abbrev chunk (v : View sig .tc .vmem S1x1x8448x128 .bf16) (X : BufTy.Contents (Elt Ideal) v.ty) (k : Fin k0_t1_loop.trips) : Vec Ideal S1x1x768x128 .bf16 :=
  View.ld (Val := Elt Ideal) (v.read (Elt Ideal) X) (Rect.unit (k0_off1 k) S1x1x768x128.size (k0_off1_inb i k k0_h2))

/-- What a trip stores as the running maximum. -/
theorem trip10 (k : Fin k0_t1_loop.trips) (f10 : BufTy.Contents (Elt Ideal) arg10.view.ty) (f11 : BufTy.Contents (Elt Ideal) arg11.view.ty) (f12 : BufTy.Contents (Elt Ideal) arg12.view.ty) :
    (trip_k0_t1 (F := Ideal) 𝒱 c bd i arg3 harg3 arg4 harg4 arg5 harg5 arg6 harg6 arg7 harg7 arg8 harg8 arg9 harg9 arg10 harg10 arg11 harg11 arg12 harg12 v136 k0_h2 X_arg7 X_arg8 k).1 f10 f11 f12
      = [⟨Rect.unit ![0, 0] S1024x128.size inb_S1024x128_S1024x128_0_0, k0_pay19 (F := Ideal) (k0_pay11 (F := Ideal) v136 (chunk i k0_h2 arg7.view X_arg7 k) (arg10.view.read (Elt Ideal) f10))⟩] := by
  unfold trip_k0_t1
  dsimp only
  sl_unfold_words
  simp only [View.readAt_eq_ld, View.ld_unit_zero (S := S1024x128) hz2]
  rfl

/-- What a trip stores as the running sum of the weights. -/
theorem trip11 (k : Fin k0_t1_loop.trips) (f10 : BufTy.Contents (Elt Ideal) arg10.view.ty) (f11 : BufTy.Contents (Elt Ideal) arg11.view.ty) (f12 : BufTy.Contents (Elt Ideal) arg12.view.ty) :
    (trip_k0_t1 (F := Ideal) 𝒱 c bd i arg3 harg3 arg4 harg4 arg5 harg5 arg6 harg6 arg7 harg7 arg8 harg8 arg9 harg9 arg10 harg10 arg11 harg11 arg12 harg12 v136 k0_h2 X_arg7 X_arg8 k).2.1 f10 f11 f12
      = [⟨Rect.unit ![0, 0] S1024x128.size inb_S1024x128_S1024x128_0_0, k0_pay14 (F := Ideal) v136 (chunk i k0_h2 arg7.view X_arg7 k) (arg10.view.read (Elt Ideal) f10) (arg11.view.read (Elt Ideal) f11)⟩] := by
  unfold trip_k0_t1
  dsimp only
  sl_unfold_words
  simp only [View.readAt_eq_ld, View.ld_unit_zero (S := S1024x128) hz2]
  rfl

/-- What a trip stores as the running weighted sum. -/
theorem trip12 (k : Fin k0_t1_loop.trips) (f10 : BufTy.Contents (Elt Ideal) arg10.view.ty) (f11 : BufTy.Contents (Elt Ideal) arg11.view.ty) (f12 : BufTy.Contents (Elt Ideal) arg12.view.ty) :
    (trip_k0_t1 (F := Ideal) 𝒱 c bd i arg3 harg3 arg4 harg4 arg5 harg5 arg6 harg6 arg7 harg7 arg8 harg8 arg9 harg9 arg10 harg10 arg11 harg11 arg12 harg12 v136 k0_h2 X_arg7 X_arg8 k).2.2.1 f10 f11 f12
      = [⟨Rect.unit ![0, 0] S1024x128.size inb_S1024x128_S1024x128_0_0, k0_pay15 (F := Ideal) v136 (chunk i k0_h2 arg7.view X_arg7 k) (arg10.view.read (Elt Ideal) f10) (arg12.view.read (Elt Ideal) f12) (chunk i k0_h2 arg8.view X_arg8 k)⟩] := by
  unfold trip_k0_t1
  dsimp only
  sl_unfold_words
  simp only [View.readAt_eq_ld, View.ld_unit_zero (S := S1024x128) hz2]
  rfl

/-- A buffer that a whole-buffer store wrote last reads as what that store held. -/
theorem read_writes_whole (a : Memref sig .tc .vmem S1024x128 .f32) (f : BufTy.Contents (Elt Ideal) a.view.ty) (w : Vec Ideal S1024x128 .f32) (L : List (View.Piece (Elt Ideal) S1024x128 .f32)) :
    a.view.read (Elt Ideal) (a.view.writes (Elt Ideal) f (⟨Rect.unit ![0, 0] S1024x128.size inb_S1024x128_S1024x128_0_0, w⟩ :: L)) = w := by
  rw [View.read_writes_eq_canon _ _ _ fun y => ⟨_, List.mem_cons_self, View.mem_set_unit_zero hz2 inb_S1024x128_S1024x128_0_0 y⟩, View.canon_cons_unit_zero hz2]

variable (G10 : BufTy.Contents (Elt Ideal) arg10.view.ty) (G11 : BufTy.Contents (Elt Ideal) arg11.view.ty) (G12 : BufTy.Contents (Elt Ideal) arg12.view.ty)

/-- THE INVARIANT: before trip `n` the scratch buffers hold, at row `r`, the maximum, the sum of the weights and the
    weighted sum of the values over the first `768 n` keys. -/
theorem loop_inv (r : Fin 1024)
    (h10 : ∀ d, arg10.view.read (Elt Ideal) G10 (ix2 r d) = ⊥) (h11 : ∀ d, arg11.view.read (Elt Ideal) G11 (ix2 r d) = 0)
    (h12 : ∀ d, arg12.view.read (Elt Ideal) G12 (ix2 r d) = 0) (n : ℕ) (hn : n ≤ 11) :
    let s := seqK v136 (arg7.view.read (Elt Ideal) X_arg7) r
    let p := pb_k0_t1 (F := Ideal) 𝒱 c bd i arg3 harg3 arg4 harg4 arg5 harg5 arg6 harg6 arg7 harg7 arg8 harg8 arg9 harg9 arg10 harg10 arg11 harg11 arg12 harg12 v136 k0_h2 X_arg7 X_arg8 G10 G11 G12 n
    (∀ d, arg10.view.read (Elt Ideal) (arg10.view.writes (Elt Ideal) G10 p.1) (ix2 r d) = smax s (768 * n))
    ∧ (∀ d, arg11.view.read (Elt Ideal) (arg11.view.writes (Elt Ideal) G11 p.2.1) (ix2 r d) = lsum s (768 * n) (smax s (768 * n)))
    ∧ (∀ d, arg12.view.read (Elt Ideal) (arg12.view.writes (Elt Ideal) G12 p.2.2) (ix2 r d)
        = wsum s (seqV (arg8.view.read (Elt Ideal) X_arg8) d) (768 * n) (smax s (768 * n))) := by
  intro s
  induction n with
  | zero =>
    refine ⟨fun d => ?_, fun d => ?_, fun d => ?_⟩
    · rw [Nat.mul_zero, smax_zero]; exact h10 d
    · rw [Nat.mul_zero, lsum_zero]; exact h11 d
    · rw [Nat.mul_zero, wsum_zero]; exact h12 d
  | succ n ih =>
    have ht : n < k0_t1_loop.trips := by
      have e : k0_t1_loop.trips = 11 := by decide
      omega
    obtain ⟨i10, i11, i12⟩ := ih (by omega)
    have hoff : k0_off1 ⟨n, ht⟩ = ![0, 0, 768 * n, 0] := k0_off1_eq ⟨n, ht⟩
    intro p
    have hp : p = pb_k0_t1 (F := Ideal) 𝒱 c bd i arg3 harg3 arg4 harg4 arg5 harg5 arg6 harg6 arg7 harg7 arg8 harg8 arg9 harg9 arg10 harg10 arg11 harg11 arg12 harg12 v136 k0_h2 X_arg7 X_arg8 G10 G11 G12 ((⟨n, ht⟩ : Fin k0_t1_loop.trips).val + 1) := rfl
    rw [pb_k0_t1_succ] at hp
    have hb : 768 * n + 768 ≤ 8448 := by omega
    have hs : ∀ j : Fin 768, sc v136 (chunk i k0_h2 arg7.view X_arg7 ⟨n, ht⟩) r j = s (768 * n + j.val) :=
      fun j => sc_chunk v136 _ _ _ hb hoff _ r j
    have hv : ∀ d (j : Fin 768), chunk i k0_h2 arg8.view X_arg8 ⟨n, ht⟩ (ix4 0 0 j d) = seqV (arg8.view.read (Elt Ideal) X_arg8) d (768 * n + j.val) := by
      intro d j
      refine (ld_chunk _ _ _ hb hoff _ j d).trans ?_
      unfold seqV
      rw [dif_pos (show 768 * n + j.val < 8448 by omega)]
    rw [hp, show 768 * (n + 1) = 768 * n + 768 by ring]
    refine ⟨fun d => ?_, fun d => ?_, fun d => ?_⟩
    · dsimp only [tripL_k0_t1]
      rw [trip10]
      refine (congrFun (read_writes_whole _ _ _ _) _).trans ?_
      unfold k0_pay19
      rw [shapeCast_self]
      exact pay11_eq _ _ _ r s _ hs i10 d
    · dsimp only [tripL_k0_t1]
      rw [trip11]
      refine (congrFun (read_writes_whole _ _ _ _) _).trans ?_
      exact pay14_eq _ _ _ _ r s _ hs i10 i11 d
    · dsimp only [tripL_k0_t1]
      rw [trip12]
      refine (congrFun (read_writes_whole _ _ _ _) _).trans ?_
      exact pay15_eq _ _ _ _ _ r s _ _ hs i10 d (hv d) (i12 d)

end Trip

end Cert.Attn

end
-- ==== Proof.BlockB.lean ====
/- What a block of latent rows writes. -/
module

public import proofs.«01_k».proof.Proof.BlockA
public import proofs.«01_k».proof.Proof.Loop

@[expose] public section

set_option maxRecDepth 16384

noncomputable section

namespace Cert.Attn

open Idealize.ShloMosaic Idealize.SL.Sem Cert.KernelIdeal Cert.KernelIdeal.Gen Idealize.ShloMosaic.TcCoe

theorem pay16_apply (j : S1024x128.Idx) : k0_pay16 (F := Ideal) j = ⊥ := by
  refine Eq.trans ?_ ofBits_ninf
  unfold k0_pay16
  rw [shapeCast_self]
  rfl

theorem pay17_apply (j : S1024x128.Idx) : k0_pay17 (F := Ideal) j = 0 := by
  refine Eq.trans ?_ (Ideal.ofBits_zero .f32)
  unfold k0_pay17
  rw [shapeCast_self]
  rfl

theorem pay18_apply (j : S1024x128.Idx) : k0_pay18 (F := Ideal) j = 0 := by
  refine Eq.trans ?_ (Ideal.ofBits_zero .f32)
  unfold k0_pay18
  rw [shapeCast_self]
  rfl

/-- The whole of a scratch buffer, read after stores of which the last ones are `L`. -/
theorem readCov_whole (a : Memref sig .tc .vmem S1024x128 .f32) (L M : List (View.Piece (Elt Ideal) S1024x128 .f32)) :
    a.view.readCov (Val := Elt Ideal) (L ++ M) (Rect.unit ![0, 0] ![1024, 128] inb_S1024x128_S1024x128_0_0).toLoadRect
      = a.view.read (Elt Ideal) (a.view.writes (Elt Ideal) (a.view.writes (Elt Ideal) a.view.junk M) L) := by
  unfold View.readCov
  rw [View.readAt_eq_ld, View.writes_append]
  exact View.ld_unit_zero (S := S1024x128) hz2 _ _

theorem pay20_apply (a l : FVec Ideal S1024x128 .f32) (r : Fin 1024) (d : Fin 128) :
    k0_pay20 (F := Ideal) a l (ix2 r d) = Ideal.div (a (ix2 r d)) (l (ix2 r d)) := by
  pointwise [k0_pay20]

/-- What the block of latent rows holds, per stacked row: attention over all the keys. -/
def latRows (q : FVec Ideal S1024x128 .bf16) (x4 x5 : Vec Ideal S1x1x8448x128 .bf16) : FVec Ideal S1024x128 .f32 :=
  fun j => attn (seqK q x4 (j 0)) (seqV x5 (j 1)) 8448

/-- After the loop the quotient of the two running sums is attention over all the keys. -/
theorem loop_out (c : Dev nD) (i : grid0.Coords) (arg3 : Memref sig .tc .vmem S1x256x512 .bf16) (harg3 : arg3.IsWhole) (arg4 : Memref sig .tc .vmem S256x128 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S1x1x8448x128 .bf16) (harg7 : arg7.IsWhole) (arg8 : Memref sig .tc .vmem S1x1x8448x128 .bf16) (harg8 : arg8.IsWhole) (arg9 : Memref sig .tc .vmem S1x256x512 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .f32) (harg12 : arg12.IsWhole) (q : FVec Ideal S1024x128 .bf16) (k0_h2 : k0_cond2 i = 1#1)  (x4 x5 : Vec Ideal S1x1x8448x128 .bf16) :
    k0_pay20 (F := Ideal) (arg12.view.readCov (Val := Elt Ideal) ((pb_k0_t1 (F := Ideal) Variants.none c none i arg3 harg3 arg4 harg4 arg5 harg5 arg6 harg6 arg7 harg7 arg8 harg8 arg9 harg9 arg10 harg10 arg11 harg11 arg12 harg12 q k0_h2 (harg7.unread x4) (harg8.unread x5)
      (arg10.view.writes (Elt Ideal) arg10.view.junk [(⟨Rect.unit (s := S1024x128) ![0, 0] ![1024, 128] inb_S1024x128_S1024x128_0_0, k0_pay16 (F := Ideal)⟩ : View.Piece (Elt Ideal) S1024x128 .f32)])
      (arg11.view.writes (Elt Ideal) arg11.view.junk [(⟨Rect.unit (s := S1024x128) ![0, 0] ![1024, 128] inb_S1024x128_S1024x128_0_0, k0_pay17 (F := Ideal)⟩ : View.Piece (Elt Ideal) S1024x128 .f32)])
      (arg12.view.writes (Elt Ideal) arg12.view.junk [(⟨Rect.unit (s := S1024x128) ![0, 0] ![1024, 128] inb_S1024x128_S1024x128_0_0, k0_pay18 (F := Ideal)⟩ : View.Piece (Elt Ideal) S1024x128 .f32)])
      (Scf.trips 0#32 (Scalar.addi 0#32 11#32) 1#32)).2.2 ++ [(⟨Rect.unit (s := S1024x128) ![0, 0] ![1024, 128] inb_S1024x128_S1024x128_0_0, k0_pay18 (F := Ideal)⟩ : View.Piece (Elt Ideal) S1024x128 .f32)]) (Rect.unit (s := S1024x128) ![0, 0] ![1024, 128] inb_S1024x128_S1024x128_0_0).toLoadRect)
      (arg11.view.readCov (Val := Elt Ideal) ((pb_k0_t1 (F := Ideal) Variants.none c none i arg3 harg3 arg4 harg4 arg5 harg5 arg6 harg6 arg7 harg7 arg8 harg8 arg9 harg9 arg10 harg10 arg11 harg11 arg12 harg12 q k0_h2 (harg7.unread x4) (harg8.unread x5)
      (arg10.view.writes (Elt Ideal) arg10.view.junk [(⟨Rect.unit (s := S1024x128) ![0, 0] ![1024, 128] inb_S1024x128_S1024x128_0_0, k0_pay16 (F := Ideal)⟩ : View.Piece (Elt Ideal) S1024x128 .f32)])
      (arg11.view.writes (Elt Ideal) arg11.view.junk [(⟨Rect.unit (s := S1024x128) ![0, 0] ![1024, 128] inb_S1024x128_S1024x128_0_0, k0_pay17 (F := Ideal)⟩ : View.Piece (Elt Ideal) S1024x128 .f32)])
      (arg12.view.writes (Elt Ideal) arg12.view.junk [(⟨Rect.unit (s := S1024x128) ![0, 0] ![1024, 128] inb_S1024x128_S1024x128_0_0, k0_pay18 (F := Ideal)⟩ : View.Piece (Elt Ideal) S1024x128 .f32)])
      (Scf.trips 0#32 (Scalar.addi 0#32 11#32) 1#32)).2.1 ++ [(⟨Rect.unit (s := S1024x128) ![0, 0] ![1024, 128] inb_S1024x128_S1024x128_0_0, k0_pay17 (F := Ideal)⟩ : View.Piece (Elt Ideal) S1024x128 .f32)]) (Rect.unit (s := S1024x128) ![0, 0] ![1024, 128] inb_S1024x128_S1024x128_0_0).toLoadRect)
      = latRows q x4 x5 := by
  have ht : Scf.trips 0#32 (Scalar.addi 0#32 11#32) 1#32 = 11 := by decide
  have w : ∀ (a : Memref sig .tc .vmem S1024x128 .f32) (p : FVec Ideal S1024x128 .f32),
      a.view.read (Elt Ideal) (a.view.writes (Elt Ideal) a.view.junk [⟨Rect.unit ![0, 0] ![1024, 128] inb_S1024x128_S1024x128_0_0, p⟩]) = p :=
    fun a p => read_writes_whole a _ p []
  funext j
  obtain ⟨r, d, rfl⟩ : ∃ (r : Fin 1024) (d : Fin 128), j = ix2 r d := ⟨j 0, j 1, (ix2_eta (n0 := 1024) (n1 := 128) j).symm⟩
  refine (pay20_apply _ _ r d).trans ?_
  rw [readCov_whole, readCov_whole, ht]
  have inv := loop_inv Variants.none c none i arg3 harg3 arg4 harg4 arg5 harg5 arg6 harg6 arg7 harg7 arg8 harg8 arg9 harg9 arg10 harg10 arg11 harg11 arg12 harg12 q k0_h2 (harg7.unread x4) (harg8.unread x5)
    _ _ _ r (fun d => (congrFun (w arg10 _) _).trans (pay16_apply _)) (fun d => (congrFun (w arg11 _) _).trans (pay17_apply _))
    (fun d => (congrFun (w arg12 _) _).trans (pay18_apply _)) 11 le_rfl
  rw [harg7.read_unread, harg8.read_unread] at inv
  refine (congrArg₂ Ideal.div (inv.2.2 d) (inv.2.1 d)).trans ?_
  rfl

/-- What a block of latent rows writes: attention over all the keys. -/
theorem out0_B_6_eq (c : Dev nD) (i : grid0.Coords) (arg3 : Memref sig .tc .vmem S1x256x512 .bf16) (harg3 : arg3.IsWhole) (arg4 : Memref sig .tc .vmem S256x128 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S1x1x8448x128 .bf16) (harg7 : arg7.IsWhole) (arg8 : Memref sig .tc .vmem S1x1x8448x128 .bf16) (harg8 : arg8.IsWhole) (arg9 : Memref sig .tc .vmem S1x256x512 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .f32) (harg12 : arg12.IsWhole) (hc0 : ¬cond0_0 i) (hc1 : cond0_1 i)
    (x0 : Vec Ideal S1x256x512 .bf16) (x1 : Vec Ideal S256x128 .f32) (x2 : Vec Ideal S256x128 .f32) (x3 : Vec Ideal S1x128 .f32) (x4 : Vec Ideal S1x1x8448x128 .bf16) (x5 : Vec Ideal S1x1x8448x128 .bf16) :
    out0_B_6 (F := Ideal) c i arg3 harg3 arg4 harg4 arg5 harg5 arg6 harg6 arg7 harg7 arg8 harg8 arg9 harg9 arg10 harg10 arg11 harg11 arg12 harg12 hc0 hc1 x0 x1 x2 x3 x4 x5 = beside (latRows (qmat x0 x3 x1 x2) x4 x5) := by
  have hz2 : (![0, 0] : Fin 2 → Nat) = fun _ => 0 := by funext a; fin_cases a <;> rfl
  have hz3 : (![0, 0, 0] : Fin 3 → Nat) = fun _ => 0 := by funext a; fin_cases a <;> rfl
  unfold out0_B_6
  rw [View.read_writes_eq_canon _ _ _ (cover0_B_6 c i arg3 harg3 arg4 harg4 arg5 harg5 arg6 harg6 arg7 harg7 arg8 harg8 arg9 harg9 arg10 harg10 arg11 harg11 arg12 harg12 hc0 hc1 x0 x1 x2 x3 x4 x5)]
  funext y
  refine View.canon_apply_of_pieces _ _ ?_ y (cover0_B_6 c i arg3 harg3 arg4 harg4 arg5 harg5 arg6 harg6 arg7 harg7 arg8 harg8 arg9 harg9 arg10 harg10 arg11 harg11 arg12 harg12 hc0 hc1 x0 x1 x2 x3 x4 x5 y)
  unfold kernelRun0_B
  dsimp only
  sl_unfold_words
  simp only [View.readAt_eq_ld, harg3.read_unread, harg4.read_unread, harg5.read_unread, harg6.read_unread, harg7.read_unread,
    harg8.read_unread, View.ld_unit_zero (S := S1x256x512) hz3, View.ld_unit_zero (S := S256x128) hz2, View.ld_unit_zero (S := S1x128) hz2]
  change ∀ p ∈ [_, _, _, _], _
  simp only [List.forall_mem_cons]
  rw [← loop_out c i arg3 harg3 arg4 harg4 arg5 harg5 arg6 harg6 arg7 harg7 arg8 harg8 arg9 harg9 arg10 harg10 arg11 harg11 arg12 harg12 (qmat x0 x3 x1 x2) hc1 x4 x5]
  exact ⟨pay4_tile _ _, pay23_tile _ _, pay22_tile _ _, pay21_tile _ _, fun p hp => absurd hp List.not_mem_nil⟩

end Cert.Attn

end
-- ==== Proof.Spec.lean ====
/- The attention of the layer as plain sums: rotated, normalized queries against all the keys. -/
module

public import proofs.«01_k».proof.Proof.BlockA
public import proofs.«01_k».proof.Proof.BlockB

@[expose] public section

set_option maxRecDepth 16384

noncomputable section

namespace Cert.Attn

open Idealize.ShloMosaic Idealize.SL.Sem Cert.KernelIdeal Cert.KernelIdeal.Gen Idealize.ShloMosaic.TcCoe

/-- The query row of head `hd` at position `n`, as projected. -/
def qhead (p : Vec Ideal S2x8448x9984 .bf16) (b : Fin 2) (hd : Fin 8) (n : Fin 8448) (k : Fin 128) : EReal :=
  p (ix3 b n ⟨6144 + 128 * hd.val + k.val, by omega⟩)

/-- … normalized, rotated and scaled. -/
def qfull (p : Vec Ideal S2x8448x9984 .bf16) (cs sn : Vec Ideal S8448x128 .f32) (g : Fin 128 → EReal) (b : Fin 2) (hd : Fin 8) (n : Fin 8448) (d : Fin 128) : EReal :=
  qrow (qhead p b hd n) g (fun k => cs (ix2 n k)) (fun k => sn (ix2 n k)) d

/-- The key head that query head `hd` reads: four query heads share one. -/
def kvHead (hd : Fin 8) : Fin 2 := ⟨hd.val / 4, by omega⟩

/-- The scores of one query row against the keys, by number. -/
def scoreOf (q : Fin 128 → EReal) (kp : Vec Ideal S2x2x8448x128 .bf16) (b : Fin 2) (hd : Fin 8) (j : ℕ) : EReal :=
  if h : j < 8448 then ∑ d, q d * kp (ix4 b (kvHead hd) ⟨j, h⟩ d) else 0

/-- The values' channel `d`, by number. -/
def valOf (vp : Vec Ideal S2x2x8448x128 .bf16) (b : Fin 2) (hd : Fin 8) (d : Fin 128) (j : ℕ) : EReal :=
  if h : j < 8448 then vp (ix4 b (kvHead hd) ⟨j, h⟩ d) else 0

/-- How many keys position `n` attends to: a context row to the context rows, a latent row to all. -/
def nKeys (n : Fin 8448) : ℕ := if n.val < 256 then 256 else 8448

/-- The head of an output column, and the channel in it. -/
def headOf (col : Fin 1024) : Fin 8 := ⟨col.val / 128, by omega⟩
def chanOf (col : Fin 1024) : Fin 128 := ⟨col.val % 128, by omega⟩

/-- THE ATTENTION: what the output holds. -/
def attnOut (p : Vec Ideal S2x8448x9984 .bf16) (kp vp : Vec Ideal S2x2x8448x128 .bf16) (cs sn : Vec Ideal S8448x128 .f32) (g : Fin 128 → EReal)
    (b : Fin 2) (n : Fin 8448) (col : Fin 1024) : EReal :=
  attn (scoreOf (qfull p cs sn g b (headOf col) n) kp b (headOf col)) (valOf vp b (headOf col) (chanOf col)) (nKeys n)

theorem attn_congr {s s' v v' : ℕ → EReal} {n : ℕ} (hs : ∀ j, j < n → s j = s' j) (hv : ∀ j, j < n → v j = v' j) : attn s v n = attn s' v' n := by
  have hm : smax s n = smax s' n := by
    unfold smax
    exact Finset.sup_congr rfl fun j hj => hs j (Finset.mem_range.mp hj)
  unfold attn wsum lsum
  rw [hm]
  congr 1
  · exact Finset.sum_congr rfl fun j hj => by rw [hs j (Finset.mem_range.mp hj), hv j (Finset.mem_range.mp hj)]
  · exact Finset.sum_congr rfl fun j hj => by rw [hs j (Finset.mem_range.mp hj)]

/-- A block of latent rows, at a place of it. -/
theorem latent_block (x0 : Vec Ideal S1x256x512 .bf16) (x1 x2 : Vec Ideal S256x128 .f32) (x3 : Vec Ideal S1x128 .f32) (x4 x5 : Vec Ideal S1x1x8448x128 .bf16)
    (r : Fin 256) (k : Fin 512) :
    beside (latRows (qmat x0 x3 x1 x2) x4 x5) (ix3 0 r k)
      = attn (fun j => if h : j < 8448 then ∑ d, qrow (qsrc x0 ⟨k.val / 128, by omega⟩ r) (trow x3 0) (trow x1 r) (trow x2 r) d * x4 (ix4 0 0 ⟨j, h⟩ d) else 0)
          (fun j => if h : j < 8448 then x5 (ix4 0 0 ⟨j, h⟩ ⟨k.val % 128, by omega⟩) else 0) 8448 := by
  have e : beside (latRows (qmat x0 x3 x1 x2) x4 x5) (ix3 0 r k)
      = latRows (qmat x0 x3 x1 x2) x4 x5 (ix2 (n0 := 1024) (n1 := 128) ⟨256 * (k.val / 128) + r.val, by omega⟩ ⟨k.val % 128, by omega⟩) := rfl
  rw [e]
  refine attn_congr (fun j hj => ?_) (fun j hj => ?_)
  · rw [dif_pos hj]
    show seqK _ _ (⟨256 * (k.val / 128) + r.val, by omega⟩ : Fin 1024) j = _
    unfold seqK
    rw [dif_pos hj]
    unfold sc
    exact Finset.sum_congr rfl fun d _ => congrArg (· * _) (qmat_apply x0 x3 x1 x2 ⟨k.val / 128, by omega⟩ r d)
  · rw [dif_pos hj]
    show seqV _ (⟨k.val % 128, by omega⟩ : Fin 128) j = _
    unfold seqV
    rw [dif_pos hj]

/-- A block of context rows, at a place of it. -/
theorem context_block (x0 : Vec Ideal S1x256x512 .bf16) (x1 x2 : Vec Ideal S256x128 .f32) (x3 : Vec Ideal S1x128 .f32) (x4 x5 : Vec Ideal S1x1x8448x128 .bf16)
    (r : Fin 256) (k : Fin 512) :
    beside (k0_pay5 (F := Ideal) (qmat x0 x3 x1 x2) (firstRows x4) (firstRows x5)) (ix3 0 r k)
      = attn (fun j => if h : j < 8448 then ∑ d, qrow (qsrc x0 ⟨k.val / 128, by omega⟩ r) (trow x3 0) (trow x1 r) (trow x2 r) d * x4 (ix4 0 0 ⟨j, h⟩ d) else 0)
          (fun j => if h : j < 8448 then x5 (ix4 0 0 ⟨j, h⟩ ⟨k.val % 128, by omega⟩) else 0) 256 := by
  have e : beside (k0_pay5 (F := Ideal) (qmat x0 x3 x1 x2) (firstRows x4) (firstRows x5)) (ix3 0 r k)
      = k0_pay5 (F := Ideal) (qmat x0 x3 x1 x2) (firstRows x4) (firstRows x5) (ix2 (n0 := 1024) (n1 := 128) ⟨256 * (k.val / 128) + r.val, by omega⟩ ⟨k.val % 128, by omega⟩) := rfl
  rw [e]
  refine pay5_eq _ _ _ _ _ _ _ (fun j => ?_) (fun j => ?_)
  · rw [dif_pos (show j.val < 8448 by omega)]
    unfold sc
    exact Finset.sum_congr rfl fun d _ => congrArg₂ (· * ·) (qmat_apply x0 x3 x1 x2 ⟨k.val / 128, by omega⟩ r d) rfl
  · rw [dif_pos (show j.val < 8448 by omega)]
    rfl

end Cert.Attn

end
-- ==== Proof.RefRead.lean ====
/- The reference's stages read at an index. -/
module

public import proofs.«01_k».proof.Proof.Ref
public import proofs.«01_k».proof.Proof.Spec
public import proofs.«01_k».proof.Proof.Tables

@[expose] public section

set_option maxRecDepth 16384

noncomputable section

namespace Cert.Attn.Ref

open Idealize.ShloMosaic Idealize.SL.Sem Cert.ReferenceIdeal Cert.ReferenceIdeal.Gen Idealize.ShloMosaic.TcCoe

/-- The angle of pair `i` of axis `a` (0 the row, 1 the column) at latent position `t`. -/
theorem angles_apply (t : Fin 8192) (a : Fin 2) (i : Fin 32) :
    (angles (ix3 t a i) : EReal) = angle (if a.val < 1 then t.val / 64 else t.val % 64) i.val := by
  pointwise [angles]
  unfold angle freq
  by_cases h : a.val < 1
  · simp only [h, dite_true, if_true]
  · simp only [h, dite_false, if_false]

/-- The normalized query. -/
theorem normed_apply (p : FVec Ideal S2x8448x9984 .bf16) (g : FVec Ideal S128 .f32) (b : Fin 2) (hd : Fin 8) (n : Fin 8448) (d : Fin 128) :
    (normed p g (ix4 b hd n d) : EReal) = rms (qhead p b hd n) (fun k => g (ix1 k)) d := by
  pointwise [normed]
  have hq : ∀ k : Fin 128, (p (ix3 b n ⟨6144 + (hd.val * 128 + k.val), by omega⟩) : EReal) = qhead p b hd n k := fun k => by
    unfold qhead
    exact congrArg (fun c : Fin 9984 => p (ix3 b n c)) (Fin.ext (by simp only []; omega))
  unfold rms
  simp only [hq]

/-- The rotation of a latent query: the two halves of each 64 channels turned by the position's angles. -/
theorem rotated_apply (x : FVec Ideal S2x8x8448x128 .f32) (c s : FVec Ideal S8192x2x32 .f32) (b : Fin 2) (h : Fin 2) (r : Fin 4) (t : Fin 8192) (d : Fin 128) :
    (rotated x c s (ix5 b h r t d) : EReal) =
      if d.val / 32 % 2 < 1 then
        x (ix4 b ⟨h.val * 4 + r.val, by omega⟩ ⟨256 + t.val, by omega⟩ ⟨d.val / 64 * 64 + d.val % 32, by omega⟩) * c (ix3 t ⟨d.val / 64, by omega⟩ ⟨d.val % 32, by omega⟩)
          - x (ix4 b ⟨h.val * 4 + r.val, by omega⟩ ⟨256 + t.val, by omega⟩ ⟨d.val / 64 * 64 + 32 + d.val % 32, by omega⟩) * s (ix3 t ⟨d.val / 64, by omega⟩ ⟨d.val % 32, by omega⟩)
      else
        x (ix4 b ⟨h.val * 4 + r.val, by omega⟩ ⟨256 + t.val, by omega⟩ ⟨d.val / 64 * 64 + d.val % 32, by omega⟩) * s (ix3 t ⟨d.val / 64, by omega⟩ ⟨d.val % 32, by omega⟩)
          + x (ix4 b ⟨h.val * 4 + r.val, by omega⟩ ⟨256 + t.val, by omega⟩ ⟨d.val / 64 * 64 + 32 + d.val % 32, by omega⟩) * c (ix3 t ⟨d.val / 64, by omega⟩ ⟨d.val % 32, by omega⟩) := by
  pointwise [rotated]
  rfl

/-- A context query is a normalized query of the first rows. -/
theorem contextQ_apply (x : FVec Ideal S2x8x8448x128 .f32) (b : Fin 2) (h : Fin 2) (r : Fin 4) (t : Fin 256) (d : Fin 128) :
    (contextQ x (ix5 b h r t d) : EReal) = x (ix4 b ⟨h.val * 4 + r.val, by omega⟩ ⟨t.val, by omega⟩ d) := by
  pointwise [contextQ]

/-- The score of a latent query against a key: the product sum, scaled. -/
theorem latScores_apply (q : FVec Ideal S2x2x4x8192x128 .f32) (kp : FVec Ideal S2x2x8448x128 .bf16) (b : Fin 2) (h : Fin 2) (r : Fin 4) (t : Fin 8192) (j : Fin 8448) :
    (latScores q kp (ix5 b h r t j) : EReal) = (∑ x, (q (ix5 b h r t x) : EReal) * kp (ix4 b h j x)) * scl := by
  pointwise [latScores]
  rfl

/-- The score of a context query against a context key. -/
theorem ctxScores_apply (q : FVec Ideal S2x2x4x256x128 .f32) (kp : FVec Ideal S2x2x8448x128 .bf16) (b : Fin 2) (h : Fin 2) (r : Fin 4) (t : Fin 256) (j : Fin 256) :
    (ctxScores q kp (ix5 b h r t j) : EReal) = (∑ x, (q (ix5 b h r t x) : EReal) * kp (ix4 b h ⟨j.val, by omega⟩ x)) * scl := by
  pointwise [ctxScores]
  rfl

/-- Row `n` of the result: the context part for the first 256, the latent part for the rest; a column is a head and a channel. -/
theorem merged_apply (l : FVec Ideal S2x2x4x8192x128 .f32) (x : FVec Ideal S2x2x4x256x128 .f32) (b : Fin 2) (n : Fin 8448) (col : Fin 1024) :
    (merged l x (ix3 b n col) : EReal) =
      if h : n.val < 256 then x (ix5 b ⟨col.val / 128 / 4, by omega⟩ ⟨col.val / 128 % 4, by omega⟩ ⟨n.val, h⟩ ⟨col.val % 128, by omega⟩)
      else l (ix5 b ⟨col.val / 128 / 4, by omega⟩ ⟨col.val / 128 % 4, by omega⟩ ⟨n.val - 256, by omega⟩ ⟨col.val % 128, by omega⟩) := by
  pointwise [merged]

end Cert.Attn.Ref

end
-- ==== Proof.Turn.lean ====
/- The rotation of a row of 128 channels: the sum of the row times the cosines and its partners times the signed sines, and the same as two
   halves of each 64 channels turned by an angle. -/
module

public import proofs.«01_k».proof.Proof.Head
public import proofs.«01_k».proof.Proof.Tables

@[expose] public section

noncomputable section

namespace Cert.Attn

open Idealize.ShloMosaic

/-- The angle of an axis's pair is that of the channel's coordinate. -/
theorem angle_coord (t : ℕ) (d : Fin 128) :
    angle (if d.val / 64 < 1 then t / 64 else t % 64) (d.val % 32) = angle (coordOf t d.val) (d.val % 32) := by
  unfold coordOf
  by_cases h64 : d.val < 64
  · rw [if_pos h64, if_pos (show d.val / 64 < 1 by omega)]
  · rw [if_neg h64, if_neg (show ¬ d.val / 64 < 1 by omega)]

/-- Turning the two halves of each 64 channels by the position's angle is the sum of the row times the cosines and its partners times the
    signed sines. -/
theorem turn_eq (y : Fin 128 → EReal) (n : Fin 8448) (hn : ¬ n.val < 256) (d : Fin 128) :
    (if d.val / 32 % 2 < 1 then
        y ⟨d.val / 64 * 64 + d.val % 32, by omega⟩ * Ideal.cos (angle (coordOf (n.val - 256) d.val) (d.val % 32))
          - y ⟨d.val / 64 * 64 + 32 + d.val % 32, by omega⟩ * Ideal.sin (angle (coordOf (n.val - 256) d.val) (d.val % 32))
      else
        y ⟨d.val / 64 * 64 + d.val % 32, by omega⟩ * Ideal.sin (angle (coordOf (n.val - 256) d.val) (d.val % 32))
          + y ⟨d.val / 64 * 64 + 32 + d.val % 32, by omega⟩ * Ideal.cos (angle (coordOf (n.val - 256) d.val) (d.val % 32)))
      = y d * cosT n d + partner y d * sinT n d := by
  unfold cosT sinT partner
  rw [if_neg hn, if_neg hn]
  by_cases hl : d.val % 64 < 32
  · rw [if_pos (show d.val / 32 % 2 < 1 by omega), if_pos hl, if_pos hl]
    rw [show (⟨d.val / 64 * 64 + d.val % 32, by omega⟩ : Fin 128) = d from Fin.ext (show d.val / 64 * 64 + d.val % 32 = d.val by omega)]
    rw [show (⟨d.val / 64 * 64 + 32 + d.val % 32, by omega⟩ : Fin 128) = ⟨(d.val + 128 - 96) % 128, Nat.mod_lt _ (by decide)⟩ from
      Fin.ext (show d.val / 64 * 64 + 32 + d.val % 32 = (d.val + 128 - 96) % 128 by omega)]
    rw [sub_eq_add_neg, mul_neg]
  · rw [if_neg (show ¬ d.val / 32 % 2 < 1 by omega), if_neg hl, if_neg hl]
    rw [show (⟨d.val / 64 * 64 + 32 + d.val % 32, by omega⟩ : Fin 128) = d from Fin.ext (show d.val / 64 * 64 + 32 + d.val % 32 = d.val by omega)]
    rw [show (⟨d.val / 64 * 64 + d.val % 32, by omega⟩ : Fin 128) = ⟨(d.val + 128 - 32) % 128, Nat.mod_lt _ (by decide)⟩ from
      Fin.ext (show d.val / 64 * 64 + d.val % 32 = (d.val + 128 - 32) % 128 by omega)]
    rw [add_comm]

/-- On the context rows the rotation changes nothing. -/
theorem turn_context (y : Fin 128 → EReal) (n : Fin 8448) (hn : n.val < 256) (d : Fin 128) : y d * cosT n d + partner y d * sinT n d = y d := by
  unfold cosT sinT
  rw [if_pos hn, if_pos hn, mul_one, mul_zero, add_zero]

end Cert.Attn

end
-- ==== Proof.KvRef.lean ====
/- The reference's keys and values: its stages as functions of arrays, read at an index, and its results. -/
module

public import proofs.«01_k».proof.Proof.Gen.Reference6Ideal.Run
public import Idealize.ShloMosaic.Lib.Pointwise
public import proofs.«01_k».proof.Proof.KvArray
public import proofs.«01_k».proof.Proof.RefRead
public import proofs.«01_k».proof.Proof.Turn

@[expose] public section

set_option maxRecDepth 16384

noncomputable section

namespace Cert.Layer.Kv.Ref

open Idealize.ShloMosaic Idealize.SL.Sem Cert.Reference6Ideal Cert.Reference6Ideal.Gen Idealize.ShloMosaic.TcCoe Cert.Attn

/-- The context's keys, by heads, normalized. -/
def ctxKeys (p : FVec Ideal S2x8448x9984 .bf16) (g : FVec Ideal S128 .f32) : FVec Ideal S2x2x256x128 .f32 :=
  have v29 : FVec Ideal S2x8448x256 .bf16 := extractStridedSlice S2x8448x256 ![0, 0, 9216] p slices_S2x8448x9984_S2x8448x256_0_0_9216
  have v30 : FVec Ideal S2x8448x256 .f32 := extf .f32 v29 bitsLt_bf16_f32
  have v33 : FVec Ideal S2x256x256 .f32 := extractStridedSlice S2x256x256 ![0, 0, 0] v30 slices_S2x8448x256_S2x256x256_0_0_0
  have v34 : FVec Ideal S2x256x2x128 .f32 := shapeCast _ v33 shapeCasts_S2x256x256_S2x256x2x128
  have v35 : FVec Ideal S2x2x256x128 .f32 := transpose S2x2x256x128 [0, 2, 1, 3] v34 transposes_S2x256x2x128_S2x2x256x128_0_2_1_3
  have v36 : FVec Ideal S2x2x256x128 .f32 := mulf v35 v35
  have cst_4 : FVec Ideal S_ .f32 := constant S_ .f32 0x00000000#32
  have v37 : FVec Ideal S2x2x256 .f32 := Host.reduceAdd v36 cst_4 reducesTo_S2x2x256x128_S2x2x256_d3 h_S_
  have v38 : FVec Ideal S2x2x256x1 .f32 := broadcastInDim S2x2x256x1 ![0, 1, 2] bcast_S2x2x256_S2x2x256x1_0_1_2 v37
  have cst_5 : FVec Ideal S_ .f32 := constant S_ .f32 0x43000000#32
  have v39 : FVec Ideal S2x2x256x1 .f32 := broadcastInDim S2x2x256x1 ![] bcast_S_S2x2x256x1 cst_5
  have v40 : FVec Ideal S2x2x256x1 .f32 := Host.divf v38 v39
  have cst_6 : FVec Ideal S_ .f32 := constant S_ .f32 0x358637BD#32
  have v41 : FVec Ideal S2x2x256x1 .f32 := broadcastInDim S2x2x256x1 ![] bcast_S_S2x2x256x1 cst_6
  have v42 : FVec Ideal S2x2x256x1 .f32 := addf v40 v41
  have v43 : FVec Ideal S2x2x256x1 .f32 := Host.rsqrt v42
  have v44 : FVec Ideal S2x2x256x128 .f32 := broadcastInDim S2x2x256x128 ![0, 1, 2, 3] bcast_S2x2x256x1_S2x2x256x128_0_1_2_3 v43
  have v45 : FVec Ideal S2x2x256x128 .f32 := mulf v35 v44
  have v46 : FVec Ideal S1x1x1x128 .f32 := broadcastInDim S1x1x1x128 ![3] bcast_S128_S1x1x1x128_3 g
  have v47 : FVec Ideal S2x2x256x128 .f32 := broadcastInDim S2x2x256x128 ![0, 1, 2, 3] bcast_S1x1x1x128_S2x2x256x128_0_1_2_3 v46
  mulf v45 v47

/-- The latent keys, by heads, normalized. -/
def latKeys (p : FVec Ideal S2x8448x9984 .bf16) (g : FVec Ideal S128 .f32) : FVec Ideal S2x2x8192x128 .f32 :=
  have v29 : FVec Ideal S2x8448x256 .bf16 := extractStridedSlice S2x8448x256 ![0, 0, 9216] p slices_S2x8448x9984_S2x8448x256_0_0_9216
  have v30 : FVec Ideal S2x8448x256 .f32 := extf .f32 v29 bitsLt_bf16_f32
  have v49 : FVec Ideal S2x8192x256 .f32 := extractStridedSlice S2x8192x256 ![0, 256, 0] v30 slices_S2x8448x256_S2x8192x256_0_256_0
  have v50 : FVec Ideal S2x8192x2x128 .f32 := shapeCast _ v49 shapeCasts_S2x8192x256_S2x8192x2x128
  have v51 : FVec Ideal S2x2x8192x128 .f32 := transpose S2x2x8192x128 [0, 2, 1, 3] v50 transposes_S2x8192x2x128_S2x2x8192x128_0_2_1_3
  have v52 : FVec Ideal S2x2x8192x128 .f32 := mulf v51 v51
  have cst_7 : FVec Ideal S_ .f32 := constant S_ .f32 0x00000000#32
  have v53 : FVec Ideal S2x2x8192 .f32 := Host.reduceAdd v52 cst_7 reducesTo_S2x2x8192x128_S2x2x8192_d3 h_S_
  have v54 : FVec Ideal S2x2x8192x1 .f32 := broadcastInDim S2x2x8192x1 ![0, 1, 2] bcast_S2x2x8192_S2x2x8192x1_0_1_2 v53
  have cst_8 : FVec Ideal S_ .f32 := constant S_ .f32 0x43000000#32
  have v55 : FVec Ideal S2x2x8192x1 .f32 := broadcastInDim S2x2x8192x1 ![] bcast_S_S2x2x8192x1 cst_8
  have v56 : FVec Ideal S2x2x8192x1 .f32 := Host.divf v54 v55
  have cst_9 : FVec Ideal S_ .f32 := constant S_ .f32 0x358637BD#32
  have v57 : FVec Ideal S2x2x8192x1 .f32 := broadcastInDim S2x2x8192x1 ![] bcast_S_S2x2x8192x1 cst_9
  have v58 : FVec Ideal S2x2x8192x1 .f32 := addf v56 v57
  have v59 : FVec Ideal S2x2x8192x1 .f32 := Host.rsqrt v58
  have v60 : FVec Ideal S2x2x8192x128 .f32 := broadcastInDim S2x2x8192x128 ![0, 1, 2, 3] bcast_S2x2x8192x1_S2x2x8192x128_0_1_2_3 v59
  have v61 : FVec Ideal S2x2x8192x128 .f32 := mulf v51 v60
  have v62 : FVec Ideal S1x1x1x128 .f32 := broadcastInDim S1x1x1x128 ![3] bcast_S128_S1x1x1x128_3 g
  have v63 : FVec Ideal S2x2x8192x128 .f32 := broadcastInDim S2x2x8192x128 ![0, 1, 2, 3] bcast_S1x1x1x128_S2x2x8192x128_0_1_2_3 v62
  mulf v61 v63

/-- The latent keys, the two halves of each 64 channels turned by their angles. -/
def turnedKeys (x : FVec Ideal S2x2x8192x128 .f32) (c : FVec Ideal S8192x2x32 .f32) (s : FVec Ideal S8192x2x32 .f32) : FVec Ideal S2x2x8192x128 .f32 :=
  have v65 : FVec Ideal S2x2x8192x2x2x32 .f32 := shapeCast _ x shapeCasts_S2x2x8192x128_S2x2x8192x2x2x32
  have v66 : FVec Ideal S2x2x8192x2x1x32 .f32 := extractStridedSlice S2x2x8192x2x1x32 ![0, 0, 0, 0, 0, 0] v65 slices_S2x2x8192x2x2x32_S2x2x8192x2x1x32_0_0_0_0_0_0
  have v67 : FVec Ideal S2x2x8192x2x32 .f32 := shapeCast _ v66 shapeCasts_S2x2x8192x2x1x32_S2x2x8192x2x32
  have v70 : FVec Ideal S1x1x8192x2x32 .f32 := broadcastInDim S1x1x8192x2x32 ![2, 3, 4] bcast_S8192x2x32_S1x1x8192x2x32_2_3_4 c
  have v71 : FVec Ideal S2x2x8192x2x32 .f32 := broadcastInDim S2x2x8192x2x32 ![0, 1, 2, 3, 4] bcast_S1x1x8192x2x32_S2x2x8192x2x32_0_1_2_3_4 v70
  have v72 : FVec Ideal S2x2x8192x2x32 .f32 := mulf v67 v71
  have v68 : FVec Ideal S2x2x8192x2x1x32 .f32 := extractStridedSlice S2x2x8192x2x1x32 ![0, 0, 0, 0, 1, 0] v65 slices_S2x2x8192x2x2x32_S2x2x8192x2x1x32_0_0_0_0_1_0
  have v69 : FVec Ideal S2x2x8192x2x32 .f32 := shapeCast _ v68 shapeCasts_S2x2x8192x2x1x32_S2x2x8192x2x32
  have v73 : FVec Ideal S1x1x8192x2x32 .f32 := broadcastInDim S1x1x8192x2x32 ![2, 3, 4] bcast_S8192x2x32_S1x1x8192x2x32_2_3_4 s
  have v74 : FVec Ideal S2x2x8192x2x32 .f32 := broadcastInDim S2x2x8192x2x32 ![0, 1, 2, 3, 4] bcast_S1x1x8192x2x32_S2x2x8192x2x32_0_1_2_3_4 v73
  have v75 : FVec Ideal S2x2x8192x2x32 .f32 := mulf v69 v74
  have v76 : FVec Ideal S2x2x8192x2x32 .f32 := subf v72 v75
  have v84 : FVec Ideal S2x2x8192x2x1x32 .f32 := broadcastInDim S2x2x8192x2x1x32 ![0, 1, 2, 3, 5] bcast_S2x2x8192x2x32_S2x2x8192x2x1x32_0_1_2_3_5 v76
  have v77 : FVec Ideal S1x1x8192x2x32 .f32 := broadcastInDim S1x1x8192x2x32 ![2, 3, 4] bcast_S8192x2x32_S1x1x8192x2x32_2_3_4 s
  have v78 : FVec Ideal S2x2x8192x2x32 .f32 := broadcastInDim S2x2x8192x2x32 ![0, 1, 2, 3, 4] bcast_S1x1x8192x2x32_S2x2x8192x2x32_0_1_2_3_4 v77
  have v79 : FVec Ideal S2x2x8192x2x32 .f32 := mulf v67 v78
  have v80 : FVec Ideal S1x1x8192x2x32 .f32 := broadcastInDim S1x1x8192x2x32 ![2, 3, 4] bcast_S8192x2x32_S1x1x8192x2x32_2_3_4 c
  have v81 : FVec Ideal S2x2x8192x2x32 .f32 := broadcastInDim S2x2x8192x2x32 ![0, 1, 2, 3, 4] bcast_S1x1x8192x2x32_S2x2x8192x2x32_0_1_2_3_4 v80
  have v82 : FVec Ideal S2x2x8192x2x32 .f32 := mulf v69 v81
  have v83 : FVec Ideal S2x2x8192x2x32 .f32 := addf v79 v82
  have v85 : FVec Ideal S2x2x8192x2x1x32 .f32 := broadcastInDim S2x2x8192x2x1x32 ![0, 1, 2, 3, 5] bcast_S2x2x8192x2x32_S2x2x8192x2x1x32_0_1_2_3_5 v83
  have v86 : FVec Ideal S2x2x8192x2x2x32 .f32 := concatenate S2x2x8192x2x2x32 4 [⟨S2x2x8192x2x1x32, v84⟩, ⟨S2x2x8192x2x1x32, v85⟩] concatenates_S2x2x8192x2x1x32_S2x2x8192x2x1x32_S2x2x8192x2x2x32_d4
  shapeCast _ v86 shapeCasts_S2x2x8192x2x2x32_S2x2x8192x128

/-- The context's keys and the latent ones. -/
def allKeys (y : FVec Ideal S2x2x256x128 .f32) (z : FVec Ideal S2x2x8192x128 .f32) : FVec Ideal S2x2x8448x128 .bf16 :=
  have v88 : FVec Ideal S2x2x8448x128 .f32 := concatenate S2x2x8448x128 2 [⟨S2x2x256x128, y⟩, ⟨S2x2x8192x128, z⟩] concatenates_S2x2x256x128_S2x2x8192x128_S2x2x8448x128_d2
  truncf .bf16 v88 bitsLt_bf16_f32

/-- The values, by heads. -/
def values (p : FVec Ideal S2x8448x9984 .bf16) : FVec Ideal S2x2x8448x128 .bf16 :=
  have v31 : FVec Ideal S2x8448x256 .bf16 := extractStridedSlice S2x8448x256 ![0, 0, 9472] p slices_S2x8448x9984_S2x8448x256_0_0_9472
  have v32 : FVec Ideal S2x8448x256 .f32 := extf .f32 v31 bitsLt_bf16_f32
  have v89 : FVec Ideal S2x256x256 .f32 := extractStridedSlice S2x256x256 ![0, 0, 0] v32 slices_S2x8448x256_S2x256x256_0_0_0
  have v90 : FVec Ideal S2x256x2x128 .f32 := shapeCast _ v89 shapeCasts_S2x256x256_S2x256x2x128
  have v91 : FVec Ideal S2x2x256x128 .f32 := transpose S2x2x256x128 [0, 2, 1, 3] v90 transposes_S2x256x2x128_S2x2x256x128_0_2_1_3
  have v92 : FVec Ideal S2x8192x256 .f32 := extractStridedSlice S2x8192x256 ![0, 256, 0] v32 slices_S2x8448x256_S2x8192x256_0_256_0
  have v93 : FVec Ideal S2x8192x2x128 .f32 := shapeCast _ v92 shapeCasts_S2x8192x256_S2x8192x2x128
  have v94 : FVec Ideal S2x2x8192x128 .f32 := transpose S2x2x8192x128 [0, 2, 1, 3] v93 transposes_S2x8192x2x128_S2x2x8192x128_0_2_1_3
  have v95 : FVec Ideal S2x2x8448x128 .f32 := concatenate S2x2x8448x128 2 [⟨S2x2x256x128, v91⟩, ⟨S2x2x8192x128, v94⟩] concatenates_S2x2x256x128_S2x2x8192x128_S2x2x8448x128_d2
  truncf .bf16 v95 bitsLt_bf16_f32

/-- The reference's keys. -/
def outK (p : FVec Ideal S2x8448x9984 .bf16) (g : FVec Ideal S128 .f32) : FVec Ideal S2x2x8448x128 .bf16 :=
  allKeys (ctxKeys p g) (turnedKeys (latKeys p g) (Host.cos Cert.Attn.Ref.angles) (Host.sin Cert.Attn.Ref.angles))

/-- A context key. -/
theorem ctxKeys_apply (p : FVec Ideal S2x8448x9984 .bf16) (g : FVec Ideal S128 .f32) (b h : Fin 2) (n : Fin 256) (d : Fin 128) :
    (ctxKeys p g (ix4 b h n d) : EReal) = rms (khead p b h ⟨n.val, by omega⟩) (fun k => g (ix1 k)) d := by
  pointwise [ctxKeys]
  rfl

/-- A latent key before its rotation. -/
theorem latKeys_apply (p : FVec Ideal S2x8448x9984 .bf16) (g : FVec Ideal S128 .f32) (b h : Fin 2) (n : Fin 8192) (d : Fin 128) :
    (latKeys p g (ix4 b h n d) : EReal) = rms (khead p b h ⟨256 + n.val, by omega⟩) (fun k => g (ix1 k)) d := by
  pointwise [latKeys]
  rfl

/-- The rotation: the two halves of each 64 channels turned by the position's angles. -/
theorem turnedKeys_apply (x : FVec Ideal S2x2x8192x128 .f32) (c s : FVec Ideal S8192x2x32 .f32) (b h : Fin 2) (t : Fin 8192) (d : Fin 128) :
    (turnedKeys x c s (ix4 b h t d) : EReal) =
      if d.val / 32 % 2 < 1 then
        x (ix4 b h t ⟨d.val / 64 * 64 + d.val % 32, by omega⟩) * c (ix3 t ⟨d.val / 64, by omega⟩ ⟨d.val % 32, by omega⟩)
          - x (ix4 b h t ⟨d.val / 64 * 64 + 32 + d.val % 32, by omega⟩) * s (ix3 t ⟨d.val / 64, by omega⟩ ⟨d.val % 32, by omega⟩)
      else
        x (ix4 b h t ⟨d.val / 64 * 64 + d.val % 32, by omega⟩) * s (ix3 t ⟨d.val / 64, by omega⟩ ⟨d.val % 32, by omega⟩)
          + x (ix4 b h t ⟨d.val / 64 * 64 + 32 + d.val % 32, by omega⟩) * c (ix3 t ⟨d.val / 64, by omega⟩ ⟨d.val % 32, by omega⟩) := by
  pointwise [turnedKeys]
  rfl

/-- The keys in order: the context's first. -/
theorem allKeys_apply (y : FVec Ideal S2x2x256x128 .f32) (z : FVec Ideal S2x2x8192x128 .f32) (b h : Fin 2) (n : Fin 8448) (d : Fin 128) :
    (allKeys y z (ix4 b h n d) : EReal) = if hn : n.val < 256 then y (ix4 b h ⟨n.val, hn⟩ d) else z (ix4 b h ⟨n.val - 256, by omega⟩ d) := by
  pointwise [allKeys]

/-- The rotated latent key is the row times the cosines plus its partners times the signed sines. -/
theorem latent_turned (p : FVec Ideal S2x8448x9984 .bf16) (g : FVec Ideal S128 .f32) (b h : Fin 2) (t : Fin 8192) (n : Fin 8448) (en : n.val = 256 + t.val) (d : Fin 128) :
    (turnedKeys (latKeys p g) (Host.cos Cert.Attn.Ref.angles) (Host.sin Cert.Attn.Ref.angles) (ix4 b h t d) : EReal) = key p (fun k => g (ix1 k)) b h n d := by
  have hn : (⟨256 + t.val, by omega⟩ : Fin 8448) = n := Fin.ext en.symm
  rw [turnedKeys_apply]
  simp only [latKeys_apply, hn]
  unfold key turned
  generalize rms (khead p b h n) (fun k => g (ix1 k)) = y
  have ha : (Cert.Attn.Ref.angles (ix3 t ⟨d.val / 64, by omega⟩ ⟨d.val % 32, by omega⟩) : EReal) = angle (coordOf (n.val - 256) d.val) (d.val % 32) := by
    rw [Cert.Attn.Ref.angles_apply, show n.val - 256 = t.val by omega]
    exact angle_coord t.val d
  have hc : (Host.cos Cert.Attn.Ref.angles (ix3 t ⟨d.val / 64, by omega⟩ ⟨d.val % 32, by omega⟩) : EReal) = Ideal.cos (angle (coordOf (n.val - 256) d.val) (d.val % 32)) :=
    congrArg Ideal.cos ha
  have hs : (Host.sin Cert.Attn.Ref.angles (ix3 t ⟨d.val / 64, by omega⟩ ⟨d.val % 32, by omega⟩) : EReal) = Ideal.sin (angle (coordOf (n.val - 256) d.val) (d.val % 32)) :=
    congrArg Ideal.sin ha
  refine Eq.trans ?_ (turn_eq y n (by omega) d)
  rw [← hc, ← hs]

/-- THE REFERENCE'S KEYS are the normalized and rotated heads, at every place. -/
theorem outK_apply (p : FVec Ideal S2x8448x9984 .bf16) (g : FVec Ideal S128 .f32) (b h : Fin 2) (n : Fin 8448) (d : Fin 128) :
    (outK p g (ix4 b h n d) : EReal) = key p (fun k => g (ix1 k)) b h n d := by
  unfold outK
  rw [allKeys_apply]
  by_cases hn : n.val < 256
  · rw [dif_pos hn, ctxKeys_apply]
    exact (turn_context _ n hn d).symm
  · rw [dif_neg hn]
    exact latent_turned p g b h ⟨n.val - 256, by omega⟩ n (show n.val = 256 + (n.val - 256) by omega) d

/-- THE REFERENCE'S VALUES are the heads, at every place. -/
theorem values_apply (p : FVec Ideal S2x8448x9984 .bf16) (b h : Fin 2) (n : Fin 8448) (d : Fin 128) :
    (values p (ix4 b h n d) : EReal) = vhead p b h n d := by
  pointwise [values]
  unfold vhead
  by_cases hn : n.val < 256
  · rw [dif_pos hn]
  · rw [dif_neg hn]
    exact congrArg (fun j : Fin 8448 => p (ix3 b j _)) (Fin.ext (show 256 + (n.val - 256) = n.val by omega))

set_option maxHeartbeats 4000000 in
/-- The run's first result term is the composition of the stages. -/
theorem res_eq (m : (ℓ : Loc nD τ sig) → Buf (Elt Ideal) ℓ) (c : Dev nD) :
    Cert.Reference6Ideal.Value.res_main_v96 m c = outK (m ((c.tc : Thread nD τ).loc main_arg0)) (m ((c.tc : Thread nD τ).loc main_arg1)) := by
  unfold Cert.Reference6Ideal.Value.res_main_v96
  rfl

end Cert.Layer.Kv.Ref

end
-- ==== Proof.KvClaim.lean ====
/- The claims about the preparation of keys and values: its reference's frame, and that the kernel and the reference return the same arrays. -/
module

public import proofs.«01_k».proof.Defs
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import Idealize.ShloMosaic.Adequacy
public import Idealize.ShloMosaic.Init
public import proofs.«01_k».proof.Proof.KvArray
public import proofs.«01_k».proof.Proof.KvRef

@[expose] public section

set_option maxRecDepth 16384

noncomputable section

namespace Cert.Layer.Kv

open Idealize.ShloMosaic Idealize.SL.Sem

/-- The reference runs, leaves its arguments unchanged, and declares no semaphore. -/
theorem frame_reference (m : (ℓ : Loc Cert.Reference6Ideal.nD Cert.Reference6Ideal.τ Cert.Reference6Ideal.sig) → Buf (Elt Ideal) ℓ) (ρ : Dev Cert.Reference6Ideal.nD → PrngReg) :
    θ_run (Cert.Reference6Ideal.defs (F := Ideal)) (onTc (τ := Cert.Reference6Ideal.τ) (Cert.Reference6Ideal.main (F := Ideal))) ⟨m, fun _ => 0, ρ⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0) :=
  (θ_run Cert.Reference6Ideal.defs _ _).mono (fun r h => ⟨fun c => (h c).2.2, sem_eq_zero_of_no_sems (by decide) r.2⟩)
    (Cert.Reference6Ideal.Value.run (F := Ideal) m ρ)

/-- The kernel's array of keys is the reference's of the same arguments. -/
theorem keys_eq (m : (ℓ : Loc Cert.Kernel6Ideal.nD Cert.Kernel6Ideal.τ Cert.Kernel6Ideal.sig) → Buf (Elt Ideal) ℓ) (c : Dev Cert.Kernel6Ideal.nD) :
    Ref.outK (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) = GK m c := by
  funext i
  obtain ⟨b, h, n, d, rfl⟩ : ∃ b h n d, i = ix4 (n0 := 2) (n1 := 2) (n2 := 8448) (n3 := 128) b h n d :=
    ⟨i 0, i 1, i 2, i 3, (ix4_eta (n0 := 2) (n1 := 2) (n2 := 8448) (n3 := 128) i).symm⟩
  exact Ref.outK_apply _ _ b h n d

/-- The kernel's array of values is the reference's of the same arguments. -/
theorem values_eq (m : (ℓ : Loc Cert.Kernel6Ideal.nD Cert.Kernel6Ideal.τ Cert.Kernel6Ideal.sig) → Buf (Elt Ideal) ℓ) (c : Dev Cert.Kernel6Ideal.nD) :
    Ref.values (m ((c.tc : Thread Cert.Kernel6Ideal.nD Cert.Kernel6Ideal.τ).loc Cert.Kernel6Ideal.main_arg0)) = GV m c := by
  funext i
  obtain ⟨b, h, n, d, rfl⟩ : ∃ b h n d, i = ix4 (n0 := 2) (n1 := 2) (n2 := 8448) (n3 := 128) b h n d :=
    ⟨i 0, i 1, i 2, i 3, (ix4_eta (n0 := 2) (n1 := 2) (n2 := 8448) (n3 := 128) i).symm⟩
  exact Ref.values_apply _ b h n d

/-- THE VALUE CLAIM: from equal arguments, kernel and reference run and return the same keys and the same values. -/
theorem algebraic : Cert.algebraic_Kernel6Ideal_Reference6Ideal (hKernel6Ideal := Cert.Kernel6Ideal.Gen.facts) (hReference6Ideal := Cert.Reference6Ideal.Gen.facts) := by
  intro m g m' g' _ hargs
  refine ⟨fun c => GK m c, fun c => GV m c, ?_, ?_⟩
  · refine (θ_run (Cert.Kernel6Ideal.defs (F := Ideal)) _ _).mono (fun r h c => ?_) (Cert.Kernel6Ideal.Value.run_blocks m g)
    obtain ⟨hk, hv, h0, h1⟩ := h c
    exact ⟨hk.trans (final5 m c), hv.trans (final6 m c), h0, h1⟩
  · refine (θ_run (Cert.Reference6Ideal.defs (F := Ideal)) _ _).mono (fun r h c => ?_) (Cert.Reference6Ideal.Value.run (F := Ideal) m' g')
    obtain ⟨hk, hv, h0, h1⟩ := h c
    obtain ⟨e0, e1⟩ := hargs c
    refine ⟨hk.trans ?_, hv.trans ?_, h0, h1⟩
    · rw [Ref.res_eq, e0, e1]
      exact keys_eq m c
    · rw [e0]
      exact values_eq m c

end Cert.Layer.Kv

end
-- ==== Proof.Array.lean ====
/- What the kernel's result array holds: the attention of the layer at every place. -/
module

public import proofs.«01_k».proof.Proof.Gen.KernelIdeal.Value
public import proofs.«01_k».proof.Proof.Spec
public import Idealize.ShloMosaic.Lib.Pipeline.ValueKit.Point

@[expose] public section

set_option maxRecDepth 16384

noncomputable section

namespace Cert.Attn

open Idealize.ShloMosaic Idealize.SL.Sem Cert.KernelIdeal Cert.KernelIdeal.Gen Cert.KernelIdeal.Value Idealize.ShloMosaic.TcCoe

variable (m : (ℓ : Loc nD τ sig) → Buf (Elt Ideal) ℓ)

/-- The grid coordinates of a point: batch, group of four query heads, block of rows. -/
def tb (t : Fin cfg0.N) : Fin 2 := ⟨t.val / 66, by have h : t.val < 132 := t.isLt; omega⟩
def tg (t : Fin cfg0.N) : Fin 2 := ⟨t.val / 33 % 2, by omega⟩
def ti (t : Fin cfg0.N) : Fin 33 := ⟨t.val % 33, by omega⟩

theorem idx0 : ∀ t : Fin cfg0.N, win0_0.index t = ![t.val / 66, t.val % 33, 12 + t.val / 33 % 2] := (by decide +kernel : ∀ t : Fin grid0.N, _)
theorem idx1 : ∀ t : Fin cfg0.N, win0_1.index t = ![t.val % 33, 0] := (by decide +kernel : ∀ t : Fin grid0.N, _)
theorem idx2 : ∀ t : Fin cfg0.N, win0_2.index t = ![t.val % 33, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val / 66, t.val / 33 % 2, 0, 0] := (by decide +kernel : ∀ t : Fin grid0.N, _)
theorem idx5 : ∀ t : Fin cfg0.N, win0_5.index t = ![t.val / 66, t.val / 33 % 2, 0, 0] := (by decide +kernel : ∀ t : Fin grid0.N, _)
theorem idx6 : ∀ t : Fin cfg0.N, win0_6.index t = ![t.val / 66, t.val % 33, t.val / 33 % 2] := (by decide +kernel : ∀ t : Fin grid0.N, _)

/-- The block of queries staged at a point. -/
theorem x0_at (c : Dev nD) (t : Fin cfg0.N) (r : Fin 256) (k : Fin 512) :
    (X0_0 m c t : Vec Ideal S1x256x512 .bf16) (ix3 0 r k)
      = (V m c main_arg0 : Vec Ideal S2x8448x9984 .bf16) (ix3 (tb t) ⟨256 * (ti t).val + r.val, by have := (ti t).isLt; omega⟩ ⟨6144 + 512 * (tg t).val + k.val, by have := (tg t).isLt; omega⟩) := by
  unfold X0_0 Pipeline.Window.fill
  rw [dif_pos (moved0_0 t _)]
  blk_simp [iblk]
  refine congrArg _ ?_
  unfold tb ti tg
  blk_ext [idx0]

/-- The block of the cosine table. -/
theorem x1_at (c : Dev nD) (t : Fin cfg0.N) (r : Fin 256) (k : Fin 128) :
    (iblk m c 1 t : Vec Ideal S256x128 .f32) (ix2 r k)
      = (V m c main_v37 : Vec Ideal S8448x128 .f32) (ix2 ⟨256 * (ti t).val + r.val, by have := (ti t).isLt; omega⟩ k) := by
  blk_simp [iblk]
  refine congrArg _ ?_
  unfold ti
  blk_ext [idx1]

/-- The block of the signed sine table. -/
theorem x2_at (c : Dev nD) (t : Fin cfg0.N) (r : Fin 256) (k : Fin 128) :
    (iblk m c 2 t : Vec Ideal S256x128 .f32) (ix2 r k)
      = (V m c main_v39 : Vec Ideal S8448x128 .f32) (ix2 ⟨256 * (ti t).val + r.val, by have := (ti t).isLt; omega⟩ k) := by
  blk_simp [iblk]
  refine congrArg _ ?_
  unfold ti
  blk_ext [idx2]

/-- The gain. -/
theorem x3_at (c : Dev nD) (t : Fin cfg0.N) (k : Fin 128) :
    (iblk m c 3 t : Vec Ideal S1x128 .f32) (ix2 0 k)
      = (V m c main_v40 : Vec Ideal S1x128 .f32) (ix2 0 k) := by
  blk_simp [iblk]
  refine congrArg _ ?_
  blk_ext [idx3]

/-- The keys of a batch and key head. -/
theorem x4_at (c : Dev nD) (t : Fin cfg0.N) (j : Fin 8448) (k : Fin 128) :
    (iblk m c 4 t : Vec Ideal S1x1x8448x128 .bf16) (ix4 0 0 j k)
      = (V m c main_arg1 : Vec Ideal S2x2x8448x128 .bf16) (ix4 (tb t) (tg t) j k) := by
  blk_simp [iblk]
  refine congrArg _ ?_
  unfold tb tg
  blk_ext [idx4]

/-- The values of a batch and key head. -/
theorem x5_at (c : Dev nD) (t : Fin cfg0.N) (j : Fin 8448) (k : Fin 128) :
    (iblk m c 5 t : Vec Ideal S1x1x8448x128 .bf16) (ix4 0 0 j k)
      = (V m c main_arg2 : Vec Ideal S2x2x8448x128 .bf16) (ix4 (tb t) (tg t) j k) := by
  blk_simp [iblk]
  refine congrArg _ ?_
  unfold tb tg
  blk_ext [idx5]

/-- The output array as one function of the arrays the kernel's call reads. -/
def G (c : Dev nD) : Vec Ideal S2x8448x1024 .bf16 := fun i =>
  attnOut (V m c main_arg0 : Vec Ideal S2x8448x9984 .bf16) (V m c main_arg1 : Vec Ideal S2x2x8448x128 .bf16) (V m c main_arg2 : Vec Ideal S2x2x8448x128 .bf16)
    (V m c main_v37 : Vec Ideal S8448x128 .f32) (V m c main_v39 : Vec Ideal S8448x128 .f32) (fun d => (V m c main_v40 : Vec Ideal S1x128 .f32) (ix2 0 d))
    (i 0) (i 1) (i 2)

/-- The place of the output that a place of a point's block is. -/
theorem emb6 (t : Fin cfg0.N) (r : Fin 256) (k : Fin 512) :
    ((cfg0.win 6).blk t).view.emb (ix3 (n0 := 1) (n1 := 256) (n2 := 512) 0 r k)
      = (ix3 (tb t) ⟨256 * (ti t).val + r.val, by have := (ti t).isLt; omega⟩ ⟨512 * (tg t).val + k.val, by have := (tg t).isLt; omega⟩ : S2x8448x1024.Idx) := by
  unfold tb ti tg
  blk_ext [idx6]

/-- A query row of a block is the query row of the head and position it stands for. -/
theorem qrow_block (c : Dev nD) (t : Fin cfg0.N) (r : Fin 256) (h : Fin 4) (hd : Fin 8) (n : Fin 8448) (hhd : hd.val = 4 * (tg t).val + h.val) (hn : n.val = 256 * (ti t).val + r.val) (d : Fin 128) :
    qrow (qsrc (X0_0 m c t : Vec Ideal S1x256x512 .bf16) h r) (trow (iblk m c 3 t : Vec Ideal S1x128 .f32) 0) (trow (iblk m c 1 t : Vec Ideal S256x128 .f32) r) (trow (iblk m c 2 t : Vec Ideal S256x128 .f32) r) d
      = qfull (V m c main_arg0 : Vec Ideal S2x8448x9984 .bf16) (V m c main_v37 : Vec Ideal S8448x128 .f32) (V m c main_v39 : Vec Ideal S8448x128 .f32)
          (fun d => (V m c main_v40 : Vec Ideal S1x128 .f32) (ix2 0 d)) (tb t) hd n d := by
  have hn' : n = ⟨256 * (ti t).val + r.val, by have := (ti t).isLt; omega⟩ := Fin.ext hn
  have e0 : qsrc (X0_0 m c t : Vec Ideal S1x256x512 .bf16) h r = qhead (V m c main_arg0 : Vec Ideal S2x8448x9984 .bf16) (tb t) hd n := by
    funext k
    unfold qsrc qhead
    refine (x0_at m c t r _).trans ?_
    rw [hn']
    refine congrArg _ (congrArg (ix3 _ _) (Fin.ext ?_))
    show 6144 + 512 * (tg t).val + (128 * h.val + k.val) = 6144 + 128 * hd.val + k.val
    omega
  have e1 : trow (iblk m c 1 t : Vec Ideal S256x128 .f32) r = fun k => (V m c main_v37 : Vec Ideal S8448x128 .f32) (ix2 n k) := by
    funext k; rw [hn']; exact x1_at m c t r k
  have e2 : trow (iblk m c 2 t : Vec Ideal S256x128 .f32) r = fun k => (V m c main_v39 : Vec Ideal S8448x128 .f32) (ix2 n k) := by
    funext k; rw [hn']; exact x2_at m c t r k
  have e3 : trow (iblk m c 3 t : Vec Ideal S1x128 .f32) 0 = fun k => (V m c main_v40 : Vec Ideal S1x128 .f32) (ix2 0 k) := by
    funext k; exact x3_at m c t k
  rw [e0, e1, e2, e3]
  rfl

/-- Attention over a block's operands is attention over the arrays. -/
theorem attn_block (c : Dev nD) (t : Fin cfg0.N) (r : Fin 256) (k : Fin 512) (N : ℕ) (hN : N = if (ti t).val = 0 then 256 else 8448) :
    attn (fun j => if h : j < 8448 then ∑ d, qrow (qsrc (X0_0 m c t : Vec Ideal S1x256x512 .bf16) ⟨k.val / 128, by omega⟩ r) (trow (iblk m c 3 t : Vec Ideal S1x128 .f32) 0)
            (trow (iblk m c 1 t : Vec Ideal S256x128 .f32) r) (trow (iblk m c 2 t : Vec Ideal S256x128 .f32) r) d * (iblk m c 4 t : Vec Ideal S1x1x8448x128 .bf16) (ix4 0 0 ⟨j, h⟩ d) else 0)
          (fun j => if h : j < 8448 then (iblk m c 5 t : Vec Ideal S1x1x8448x128 .bf16) (ix4 0 0 ⟨j, h⟩ ⟨k.val % 128, by omega⟩) else 0) N
      = G m c (ix3 (tb t) ⟨256 * (ti t).val + r.val, by have := (ti t).isLt; omega⟩ ⟨512 * (tg t).val + k.val, by have := (tg t).isLt; omega⟩) := by
  have hg : (tg t).val < 2 := (tg t).isLt
  have hi : (ti t).val < 33 := (ti t).isLt
  show _ = attnOut _ _ _ _ _ _ (tb t) (⟨256 * (ti t).val + r.val, by omega⟩ : Fin 8448) (⟨512 * (tg t).val + k.val, by omega⟩ : Fin 1024)
  unfold attnOut
  have hkv : kvHead (headOf ⟨512 * (tg t).val + k.val, by omega⟩) = tg t := Fin.ext (by show (512 * (tg t).val + k.val) / 128 / 4 = (tg t).val; omega)
  have hch : chanOf ⟨512 * (tg t).val + k.val, by omega⟩ = (⟨k.val % 128, by omega⟩ : Fin 128) := Fin.ext (by show (512 * (tg t).val + k.val) % 128 = k.val % 128; omega)
  have hnk : nKeys ⟨256 * (ti t).val + r.val, by omega⟩ = N := by
    rw [hN]
    unfold nKeys
    by_cases h0 : (ti t).val = 0
    · rw [if_pos h0, if_pos (show 256 * (ti t).val + r.val < 256 by omega)]
    · rw [if_neg h0, if_neg (show ¬ 256 * (ti t).val + r.val < 256 by omega)]
  rw [hnk]
  have hN' : N ≤ 8448 := by rw [hN]; split <;> omega
  refine attn_congr (fun j hj => ?_) (fun j hj => ?_)
  · have hj' : j < 8448 := by omega
    unfold scoreOf
    rw [dif_pos hj', dif_pos hj', hkv]
    refine Finset.sum_congr rfl fun d _ => congrArg₂ (· * ·) ?_ (x4_at m c t ⟨j, hj'⟩ d)
    refine qrow_block m c t r _ _ _ ?_ rfl d
    show (512 * (tg t).val + k.val) / 128 = 4 * (tg t).val + k.val / 128
    omega
  · have hj' : j < 8448 := by omega
    unfold valOf
    rw [dif_pos hj', dif_pos hj', hkv, hch]
    exact x5_at m c t ⟨j, hj'⟩ _

/-- THE RESULT ARRAY of the kernel is the attention, everywhere. -/
theorem final (c : Dev nD) : (dats m 0 c).arrAt 6 cfg0.N = G m c := by
  refine (dats m 0 c).arrAt_eq_of_covers 6 _ (by decide +kernel) fun t hf y => ?_
  obtain ⟨r, k, rfl⟩ : ∃ (r : Fin 256) (k : Fin 512), y = (ix3 (n0 := 1) (n1 := 256) (n2 := 512) 0 r k) :=
    ⟨y 1, y 2, ((ix3_eta (n0 := 1) (n1 := 256) (n2 := 512) y).symm.trans (congrArg (fun t => ix3 (n0 := 1) (n1 := 256) (n2 := 512) t (y 1) (y 2)) (Subsingleton.elim _ _)))⟩
  blk_simp
  rw [emb6, after0_6]
  by_cases h0 : t.val % 33 = 0
  · rw [outsAt0_A m c t h0 (by omega), out0_A_6_eq]
    refine (context_block _ _ _ _ _ _ r k).trans ?_
    exact attn_block m c t r k 256 (by rw [if_pos (show (ti t).val = 0 from h0)])
  · rw [outsAt0_B m c t h0 (by omega), out0_B_6_eq]
    refine (latent_block _ _ _ _ _ _ r k).trans ?_
    exact attn_block m c t r k 8448 (by rw [if_neg (show ¬ (ti t).val = 0 from h0)])

end Cert.Attn

end
-- ==== Proof.RefSoftmax.lean ====
/- The reference's softmax, read at an index. -/
module

public import proofs.«01_k».proof.Proof.Ref

@[expose] public section

set_option maxRecDepth 16384

noncomputable section

namespace Cert.Attn.Ref

open Idealize.ShloMosaic Idealize.SL.Sem Cert.ReferenceIdeal Cert.ReferenceIdeal.Gen Idealize.ShloMosaic.TcCoe

/-- The softmax of `n` scores times the values, as the reference writes it: each exponential divided by the sum, then multiplied by its value. -/
def softmaxSum {n : Nat} (s v : Fin n → EReal) : EReal :=
  ∑ x, Ideal.div (Ideal.exp (s x - max (Ideal.ofBits FTy.f32 0xFF800000#32) (Finset.fold max (Ideal.ofBits FTy.f32 0xFF800000#32) s Finset.univ)))
    (∑ y, Ideal.exp (s y - max (Ideal.ofBits FTy.f32 0xFF800000#32) (Finset.fold max (Ideal.ofBits FTy.f32 0xFF800000#32) s Finset.univ))) * v x

/-- The maximum over the last of five axes, at an index: the fold of `max` over that axis. -/
theorem max_last {n0 n1 n2 n3 n4 : Nat} {u : Shape} (x : FVec Ideal ⟨5, ![n0, n1, n2, n3, n4]⟩ .f32) (c : FVec Ideal u .f32)
    (h : (⟨5, ![n0, n1, n2, n3, n4]⟩ : Shape).ReducesTo [4] ⟨4, ![n0, n1, n2, n3]⟩) (hu : 0 < u.numel)
    (i0 : Fin n0) (i1 : Fin n1) (i2 : Fin n2) (i3 : Fin n3) :
    Host.reduce FloatOps.maximumf x c h hu (ix4 i0 i1 i2 i3)
      = (Finset.fold max (c (Shape.Idx.first hu) : EReal) (fun k => (x (ix5 i0 i1 i2 i3 k) : EReal)) Finset.univ : EReal) := by
  simp only [pointwise]

/-- The maximum of two arrays at an index. -/
theorem max_at {s : Shape} (x y : FVec Ideal s .f32) (i : s.Idx) : (maximumf x y i : EReal) = max (x i : EReal) (y i) := rfl

/-- The largest score of a latent query, from −∞. -/
theorem latTop_apply (s : FVec Ideal S2x2x4x8192x8448 .f32) (b : Fin 2) (h : Fin 2) (r : Fin 4) (n : Fin 8192) : (latTop s (ix4 b h r n) : EReal)
    = max (Ideal.ofBits FTy.f32 0xFF800000#32) (Finset.fold max (Ideal.ofBits FTy.f32 0xFF800000#32) (fun x => (s (ix5 b h r n x) : EReal)) Finset.univ : EReal) := by
  have e : latTop s = maximumf (broadcastInDim S2x2x4x8192 ![] bcast_S_S2x2x4x8192 (constant S_ .f32 0xFF800000#32)) (Host.reduce FloatOps.maximumf s (constant S_ .f32 0xFF800000#32) reducesTo_S2x2x4x8192x8448_S2x2x4x8192_d4 h_S_) := by
    unfold latTop; rfl
  have e1 : ((broadcastInDim S2x2x4x8192 ![] bcast_S_S2x2x4x8192 (constant S_ .f32 0xFF800000#32) : FVec Ideal S2x2x4x8192 .f32) (ix4 b h r n) : EReal) = Ideal.ofBits FTy.f32 0xFF800000#32 := by pointwise
  rw [e, max_at, e1, max_last]
  rw [show ((constant S_ .f32 0xFF800000#32 : FVec Ideal S_ .f32) (Shape.Idx.first h_S_) : EReal) = Ideal.ofBits FTy.f32 0xFF800000#32 from rfl]

/-- An exponential of a latent score below the top. -/
theorem latExp_apply (s : FVec Ideal S2x2x4x8192x8448 .f32) (t : FVec Ideal S2x2x4x8192 .f32) (b : Fin 2) (h : Fin 2) (r : Fin 4) (n : Fin 8192) (j : Fin 8448) :
    (latExp s t (ix5 b h r n j) : EReal) = Ideal.exp ((s (ix5 b h r n j) : EReal) - t (ix4 b h r n)) := by
  pointwise [latExp]

/-- The sum of a latent query's exponentials. -/
theorem latTotal_apply (e : FVec Ideal S2x2x4x8192x8448 .f32) (b : Fin 2) (h : Fin 2) (r : Fin 4) (n : Fin 8192) :
    (latTotal e (ix4 b h r n) : EReal) = ∑ x, (e (ix5 b h r n x) : EReal) := by
  pointwise [latTotal]

/-- A latent weight. -/
theorem latDiv_apply (e : FVec Ideal S2x2x4x8192x8448 .f32) (t : FVec Ideal S2x2x4x8192 .f32) (b : Fin 2) (h : Fin 2) (r : Fin 4) (n : Fin 8192) (j : Fin 8448) :
    (latDiv e t (ix5 b h r n j) : EReal) = Ideal.div (e (ix5 b h r n j)) (t (ix4 b h r n)) := by
  pointwise [latDiv]

/-- The weights times the values. -/
theorem latSum_apply (w : FVec Ideal S2x2x4x8192x8448 .f32) (vp : FVec Ideal S2x2x8448x128 .bf16) (b : Fin 2) (h : Fin 2) (r : Fin 4) (n : Fin 8192) (d : Fin 128) :
    (latSum w vp (ix5 b h r n d) : EReal) = ∑ x, (w (ix5 b h r n x) : EReal) * vp (ix4 b h x d) := by
  pointwise [latSum]

/-- The softmax of a latent query's scores times the values. -/
theorem latAttn_apply (s : FVec Ideal S2x2x4x8192x8448 .f32) (vp : FVec Ideal S2x2x8448x128 .bf16) (b : Fin 2) (h : Fin 2) (r : Fin 4) (n : Fin 8192) (d : Fin 128) :
    (latAttn s vp (ix5 b h r n d) : EReal) = softmaxSum (fun j : Fin 8448 => (s (ix5 b h r n j) : EReal)) (fun j => vp (ix4 b h j d)) := by
  unfold latAttn softmaxSum
  rw [latSum_apply]
  simp only [latDiv_apply, latTotal_apply, latExp_apply, latTop_apply]

/-- The softmax of a context query's scores times the context values. -/
theorem ctxAttn_apply (s : FVec Ideal S2x2x4x256x256 .f32) (vp : FVec Ideal S2x2x8448x128 .bf16) (b : Fin 2) (h : Fin 2) (r : Fin 4) (t : Fin 256) (d : Fin 128) :
    (ctxAttn s vp (ix5 b h r t d) : EReal) = softmaxSum (fun j : Fin 256 => (s (ix5 b h r t j) : EReal)) (fun j => vp (ix4 b h ⟨j.val, by omega⟩ d)) := by
  unfold softmaxSum
  pointwise [ctxAttn]

end Cert.Attn.Ref

end
-- ==== Proof.Finite.lean ====
/- Where the numbers stay real: the normalized query whatever the query is, the rotary tables, the scale. -/
module

public import proofs.«01_k».proof.Proof.Softmax
public import proofs.«01_k».proof.Proof.Head
public import proofs.«01_k».proof.Proof.Tables

@[expose] public section

set_option maxRecDepth 16384

noncomputable section

namespace Cert.Attn

open Idealize.ShloMosaic Idealize.SL.Sem Idealize.ShloMosaic.TcCoe

/-- The word of 128. -/
theorem word_128 : Ideal.ofBits .f32 0x43000000#32 = ((128 : ℝ) : EReal) := by
  simp [Ideal.ofBits, Ideal.ieee]; rw [← EReal.coe_mul]; norm_num

/-- The word of 64. -/
theorem word_64 : Ideal.ofBits .f32 1115684864#32 = ((64 : ℝ) : EReal) := by
  simp [Ideal.ofBits, Ideal.ieee]; rw [← EReal.coe_mul]; norm_num

/-- The word of 10000. -/
theorem word_10000 : Ideal.ofBits .f32 1176256512#32 = ((10000 : ℝ) : EReal) := by
  simp [Ideal.ofBits, Ideal.ieee]; rw [← EReal.coe_mul]; norm_num

/-- The word of 2. -/
theorem word_2 : Ideal.ofBits .f32 1073741824#32 = ((2 : ℝ) : EReal) := by
  simp [Ideal.ofBits, Ideal.ieee]; rw [← EReal.coe_mul]; norm_num

/-- The normalization's epsilon is a positive real. -/
theorem word_eps : ∃ r : ℝ, 0 < r ∧ Ideal.ofBits .f32 0x358637BD#32 = (r : EReal) := by
  refine ⟨_, ?_, by simp [Ideal.ofBits, Ideal.ieee]; rfl⟩
  norm_num

/-- The scale of the scores is a positive real. -/
theorem scl_real : ∃ r : ℝ, 0 < r ∧ scl = (r : EReal) := by
  unfold scl
  refine ⟨_, ?_, by simp [Ideal.ofBits, Ideal.ieee]; rfl⟩
  norm_num

/-- The normalized query is real, whatever the query: an infinite query has an infinite mean square, and is multiplied by 0. -/
theorem rms_isReal (x g : Fin 128 → EReal) (hg : ∀ d, IsReal (g d)) (d : Fin 128) : IsReal (rms x g d) := by
  unfold rms
  obtain ⟨e, he, hw⟩ := word_eps
  rw [hw, word_128, Ideal.div_coe (by norm_num)]
  have hnn : ∀ k, 0 ≤ x k * x k := fun k => by
    induction x k with
    | bot => simp
    | top => simp
    | coe r => rw [← EReal.coe_mul]; exact EReal.coe_nonneg.mpr (mul_self_nonneg r)
  by_cases hS : (∑ k, x k * x k) = ⊤
  · rw [hS]
    have h1 : (⊤ : EReal) * ((1 / (128 : ℝ) : ℝ) : EReal) = ⊤ := EReal.top_mul_coe_of_pos (by norm_num)
    have h2 : (⊤ : EReal) + (e : EReal) = ⊤ := EReal.top_add_coe e
    refine ⟨0, ?_⟩
    rw [h1, h2]
    show x d * 0 * g d = _
    simp
  · have hS0 : 0 ≤ ∑ k, x k * x k := Finset.sum_nonneg fun k _ => hnn k
    obtain ⟨s, hs⟩ : IsReal (∑ k, x k * x k) := isReal_of_ne hS (fun h => by rw [h] at hS0; exact absurd hS0 (by simp))
    have hs0 : 0 ≤ s := by rw [hs] at hS0; exact EReal.coe_nonneg.mp hS0
    have hx : IsReal (x d) := by
      have hle : x d * x d ≤ ∑ k, x k * x k := Finset.single_le_sum (f := fun k => x k * x k) (fun k _ => hnn k) (Finset.mem_univ d)
      refine isReal_of_ne (fun h => ?_) (fun h => ?_)
      · rw [h] at hle; exact hS (top_le_iff.mp (by simpa using hle))
      · rw [h] at hle; exact hS (top_le_iff.mp (by simpa using hle))
    refine (hx.mul ?_).mul (hg d)
    rw [hs, ← EReal.coe_mul, ← EReal.coe_add]
    have hp : 0 < s * (1 / 128) + e := by positivity
    refine ⟨(Real.sqrt (s * (1 / 128) + e))⁻¹, ?_⟩
    show (if s * (1 / 128) + e < 0 then (⊥ : EReal) else if s * (1 / 128) + e = 0 then ⊤ else ((Real.sqrt (s * (1 / 128) + e))⁻¹ : ℝ)) = _
    rw [if_neg (not_lt.mpr hp.le), if_neg hp.ne']

/-- The inverse frequencies are real. -/
theorem freq_isReal (i : ℕ) : IsReal (freq i) := by
  unfold freq
  rw [word_10000, word_2, word_64, Ideal.div_coe (by norm_num)]
  have h : (FloatOps.sitofp (F := Ideal) .f32 (BitVec.ofNat 32 i) : EReal) = (((BitVec.ofNat 32 i).toInt : ℝ) : EReal) := rfl
  rw [h, ← EReal.coe_mul, ← EReal.coe_mul]
  have hp : ∀ y : ℝ, Ideal.pow ((10000 : ℝ) : EReal) (y : EReal) = ((Real.rpow 10000 y : ℝ) : EReal) := fun _ => rfl
  rw [hp]
  generalize hy : 2 * ((BitVec.ofNat 32 i).toInt : ℝ) * (1 / 64) = y
  have hne : Real.rpow 10000 y ≠ 0 := (Real.rpow_pos_of_pos (by norm_num) y).ne'
  rw [Ideal.div_coe hne]
  exact ⟨_, (by rw [one_mul])⟩

/-- The angles are real. -/
theorem angle_isReal (x i : ℕ) : IsReal (angle x i) := by
  have h : (FloatOps.sitofp (F := Ideal) .f32 (BitVec.ofNat 32 x) : EReal) = (((BitVec.ofNat 32 x).toInt : ℝ) : EReal) := rfl
  exact IsReal.mul ⟨_, h⟩ (freq_isReal i)

/-- The cosine table is real. -/
theorem cosT_isReal (n : Fin 8448) (d : Fin 128) : IsReal (cosT n d) := by
  unfold cosT
  split
  · exact ⟨1, rfl⟩
  · obtain ⟨r, hr⟩ := angle_isReal (coordOf (n.val - 256) d.val) (d.val % 32)
    rw [hr]; exact ⟨_, rfl⟩

/-- The signed sine table is real. -/
theorem sinT_isReal (n : Fin 8448) (d : Fin 128) : IsReal (sinT n d) := by
  obtain ⟨r, hr⟩ := angle_isReal (coordOf (n.val - 256) d.val) (d.val % 32)
  have hs : IsReal (Ideal.sin (angle (coordOf (n.val - 256) d.val) (d.val % 32))) := by rw [hr]; exact ⟨_, rfl⟩
  unfold sinT
  split
  · exact ⟨0, rfl⟩
  · split
    · exact hs.neg
    · exact hs

/-- A query row ready for the scores is real when the gain is. -/
theorem qrow_isReal (x g : Fin 128 → EReal) (hg : ∀ d, IsReal (g d)) (n : Fin 8448) (d : Fin 128) :
    IsReal (qrow x g (fun k => cosT n k) (fun k => sinT n k) d) := by
  obtain ⟨c, _, hc⟩ := scl_real
  unfold qrow
  refine IsReal.mul (IsReal.add ((rms_isReal x g hg d).mul (cosT_isReal n d)) (IsReal.mul ?_ (sinT_isReal n d))) ⟨c, hc⟩
  unfold partner
  split <;> exact rms_isReal x g hg _

end Cert.Attn

end
-- ==== Proof.Equation.lean ====
/- The equation: the reference's attention is the kernel's, when the keys and the gain are real. -/
module

public import proofs.«01_k».proof.Proof.RefRead
public import proofs.«01_k».proof.Proof.RefSoftmax
public import proofs.«01_k».proof.Proof.Finite
public import proofs.«01_k».proof.Proof.Scores
public import proofs.«01_k».proof.Proof.Turn

@[expose] public section

set_option maxRecDepth 16384

noncomputable section

namespace Cert.Attn.Ref

open Idealize.ShloMosaic Idealize.SL.Sem Cert.ReferenceIdeal Cert.ReferenceIdeal.Gen Idealize.ShloMosaic.TcCoe

/-- Dividing each exponential by the sum before or after multiplying by the values is the same, for real scores. -/
theorem softmaxSum_eq {n : ℕ} (hn : 0 < n) (s v : ℕ → EReal) (h : ∀ j < n, IsReal (s j)) :
    softmaxSum (fun j : Fin n => s j.val) (fun j : Fin n => v j.val) = attn s v n := by
  rw [attn_eq s v hn h]
  unfold softmaxSum lsum
  rw [ofBits_ninf, fold_max_bot, smax_fin, max_eq_right bot_le]
  rw [Finset.sum_range, Finset.sum_range]

/-- Scaling the product sum is scaling the query. -/
theorem score_eq (Q : Fin 128 → EReal) (kp : FVec Ideal S2x2x8448x128 .bf16) (b : Fin 2) (hd : Fin 8) (j : ℕ) (hj : j < 8448) :
    (∑ x, Q x * (kp (ix4 b (kvHead hd) ⟨j, hj⟩ x) : EReal)) * scl = scoreOf (fun d => Q d * scl) kp b hd j := by
  obtain ⟨c, hc, hs⟩ := scl_real
  unfold scoreOf
  rw [dif_pos hj, mul_comm, mul_sum_of_nonneg _ _ (by rw [hs]; exact EReal.coe_nonneg.mpr hc.le) (by rw [hs]; exact EReal.coe_ne_top c)]
  refine Finset.sum_congr rfl fun x _ => ?_
  rw [← mul_assoc, mul_comm scl]

/-- A score is real when the query's row and the keys are. -/
theorem scoreOf_isReal (q : Fin 128 → EReal) (kp : FVec Ideal S2x2x8448x128 .bf16) (b : Fin 2) (hd : Fin 8)
    (hq : ∀ d, IsReal (q d)) (hk : ∀ i, IsReal (kp i)) (j : ℕ) : IsReal (scoreOf q kp b hd j) := by
  unfold scoreOf
  split
  · exact IsReal.sum _ fun d _ => (hq d).mul (hk _)
  · exact ⟨0, rfl⟩

/-- The reference's rotation of a latent query is the kernel's, by the signed table and the partner channel. -/
theorem rot_eq (p : FVec Ideal S2x8448x9984 .bf16) (g : FVec Ideal S128 .f32) (b h : Fin 2) (r : Fin 4) (t : Fin 8192) (d : Fin 128)
    (hd : Fin 8) (n : Fin 8448) (eh : hd.val = h.val * 4 + r.val) (en : n.val = 256 + t.val) :
    (rotated (normed p g) (Host.cos angles) (Host.sin angles) (ix5 b h r t d) : EReal)
      = rms (qhead p b hd n) (fun k => g (ix1 k)) d * cosT n d + partner (rms (qhead p b hd n) (fun k => g (ix1 k))) d * sinT n d := by
  have hh : (⟨h.val * 4 + r.val, by omega⟩ : Fin 8) = hd := Fin.ext eh.symm
  have hn : (⟨256 + t.val, by omega⟩ : Fin 8448) = n := Fin.ext en.symm
  rw [rotated_apply]
  simp only [hh, hn, normed_apply]
  generalize rms (qhead p b hd n) (fun k => g (ix1 k)) = y
  have ha : (angles (ix3 t ⟨d.val / 64, by omega⟩ ⟨d.val % 32, by omega⟩) : EReal) = angle (coordOf (n.val - 256) d.val) (d.val % 32) := by
    rw [angles_apply, show n.val - 256 = t.val by omega]
    exact angle_coord t.val d
  have hc : (Host.cos angles (ix3 t ⟨d.val / 64, by omega⟩ ⟨d.val % 32, by omega⟩) : EReal) = Ideal.cos (angle (coordOf (n.val - 256) d.val) (d.val % 32)) :=
    congrArg Ideal.cos ha
  have hs : (Host.sin angles (ix3 t ⟨d.val / 64, by omega⟩ ⟨d.val % 32, by omega⟩) : EReal) = Ideal.sin (angle (coordOf (n.val - 256) d.val) (d.val % 32)) :=
    congrArg Ideal.sin ha
  rw [hc, hs]
  exact turn_eq y n (by omega) d

/-- THE EQUATION: the reference's result at (b, n, col) is the attention that the kernel's output holds there, for real keys and gain. -/
theorem out_apply (p : FVec Ideal S2x8448x9984 .bf16) (kp vp : FVec Ideal S2x2x8448x128 .bf16) (g : FVec Ideal S128 .f32)
    (cs sn : Vec Ideal Cert.KernelIdeal.S8448x128 .f32) (hcs : ∀ n d, cs (ix2 n d) = cosT n d) (hsn : ∀ n d, sn (ix2 n d) = sinT n d)
    (hk : ∀ i, IsReal (kp i)) (hg : ∀ i, IsReal (g i)) (b : Fin 2) (n : Fin 8448) (col : Fin 1024) :
    (out p kp vp g (ix3 b n col) : EReal) = attnOut p kp vp cs sn (fun d => g (ix1 d)) b n col := by
  have hqr : ∀ d, qfull p cs sn (fun d => g (ix1 d)) b (headOf col) n d
      = (rms (qhead p b (headOf col) n) (fun k => g (ix1 k)) d * cosT n d + partner (rms (qhead p b (headOf col) n) (fun k => g (ix1 k))) d * sinT n d) * scl := fun d => by
    unfold qfull qrow
    simp only [hcs, hsn]
  have hreal : ∀ d, IsReal (qfull p cs sn (fun d => g (ix1 d)) b (headOf col) n d) := fun d => by
    rw [hqr]; exact qrow_isReal _ _ (fun d => hg _) n d
  have hscore := fun j => scoreOf_isReal (qfull p cs sn (fun d => g (ix1 d)) b (headOf col) n) kp b (headOf col) hreal hk j
  have hh : (headOf col).val = col.val / 128 / 4 * 4 + col.val / 128 % 4 := by
    show col.val / 128 = _; omega
  have hq0 := funext hqr
  unfold out attnOut nKeys
  rw [merged_apply]
  by_cases h : n.val < 256
  · rw [dif_pos h, if_pos h, ctxAttn_apply, ← softmaxSum_eq (by decide) _ _ (fun j _ => hscore j)]
    congr 1
    · funext j
      rw [ctxScores_apply, hq0]
      refine Eq.trans ?_ (score_eq (fun d => rms (qhead p b (headOf col) n) (fun k => g (ix1 k)) d * cosT n d
        + partner (rms (qhead p b (headOf col) n) (fun k => g (ix1 k))) d * sinT n d) kp b (headOf col) j.val (by omega))
      refine congrArg (· * scl) (Finset.sum_congr rfl fun x _ => congrArg (· * _) ?_)
      rw [contextQ_apply, normed_apply, turn_context _ n h, show (⟨col.val / 128 / 4 * 4 + col.val / 128 % 4, by omega⟩ : Fin 8) = headOf col from Fin.ext hh.symm]
    · funext j
      unfold valOf
      rw [dif_pos (show j.val < 8448 by omega)]
      rfl
  · rw [dif_neg h, if_neg h, latAttn_apply, ← softmaxSum_eq (by decide) _ _ (fun j _ => hscore j)]
    congr 1
    · funext j
      rw [latScores_apply, hq0]
      refine Eq.trans ?_ (score_eq (fun d => rms (qhead p b (headOf col) n) (fun k => g (ix1 k)) d * cosT n d
        + partner (rms (qhead p b (headOf col) n) (fun k => g (ix1 k))) d * sinT n d) kp b (headOf col) j.val j.isLt)
      refine congrArg (· * scl) (Finset.sum_congr rfl fun x _ => congrArg (· * _) ?_)
      exact rot_eq p g b _ _ _ x (headOf col) n hh (show n.val = 256 + (n.val - 256) by omega)
    · funext j
      unfold valOf
      rw [dif_pos j.isLt]
      rfl

end Cert.Attn.Ref

end
-- ==== Proof.Precondition.lean ====
/- What the precondition says: every key and every gain is a real number. -/
module

public import proofs.«01_k».proof.Pre_finite_keys_and_gain
public import proofs.«01_k».proof.Proof.Softmax
public import Idealize.ShloMosaic.Lib.Pointwise

@[expose] public section

set_option maxRecDepth 16384

noncomputable section

namespace Cert.Attn.Pre

open Idealize.ShloMosaic Cert.Pre_finite_keys_and_gain

theorem bcast_keys : S_.BroadcastsInDim S2x2x8448x128 (![] : Fin 0 → Fin S2x2x8448x128.rank) := by decide
theorem bcast_gain : S_.BroadcastsInDim S128 (![] : Fin 0 → Fin S128.rank) := by decide

/-- The shape relations the precondition's operations take. -/
instance facts : Cert.Pre_finite_keys_and_gain.Facts where
  bitsLt_bf16_f32 := by decide
  bcast_S_S2x2x8448x128 := bcast_keys
  bcast_S_S128 := bcast_gain

/-- A number whose absolute value is below +∞ is real. -/
theorem isReal_of_abs_lt (x : EReal) (h : FloatOps.cmpf (F := Ideal) (φ := .f32) .olt (FloatOps.absf (F := Ideal) (φ := .f32) x) (Ideal.ofBits .f32 0x7F800000#32) = 1#1) : IsReal x := by
  have ht : Ideal.ofBits .f32 0x7F800000#32 = (⊤ : EReal) := by simp [Ideal.ofBits, Ideal.ieee]
  rw [ht] at h
  have h' : Ideal.cmp .olt (max x (-x)) ⊤ = 1#1 := h
  refine isReal_of_ne (fun e => ?_) (fun e => ?_)
  · subst e; simp [Ideal.cmp] at h'
  · subst e; simp [Ideal.cmp] at h'

/-- Under the precondition the keys and the gain are real. -/
theorem real_of_pre (p : FVec Ideal S2x8448x9984 .bf16) (kp vp : FVec Ideal S2x2x8448x128 .bf16) (g : FVec Ideal S128 .f32)
    (h1 : (fn (F := Ideal) p kp vp g).1 = fun _ => 1#1) (h2 : (fn (F := Ideal) p kp vp g).2 = fun _ => 1#1) :
    (∀ i, IsReal (kp i)) ∧ ∀ i, IsReal (g i) :=
  ⟨fun i => isReal_of_abs_lt _ (congrFun h1 i), fun i => isReal_of_abs_lt _ (congrFun h2 i)⟩

end Cert.Attn.Pre

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal.Frame
public import proofs.«01_k».proof.Proof.InClaim
public import proofs.«01_k».proof.Proof.Gen.Kernel3
public import proofs.«01_k».proof.Proof.Gen.Kernel3.Frame
public import proofs.«01_k».proof.Proof.Gen.Kernel3Ideal.Frame
public import proofs.«01_k».proof.Proof.FfnClaim
public import proofs.«01_k».proof.Proof.Gen.Kernel4
public import proofs.«01_k».proof.Proof.Gen.Kernel4.Frame
public import proofs.«01_k».proof.Proof.Gen.Kernel4Ideal.Frame
public import proofs.«01_k».proof.Proof.MergeClaim
public import proofs.«01_k».proof.Proof.Gen.Kernel5
public import proofs.«01_k».proof.Proof.Gen.Kernel5.Frame
public import proofs.«01_k».proof.Proof.Gen.Kernel5Ideal.Frame
public import proofs.«01_k».proof.Proof.AdaClaim
public import proofs.«01_k».proof.Proof.Gen.Kernel6
public import proofs.«01_k».proof.Proof.Gen.Kernel6.Frame
public import proofs.«01_k».proof.Proof.Gen.Kernel7
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal
public import proofs.«01_k».proof.Proof.ScanClaim
public import proofs.«01_k».proof.Proof.Gen.Kernel6Ideal.Frame
public import proofs.«01_k».proof.Proof.KvClaim
public import Idealize.ShloMosaic.Adequacy
public import Idealize.ShloMosaic.Init
public import proofs.«01_k».proof.Proof.Array
public import proofs.«01_k».proof.Proof.Equation
public import proofs.«01_k».proof.Proof.Precondition

@[expose] public section

set_option maxRecDepth 16384

noncomputable section

namespace Cert.Proof

open Idealize.ShloMosaic Idealize.SL.Sem Cert.Attn

/-- The reference runs, leaves its arguments unchanged, and declares no semaphore. -/
theorem frame_reference (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)

/-- The kernel's output array is the reference's result of the same arguments, when the keys and the gain are real. -/
theorem value_eq (m : (ℓ : Loc Cert.KernelIdeal.nD Cert.KernelIdeal.τ Cert.KernelIdeal.sig) → Buf (Elt Ideal) ℓ) (c : Dev Cert.KernelIdeal.nD)
    (hk : ∀ i, IsReal ((m ((c.tc : Thread Cert.KernelIdeal.nD Cert.KernelIdeal.τ).loc Cert.KernelIdeal.main_arg1) : FVec Ideal Cert.ReferenceIdeal.S2x2x8448x128 .bf16) i))
    (hg : ∀ i, IsReal ((m ((c.tc : Thread Cert.KernelIdeal.nD Cert.KernelIdeal.τ).loc Cert.KernelIdeal.main_arg3) : FVec Ideal Cert.ReferenceIdeal.S128 .f32) i)) :
    Cert.Attn.Ref.out (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) = G m c := by
  funext i
  obtain ⟨b, n, col, rfl⟩ : ∃ b n col, i = ix3 (n0 := 2) (n1 := 8448) (n2 := 1024) b n col := ⟨i 0, i 1, i 2, (ix3_eta (n0 := 2) (n1 := 8448) (n2 := 1024) i).symm⟩
  refine (Cert.Attn.Ref.out_apply _ _ _ _ (Cert.KernelIdeal.Gen.V m c Cert.KernelIdeal.main_v37) (Cert.KernelIdeal.Gen.V m c Cert.KernelIdeal.main_v39)
    (cos_at m c) (sin_at m c) hk hg b n col).trans ?_
  unfold G
  rw [Cert.KernelIdeal.Gen.V_main_arg0, Cert.KernelIdeal.Gen.V_main_arg1, Cert.KernelIdeal.Gen.V_main_arg2]
  have hgain : (fun d : Fin 128 => (Cert.KernelIdeal.Gen.V m c Cert.KernelIdeal.main_v40 : Vec Ideal Cert.KernelIdeal.S1x128 .f32) (ix2 0 d))
      = fun d => (m ((c.tc : Thread Cert.KernelIdeal.nD Cert.KernelIdeal.τ).loc Cert.KernelIdeal.main_arg3) : FVec Ideal Cert.ReferenceIdeal.S128 .f32) (ix1 d) :=
    funext fun d => gain_at m c d
  rw [hgain]
  rfl

/-- THE VALUE CLAIM: from equal arguments with real keys and gain, kernel and reference run and return the same attention. -/
theorem algebraic : Cert.algebraic_KernelIdeal_ReferenceIdeal_pre_finite_keys_and_gain (hKernelIdeal := Cert.KernelIdeal.Gen.facts)
    (hReferenceIdeal := Cert.ReferenceIdeal.Gen.facts) (hPre_finite_keys_and_gain := Cert.Attn.Pre.facts) := by
  intro m g m' g' hpre hargs
  refine ⟨fun c => G m c, ?_, ?_⟩
  · refine (θ_run (Cert.KernelIdeal.defs (F := Ideal)) _ _).mono (fun r h c => ?_) (Cert.KernelIdeal.Value.run_blocks m g)
    obtain ⟨hv, h0, h1, h2, h3⟩ := h c
    exact ⟨hv.trans (final m c), h0, h1, h2, h3⟩
  · refine (θ_run (Cert.ReferenceIdeal.defs (F := Ideal)) _ _).mono (fun r h c => ?_) (Cert.ReferenceIdeal.Value.run (F := Ideal) m' g')
    obtain ⟨hv, h0, h1, h2, h3⟩ := h c
    refine ⟨hv.trans ?_, h0, h1, h2, h3⟩
    obtain ⟨e0, e1, e2, e3⟩ := hargs c
    obtain ⟨p1, p2⟩ := hpre c
    obtain ⟨hk, hg⟩ := Cert.Attn.Pre.real_of_pre _ _ _ _ p1 p2
    rw [Cert.Attn.Ref.res_eq, e0, e1, e2, e3]
    exact value_eq m c hk hg

/-- The certificate: the frames, the idealization, the value claim. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Attn.Pre.facts,
    fun m g _ => Cert.Kernel.Gen.frame m g, fun m g _ => Cert.KernelIdeal.Gen.frame m g, fun m g _ => Cert.KernelIdeal.Gen.frame m g,
    fun m g _ => frame_reference m g, fun m g _ => frame_reference m g,
    fun m g _ => Cert.Kernel2.Gen.frame m g, fun m g _ => Cert.Kernel2Ideal.Gen.frame m g, fun m g _ => Cert.Layer.In.frame_reference m g,
    fun m g _ => Cert.Kernel3.Gen.frame m g, fun m g _ => Cert.Kernel3Ideal.Gen.frame m g, fun m g _ => Cert.Layer.Ffn.frame_reference m g,
    fun m g _ => Cert.Kernel4.Gen.frame m g, fun m g _ => Cert.Kernel4Ideal.Gen.frame m g, fun m g _ => Cert.Layer.Merge.frame_reference m g,
    fun m g _ => Cert.Kernel5.Gen.frame m g, fun m g _ => Cert.Kernel5Ideal.Gen.frame m g, fun m g _ => Cert.Layer.Ada.frame_reference m g,
    fun m g _ => Cert.Kernel6.Gen.frame m g, fun m g _ => Cert.Kernel6Ideal.Gen.frame m g, fun m g _ => Cert.Layer.Kv.frame_reference m g,
    fun m g _ => Cert.Kernel7.Gen.frame m g, fun m g _ => Cert.Kernel7Ideal.Gen.frame m g, fun m g _ => Cert.Layer.Scan.frame_reference m g,
    trivial, algebraic,
    trivial, Cert.Layer.In.algebraic,
    trivial, Cert.Layer.Ffn.algebraic,
    trivial, Cert.Layer.Merge.algebraic,
    trivial, Cert.Layer.Ada.algebraic,
    trivial, Cert.Layer.Kv.algebraic,
    trivial, Cert.Layer.Scan.algebraic⟩

end Cert.Proof

end
